-- ==== Defs.lean ====
def Pre_Kernel [hPre_appends_in_range : Cert.Pre_appends_in_range.Facts] (m : (ℓ : Loc Cert.Kernel.nD Cert.Kernel.τ Cert.Kernel.sig) → Buf (Elt Bits) ℓ) : Prop :=
  ∀ c : Dev Cert.Kernel.nD,
    (Cert.Pre_appends_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_appends_in_range : Cert.Pre_appends_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_appends_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_appends_in_range [hPre_appends_in_range : Cert.Pre_appends_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_appends_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_appends_in_range : Cert.Pre_appends_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_appends_in_range : Cert.Pre_appends_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_appends_in_range [hReferenceIdeal : Cert.ReferenceIdeal.Facts] [hPre_appends_in_range : Cert.Pre_appends_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_appends_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_appends_in_range : Cert.Pre_appends_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v173) = v2 c
          ∧ r.2.mem ((c.tc : Thread Cert.ReferenceIdeal.nD Cert.ReferenceIdeal.τ).loc Cert.ReferenceIdeal.main_v181) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_appends_in_range : Cert.Pre_appends_in_range.Facts),
    quiescent_Kernel (hKernel := hKernel) (hPre_appends_in_range := hPre_appends_in_range)
    ∧ quiescent_KernelIdeal (hKernelIdeal := hKernelIdeal) (hPre_appends_in_range := hPre_appends_in_range)
    ∧ quiescent_ReferenceIdeal (hReferenceIdeal := hReferenceIdeal)
    ∧ quiescent_ReferenceIdeal_pre_appends_in_range (hReferenceIdeal := hReferenceIdeal) (hPre_appends_in_range := hPre_appends_in_range)
    ∧ preserves_Kernel_KernelIdeal
    ∧ algebraic_KernelIdeal_ReferenceIdeal (hKernelIdeal := hKernelIdeal) (hReferenceIdeal := hReferenceIdeal) (hPre_appends_in_range := hPre_appends_in_range)
-- ==== Pre_appends_in_range.lean ====
abbrev S1080x256x8x128 : Shape := ⟨4, ![1080, 256, 8, 128]⟩
abbrev S1080x8 : Shape := ⟨2, ![1080, 8]⟩
abbrev S48x18 : Shape := ⟨2, ![48, 18]⟩
abbrev S48 : Shape := ⟨1, ![48]⟩
abbrev S48x1x8x128 : Shape := ⟨4, ![48, 1, 8, 128]⟩
abbrev S18 : Shape := ⟨1, ![18]⟩
abbrev S1x18 : Shape := ⟨2, ![1, 18]⟩
abbrev S_ : Shape := ⟨0, ![]⟩
abbrev S48x1 : Shape := ⟨2, ![48, 1]⟩

class Facts : Prop where
  bcast_S18_S1x18_1 : S18.BroadcastsInDim S1x18 (![1] : Fin 1 → Fin S1x18.rank)
  bcast_S_S1x18 : S_.BroadcastsInDim S1x18 (![] : Fin 0 → Fin S1x18.rank)
  bcast_S48_S48x1_0 : S48.BroadcastsInDim S48x1 (![0] : Fin 1 → Fin S48x1.rank)
  bcast_S48x1_S48x18_0_1 : S48x1.BroadcastsInDim S48x18 (![0, 1] : Fin 2 → Fin S48x18.rank)
  bcast_S1x18_S48x18_0_1 : S1x18.BroadcastsInDim S48x18 (![0, 1] : Fin 2 → Fin S48x18.rank)
  bcast_S_S48x18 : S_.BroadcastsInDim S48x18 (![] : Fin 0 → Fin S48x18.rank)
  bcast_S_S48x1 : S_.BroadcastsInDim S48x1 (![] : Fin 0 → Fin S48x1.rank)

variable [Facts]

def fn_part1 {F : FTy → Type} [FloatOps F] (main_v4 : IVec S48x1 32) (main_v13 : IVec S48x18 1) (main_v18 : IVec S48x18 1) (main_c_3 : IVec S_ 32) : IVec S48x18 1 :=
  let main_v19 : IVec S48x1 32 := broadcastInDim S48x1 ![] bcast_S_S48x1 main_c_3
  let main_v20 : IVec S48x1 1 := cmpi .sge main_v4 main_v19
  let main_c_4 : IVec S_ 32 := constantI S_ 32 4608#32
  let main_v21 : IVec S48x1 32 := broadcastInDim S48x1 ![] bcast_S_S48x1 main_c_4
  let main_v22 : IVec S48x1 1 := cmpi .slt main_v4 main_v21
  let main_v23 : IVec S48x1 1 := andi main_v20 main_v22
  let main_v24 : IVec S48x18 1 := noti main_v13
  let main_v25 : IVec S48x18 1 := ori main_v18 main_v24
  let main_v26 : IVec S48x18 1 := broadcastInDim S48x18 ![0, 1] bcast_S48x1_S48x18_0_1 main_v23
  let main_v27 : IVec S48x18 1 := andi main_v26 main_v25
  main_v27

def fn {F : FTy → Type} [FloatOps F] (main_arg0 : IVec S1080x256x8x128 8) (main_arg1 : IVec S1080x256x8x128 8) (main_arg2 : FVec F S1080x8 .f32) (main_arg3 : FVec F S1080x8 .f32) (main_arg4 : IVec S48x18 32) (main_arg5 : IVec S48 32) (main_arg6 : FVec F S48x1x8x128 .bf16) (main_arg7 : FVec F S48x1x8x128 .bf16) : IVec S48x18 1 :=
  let main_v0 : IVec S18 32 := iotaInDim S18 32 0
  let main_v1 : IVec S1x18 32 := broadcastInDim S1x18 ![1] bcast_S18_S1x18_1 main_v0
  let main_c : IVec S_ 32 := constantI S_ 32 256#32
  let main_v2 : IVec S1x18 32 := broadcastInDim S1x18 ![] bcast_S_S1x18 main_c
  let main_v3 : IVec S1x18 32 := muli main_v1 main_v2
  let main_v4 : IVec S48x1 32 := broadcastInDim S48x1 ![0] bcast_S48_S48x1_0 main_arg5
  let main_v5 : IVec S48x18 32 := broadcastInDim S48x18 ![0, 1] bcast_S48x1_S48x18_0_1 main_v4
  let main_v6 : IVec S48x18 32 := broadcastInDim S48x18 ![0, 1] bcast_S1x18_S48x18_0_1 main_v3
  let main_v7 : IVec S48x18 1 := cmpi .sge main_v5 main_v6
  let main_c_0 : IVec S_ 32 := constantI S_ 32 256#32
  let main_v8 : IVec S1x18 32 := broadcastInDim S1x18 ![] bcast_S_S1x18 main_c_0
  let main_v9 : IVec S1x18 32 := addi main_v3 main_v8
  let main_v10 : IVec S48x18 32 := broadcastInDim S48x18 ![0, 1] bcast_S48x1_S48x18_0_1 main_v4
  let main_v11 : IVec S48x18 32 := broadcastInDim S48x18 ![0, 1] bcast_S1x18_S48x18_0_1 main_v9
  let main_v12 : IVec S48x18 1 := cmpi .slt main_v10 main_v11
  let main_v13 : IVec S48x18 1 := andi main_v7 main_v12
  let main_c_1 : IVec S_ 32 := constantI S_ 32 0#32
  let main_v14 : IVec S48x18 32 := broadcastInDim S48x18 ![] bcast_S_S48x18 main_c_1
  let main_v15 : IVec S48x18 1 := cmpi .sge main_arg4 main_v14
  let main_c_2 : IVec S_ 32 := constantI S_ 32 1080#32
  let main_v16 : IVec S48x18 32 := broadcastInDim S48x18 ![] bcast_S_S48x18 main_c_2
  let main_v17 : IVec S48x18 1 := cmpi .slt main_arg4 main_v16
  let main_v18 : IVec S48x18 1 := andi main_v15 main_v17
  let main_c_3 : IVec S_ 32 := constantI S_ 32 0#32
  fn_part1 (F := F) main_v4 main_v13 main_v18 main_c_3
-- ==== Kernel.lean ====
abbrev S1080x256x8x128 : Shape := ⟨4, ![1080, 256, 8, 128]⟩
abbrev S1080x8 : Shape := ⟨2, ![1080, 8]⟩
abbrev S48x18 : Shape := ⟨2, ![48, 18]⟩
abbrev S48 : Shape := ⟨1, ![48]⟩
abbrev S48x1x8x128 : Shape := ⟨4, ![48, 1, 8, 128]⟩
abbrev S18x48 : Shape := ⟨2, ![18, 48]⟩
abbrev S8x1080 : Shape := ⟨2, ![8, 1080]⟩
abbrev S48x8x128 : Shape := ⟨3, ![48, 8, 128]⟩
abbrev S24x4x256x8x128 : Shape := ⟨5, ![24, 4, 256, 8, 128]⟩
abbrev S1080 : Shape := ⟨1, ![1080]⟩
abbrev S2x24 : Shape := ⟨2, ![2, 24]⟩
abbrev S4 : Shape := ⟨1, ![4]⟩
abbrev S2 : Shape := ⟨1, ![2]⟩
abbrev S1 : Shape := ⟨1, ![1]⟩
abbrev S_ : Shape := ⟨0, ![]⟩
abbrev S1x1 : Shape := ⟨2, ![1, 1]⟩
abbrev S1x4x256x8x128 : Shape := ⟨5, ![1, 4, 256, 8, 128]⟩
abbrev S4x256x8x128 : Shape := ⟨4, ![4, 256, 8, 128]⟩
abbrev S8 : Shape := ⟨1, ![8]⟩
abbrev S8x1 : Shape := ⟨2, ![8, 1]⟩
abbrev S1x8x128 : Shape := ⟨3, ![1, 8, 128]⟩
abbrev S8x128 : Shape := ⟨2, ![8, 128]⟩
abbrev S1x1x256x8x128 : Shape := ⟨5, ![1, 1, 256, 8, 128]⟩
abbrev S256x8x128 : Shape := ⟨3, ![256, 8, 128]⟩
abbrev S4x8x128 : Shape := ⟨3, ![4, 8, 128]⟩
abbrev S1x1x4x8x128 : Shape := ⟨5, ![1, 1, 4, 8, 128]⟩

abbrev nBuf : Space → Nat
  | .hbm => 19
  | .vmem => 6
  | .smem => 3
  | _ => 0

abbrev bufTy : (tb : Table) → Fin (tcTables nBuf tb) → BufTy
  | .hbm, ⟨0, _⟩ => ⟨S1080x256x8x128, .i8⟩
  | .hbm, ⟨1, _⟩ => ⟨S1080x256x8x128, .i8⟩
  | .hbm, ⟨2, _⟩ => ⟨S1080x8, .f32⟩
  | .hbm, ⟨3, _⟩ => ⟨S1080x8, .f32⟩
  | .hbm, ⟨4, _⟩ => ⟨S48x18, .i32⟩
  | .hbm, ⟨5, _⟩ => ⟨S48, .i32⟩
  | .hbm, ⟨6, _⟩ => ⟨S48x1x8x128, .bf16⟩
  | .hbm, ⟨7, _⟩ => ⟨S48x1x8x128, .bf16⟩
  | .hbm, ⟨8, _⟩ => ⟨S18x48, .i32⟩
  | .hbm, ⟨9, _⟩ => ⟨S8x1080, .f32⟩
  | .hbm, ⟨10, _⟩ => ⟨S8x1080, .f32⟩
  | .hbm, ⟨11, _⟩ => ⟨S48x8x128, .bf16⟩
  | .hbm, ⟨12, _⟩ => ⟨S48x8x128, .bf16⟩
  | .hbm, ⟨13, _⟩ => ⟨S1080x256x8x128, .i8⟩
  | .hbm, ⟨14, _⟩ => ⟨S8x1080, .f32⟩
  | .hbm, ⟨15, _⟩ => ⟨S1080x256x8x128, .i8⟩
  | .hbm, ⟨16, _⟩ => ⟨S8x1080, .f32⟩
  | .hbm, ⟨17, _⟩ => ⟨S1080x8, .f32⟩
  | .hbm, ⟨18, _⟩ => ⟨S1080x8, .f32⟩
  | .local _ .vmem, ⟨0, _⟩ => ⟨S24x4x256x8x128, .i8⟩
  | .local _ .vmem, ⟨1, _⟩ => ⟨S24x4x256x8x128, .i8⟩
  | .local _ .vmem, ⟨2, _⟩ => ⟨S8x1080, .f32⟩
  | .local _ .vmem, ⟨3, _⟩ => ⟨S8x1080, .f32⟩
  | .local _ .vmem, ⟨4, _⟩ => ⟨S48x8x128, .bf16⟩
  | .local _ .vmem, ⟨5, _⟩ => ⟨S48x8x128, .bf16⟩
  | .local _ .smem, ⟨0, _⟩ => ⟨S18x48, .i32⟩
  | .local _ .smem, ⟨1, _⟩ => ⟨S48, .i32⟩
  | .local _ .smem, ⟨2, _⟩ => ⟨S1080, .i32⟩
  | _, _ => ⟨S1080x256x8x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTc nBuf bufTy 0 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v6 : Ref sig .tc := ⟨.hbm, 17, rfl⟩
abbrev main_v7 : Ref sig .tc := ⟨.hbm, 18, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_scratch6 : Ref sig .tc := ⟨.smem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 (c0_i32_0 : BitVec 32) : Fin 2 → Nat :=
  let c0_i32_1 : BitVec 32 := 0#32
  let c24_i32 : BitVec 32 := 24#32
  let v8 : BitVec 32 := Scalar.remsi c0_i32_0 c24_i32
  ![0, v8.toNat]
def k0_off2 (c0_i32_0 : BitVec 32) : Fin 5 → Nat :=
  let c24_i32 : BitVec 32 := 24#32
  let v8 : BitVec 32 := Scalar.remsi c0_i32_0 c24_i32
  let c0_i32_2 : BitVec 32 := 0#32
  let c0_i32_3 : BitVec 32 := 0#32
  let c0_i32_4 : BitVec 32 := 0#32
  let c0_i32_5 : BitVec 32 := 0#32
  ![v8.toNat, 0, 0, 0, 0]
def k0_off3 (c0_i32_0 : BitVec 32) : Fin 2 → Nat :=
  let c1_i32_10 : BitVec 32 := 1#32
  let c24_i32 : BitVec 32 := 24#32
  let v8 : BitVec 32 := Scalar.remsi c0_i32_0 c24_i32
  ![1, v8.toNat]
@[reducible] def k0_t1_loop : Scf.Loop 32 :=
  let c0_i32_442 : BitVec 32 := 0#32
  let c1080_i32 : BitVec 32 := 1080#32
  let v272 : BitVec 32 := Scalar.addi c0_i32_442 c1080_i32
  let c1_i32_443 : BitVec 32 := 1#32
  ⟨c0_i32_442, v272, c1_i32_443⟩
def k0_off4 (k0_t1 : Fin k0_t1_loop.trips) : Fin 1 → Nat :=
  let c0_i32_465 : BitVec 32 := 0#32
  let c0_i32_442 : BitVec 32 := 0#32
  let c1_i32_443 : BitVec 32 := 1#32
  let arg23 : BitVec 32 := Scf.iv c0_i32_442 c1_i32_443 k0_t1
  let c1_i32_464 : BitVec 32 := 1#32
  let v292 : BitVec 32 := Scalar.muli arg23 c1_i32_464
  let v293 : BitVec 32 := Scalar.addi c0_i32_465 v292
  let v294 : Index := Scalar.indexCast v293
  ![v294.toNat]
@[reducible] def k0_t2_loop : Scf.Loop 32 :=
  let c0_i32_445 : BitVec 32 := 0#32
  let c48_i32_446 : BitVec 32 := 48#32
  let v273 : BitVec 32 := Scalar.addi c0_i32_445 c48_i32_446
  let c1_i32_447 : BitVec 32 := 1#32
  ⟨c0_i32_445, v273, c1_i32_447⟩
def k0_off5 (k0_t2 : Fin k0_t2_loop.trips) : Fin 1 → Nat :=
  let c0_i32_465 : BitVec 32 := 0#32
  let c0_i32_445 : BitVec 32 := 0#32
  let c1_i32_447 : BitVec 32 := 1#32
  let arg23 : BitVec 32 := Scf.iv c0_i32_445 c1_i32_447 k0_t2
  let c1_i32_464 : BitVec 32 := 1#32
  let v292 : BitVec 32 := Scalar.muli arg23 c1_i32_464
  let v293 : BitVec 32 := Scalar.addi c0_i32_465 v292
  let v294 : Index := Scalar.indexCast v293
  ![v294.toNat]
def k0_off6 (k0_t2 : Fin k0_t2_loop.trips) (v295 : BitVec 32) : Fin 2 → Nat :=
  let c0_i32_466 : BitVec 32 := 0#32
  let v297 : BitVec 1 := Scalar.cmpi .sgt v295 c0_i32_466
  let v298 : BitVec 32 := Scalar.extui v297
  let c0_i32_467 : BitVec 32 := 0#32
  let v299 : BitVec 1 := Scalar.cmpi .slt v295 c0_i32_467
  let v300 : BitVec 32 := Scalar.extui v299
  let v301 : BitVec 32 := Scalar.subi v298 v300
  let c256_i32 : BitVec 32 := 256#32
  let c0_i32_468 : BitVec 32 := 0#32
  let v302 : BitVec 1 := Scalar.cmpi .sgt c256_i32 c0_i32_468
  let v303 : BitVec 32 := Scalar.extui v302
  let c0_i32_469 : BitVec 32 := 0#32
  let v304 : BitVec 1 := Scalar.cmpi .slt c256_i32 c0_i32_469
  let v305 : BitVec 32 := Scalar.extui v304
  let v306 : BitVec 32 := Scalar.subi v303 v305
  let v307 : BitVec 1 := Scalar.cmpi .ne v301 v306
  let v308 : BitVec 32 := Scalar.remsi v295 c256_i32
  let c0_i32_470 : BitVec 32 := 0#32
  let v309 : BitVec 1 := Scalar.cmpi .ne v308 c0_i32_470
  let v310 : BitVec 1 := Scalar.andi v307 v309
  let v296 : BitVec 32 := Scalar.divsi v295 c256_i32
  let c1_i32_471 : BitVec 32 := 1#32
  let v311 : BitVec 32 := Scalar.subi v296 c1_i32_471
  let v312 : BitVec 32 := Scalar.select v310 v311 v296
  let v313 : Index := Scalar.indexCast v312
  let c0_i32_465 : BitVec 32 := 0#32
  let c0_i32_445 : BitVec 32 := 0#32
  let c1_i32_447 : BitVec 32 := 1#32
  let arg23 : BitVec 32 := Scf.iv c0_i32_445 c1_i32_447 k0_t2
  let c1_i32_464 : BitVec 32 := 1#32
  let v292 : BitVec 32 := Scalar.muli arg23 c1_i32_464
  let v293 : BitVec 32 := Scalar.addi c0_i32_465 v292
  let v314 : Index := Scalar.indexCast v293
  ![v313.toNat, v314.toNat]

def k0_chk1 (k0_t2 : Fin k0_t2_loop.trips) (v295 : BitVec 32) : Prop :=
  (∀ a, (k0_off6 k0_t2 v295) a + S1x1.size a ≤ S18x48.size a)
theorem k0_off6_inb : ∀ (k0_t2 : Fin k0_t2_loop.trips) (v295 : BitVec 32) (k0_hw1 : k0_chk1 k0_t2 v295), ∀ a, (k0_off6 k0_t2 v295) a + S1x1.size a ≤ S18x48.size a := fun k0_t2 v295 k0_hw1 => k0_hw1

def k0_off7 (v315 : BitVec 32) : Fin 1 → Nat :=
  let v316 : Index := Scalar.indexCast v315
  ![v316.toNat]

def k0_chk2 (v315 : BitVec 32) : Prop :=
  (∀ a, (k0_off7 v315) a + S1.size a ≤ S1080.size a)
theorem k0_off7_inb : ∀ (v315 : BitVec 32) (k0_hw2 : k0_chk2 v315), ∀ a, (k0_off7 v315) a + S1.size a ≤ S1080.size a := fun v315 k0_hw2 => k0_hw2

@[reducible] def k0_t3_loop : Scf.Loop 32 :=
  let c0_i32_453 : BitVec 32 := 0#32
  let c270_i32 : BitVec 32 := 270#32
  let v282 : BitVec 32 := Scalar.addi c0_i32_453 c270_i32
  let c1_i32_454 : BitVec 32 := 1#32
  ⟨c0_i32_453, v282, c1_i32_454⟩
def k0_off8 (k0_t3 : Fin k0_t3_loop.trips) : Fin 2 → Nat :=
  let c0_i32_468 : BitVec 32 := 0#32
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_466 : BitVec 32 := 24#32
  let v294 : BitVec 32 := Scalar.remsi v293 c24_i32_466
  ![0, v294.toNat]
def k0_off9 (k0_t3 : Fin k0_t3_loop.trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_466 : BitVec 32 := 24#32
  let v294 : BitVec 32 := Scalar.remsi v293 c24_i32_466
  let c0_i32_469 : BitVec 32 := 0#32
  let c0_i32_470 : BitVec 32 := 0#32
  let c0_i32_471 : BitVec 32 := 0#32
  let c0_i32_472 : BitVec 32 := 0#32
  ![v294.toNat, 0, 0, 0, 0]
def k0_off10 (k0_t3 : Fin k0_t3_loop.trips) : Fin 4 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c4_i32_467 : BitVec 32 := 4#32
  let v295 : BitVec 32 := Scalar.muli v293 c4_i32_467
  let c0_i32_473 : BitVec 32 := 0#32
  let c0_i32_474 : BitVec 32 := 0#32
  let c0_i32_475 : BitVec 32 := 0#32
  ![v295.toNat, 0, 0, 0]
def k0_off11 (k0_t3 : Fin k0_t3_loop.trips) : Fin 2 → Nat :=
  let c1_i32_476 : BitVec 32 := 1#32
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_466 : BitVec 32 := 24#32
  let v294 : BitVec 32 := Scalar.remsi v293 c24_i32_466
  ![1, v294.toNat]
@[reducible] def k0_t4_loop : Scf.Loop 32 :=
  let c0_i32_485 : BitVec 32 := 0#32
  let c4_i32_486 : BitVec 32 := 4#32
  let v307 : BitVec 32 := Scalar.addi c0_i32_485 c4_i32_486
  let c1_i32_487 : BitVec 32 := 1#32
  ⟨c0_i32_485, v307, c1_i32_487⟩
def k0_off12 (k0_t3 : Fin k0_t3_loop.trips) (k0_t4 : Fin k0_t4_loop.trips) : Fin 1 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c4_i32_512 : BitVec 32 := 4#32
  let v326 : BitVec 32 := Scalar.muli v293 c4_i32_512
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let v327 : BitVec 32 := Scalar.addi v326 v325
  let v328 : Index := Scalar.indexCast v327
  ![v328.toNat]
def k0_off13 (v329 : BitVec 32) : Fin 1 → Nat :=
  let v333 : Index := Scalar.indexCast v329
  ![v333.toNat]
def k0_cond1 (v329 : BitVec 32) : BitVec 1 :=
  let c0_i32_513 : BitVec 32 := 0#32
  let v330 : BitVec 1 := Scalar.cmpi .sge v329 c0_i32_513
  let v331 : BitVec 32 := Scalar.extui v330
  let c0_i32_514 : BitVec 32 := 0#32
  let v332 : BitVec 1 := Scalar.cmpi .ne v331 c0_i32_514
  v332

def k0_off14 (v329 : BitVec 32) : Fin 3 → Nat :=
  let v344 : Index := Scalar.indexCast v329
  let c0_517 : Index := 0#32
  let c0_518 : Index := 0#32
  ![v344.toNat, 0, 0]
@[reducible] def k0_t5_loop (v334 : BitVec 32) : Scf.Loop 32 :=
  let c0_i32_540 : BitVec 32 := 0#32
  let c256_i32 : BitVec 32 := 256#32
  let v335 : BitVec 32 := Scalar.remsi v334 c256_i32
  let c0_i32_528 : BitVec 32 := 0#32
  let v374 : BitVec 1 := Scalar.cmpi .sgt v335 c0_i32_528
  let v375 : BitVec 32 := Scalar.extui v374
  let c0_i32_529 : BitVec 32 := 0#32
  let v376 : BitVec 1 := Scalar.cmpi .slt v335 c0_i32_529
  let v377 : BitVec 32 := Scalar.extui v376
  let v378 : BitVec 32 := Scalar.subi v375 v377
  let c4_i32_527 : BitVec 32 := 4#32
  let c0_i32_530 : BitVec 32 := 0#32
  let v379 : BitVec 1 := Scalar.cmpi .sgt c4_i32_527 c0_i32_530
  let v380 : BitVec 32 := Scalar.extui v379
  let c0_i32_531 : BitVec 32 := 0#32
  let v381 : BitVec 1 := Scalar.cmpi .slt c4_i32_527 c0_i32_531
  let v382 : BitVec 32 := Scalar.extui v381
  let v383 : BitVec 32 := Scalar.subi v380 v382
  let v384 : BitVec 1 := Scalar.cmpi .ne v378 v383
  let v385 : BitVec 32 := Scalar.remsi v335 c4_i32_527
  let c0_i32_532 : BitVec 32 := 0#32
  let v386 : BitVec 1 := Scalar.cmpi .ne v385 c0_i32_532
  let v387 : BitVec 1 := Scalar.andi v384 v386
  let v373 : BitVec 32 := Scalar.divsi v335 c4_i32_527
  let c1_i32_533 : BitVec 32 := 1#32
  let v388 : BitVec 32 := Scalar.subi v373 c1_i32_533
  let v389 : BitVec 32 := Scalar.select v387 v388 v373
  let c0_i32_534 : BitVec 32 := 0#32
  let v390 : BitVec 32 := Scalar.subi v389 c0_i32_534
  let c1_i32_535 : BitVec 32 := 1#32
  let c1_i32_536 : BitVec 32 := 1#32
  let v391 : BitVec 32 := Scalar.subi c1_i32_535 c1_i32_536
  let v392 : BitVec 32 := Scalar.addi v390 v391
  let c1_i32_537 : BitVec 32 := 1#32
  let v393 : BitVec 32 := Scalar.divsi v392 c1_i32_537
  let v394 : BitVec 32 := Scalar.subi v393 c0_i32_540
  let c1_i32_541 : BitVec 32 := 1#32
  let v396 : BitVec 32 := Scalar.divsi v394 c1_i32_541
  let v397 : BitVec 32 := Scalar.muli v396 c1_i32_541
  let v398 : BitVec 32 := Scalar.addi c0_i32_540 v397
  let c1_i32_542 : BitVec 32 := 1#32
  ⟨c0_i32_540, v398, c1_i32_542⟩

def k0_off15 (k0_t3 : Fin k0_t3_loop.trips) (k0_t4 : Fin k0_t4_loop.trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c0_i32_626 : BitVec 32 := 0#32
  let c0_i32_627 : BitVec 32 := 0#32
  let c0_i32_628 : BitVec 32 := 0#32
  ![v306.toNat, v325.toNat, 0, 0, 0]
def k0_off16 (v334 : BitVec 32) (k0_t5 : Fin (k0_t5_loop v334).trips) : Fin 3 → Nat :=
  let c0_i32_539 : BitVec 32 := 0#32
  let c0_i32_540 : BitVec 32 := 0#32
  let c1_i32_542 : BitVec 32 := 1#32
  let arg25 : BitVec 32 := Scf.iv c0_i32_540 c1_i32_542 k0_t5
  let c1_i32_538 : BitVec 32 := 1#32
  let v560 : BitVec 32 := Scalar.muli arg25 c1_i32_538
  let v561 : BitVec 32 := Scalar.addi c0_i32_539 v560
  let c4_i32_625 : BitVec 32 := 4#32
  let v562 : BitVec 32 := Scalar.muli v561 c4_i32_625
  let v565 : Index := Scalar.indexCast v562
  let c0_629 : Index := 0#32
  let c0_630 : Index := 0#32
  ![v565.toNat, 0, 0]
def k0_off17 (k0_t3 : Fin k0_t3_loop.trips) (k0_t4 : Fin k0_t4_loop.trips) (v334 : BitVec 32) (k0_t5 : Fin (k0_t5_loop v334).trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c0_i32_539 : BitVec 32 := 0#32
  let c0_i32_540 : BitVec 32 := 0#32
  let c1_i32_542 : BitVec 32 := 1#32
  let arg25 : BitVec 32 := Scf.iv c0_i32_540 c1_i32_542 k0_t5
  let c1_i32_538 : BitVec 32 := 1#32
  let v560 : BitVec 32 := Scalar.muli arg25 c1_i32_538
  let v561 : BitVec 32 := Scalar.addi c0_i32_539 v560
  let c4_i32_633 : BitVec 32 := 4#32
  let v580 : BitVec 32 := Scalar.muli v561 c4_i32_633
  let v583 : Index := Scalar.indexCast v580
  let c0_i32_635 : BitVec 32 := 0#32
  let c0_i32_636 : BitVec 32 := 0#32
  ![v306.toNat, v325.toNat, v583.toNat, 0, 0]
@[reducible] def k0_t6_loop (v334 : BitVec 32) : Scf.Loop 32 :=
  let c0_i32_540 : BitVec 32 := 0#32
  let c256_i32 : BitVec 32 := 256#32
  let v335 : BitVec 32 := Scalar.remsi v334 c256_i32
  let c0_i32_528 : BitVec 32 := 0#32
  let v374 : BitVec 1 := Scalar.cmpi .sgt v335 c0_i32_528
  let v375 : BitVec 32 := Scalar.extui v374
  let c0_i32_529 : BitVec 32 := 0#32
  let v376 : BitVec 1 := Scalar.cmpi .slt v335 c0_i32_529
  let v377 : BitVec 32 := Scalar.extui v376
  let v378 : BitVec 32 := Scalar.subi v375 v377
  let c4_i32_527 : BitVec 32 := 4#32
  let c0_i32_530 : BitVec 32 := 0#32
  let v379 : BitVec 1 := Scalar.cmpi .sgt c4_i32_527 c0_i32_530
  let v380 : BitVec 32 := Scalar.extui v379
  let c0_i32_531 : BitVec 32 := 0#32
  let v381 : BitVec 1 := Scalar.cmpi .slt c4_i32_527 c0_i32_531
  let v382 : BitVec 32 := Scalar.extui v381
  let v383 : BitVec 32 := Scalar.subi v380 v382
  let v384 : BitVec 1 := Scalar.cmpi .ne v378 v383
  let v385 : BitVec 32 := Scalar.remsi v335 c4_i32_527
  let c0_i32_532 : BitVec 32 := 0#32
  let v386 : BitVec 1 := Scalar.cmpi .ne v385 c0_i32_532
  let v387 : BitVec 1 := Scalar.andi v384 v386
  let v373 : BitVec 32 := Scalar.divsi v335 c4_i32_527
  let c1_i32_533 : BitVec 32 := 1#32
  let v388 : BitVec 32 := Scalar.subi v373 c1_i32_533
  let v389 : BitVec 32 := Scalar.select v387 v388 v373
  let c0_i32_534 : BitVec 32 := 0#32
  let v390 : BitVec 32 := Scalar.subi v389 c0_i32_534
  let c1_i32_535 : BitVec 32 := 1#32
  let c1_i32_536 : BitVec 32 := 1#32
  let v391 : BitVec 32 := Scalar.subi c1_i32_535 c1_i32_536
  let v392 : BitVec 32 := Scalar.addi v390 v391
  let c1_i32_537 : BitVec 32 := 1#32
  let v393 : BitVec 32 := Scalar.divsi v392 c1_i32_537
  let v394 : BitVec 32 := Scalar.subi v393 c0_i32_540
  let c1_i32_541 : BitVec 32 := 1#32
  let v396 : BitVec 32 := Scalar.divsi v394 c1_i32_541
  let v397 : BitVec 32 := Scalar.muli v396 c1_i32_541
  let v398 : BitVec 32 := Scalar.addi c0_i32_540 v397
  let v395 : BitVec 32 := Scalar.addi c0_i32_540 v394
  let c1_i32_543 : BitVec 32 := 1#32
  ⟨v398, v395, c1_i32_543⟩
def k0_off18 (k0_t3 : Fin k0_t3_loop.trips) (k0_t4 : Fin k0_t4_loop.trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c0_i32_626 : BitVec 32 := 0#32
  let c0_i32_627 : BitVec 32 := 0#32
  let c0_i32_628 : BitVec 32 := 0#32
  ![v306.toNat, v325.toNat, 0, 0, 0]
def k0_off19 (v334 : BitVec 32) (k0_t6 : Fin (k0_t6_loop v334).trips) : Fin 3 → Nat :=
  let c0_i32_539 : BitVec 32 := 0#32
  let c0_i32_540 : BitVec 32 := 0#32
  let c256_i32 : BitVec 32 := 256#32
  let v335 : BitVec 32 := Scalar.remsi v334 c256_i32
  let c0_i32_528 : BitVec 32 := 0#32
  let v374 : BitVec 1 := Scalar.cmpi .sgt v335 c0_i32_528
  let v375 : BitVec 32 := Scalar.extui v374
  let c0_i32_529 : BitVec 32 := 0#32
  let v376 : BitVec 1 := Scalar.cmpi .slt v335 c0_i32_529
  let v377 : BitVec 32 := Scalar.extui v376
  let v378 : BitVec 32 := Scalar.subi v375 v377
  let c4_i32_527 : BitVec 32 := 4#32
  let c0_i32_530 : BitVec 32 := 0#32
  let v379 : BitVec 1 := Scalar.cmpi .sgt c4_i32_527 c0_i32_530
  let v380 : BitVec 32 := Scalar.extui v379
  let c0_i32_531 : BitVec 32 := 0#32
  let v381 : BitVec 1 := Scalar.cmpi .slt c4_i32_527 c0_i32_531
  let v382 : BitVec 32 := Scalar.extui v381
  let v383 : BitVec 32 := Scalar.subi v380 v382
  let v384 : BitVec 1 := Scalar.cmpi .ne v378 v383
  let v385 : BitVec 32 := Scalar.remsi v335 c4_i32_527
  let c0_i32_532 : BitVec 32 := 0#32
  let v386 : BitVec 1 := Scalar.cmpi .ne v385 c0_i32_532
  let v387 : BitVec 1 := Scalar.andi v384 v386
  let v373 : BitVec 32 := Scalar.divsi v335 c4_i32_527
  let c1_i32_533 : BitVec 32 := 1#32
  let v388 : BitVec 32 := Scalar.subi v373 c1_i32_533
  let v389 : BitVec 32 := Scalar.select v387 v388 v373
  let c0_i32_534 : BitVec 32 := 0#32
  let v390 : BitVec 32 := Scalar.subi v389 c0_i32_534
  let c1_i32_535 : BitVec 32 := 1#32
  let c1_i32_536 : BitVec 32 := 1#32
  let v391 : BitVec 32 := Scalar.subi c1_i32_535 c1_i32_536
  let v392 : BitVec 32 := Scalar.addi v390 v391
  let c1_i32_537 : BitVec 32 := 1#32
  let v393 : BitVec 32 := Scalar.divsi v392 c1_i32_537
  let v394 : BitVec 32 := Scalar.subi v393 c0_i32_540
  let c1_i32_541 : BitVec 32 := 1#32
  let v396 : BitVec 32 := Scalar.divsi v394 c1_i32_541
  let v397 : BitVec 32 := Scalar.muli v396 c1_i32_541
  let v398 : BitVec 32 := Scalar.addi c0_i32_540 v397
  let c1_i32_543 : BitVec 32 := 1#32
  let arg25 : BitVec 32 := Scf.iv v398 c1_i32_543 k0_t6
  let c1_i32_538 : BitVec 32 := 1#32
  let v560 : BitVec 32 := Scalar.muli arg25 c1_i32_538
  let v561 : BitVec 32 := Scalar.addi c0_i32_539 v560
  let c4_i32_625 : BitVec 32 := 4#32
  let v562 : BitVec 32 := Scalar.muli v561 c4_i32_625
  let v565 : Index := Scalar.indexCast v562
  let c0_629 : Index := 0#32
  let c0_630 : Index := 0#32
  ![v565.toNat, 0, 0]
def k0_off20 (k0_t3 : Fin k0_t3_loop.trips) (k0_t4 : Fin k0_t4_loop.trips) (v334 : BitVec 32) (k0_t6 : Fin (k0_t6_loop v334).trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c0_i32_539 : BitVec 32 := 0#32
  let c0_i32_540 : BitVec 32 := 0#32
  let c256_i32 : BitVec 32 := 256#32
  let v335 : BitVec 32 := Scalar.remsi v334 c256_i32
  let c0_i32_528 : BitVec 32 := 0#32
  let v374 : BitVec 1 := Scalar.cmpi .sgt v335 c0_i32_528
  let v375 : BitVec 32 := Scalar.extui v374
  let c0_i32_529 : BitVec 32 := 0#32
  let v376 : BitVec 1 := Scalar.cmpi .slt v335 c0_i32_529
  let v377 : BitVec 32 := Scalar.extui v376
  let v378 : BitVec 32 := Scalar.subi v375 v377
  let c4_i32_527 : BitVec 32 := 4#32
  let c0_i32_530 : BitVec 32 := 0#32
  let v379 : BitVec 1 := Scalar.cmpi .sgt c4_i32_527 c0_i32_530
  let v380 : BitVec 32 := Scalar.extui v379
  let c0_i32_531 : BitVec 32 := 0#32
  let v381 : BitVec 1 := Scalar.cmpi .slt c4_i32_527 c0_i32_531
  let v382 : BitVec 32 := Scalar.extui v381
  let v383 : BitVec 32 := Scalar.subi v380 v382
  let v384 : BitVec 1 := Scalar.cmpi .ne v378 v383
  let v385 : BitVec 32 := Scalar.remsi v335 c4_i32_527
  let c0_i32_532 : BitVec 32 := 0#32
  let v386 : BitVec 1 := Scalar.cmpi .ne v385 c0_i32_532
  let v387 : BitVec 1 := Scalar.andi v384 v386
  let v373 : BitVec 32 := Scalar.divsi v335 c4_i32_527
  let c1_i32_533 : BitVec 32 := 1#32
  let v388 : BitVec 32 := Scalar.subi v373 c1_i32_533
  let v389 : BitVec 32 := Scalar.select v387 v388 v373
  let c0_i32_534 : BitVec 32 := 0#32
  let v390 : BitVec 32 := Scalar.subi v389 c0_i32_534
  let c1_i32_535 : BitVec 32 := 1#32
  let c1_i32_536 : BitVec 32 := 1#32
  let v391 : BitVec 32 := Scalar.subi c1_i32_535 c1_i32_536
  let v392 : BitVec 32 := Scalar.addi v390 v391
  let c1_i32_537 : BitVec 32 := 1#32
  let v393 : BitVec 32 := Scalar.divsi v392 c1_i32_537
  let v394 : BitVec 32 := Scalar.subi v393 c0_i32_540
  let c1_i32_541 : BitVec 32 := 1#32
  let v396 : BitVec 32 := Scalar.divsi v394 c1_i32_541
  let v397 : BitVec 32 := Scalar.muli v396 c1_i32_541
  let v398 : BitVec 32 := Scalar.addi c0_i32_540 v397
  let c1_i32_543 : BitVec 32 := 1#32
  let arg25 : BitVec 32 := Scf.iv v398 c1_i32_543 k0_t6
  let c1_i32_538 : BitVec 32 := 1#32
  let v560 : BitVec 32 := Scalar.muli arg25 c1_i32_538
  let v561 : BitVec 32 := Scalar.addi c0_i32_539 v560
  let c4_i32_633 : BitVec 32 := 4#32
  let v580 : BitVec 32 := Scalar.muli v561 c4_i32_633
  let v583 : Index := Scalar.indexCast v580
  let c0_i32_635 : BitVec 32 := 0#32
  let c0_i32_636 : BitVec 32 := 0#32
  ![v306.toNat, v325.toNat, v583.toNat, 0, 0]
def k0_off21 (k0_t3 : Fin k0_t3_loop.trips) (k0_t4 : Fin k0_t4_loop.trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c0_i32_546 : BitVec 32 := 0#32
  let c0_i32_547 : BitVec 32 := 0#32
  let c0_i32_548 : BitVec 32 := 0#32
  ![v306.toNat, v325.toNat, 0, 0, 0]
def k0_off22 (v334 : BitVec 32) : Fin 3 → Nat :=
  let c256_i32 : BitVec 32 := 256#32
  let v335 : BitVec 32 := Scalar.remsi v334 c256_i32
  let c0_i32_528 : BitVec 32 := 0#32
  let v374 : BitVec 1 := Scalar.cmpi .sgt v335 c0_i32_528
  let v375 : BitVec 32 := Scalar.extui v374
  let c0_i32_529 : BitVec 32 := 0#32
  let v376 : BitVec 1 := Scalar.cmpi .slt v335 c0_i32_529
  let v377 : BitVec 32 := Scalar.extui v376
  let v378 : BitVec 32 := Scalar.subi v375 v377
  let c4_i32_527 : BitVec 32 := 4#32
  let c0_i32_530 : BitVec 32 := 0#32
  let v379 : BitVec 1 := Scalar.cmpi .sgt c4_i32_527 c0_i32_530
  let v380 : BitVec 32 := Scalar.extui v379
  let c0_i32_531 : BitVec 32 := 0#32
  let v381 : BitVec 1 := Scalar.cmpi .slt c4_i32_527 c0_i32_531
  let v382 : BitVec 32 := Scalar.extui v381
  let v383 : BitVec 32 := Scalar.subi v380 v382
  let v384 : BitVec 1 := Scalar.cmpi .ne v378 v383
  let v385 : BitVec 32 := Scalar.remsi v335 c4_i32_527
  let c0_i32_532 : BitVec 32 := 0#32
  let v386 : BitVec 1 := Scalar.cmpi .ne v385 c0_i32_532
  let v387 : BitVec 1 := Scalar.andi v384 v386
  let v373 : BitVec 32 := Scalar.divsi v335 c4_i32_527
  let c1_i32_533 : BitVec 32 := 1#32
  let v388 : BitVec 32 := Scalar.subi v373 c1_i32_533
  let v389 : BitVec 32 := Scalar.select v387 v388 v373
  let c4_i32_545 : BitVec 32 := 4#32
  let v405 : BitVec 32 := Scalar.muli v389 c4_i32_545
  let v408 : Index := Scalar.indexCast v405
  let c0_549 : Index := 0#32
  let c0_550 : Index := 0#32
  ![v408.toNat, 0, 0]
def k0_off23 (k0_t3 : Fin k0_t3_loop.trips) (k0_t4 : Fin k0_t4_loop.trips) (v334 : BitVec 32) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c256_i32 : BitVec 32 := 256#32
  let v335 : BitVec 32 := Scalar.remsi v334 c256_i32
  let c0_i32_528 : BitVec 32 := 0#32
  let v374 : BitVec 1 := Scalar.cmpi .sgt v335 c0_i32_528
  let v375 : BitVec 32 := Scalar.extui v374
  let c0_i32_529 : BitVec 32 := 0#32
  let v376 : BitVec 1 := Scalar.cmpi .slt v335 c0_i32_529
  let v377 : BitVec 32 := Scalar.extui v376
  let v378 : BitVec 32 := Scalar.subi v375 v377
  let c4_i32_527 : BitVec 32 := 4#32
  let c0_i32_530 : BitVec 32 := 0#32
  let v379 : BitVec 1 := Scalar.cmpi .sgt c4_i32_527 c0_i32_530
  let v380 : BitVec 32 := Scalar.extui v379
  let c0_i32_531 : BitVec 32 := 0#32
  let v381 : BitVec 1 := Scalar.cmpi .slt c4_i32_527 c0_i32_531
  let v382 : BitVec 32 := Scalar.extui v381
  let v383 : BitVec 32 := Scalar.subi v380 v382
  let v384 : BitVec 1 := Scalar.cmpi .ne v378 v383
  let v385 : BitVec 32 := Scalar.remsi v335 c4_i32_527
  let c0_i32_532 : BitVec 32 := 0#32
  let v386 : BitVec 1 := Scalar.cmpi .ne v385 c0_i32_532
  let v387 : BitVec 1 := Scalar.andi v384 v386
  let v373 : BitVec 32 := Scalar.divsi v335 c4_i32_527
  let c1_i32_533 : BitVec 32 := 1#32
  let v388 : BitVec 32 := Scalar.subi v373 c1_i32_533
  let v389 : BitVec 32 := Scalar.select v387 v388 v373
  let c4_i32_552 : BitVec 32 := 4#32
  let v431 : BitVec 32 := Scalar.muli v389 c4_i32_552
  let v434 : Index := Scalar.indexCast v431
  let c0_i32_554 : BitVec 32 := 0#32
  let c0_i32_555 : BitVec 32 := 0#32
  ![v306.toNat, v325.toNat, v434.toNat, 0, 0]
@[reducible] def k0_t7_loop (v334 : BitVec 32) : Scf.Loop 32 :=
  let c0_i32_564 : BitVec 32 := 0#32
  let c64_i32_559 : BitVec 32 := 64#32
  let c256_i32 : BitVec 32 := 256#32
  let v335 : BitVec 32 := Scalar.remsi v334 c256_i32
  let c0_i32_528 : BitVec 32 := 0#32
  let v374 : BitVec 1 := Scalar.cmpi .sgt v335 c0_i32_528
  let v375 : BitVec 32 := Scalar.extui v374
  let c0_i32_529 : BitVec 32 := 0#32
  let v376 : BitVec 1 := Scalar.cmpi .slt v335 c0_i32_529
  let v377 : BitVec 32 := Scalar.extui v376
  let v378 : BitVec 32 := Scalar.subi v375 v377
  let c4_i32_527 : BitVec 32 := 4#32
  let c0_i32_530 : BitVec 32 := 0#32
  let v379 : BitVec 1 := Scalar.cmpi .sgt c4_i32_527 c0_i32_530
  let v380 : BitVec 32 := Scalar.extui v379
  let c0_i32_531 : BitVec 32 := 0#32
  let v381 : BitVec 1 := Scalar.cmpi .slt c4_i32_527 c0_i32_531
  let v382 : BitVec 32 := Scalar.extui v381
  let v383 : BitVec 32 := Scalar.subi v380 v382
  let v384 : BitVec 1 := Scalar.cmpi .ne v378 v383
  let v385 : BitVec 32 := Scalar.remsi v335 c4_i32_527
  let c0_i32_532 : BitVec 32 := 0#32
  let v386 : BitVec 1 := Scalar.cmpi .ne v385 c0_i32_532
  let v387 : BitVec 1 := Scalar.andi v384 v386
  let v373 : BitVec 32 := Scalar.divsi v335 c4_i32_527
  let c1_i32_533 : BitVec 32 := 1#32
  let v388 : BitVec 32 := Scalar.subi v373 c1_i32_533
  let v389 : BitVec 32 := Scalar.select v387 v388 v373
  let c1_i32_558 : BitVec 32 := 1#32
  let v438 : BitVec 32 := Scalar.addi v389 c1_i32_558
  let v439 : BitVec 32 := Scalar.subi c64_i32_559 v438
  let c1_i32_560 : BitVec 32 := 1#32
  let c1_i32_561 : BitVec 32 := 1#32
  let v440 : BitVec 32 := Scalar.subi c1_i32_560 c1_i32_561
  let v441 : BitVec 32 := Scalar.addi v439 v440
  let c1_i32_562 : BitVec 32 := 1#32
  let v442 : BitVec 32 := Scalar.divsi v441 c1_i32_562
  let v443 : BitVec 32 := Scalar.subi v442 c0_i32_564
  let c1_i32_565 : BitVec 32 := 1#32
  let v445 : BitVec 32 := Scalar.divsi v443 c1_i32_565
  let v446 : BitVec 32 := Scalar.muli v445 c1_i32_565
  let v447 : BitVec 32 := Scalar.addi c0_i32_564 v446
  let c1_i32_566 : BitVec 32 := 1#32
  ⟨c0_i32_564, v447, c1_i32_566⟩
def k0_off24 (k0_t3 : Fin k0_t3_loop.trips) (k0_t4 : Fin k0_t4_loop.trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c0_i32_626 : BitVec 32 := 0#32
  let c0_i32_627 : BitVec 32 := 0#32
  let c0_i32_628 : BitVec 32 := 0#32
  ![v306.toNat, v325.toNat, 0, 0, 0]
def k0_off25 (v334 : BitVec 32) (k0_t7 : Fin (k0_t7_loop v334).trips) : Fin 3 → Nat :=
  let c256_i32 : BitVec 32 := 256#32
  let v335 : BitVec 32 := Scalar.remsi v334 c256_i32
  let c0_i32_528 : BitVec 32 := 0#32
  let v374 : BitVec 1 := Scalar.cmpi .sgt v335 c0_i32_528
  let v375 : BitVec 32 := Scalar.extui v374
  let c0_i32_529 : BitVec 32 := 0#32
  let v376 : BitVec 1 := Scalar.cmpi .slt v335 c0_i32_529
  let v377 : BitVec 32 := Scalar.extui v376
  let v378 : BitVec 32 := Scalar.subi v375 v377
  let c4_i32_527 : BitVec 32 := 4#32
  let c0_i32_530 : BitVec 32 := 0#32
  let v379 : BitVec 1 := Scalar.cmpi .sgt c4_i32_527 c0_i32_530
  let v380 : BitVec 32 := Scalar.extui v379
  let c0_i32_531 : BitVec 32 := 0#32
  let v381 : BitVec 1 := Scalar.cmpi .slt c4_i32_527 c0_i32_531
  let v382 : BitVec 32 := Scalar.extui v381
  let v383 : BitVec 32 := Scalar.subi v380 v382
  let v384 : BitVec 1 := Scalar.cmpi .ne v378 v383
  let v385 : BitVec 32 := Scalar.remsi v335 c4_i32_527
  let c0_i32_532 : BitVec 32 := 0#32
  let v386 : BitVec 1 := Scalar.cmpi .ne v385 c0_i32_532
  let v387 : BitVec 1 := Scalar.andi v384 v386
  let v373 : BitVec 32 := Scalar.divsi v335 c4_i32_527
  let c1_i32_533 : BitVec 32 := 1#32
  let v388 : BitVec 32 := Scalar.subi v373 c1_i32_533
  let v389 : BitVec 32 := Scalar.select v387 v388 v373
  let c1_i32_558 : BitVec 32 := 1#32
  let v438 : BitVec 32 := Scalar.addi v389 c1_i32_558
  let c0_i32_564 : BitVec 32 := 0#32
  let c1_i32_566 : BitVec 32 := 1#32
  let arg25 : BitVec 32 := Scf.iv c0_i32_564 c1_i32_566 k0_t7
  let c1_i32_563 : BitVec 32 := 1#32
  let v560 : BitVec 32 := Scalar.muli arg25 c1_i32_563
  let v561 : BitVec 32 := Scalar.addi v438 v560
  let c4_i32_625 : BitVec 32 := 4#32
  let v563 : BitVec 32 := Scalar.muli v561 c4_i32_625
  let v566 : Index := Scalar.indexCast v563
  let c0_629 : Index := 0#32
  let c0_630 : Index := 0#32
  ![v566.toNat, 0, 0]
def k0_off26 (k0_t3 : Fin k0_t3_loop.trips) (k0_t4 : Fin k0_t4_loop.trips) (v334 : BitVec 32) (k0_t7 : Fin (k0_t7_loop v334).trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c256_i32 : BitVec 32 := 256#32
  let v335 : BitVec 32 := Scalar.remsi v334 c256_i32
  let c0_i32_528 : BitVec 32 := 0#32
  let v374 : BitVec 1 := Scalar.cmpi .sgt v335 c0_i32_528
  let v375 : BitVec 32 := Scalar.extui v374
  let c0_i32_529 : BitVec 32 := 0#32
  let v376 : BitVec 1 := Scalar.cmpi .slt v335 c0_i32_529
  let v377 : BitVec 32 := Scalar.extui v376
  let v378 : BitVec 32 := Scalar.subi v375 v377
  let c4_i32_527 : BitVec 32 := 4#32
  let c0_i32_530 : BitVec 32 := 0#32
  let v379 : BitVec 1 := Scalar.cmpi .sgt c4_i32_527 c0_i32_530
  let v380 : BitVec 32 := Scalar.extui v379
  let c0_i32_531 : BitVec 32 := 0#32
  let v381 : BitVec 1 := Scalar.cmpi .slt c4_i32_527 c0_i32_531
  let v382 : BitVec 32 := Scalar.extui v381
  let v383 : BitVec 32 := Scalar.subi v380 v382
  let v384 : BitVec 1 := Scalar.cmpi .ne v378 v383
  let v385 : BitVec 32 := Scalar.remsi v335 c4_i32_527
  let c0_i32_532 : BitVec 32 := 0#32
  let v386 : BitVec 1 := Scalar.cmpi .ne v385 c0_i32_532
  let v387 : BitVec 1 := Scalar.andi v384 v386
  let v373 : BitVec 32 := Scalar.divsi v335 c4_i32_527
  let c1_i32_533 : BitVec 32 := 1#32
  let v388 : BitVec 32 := Scalar.subi v373 c1_i32_533
  let v389 : BitVec 32 := Scalar.select v387 v388 v373
  let c1_i32_558 : BitVec 32 := 1#32
  let v438 : BitVec 32 := Scalar.addi v389 c1_i32_558
  let c0_i32_564 : BitVec 32 := 0#32
  let c1_i32_566 : BitVec 32 := 1#32
  let arg25 : BitVec 32 := Scf.iv c0_i32_564 c1_i32_566 k0_t7
  let c1_i32_563 : BitVec 32 := 1#32
  let v560 : BitVec 32 := Scalar.muli arg25 c1_i32_563
  let v561 : BitVec 32 := Scalar.addi v438 v560
  let c4_i32_625 : BitVec 32 := 4#32
  let v563 : BitVec 32 := Scalar.muli v561 c4_i32_625
  let v566 : Index := Scalar.indexCast v563
  let c0_i32_627 : BitVec 32 := 0#32
  let c0_i32_628 : BitVec 32 := 0#32
  ![v306.toNat, v325.toNat, v566.toNat, 0, 0]
@[reducible] def k0_t8_loop (v334 : BitVec 32) : Scf.Loop 32 :=
  let c0_i32_564 : BitVec 32 := 0#32
  let c64_i32_559 : BitVec 32 := 64#32
  let c256_i32 : BitVec 32 := 256#32
  let v335 : BitVec 32 := Scalar.remsi v334 c256_i32
  let c0_i32_528 : BitVec 32 := 0#32
  let v374 : BitVec 1 := Scalar.cmpi .sgt v335 c0_i32_528
  let v375 : BitVec 32 := Scalar.extui v374
  let c0_i32_529 : BitVec 32 := 0#32
  let v376 : BitVec 1 := Scalar.cmpi .slt v335 c0_i32_529
  let v377 : BitVec 32 := Scalar.extui v376
  let v378 : BitVec 32 := Scalar.subi v375 v377
  let c4_i32_527 : BitVec 32 := 4#32
  let c0_i32_530 : BitVec 32 := 0#32
  let v379 : BitVec 1 := Scalar.cmpi .sgt c4_i32_527 c0_i32_530
  let v380 : BitVec 32 := Scalar.extui v379
  let c0_i32_531 : BitVec 32 := 0#32
  let v381 : BitVec 1 := Scalar.cmpi .slt c4_i32_527 c0_i32_531
  let v382 : BitVec 32 := Scalar.extui v381
  let v383 : BitVec 32 := Scalar.subi v380 v382
  let v384 : BitVec 1 := Scalar.cmpi .ne v378 v383
  let v385 : BitVec 32 := Scalar.remsi v335 c4_i32_527
  let c0_i32_532 : BitVec 32 := 0#32
  let v386 : BitVec 1 := Scalar.cmpi .ne v385 c0_i32_532
  let v387 : BitVec 1 := Scalar.andi v384 v386
  let v373 : BitVec 32 := Scalar.divsi v335 c4_i32_527
  let c1_i32_533 : BitVec 32 := 1#32
  let v388 : BitVec 32 := Scalar.subi v373 c1_i32_533
  let v389 : BitVec 32 := Scalar.select v387 v388 v373
  let c1_i32_558 : BitVec 32 := 1#32
  let v438 : BitVec 32 := Scalar.addi v389 c1_i32_558
  let v439 : BitVec 32 := Scalar.subi c64_i32_559 v438
  let c1_i32_560 : BitVec 32 := 1#32
  let c1_i32_561 : BitVec 32 := 1#32
  let v440 : BitVec 32 := Scalar.subi c1_i32_560 c1_i32_561
  let v441 : BitVec 32 := Scalar.addi v439 v440
  let c1_i32_562 : BitVec 32 := 1#32
  let v442 : BitVec 32 := Scalar.divsi v441 c1_i32_562
  let v443 : BitVec 32 := Scalar.subi v442 c0_i32_564
  let c1_i32_565 : BitVec 32 := 1#32
  let v445 : BitVec 32 := Scalar.divsi v443 c1_i32_565
  let v446 : BitVec 32 := Scalar.muli v445 c1_i32_565
  let v447 : BitVec 32 := Scalar.addi c0_i32_564 v446
  let v444 : BitVec 32 := Scalar.addi c0_i32_564 v443
  let c1_i32_567 : BitVec 32 := 1#32
  ⟨v447, v444, c1_i32_567⟩
def k0_off27 (k0_t3 : Fin k0_t3_loop.trips) (k0_t4 : Fin k0_t4_loop.trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c0_i32_626 : BitVec 32 := 0#32
  let c0_i32_627 : BitVec 32 := 0#32
  let c0_i32_628 : BitVec 32 := 0#32
  ![v306.toNat, v325.toNat, 0, 0, 0]
def k0_off28 (v334 : BitVec 32) (k0_t8 : Fin (k0_t8_loop v334).trips) : Fin 3 → Nat :=
  let c256_i32 : BitVec 32 := 256#32
  let v335 : BitVec 32 := Scalar.remsi v334 c256_i32
  let c0_i32_528 : BitVec 32 := 0#32
  let v374 : BitVec 1 := Scalar.cmpi .sgt v335 c0_i32_528
  let v375 : BitVec 32 := Scalar.extui v374
  let c0_i32_529 : BitVec 32 := 0#32
  let v376 : BitVec 1 := Scalar.cmpi .slt v335 c0_i32_529
  let v377 : BitVec 32 := Scalar.extui v376
  let v378 : BitVec 32 := Scalar.subi v375 v377
  let c4_i32_527 : BitVec 32 := 4#32
  let c0_i32_530 : BitVec 32 := 0#32
  let v379 : BitVec 1 := Scalar.cmpi .sgt c4_i32_527 c0_i32_530
  let v380 : BitVec 32 := Scalar.extui v379
  let c0_i32_531 : BitVec 32 := 0#32
  let v381 : BitVec 1 := Scalar.cmpi .slt c4_i32_527 c0_i32_531
  let v382 : BitVec 32 := Scalar.extui v381
  let v383 : BitVec 32 := Scalar.subi v380 v382
  let v384 : BitVec 1 := Scalar.cmpi .ne v378 v383
  let v385 : BitVec 32 := Scalar.remsi v335 c4_i32_527
  let c0_i32_532 : BitVec 32 := 0#32
  let v386 : BitVec 1 := Scalar.cmpi .ne v385 c0_i32_532
  let v387 : BitVec 1 := Scalar.andi v384 v386
  let v373 : BitVec 32 := Scalar.divsi v335 c4_i32_527
  let c1_i32_533 : BitVec 32 := 1#32
  let v388 : BitVec 32 := Scalar.subi v373 c1_i32_533
  let v389 : BitVec 32 := Scalar.select v387 v388 v373
  let c1_i32_558 : BitVec 32 := 1#32
  let v438 : BitVec 32 := Scalar.addi v389 c1_i32_558
  let c0_i32_564 : BitVec 32 := 0#32
  let c64_i32_559 : BitVec 32 := 64#32
  let v439 : BitVec 32 := Scalar.subi c64_i32_559 v438
  let c1_i32_560 : BitVec 32 := 1#32
  let c1_i32_561 : BitVec 32 := 1#32
  let v440 : BitVec 32 := Scalar.subi c1_i32_560 c1_i32_561
  let v441 : BitVec 32 := Scalar.addi v439 v440
  let c1_i32_562 : BitVec 32 := 1#32
  let v442 : BitVec 32 := Scalar.divsi v441 c1_i32_562
  let v443 : BitVec 32 := Scalar.subi v442 c0_i32_564
  let c1_i32_565 : BitVec 32 := 1#32
  let v445 : BitVec 32 := Scalar.divsi v443 c1_i32_565
  let v446 : BitVec 32 := Scalar.muli v445 c1_i32_565
  let v447 : BitVec 32 := Scalar.addi c0_i32_564 v446
  let c1_i32_567 : BitVec 32 := 1#32
  let arg25 : BitVec 32 := Scf.iv v447 c1_i32_567 k0_t8
  let c1_i32_563 : BitVec 32 := 1#32
  let v560 : BitVec 32 := Scalar.muli arg25 c1_i32_563
  let v561 : BitVec 32 := Scalar.addi v438 v560
  let c4_i32_625 : BitVec 32 := 4#32
  let v563 : BitVec 32 := Scalar.muli v561 c4_i32_625
  let v566 : Index := Scalar.indexCast v563
  let c0_629 : Index := 0#32
  let c0_630 : Index := 0#32
  ![v566.toNat, 0, 0]
def k0_off29 (k0_t3 : Fin k0_t3_loop.trips) (k0_t4 : Fin k0_t4_loop.trips) (v334 : BitVec 32) (k0_t8 : Fin (k0_t8_loop v334).trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c256_i32 : BitVec 32 := 256#32
  let v335 : BitVec 32 := Scalar.remsi v334 c256_i32
  let c0_i32_528 : BitVec 32 := 0#32
  let v374 : BitVec 1 := Scalar.cmpi .sgt v335 c0_i32_528
  let v375 : BitVec 32 := Scalar.extui v374
  let c0_i32_529 : BitVec 32 := 0#32
  let v376 : BitVec 1 := Scalar.cmpi .slt v335 c0_i32_529
  let v377 : BitVec 32 := Scalar.extui v376
  let v378 : BitVec 32 := Scalar.subi v375 v377
  let c4_i32_527 : BitVec 32 := 4#32
  let c0_i32_530 : BitVec 32 := 0#32
  let v379 : BitVec 1 := Scalar.cmpi .sgt c4_i32_527 c0_i32_530
  let v380 : BitVec 32 := Scalar.extui v379
  let c0_i32_531 : BitVec 32 := 0#32
  let v381 : BitVec 1 := Scalar.cmpi .slt c4_i32_527 c0_i32_531
  let v382 : BitVec 32 := Scalar.extui v381
  let v383 : BitVec 32 := Scalar.subi v380 v382
  let v384 : BitVec 1 := Scalar.cmpi .ne v378 v383
  let v385 : BitVec 32 := Scalar.remsi v335 c4_i32_527
  let c0_i32_532 : BitVec 32 := 0#32
  let v386 : BitVec 1 := Scalar.cmpi .ne v385 c0_i32_532
  let v387 : BitVec 1 := Scalar.andi v384 v386
  let v373 : BitVec 32 := Scalar.divsi v335 c4_i32_527
  let c1_i32_533 : BitVec 32 := 1#32
  let v388 : BitVec 32 := Scalar.subi v373 c1_i32_533
  let v389 : BitVec 32 := Scalar.select v387 v388 v373
  let c1_i32_558 : BitVec 32 := 1#32
  let v438 : BitVec 32 := Scalar.addi v389 c1_i32_558
  let c0_i32_564 : BitVec 32 := 0#32
  let c64_i32_559 : BitVec 32 := 64#32
  let v439 : BitVec 32 := Scalar.subi c64_i32_559 v438
  let c1_i32_560 : BitVec 32 := 1#32
  let c1_i32_561 : BitVec 32 := 1#32
  let v440 : BitVec 32 := Scalar.subi c1_i32_560 c1_i32_561
  let v441 : BitVec 32 := Scalar.addi v439 v440
  let c1_i32_562 : BitVec 32 := 1#32
  let v442 : BitVec 32 := Scalar.divsi v441 c1_i32_562
  let v443 : BitVec 32 := Scalar.subi v442 c0_i32_564
  let c1_i32_565 : BitVec 32 := 1#32
  let v445 : BitVec 32 := Scalar.divsi v443 c1_i32_565
  let v446 : BitVec 32 := Scalar.muli v445 c1_i32_565
  let v447 : BitVec 32 := Scalar.addi c0_i32_564 v446
  let c1_i32_567 : BitVec 32 := 1#32
  let arg25 : BitVec 32 := Scf.iv v447 c1_i32_567 k0_t8
  let c1_i32_563 : BitVec 32 := 1#32
  let v560 : BitVec 32 := Scalar.muli arg25 c1_i32_563
  let v561 : BitVec 32 := Scalar.addi v438 v560
  let c4_i32_625 : BitVec 32 := 4#32
  let v563 : BitVec 32 := Scalar.muli v561 c4_i32_625
  let v566 : Index := Scalar.indexCast v563
  let c0_i32_627 : BitVec 32 := 0#32
  let c0_i32_628 : BitVec 32 := 0#32
  ![v306.toNat, v325.toNat, v566.toNat, 0, 0]
def k0_off30 (v329 : BitVec 32) : Fin 3 → Nat :=
  let v456 : Index := Scalar.indexCast v329
  let c0_572 : Index := 0#32
  let c0_573 : Index := 0#32
  ![v456.toNat, 0, 0]

def k0_chk3 (v329 : BitVec 32) : Prop :=
  (∀ (k0_h1 : k0_cond1 v329 = 1#1), ∀ a, (k0_off13 v329) a + S1.size a ≤ S48.size a) ∧
  (∀ (k0_h1 : k0_cond1 v329 = 1#1), ∀ a, (k0_off14 v329) a + S1x8x128.size a ≤ S48x8x128.size a) ∧
  (∀ (k0_h1 : k0_cond1 v329 = 1#1), ∀ a, (k0_off30 v329) a + S1x8x128.size a ≤ S48x8x128.size a)
theorem k0_off13_inb : ∀ (v329 : BitVec 32) (k0_hw3 : k0_chk3 v329), ∀ (k0_h1 : k0_cond1 v329 = 1#1), ∀ a, (k0_off13 v329) a + S1.size a ≤ S48.size a := fun v329 k0_hw3 k0_h1 => k0_hw3.1 k0_h1
theorem k0_off14_inb : ∀ (v329 : BitVec 32) (k0_hw3 : k0_chk3 v329), ∀ (k0_h1 : k0_cond1 v329 = 1#1), ∀ a, (k0_off14 v329) a + S1x8x128.size a ≤ S48x8x128.size a := fun v329 k0_hw3 k0_h1 => k0_hw3.2.1 k0_h1
theorem k0_off30_inb : ∀ (v329 : BitVec 32) (k0_hw3 : k0_chk3 v329), ∀ (k0_h1 : k0_cond1 v329 = 1#1), ∀ a, (k0_off30 v329) a + S1x8x128.size a ≤ S48x8x128.size a := fun v329 k0_hw3 k0_h1 => k0_hw3.2.2 k0_h1

@[reducible] def k0_t9_loop (v334 : BitVec 32) : Scf.Loop 32 :=
  let c0_i32_595 : BitVec 32 := 0#32
  let c256_i32 : BitVec 32 := 256#32
  let v335 : BitVec 32 := Scalar.remsi v334 c256_i32
  let c0_i32_583 : BitVec 32 := 0#32
  let v486 : BitVec 1 := Scalar.cmpi .sgt v335 c0_i32_583
  let v487 : BitVec 32 := Scalar.extui v486
  let c0_i32_584 : BitVec 32 := 0#32
  let v488 : BitVec 1 := Scalar.cmpi .slt v335 c0_i32_584
  let v489 : BitVec 32 := Scalar.extui v488
  let v490 : BitVec 32 := Scalar.subi v487 v489
  let c4_i32_582 : BitVec 32 := 4#32
  let c0_i32_585 : BitVec 32 := 0#32
  let v491 : BitVec 1 := Scalar.cmpi .sgt c4_i32_582 c0_i32_585
  let v492 : BitVec 32 := Scalar.extui v491
  let c0_i32_586 : BitVec 32 := 0#32
  let v493 : BitVec 1 := Scalar.cmpi .slt c4_i32_582 c0_i32_586
  let v494 : BitVec 32 := Scalar.extui v493
  let v495 : BitVec 32 := Scalar.subi v492 v494
  let v496 : BitVec 1 := Scalar.cmpi .ne v490 v495
  let v497 : BitVec 32 := Scalar.remsi v335 c4_i32_582
  let c0_i32_587 : BitVec 32 := 0#32
  let v498 : BitVec 1 := Scalar.cmpi .ne v497 c0_i32_587
  let v499 : BitVec 1 := Scalar.andi v496 v498
  let v485 : BitVec 32 := Scalar.divsi v335 c4_i32_582
  let c1_i32_588 : BitVec 32 := 1#32
  let v500 : BitVec 32 := Scalar.subi v485 c1_i32_588
  let v501 : BitVec 32 := Scalar.select v499 v500 v485
  let c0_i32_589 : BitVec 32 := 0#32
  let v502 : BitVec 32 := Scalar.subi v501 c0_i32_589
  let c1_i32_590 : BitVec 32 := 1#32
  let c1_i32_591 : BitVec 32 := 1#32
  let v503 : BitVec 32 := Scalar.subi c1_i32_590 c1_i32_591
  let v504 : BitVec 32 := Scalar.addi v502 v503
  let c1_i32_592 : BitVec 32 := 1#32
  let v505 : BitVec 32 := Scalar.divsi v504 c1_i32_592
  let v506 : BitVec 32 := Scalar.subi v505 c0_i32_595
  let c1_i32_596 : BitVec 32 := 1#32
  let v508 : BitVec 32 := Scalar.divsi v506 c1_i32_596
  let v509 : BitVec 32 := Scalar.muli v508 c1_i32_596
  let v510 : BitVec 32 := Scalar.addi c0_i32_595 v509
  let c1_i32_597 : BitVec 32 := 1#32
  ⟨c0_i32_595, v510, c1_i32_597⟩
def k0_off31 (k0_t3 : Fin k0_t3_loop.trips) (k0_t4 : Fin k0_t4_loop.trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c0_i32_626 : BitVec 32 := 0#32
  let c0_i32_627 : BitVec 32 := 0#32
  let c0_i32_628 : BitVec 32 := 0#32
  ![v306.toNat, v325.toNat, 0, 0, 0]
def k0_off32 (v334 : BitVec 32) (k0_t9 : Fin (k0_t9_loop v334).trips) : Fin 3 → Nat :=
  let c0_i32_594 : BitVec 32 := 0#32
  let c0_i32_595 : BitVec 32 := 0#32
  let c1_i32_597 : BitVec 32 := 1#32
  let arg25 : BitVec 32 := Scf.iv c0_i32_595 c1_i32_597 k0_t9
  let c1_i32_593 : BitVec 32 := 1#32
  let v560 : BitVec 32 := Scalar.muli arg25 c1_i32_593
  let v561 : BitVec 32 := Scalar.addi c0_i32_594 v560
  let c4_i32_625 : BitVec 32 := 4#32
  let v562 : BitVec 32 := Scalar.muli v561 c4_i32_625
  let v565 : Index := Scalar.indexCast v562
  let c0_629 : Index := 0#32
  let c0_630 : Index := 0#32
  ![v565.toNat, 0, 0]
def k0_off33 (k0_t3 : Fin k0_t3_loop.trips) (k0_t4 : Fin k0_t4_loop.trips) (v334 : BitVec 32) (k0_t9 : Fin (k0_t9_loop v334).trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c0_i32_594 : BitVec 32 := 0#32
  let c0_i32_595 : BitVec 32 := 0#32
  let c1_i32_597 : BitVec 32 := 1#32
  let arg25 : BitVec 32 := Scf.iv c0_i32_595 c1_i32_597 k0_t9
  let c1_i32_593 : BitVec 32 := 1#32
  let v560 : BitVec 32 := Scalar.muli arg25 c1_i32_593
  let v561 : BitVec 32 := Scalar.addi c0_i32_594 v560
  let c4_i32_633 : BitVec 32 := 4#32
  let v580 : BitVec 32 := Scalar.muli v561 c4_i32_633
  let v583 : Index := Scalar.indexCast v580
  let c0_i32_635 : BitVec 32 := 0#32
  let c0_i32_636 : BitVec 32 := 0#32
  ![v306.toNat, v325.toNat, v583.toNat, 0, 0]
@[reducible] def k0_t10_loop (v334 : BitVec 32) : Scf.Loop 32 :=
  let c0_i32_595 : BitVec 32 := 0#32
  let c256_i32 : BitVec 32 := 256#32
  let v335 : BitVec 32 := Scalar.remsi v334 c256_i32
  let c0_i32_583 : BitVec 32 := 0#32
  let v486 : BitVec 1 := Scalar.cmpi .sgt v335 c0_i32_583
  let v487 : BitVec 32 := Scalar.extui v486
  let c0_i32_584 : BitVec 32 := 0#32
  let v488 : BitVec 1 := Scalar.cmpi .slt v335 c0_i32_584
  let v489 : BitVec 32 := Scalar.extui v488
  let v490 : BitVec 32 := Scalar.subi v487 v489
  let c4_i32_582 : BitVec 32 := 4#32
  let c0_i32_585 : BitVec 32 := 0#32
  let v491 : BitVec 1 := Scalar.cmpi .sgt c4_i32_582 c0_i32_585
  let v492 : BitVec 32 := Scalar.extui v491
  let c0_i32_586 : BitVec 32 := 0#32
  let v493 : BitVec 1 := Scalar.cmpi .slt c4_i32_582 c0_i32_586
  let v494 : BitVec 32 := Scalar.extui v493
  let v495 : BitVec 32 := Scalar.subi v492 v494
  let v496 : BitVec 1 := Scalar.cmpi .ne v490 v495
  let v497 : BitVec 32 := Scalar.remsi v335 c4_i32_582
  let c0_i32_587 : BitVec 32 := 0#32
  let v498 : BitVec 1 := Scalar.cmpi .ne v497 c0_i32_587
  let v499 : BitVec 1 := Scalar.andi v496 v498
  let v485 : BitVec 32 := Scalar.divsi v335 c4_i32_582
  let c1_i32_588 : BitVec 32 := 1#32
  let v500 : BitVec 32 := Scalar.subi v485 c1_i32_588
  let v501 : BitVec 32 := Scalar.select v499 v500 v485
  let c0_i32_589 : BitVec 32 := 0#32
  let v502 : BitVec 32 := Scalar.subi v501 c0_i32_589
  let c1_i32_590 : BitVec 32 := 1#32
  let c1_i32_591 : BitVec 32 := 1#32
  let v503 : BitVec 32 := Scalar.subi c1_i32_590 c1_i32_591
  let v504 : BitVec 32 := Scalar.addi v502 v503
  let c1_i32_592 : BitVec 32 := 1#32
  let v505 : BitVec 32 := Scalar.divsi v504 c1_i32_592
  let v506 : BitVec 32 := Scalar.subi v505 c0_i32_595
  let c1_i32_596 : BitVec 32 := 1#32
  let v508 : BitVec 32 := Scalar.divsi v506 c1_i32_596
  let v509 : BitVec 32 := Scalar.muli v508 c1_i32_596
  let v510 : BitVec 32 := Scalar.addi c0_i32_595 v509
  let v507 : BitVec 32 := Scalar.addi c0_i32_595 v506
  let c1_i32_598 : BitVec 32 := 1#32
  ⟨v510, v507, c1_i32_598⟩
def k0_off34 (k0_t3 : Fin k0_t3_loop.trips) (k0_t4 : Fin k0_t4_loop.trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c0_i32_626 : BitVec 32 := 0#32
  let c0_i32_627 : BitVec 32 := 0#32
  let c0_i32_628 : BitVec 32 := 0#32
  ![v306.toNat, v325.toNat, 0, 0, 0]
def k0_off35 (v334 : BitVec 32) (k0_t10 : Fin (k0_t10_loop v334).trips) : Fin 3 → Nat :=
  let c0_i32_594 : BitVec 32 := 0#32
  let c0_i32_595 : BitVec 32 := 0#32
  let c256_i32 : BitVec 32 := 256#32
  let v335 : BitVec 32 := Scalar.remsi v334 c256_i32
  let c0_i32_583 : BitVec 32 := 0#32
  let v486 : BitVec 1 := Scalar.cmpi .sgt v335 c0_i32_583
  let v487 : BitVec 32 := Scalar.extui v486
  let c0_i32_584 : BitVec 32 := 0#32
  let v488 : BitVec 1 := Scalar.cmpi .slt v335 c0_i32_584
  let v489 : BitVec 32 := Scalar.extui v488
  let v490 : BitVec 32 := Scalar.subi v487 v489
  let c4_i32_582 : BitVec 32 := 4#32
  let c0_i32_585 : BitVec 32 := 0#32
  let v491 : BitVec 1 := Scalar.cmpi .sgt c4_i32_582 c0_i32_585
  let v492 : BitVec 32 := Scalar.extui v491
  let c0_i32_586 : BitVec 32 := 0#32
  let v493 : BitVec 1 := Scalar.cmpi .slt c4_i32_582 c0_i32_586
  let v494 : BitVec 32 := Scalar.extui v493
  let v495 : BitVec 32 := Scalar.subi v492 v494
  let v496 : BitVec 1 := Scalar.cmpi .ne v490 v495
  let v497 : BitVec 32 := Scalar.remsi v335 c4_i32_582
  let c0_i32_587 : BitVec 32 := 0#32
  let v498 : BitVec 1 := Scalar.cmpi .ne v497 c0_i32_587
  let v499 : BitVec 1 := Scalar.andi v496 v498
  let v485 : BitVec 32 := Scalar.divsi v335 c4_i32_582
  let c1_i32_588 : BitVec 32 := 1#32
  let v500 : BitVec 32 := Scalar.subi v485 c1_i32_588
  let v501 : BitVec 32 := Scalar.select v499 v500 v485
  let c0_i32_589 : BitVec 32 := 0#32
  let v502 : BitVec 32 := Scalar.subi v501 c0_i32_589
  let c1_i32_590 : BitVec 32 := 1#32
  let c1_i32_591 : BitVec 32 := 1#32
  let v503 : BitVec 32 := Scalar.subi c1_i32_590 c1_i32_591
  let v504 : BitVec 32 := Scalar.addi v502 v503
  let c1_i32_592 : BitVec 32 := 1#32
  let v505 : BitVec 32 := Scalar.divsi v504 c1_i32_592
  let v506 : BitVec 32 := Scalar.subi v505 c0_i32_595
  let c1_i32_596 : BitVec 32 := 1#32
  let v508 : BitVec 32 := Scalar.divsi v506 c1_i32_596
  let v509 : BitVec 32 := Scalar.muli v508 c1_i32_596
  let v510 : BitVec 32 := Scalar.addi c0_i32_595 v509
  let c1_i32_598 : BitVec 32 := 1#32
  let arg25 : BitVec 32 := Scf.iv v510 c1_i32_598 k0_t10
  let c1_i32_593 : BitVec 32 := 1#32
  let v560 : BitVec 32 := Scalar.muli arg25 c1_i32_593
  let v561 : BitVec 32 := Scalar.addi c0_i32_594 v560
  let c4_i32_625 : BitVec 32 := 4#32
  let v562 : BitVec 32 := Scalar.muli v561 c4_i32_625
  let v565 : Index := Scalar.indexCast v562
  let c0_629 : Index := 0#32
  let c0_630 : Index := 0#32
  ![v565.toNat, 0, 0]
def k0_off36 (k0_t3 : Fin k0_t3_loop.trips) (k0_t4 : Fin k0_t4_loop.trips) (v334 : BitVec 32) (k0_t10 : Fin (k0_t10_loop v334).trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c0_i32_594 : BitVec 32 := 0#32
  let c0_i32_595 : BitVec 32 := 0#32
  let c256_i32 : BitVec 32 := 256#32
  let v335 : BitVec 32 := Scalar.remsi v334 c256_i32
  let c0_i32_583 : BitVec 32 := 0#32
  let v486 : BitVec 1 := Scalar.cmpi .sgt v335 c0_i32_583
  let v487 : BitVec 32 := Scalar.extui v486
  let c0_i32_584 : BitVec 32 := 0#32
  let v488 : BitVec 1 := Scalar.cmpi .slt v335 c0_i32_584
  let v489 : BitVec 32 := Scalar.extui v488
  let v490 : BitVec 32 := Scalar.subi v487 v489
  let c4_i32_582 : BitVec 32 := 4#32
  let c0_i32_585 : BitVec 32 := 0#32
  let v491 : BitVec 1 := Scalar.cmpi .sgt c4_i32_582 c0_i32_585
  let v492 : BitVec 32 := Scalar.extui v491
  let c0_i32_586 : BitVec 32 := 0#32
  let v493 : BitVec 1 := Scalar.cmpi .slt c4_i32_582 c0_i32_586
  let v494 : BitVec 32 := Scalar.extui v493
  let v495 : BitVec 32 := Scalar.subi v492 v494
  let v496 : BitVec 1 := Scalar.cmpi .ne v490 v495
  let v497 : BitVec 32 := Scalar.remsi v335 c4_i32_582
  let c0_i32_587 : BitVec 32 := 0#32
  let v498 : BitVec 1 := Scalar.cmpi .ne v497 c0_i32_587
  let v499 : BitVec 1 := Scalar.andi v496 v498
  let v485 : BitVec 32 := Scalar.divsi v335 c4_i32_582
  let c1_i32_588 : BitVec 32 := 1#32
  let v500 : BitVec 32 := Scalar.subi v485 c1_i32_588
  let v501 : BitVec 32 := Scalar.select v499 v500 v485
  let c0_i32_589 : BitVec 32 := 0#32
  let v502 : BitVec 32 := Scalar.subi v501 c0_i32_589
  let c1_i32_590 : BitVec 32 := 1#32
  let c1_i32_591 : BitVec 32 := 1#32
  let v503 : BitVec 32 := Scalar.subi c1_i32_590 c1_i32_591
  let v504 : BitVec 32 := Scalar.addi v502 v503
  let c1_i32_592 : BitVec 32 := 1#32
  let v505 : BitVec 32 := Scalar.divsi v504 c1_i32_592
  let v506 : BitVec 32 := Scalar.subi v505 c0_i32_595
  let c1_i32_596 : BitVec 32 := 1#32
  let v508 : BitVec 32 := Scalar.divsi v506 c1_i32_596
  let v509 : BitVec 32 := Scalar.muli v508 c1_i32_596
  let v510 : BitVec 32 := Scalar.addi c0_i32_595 v509
  let c1_i32_598 : BitVec 32 := 1#32
  let arg25 : BitVec 32 := Scf.iv v510 c1_i32_598 k0_t10
  let c1_i32_593 : BitVec 32 := 1#32
  let v560 : BitVec 32 := Scalar.muli arg25 c1_i32_593
  let v561 : BitVec 32 := Scalar.addi c0_i32_594 v560
  let c4_i32_633 : BitVec 32 := 4#32
  let v580 : BitVec 32 := Scalar.muli v561 c4_i32_633
  let v583 : Index := Scalar.indexCast v580
  let c0_i32_635 : BitVec 32 := 0#32
  let c0_i32_636 : BitVec 32 := 0#32
  ![v306.toNat, v325.toNat, v583.toNat, 0, 0]
@[reducible] def k0_t11_loop (v334 : BitVec 32) : Scf.Loop 32 :=
  let c0_i32_621 : BitVec 32 := 0#32
  let c64_i32_616 : BitVec 32 := 64#32
  let c256_i32 : BitVec 32 := 256#32
  let v335 : BitVec 32 := Scalar.remsi v334 c256_i32
  let c0_i32_583 : BitVec 32 := 0#32
  let v486 : BitVec 1 := Scalar.cmpi .sgt v335 c0_i32_583
  let v487 : BitVec 32 := Scalar.extui v486
  let c0_i32_584 : BitVec 32 := 0#32
  let v488 : BitVec 1 := Scalar.cmpi .slt v335 c0_i32_584
  let v489 : BitVec 32 := Scalar.extui v488
  let v490 : BitVec 32 := Scalar.subi v487 v489
  let c4_i32_582 : BitVec 32 := 4#32
  let c0_i32_585 : BitVec 32 := 0#32
  let v491 : BitVec 1 := Scalar.cmpi .sgt c4_i32_582 c0_i32_585
  let v492 : BitVec 32 := Scalar.extui v491
  let c0_i32_586 : BitVec 32 := 0#32
  let v493 : BitVec 1 := Scalar.cmpi .slt c4_i32_582 c0_i32_586
  let v494 : BitVec 32 := Scalar.extui v493
  let v495 : BitVec 32 := Scalar.subi v492 v494
  let v496 : BitVec 1 := Scalar.cmpi .ne v490 v495
  let v497 : BitVec 32 := Scalar.remsi v335 c4_i32_582
  let c0_i32_587 : BitVec 32 := 0#32
  let v498 : BitVec 1 := Scalar.cmpi .ne v497 c0_i32_587
  let v499 : BitVec 1 := Scalar.andi v496 v498
  let v485 : BitVec 32 := Scalar.divsi v335 c4_i32_582
  let c1_i32_588 : BitVec 32 := 1#32
  let v500 : BitVec 32 := Scalar.subi v485 c1_i32_588
  let v501 : BitVec 32 := Scalar.select v499 v500 v485
  let c1_i32_615 : BitVec 32 := 1#32
  let v550 : BitVec 32 := Scalar.addi v501 c1_i32_615
  let v551 : BitVec 32 := Scalar.subi c64_i32_616 v550
  let c1_i32_617 : BitVec 32 := 1#32
  let c1_i32_618 : BitVec 32 := 1#32
  let v552 : BitVec 32 := Scalar.subi c1_i32_617 c1_i32_618
  let v553 : BitVec 32 := Scalar.addi v551 v552
  let c1_i32_619 : BitVec 32 := 1#32
  let v554 : BitVec 32 := Scalar.divsi v553 c1_i32_619
  let v555 : BitVec 32 := Scalar.subi v554 c0_i32_621
  let c1_i32_622 : BitVec 32 := 1#32
  let v557 : BitVec 32 := Scalar.divsi v555 c1_i32_622
  let v558 : BitVec 32 := Scalar.muli v557 c1_i32_622
  let v559 : BitVec 32 := Scalar.addi c0_i32_621 v558
  let c1_i32_623 : BitVec 32 := 1#32
  ⟨c0_i32_621, v559, c1_i32_623⟩
def k0_off37 (k0_t3 : Fin k0_t3_loop.trips) (k0_t4 : Fin k0_t4_loop.trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c0_i32_626 : BitVec 32 := 0#32
  let c0_i32_627 : BitVec 32 := 0#32
  let c0_i32_628 : BitVec 32 := 0#32
  ![v306.toNat, v325.toNat, 0, 0, 0]
def k0_off38 (v334 : BitVec 32) (k0_t11 : Fin (k0_t11_loop v334).trips) : Fin 3 → Nat :=
  let c256_i32 : BitVec 32 := 256#32
  let v335 : BitVec 32 := Scalar.remsi v334 c256_i32
  let c0_i32_583 : BitVec 32 := 0#32
  let v486 : BitVec 1 := Scalar.cmpi .sgt v335 c0_i32_583
  let v487 : BitVec 32 := Scalar.extui v486
  let c0_i32_584 : BitVec 32 := 0#32
  let v488 : BitVec 1 := Scalar.cmpi .slt v335 c0_i32_584
  let v489 : BitVec 32 := Scalar.extui v488
  let v490 : BitVec 32 := Scalar.subi v487 v489
  let c4_i32_582 : BitVec 32 := 4#32
  let c0_i32_585 : BitVec 32 := 0#32
  let v491 : BitVec 1 := Scalar.cmpi .sgt c4_i32_582 c0_i32_585
  let v492 : BitVec 32 := Scalar.extui v491
  let c0_i32_586 : BitVec 32 := 0#32
  let v493 : BitVec 1 := Scalar.cmpi .slt c4_i32_582 c0_i32_586
  let v494 : BitVec 32 := Scalar.extui v493
  let v495 : BitVec 32 := Scalar.subi v492 v494
  let v496 : BitVec 1 := Scalar.cmpi .ne v490 v495
  let v497 : BitVec 32 := Scalar.remsi v335 c4_i32_582
  let c0_i32_587 : BitVec 32 := 0#32
  let v498 : BitVec 1 := Scalar.cmpi .ne v497 c0_i32_587
  let v499 : BitVec 1 := Scalar.andi v496 v498
  let v485 : BitVec 32 := Scalar.divsi v335 c4_i32_582
  let c1_i32_588 : BitVec 32 := 1#32
  let v500 : BitVec 32 := Scalar.subi v485 c1_i32_588
  let v501 : BitVec 32 := Scalar.select v499 v500 v485
  let c1_i32_615 : BitVec 32 := 1#32
  let v550 : BitVec 32 := Scalar.addi v501 c1_i32_615
  let c0_i32_621 : BitVec 32 := 0#32
  let c1_i32_623 : BitVec 32 := 1#32
  let arg25 : BitVec 32 := Scf.iv c0_i32_621 c1_i32_623 k0_t11
  let c1_i32_620 : BitVec 32 := 1#32
  let v560 : BitVec 32 := Scalar.muli arg25 c1_i32_620
  let v561 : BitVec 32 := Scalar.addi v550 v560
  let c4_i32_625 : BitVec 32 := 4#32
  let v563 : BitVec 32 := Scalar.muli v561 c4_i32_625
  let v566 : Index := Scalar.indexCast v563
  let c0_629 : Index := 0#32
  let c0_630 : Index := 0#32
  ![v566.toNat, 0, 0]
def k0_off39 (k0_t3 : Fin k0_t3_loop.trips) (k0_t4 : Fin k0_t4_loop.trips) (v334 : BitVec 32) (k0_t11 : Fin (k0_t11_loop v334).trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c256_i32 : BitVec 32 := 256#32
  let v335 : BitVec 32 := Scalar.remsi v334 c256_i32
  let c0_i32_583 : BitVec 32 := 0#32
  let v486 : BitVec 1 := Scalar.cmpi .sgt v335 c0_i32_583
  let v487 : BitVec 32 := Scalar.extui v486
  let c0_i32_584 : BitVec 32 := 0#32
  let v488 : BitVec 1 := Scalar.cmpi .slt v335 c0_i32_584
  let v489 : BitVec 32 := Scalar.extui v488
  let v490 : BitVec 32 := Scalar.subi v487 v489
  let c4_i32_582 : BitVec 32 := 4#32
  let c0_i32_585 : BitVec 32 := 0#32
  let v491 : BitVec 1 := Scalar.cmpi .sgt c4_i32_582 c0_i32_585
  let v492 : BitVec 32 := Scalar.extui v491
  let c0_i32_586 : BitVec 32 := 0#32
  let v493 : BitVec 1 := Scalar.cmpi .slt c4_i32_582 c0_i32_586
  let v494 : BitVec 32 := Scalar.extui v493
  let v495 : BitVec 32 := Scalar.subi v492 v494
  let v496 : BitVec 1 := Scalar.cmpi .ne v490 v495
  let v497 : BitVec 32 := Scalar.remsi v335 c4_i32_582
  let c0_i32_587 : BitVec 32 := 0#32
  let v498 : BitVec 1 := Scalar.cmpi .ne v497 c0_i32_587
  let v499 : BitVec 1 := Scalar.andi v496 v498
  let v485 : BitVec 32 := Scalar.divsi v335 c4_i32_582
  let c1_i32_588 : BitVec 32 := 1#32
  let v500 : BitVec 32 := Scalar.subi v485 c1_i32_588
  let v501 : BitVec 32 := Scalar.select v499 v500 v485
  let c1_i32_615 : BitVec 32 := 1#32
  let v550 : BitVec 32 := Scalar.addi v501 c1_i32_615
  let c0_i32_621 : BitVec 32 := 0#32
  let c1_i32_623 : BitVec 32 := 1#32
  let arg25 : BitVec 32 := Scf.iv c0_i32_621 c1_i32_623 k0_t11
  let c1_i32_620 : BitVec 32 := 1#32
  let v560 : BitVec 32 := Scalar.muli arg25 c1_i32_620
  let v561 : BitVec 32 := Scalar.addi v550 v560
  let c4_i32_625 : BitVec 32 := 4#32
  let v563 : BitVec 32 := Scalar.muli v561 c4_i32_625
  let v566 : Index := Scalar.indexCast v563
  let c0_i32_627 : BitVec 32 := 0#32
  let c0_i32_628 : BitVec 32 := 0#32
  ![v306.toNat, v325.toNat, v566.toNat, 0, 0]
@[reducible] def k0_t12_loop (v334 : BitVec 32) : Scf.Loop 32 :=
  let c0_i32_621 : BitVec 32 := 0#32
  let c64_i32_616 : BitVec 32 := 64#32
  let c256_i32 : BitVec 32 := 256#32
  let v335 : BitVec 32 := Scalar.remsi v334 c256_i32
  let c0_i32_583 : BitVec 32 := 0#32
  let v486 : BitVec 1 := Scalar.cmpi .sgt v335 c0_i32_583
  let v487 : BitVec 32 := Scalar.extui v486
  let c0_i32_584 : BitVec 32 := 0#32
  let v488 : BitVec 1 := Scalar.cmpi .slt v335 c0_i32_584
  let v489 : BitVec 32 := Scalar.extui v488
  let v490 : BitVec 32 := Scalar.subi v487 v489
  let c4_i32_582 : BitVec 32 := 4#32
  let c0_i32_585 : BitVec 32 := 0#32
  let v491 : BitVec 1 := Scalar.cmpi .sgt c4_i32_582 c0_i32_585
  let v492 : BitVec 32 := Scalar.extui v491
  let c0_i32_586 : BitVec 32 := 0#32
  let v493 : BitVec 1 := Scalar.cmpi .slt c4_i32_582 c0_i32_586
  let v494 : BitVec 32 := Scalar.extui v493
  let v495 : BitVec 32 := Scalar.subi v492 v494
  let v496 : BitVec 1 := Scalar.cmpi .ne v490 v495
  let v497 : BitVec 32 := Scalar.remsi v335 c4_i32_582
  let c0_i32_587 : BitVec 32 := 0#32
  let v498 : BitVec 1 := Scalar.cmpi .ne v497 c0_i32_587
  let v499 : BitVec 1 := Scalar.andi v496 v498
  let v485 : BitVec 32 := Scalar.divsi v335 c4_i32_582
  let c1_i32_588 : BitVec 32 := 1#32
  let v500 : BitVec 32 := Scalar.subi v485 c1_i32_588
  let v501 : BitVec 32 := Scalar.select v499 v500 v485
  let c1_i32_615 : BitVec 32 := 1#32
  let v550 : BitVec 32 := Scalar.addi v501 c1_i32_615
  let v551 : BitVec 32 := Scalar.subi c64_i32_616 v550
  let c1_i32_617 : BitVec 32 := 1#32
  let c1_i32_618 : BitVec 32 := 1#32
  let v552 : BitVec 32 := Scalar.subi c1_i32_617 c1_i32_618
  let v553 : BitVec 32 := Scalar.addi v551 v552
  let c1_i32_619 : BitVec 32 := 1#32
  let v554 : BitVec 32 := Scalar.divsi v553 c1_i32_619
  let v555 : BitVec 32 := Scalar.subi v554 c0_i32_621
  let c1_i32_622 : BitVec 32 := 1#32
  let v557 : BitVec 32 := Scalar.divsi v555 c1_i32_622
  let v558 : BitVec 32 := Scalar.muli v557 c1_i32_622
  let v559 : BitVec 32 := Scalar.addi c0_i32_621 v558
  let v556 : BitVec 32 := Scalar.addi c0_i32_621 v555
  let c1_i32_624 : BitVec 32 := 1#32
  ⟨v559, v556, c1_i32_624⟩
def k0_off40 (k0_t3 : Fin k0_t3_loop.trips) (k0_t4 : Fin k0_t4_loop.trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c0_i32_626 : BitVec 32 := 0#32
  let c0_i32_627 : BitVec 32 := 0#32
  let c0_i32_628 : BitVec 32 := 0#32
  ![v306.toNat, v325.toNat, 0, 0, 0]
def k0_off41 (v334 : BitVec 32) (k0_t12 : Fin (k0_t12_loop v334).trips) : Fin 3 → Nat :=
  let c256_i32 : BitVec 32 := 256#32
  let v335 : BitVec 32 := Scalar.remsi v334 c256_i32
  let c0_i32_583 : BitVec 32 := 0#32
  let v486 : BitVec 1 := Scalar.cmpi .sgt v335 c0_i32_583
  let v487 : BitVec 32 := Scalar.extui v486
  let c0_i32_584 : BitVec 32 := 0#32
  let v488 : BitVec 1 := Scalar.cmpi .slt v335 c0_i32_584
  let v489 : BitVec 32 := Scalar.extui v488
  let v490 : BitVec 32 := Scalar.subi v487 v489
  let c4_i32_582 : BitVec 32 := 4#32
  let c0_i32_585 : BitVec 32 := 0#32
  let v491 : BitVec 1 := Scalar.cmpi .sgt c4_i32_582 c0_i32_585
  let v492 : BitVec 32 := Scalar.extui v491
  let c0_i32_586 : BitVec 32 := 0#32
  let v493 : BitVec 1 := Scalar.cmpi .slt c4_i32_582 c0_i32_586
  let v494 : BitVec 32 := Scalar.extui v493
  let v495 : BitVec 32 := Scalar.subi v492 v494
  let v496 : BitVec 1 := Scalar.cmpi .ne v490 v495
  let v497 : BitVec 32 := Scalar.remsi v335 c4_i32_582
  let c0_i32_587 : BitVec 32 := 0#32
  let v498 : BitVec 1 := Scalar.cmpi .ne v497 c0_i32_587
  let v499 : BitVec 1 := Scalar.andi v496 v498
  let v485 : BitVec 32 := Scalar.divsi v335 c4_i32_582
  let c1_i32_588 : BitVec 32 := 1#32
  let v500 : BitVec 32 := Scalar.subi v485 c1_i32_588
  let v501 : BitVec 32 := Scalar.select v499 v500 v485
  let c1_i32_615 : BitVec 32 := 1#32
  let v550 : BitVec 32 := Scalar.addi v501 c1_i32_615
  let c0_i32_621 : BitVec 32 := 0#32
  let c64_i32_616 : BitVec 32 := 64#32
  let v551 : BitVec 32 := Scalar.subi c64_i32_616 v550
  let c1_i32_617 : BitVec 32 := 1#32
  let c1_i32_618 : BitVec 32 := 1#32
  let v552 : BitVec 32 := Scalar.subi c1_i32_617 c1_i32_618
  let v553 : BitVec 32 := Scalar.addi v551 v552
  let c1_i32_619 : BitVec 32 := 1#32
  let v554 : BitVec 32 := Scalar.divsi v553 c1_i32_619
  let v555 : BitVec 32 := Scalar.subi v554 c0_i32_621
  let c1_i32_622 : BitVec 32 := 1#32
  let v557 : BitVec 32 := Scalar.divsi v555 c1_i32_622
  let v558 : BitVec 32 := Scalar.muli v557 c1_i32_622
  let v559 : BitVec 32 := Scalar.addi c0_i32_621 v558
  let c1_i32_624 : BitVec 32 := 1#32
  let arg25 : BitVec 32 := Scf.iv v559 c1_i32_624 k0_t12
  let c1_i32_620 : BitVec 32 := 1#32
  let v560 : BitVec 32 := Scalar.muli arg25 c1_i32_620
  let v561 : BitVec 32 := Scalar.addi v550 v560
  let c4_i32_625 : BitVec 32 := 4#32
  let v563 : BitVec 32 := Scalar.muli v561 c4_i32_625
  let v566 : Index := Scalar.indexCast v563
  let c0_629 : Index := 0#32
  let c0_630 : Index := 0#32
  ![v566.toNat, 0, 0]
def k0_off42 (k0_t3 : Fin k0_t3_loop.trips) (k0_t4 : Fin k0_t4_loop.trips) (v334 : BitVec 32) (k0_t12 : Fin (k0_t12_loop v334).trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c24_i32_484 : BitVec 32 := 24#32
  let v306 : BitVec 32 := Scalar.remsi v293 c24_i32_484
  let c0_i32_511 : BitVec 32 := 0#32
  let c0_i32_485 : BitVec 32 := 0#32
  let c1_i32_487 : BitVec 32 := 1#32
  let arg24 : BitVec 32 := Scf.iv c0_i32_485 c1_i32_487 k0_t4
  let c1_i32_510 : BitVec 32 := 1#32
  let v324 : BitVec 32 := Scalar.muli arg24 c1_i32_510
  let v325 : BitVec 32 := Scalar.addi c0_i32_511 v324
  let c256_i32 : BitVec 32 := 256#32
  let v335 : BitVec 32 := Scalar.remsi v334 c256_i32
  let c0_i32_583 : BitVec 32 := 0#32
  let v486 : BitVec 1 := Scalar.cmpi .sgt v335 c0_i32_583
  let v487 : BitVec 32 := Scalar.extui v486
  let c0_i32_584 : BitVec 32 := 0#32
  let v488 : BitVec 1 := Scalar.cmpi .slt v335 c0_i32_584
  let v489 : BitVec 32 := Scalar.extui v488
  let v490 : BitVec 32 := Scalar.subi v487 v489
  let c4_i32_582 : BitVec 32 := 4#32
  let c0_i32_585 : BitVec 32 := 0#32
  let v491 : BitVec 1 := Scalar.cmpi .sgt c4_i32_582 c0_i32_585
  let v492 : BitVec 32 := Scalar.extui v491
  let c0_i32_586 : BitVec 32 := 0#32
  let v493 : BitVec 1 := Scalar.cmpi .slt c4_i32_582 c0_i32_586
  let v494 : BitVec 32 := Scalar.extui v493
  let v495 : BitVec 32 := Scalar.subi v492 v494
  let v496 : BitVec 1 := Scalar.cmpi .ne v490 v495
  let v497 : BitVec 32 := Scalar.remsi v335 c4_i32_582
  let c0_i32_587 : BitVec 32 := 0#32
  let v498 : BitVec 1 := Scalar.cmpi .ne v497 c0_i32_587
  let v499 : BitVec 1 := Scalar.andi v496 v498
  let v485 : BitVec 32 := Scalar.divsi v335 c4_i32_582
  let c1_i32_588 : BitVec 32 := 1#32
  let v500 : BitVec 32 := Scalar.subi v485 c1_i32_588
  let v501 : BitVec 32 := Scalar.select v499 v500 v485
  let c1_i32_615 : BitVec 32 := 1#32
  let v550 : BitVec 32 := Scalar.addi v501 c1_i32_615
  let c0_i32_621 : BitVec 32 := 0#32
  let c64_i32_616 : BitVec 32 := 64#32
  let v551 : BitVec 32 := Scalar.subi c64_i32_616 v550
  let c1_i32_617 : BitVec 32 := 1#32
  let c1_i32_618 : BitVec 32 := 1#32
  let v552 : BitVec 32 := Scalar.subi c1_i32_617 c1_i32_618
  let v553 : BitVec 32 := Scalar.addi v551 v552
  let c1_i32_619 : BitVec 32 := 1#32
  let v554 : BitVec 32 := Scalar.divsi v553 c1_i32_619
  let v555 : BitVec 32 := Scalar.subi v554 c0_i32_621
  let c1_i32_622 : BitVec 32 := 1#32
  let v557 : BitVec 32 := Scalar.divsi v555 c1_i32_622
  let v558 : BitVec 32 := Scalar.muli v557 c1_i32_622
  let v559 : BitVec 32 := Scalar.addi c0_i32_621 v558
  let c1_i32_624 : BitVec 32 := 1#32
  let arg25 : BitVec 32 := Scf.iv v559 c1_i32_624 k0_t12
  let c1_i32_620 : BitVec 32 := 1#32
  let v560 : BitVec 32 := Scalar.muli arg25 c1_i32_620
  let v561 : BitVec 32 := Scalar.addi v550 v560
  let c4_i32_625 : BitVec 32 := 4#32
  let v563 : BitVec 32 := Scalar.muli v561 c4_i32_625
  let v566 : Index := Scalar.indexCast v563
  let c0_i32_627 : BitVec 32 := 0#32
  let c0_i32_628 : BitVec 32 := 0#32
  ![v306.toNat, v325.toNat, v566.toNat, 0, 0]

def k0_chk4_0 (k0_t3 : Fin k0_t3_loop.trips) (k0_t4 : Fin k0_t4_loop.trips) (v329 : BitVec 32) (v334 : BitVec 32) : Prop :=
  (∀ (k0_h1 : k0_cond1 v329 = 1#1), (k0_t5_loop v334).OK) ∧
  (∀ k0_t5 : Fin (k0_t5_loop v334).trips, ∀ (k0_h1 : k0_cond1 v329 = 1#1), ∀ a, (k0_off16 v334 k0_t5) a + S4x8x128.size a ≤ S256x8x128.size a) ∧
  (∀ k0_t5 : Fin (k0_t5_loop v334).trips, ∀ (k0_h1 : k0_cond1 v329 = 1#1), ∀ a, (k0_off17 k0_t3 k0_t4 v334 k0_t5) a + S1x1x4x8x128.size a ≤ S24x4x256x8x128.size a) ∧
  (∀ k0_t5 : Fin (k0_t5_loop v334).trips, ∀ (k0_h1 : k0_cond1 v329 = 1#1), ∀ (hinb : ∀ a, (k0_off17 k0_t3 k0_t4 v334 k0_t5) a + S1x1x4x8x128.size a ≤ S24x4x256x8x128.size a), (Rect.unit (s := S24x4x256x8x128) (k0_off17 k0_t3 k0_t4 v334 k0_t5) S1x1x4x8x128.size hinb).PackedRows (EltTy.packing .i8)) ∧
  (∀ (k0_h1 : k0_cond1 v329 = 1#1), (k0_t6_loop v334).OK) ∧
  (∀ k0_t6 : Fin (k0_t6_loop v334).trips, ∀ (k0_h1 : k0_cond1 v329 = 1#1), ∀ a, (k0_off19 v334 k0_t6) a + S4x8x128.size a ≤ S256x8x128.size a) ∧
  (∀ k0_t6 : Fin (k0_t6_loop v334).trips, ∀ (k0_h1 : k0_cond1 v329 = 1#1), ∀ a, (k0_off20 k0_t3 k0_t4 v334 k0_t6) a + S1x1x4x8x128.size a ≤ S24x4x256x8x128.size a) ∧
  (∀ k0_t6 : Fin (k0_t6_loop v334).trips, ∀ (k0_h1 : k0_cond1 v329 = 1#1), ∀ (hinb : ∀ a, (k0_off20 k0_t3 k0_t4 v334 k0_t6) a + S1x1x4x8x128.size a ≤ S24x4x256x8x128.size a), (Rect.unit (s := S24x4x256x8x128) (k0_off20 k0_t3 k0_t4 v334 k0_t6) S1x1x4x8x128.size hinb).PackedRows (EltTy.packing .i8)) ∧
  (∀ (k0_h1 : k0_cond1 v329 = 1#1), ∀ a, (k0_off22 v334) a + S4x8x128.size a ≤ S256x8x128.size a) ∧
  (∀ (k0_h1 : k0_cond1 v329 = 1#1), ∀ a, (k0_off23 k0_t3 k0_t4 v334) a + S1x1x4x8x128.size a ≤ S24x4x256x8x128.size a) ∧
  (∀ (k0_h1 : k0_cond1 v329 = 1#1), ∀ (hinb : ∀ a, (k0_off23 k0_t3 k0_t4 v334) a + S1x1x4x8x128.size a ≤ S24x4x256x8x128.size a), (Rect.unit (s := S24x4x256x8x128) (k0_off23 k0_t3 k0_t4 v334) S1x1x4x8x128.size hinb).PackedRows (EltTy.packing .i8)) ∧
  (∀ (k0_h1 : k0_cond1 v329 = 1#1), (k0_t7_loop v334).OK) ∧
  (∀ k0_t7 : Fin (k0_t7_loop v334).trips, ∀ (k0_h1 : k0_cond1 v329 = 1#1), ∀ a, (k0_off25 v334 k0_t7) a + S4x8x128.size a ≤ S256x8x128.size a) ∧
  (∀ k0_t7 : Fin (k0_t7_loop v334).trips, ∀ (k0_h1 : k0_cond1 v329 = 1#1), ∀ a, (k0_off26 k0_t3 k0_t4 v334 k0_t7) a + S1x1x4x8x128.size a ≤ S24x4x256x8x128.size a) ∧
  (∀ k0_t7 : Fin (k0_t7_loop v334).trips, ∀ (k0_h1 : k0_cond1 v329 = 1#1), ∀ (hinb : ∀ a, (k0_off26 k0_t3 k0_t4 v334 k0_t7) a + S1x1x4x8x128.size a ≤ S24x4x256x8x128.size a), (Rect.unit (s := S24x4x256x8x128) (k0_off26 k0_t3 k0_t4 v334 k0_t7) S1x1x4x8x128.size hinb).PackedRows (EltTy.packing .i8)) ∧
  (∀ (k0_h1 : k0_cond1 v329 = 1#1), (k0_t8_loop v334).OK) ∧
  (∀ k0_t8 : Fin (k0_t8_loop v334).trips, ∀ (k0_h1 : k0_cond1 v329 = 1#1), ∀ a, (k0_off28 v334 k0_t8) a + S4x8x128.size a ≤ S256x8x128.size a) ∧
  (∀ k0_t8 : Fin (k0_t8_loop v334).trips, ∀ (k0_h1 : k0_cond1 v329 = 1#1), ∀ a, (k0_off29 k0_t3 k0_t4 v334 k0_t8) a + S1x1x4x8x128.size a ≤ S24x4x256x8x128.size a) ∧
  (∀ k0_t8 : Fin (k0_t8_loop v334).trips, ∀ (k0_h1 : k0_cond1 v329 = 1#1), ∀ (hinb : ∀ a, (k0_off29 k0_t3 k0_t4 v334 k0_t8) a + S1x1x4x8x128.size a ≤ S24x4x256x8x128.size a), (Rect.unit (s := S24x4x256x8x128) (k0_off29 k0_t3 k0_t4 v334 k0_t8) S1x1x4x8x128.size hinb).PackedRows (EltTy.packing .i8)) ∧
  (∀ (k0_h1 : k0_cond1 v329 = 1#1), (k0_t9_loop v334).OK) ∧
  (∀ k0_t9 : Fin (k0_t9_loop v334).trips, ∀ (k0_h1 : k0_cond1 v329 = 1#1), ∀ a, (k0_off32 v334 k0_t9) a + S4x8x128.size a ≤ S256x8x128.size a) ∧
  (∀ k0_t9 : Fin (k0_t9_loop v334).trips, ∀ (k0_h1 : k0_cond1 v329 = 1#1), ∀ a, (k0_off33 k0_t3 k0_t4 v334 k0_t9) a + S1x1x4x8x128.size a ≤ S24x4x256x8x128.size a) ∧
  (∀ k0_t9 : Fin (k0_t9_loop v334).trips, ∀ (k0_h1 : k0_cond1 v329 = 1#1), ∀ (hinb : ∀ a, (k0_off33 k0_t3 k0_t4 v334 k0_t9) a + S1x1x4x8x128.size a ≤ S24x4x256x8x128.size a), (Rect.unit (s := S24x4x256x8x128) (k0_off33 k0_t3 k0_t4 v334 k0_t9) S1x1x4x8x128.size hinb).PackedRows (EltTy.packing .i8)) ∧
  (∀ (k0_h1 : k0_cond1 v329 = 1#1), (k0_t10_loop v334).OK) ∧
  (∀ k0_t10 : Fin (k0_t10_loop v334).trips, ∀ (k0_h1 : k0_cond1 v329 = 1#1), ∀ a, (k0_off35 v334 k0_t10) a + S4x8x128.size a ≤ S256x8x128.size a) ∧
  (∀ k0_t10 : Fin (k0_t10_loop v334).trips, ∀ (k0_h1 : k0_cond1 v329 = 1#1), ∀ a, (k0_off36 k0_t3 k0_t4 v334 k0_t10) a + S1x1x4x8x128.size a ≤ S24x4x256x8x128.size a) ∧
  (∀ k0_t10 : Fin (k0_t10_loop v334).trips, ∀ (k0_h1 : k0_cond1 v329 = 1#1), ∀ (hinb : ∀ a, (k0_off36 k0_t3 k0_t4 v334 k0_t10) a + S1x1x4x8x128.size a ≤ S24x4x256x8x128.size a), (Rect.unit (s := S24x4x256x8x128) (k0_off36 k0_t3 k0_t4 v334 k0_t10) S1x1x4x8x128.size hinb).PackedRows (EltTy.packing .i8)) ∧
  (∀ (k0_h1 : k0_cond1 v329 = 1#1), (k0_t11_loop v334).OK) ∧
  (∀ k0_t11 : Fin (k0_t11_loop v334).trips, ∀ (k0_h1 : k0_cond1 v329 = 1#1), ∀ a, (k0_off38 v334 k0_t11) a + S4x8x128.size a ≤ S256x8x128.size a) ∧
  (∀ k0_t11 : Fin (k0_t11_loop v334).trips, ∀ (k0_h1 : k0_cond1 v329 = 1#1), ∀ a, (k0_off39 k0_t3 k0_t4 v334 k0_t11) a + S1x1x4x8x128.size a ≤ S24x4x256x8x128.size a) ∧
  (∀ k0_t11 : Fin (k0_t11_loop v334).trips, ∀ (k0_h1 : k0_cond1 v329 = 1#1), ∀ (hinb : ∀ a, (k0_off39 k0_t3 k0_t4 v334 k0_t11) a + S1x1x4x8x128.size a ≤ S24x4x256x8x128.size a), (Rect.unit (s := S24x4x256x8x128) (k0_off39 k0_t3 k0_t4 v334 k0_t11) S1x1x4x8x128.size hinb).PackedRows (EltTy.packing .i8)) ∧
  (∀ (k0_h1 : k0_cond1 v329 = 1#1), (k0_t12_loop v334).OK)
def k0_chk4_1 (k0_t3 : Fin k0_t3_loop.trips) (k0_t4 : Fin k0_t4_loop.trips) (v329 : BitVec 32) (v334 : BitVec 32) : Prop :=
  (∀ k0_t12 : Fin (k0_t12_loop v334).trips, ∀ (k0_h1 : k0_cond1 v329 = 1#1), ∀ a, (k0_off41 v334 k0_t12) a + S4x8x128.size a ≤ S256x8x128.size a) ∧
  (∀ k0_t12 : Fin (k0_t12_loop v334).trips, ∀ (k0_h1 : k0_cond1 v329 = 1#1), ∀ a, (k0_off42 k0_t3 k0_t4 v334 k0_t12) a + S1x1x4x8x128.size a ≤ S24x4x256x8x128.size a) ∧
  (∀ k0_t12 : Fin (k0_t12_loop v334).trips, ∀ (k0_h1 : k0_cond1 v329 = 1#1), ∀ (hinb : ∀ a, (k0_off42 k0_t3 k0_t4 v334 k0_t12) a + S1x1x4x8x128.size a ≤ S24x4x256x8x128.size a), (Rect.unit (s := S24x4x256x8x128) (k0_off42 k0_t3 k0_t4 v334 k0_t12) S1x1x4x8x128.size hinb).PackedRows (EltTy.packing .i8))
def k0_chk4 (k0_t3 : Fin k0_t3_loop.trips) (k0_t4 : Fin k0_t4_loop.trips) (v329 : BitVec 32) (v334 : BitVec 32) : Prop :=
  k0_chk4_0 k0_t3 k0_t4 v329 v334 ∧
  k0_chk4_1 k0_t3 k0_t4 v329 v334
theorem k0_t5_ok : ∀ (k0_t3 : Fin k0_t3_loop.trips) (k0_t4 : Fin k0_t4_loop.trips) (v329 : BitVec 32) (v334 : BitVec 32) (k0_hw4 : k0_chk4 k0_t3 k0_t4 v329 v334), ∀ (k0_h1 : k0_cond1 v329 = 1#1), (k0_t5_loop v334).OK := fun k0_t3 k0_t4 v329 v334 k0_hw4 k0_h1 => k0_hw4.1.1 k0_h1
theorem k0_off16_inb : ∀ (k0_t3 : Fin k0_t3_loop.trips) (k0_t4 : Fin k0_t4_loop.trips) (v329 : BitVec 32) (v334 : BitVec 32) (k0_hw4 : k0_chk4 k0_t3 k0_t4 v329 v334) (k0_t5 : Fin (k0_t5_loop v334).trips), ∀ (k0_h1 : k0_cond1 v329 = 1#1), ∀ a, (k0_off16 v334 k0_t5) a + S4x8x128.size a ≤ S256x8x128.size a := fun k0_t3 k0_t4 v329 v334 k0_hw4 k0_t5 k0_h1 => k0_hw4.1.2.1 k0_t5 k0_h1
theorem k0_off17_inb : ∀ (k0_t3 : Fin k0_t3_loop.trips) (k0_t4 : Fin k0_t4_loop.trips) (v329 : BitVec 32) (v334 : BitVec 32) (k0_hw4 : k0_chk4 k0_t3 k0_t4 v329 v334) (k0_t5 : Fin (k0_t5_loop v334).trips), ∀ (k0_h1 : k0_cond1 v329 = 1#1), ∀ a, (k0_off17 k0_t3 k0_t4 v334 k0_t5) a + S1x1x4x8x128.size a ≤ S24x4x256x8x128.size a := fun k0_t3 k0_t4 v329 v334 k0_hw4 k0_t5 k0_h1 => k0_hw4.1.2.2.1 k0_t5 k0_h1
theorem k0_off17_packedi8 : ∀ (k0_t3 : Fin k0_t3_loop.trips) (k0_t4 : Fin k0_t4_loop.trips) (v329 : BitVec 32) (v334 : BitVec 32) (k0_hw4 : k0_chk4 k0_t3 k0_t4 v329 v334) (k0_t5 : Fin (k0_t5_loop v334).trips), ∀ (k0_h1 : k0_cond1 v329 = 1#1), (Rect.unit (s := S24x4x256x8x128) (k0_off17 k0_t3 k0_t4 v334 k0_t5) S1x1x4x8x128.size (k0_off17_inb k0_t3 k0_t4 v329 v334 k0_hw4 k0_t5 k0_h1)).PackedRows (EltTy.packing .i8) := fun k0_t3 k0_t4 v329 v334 k0_hw4 k0_t5 k0_h1 => k0_hw4.1.2.2.2.1 k0_t5 k0_h1 (k0_off17_inb k0_t3 k0_t4 v329 v334 k0_hw4 k0_t5 k0_h1)
theorem k0_t6_ok : ∀ (k0_t3 : Fin k0_t3_loop.trips) (k0_t4 : Fin k0_t4_loop.trips) (v329 : BitVec 32) (v334 : BitVec 32) (k0_hw4 : k0_chk4 k0_t3 k0_t4 v329 v334), ∀ (k0_h1 : k0_cond1 v329 = 1#1), (k0_t6_loop v334).OK := fun k0_t3 k0_t4 v329 v334 k0_hw4 k0_h1 => k0_hw4.1.2.2.2.2.1 k0_h1
theorem k0_off19_inb : ∀ (k0_t3 : Fin k0_t3_loop.trips) (k0_t4 : Fin k0_t4_loop.trips) (v329 : BitVec 32) (v334 : BitVec 32) (k0_hw4 : k0_chk4 k0_t3 k0_t4 v329 v334) (k0_t6 : Fin (k0_t6_loop v334).trips), ∀ (k0_h1 : k0_cond1 v329 = 1#1), ∀ a, (k0_off19 v334 k0_t6) a + S4x8x128.size a ≤ S256x8x128.size a := fun k0_t3 k0_t4 v329 v334 k0_hw4 k0_t6 k0_h1 => k0_hw4.1.2.2.2.2.2.1 k0_t6 k0_h1
theorem k0_off20_inb : ∀ (k0_t3 : Fin k0_t3_loop.trips) (k0_t4 : Fin k0_t4_loop.trips) (v329 : BitVec 32) (v334 : BitVec 32) (k0_hw4 : k0_chk4 k0_t3 k0_t4 v329 v334) (k0_t6 : Fin (k0_t6_loop v334).trips), ∀ (k0_h1 : k0_cond1 v329 = 1#1), ∀ a, (k0_off20 k0_t3 k0_t4 v334 k0_t6) a + S1x1x4x8x128.size a ≤ S24x4x256x8x128.size a := fun k0_t3 k0_t4 v329 v334 k0_hw4 k0_t6 k0_h1 => k0_hw4.1.2.2.2.2.2.2.1 k0_t6 k0_h1
theorem k0_off20_packedi8 : ∀ (k0_t3 : Fin k0_t3_loop.trips) (k0_t4 : Fin k0_t4_loop.trips) (v329 : BitVec 32) (v334 : BitVec 32) (k0_hw4 : k0_chk4 k0_t3 k0_t4 v329 v334) (k0_t6 : Fin (k0_t6_loop v334).trips), ∀ (k0_h1 : k0_cond1 v329 = 1#1), (Rect.unit (s := S24x4x256x8x128) (k0_off20 k0_t3 k0_t4 v334 k0_t6) S1x1x4x8x128.size (k0_off20_inb k0_t3 k0_t4 v329 v334 k0_hw4 k0_t6 k0_h1)).PackedRows (EltTy.packing .i8) := fun k0_t3 k0_t4 v329 v334 k0_hw4 k0_t6 k0_h1 => k0_hw4.1.2.2.2.2.2.2.2.1 k0_t6 k0_h1 (k0_off20_inb k0_t3 k0_t4 v329 v334 k0_hw4 k0_t6 k0_h1)
theorem k0_off22_inb : ∀ (k0_t3 : Fin k0_t3_loop.trips) (k0_t4 : Fin k0_t4_loop.trips) (v329 : BitVec 32) (v334 : BitVec 32) (k0_hw4 : k0_chk4 k0_t3 k0_t4 v329 v334), ∀ (k0_h1 : k0_cond1 v329 = 1#1), ∀ a, (k0_off22 v334) a + S4x8x128.size a ≤ S256x8x128.size a := fun k0_t3 k0_t4 v329 v334 k0_hw4 k0_h1 => k0_hw4.1.2.2.2.2.2.2.2.2.1 k0_h1
theorem k0_off23_inb : ∀ (k0_t3 : Fin k0_t3_loop.trips) (k0_t4 : Fin k0_t4_loop.trips) (v329 : BitVec 32) (v334 : BitVec 32) (k0_hw4 : k0_chk4 k0_t3 k0_t4 v329 v334), ∀ (k0_h1 : k0_cond1 v329 = 1#1), ∀ a, (k0_off23 k0_t3 k0_t4 v334) a + S1x1x4x8x128.size a ≤ S24x4x256x8x128.size a := fun k0_t3 k0_t4 v329 v334 k0_hw4 k0_h1 => k0_hw4.1.2.2.2.2.2.2.2.2.2.1 k0_h1
theorem k0_off23_packedi8 : ∀ (k0_t3 : Fin k0_t3_loop.trips) (k0_t4 : Fin k0_t4_loop.trips) (v329 : BitVec 32) (v334 : BitVec 32) (k0_hw4 : k0_chk4 k0_t3 k0_t4 v329 v334), ∀ (k0_h1 : k0_cond1 v329 = 1#1), (Rect.unit (s := S24x4x256x8x128) (k0_off23 k0_t3 k0_t4 v334) S1x1x4x8x128.size (k0_off23_inb k0_t3 k0_t4 v329 v334 k0_hw4 k0_h1)).PackedRows (EltTy.packing .i8) := fun k0_t3 k0_t4 v329 v334 k0_hw4 k0_h1 => k0_hw4.1.2.2.2.2.2.2.2.2.2.2.1 k0_h1 (k0_off23_inb k0_t3 k0_t4 v329 v334 k0_hw4 k0_h1)
theorem k0_t7_ok : ∀ (k0_t3 : Fin k0_t3_loop.trips) (k0_t4 : Fin k0_t4_loop.trips) (v329 : BitVec 32) (v334 : BitVec 32) (k0_hw4 : k0_chk4 k0_t3 k0_t4 v329 v334), ∀ (k0_h1 : k0_cond1 v329 = 1#1), (k0_t7_loop v334).OK := fun k0_t3 k0_t4 v329 v334 k0_hw4 k0_h1 => k0_hw4.1.2.2.2.2.2.2.2.2.2.2.2.1 k0_h1
theorem k0_off25_inb : ∀ (k0_t3 : Fin k0_t3_loop.trips) (k0_t4 : Fin k0_t4_loop.trips) (v329 : BitVec 32) (v334 : BitVec 32) (k0_hw4 : k0_chk4 k0_t3 k0_t4 v329 v334) (k0_t7 : Fin (k0_t7_loop v334).trips), ∀ (k0_h1 : k0_cond1 v329 = 1#1), ∀ a, (k0_off25 v334 k0_t7) a + S4x8x128.size a ≤ S256x8x128.size a := fun k0_t3 k0_t4 v329 v334 k0_hw4 k0_t7 k0_h1 => k0_hw4.1.2.2.2.2.2.2.2.2.2.2.2.2.1 k0_t7 k0_h1
theorem k0_off26_inb : ∀ (k0_t3 : Fin k0_t3_loop.trips) (k0_t4 : Fin k0_t4_loop.trips) (v329 : BitVec 32) (v334 : BitVec 32) (k0_hw4 : k0_chk4 k0_t3 k0_t4 v329 v334) (k0_t7 : Fin (k0_t7_loop v334).trips), ∀ (k0_h1 : k0_cond1 v329 = 1#1), ∀ a, (k0_off26 k0_t3 k0_t4 v334 k0_t7) a + S1x1x4x8x128.size a ≤ S24x4x256x8x128.size a := fun k0_t3 k0_t4 v329 v334 k0_hw4 k0_t7 k0_h1 => k0_hw4.1.2.2.2.2.2.2.2.2.2.2.2.2.2.1 k0_t7 k0_h1
theorem k0_off26_packedi8 : ∀ (k0_t3 : Fin k0_t3_loop.trips) (k0_t4 : Fin k0_t4_loop.trips) (v329 : BitVec 32) (v334 : BitVec 32) (k0_hw4 : k0_chk4 k0_t3 k0_t4 v329 v334) (k0_t7 : Fin (k0_t7_loop v334).trips), ∀ (k0_h1 : k0_cond1 v329 = 1#1), (Rect.unit (s := S24x4x256x8x128) (k0_off26 k0_t3 k0_t4 v334 k0_t7) S1x1x4x8x128.size (k0_off26_inb k0_t3 k0_t4 v329 v334 k0_hw4 k0_t7 k0_h1)).PackedRows (EltTy.packing .i8) := fun k0_t3 k0_t4 v329 v334 k0_hw4 k0_t7 k0_h1 => k0_hw4.1.2.2.2.2.2.2.2.2.2.2.2.2.2.2.1 k0_t7 k0_h1 (k0_off26_inb k0_t3 k0_t4 v329 v334 k0_hw4 k0_t7 k0_h1)
theorem k0_t8_ok : ∀ (k0_t3 : Fin k0_t3_loop.trips) (k0_t4 : Fin k0_t4_loop.trips) (v329 : BitVec 32) (v334 : BitVec 32) (k0_hw4 : k0_chk4 k0_t3 k0_t4 v329 v334), ∀ (k0_h1 : k0_cond1 v329 = 1#1), (k0_t8_loop v334).OK := fun k0_t3 k0_t4 v329 v334 k0_hw4 k0_h1 => k0_hw4.1.2.2.2.2.2.2.2.2.2.2.2.2.2.2.2.1 k0_h1
theorem k0_off28_inb : ∀ (k0_t3 : Fin k0_t3_loop.trips) (k0_t4 : Fin k0_t4_loop.trips) (v329 : BitVec 32) (v334 : BitVec 32) (k0_hw4 : k0_chk4 k0_t3 k0_t4 v329 v334) (k0_t8 : Fin (k0_t8_loop v334).trips), ∀ (k0_h1 : k0_cond1 v329 = 1#1), ∀ a, (k0_off28 v334 k0_t8) a + S4x8x128.size a ≤ S256x8x128.size a := fun k0_t3 k0_t4 v329 v334 k0_hw4 k0_t8 k0_h1 => k0_hw4.1.2.2.2.2.2.2.2.2.2.2.2.2.2.2.2.2.1 k0_t8 k0_h1
theorem k0_off29_inb : ∀ (k0_t3 : Fin k0_t3_loop.trips) (k0_t4 : Fin k0_t4_loop.trips) (v329 : BitVec 32) (v334 : BitVec 32) (k0_hw4 : k0_chk4 k0_t3 k0_t4 v329 v334) (k0_t8 : Fin (k0_t8_loop v334).trips), ∀ (k0_h1 : k0_cond1 v329 = 1#1), ∀ a, (k0_off29 k0_t3 k0_t4 v334 k0_t8) a + S1x1x4x8x128.size a ≤ S24x4x256x8x128.size a := fun k0_t3 k0_t4 v329 v334 k0_hw4 k0_t8 k0_h1 => k0_hw4.1.2.2.2.2.2.2.2.2.2.2.2.2.2.2.2.2.2.1 k0_t8 k0_h1
theorem k0_off29_packedi8 : ∀ (k0_t3 : Fin k0_t3_loop.trips) (k0_t4 : Fin k0_t4_loop.trips) (v329 : BitVec 32) (v334 : BitVec 32) (k0_hw4 : k0_chk4 k0_t3 k0_t4 v329 v334) (k0_t8 : Fin (k0_t8_loop v334).trips), ∀ (k0_h1 : k0_cond1 v329 = 1#1), (Rect.unit (s := S24x4x256x8x128) (k0_off29 k0_t3 k0_t4 v334 k0_t8) S1x1x4x8x128.size (k0_off29_inb k0_t3 k0_t4 v329 v334 k0_hw4 k0_t8 k0_h1)).PackedRows (EltTy.packing .i8) := fun k0_t3 k0_t4 v329 v334 k0_hw4 k0_t8 k0_h1 => k0_hw4.1.2.2.2.2.2.2.2.2.2.2.2.2.2.2.2.2.2.2.1 k0_t8 k0_h1 (k0_off29_inb k0_t3 k0_t4 v329 v334 k0_hw4 k0_t8 k0_h1)
theorem k0_t9_ok : ∀ (k0_t3 : Fin k0_t3_loop.trips) (k0_t4 : Fin k0_t4_loop.trips) (v329 : BitVec 32) (v334 : BitVec 32) (k0_hw4 : k0_chk4 k0_t3 k0_t4 v329 v334), ∀ (k0_h1 : k0_cond1 v329 = 1#1), (k0_t9_loop v334).OK := fun k0_t3 k0_t4 v329 v334 k0_hw4 k0_h1 => k0_hw4.1.2.2.2.2.2.2.2.2.2.2.2.2.2.2.2.2.2.2.2.1 k0_h1
theorem k0_off32_inb : ∀ (k0_t3 : Fin k0_t3_loop.trips) (k0_t4 : Fin k0_t4_loop.trips) (v329 : BitVec 32) (v334 : BitVec 32) (k0_hw4 : k0_chk4 k0_t3 k0_t4 v329 v334) (k0_t9 : Fin (k0_t9_loop v334).trips), ∀ (k0_h1 : k0_cond1 v329 = 1#1), ∀ a, (k0_off32 v334 k0_t9) a + S4x8x128.size a ≤ S256x8x128.size a := fun k0_t3 k0_t4 v329 v334 k0_hw4 k0_t9 k0_h1 => k0_hw4.1.2.2.2.2.2.2.2.2.2.2.2.2.2.2.2.2.2.2.2.2.1 k0_t9 k0_h1
theorem k0_off33_inb : ∀ (k0_t3 : Fin k0_t3_loop.trips) (k0_t4 : Fin k0_t4_loop.trips) (v329 : BitVec 32) (v334 : BitVec 32) (k0_hw4 : k0_chk4 k0_t3 k0_t4 v329 v334) (k0_t9 : Fin (k0_t9_loop v334).trips), ∀ (k0_h1 : k0_cond1 v329 = 1#1), ∀ a, (k0_off33 k0_t3 k0_t4 v334 k0_t9) a + S1x1x4x8x128.size a ≤ S24x4x256x8x128.size a := fun k0_t3 k0_t4 v329 v334 k0_hw4 k0_t9 k0_h1 => k0_hw4.1.2.2.2.2.2.2.2.2.2.2.2.2.2.2.2.2.2.2.2.2.2.1 k0_t9 k0_h1
theorem k0_off33_packedi8 : ∀ (k0_t3 : Fin k0_t3_loop.trips) (k0_t4 : Fin k0_t4_loop.trips) (v329 : BitVec 32) (v334 : BitVec 32) (k0_hw4 : k0_chk4 k0_t3 k0_t4 v329 v334) (k0_t9 : Fin (k0_t9_loop v334).trips), ∀ (k0_h1 : k0_cond1 v329 = 1#1), (Rect.unit (s := S24x4x256x8x128) (k0_off33 k0_t3 k0_t4 v334 k0_t9) S1x1x4x8x128.size (k0_off33_inb k0_t3 k0_t4 v329 v334 k0_hw4 k0_t9 k0_h1)).PackedRows (EltTy.packing .i8) := fun k0_t3 k0_t4 v329 v334 k0_hw4 k0_t9 k0_h1 => k0_hw4.1.2.2.2.2.2.2.2.2.2.2.2.2.2.2.2.2.2.2.2.2.2.2.1 k0_t9 k0_h1 (k0_off33_inb k0_t3 k0_t4 v329 v334 k0_hw4 k0_t9 k0_h1)
theorem k0_t10_ok : ∀ (k0_t3 : Fin k0_t3_loop.trips) (k0_t4 : Fin k0_t4_loop.trips) (v329 : BitVec 32) (v334 : BitVec 32) (k0_hw4 : k0_chk4 k0_t3 k0_t4 v329 v334), ∀ (k0_h1 : k0_cond1 v329 = 1#1), (k0_t10_loop v334).OK := fun k0_t3 k0_t4 v329 v334 k0_hw4 k0_h1 => k0_hw4.1.2.2.2.2.2.2.2.2.2.2.2.2.2.2.2.2.2.2.2.2.2.2.2.1 k0_h1
theorem k0_off35_inb : ∀ (k0_t3 : Fin k0_t3_loop.trips) (k0_t4 : Fin k0_t4_loop.trips) (v329 : BitVec 32) (v334 : BitVec 32) (k0_hw4 : k0_chk4 k0_t3 k0_t4 v329 v334) (k0_t10 : Fin (k0_t10_loop v334).trips), ∀ (k0_h1 : k0_cond1 v329 = 1#1), ∀ a, (k0_off35 v334 k0_t10) a + S4x8x128.size a ≤ S256x8x128.size a := fun k0_t3 k0_t4 v329 v334 k0_hw4 k0_t10 k0_h1 => k0_hw4.1.2.2.2.2.2.2.2.2.2.2.2.2.2.2.2.2.2.2.2.2.2.2.2.2.1 k0_t10 k0_h1
theorem k0_off36_inb : ∀ (k0_t3 : Fin k0_t3_loop.trips) (k0_t4 : Fin k0_t4_loop.trips) (v329 : BitVec 32) (v334 : BitVec 32) (k0_hw4 : k0_chk4 k0_t3 k0_t4 v329 v334) (k0_t10 : Fin (k0_t10_loop v334).trips), ∀ (k0_h1 : k0_cond1 v329 = 1#1), ∀ a, (k0_off36 k0_t3 k0_t4 v334 k0_t10) a + S1x1x4x8x128.size a ≤ S24x4x256x8x128.size a := fun k0_t3 k0_t4 v329 v334 k0_hw4 k0_t10 k0_h1 => k0_hw4.1.2.2.2.2.2.2.2.2.2.2.2.2.2.2.2.2.2.2.2.2.2.2.2.2.2.1 k0_t10 k0_h1
theorem k0_off36_packedi8 : ∀ (k0_t3 : Fin k0_t3_loop.trips) (k0_t4 : Fin k0_t4_loop.trips) (v329 : BitVec 32) (v334 : BitVec 32) (k0_hw4 : k0_chk4 k0_t3 k0_t4 v329 v334) (k0_t10 : Fin (k0_t10_loop v334).trips), ∀ (k0_h1 : k0_cond1 v329 = 1#1), (Rect.unit (s := S24x4x256x8x128) (k0_off36 k0_t3 k0_t4 v334 k0_t10) S1x1x4x8x128.size (k0_off36_inb k0_t3 k0_t4 v329 v334 k0_hw4 k0_t10 k0_h1)).PackedRows (EltTy.packing .i8) := fun k0_t3 k0_t4 v329 v334 k0_hw4 k0_t10 k0_h1 => k0_hw4.1.2.2.2.2.2.2.2.2.2.2.2.2.2.2.2.2.2.2.2.2.2.2.2.2.2.2.1 k0_t10 k0_h1 (k0_off36_inb k0_t3 k0_t4 v329 v334 k0_hw4 k0_t10 k0_h1)
theorem k0_t11_ok : ∀ (k0_t3 : Fin k0_t3_loop.trips) (k0_t4 : Fin k0_t4_loop.trips) (v329 : BitVec 32) (v334 : BitVec 32) (k0_hw4 : k0_chk4 k0_t3 k0_t4 v329 v334), ∀ (k0_h1 : k0_cond1 v329 = 1#1), (k0_t11_loop v334).OK := fun k0_t3 k0_t4 v329 v334 k0_hw4 k0_h1 => k0_hw4.1.2.2.2.2.2.2.2.2.2.2.2.2.2.2.2.2.2.2.2.2.2.2.2.2.2.2.2.1 k0_h1
theorem k0_off38_inb : ∀ (k0_t3 : Fin k0_t3_loop.trips) (k0_t4 : Fin k0_t4_loop.trips) (v329 : BitVec 32) (v334 : BitVec 32) (k0_hw4 : k0_chk4 k0_t3 k0_t4 v329 v334) (k0_t11 : Fin (k0_t11_loop v334).trips), ∀ (k0_h1 : k0_cond1 v329 = 1#1), ∀ a, (k0_off38 v334 k0_t11) a + S4x8x128.size a ≤ S256x8x128.size a := fun k0_t3 k0_t4 v329 v334 k0_hw4 k0_t11 k0_h1 => k0_hw4.1.2.2.2.2.2.2.2.2.2.2.2.2.2.2.2.2.2.2.2.2.2.2.2.2.2.2.2.2.1 k0_t11 k0_h1
theorem k0_off39_inb : ∀ (k0_t3 : Fin k0_t3_loop.trips) (k0_t4 : Fin k0_t4_loop.trips) (v329 : BitVec 32) (v334 : BitVec 32) (k0_hw4 : k0_chk4 k0_t3 k0_t4 v329 v334) (k0_t11 : Fin (k0_t11_loop v334).trips), ∀ (k0_h1 : k0_cond1 v329 = 1#1), ∀ a, (k0_off39 k0_t3 k0_t4 v334 k0_t11) a + S1x1x4x8x128.size a ≤ S24x4x256x8x128.size a := fun k0_t3 k0_t4 v329 v334 k0_hw4 k0_t11 k0_h1 => k0_hw4.1.2.2.2.2.2.2.2.2.2.2.2.2.2.2.2.2.2.2.2.2.2.2.2.2.2.2.2.2.2.1 k0_t11 k0_h1
theorem k0_off39_packedi8 : ∀ (k0_t3 : Fin k0_t3_loop.trips) (k0_t4 : Fin k0_t4_loop.trips) (v329 : BitVec 32) (v334 : BitVec 32) (k0_hw4 : k0_chk4 k0_t3 k0_t4 v329 v334) (k0_t11 : Fin (k0_t11_loop v334).trips), ∀ (k0_h1 : k0_cond1 v329 = 1#1), (Rect.unit (s := S24x4x256x8x128) (k0_off39 k0_t3 k0_t4 v334 k0_t11) S1x1x4x8x128.size (k0_off39_inb k0_t3 k0_t4 v329 v334 k0_hw4 k0_t11 k0_h1)).PackedRows (EltTy.packing .i8) := fun k0_t3 k0_t4 v329 v334 k0_hw4 k0_t11 k0_h1 => k0_hw4.1.2.2.2.2.2.2.2.2.2.2.2.2.2.2.2.2.2.2.2.2.2.2.2.2.2.2.2.2.2.2.1 k0_t11 k0_h1 (k0_off39_inb k0_t3 k0_t4 v329 v334 k0_hw4 k0_t11 k0_h1)
theorem k0_t12_ok : ∀ (k0_t3 : Fin k0_t3_loop.trips) (k0_t4 : Fin k0_t4_loop.trips) (v329 : BitVec 32) (v334 : BitVec 32) (k0_hw4 : k0_chk4 k0_t3 k0_t4 v329 v334), ∀ (k0_h1 : k0_cond1 v329 = 1#1), (k0_t12_loop v334).OK := fun k0_t3 k0_t4 v329 v334 k0_hw4 k0_h1 => k0_hw4.1.2.2.2.2.2.2.2.2.2.2.2.2.2.2.2.2.2.2.2.2.2.2.2.2.2.2.2.2.2.2.2 k0_h1
theorem k0_off41_inb : ∀ (k0_t3 : Fin k0_t3_loop.trips) (k0_t4 : Fin k0_t4_loop.trips) (v329 : BitVec 32) (v334 : BitVec 32) (k0_hw4 : k0_chk4 k0_t3 k0_t4 v329 v334) (k0_t12 : Fin (k0_t12_loop v334).trips), ∀ (k0_h1 : k0_cond1 v329 = 1#1), ∀ a, (k0_off41 v334 k0_t12) a + S4x8x128.size a ≤ S256x8x128.size a := fun k0_t3 k0_t4 v329 v334 k0_hw4 k0_t12 k0_h1 => k0_hw4.2.1 k0_t12 k0_h1
theorem k0_off42_inb : ∀ (k0_t3 : Fin k0_t3_loop.trips) (k0_t4 : Fin k0_t4_loop.trips) (v329 : BitVec 32) (v334 : BitVec 32) (k0_hw4 : k0_chk4 k0_t3 k0_t4 v329 v334) (k0_t12 : Fin (k0_t12_loop v334).trips), ∀ (k0_h1 : k0_cond1 v329 = 1#1), ∀ a, (k0_off42 k0_t3 k0_t4 v334 k0_t12) a + S1x1x4x8x128.size a ≤ S24x4x256x8x128.size a := fun k0_t3 k0_t4 v329 v334 k0_hw4 k0_t12 k0_h1 => k0_hw4.2.2.1 k0_t12 k0_h1
theorem k0_off42_packedi8 : ∀ (k0_t3 : Fin k0_t3_loop.trips) (k0_t4 : Fin k0_t4_loop.trips) (v329 : BitVec 32) (v334 : BitVec 32) (k0_hw4 : k0_chk4 k0_t3 k0_t4 v329 v334) (k0_t12 : Fin (k0_t12_loop v334).trips), ∀ (k0_h1 : k0_cond1 v329 = 1#1), (Rect.unit (s := S24x4x256x8x128) (k0_off42 k0_t3 k0_t4 v334 k0_t12) S1x1x4x8x128.size (k0_off42_inb k0_t3 k0_t4 v329 v334 k0_hw4 k0_t12 k0_h1)).PackedRows (EltTy.packing .i8) := fun k0_t3 k0_t4 v329 v334 k0_hw4 k0_t12 k0_h1 => k0_hw4.2.2.2 k0_t12 k0_h1 (k0_off42_inb k0_t3 k0_t4 v329 v334 k0_hw4 k0_t12 k0_h1)

def k0_cond2 (k0_t3 : Fin k0_t3_loop.trips) : BitVec 1 :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c8_i32_507 : BitVec 32 := 8#32
  let v320 : BitVec 32 := Scalar.subi v293 c8_i32_507
  let c0_i32_508 : BitVec 32 := 0#32
  let v321 : BitVec 1 := Scalar.cmpi .sge v320 c0_i32_508
  let v322 : BitVec 32 := Scalar.extui v321
  let c0_i32_509 : BitVec 32 := 0#32
  let v323 : BitVec 1 := Scalar.cmpi .ne v322 c0_i32_509
  v323

def k0_off43 (k0_t3 : Fin k0_t3_loop.trips) : Fin 2 → Nat :=
  let c0_i32_512 : BitVec 32 := 0#32
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c8_i32_507 : BitVec 32 := 8#32
  let v320 : BitVec 32 := Scalar.subi v293 c8_i32_507
  let c24_i32_510 : BitVec 32 := 24#32
  let v324 : BitVec 32 := Scalar.remsi v320 c24_i32_510
  ![0, v324.toNat]
def k0_off44 (k0_t3 : Fin k0_t3_loop.trips) : Fin 4 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c8_i32_507 : BitVec 32 := 8#32
  let v320 : BitVec 32 := Scalar.subi v293 c8_i32_507
  let c4_i32_511 : BitVec 32 := 4#32
  let v325 : BitVec 32 := Scalar.muli v320 c4_i32_511
  let c0_i32_513 : BitVec 32 := 0#32
  let c0_i32_514 : BitVec 32 := 0#32
  let c0_i32_515 : BitVec 32 := 0#32
  ![v325.toNat, 0, 0, 0]
def k0_off45 (k0_t3 : Fin k0_t3_loop.trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c8_i32_507 : BitVec 32 := 8#32
  let v320 : BitVec 32 := Scalar.subi v293 c8_i32_507
  let c24_i32_510 : BitVec 32 := 24#32
  let v324 : BitVec 32 := Scalar.remsi v320 c24_i32_510
  let c0_i32_516 : BitVec 32 := 0#32
  let c0_i32_517 : BitVec 32 := 0#32
  let c0_i32_518 : BitVec 32 := 0#32
  let c0_i32_519 : BitVec 32 := 0#32
  ![v324.toNat, 0, 0, 0, 0]
def k0_off46 (k0_t3 : Fin k0_t3_loop.trips) : Fin 2 → Nat :=
  let c1_i32_520 : BitVec 32 := 1#32
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c8_i32_507 : BitVec 32 := 8#32
  let v320 : BitVec 32 := Scalar.subi v293 c8_i32_507
  let c24_i32_510 : BitVec 32 := 24#32
  let v324 : BitVec 32 := Scalar.remsi v320 c24_i32_510
  ![1, v324.toNat]
def k0_cond3 (k0_t3 : Fin k0_t3_loop.trips) : BitVec 1 :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c8_i32_507 : BitVec 32 := 8#32
  let v320 : BitVec 32 := Scalar.subi v293 c8_i32_507
  let c24_i32_528 : BitVec 32 := 24#32
  let v336 : BitVec 32 := Scalar.addi v320 c24_i32_528
  let c270_i32_529 : BitVec 32 := 270#32
  let v337 : BitVec 1 := Scalar.cmpi .slt v336 c270_i32_529
  let v338 : BitVec 32 := Scalar.extui v337
  let c0_i32_530 : BitVec 32 := 0#32
  let v339 : BitVec 1 := Scalar.cmpi .ne v338 c0_i32_530
  v339

def k0_off47 (k0_t3 : Fin k0_t3_loop.trips) : Fin 2 → Nat :=
  let c0_i32_534 : BitVec 32 := 0#32
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c8_i32_507 : BitVec 32 := 8#32
  let v320 : BitVec 32 := Scalar.subi v293 c8_i32_507
  let c24_i32_531 : BitVec 32 := 24#32
  let v340 : BitVec 32 := Scalar.addi v320 c24_i32_531
  let c24_i32_532 : BitVec 32 := 24#32
  let v341 : BitVec 32 := Scalar.remsi v340 c24_i32_532
  ![0, v341.toNat]
def k0_off48 (k0_t3 : Fin k0_t3_loop.trips) : Fin 5 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c8_i32_507 : BitVec 32 := 8#32
  let v320 : BitVec 32 := Scalar.subi v293 c8_i32_507
  let c24_i32_531 : BitVec 32 := 24#32
  let v340 : BitVec 32 := Scalar.addi v320 c24_i32_531
  let c24_i32_532 : BitVec 32 := 24#32
  let v341 : BitVec 32 := Scalar.remsi v340 c24_i32_532
  let c0_i32_535 : BitVec 32 := 0#32
  let c0_i32_536 : BitVec 32 := 0#32
  let c0_i32_537 : BitVec 32 := 0#32
  let c0_i32_538 : BitVec 32 := 0#32
  ![v341.toNat, 0, 0, 0, 0]
def k0_off49 (k0_t3 : Fin k0_t3_loop.trips) : Fin 4 → Nat :=
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c8_i32_507 : BitVec 32 := 8#32
  let v320 : BitVec 32 := Scalar.subi v293 c8_i32_507
  let c24_i32_531 : BitVec 32 := 24#32
  let v340 : BitVec 32 := Scalar.addi v320 c24_i32_531
  let c4_i32_533 : BitVec 32 := 4#32
  let v342 : BitVec 32 := Scalar.muli v340 c4_i32_533
  let c0_i32_539 : BitVec 32 := 0#32
  let c0_i32_540 : BitVec 32 := 0#32
  let c0_i32_541 : BitVec 32 := 0#32
  ![v342.toNat, 0, 0, 0]
def k0_off50 (k0_t3 : Fin k0_t3_loop.trips) : Fin 2 → Nat :=
  let c1_i32_542 : BitVec 32 := 1#32
  let c0_i32_465 : BitVec 32 := 0#32
  let c0_i32_453 : BitVec 32 := 0#32
  let c1_i32_454 : BitVec 32 := 1#32
  let arg23 : BitVec 32 := Scf.iv c0_i32_453 c1_i32_454 k0_t3
  let c1_i32_464 : BitVec 32 := 1#32
  let v292 : BitVec 32 := Scalar.muli arg23 c1_i32_464
  let v293 : BitVec 32 := Scalar.addi c0_i32_465 v292
  let c8_i32_507 : BitVec 32 := 8#32
  let v320 : BitVec 32 := Scalar.subi v293 c8_i32_507
  let c24_i32_531 : BitVec 32 := 24#32
  let v340 : BitVec 32 := Scalar.addi v320 c24_i32_531
  let c24_i32_532 : BitVec 32 := 24#32
  let v341 : BitVec 32 := Scalar.remsi v340 c24_i32_532
  ![1, v341.toNat]
@[reducible] def k0_t13_loop : Scf.Loop 32 :=
  let c0_i32_458 : BitVec 32 := 0#32
  let c8_i32_459 : BitVec 32 := 8#32
  let v287 : BitVec 32 := Scalar.addi c0_i32_458 c8_i32_459
  let c1_i32_460 : BitVec 32 := 1#32
  ⟨c0_i32_458, v287, c1_i32_460⟩
def k0_off51 (k0_t13 : Fin k0_t13_loop.trips) : Fin 2 → Nat :=
  let c0_i32_467 : BitVec 32 := 0#32
  let c262_i32 : BitVec 32 := 262#32
  let c0_i32_458 : BitVec 32 := 0#32
  let c1_i32_460 : BitVec 32 := 1#32
  let arg23 : BitVec 32 := Scf.iv c0_i32_458 c1_i32_460 k0_t13
  let c1_i32_464 : BitVec 32 := 1#32
  let v292 : BitVec 32 := Scalar.muli arg23 c1_i32_464
  let v293 : BitVec 32 := Scalar.addi c262_i32 v292
  let c24_i32_465 : BitVec 32 := 24#32
  let v294 : BitVec 32 := Scalar.remsi v293 c24_i32_465
  ![0, v294.toNat]
def k0_off52 (k0_t13 : Fin k0_t13_loop.trips) : Fin 4 → Nat :=
  let c262_i32 : BitVec 32 := 262#32
  let c0_i32_458 : BitVec 32 := 0#32
  let c1_i32_460 : BitVec 32 := 1#32
  let arg23 : BitVec 32 := Scf.iv c0_i32_458 c1_i32_460 k0_t13
  let c1_i32_464 : BitVec 32 := 1#32
  let v292 : BitVec 32 := Scalar.muli arg23 c1_i32_464
  let v293 : BitVec 32 := Scalar.addi c262_i32 v292
  let c4_i32_466 : BitVec 32 := 4#32
  let v295 : BitVec 32 := Scalar.muli v293 c4_i32_466
  let c0_i32_468 : BitVec 32 := 0#32
  let c0_i32_469 : BitVec 32 := 0#32
  let c0_i32_470 : BitVec 32 := 0#32
  ![v295.toNat, 0, 0, 0]
def k0_off53 (k0_t13 : Fin k0_t13_loop.trips) : Fin 5 → Nat :=
  let c262_i32 : BitVec 32 := 262#32
  let c0_i32_458 : BitVec 32 := 0#32
  let c1_i32_460 : BitVec 32 := 1#32
  let arg23 : BitVec 32 := Scf.iv c0_i32_458 c1_i32_460 k0_t13
  let c1_i32_464 : BitVec 32 := 1#32
  let v292 : BitVec 32 := Scalar.muli arg23 c1_i32_464
  let v293 : BitVec 32 := Scalar.addi c262_i32 v292
  let c24_i32_465 : BitVec 32 := 24#32
  let v294 : BitVec 32 := Scalar.remsi v293 c24_i32_465
  let c0_i32_471 : BitVec 32 := 0#32
  let c0_i32_472 : BitVec 32 := 0#32
  let c0_i32_473 : BitVec 32 := 0#32
  let c0_i32_474 : BitVec 32 := 0#32
  ![v294.toNat, 0, 0, 0, 0]
def k0_off54 (k0_t13 : Fin k0_t13_loop.trips) : Fin 2 → Nat :=
  let c1_i32_475 : BitVec 32 := 1#32
  let c262_i32 : BitVec 32 := 262#32
  let c0_i32_458 : BitVec 32 := 0#32
  let c1_i32_460 : BitVec 32 := 1#32
  let arg23 : BitVec 32 := Scf.iv c0_i32_458 c1_i32_460 k0_t13
  let c1_i32_464 : BitVec 32 := 1#32
  let v292 : BitVec 32 := Scalar.muli arg23 c1_i32_464
  let v293 : BitVec 32 := Scalar.addi c262_i32 v292
  let c24_i32_465 : BitVec 32 := 24#32
  let v294 : BitVec 32 := Scalar.remsi v293 c24_i32_465
  ![1, v294.toNat]
abbrev stage0_0 : Fin 1 → Memref sig .tc .smem S18x48 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S48 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1080x256x8x128 : Shape := ⟨4, ![1080, 256, 8, 128]⟩
abbrev S1080x8 : Shape := ⟨2, ![1080, 8]⟩
abbrev S48x18 : Shape := ⟨2, ![48, 18]⟩
abbrev S48 : Shape := ⟨1, ![48]⟩
abbrev S48x1x8x128 : Shape := ⟨4, ![48, 1, 8, 128]⟩
abbrev S48x1 : Shape := ⟨2, ![48, 1]⟩
abbrev S_ : Shape := ⟨0, ![]⟩
abbrev S1 : Shape := ⟨1, ![1]⟩
abbrev S1x1 : Shape := ⟨2, ![1, 1]⟩
abbrev S48x1x1 : Shape := ⟨3, ![48, 1, 1]⟩
abbrev S1x1x1 : Shape := ⟨3, ![1, 1, 1]⟩
abbrev S256 : Shape := ⟨1, ![256]⟩
abbrev S1x1x256 : Shape := ⟨3, ![1, 1, 256]⟩
abbrev S48x1x256 : Shape := ⟨3, ![48, 1, 256]⟩
abbrev S48x1x256x8x128 : Shape := ⟨5, ![48, 1, 256, 8, 128]⟩
abbrev S48x1x8 : Shape := ⟨3, ![48, 1, 8]⟩
abbrev S48x1x256x1 : Shape := ⟨4, ![48, 1, 256, 1]⟩
abbrev S48x1x256x2 : Shape := ⟨4, ![48, 1, 256, 2]⟩
abbrev S48x1x256x1x1 : Shape := ⟨5, ![48, 1, 256, 1, 1]⟩
abbrev S48x1x1x8x1 : Shape := ⟨5, ![48, 1, 1, 8, 1]⟩
abbrev S48x256x8x128 : Shape := ⟨4, ![48, 256, 8, 128]⟩
abbrev S48x8 : Shape := ⟨2, ![48, 8]⟩

abbrev nBuf : Space → Nat
  | .hbm => 316
  | .vmem => 0
  | .smem => 0
  | _ => 0

abbrev hbmTy0_0 (i : Nat) : BufTy := match i % 128 with
  | 0 => ⟨S1080x256x8x128, .i8⟩
  | 1 => ⟨S1080x256x8x128, .i8⟩
  | 2 => ⟨S1080x8, .f32⟩
  | 3 => ⟨S1080x8, .f32⟩
  | 4 => ⟨S48x18, .i32⟩
  | 5 => ⟨S48, .i32⟩
  | 6 => ⟨S48x1x8x128, .bf16⟩
  | 7 => ⟨S48x1x8x128, .bf16⟩
  | 8 => ⟨S48x1, .i32⟩
  | 9 => ⟨S_, .i32⟩
  | 10 => ⟨S_, .i32⟩
  | 11 => ⟨S48x1, .i32⟩
  | 12 => ⟨S48x1, .i32⟩
  | 13 => ⟨S48x1, .i32⟩
  | 14 => ⟨S_, .i32⟩
  | 15 => ⟨S48x1, .i32⟩
  | 16 => ⟨S48x1, .i1⟩
  | 17 => ⟨S48x1, .i32⟩
  | 18 => ⟨S48x1, .i32⟩
  | 19 => ⟨S_, .i32⟩
  | 20 => ⟨S48x1, .i32⟩
  | 21 => ⟨S48x1, .i1⟩
  | 22 => ⟨S48x1, .i1⟩
  | 23 => ⟨S_, .i32⟩
  | 24 => ⟨S48x1, .i32⟩
  | 25 => ⟨S48x1, .i32⟩
  | 26 => ⟨S48x1, .i32⟩
  | 27 => ⟨S1, .i32⟩
  | 28 => ⟨S1x1, .i32⟩
  | 29 => ⟨S48x1, .i32⟩
  | 30 => ⟨S48x1, .i32⟩
  | 31 => ⟨S_, .i32⟩
  | 32 => ⟨S48x1, .i32⟩
  | 33 => ⟨S48x1, .i1⟩
  | 34 => ⟨S_, .i32⟩
  | 35 => ⟨S48x1, .i32⟩
  | 36 => ⟨S48x1, .i32⟩
  | 37 => ⟨S48x1, .i32⟩
  | 38 => ⟨S48x1x1, .i32⟩
  | 39 => ⟨S1, .i32⟩
  | 40 => ⟨S_, .i32⟩
  | 41 => ⟨S48x1x1, .i32⟩
  | 42 => ⟨S48x1x1, .i1⟩
  | 43 => ⟨S1x1x1, .i32⟩
  | 44 => ⟨S48x1x1, .i32⟩
  | 45 => ⟨S48x1x1, .i1⟩
  | 46 => ⟨S48x1x1, .i1⟩
  | 47 => ⟨S_, .i1⟩
  | 48 => ⟨S48x1, .i1⟩
  | 49 => ⟨S48x1, .i32⟩
  | 50 => ⟨S_, .i32⟩
  | 51 => ⟨S48x1, .i32⟩
  | 52 => ⟨S48x1, .i32⟩
  | 53 => ⟨S48x1x1, .i32⟩
  | 54 => ⟨S_, .i32⟩
  | 55 => ⟨S48x1x1, .i32⟩
  | 56 => ⟨S48x1x1, .i32⟩
  | 57 => ⟨S256, .i32⟩
  | 58 => ⟨S1x1x256, .i32⟩
  | 59 => ⟨S48x1x256, .i32⟩
  | 60 => ⟨S48x1x256, .i32⟩
  | 61 => ⟨S48x1x256, .i32⟩
  | 62 => ⟨S48x1x1, .i32⟩
  | 63 => ⟨S48x1x256, .i32⟩
  | 64 => ⟨S48x1x256, .i32⟩
  | 65 => ⟨S_, .i32⟩
  | 66 => ⟨S48x1x256, .i32⟩
  | 67 => ⟨S48x1x256, .i1⟩
  | 68 => ⟨S_, .i32⟩
  | 69 => ⟨S48x1x256, .i32⟩
  | 70 => ⟨S48x1x256, .i1⟩
  | 71 => ⟨S_, .i32⟩
  | 72 => ⟨S48x1x256, .i32⟩
  | 73 => ⟨S48x1x256, .i1⟩
  | 74 => ⟨S48x1x256, .i1⟩
  | 75 => ⟨S_, .i32⟩
  | 76 => ⟨S_, .i32⟩
  | 77 => ⟨S_, .i32⟩
  | 78 => ⟨S48x1x256, .i32⟩
  | 79 => ⟨S48x1x256, .i32⟩
  | 80 => ⟨S_, .i32⟩
  | 81 => ⟨S48x1x256, .i32⟩
  | 82 => ⟨S48x1x256, .i32⟩
  | 83 => ⟨S48, .i32⟩
  | 84 => ⟨S48x1x1, .i32⟩
  | 85 => ⟨S_, .i32⟩
  | 86 => ⟨S48x1, .i32⟩
  | 87 => ⟨S48x1, .i32⟩
  | 88 => ⟨S48x1, .i32⟩
  | 89 => ⟨S48x1, .i1⟩
  | 90 => ⟨S_, .i32⟩
  | 91 => ⟨S48x1, .i32⟩
  | 92 => ⟨S48x1, .i1⟩
  | 93 => ⟨S_, .i32⟩
  | 94 => ⟨S48x1, .i32⟩
  | 95 => ⟨S48x1, .i32⟩
  | 96 => ⟨S48x1, .i32⟩
  | 97 => ⟨S48x1x1, .i32⟩
  | 98 => ⟨S48x1x256x8x128, .i8⟩
  | 99 => ⟨S_, .i32⟩
  | 100 => ⟨S48x1, .i32⟩
  | 101 => ⟨S48x1, .i1⟩
  | 102 => ⟨S_, .i32⟩
  | 103 => ⟨S48x1, .i32⟩
  | 104 => ⟨S48x1, .i32⟩
  | 105 => ⟨S48x1, .i32⟩
  | 106 => ⟨S48x1x1, .i32⟩
  | 107 => ⟨S48x1x8, .f32⟩
  | 108 => ⟨S_, .i32⟩
  | 109 => ⟨S48x1x1, .i32⟩
  | 110 => ⟨S48x1x1, .i1⟩
  | 111 => ⟨S_, .i32⟩
  | 112 => ⟨S48x1x1, .i32⟩
  | 113 => ⟨S48x1x1, .i32⟩
  | 114 => ⟨S48x1x1, .i32⟩
  | 115 => ⟨S_, .i32⟩
  | 116 => ⟨S48x1x256, .i32⟩
  | 117 => ⟨S48x1x256, .i1⟩
  | 118 => ⟨S_, .i32⟩
  | 119 => ⟨S48x1x256, .i32⟩
  | 120 => ⟨S48x1x256, .i32⟩
  | 121 => ⟨S48x1x256, .i32⟩
  | 122 => ⟨S48x1x256, .i32⟩
  | 123 => ⟨S48x1x256x1, .i32⟩
  | 124 => ⟨S48x1x256x1, .i32⟩
  | 125 => ⟨S48x1x256x2, .i32⟩
  | 126 => ⟨S48x1x256x8x128, .bf16⟩
  | 127 => ⟨S48x1x256x8x128, .f32⟩
  | _ => ⟨S1080x256x8x128, .i8⟩

abbrev hbmTy0_1 (i : Nat) : BufTy := match i % 128 with
  | 0 => ⟨S48x1x256x1x1, .i1⟩
  | 1 => ⟨S48x1x256x8x128, .i32⟩
  | 2 => ⟨S48x1x256x8x128, .f32⟩
  | 3 => ⟨S48x1x1x8x1, .f32⟩
  | 4 => ⟨S48x1x256x8x128, .f32⟩
  | 5 => ⟨S48x1x256x8x128, .f32⟩
  | 6 => ⟨S48x1x256x1x1, .i1⟩
  | 7 => ⟨S_, .f32⟩
  | 8 => ⟨S_, .f32⟩
  | 9 => ⟨S48x1x256x8x128, .i1⟩
  | 10 => ⟨S48x1x256x8x128, .f32⟩
  | 11 => ⟨S48x1x256x8x128, .f32⟩
  | 12 => ⟨S48x1x256x8x128, .i1⟩
  | 13 => ⟨S48x1x256x8x128, .f32⟩
  | 14 => ⟨S48x1x1, .i1⟩
  | 15 => ⟨S_, .f32⟩
  | 16 => ⟨S_, .f32⟩
  | 17 => ⟨S48x1x8, .i1⟩
  | 18 => ⟨S48x1x8, .f32⟩
  | 19 => ⟨S48x1x8, .f32⟩
  | 20 => ⟨S48x1x256x1x1, .i1⟩
  | 21 => ⟨S48x1x256x8x128, .f32⟩
  | 22 => ⟨S_, .f32⟩
  | 23 => ⟨S_, .f32⟩
  | 24 => ⟨S48x1x256x8x128, .i1⟩
  | 25 => ⟨S48x1x256x8x128, .f32⟩
  | 26 => ⟨S48x1x256x8x128, .f32⟩
  | 27 => ⟨S_, .f32⟩
  | 28 => ⟨S48x1x8, .f32⟩
  | 29 => ⟨S_, .f32⟩
  | 30 => ⟨S48x1x8, .f32⟩
  | 31 => ⟨S48x1x8, .f32⟩
  | 32 => ⟨S48x1x8, .f32⟩
  | 33 => ⟨S_, .f32⟩
  | 34 => ⟨S48x1x8, .f32⟩
  | 35 => ⟨S48x1x8, .i1⟩
  | 36 => ⟨S_, .f32⟩
  | 37 => ⟨S_, .f32⟩
  | 38 => ⟨S48x1x8, .f32⟩
  | 39 => ⟨S48x1x8, .f32⟩
  | 40 => ⟨S48x1x1x8x1, .f32⟩
  | 41 => ⟨S48x1x256x8x128, .f32⟩
  | 42 => ⟨S48x1x256x8x128, .f32⟩
  | 43 => ⟨S48x1x256x8x128, .f32⟩
  | 44 => ⟨S_, .i32⟩
  | 45 => ⟨S_, .i32⟩
  | 46 => ⟨S_, .f32⟩
  | 47 => ⟨S48x1x256x8x128, .f32⟩
  | 48 => ⟨S48x1x256x8x128, .f32⟩
  | 49 => ⟨S_, .f32⟩
  | 50 => ⟨S48x1x256x8x128, .f32⟩
  | 51 => ⟨S48x1x256x8x128, .f32⟩
  | 52 => ⟨S48x1x256x8x128, .i32⟩
  | 53 => ⟨S48x1x256x8x128, .i8⟩
  | 54 => ⟨S48, .i32⟩
  | 55 => ⟨S48x256x8x128, .i8⟩
  | 56 => ⟨S_, .i32⟩
  | 57 => ⟨S48, .i32⟩
  | 58 => ⟨S48, .i1⟩
  | 59 => ⟨S_, .i32⟩
  | 60 => ⟨S48, .i32⟩
  | 61 => ⟨S48, .i32⟩
  | 62 => ⟨S48, .i32⟩
  | 63 => ⟨S48x1, .i32⟩
  | 64 => ⟨S1080x256x8x128, .i8⟩
  | 65 => ⟨S48x8, .f32⟩
  | 66 => ⟨S_, .i32⟩
  | 67 => ⟨S48, .i32⟩
  | 68 => ⟨S48, .i1⟩
  | 69 => ⟨S_, .i32⟩
  | 70 => ⟨S48, .i32⟩
  | 71 => ⟨S48, .i32⟩
  | 72 => ⟨S48, .i32⟩
  | 73 => ⟨S48x1, .i32⟩
  | 74 => ⟨S1080x8, .f32⟩
  | 75 => ⟨S_, .i32⟩
  | 76 => ⟨S48x1, .i32⟩
  | 77 => ⟨S48x1, .i1⟩
  | 78 => ⟨S_, .i32⟩
  | 79 => ⟨S48x1, .i32⟩
  | 80 => ⟨S48x1, .i32⟩
  | 81 => ⟨S48x1, .i32⟩
  | 82 => ⟨S48x1x1, .i32⟩
  | 83 => ⟨S48x1x256x8x128, .i8⟩
  | 84 => ⟨S_, .i32⟩
  | 85 => ⟨S48x1, .i32⟩
  | 86 => ⟨S48x1, .i1⟩
  | 87 => ⟨S_, .i32⟩
  | 88 => ⟨S48x1, .i32⟩
  | 89 => ⟨S48x1, .i32⟩
  | 90 => ⟨S48x1, .i32⟩
  | 91 => ⟨S48x1x1, .i32⟩
  | 92 => ⟨S48x1x8, .f32⟩
  | 93 => ⟨S_, .i32⟩
  | 94 => ⟨S48x1x1, .i32⟩
  | 95 => ⟨S48x1x1, .i1⟩
  | 96 => ⟨S_, .i32⟩
  | 97 => ⟨S48x1x1, .i32⟩
  | 98 => ⟨S48x1x1, .i32⟩
  | 99 => ⟨S48x1x1, .i32⟩
  | 100 => ⟨S_, .i32⟩
  | 101 => ⟨S48x1x256, .i32⟩
  | 102 => ⟨S48x1x256, .i1⟩
  | 103 => ⟨S_, .i32⟩
  | 104 => ⟨S48x1x256, .i32⟩
  | 105 => ⟨S48x1x256, .i32⟩
  | 106 => ⟨S48x1x256, .i32⟩
  | 107 => ⟨S48x1x256, .i32⟩
  | 108 => ⟨S48x1x256x1, .i32⟩
  | 109 => ⟨S48x1x256x1, .i32⟩
  | 110 => ⟨S48x1x256x2, .i32⟩
  | 111 => ⟨S48x1x256x8x128, .bf16⟩
  | 112 => ⟨S48x1x256x8x128, .f32⟩
  | 113 => ⟨S48x1x256x1x1, .i1⟩
  | 114 => ⟨S48x1x256x8x128, .i32⟩
  | 115 => ⟨S48x1x256x8x128, .f32⟩
  | 116 => ⟨S48x1x1x8x1, .f32⟩
  | 117 => ⟨S48x1x256x8x128, .f32⟩
  | 118 => ⟨S48x1x256x8x128, .f32⟩
  | 119 => ⟨S48x1x256x1x1, .i1⟩
  | 120 => ⟨S_, .f32⟩
  | 121 => ⟨S_, .f32⟩
  | 122 => ⟨S48x1x256x8x128, .i1⟩
  | 123 => ⟨S48x1x256x8x128, .f32⟩
  | 124 => ⟨S48x1x256x8x128, .f32⟩
  | 125 => ⟨S48x1x256x8x128, .i1⟩
  | 126 => ⟨S48x1x256x8x128, .f32⟩
  | 127 => ⟨S48x1x1, .i1⟩
  | _ => ⟨S1080x256x8x128, .i8⟩

abbrev hbmTy0_2 (i : Nat) : BufTy := match i % 128 with
  | 0 => ⟨S_, .f32⟩
  | 1 => ⟨S_, .f32⟩
  | 2 => ⟨S48x1x8, .i1⟩
  | 3 => ⟨S48x1x8, .f32⟩
  | 4 => ⟨S48x1x8, .f32⟩
  | 5 => ⟨S48x1x256x1x1, .i1⟩
  | 6 => ⟨S48x1x256x8x128, .f32⟩
  | 7 => ⟨S_, .f32⟩
  | 8 => ⟨S_, .f32⟩
  | 9 => ⟨S48x1x256x8x128, .i1⟩
  | 10 => ⟨S48x1x256x8x128, .f32⟩
  | 11 => ⟨S48x1x256x8x128, .f32⟩
  | 12 => ⟨S_, .f32⟩
  | 13 => ⟨S48x1x8, .f32⟩
  | 14 => ⟨S_, .f32⟩
  | 15 => ⟨S48x1x8, .f32⟩
  | 16 => ⟨S48x1x8, .f32⟩
  | 17 => ⟨S48x1x8, .f32⟩
  | 18 => ⟨S_, .f32⟩
  | 19 => ⟨S48x1x8, .f32⟩
  | 20 => ⟨S48x1x8, .i1⟩
  | 21 => ⟨S_, .f32⟩
  | 22 => ⟨S_, .f32⟩
  | 23 => ⟨S48x1x8, .f32⟩
  | 24 => ⟨S48x1x8, .f32⟩
  | 25 => ⟨S48x1x1x8x1, .f32⟩
  | 26 => ⟨S48x1x256x8x128, .f32⟩
  | 27 => ⟨S48x1x256x8x128, .f32⟩
  | 28 => ⟨S48x1x256x8x128, .f32⟩
  | 29 => ⟨S_, .i32⟩
  | 30 => ⟨S_, .i32⟩
  | 31 => ⟨S_, .f32⟩
  | 32 => ⟨S48x1x256x8x128, .f32⟩
  | 33 => ⟨S48x1x256x8x128, .f32⟩
  | 34 => ⟨S_, .f32⟩
  | 35 => ⟨S48x1x256x8x128, .f32⟩
  | 36 => ⟨S48x1x256x8x128, .f32⟩
  | 37 => ⟨S48x1x256x8x128, .i32⟩
  | 38 => ⟨S48x1x256x8x128, .i8⟩
  | 39 => ⟨S48, .i32⟩
  | 40 => ⟨S48x256x8x128, .i8⟩
  | 41 => ⟨S_, .i32⟩
  | 42 => ⟨S48, .i32⟩
  | 43 => ⟨S48, .i1⟩
  | 44 => ⟨S_, .i32⟩
  | 45 => ⟨S48, .i32⟩
  | 46 => ⟨S48, .i32⟩
  | 47 => ⟨S48, .i32⟩
  | 48 => ⟨S48x1, .i32⟩
  | 49 => ⟨S1080x256x8x128, .i8⟩
  | 50 => ⟨S48x8, .f32⟩
  | 51 => ⟨S_, .i32⟩
  | 52 => ⟨S48, .i32⟩
  | 53 => ⟨S48, .i1⟩
  | 54 => ⟨S_, .i32⟩
  | 55 => ⟨S48, .i32⟩
  | 56 => ⟨S48, .i32⟩
  | 57 => ⟨S48, .i32⟩
  | 58 => ⟨S48x1, .i32⟩
  | 59 => ⟨S1080x8, .f32⟩
  | _ => ⟨S1080x256x8x128, .i8⟩

abbrev hbmTy (i : Nat) : BufTy := match i / 128 with
  | 0 => hbmTy0_0 i
  | 1 => hbmTy0_1 i
  | 2 => hbmTy0_2 i
  | _ => ⟨S1080x256x8x128, .i8⟩

abbrev bufTy : (tb : Table) → Fin (tcTables nBuf tb) → BufTy
  | .hbm, ⟨i, _⟩ => hbmTy i
  | _, _ => ⟨S1080x256x8x128, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_c_4 : Ref sig .tc := ⟨.hbm, 50, rfl⟩
abbrev main_call1_v14 : Ref sig .tc := ⟨.hbm, 51, rfl⟩
abbrev main_v6 : Ref sig .tc := ⟨.hbm, 52, rfl⟩
abbrev main_v7 : Ref sig .tc := ⟨.hbm, 53, rfl⟩
abbrev main_c_0 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_c_1 : Ref sig .tc := ⟨.hbm, 65, rfl⟩
abbrev main_v18 : Ref sig .tc := ⟨.hbm, 66, rfl⟩
abbrev main_v19 : Ref sig .tc := ⟨.hbm, 67, rfl⟩
abbrev main_c_2 : Ref sig .tc := ⟨.hbm, 68, rfl⟩
abbrev main_v20 : Ref sig .tc := ⟨.hbm, 69, rfl⟩
abbrev main_v21 : Ref sig .tc := ⟨.hbm, 70, rfl⟩
abbrev main_c_3 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_c_4 : Ref sig .tc := ⟨.hbm, 75, rfl⟩
abbrev main_c_5 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_c_6 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_c_7 : Ref sig .tc := ⟨.hbm, 90, rfl⟩
abbrev main_v32 : Ref sig .tc := ⟨.hbm, 91, rfl⟩
abbrev main_v33 : Ref sig .tc := ⟨.hbm, 92, rfl⟩
abbrev main_c_8 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_c_9 : Ref sig .tc := ⟨.hbm, 99, rfl⟩
abbrev main_v39 : Ref sig .tc := ⟨.hbm, 100, rfl⟩
abbrev main_v40 : Ref sig .tc := ⟨.hbm, 101, rfl⟩
abbrev main_c_10 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_c_11 : Ref sig .tc := ⟨.hbm, 108, rfl⟩
abbrev main_v46 : Ref sig .tc := ⟨.hbm, 109, rfl⟩
abbrev main_v47 : Ref sig .tc := ⟨.hbm, 110, rfl⟩
abbrev main_c_12 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_c_13 : Ref sig .tc := ⟨.hbm, 115, rfl⟩
abbrev main_v51 : Ref sig .tc := ⟨.hbm, 116, rfl⟩
abbrev main_v52 : Ref sig .tc := ⟨.hbm, 117, rfl⟩
abbrev main_c_14 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_cst : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v69 : Ref sig .tc := ⟨.hbm, 139, rfl⟩
abbrev main_call4_v0 : Ref sig .tc := ⟨.hbm, 140, rfl⟩
abbrev main_v70 : Ref sig .tc := ⟨.hbm, 141, rfl⟩
abbrev main_v71 : Ref sig .tc := ⟨.hbm, 142, rfl⟩
abbrev main_cst_15 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_cst_16 : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_v75 : Ref sig .tc := ⟨.hbm, 154, rfl⟩
abbrev main_cst_17 : Ref sig .tc := ⟨.hbm, 155, rfl⟩
abbrev main_v76 : Ref sig .tc := ⟨.hbm, 156, rfl⟩
abbrev main_cst_18 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_cst_19 : Ref sig .tc := ⟨.hbm, 161, rfl⟩
abbrev main_v80 : Ref sig .tc := ⟨.hbm, 162, rfl⟩
abbrev main_v81 : Ref sig .tc := ⟨.hbm, 163, rfl⟩
abbrev main_cst_20 : Ref sig .tc := ⟨.hbm, 164, rfl⟩
abbrev main_call7_v0 : Ref sig .tc := ⟨.hbm, 165, rfl⟩
abbrev main_call7_v1 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_c_21 : Ref sig .tc := ⟨.hbm, 172, rfl⟩
abbrev main_c_22 : Ref sig .tc := ⟨.hbm, 173, rfl⟩
abbrev main_call9_v0 : Ref sig .tc := ⟨.hbm, 174, rfl⟩
abbrev main_call9_v1 : Ref sig .tc := ⟨.hbm, 175, rfl⟩
abbrev main_call9_v2 : Ref sig .tc := ⟨.hbm, 176, rfl⟩
abbrev main_call9_v3 : Ref sig .tc := ⟨.hbm, 177, rfl⟩
abbrev main_call9_v4 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_c_23 : Ref sig .tc := ⟨.hbm, 184, rfl⟩
abbrev main_v92 : Ref sig .tc := ⟨.hbm, 185, rfl⟩
abbrev main_v93 : Ref sig .tc := ⟨.hbm, 186, rfl⟩
abbrev main_c_24 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_c_25 : Ref sig .tc := ⟨.hbm, 194, rfl⟩
abbrev main_v100 : Ref sig .tc := ⟨.hbm, 195, rfl⟩
abbrev main_v101 : Ref sig .tc := ⟨.hbm, 196, rfl⟩
abbrev main_c_26 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_c_27 : Ref sig .tc := ⟨.hbm, 203, rfl⟩
abbrev main_v107 : Ref sig .tc := ⟨.hbm, 204, rfl⟩
abbrev main_v108 : Ref sig .tc := ⟨.hbm, 205, rfl⟩
abbrev main_c_28 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_c_29 : Ref sig .tc := ⟨.hbm, 212, rfl⟩
abbrev main_v114 : Ref sig .tc := ⟨.hbm, 213, rfl⟩
abbrev main_v115 : Ref sig .tc := ⟨.hbm, 214, rfl⟩
abbrev main_c_30 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_c_31 : Ref sig .tc := ⟨.hbm, 221, rfl⟩
abbrev main_v121 : Ref sig .tc := ⟨.hbm, 222, rfl⟩
abbrev main_v122 : Ref sig .tc := ⟨.hbm, 223, rfl⟩
abbrev main_c_32 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_c_33 : Ref sig .tc := ⟨.hbm, 228, rfl⟩
abbrev main_v126 : Ref sig .tc := ⟨.hbm, 229, rfl⟩
abbrev main_v127 : Ref sig .tc := ⟨.hbm, 230, rfl⟩
abbrev main_c_34 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_cst_35 : Ref sig .tc := ⟨.hbm, 248, rfl⟩
abbrev main_call10_v0 : Ref sig .tc := ⟨.hbm, 249, rfl⟩
abbrev main_call10_v1 : Ref sig .tc := ⟨.hbm, 250, rfl⟩
abbrev main_call10_v2 : Ref sig .tc := ⟨.hbm, 251, rfl⟩
abbrev main_v144 : Ref sig .tc := ⟨.hbm, 252, rfl⟩
abbrev main_call11_v0 : Ref sig .tc := ⟨.hbm, 253, rfl⟩
abbrev main_v145 : Ref sig .tc := ⟨.hbm, 254, rfl⟩
abbrev main_v146 : Ref sig .tc := ⟨.hbm, 255, rfl⟩
abbrev main_cst_36 : Ref sig .tc := ⟨.hbm, 256, rfl⟩
abbrev main_call12_v0 : Ref sig .tc := ⟨.hbm, 257, rfl⟩
abbrev main_call12_v1 : Ref sig .tc := ⟨.hbm, 258, rfl⟩
abbrev main_call12_v2 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_cst_37 : Ref sig .tc := ⟨.hbm, 263, rfl⟩
abbrev main_call13_v0 : Ref sig .tc := ⟨.hbm, 264, rfl⟩
abbrev main_call13_v1 : Ref sig .tc := ⟨.hbm, 265, rfl⟩
abbrev main_call13_v2 : Ref sig .tc := ⟨.hbm, 266, rfl⟩
abbrev main_v150 : Ref sig .tc := ⟨.hbm, 267, rfl⟩
abbrev main_cst_38 : Ref sig .tc := ⟨.hbm, 268, rfl⟩
abbrev main_v151 : Ref sig .tc := ⟨.hbm, 269, rfl⟩
abbrev main_cst_39 : Ref sig .tc := ⟨.hbm, 270, rfl⟩
abbrev main_v152 : Ref sig .tc := ⟨.hbm, 271, rfl⟩
abbrev main_v153 : Ref sig .tc := ⟨.hbm, 272, rfl⟩
abbrev main_v154 : Ref sig .tc := ⟨.hbm, 273, rfl⟩
abbrev main_cst_40 : Ref sig .tc := ⟨.hbm, 274, rfl⟩
abbrev main_v155 : Ref sig .tc := ⟨.hbm, 275, rfl⟩
abbrev main_v156 : Ref sig .tc := ⟨.hbm, 276, rfl⟩
abbrev main_cst_41 : Ref sig .tc := ⟨.hbm, 277, rfl⟩
abbrev main_call14_v0 : Ref sig .tc := ⟨.hbm, 278, rfl⟩
abbrev main_call14_v1 : Ref sig .tc := ⟨.hbm, 279, rfl⟩
abbrev main_v157 : Ref sig .tc := ⟨.hbm, 280, rfl⟩
abbrev main_v158 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_c_42 : Ref sig .tc := ⟨.hbm, 285, rfl⟩
abbrev main_c_43 : Ref sig .tc := ⟨.hbm, 286, rfl⟩
abbrev main_call16_v0 : Ref sig .tc := ⟨.hbm, 287, rfl⟩
abbrev main_call16_v1 : Ref sig .tc := ⟨.hbm, 288, rfl⟩
abbrev main_call16_v2 : Ref sig .tc := ⟨.hbm, 289, rfl⟩
abbrev main_call16_v3 : Ref sig .tc := ⟨.hbm, 290, rfl⟩
abbrev main_call16_v4 : Ref sig .tc := ⟨.hbm, 291, rfl⟩
abbrev main_v162 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_c_44 : Ref sig .tc := ⟨.hbm, 297, rfl⟩
abbrev main_v167 : Ref sig .tc := ⟨.hbm, 298, rfl⟩
abbrev main_v168 : Ref sig .tc := ⟨.hbm, 299, rfl⟩
abbrev main_c_45 : Ref sig .tc := ⟨.hbm, 300, rfl⟩
abbrev main_v169 : Ref sig .tc := ⟨.hbm, 301, rfl⟩
abbrev main_v170 : Ref sig .tc := ⟨.hbm, 302, rfl⟩
abbrev main_v171 : Ref sig .tc := ⟨.hbm, 303, rfl⟩
abbrev main_v172 : Ref sig .tc := ⟨.hbm, 304, rfl⟩
abbrev main_v173 : Ref sig .tc := ⟨.hbm, 305, rfl⟩
abbrev main_v174 : Ref sig .tc := ⟨.hbm, 306, rfl⟩
abbrev main_c_46 : Ref sig .tc := ⟨.hbm, 307, rfl⟩
abbrev main_v175 : Ref sig .tc := ⟨.hbm, 308, rfl⟩
abbrev main_v176 : Ref sig .tc := ⟨.hbm, 309, rfl⟩
abbrev main_c_47 : Ref sig .tc := ⟨.hbm, 310, rfl⟩
abbrev main_v177 : Ref sig .tc := ⟨.hbm, 311, rfl⟩
abbrev main_v178 : Ref sig .tc := ⟨.hbm, 312, rfl⟩
abbrev main_v179 : Ref sig .tc := ⟨.hbm, 313, rfl⟩
abbrev main_v180 : Ref sig .tc := ⟨.hbm, 314, rfl⟩
abbrev main_v181 : Ref sig .tc := ⟨.hbm, 315, rfl⟩

abbrev nD : Nat := 1
abbrev τ : Topo := Topo.v7x

variable {F : FTy → Type} [FloatOps F]
-- ==== Proof.Arith.lean ====
/- Words as numbers: the integer operations the kernel's index computations use, on small nonnegative words. -/
module

public import Idealize.ShloMosaic.Lib.Affine
public import Idealize.ShloMosaic.Lib.WordArith
public import Idealize.ShloMosaic.Lib.LoopRemainder

@[expose] public section

namespace Cert.Arith

open Idealize.ShloMosaic

/-- The word of a number. -/
abbrev w (n : ℕ) : BitVec 32 := BitVec.ofNat 32 n

/-- A word that reads as a natural number is the word of it. -/
theorem eq_w_of_isInt {x : BitVec 32} {n : ℕ} (h : Affine.IsInt x (n : Int)) (hn : n < 2 ^ 31) : x = w n := by
  apply BitVec.eq_of_toInt_eq
  rw [WordArith.toInt_ofNat_small n hn]
  unfold Affine.IsInt at h
  exact h

theorem w_isInt (n : ℕ) (hn : n < 2 ^ 31) : Affine.IsInt (w n) (n : Int) := Affine.ofNat n ⟨rfl, hn⟩

/-- A nonnegative word below a bound is the word of a number below it. -/
theorem exists_w (x : BitVec 32) (b : ℕ) (h0 : 0 ≤ x.toInt) (h1 : x.toInt < b) : ∃ n, n < b ∧ x = w n := by
  refine ⟨x.toNat, ?_, by simp⟩
  have := BitVec.toInt_eq_toNat_cond x
  have hb := x.isLt
  split at this <;> omega

theorem muli_one (x : BitVec 32) : Scalar.muli x 1#32 = x := by simp [Scalar.muli, IntOp.muli]
theorem addi_zero (x : BitVec 32) : Scalar.addi 0#32 x = x := by simp [Scalar.addi, IntOp.addi]
theorem subi_zero (x : BitVec 32) : Scalar.subi x 0#32 = x := by simp [Scalar.subi, IntOp.subi]
theorem divsi_one (x : BitVec 32) : Scalar.divsi x 1#32 = x := by
  simp only [Scalar.divsi, WordArith.divsi_one]
theorem addi_w (a b : ℕ) : Scalar.addi (w a) (w b) = w (a + b) := by simp [Scalar.addi, IntOp.addi, BitVec.ofNat_add]
theorem muli_w (a b : ℕ) : Scalar.muli (w a) (w b) = w (a * b) := by simp [Scalar.muli, IntOp.muli, BitVec.ofNat_mul]
theorem subi_w (a b : ℕ) (h : b ≤ a) (ha : a < 2 ^ 31) : Scalar.subi (w a) (w b) = w (a - b) := by
  refine eq_w_of_isInt (Affine.subi (w_isInt a ha) (w_isInt b (by omega)) ⟨by omega, by omega, by omega⟩) (by omega)
theorem remsi_w (a b : ℕ) (ha : a < 2 ^ 31) (hb : b < 2 ^ 31) (hb0 : 0 < b) : Scalar.remsi (w a) (w b) = w (a % b) := by
  refine eq_w_of_isInt (Affine.remsi (w_isInt a ha) (w_isInt b hb) ⟨by omega, by omega, by omega⟩) ?_
  have := Nat.mod_le a b; omega
theorem divsi_w (a b : ℕ) (ha : a < 2 ^ 31) (hb : b < 2 ^ 31) (hb0 : 0 < b) : Scalar.divsi (w a) (w b) = w (a / b) := by
  refine eq_w_of_isInt (Affine.divsi (w_isInt a ha) (w_isInt b hb) ⟨by simp, by omega, by omega⟩) ?_
  have := Nat.div_le_self a b; omega
theorem iv_w (a t : ℕ) : Scf.iv (w a) 1#32 t = w (a + t) := by
  simp [Scf.iv, BitVec.ofNat_add]
theorem toNat_w (n : ℕ) (h : n < 2 ^ 32) : (w n).toNat = n := WordArith.toNat_ofNat_of_lt n h
theorem trips_w (a b : ℕ) (h : a ≤ b) (hb : b < 2 ^ 31) : Scf.trips (w a) (w b) 1#32 = b - a :=
  Affine.trips_eq (w_isInt a (by omega)) (w_isInt b hb) (Affine.ofNat 1 ⟨rfl, by decide⟩) _ (by omega)
theorem ok_w (a b : ℕ) (ha : a < 2 ^ 31) (hb : b + 1 < 2 ^ 31) : Scf.OK (w a) (w b) 1#32 :=
  Affine.ok (w_isInt a ha) (w_isInt b (by omega)) (Affine.ofNat 1 ⟨rfl, by decide⟩) ⟨by omega, by omega⟩

/-- Rounding down to a multiple of four, as the floor division is spelt, of a word below 256. -/
theorem mixed_w (o : ℕ) (ho : o < 256) :
    Scalar.select (Scalar.andi (Scalar.cmpi .ne (Scalar.subi (Scalar.extui (Scalar.cmpi .sgt (w o) 0#32)) (Scalar.extui (Scalar.cmpi .slt (w o) 0#32)))
        (Scalar.subi (Scalar.extui (Scalar.cmpi .sgt 4#32 0#32)) (Scalar.extui (Scalar.cmpi .slt 4#32 0#32))))
      (Scalar.cmpi .ne (Scalar.remsi (w o) 4#32) 0#32)) (Scalar.subi (Scalar.divsi (w o) 4#32) 1#32) (Scalar.divsi (w o) 4#32) = w (o / 4) := by
  have h : ∀ o : Fin 256, Scalar.select (Scalar.andi (Scalar.cmpi .ne (Scalar.subi (Scalar.extui (Scalar.cmpi .sgt (w o) 0#32)) (Scalar.extui (Scalar.cmpi .slt (w o) 0#32)))
        (Scalar.subi (Scalar.extui (Scalar.cmpi .sgt 4#32 0#32)) (Scalar.extui (Scalar.cmpi .slt 4#32 0#32))))
      (Scalar.cmpi .ne (Scalar.remsi (w o) 4#32) 0#32)) (Scalar.subi (Scalar.divsi (w o) 4#32) 1#32) (Scalar.divsi (w o) 4#32) = w (o / 4) := by decide +kernel
  exact h ⟨o, ho⟩

/-- The same by 256, of a word below 4608. -/
theorem row_w (o : ℕ) (ho : o < 4608) :
    Scalar.select (Scalar.andi (Scalar.cmpi .ne (Scalar.subi (Scalar.extui (Scalar.cmpi .sgt (w o) 0#32)) (Scalar.extui (Scalar.cmpi .slt (w o) 0#32)))
        (Scalar.subi (Scalar.extui (Scalar.cmpi .sgt 256#32 0#32)) (Scalar.extui (Scalar.cmpi .slt 256#32 0#32))))
      (Scalar.cmpi .ne (Scalar.remsi (w o) 256#32) 0#32)) (Scalar.subi (Scalar.divsi (w o) 256#32) 1#32) (Scalar.divsi (w o) 256#32) = w (o / 256) := by
  have h : ∀ o : Fin 4608, Scalar.select (Scalar.andi (Scalar.cmpi .ne (Scalar.subi (Scalar.extui (Scalar.cmpi .sgt (w o) 0#32)) (Scalar.extui (Scalar.cmpi .slt (w o) 0#32)))
        (Scalar.subi (Scalar.extui (Scalar.cmpi .sgt 256#32 0#32)) (Scalar.extui (Scalar.cmpi .slt 256#32 0#32))))
      (Scalar.cmpi .ne (Scalar.remsi (w o) 256#32) 0#32)) (Scalar.subi (Scalar.divsi (w o) 256#32) 1#32) (Scalar.divsi (w o) 256#32) = w (o / 256) := by decide +kernel
  exact h ⟨o, ho⟩

end Cert.Arith
-- ==== Proof.Words.lean ====
/- The kernel's index computations in closed form: every offset, loop bound and condition as a number. -/
module

public import proofs.«01_k».proof.Proof.Gen.Kernel.Skeleton
public import proofs.«01_k».proof.Proof.Arith

@[expose] public section

namespace Cert.Kernel.Words

open Cert.Kernel Cert.Kernel.Gen Cert.Arith
open Idealize.ShloMosaic

theorem t1_trips : k0_t1_loop.trips = 1080 := by decide +kernel
theorem t2_trips : k0_t2_loop.trips = 48 := by decide +kernel
theorem t3_trips : k0_t3_loop.trips = 270 := by decide +kernel
theorem t4_trips : k0_t4_loop.trips = 4 := by decide +kernel
theorem t13_trips : k0_t13_loop.trips = 8 := by decide +kernel

theorem lt1 (k : Fin k0_t1_loop.trips) : k.val < 1080 := lt_of_lt_of_eq k.isLt t1_trips
theorem lt2 (k : Fin k0_t2_loop.trips) : k.val < 48 := lt_of_lt_of_eq k.isLt t2_trips
theorem lt3 (k : Fin k0_t3_loop.trips) : k.val < 270 := lt_of_lt_of_eq k.isLt t3_trips
theorem lt4 (k : Fin k0_t4_loop.trips) : k.val < 4 := lt_of_lt_of_eq k.isLt t4_trips
theorem lt13 (k : Fin k0_t13_loop.trips) : k.val < 8 := lt_of_lt_of_eq k.isLt t13_trips

theorem off4_eq (k : Fin k0_t1_loop.trips) : k0_off4 k = ![k.val] := by
  have := lt1 k
  simp only [k0_off4, iv_w 0, muli_one, addi_zero, Scalar.indexCast, Nat.zero_add, toNat_w k.val (by omega)]
theorem off5_eq (k : Fin k0_t2_loop.trips) : k0_off5 k = ![k.val] := by
  have := lt2 k
  simp only [k0_off5, iv_w 0, muli_one, addi_zero, Scalar.indexCast, Nat.zero_add, toNat_w k.val (by omega)]
theorem off6_eq (k : Fin k0_t2_loop.trips) (l : ℕ) (hl : l < 4608) : k0_off6 k (w l) = ![l / 256, k.val] := by
  have := lt2 k
  simp only [k0_off6, row_w l hl, iv_w 0, muli_one, addi_zero, Scalar.indexCast, Nat.zero_add, toNat_w k.val (by omega),
    toNat_w (l / 256) (by omega)]
theorem off7_eq (p : ℕ) (hp : p < 1080) : k0_off7 (w p) = ![p] := by
  simp only [k0_off7, Scalar.indexCast, toNat_w p (by omega)]
theorem off13_eq (b : ℕ) (hb : b < 48) : k0_off13 (w b) = ![b] := by
  simp only [k0_off13, Scalar.indexCast, toNat_w b (by omega)]
theorem off14_eq (b : ℕ) (hb : b < 48) : k0_off14 (w b) = ![b, 0, 0] := by
  simp only [k0_off14, Scalar.indexCast, toNat_w b (by omega), toNat_w 0 (by omega)]
theorem off30_eq (b : ℕ) (hb : b < 48) : k0_off30 (w b) = ![b, 0, 0] := by
  simp only [k0_off30, Scalar.indexCast, toNat_w b (by omega), toNat_w 0 (by omega)]

/-- The word of a page's number: four pages to a chunk. -/
theorem page_w (k : Fin k0_t3_loop.trips) (q : Fin k0_t4_loop.trips) :
    Scalar.addi (Scalar.muli (Scalar.addi 0#32 (Scalar.muli (Scf.iv 0#32 1#32 k) 1#32)) 4#32) (Scalar.addi 0#32 (Scalar.muli (Scf.iv 0#32 1#32 q) 1#32))
      = w (4 * k.val + q.val) := by
  simp only [iv_w 0, muli_one, addi_zero, muli_w, addi_w, Nat.zero_add, Nat.mul_comm]

theorem off8_eq (k : Fin k0_t3_loop.trips) : k0_off8 k = ![0, k.val % 24] := by
  have := lt3 k
  simp (disch := omega) only [k0_off8, iv_w, muli_one, addi_zero, muli_w, addi_w, Nat.zero_add, Scalar.indexCast, subi_w, remsi_w, toNat_w, Nat.mul_comm]
theorem off9_eq (k : Fin k0_t3_loop.trips) : k0_off9 k = ![k.val % 24, 0, 0, 0, 0] := by
  have := lt3 k
  simp (disch := omega) only [k0_off9, iv_w, muli_one, addi_zero, muli_w, addi_w, Nat.zero_add, Scalar.indexCast, subi_w, remsi_w, toNat_w, Nat.mul_comm]
theorem off10_eq (k : Fin k0_t3_loop.trips) : k0_off10 k = ![4 * k.val, 0, 0, 0] := by
  have := lt3 k
  simp (disch := omega) only [k0_off10, iv_w, muli_one, addi_zero, muli_w, addi_w, Nat.zero_add, Scalar.indexCast, subi_w, remsi_w, toNat_w, Nat.mul_comm]
theorem off11_eq (k : Fin k0_t3_loop.trips) : k0_off11 k = ![1, k.val % 24] := by
  have := lt3 k
  simp (disch := omega) only [k0_off11, iv_w, muli_one, addi_zero, muli_w, addi_w, Nat.zero_add, Scalar.indexCast, subi_w, remsi_w, toNat_w, Nat.mul_comm]
theorem off43_eq (k : Fin k0_t3_loop.trips) (h : 8 ≤ k.val) : k0_off43 k = ![0, (k.val - 8) % 24] := by
  have := lt3 k
  simp (disch := omega) only [k0_off43, iv_w, muli_one, addi_zero, muli_w, addi_w, Nat.zero_add, Scalar.indexCast, subi_w, remsi_w, toNat_w, Nat.mul_comm]
theorem off44_eq (k : Fin k0_t3_loop.trips) (h : 8 ≤ k.val) : k0_off44 k = ![4 * (k.val - 8), 0, 0, 0] := by
  have := lt3 k
  simp (disch := omega) only [k0_off44, iv_w, muli_one, addi_zero, muli_w, addi_w, Nat.zero_add, Scalar.indexCast, subi_w, remsi_w, toNat_w, Nat.mul_comm]
theorem off45_eq (k : Fin k0_t3_loop.trips) (h : 8 ≤ k.val) : k0_off45 k = ![(k.val - 8) % 24, 0, 0, 0, 0] := by
  have := lt3 k
  simp (disch := omega) only [k0_off45, iv_w, muli_one, addi_zero, muli_w, addi_w, Nat.zero_add, Scalar.indexCast, subi_w, remsi_w, toNat_w, Nat.mul_comm]
theorem off46_eq (k : Fin k0_t3_loop.trips) (h : 8 ≤ k.val) : k0_off46 k = ![1, (k.val - 8) % 24] := by
  have := lt3 k
  simp (disch := omega) only [k0_off46, iv_w, muli_one, addi_zero, muli_w, addi_w, Nat.zero_add, Scalar.indexCast, subi_w, remsi_w, toNat_w, Nat.mul_comm]
theorem off47_eq (k : Fin k0_t3_loop.trips) (h : 8 ≤ k.val) : k0_off47 k = ![0, (k.val - 8 + 24) % 24] := by
  have := lt3 k
  simp (disch := omega) only [k0_off47, iv_w, muli_one, addi_zero, muli_w, addi_w, Nat.zero_add, Scalar.indexCast, subi_w, remsi_w, toNat_w, Nat.mul_comm]
theorem off48_eq (k : Fin k0_t3_loop.trips) (h : 8 ≤ k.val) : k0_off48 k = ![(k.val - 8 + 24) % 24, 0, 0, 0, 0] := by
  have := lt3 k
  simp (disch := omega) only [k0_off48, iv_w, muli_one, addi_zero, muli_w, addi_w, Nat.zero_add, Scalar.indexCast, subi_w, remsi_w, toNat_w, Nat.mul_comm]
theorem off49_eq (k : Fin k0_t3_loop.trips) (h : 8 ≤ k.val) : k0_off49 k = ![4 * (k.val - 8 + 24), 0, 0, 0] := by
  have := lt3 k
  simp (disch := omega) only [k0_off49, iv_w, muli_one, addi_zero, muli_w, addi_w, Nat.zero_add, Scalar.indexCast, subi_w, remsi_w, toNat_w, Nat.mul_comm]
theorem off50_eq (k : Fin k0_t3_loop.trips) (h : 8 ≤ k.val) : k0_off50 k = ![1, (k.val - 8 + 24) % 24] := by
  have := lt3 k
  simp (disch := omega) only [k0_off50, iv_w, muli_one, addi_zero, muli_w, addi_w, Nat.zero_add, Scalar.indexCast, subi_w, remsi_w, toNat_w, Nat.mul_comm]
theorem off51_eq (k : Fin k0_t13_loop.trips) : k0_off51 k = ![0, (262 + k.val) % 24] := by
  have := lt13 k
  simp (disch := omega) only [k0_off51, iv_w, muli_one, addi_zero, muli_w, addi_w, Nat.zero_add, Scalar.indexCast, subi_w, remsi_w, toNat_w, Nat.mul_comm]
theorem off52_eq (k : Fin k0_t13_loop.trips) : k0_off52 k = ![4 * (262 + k.val), 0, 0, 0] := by
  have := lt13 k
  simp (disch := omega) only [k0_off52, iv_w, muli_one, addi_zero, muli_w, addi_w, Nat.zero_add, Scalar.indexCast, subi_w, remsi_w, toNat_w, Nat.mul_comm]
theorem off53_eq (k : Fin k0_t13_loop.trips) : k0_off53 k = ![(262 + k.val) % 24, 0, 0, 0, 0] := by
  have := lt13 k
  simp (disch := omega) only [k0_off53, iv_w, muli_one, addi_zero, muli_w, addi_w, Nat.zero_add, Scalar.indexCast, subi_w, remsi_w, toNat_w, Nat.mul_comm]
theorem off54_eq (k : Fin k0_t13_loop.trips) : k0_off54 k = ![1, (262 + k.val) % 24] := by
  have := lt13 k
  simp (disch := omega) only [k0_off54, iv_w, muli_one, addi_zero, muli_w, addi_w, Nat.zero_add, Scalar.indexCast, subi_w, remsi_w, toNat_w, Nat.mul_comm]
theorem off12_eq (k : Fin k0_t3_loop.trips) (q : Fin k0_t4_loop.trips) : k0_off12 k q = ![4 * k.val + q.val] := by
  have := lt3 k
  have := lt4 q
  simp (disch := omega) only [k0_off12, iv_w, muli_one, addi_zero, muli_w, addi_w, Nat.zero_add, Scalar.indexCast, subi_w, remsi_w, toNat_w, Nat.mul_comm]
theorem off15_eq (k : Fin k0_t3_loop.trips) (q : Fin k0_t4_loop.trips) : k0_off15 k q = ![k.val % 24, q.val, 0, 0, 0] := by
  have := lt3 k
  have := lt4 q
  simp (disch := omega) only [k0_off15, iv_w, muli_one, addi_zero, muli_w, addi_w, Nat.zero_add, Scalar.indexCast, subi_w, remsi_w, toNat_w, Nat.mul_comm]
theorem off18_eq (k : Fin k0_t3_loop.trips) (q : Fin k0_t4_loop.trips) : k0_off18 k q = ![k.val % 24, q.val, 0, 0, 0] := by
  have := lt3 k
  have := lt4 q
  simp (disch := omega) only [k0_off18, iv_w, muli_one, addi_zero, muli_w, addi_w, Nat.zero_add, Scalar.indexCast, subi_w, remsi_w, toNat_w, Nat.mul_comm]
theorem off21_eq (k : Fin k0_t3_loop.trips) (q : Fin k0_t4_loop.trips) : k0_off21 k q = ![k.val % 24, q.val, 0, 0, 0] := by
  have := lt3 k
  have := lt4 q
  simp (disch := omega) only [k0_off21, iv_w, muli_one, addi_zero, muli_w, addi_w, Nat.zero_add, Scalar.indexCast, subi_w, remsi_w, toNat_w, Nat.mul_comm]
theorem off24_eq (k : Fin k0_t3_loop.trips) (q : Fin k0_t4_loop.trips) : k0_off24 k q = ![k.val % 24, q.val, 0, 0, 0] := by
  have := lt3 k
  have := lt4 q
  simp (disch := omega) only [k0_off24, iv_w, muli_one, addi_zero, muli_w, addi_w, Nat.zero_add, Scalar.indexCast, subi_w, remsi_w, toNat_w, Nat.mul_comm]
theorem off27_eq (k : Fin k0_t3_loop.trips) (q : Fin k0_t4_loop.trips) : k0_off27 k q = ![k.val % 24, q.val, 0, 0, 0] := by
  have := lt3 k
  have := lt4 q
  simp (disch := omega) only [k0_off27, iv_w, muli_one, addi_zero, muli_w, addi_w, Nat.zero_add, Scalar.indexCast, subi_w, remsi_w, toNat_w, Nat.mul_comm]
theorem off31_eq (k : Fin k0_t3_loop.trips) (q : Fin k0_t4_loop.trips) : k0_off31 k q = ![k.val % 24, q.val, 0, 0, 0] := by
  have := lt3 k
  have := lt4 q
  simp (disch := omega) only [k0_off31, iv_w, muli_one, addi_zero, muli_w, addi_w, Nat.zero_add, Scalar.indexCast, subi_w, remsi_w, toNat_w, Nat.mul_comm]
theorem off34_eq (k : Fin k0_t3_loop.trips) (q : Fin k0_t4_loop.trips) : k0_off34 k q = ![k.val % 24, q.val, 0, 0, 0] := by
  have := lt3 k
  have := lt4 q
  simp (disch := omega) only [k0_off34, iv_w, muli_one, addi_zero, muli_w, addi_w, Nat.zero_add, Scalar.indexCast, subi_w, remsi_w, toNat_w, Nat.mul_comm]
theorem off37_eq (k : Fin k0_t3_loop.trips) (q : Fin k0_t4_loop.trips) : k0_off37 k q = ![k.val % 24, q.val, 0, 0, 0] := by
  have := lt3 k
  have := lt4 q
  simp (disch := omega) only [k0_off37, iv_w, muli_one, addi_zero, muli_w, addi_w, Nat.zero_add, Scalar.indexCast, subi_w, remsi_w, toNat_w, Nat.mul_comm]
theorem off40_eq (k : Fin k0_t3_loop.trips) (q : Fin k0_t4_loop.trips) : k0_off40 k q = ![k.val % 24, q.val, 0, 0, 0] := by
  have := lt3 k
  have := lt4 q
  simp (disch := omega) only [k0_off40, iv_w, muli_one, addi_zero, muli_w, addi_w, Nat.zero_add, Scalar.indexCast, subi_w, remsi_w, toNat_w, Nat.mul_comm]
theorem cond1_eq (b : ℕ) (hb : b < 2 ^ 31) : k0_cond1 (w b) = 1#1 := by
  have h : Scalar.cmpi .sge (w b) 0#32 = 1#1 := Affine.sge_holds (w_isInt b hb) (w_isInt 0 (by omega)) (by omega)
  simp only [k0_cond1, h]
  decide
theorem cond1_none : ¬ k0_cond1 4294967295#32 = 1#1 := by decide
theorem cond2_iff (k : Fin k0_t3_loop.trips) : k0_cond2 k = 1#1 ↔ 8 ≤ k.val := by
  have h3 := lt3 k
  simp only [k0_cond2, iv_w, muli_one, addi_zero, Nat.zero_add]
  have h : ∀ n : Fin 270, Scalar.cmpi .ne (Scalar.extui (Scalar.cmpi .sge (Scalar.subi (w n) 8#32) 0#32)) 0#32 = 1#1 ↔ 8 ≤ n.val := by decide +kernel
  exact h ⟨k.val, h3⟩
theorem cond3_iff (k : Fin k0_t3_loop.trips) (h8 : 8 ≤ k.val) : k0_cond3 k = 1#1 ↔ k.val + 16 < 270 := by
  have h3 := lt3 k
  simp only [k0_cond3, iv_w, muli_one, addi_zero, Nat.zero_add]
  have h : ∀ n : Fin 270, 8 ≤ n.val → (Scalar.cmpi .ne (Scalar.extui (Scalar.cmpi .slt (Scalar.addi (Scalar.subi (w n) 8#32) 24#32) 270#32)) 0#32 = 1#1 ↔ n.val + 16 < 270) := by decide +kernel
  exact h ⟨k.val, h3⟩ h8
theorem rem_len (l : ℕ) (hl : l < 4608) : Scalar.remsi (w l) 256#32 = w (l % 256) := remsi_w l 256 (by omega) (by omega) (by omega)
theorem t5_eq (l : ℕ) (hl : l < 4608) : k0_t5_loop (w l) = ⟨w 0, w (l % 256 / 4 + 0), 1#32⟩ := by
  have hm := Nat.mod_lt l (show 0 < 256 by decide)
  simp (disch := omega) only [k0_t5_loop, rem_len l hl, mixed_w (l % 256) (Nat.mod_lt _ (by decide)), subi_zero, divsi_one, muli_one, addi_zero, show Scalar.subi 1#32 1#32 = w 0 from rfl, addi_w, subi_w]
  rw [Nat.zero_add]
theorem t5_trips (l : ℕ) (hl : l < 4608) : (k0_t5_loop (w l)).trips = l % 256 / 4 := by
  have hm := Nat.mod_lt l (show 0 < 256 by decide)
  rw [t5_eq l hl]
  refine (trips_w 0 _ (by omega) (by omega)).trans (by omega)
theorem t5_okw (l : ℕ) (hl : l < 4608) : (k0_t5_loop (w l)).OK := by
  have hm := Nat.mod_lt l (show 0 < 256 by decide)
  rw [t5_eq l hl]
  exact ok_w 0 _ (by omega) (by omega)
theorem lt5 (l : ℕ) (hl : l < 4608) (t : Fin (k0_t5_loop (w l)).trips) : t.val < l % 256 / 4 := lt_of_lt_of_eq t.isLt (t5_trips l hl)
theorem t7_eq (l : ℕ) (hl : l < 4608) : k0_t7_loop (w l) = ⟨w 0, w (64 - (l % 256 / 4 + 1) + 0), 1#32⟩ := by
  have hm := Nat.mod_lt l (show 0 < 256 by decide)
  simp (disch := omega) only [k0_t7_loop, rem_len l hl, mixed_w (l % 256) (Nat.mod_lt _ (by decide)), subi_zero, divsi_one, muli_one, addi_zero, show Scalar.subi 1#32 1#32 = w 0 from rfl, addi_w, subi_w]
  rw [Nat.zero_add]
theorem t7_trips (l : ℕ) (hl : l < 4608) : (k0_t7_loop (w l)).trips = 63 - l % 256 / 4 := by
  have hm := Nat.mod_lt l (show 0 < 256 by decide)
  rw [t7_eq l hl]
  refine (trips_w 0 _ (by omega) (by omega)).trans (by omega)
theorem t7_okw (l : ℕ) (hl : l < 4608) : (k0_t7_loop (w l)).OK := by
  have hm := Nat.mod_lt l (show 0 < 256 by decide)
  rw [t7_eq l hl]
  exact ok_w 0 _ (by omega) (by omega)
theorem lt7 (l : ℕ) (hl : l < 4608) (t : Fin (k0_t7_loop (w l)).trips) : t.val < 63 - l % 256 / 4 := lt_of_lt_of_eq t.isLt (t7_trips l hl)
theorem t9_eq (l : ℕ) (hl : l < 4608) : k0_t9_loop (w l) = ⟨w 0, w (l % 256 / 4 + 0), 1#32⟩ := by
  have hm := Nat.mod_lt l (show 0 < 256 by decide)
  simp (disch := omega) only [k0_t9_loop, rem_len l hl, mixed_w (l % 256) (Nat.mod_lt _ (by decide)), subi_zero, divsi_one, muli_one, addi_zero, show Scalar.subi 1#32 1#32 = w 0 from rfl, addi_w, subi_w]
  rw [Nat.zero_add]
theorem t9_trips (l : ℕ) (hl : l < 4608) : (k0_t9_loop (w l)).trips = l % 256 / 4 := by
  have hm := Nat.mod_lt l (show 0 < 256 by decide)
  rw [t9_eq l hl]
  refine (trips_w 0 _ (by omega) (by omega)).trans (by omega)
theorem t9_okw (l : ℕ) (hl : l < 4608) : (k0_t9_loop (w l)).OK := by
  have hm := Nat.mod_lt l (show 0 < 256 by decide)
  rw [t9_eq l hl]
  exact ok_w 0 _ (by omega) (by omega)
theorem lt9 (l : ℕ) (hl : l < 4608) (t : Fin (k0_t9_loop (w l)).trips) : t.val < l % 256 / 4 := lt_of_lt_of_eq t.isLt (t9_trips l hl)
theorem t11_eq (l : ℕ) (hl : l < 4608) : k0_t11_loop (w l) = ⟨w 0, w (64 - (l % 256 / 4 + 1) + 0), 1#32⟩ := by
  have hm := Nat.mod_lt l (show 0 < 256 by decide)
  simp (disch := omega) only [k0_t11_loop, rem_len l hl, mixed_w (l % 256) (Nat.mod_lt _ (by decide)), subi_zero, divsi_one, muli_one, addi_zero, show Scalar.subi 1#32 1#32 = w 0 from rfl, addi_w, subi_w]
  rw [Nat.zero_add]
theorem t11_trips (l : ℕ) (hl : l < 4608) : (k0_t11_loop (w l)).trips = 63 - l % 256 / 4 := by
  have hm := Nat.mod_lt l (show 0 < 256 by decide)
  rw [t11_eq l hl]
  refine (trips_w 0 _ (by omega) (by omega)).trans (by omega)
theorem t11_okw (l : ℕ) (hl : l < 4608) : (k0_t11_loop (w l)).OK := by
  have hm := Nat.mod_lt l (show 0 < 256 by decide)
  rw [t11_eq l hl]
  exact ok_w 0 _ (by omega) (by omega)
theorem lt11 (l : ℕ) (hl : l < 4608) (t : Fin (k0_t11_loop (w l)).trips) : t.val < 63 - l % 256 / 4 := lt_of_lt_of_eq t.isLt (t11_trips l hl)
theorem t6_trips (v : BitVec 32) : (k0_t6_loop v).trips = 0 := Scf.rem_trips _ _
theorem t8_trips (v : BitVec 32) : (k0_t8_loop v).trips = 0 := Scf.rem_trips _ _
theorem t10_trips (v : BitVec 32) : (k0_t10_loop v).trips = 0 := Scf.rem_trips _ _
theorem t12_trips (v : BitVec 32) : (k0_t12_loop v).trips = 0 := Scf.rem_trips _ _
theorem off16_eq (l : ℕ) (hl : l < 4608) (t : Fin (k0_t5_loop (w l)).trips) : k0_off16 (w l) t = ![4 * (t.val), 0, 0] := by
  have hm := Nat.mod_lt l (show 0 < 256 by decide)
  have ht := lt5 l hl t
  simp only [k0_off16, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off17_eq (k : Fin k0_t3_loop.trips) (q : Fin k0_t4_loop.trips) (l : ℕ) (hl : l < 4608) (t : Fin (k0_t5_loop (w l)).trips) :
    k0_off17 k q (w l) t = ![k.val % 24, q.val, 4 * (t.val), 0, 0] := by
  have := lt3 k
  have := lt4 q
  have hm := Nat.mod_lt l (show 0 < 256 by decide)
  have ht := lt5 l hl t
  simp only [k0_off17, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off32_eq (l : ℕ) (hl : l < 4608) (t : Fin (k0_t9_loop (w l)).trips) : k0_off32 (w l) t = ![4 * (t.val), 0, 0] := by
  have hm := Nat.mod_lt l (show 0 < 256 by decide)
  have ht := lt9 l hl t
  simp only [k0_off32, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off33_eq (k : Fin k0_t3_loop.trips) (q : Fin k0_t4_loop.trips) (l : ℕ) (hl : l < 4608) (t : Fin (k0_t9_loop (w l)).trips) :
    k0_off33 k q (w l) t = ![k.val % 24, q.val, 4 * (t.val), 0, 0] := by
  have := lt3 k
  have := lt4 q
  have hm := Nat.mod_lt l (show 0 < 256 by decide)
  have ht := lt9 l hl t
  simp only [k0_off33, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off25_eq (l : ℕ) (hl : l < 4608) (t : Fin (k0_t7_loop (w l)).trips) : k0_off25 (w l) t = ![4 * (l % 256 / 4 + 1 + t.val), 0, 0] := by
  have hm := Nat.mod_lt l (show 0 < 256 by decide)
  have ht := lt7 l hl t
  simp only [k0_off25, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off26_eq (k : Fin k0_t3_loop.trips) (q : Fin k0_t4_loop.trips) (l : ℕ) (hl : l < 4608) (t : Fin (k0_t7_loop (w l)).trips) :
    k0_off26 k q (w l) t = ![k.val % 24, q.val, 4 * (l % 256 / 4 + 1 + t.val), 0, 0] := by
  have := lt3 k
  have := lt4 q
  have hm := Nat.mod_lt l (show 0 < 256 by decide)
  have ht := lt7 l hl t
  simp only [k0_off26, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off38_eq (l : ℕ) (hl : l < 4608) (t : Fin (k0_t11_loop (w l)).trips) : k0_off38 (w l) t = ![4 * (l % 256 / 4 + 1 + t.val), 0, 0] := by
  have hm := Nat.mod_lt l (show 0 < 256 by decide)
  have ht := lt11 l hl t
  simp only [k0_off38, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off39_eq (k : Fin k0_t3_loop.trips) (q : Fin k0_t4_loop.trips) (l : ℕ) (hl : l < 4608) (t : Fin (k0_t11_loop (w l)).trips) :
    k0_off39 k q (w l) t = ![k.val % 24, q.val, 4 * (l % 256 / 4 + 1 + t.val), 0, 0] := by
  have := lt3 k
  have := lt4 q
  have hm := Nat.mod_lt l (show 0 < 256 by decide)
  have ht := lt11 l hl t
  simp only [k0_off39, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off22_eq (l : ℕ) (hl : l < 4608) : k0_off22 (w l) = ![4 * (l % 256 / 4), 0, 0] := by
  have hm := Nat.mod_lt l (show 0 < 256 by decide)
  simp only [k0_off22, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off23_eq (k : Fin k0_t3_loop.trips) (q : Fin k0_t4_loop.trips) (l : ℕ) (hl : l < 4608) :
    k0_off23 k q (w l) = ![k.val % 24, q.val, 4 * (l % 256 / 4), 0, 0] := by
  have := lt3 k
  have := lt4 q
  have hm := Nat.mod_lt l (show 0 < 256 by decide)
  simp only [k0_off23, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
/-- Four whole rows of a page, at any page of the ring, are whole packed words. -/
theorem packed_ring (off : Fin 5 → ℕ) (hinb : ∀ a, off a + S1x1x4x8x128.size a ≤ S24x4x256x8x128.size a) (h3 : off 3 = 0) (h4 : off 4 = 0) :
    (Rect.unit (s := S24x4x256x8x128) off S1x1x4x8x128.size hinb).PackedRows (EltTy.packing .i8) := by
  refine Or.inr ⟨by decide, rfl, Or.inr ⟨h3, rfl, rfl, h4, rfl⟩⟩

theorem chk1_of (k : Fin k0_t2_loop.trips) (l : ℕ) (hl : l < 4608) : k0_chk1 k (w l) := by
  have := lt2 k
  unfold k0_chk1
  rw [off6_eq k l hl]
  intro a
  fin_cases a
  · show l / 256 + 1 ≤ 18
    omega
  · show k.val + 1 ≤ 48
    omega
theorem chk2_of (p : ℕ) (hp : p < 1080) : k0_chk2 (w p) := by
  unfold k0_chk2
  rw [off7_eq p hp]
  intro a
  fin_cases a
  show p + 1 ≤ 1080
  omega
theorem tok_inb (b : ℕ) (hb : b < 48) : ∀ a, (![b, 0, 0] : Fin 3 → ℕ) a + S1x8x128.size a ≤ S48x8x128.size a := by
  intro a
  fin_cases a
  · show b + 1 ≤ 48
    omega
  · show 0 + 8 ≤ 8
    omega
  · show 0 + 128 ≤ 128
    omega
theorem chk3_of (b : ℕ) (hb : b < 48) : k0_chk3 (w b) := by
  refine ⟨fun _ => ?_, fun _ => ?_, fun _ => ?_⟩
  · rw [off13_eq b hb]
    intro a
    fin_cases a
    show b + 1 ≤ 48
    omega
  · rw [off14_eq b hb]; exact tok_inb b hb
  · rw [off30_eq b hb]; exact tok_inb b hb
theorem chk3_none : k0_chk3 4294967295#32 :=
  ⟨fun h => absurd h cond1_none, fun h => absurd h cond1_none, fun h => absurd h cond1_none⟩

theorem page_inb (g : ℕ) (hg : g < 64) : ∀ a, (![4 * g, 0, 0] : Fin 3 → ℕ) a + S4x8x128.size a ≤ S256x8x128.size a := by
  intro a
  fin_cases a
  · show 4 * g + 4 ≤ 256
    omega
  · show 0 + 8 ≤ 8
    omega
  · show 0 + 128 ≤ 128
    omega
theorem ring_inb (s q g : ℕ) (hs : s < 24) (hq : q < 4) (hg : g < 64) :
    ∀ a, (![s, q, 4 * g, 0, 0] : Fin 5 → ℕ) a + S1x1x4x8x128.size a ≤ S24x4x256x8x128.size a := by
  intro a
  fin_cases a
  · show s + 1 ≤ 24
    omega
  · show q + 1 ≤ 4
    omega
  · show 4 * g + 4 ≤ 256
    omega
  · show 0 + 8 ≤ 8
    omega
  · show 0 + 128 ≤ 128
    omega

theorem chk4_of (k : Fin k0_t3_loop.trips) (q : Fin k0_t4_loop.trips) (v : BitVec 32) (l : ℕ) (hl : l < 4608) : k0_chk4 k q v (w l) := by
  have hm := Nat.mod_lt l (show 0 < 256 by decide)
  have hk := Nat.mod_lt k.val (show 0 < 24 by decide)
  exact ⟨⟨fun _ => t5_okw l hl,
    fun t _ => by rw [off16_eq l hl t]; exact page_inb _ (by have := lt5 l hl t; omega),
    fun t _ => by rw [off17_eq k q l hl t]; exact ring_inb _ _ _ (by omega) (lt4 q) (by have := lt5 l hl t; omega),
    fun t _ hinb => packed_ring _ hinb (by rw [off17_eq k q l hl t]; rfl) (by rw [off17_eq k q l hl t]; rfl),
    fun _ => Scf.rem_ok _ _,
    fun t => (Scf.rem_no_trip _ _ t).elim,
    fun t => (Scf.rem_no_trip _ _ t).elim,
    fun t => (Scf.rem_no_trip _ _ t).elim,
    fun _ => by rw [off22_eq l hl]; exact page_inb _ (by omega),
    fun _ => by rw [off23_eq k q l hl]; exact ring_inb _ _ _ (by omega) (lt4 q) (by omega),
    fun _ hinb => packed_ring _ hinb (by rw [off23_eq k q l hl]; rfl) (by rw [off23_eq k q l hl]; rfl),
    fun _ => t7_okw l hl,
    fun t _ => by rw [off25_eq l hl t]; exact page_inb _ (by have := lt7 l hl t; omega),
    fun t _ => by rw [off26_eq k q l hl t]; exact ring_inb _ _ _ (by omega) (lt4 q) (by have := lt7 l hl t; omega),
    fun t _ hinb => packed_ring _ hinb (by rw [off26_eq k q l hl t]; rfl) (by rw [off26_eq k q l hl t]; rfl),
    fun _ => Scf.rem_ok _ _,
    fun t => (Scf.rem_no_trip _ _ t).elim,
    fun t => (Scf.rem_no_trip _ _ t).elim,
    fun t => (Scf.rem_no_trip _ _ t).elim,
    fun _ => t9_okw l hl,
    fun t _ => by rw [off32_eq l hl t]; exact page_inb _ (by have := lt9 l hl t; omega),
    fun t _ => by rw [off33_eq k q l hl t]; exact ring_inb _ _ _ (by omega) (lt4 q) (by have := lt9 l hl t; omega),
    fun t _ hinb => packed_ring _ hinb (by rw [off33_eq k q l hl t]; rfl) (by rw [off33_eq k q l hl t]; rfl),
    fun _ => Scf.rem_ok _ _,
    fun t => (Scf.rem_no_trip _ _ t).elim,
    fun t => (Scf.rem_no_trip _ _ t).elim,
    fun t => (Scf.rem_no_trip _ _ t).elim,
    fun _ => t11_okw l hl,
    fun t _ => by rw [off38_eq l hl t]; exact page_inb _ (by have := lt11 l hl t; omega),
    fun t _ => by rw [off39_eq k q l hl t]; exact ring_inb _ _ _ (by omega) (lt4 q) (by have := lt11 l hl t; omega),
    fun t _ hinb => packed_ring _ hinb (by rw [off39_eq k q l hl t]; rfl) (by rw [off39_eq k q l hl t]; rfl),
    fun _ => Scf.rem_ok _ _⟩,
    fun t => (Scf.rem_no_trip _ _ t).elim,
    fun t => (Scf.rem_no_trip _ _ t).elim,
    fun t => (Scf.rem_no_trip _ _ t).elim⟩

end Cert.Kernel.Words
-- ==== Proof.Pieces.lean ====
/- The pieces of memory the kernel moves: chunks of the pools, slots of the rings, one page's rows of a slot. -/
module

public import proofs.«01_k».proof.Proof.Words
public import Idealize.ShloMosaic.Lib.Ring
public import Idealize.ShloMosaic.Lib.Tactic
public import Idealize.ShloMosaic.Lib.ValueLayout

@[expose] public section

noncomputable section

namespace Cert.Kernel.Pieces

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

/-- A pool: 1080 pages of 256 rows of 8 heads of 128 codes. -/
abbrev PoolM := Memref sig .tc .hbm S1080x256x8x128 .i8
/-- A ring of 24 slots, each of four pages. -/
abbrev RingM := Memref sig .tc .vmem S24x4x256x8x128 .i8
/-- The codes of one chunk: four pages. -/
abbrev Chunk (F : FTy → Type) := S4x256x8x128.Idx → Elt F .i8

theorem blk_inb (j : ℕ) : ∀ a, (![4 * (j % 270), 0, 0, 0] : Fin 4 → ℕ) a + S4x256x8x128.size a ≤ S1080x256x8x128.size a := by
  have h : j % 270 < 270 := Nat.mod_lt _ (by decide)
  intro a; fin_cases a <;> simp <;> omega
theorem slot_inb (j : ℕ) : ∀ a, (![j % 24, 0, 0, 0, 0] : Fin 5 → ℕ) a + S1x4x256x8x128.size a ≤ S24x4x256x8x128.size a := by
  have h : j % 24 < 24 := Nat.mod_lt _ (by decide)
  intro a; fin_cases a <;> simp <;> omega

/-- Chunk `j` of a pool. -/
def blk (P : PoolM) (j : ℕ) : Memref sig .tc .hbm S4x256x8x128 .i8 :=
  P.slice (Rect.unit (s := S1080x256x8x128) ![4 * (j % 270), 0, 0, 0] S4x256x8x128.size (blk_inb j)) (fun _ => rfl)
/-- The ring's slot of chunk `j`. -/
def slot (R : RingM) (j : ℕ) : Memref sig .tc .vmem S4x256x8x128 .i8 :=
  (R.slice (Rect.unit (s := S24x4x256x8x128) ![j % 24, 0, 0, 0, 0] S1x4x256x8x128.size (slot_inb j)) (fun _ => rfl)).squeeze S4x256x8x128 squeezes_S1x4x256x8x128_S4x256x8x128

theorem cell_inb (h : Fin 2) (j : ℕ) : ∀ a, (![h.val, j % 24] : Fin 2 → ℕ) a + S1x1.size a ≤ S2x24.size a := by
  have h' : j % 24 < 24 := Nat.mod_lt _ (by decide)
  have := h.isLt
  intro a; fin_cases a <;> simp <;> omega
/-- The semaphore of row `h` of chunk `j`'s slot. -/
def cell (A : DmaSems sig S2x24) (h : Fin 2) (j : ℕ) : SemLoc sig :=
  .dma ((A.slice (Rect.unit (s := S2x24) ![h.val, j % 24] S1x1.size (cell_inb h j))).squeeze S_ squeezes_S1x1_S_).sem

/-- A memref holds `x`. -/
def holds (c : Thread nD τ) {sp : Space} {s : Shape} {e : EltTy} (m : Memref sig c.2.kind sp s e) (x : s.Idx → Elt F e) : sProp 𝕄 :=
  m.view.loc c ↦[m.view.set]{fullShare} m.view.rep x

/-- A write of a whole memref leaves the values written. -/
theorem pt_write {c : Thread nD τ} {sp : Space} {s : Shape} {e : EltTy} (m : Memref sig c.2.kind sp s e) (f : Buf (Elt F) (m.view.loc c)) (x : s.Idx → Elt F e) :
    (m.view.loc c ↦[m.view.set]{fullShare} m.view.write (Elt F) f x Finset.univ : sProp 𝕄) = holds c m x := by
  refine pointsTo_congr fun i hi => ?_
  obtain ⟨y, -, rfl⟩ := Finset.mem_map.mp hi
  rw [View.rep_emb, View.write_emb_of_mem _ _ (Finset.mem_univ _)]

variable (c : Dev nD)

/-- A copy between two memrefs is under way: on arrival the target holds what the source holds. -/
theorem issue {sp sp' : Space} {s : Shape} {e : EltTy} {src : Memref sig .tc sp s e} {dst : Memref sig .tc sp' s e} {sm : SemLoc sig}
    {hsrc : src.view.WordExact} {hdst : (DmaTarget.here (nD := nD) (τ := τ) (p := .tc) dst).view.WordExact} {hsem : DmaTarget.Typed (nD := nD) (τ := τ) (p := .tc) sp sm (.here dst)}
    {α : Type} {k : PUnit → Prog (TpuEff nD τ sig (Elt F) Λ₀ .tc) α} {Q : α → sProp 𝕄}
    (hN0 : 0 < dst.view.amount sm) (x y : s.Idx → Elt F e) :
    iprop(holds (c : Thread nD τ) src x ∗ holds (c : Thread nD τ) dst y ∗ semVal ((c : Thread nD τ), sm) 0)
      ⊢ iprop((Transfers.Flight countersEmb (c : Thread nD τ) sm () (dst.view.amount sm) iprop(holds (c : Thread nD τ) dst x ∗ holds (c : Thread nD τ) src x)
          -∗ wp frame (wpE (defs₀ (F := F)) 𝒱₀ (c : Thread nD τ) none) Set.univ (k ⟨⟩) Q)
        -∗ wp frame (wpE (defs₀ (F := F)) 𝒱₀ (c : Thread nD τ) none) Set.univ (Prog.lift (.enqueueDma src (.here dst) sm hsrc hdst hsem) >>= k) Q) := by
  have h := Transfers.wp_dmaLocal (defs := defs₀ (F := F)) countersEmb 𝒱₀ (c : Thread nD τ) none (Q := Q) (src := src) (via := .same) (dst := dst) (sm := sm) (hsrc := hsrc)
    (hdst := hdst) (hsem := hsem) (k := k) (q := fullShare) (fs := src.view.rep x) (Sd := dst.view.set) (fd := dst.view.rep y) () _ rfl hN0 (Finset.Subset.refl _)
  rw [pt_write, show ReadAs.same.apply (src.view.read (Elt F) (src.view.rep x)) = x from View.read_rep _ _] at h
  exact h

/-- The wait of a copy hands over what the copy delivers. -/
theorem await {sp sp' : Space} {s : Shape} {e : EltTy} {src : Memref sig .tc sp' s e} {dst : Memref sig .tc sp s e} {sm : DmaSem sig}
    {hsrc : src.view.WordExact} {hdst : dst.view.WordExact}
    {α : Type} {k : PUnit → Prog (TpuEff nD τ sig (Elt F) Λ₀ .tc) α} {Q : α → sProp 𝕄} (D : sProp 𝕄) (W : Waits sig Unit) :
    iprop(Transfers.Flight countersEmb (c : Thread nD τ) (.dma sm) () (dst.view.amount (.dma sm)) D ∗ owes (c : Thread nD τ) 0 W)
      ⊢ iprop((iprop(D ∗ semVal ((c : Thread nD τ), .dma sm) 0 ∗ ∃ W', owes (c : Thread nD τ) 0 W')
          -∗ wp frame (wpE (defs₀ (F := F)) 𝒱₀ (c : Thread nD τ) none) Set.univ (k ⟨⟩) Q)
        -∗ wp frame (wpE (defs₀ (F := F)) 𝒱₀ (c : Thread nD τ) none) Set.univ (Prog.lift (.waitDma2 sm src dst hsrc hdst) >>= k) Q) := by
  have H := Transfers.wp_waitLocal (defs := defs₀ (F := F)) countersEmb 𝒱₀ (c : Thread nD τ) none (k := k) (Q := Q) (sem := sm) (srcw := src) (dstw := dst) (hsrc := hsrc) (hdst := hdst)
    () (N := dst.view.amount (.dma sm)) rfl (D := D) (W := W)
  refine H.trans ?_
  iintro H1 Hk
  iapply H1
  iintro ⟨HD, Hs, Ho⟩
  iapply Hk
  isplitl [HD]; · iexact HD
  isplitl [Hs]; · iexact Hs
  iexists _
  iexact Ho

/-- A chunk of a pool moves some bytes. -/
theorem blk_amount_pos (P : PoolM) (j : ℕ) (s : DmaSem sig) : 0 < (blk P j).view.amount (.dma s) :=
  View.dmaCredit_pos _ (by decide +kernel)
/-- A slot of a ring moves some bytes. -/
theorem slot_amount_pos (P : RingM) (j : ℕ) (s : DmaSem sig) : 0 < (slot P j).view.amount (.dma s) :=
  View.dmaCredit_pos _ (by decide +kernel)

/-- Chunk `j`'s copy from a pool into its slot is under way. -/
def readF (P : PoolM) (R : RingM) (A : DmaSems sig S2x24) (h : Fin 2) (j : ℕ) (x : Chunk F) : sProp 𝕄 :=
  Transfers.Flight countersEmb (c : Thread nD τ) (cell A h j) () ((slot R j).view.amount (cell A h j)) iprop(holds (c : Thread nD τ) (slot R j) x ∗ holds (c : Thread nD τ) (blk P j) x)
/-- Chunk `j`'s copy from its slot into a pool is under way. -/
def writeF (R : RingM) (O : PoolM) (A : DmaSems sig S2x24) (h : Fin 2) (j : ℕ) (x : Chunk F) : sProp 𝕄 :=
  Transfers.Flight countersEmb (c : Thread nD τ) (cell A h j) () ((blk O j).view.amount (cell A h j)) iprop(holds (c : Thread nD τ) (blk O j) x ∗ holds (c : Thread nD τ) (slot R j) x)

section rules

variable {α : Type} {k : PUnit → Prog (TpuEff nD τ sig (Elt F) Λ₀ .tc) α} {P : PoolM} {R : RingM} {A : DmaSems sig S2x24}
  {ob : Fin 4 → ℕ} {os : Fin 5 → ℕ} {oc : Fin 2 → ℕ}
  {ib : ∀ a, ob a + S4x256x8x128.size a ≤ S1080x256x8x128.size a} {is : ∀ a, os a + S1x4x256x8x128.size a ≤ S24x4x256x8x128.size a}
  {ic : ∀ a, oc a + S1x1.size a ≤ S2x24.size a}

theorem issue_read {Q : α → sProp 𝕄} (h : Fin 2) (j : ℕ) (hob : ob = ![4 * (j % 270), 0, 0, 0]) (hos : os = ![j % 24, 0, 0, 0, 0]) (hoc : oc = ![h.val, j % 24]) (x y : Chunk F) {e1 e2 e3} :
    iprop(holds (c : Thread nD τ) (blk P j) x ∗ holds (c : Thread nD τ) (slot R j) y ∗ semVal ((c : Thread nD τ), cell A h j) 0)
      ⊢ iprop((readF c P R A h j x -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.enqueueDma (P.slice (Rect.unit (s := S1080x256x8x128) ob S4x256x8x128.size ib) (fun _ => rfl))
            (.here ((R.slice (Rect.unit (s := S24x4x256x8x128) os S1x4x256x8x128.size is) (fun _ => rfl)).squeeze S4x256x8x128 squeezes_S1x4x256x8x128_S4x256x8x128))
            (.dma ((A.slice (Rect.unit (s := S2x24) oc S1x1.size ic)).squeeze S_ squeezes_S1x1_S_).sem) e1 e2 e3) >>= k) Q) := by
  subst hob hos hoc
  exact issue c (src := blk P j) (dst := slot R j) (slot_amount_pos R j _) x y

theorem issue_write {Q : α → sProp 𝕄} (h : Fin 2) (j : ℕ) (hob : ob = ![4 * (j % 270), 0, 0, 0]) (hos : os = ![j % 24, 0, 0, 0, 0]) (hoc : oc = ![h.val, j % 24]) (x y : Chunk F) {e1 e2 e3} :
    iprop(holds (c : Thread nD τ) (slot R j) x ∗ holds (c : Thread nD τ) (blk P j) y ∗ semVal ((c : Thread nD τ), cell A h j) 0)
      ⊢ iprop((writeF c R P A h j x -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.enqueueDma ((R.slice (Rect.unit (s := S24x4x256x8x128) os S1x4x256x8x128.size is) (fun _ => rfl)).squeeze S4x256x8x128 squeezes_S1x4x256x8x128_S4x256x8x128)
            (.here (P.slice (Rect.unit (s := S1080x256x8x128) ob S4x256x8x128.size ib) (fun _ => rfl)))
            (.dma ((A.slice (Rect.unit (s := S2x24) oc S1x1.size ic)).squeeze S_ squeezes_S1x1_S_).sem) e1 e2 e3) >>= k) Q) := by
  subst hob hos hoc
  exact issue c (src := slot R j) (dst := blk P j) (blk_amount_pos P j _) x y

theorem await_read {Q : α → sProp 𝕄} (h : Fin 2) (j : ℕ) (hob : ob = ![4 * (j % 270), 0, 0, 0]) (hos : os = ![j % 24, 0, 0, 0, 0]) (hoc : oc = ![h.val, j % 24]) (x : Chunk F) (W : Waits sig Unit) {e1 e2} :
    iprop(readF c P R A h j x ∗ owes (c : Thread nD τ) 0 W)
      ⊢ iprop((iprop((holds (c : Thread nD τ) (slot R j) x ∗ holds (c : Thread nD τ) (blk P j) x) ∗ semVal ((c : Thread nD τ), cell A h j) 0 ∗ ∃ W', owes (c : Thread nD τ) 0 W')
          -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.waitDma2 ((A.slice (Rect.unit (s := S2x24) oc S1x1.size ic)).squeeze S_ squeezes_S1x1_S_).sem
            (P.slice (Rect.unit (s := S1080x256x8x128) ob S4x256x8x128.size ib) (fun _ => rfl))
            ((R.slice (Rect.unit (s := S24x4x256x8x128) os S1x4x256x8x128.size is) (fun _ => rfl)).squeeze S4x256x8x128 squeezes_S1x4x256x8x128_S4x256x8x128) e1 e2) >>= k) Q) := by
  subst hob hos hoc
  have H := await (k := k) (Q := Q) c (src := blk P j) (dst := slot R j) (sm := ((A.slice (Rect.unit (s := S2x24) ![h.val, j % 24] S1x1.size (cell_inb h j))).squeeze S_ squeezes_S1x1_S_).sem)
    (hsrc := e1) (hdst := e2) (D := iprop(holds (c : Thread nD τ) (slot R j) x ∗ holds (c : Thread nD τ) (blk P j) x)) W
  exact H

theorem await_write {Q : α → sProp 𝕄} (h : Fin 2) (j : ℕ) (hob : ob = ![4 * (j % 270), 0, 0, 0]) (hos : os = ![j % 24, 0, 0, 0, 0]) (hoc : oc = ![h.val, j % 24]) (x : Chunk F) (W : Waits sig Unit) {e1 e2} :
    iprop(writeF c R P A h j x ∗ owes (c : Thread nD τ) 0 W)
      ⊢ iprop((iprop((holds (c : Thread nD τ) (blk P j) x ∗ holds (c : Thread nD τ) (slot R j) x) ∗ semVal ((c : Thread nD τ), cell A h j) 0 ∗ ∃ W', owes (c : Thread nD τ) 0 W')
          -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.waitDma2 ((A.slice (Rect.unit (s := S2x24) oc S1x1.size ic)).squeeze S_ squeezes_S1x1_S_).sem
            ((R.slice (Rect.unit (s := S24x4x256x8x128) os S1x4x256x8x128.size is) (fun _ => rfl)).squeeze S4x256x8x128 squeezes_S1x4x256x8x128_S4x256x8x128)
            (P.slice (Rect.unit (s := S1080x256x8x128) ob S4x256x8x128.size ib) (fun _ => rfl)) e1 e2) >>= k) Q) := by
  subst hob hos hoc
  have H := await (k := k) (Q := Q) c (src := slot R j) (dst := blk P j) (sm := ((A.slice (Rect.unit (s := S2x24) ![h.val, j % 24] S1x1.size (cell_inb h j))).squeeze S_ squeezes_S1x1_S_).sem)
    (hsrc := e1) (hdst := e2) (D := iprop(holds (c : Thread nD τ) (blk P j) x ∗ holds (c : Thread nD τ) (slot R j) x)) W
  exact H

end rules

/-! ## One page of a slot, and four rows of it -/

theorem reshapeEquiv_ix4_1abcd {a b d e : ℕ} (h : (⟨4, ![a, b, d, e]⟩ : Shape).numel = (⟨5, ![1, a, b, d, e]⟩ : Shape).numel)
    (x : Fin a) (y : Fin b) (z : Fin d) (w : Fin e) :
    Shape.reshapeEquiv h (ix4 x y z w) = ix5 (⟨0, Nat.one_pos⟩ : Fin 1) x y z w :=
  Shape.reshapeEquiv_eq_of_rowMajor h (by
    rw [Shape.rowMajor_val_five, Shape.rowMajor_val_four]
    show ((((0 * a + x.val) * b + y.val) * d + z.val) * e + w.val) = ((x.val * b + y.val) * d + z.val) * e + w.val
    simp only [Nat.zero_mul, Nat.zero_add])

/-- The slot's element of page `q`, row `r`. -/
theorem slot_emb (R : RingM) (j : ℕ) (x : Fin 4) (y : Fin 256) (z : Fin 8) (w : Fin 128) :
    (slot R j).view.emb (ix4 x y z w) = R.view.emb (ix5 (⟨j % 24, Nat.mod_lt _ (by decide)⟩ : Fin 24) x y z w) := by
  show R.view.emb ((Rect.unit (s := S24x4x256x8x128) ![j % 24, 0, 0, 0, 0] S1x4x256x8x128.size (slot_inb j)).emb (Shape.reshapeEquiv _ (ix4 x y z w))) = _
  rw [reshapeEquiv_ix4_1abcd]
  congr 1
  funext a
  apply Fin.ext
  rw [Rect.emb_apply]
  fin_cases a <;> simp [Rect.unit]

/-- The rows `4 g … 4 g + 3` of page `q`, as a load of them reads a chunk. -/
def getG (x : Chunk F) (q : Fin 4) (g : Fin 64) : S4x8x128.Idx → Elt F .i8 :=
  fun y => x (ix4 q (⟨4 * g.val + (y 0).val, by have h : (y 0).val < 4 := (y 0).isLt; omega⟩ : Fin 256) (y 1) (y 2))
/-- A chunk whose rows `4 g … 4 g + 3` of page `q` are `w`. -/
def putG (x : Chunk F) (q : Fin 4) (g : Fin 64) (w : S1x1x4x8x128.Idx → Elt F .i8) : Chunk F :=
  fun y => if (y 0).val = q.val ∧ (y 1).val / 4 = g.val then
    w (ix5 (0 : Fin 1) (0 : Fin 1) (⟨(y 1).val % 4, Nat.mod_lt _ (by decide)⟩ : Fin 4) (y 2) (y 3)) else x y

theorem page_emb (R : RingM) (j : ℕ) (q : Fin 4) {op : Fin 5 → ℕ} {ip : ∀ a, op a + S1x1x256x8x128.size a ≤ S24x4x256x8x128.size a}
    (hop : op = ![j % 24, q.val, 0, 0, 0]) (y : Fin 256) (z : Fin 8) (w : Fin 128) :
    ((R.slice (Rect.unit (s := S24x4x256x8x128) op S1x1x256x8x128.size ip) (fun _ => rfl)).squeeze S256x8x128 squeezes_S1x1x256x8x128_S256x8x128).view.emb (ix3 y z w)
      = (slot R j).view.emb (ix4 q y z w) := by
  subst hop
  rw [slot_emb]
  show R.view.emb ((Rect.unit (s := S24x4x256x8x128) ![j % 24, q.val, 0, 0, 0] S1x1x256x8x128.size ip).emb (Shape.reshapeEquiv _ (ix3 y z w))) = _
  rw [reshapeEquiv_ix3_11abc]
  congr 1
  funext a
  apply Fin.ext
  rw [Rect.emb_apply]
  fin_cases a <;> simp [Rect.unit]

theorem ix3_eta (y : S256x8x128.Idx) : y = ix3 (y 0) (y 1) (y 2) := by
  funext a; fin_cases a <;> rfl
theorem ix4_eta (y : S4x256x8x128.Idx) : y = ix4 (y 0) (y 1) (y 2) (y 3) := by
  funext a; fin_cases a <;> rfl
theorem ix5_eta (y : S1x1x4x8x128.Idx) : y = ix5 (0 : Fin 1) (0 : Fin 1) (y 2) (y 3) (y 4) := by
  funext a; fin_cases a
  · exact Subsingleton.elim (α := Fin 1) _ _
  · exact Subsingleton.elim (α := Fin 1) _ _
  all_goals rfl

theorem cast_back {A B : Type} (h : A = B) (h' : B = A) (a : A) : cast h' (cast h a) = a := by
  subst h; rfl

section groups

variable {α : Type} {R : RingM}

/-- A load of four rows of a page reads them. -/
theorem load_group {Q : α → sProp 𝕄} {k : (S4x8x128.Idx → Elt F .i8) → Prog (TpuEff nD τ sig (Elt F) Λ₀ .tc) α} (j : ℕ) (q : Fin 4) (g : Fin 64) {op : Fin 5 → ℕ} {og : Fin 3 → ℕ}
    {ip : ∀ a, op a + S1x1x256x8x128.size a ≤ S24x4x256x8x128.size a} {ig : ∀ a, og a + S4x8x128.size a ≤ S256x8x128.size a}
    (hop : op = ![j % 24, q.val, 0, 0, 0]) (hog : og = ![4 * g.val, 0, 0]) (x : Chunk F) {e1} :
    holds (c : Thread nD τ) (slot R j) x
      ⊢ iprop((holds (c : Thread nD τ) (slot R j) x -∗ wp frame (wpE (defs₀ (F := F)) 𝒱₀ (c : Thread nD τ) none) Set.univ (k (getG x q g)) Q)
        -∗ wp frame (wpE (defs₀ (F := F)) 𝒱₀ (c : Thread nD τ) none) Set.univ
          (Prog.lift (.load ((R.slice (Rect.unit (s := S24x4x256x8x128) op S1x1x256x8x128.size ip) (fun _ => rfl)).squeeze S256x8x128 squeezes_S1x1x256x8x128_S256x8x128)
            (Rect.unit (s := S256x8x128) og S4x8x128.size ig).toLoadRect e1) >>= k) Q) := by
  have hS : ((R.slice (Rect.unit (s := S24x4x256x8x128) op S1x1x256x8x128.size ip) (fun _ => rfl)).squeeze S256x8x128 squeezes_S1x1x256x8x128_S256x8x128).view.setOn
      (Rect.unit (s := S256x8x128) og S4x8x128.size ig).toLoadRect.set ⊆ (slot R j).view.set := by
    intro i hi
    obtain ⟨z, -, rfl⟩ := Finset.mem_map.mp hi
    rw [ix3_eta z]
    erw [page_emb R j q hop]
    exact Finset.mem_map_of_mem _ (Finset.mem_univ _)
  have h := wp_load (defs := defs₀ (F := F)) (Γ := .empty) 𝒱₀ (c : Thread nD τ) none Set.univ (Q := Q) (k := k) (hl := e1) (q := fullShare) (f := (slot R j).view.rep x) hS
  refine h.trans ?_
  have hv : ((R.slice (Rect.unit (s := S24x4x256x8x128) op S1x1x256x8x128.size ip) (fun _ => rfl)).squeeze S256x8x128 squeezes_S1x1x256x8x128_S256x8x128).view.readAt (Elt F)
      (Rect.unit (s := S256x8x128) og S4x8x128.size ig).toLoadRect ((slot R j).view.rep x) = getG x q g := by
    funext y
    refine (View.read_apply _ _).trans ?_
    refine (congrArg (fun i => cast _ ((slot R j).view.rep x i)) ((congrArg _ (ix3_eta _)).trans (page_emb R j q hop _ _ _))).trans ?_
    refine (congrArg (cast _) (View.rep_emb _ _ _)).trans ?_
    refine (cast_back _ _ _).trans ?_
    subst hog
    unfold getG
    congr 1
    funext a
    apply Fin.ext
    fin_cases a <;> simp [Rect.unit, Rect.toLoadRect, LoadRect.idx]
  rw [hv]
  exact .rfl

/-- A store of four rows of a page leaves the chunk with them. -/
theorem store_group {Q : α → sProp 𝕄} {k : PUnit → Prog (TpuEff nD τ sig (Elt F) Λ₀ .tc) α} (j : ℕ) (q : Fin 4) (g : Fin 64) {og : Fin 5 → ℕ}
    {ig : ∀ a, og a + S1x1x4x8x128.size a ≤ S24x4x256x8x128.size a}
    (hog : og = ![j % 24, q.val, 4 * g.val, 0, 0]) (x : Chunk F) (w : S1x1x4x8x128.Idx → Elt F .i8) {e1 e2} :
    holds (c : Thread nD τ) (slot R j) x
      ⊢ iprop((holds (c : Thread nD τ) (slot R j) (putG x q g w) -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.store R (Rect.unit (s := S24x4x256x8x128) og S1x1x4x8x128.size ig) w Finset.univ e1 e2) >>= k) Q) := by
  have hemb : ∀ y : S1x1x4x8x128.Idx, (R.access (Rect.unit (s := S24x4x256x8x128) og S1x1x4x8x128.size ig)).emb y
      = (slot R j).view.emb (ix4 q (⟨4 * g.val + (y 2).val, by have h : (y 2).val < 4 := (y 2).isLt; omega⟩ : Fin 256) (y 3) (y 4)) := by
    intro y
    subst hog
    refine Eq.trans ?_ (slot_emb R j q (⟨4 * g.val + (y 2).val, by have h : (y 2).val < 4 := (y 2).isLt; omega⟩ : Fin 256) (y 3) (y 4)).symm
    show R.view.emb _ = _
    congr 1
    funext a
    apply Fin.ext
    rw [Rect.emb_apply]
    have h0 : (y 0).val = 0 := Nat.lt_one_iff.1 (y 0).isLt
    have h1 : (y 1).val = 0 := Nat.lt_one_iff.1 (y 1).isLt
    fin_cases a <;> simp [Rect.unit, h0, h1]
  have hS : (R.access (Rect.unit (s := S24x4x256x8x128) og S1x1x4x8x128.size ig)).setOn Finset.univ ⊆ (slot R j).view.set := by
    intro i hi
    obtain ⟨y, -, rfl⟩ := Finset.mem_map.mp hi
    rw [hemb]
    exact Finset.mem_map_of_mem _ (Finset.mem_univ _)
  have h := wp_store (defs := defs₀ (F := F)) (Γ := .empty) 𝒱₀ (c : Thread nD τ) none Set.univ (Q := Q) (k := k) (hx := e1) (hm := e2) (w := w) (f := (slot R j).view.rep x) hS
  refine h.trans ?_
  have hv : ((R.access (Rect.unit (s := S24x4x256x8x128) og S1x1x4x8x128.size ig)).loc (c : Thread nD τ) ↦[(slot R j).view.set]{fullShare}
      (R.access (Rect.unit (s := S24x4x256x8x128) og S1x1x4x8x128.size ig)).write (Elt F) ((slot R j).view.rep x) w Finset.univ : sProp 𝕄)
      = holds (c : Thread nD τ) (slot R j) (putG x q g w) := by
    refine pointsTo_congr fun i hi => ?_
    obtain ⟨y, -, rfl⟩ := Finset.mem_map.mp hi
    erw [View.rep_emb]
    by_cases hy : (y 0).val = q.val ∧ (y 1).val / 4 = g.val
    · have hy' : (slot R j).view.emb y = (R.access (Rect.unit (s := S24x4x256x8x128) og S1x1x4x8x128.size ig)).emb
          (ix5 (0 : Fin 1) (0 : Fin 1) (⟨(y 1).val % 4, Nat.mod_lt _ (by decide)⟩ : Fin 4) (y 2) (y 3)) := by
        rw [hemb]
        congr 1
        rw [ix4_eta y]
        funext a
        apply Fin.ext
        fin_cases a
        · exact hy.1
        · show (y 1).val = 4 * g.val + (y 1).val % 4
          omega
        all_goals rfl
      refine (congrArg (View.write (Elt F) (R.access (Rect.unit (s := S24x4x256x8x128) og S1x1x4x8x128.size ig)) ((slot R j).view.rep x) w Finset.univ) hy').trans
        ((View.write_emb_of_mem _ _ (Finset.mem_univ _)).trans ?_)
      simp only [putG, if_pos hy]
      rfl
    · refine (View.write_of_not_mem _ _ _ ?_).trans ?_
      · intro hm
        obtain ⟨z, -, hz⟩ := Finset.mem_map.mp hm
        rw [hemb] at hz
        have hz' := (slot R j).view.emb.injective hz
        apply hy
        rw [← hz']
        have h2 : (z 2).val < 4 := (z 2).isLt
        constructor
        · rfl
        · show (4 * g.val + (z 2).val) / 4 = g.val
          omega
      · refine (View.rep_emb _ _ _).trans ?_
        simp only [putG, if_neg hy]
  rw [hv]
  exact .rfl

end groups

end Cert.Kernel.Pieces

end
-- ==== Proof.Cells.lean ====
/- Loads and stores of whole arrays, of one word and of one row, as they read and leave what a memref holds. -/
module

public import proofs.«01_k».proof.Proof.Pieces

@[expose] public section

noncomputable section

namespace Cert.Kernel.Pieces

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (c : Dev nD)

section rules

variable {α : Type} {cs : CoreSpace} {s : Shape} {e : EltTy}

theorem unit_emb {off size : Fin s.rank → ℕ} {inb : ∀ a, off a + size a ≤ s.size a} (y : (Rect.unit (s := s) off size inb).shape.Idx) (a : Fin s.rank) :
    ((Rect.unit (s := s) off size inb).emb y a).val = off a + (y a).val := by
  rw [Rect.emb_apply]
  simp [Rect.unit]

/-- A load reads what the memref holds at the rectangle's indices. -/
theorem load_at {m : Memref sig .tc cs s e} {r : Rect s} {Q : α → sProp 𝕄} {k : (r.toLoadRect.shape.Idx → Elt F e) → Prog (TpuEff nD τ sig (Elt F) Λ₀ .tc) α} (x : s.Idx → Elt F e) (v : r.toLoadRect.shape.Idx → Elt F e)
    (hv : ∀ y, x (r.emb y) = v y) {e1 : m.view.LoadsAt r.toLoadRect} :
    holds (c : Thread nD τ) m x
      ⊢ iprop((holds (c : Thread nD τ) m x -∗ wp frame (wpE (defs₀ (F := F)) 𝒱₀ (c : Thread nD τ) none) Set.univ (k v) Q)
        -∗ wp frame (wpE (defs₀ (F := F)) 𝒱₀ (c : Thread nD τ) none) Set.univ (Prog.lift (.load m r.toLoadRect e1) >>= k) Q) := by
  have hS : m.view.setOn r.toLoadRect.set ⊆ m.view.set := by
    intro i hi
    obtain ⟨z, -, rfl⟩ := Finset.mem_map.mp hi
    exact Finset.mem_map_of_mem _ (Finset.mem_univ _)
  have h := wp_load (defs := defs₀ (F := F)) (Γ := .empty) 𝒱₀ (c : Thread nD τ) none Set.univ (Q := Q) (k := k) (hl := e1) (q := fullShare) (f := m.view.rep x) hS
  refine h.trans ?_
  have hv : m.view.readAt (Elt F) r.toLoadRect (m.view.rep x) = v := by
    funext y
    refine (View.read_apply _ _).trans ?_
    refine (congrArg (cast _) (View.rep_emb _ _ _)).trans ?_
    refine (cast_back _ _ _).trans ?_
    exact hv y
  rw [hv]
  exact .rfl

/-- A load of a word reads what the memref holds there. -/
theorem load_word {m : Memref sig .tc .smem s e} {off size : Fin s.rank → ℕ} {inb : ∀ a, off a + size a ≤ s.size a} {h1 hp}
    {Q : α → sProp 𝕄} {k : Elt F e → Prog (TpuEff nD τ sig (Elt F) Λ₀ .tc) α} (x : s.Idx → Elt F e)
    (i : s.Idx) (hi : ∀ a, off a = (i a).val) :
    holds (c : Thread nD τ) m x
      ⊢ iprop((holds (c : Thread nD τ) m x -∗ wp frame (wpE (defs₀ (F := F)) 𝒱₀ (c : Thread nD τ) none) Set.univ (k (x i)) Q)
        -∗ wp frame (wpE (defs₀ (F := F)) 𝒱₀ (c : Thread nD τ) none) Set.univ (smemLoad m (Rect.unit (s := s) off size inb) h1 hp >>= k) Q) := by
  have hz : ∀ y : (Rect.unit (s := s) off size inb).shape.Idx, (∀ a, (y a).val = 0) → (Rect.unit (s := s) off size inb).emb y = i := by
    intro y hy
    funext a
    apply Fin.ext
    rw [unit_emb, hi, hy]
    rfl
  have h := load_at (F := F) (Q := Q) (m := m) (r := Rect.unit (s := s) off size inb) c (k := fun f => k (f (Shape.Idx.first (h1.symm ▸ Nat.one_pos)))) x
    (fun y => x ((Rect.unit (s := s) off size inb).emb y)) (fun y => rfl) (e1 := View.loadsAt_rect (View.loads_smem_one hp h1))
  beta_reduce at h
  rw [hz _ (fun a => rfl)] at h
  exact h

/-- A store leaves the values stored at the rectangle's indices and the rest as it was. -/
theorem store_at {m : Memref sig .tc cs s e} {r : Rect s} {Q : α → sProp 𝕄} {k : PUnit → Prog (TpuEff nD τ sig (Elt F) Λ₀ .tc) α} (x : s.Idx → Elt F e)
    (w : r.shape.Idx → Elt F e) (x' : s.Idx → Elt F e) (hw : ∀ y, x' (r.emb y) = w y) (hx : ∀ i, (∀ y, r.emb y ≠ i) → x' i = x i) {e1 e2} :
    holds (c : Thread nD τ) m x
      ⊢ iprop((holds (c : Thread nD τ) m x' -∗ wp frame (wpE (defs₀ (F := F)) 𝒱₀ (c : Thread nD τ) none) Set.univ (k ⟨⟩) Q)
        -∗ wp frame (wpE (defs₀ (F := F)) 𝒱₀ (c : Thread nD τ) none) Set.univ (Prog.lift (.store m r w Finset.univ e1 e2) >>= k) Q) := by
  have hS : (m.access r).setOn Finset.univ ⊆ m.view.set := by
    intro i hi
    obtain ⟨y, -, rfl⟩ := Finset.mem_map.mp hi
    exact Finset.mem_map_of_mem _ (Finset.mem_univ _)
  have h := wp_store (defs := defs₀ (F := F)) (Γ := .empty) 𝒱₀ (c : Thread nD τ) none Set.univ (Q := Q) (k := k) (hx := e1) (hm := e2) (w := w) (f := m.view.rep x) hS
  refine h.trans ?_
  have hv : ((m.access r).loc (c : Thread nD τ) ↦[m.view.set]{fullShare} (m.access r).write (Elt F) (m.view.rep x) w Finset.univ : sProp 𝕄)
      = holds (c : Thread nD τ) m x' := by
    refine pointsTo_congr fun i hi => ?_
    obtain ⟨y, -, rfl⟩ := Finset.mem_map.mp hi
    erw [View.rep_emb]
    by_cases hy : ∃ z, r.emb z = y
    · obtain ⟨z, rfl⟩ := hy
      refine (View.write_emb_of_mem (v := m.access r) (x := z) _ _ (Finset.mem_univ z)).trans ?_
      rw [hw]
    · have hy' : ∀ z, r.emb z ≠ y := fun z hz => hy ⟨z, hz⟩
      refine (View.write_of_not_mem _ _ _ ?_).trans ?_
      · intro hm
        obtain ⟨z, -, hz⟩ := Finset.mem_map.mp hm
        exact hy' z (m.view.emb.injective hz)
      · refine (View.rep_emb _ _ _).trans ?_
        rw [hx y hy']
  rw [hv]
  exact .rfl

/-- A store of a word leaves it there. -/
theorem store_word {m : Memref sig .tc cs s e} {off size : Fin s.rank → ℕ} {inb : ∀ a, off a + size a ≤ s.size a}
    {Q : α → sProp 𝕄} {k : PUnit → Prog (TpuEff nD τ sig (Elt F) Λ₀ .tc) α} (x : s.Idx → Elt F e)
    (i : s.Idx) (hi : ∀ a, off a = (i a).val) (h1 : ∀ a, size a = 1) (v : Elt F e) {e1 e2} :
    holds (c : Thread nD τ) m x
      ⊢ iprop((holds (c : Thread nD τ) m (Function.update x i v) -∗ wp frame (wpE (defs₀ (F := F)) 𝒱₀ (c : Thread nD τ) none) Set.univ (k ⟨⟩) Q)
        -∗ wp frame (wpE (defs₀ (F := F)) 𝒱₀ (c : Thread nD τ) none) Set.univ (Prog.lift (.store m (Rect.unit (s := s) off size inb) (fun _ => v) Finset.univ e1 e2) >>= k) Q) := by
  have hz : ∀ y : (Rect.unit (s := s) off size inb).shape.Idx, (Rect.unit (s := s) off size inb).emb y = i := by
    intro y
    funext a
    apply Fin.ext
    have hlt : (y a).val < size a := (y a).isLt
    rw [unit_emb, hi]
    have := h1 a
    omega
  refine store_at c x (fun _ => v) (Function.update x i v) ?_ ?_
  · intro y
    rw [hz, Function.update_self]
  · intro j hj
    refine Function.update_of_ne ?_ _ _
    rintro rfl
    have hp : ∀ a : Fin s.rank, 0 < size a := fun a => by rw [h1]; exact Nat.one_pos
    exact hj (fun a => ⟨0, hp a⟩) (hz _)

/-- A store over the whole array of scales leaves the values stored. -/
theorem store_all {m : Memref sig .tc cs S8x1080 .f32} {inb : ∀ a, (![0, 0] : Fin 2 → ℕ) a + S8x1080.size a ≤ S8x1080.size a}
    {Q : α → sProp 𝕄} {k : PUnit → Prog (TpuEff nD τ sig (Elt F) Λ₀ .tc) α} (x w : S8x1080.Idx → Elt F .f32) {e1 e2} :
    holds (c : Thread nD τ) m x
      ⊢ iprop((holds (c : Thread nD τ) m w -∗ wp frame (wpE (defs₀ (F := F)) 𝒱₀ (c : Thread nD τ) none) Set.univ (k ⟨⟩) Q)
        -∗ wp frame (wpE (defs₀ (F := F)) 𝒱₀ (c : Thread nD τ) none) Set.univ (Prog.lift (.store m (Rect.unit (s := S8x1080) ![0, 0] S8x1080.size inb) w Finset.univ e1 e2) >>= k) Q) := by
  have hz : ∀ y : S8x1080.Idx, (Rect.unit (s := S8x1080) ![0, 0] S8x1080.size inb).emb y = y := by
    intro y
    funext a
    apply Fin.ext
    rw [unit_emb]
    fin_cases a <;> exact Nat.zero_add _
  refine store_at (r := Rect.unit (s := S8x1080) ![0, 0] S8x1080.size inb) c x w w ?_ ?_
  · intro y
    exact congrArg w (hz y)
  · intro j hj
    exact absurd (hz j) (hj j)

/-- A load of the whole array of scales reads what it holds. -/
theorem load_all {m : Memref sig .tc cs S8x1080 .f32} {inb : ∀ a, (![0, 0] : Fin 2 → ℕ) a + S8x1080.size a ≤ S8x1080.size a}
    {Q : α → sProp 𝕄} {k : (S8x1080.Idx → Elt F .f32) → Prog (TpuEff nD τ sig (Elt F) Λ₀ .tc) α} (x : S8x1080.Idx → Elt F .f32)
    {e1 : m.view.LoadsAt (Rect.unit (s := S8x1080) ![0, 0] S8x1080.size inb).toLoadRect} :
    holds (c : Thread nD τ) m x
      ⊢ iprop((holds (c : Thread nD τ) m x -∗ wp frame (wpE (defs₀ (F := F)) 𝒱₀ (c : Thread nD τ) none) Set.univ (k x) Q)
        -∗ wp frame (wpE (defs₀ (F := F)) 𝒱₀ (c : Thread nD τ) none) Set.univ (Prog.lift (.load m (Rect.unit (s := S8x1080) ![0, 0] S8x1080.size inb).toLoadRect e1) >>= k) Q) := by
  refine load_at (r := Rect.unit (s := S8x1080) ![0, 0] S8x1080.size inb) c x x ?_
  intro y
  congr 1
  funext a
  apply Fin.ext
  rw [unit_emb]
  fin_cases a <;> exact Nat.zero_add _

end rules

/-- Row `b` of the new tokens. -/
def tokRow (x : S48x8x128.Idx → Elt F .bf16) (b : Fin 48) : S1x8x128.Idx → Elt F .bf16 :=
  fun y => x (ix3 b (y 1) (y 2))

/-- A load of one token reads its row. -/
theorem load_tok {α : Type} {cs : CoreSpace} {m : Memref sig .tc cs S48x8x128 .bf16} {off : Fin 3 → ℕ} {inb : ∀ a, off a + S1x8x128.size a ≤ S48x8x128.size a}
    {Q : α → sProp 𝕄} {k : (S1x8x128.Idx → Elt F .bf16) → Prog (TpuEff nD τ sig (Elt F) Λ₀ .tc) α} (b : Fin 48) (hoff : off = ![b.val, 0, 0]) (x : S48x8x128.Idx → Elt F .bf16) {e1 : m.view.LoadsAt (Rect.unit (s := S48x8x128) off S1x8x128.size inb).toLoadRect} :
    holds (c : Thread nD τ) m x
      ⊢ iprop((holds (c : Thread nD τ) m x -∗ wp frame (wpE (defs₀ (F := F)) 𝒱₀ (c : Thread nD τ) none) Set.univ (k (tokRow x b)) Q)
        -∗ wp frame (wpE (defs₀ (F := F)) 𝒱₀ (c : Thread nD τ) none) Set.univ (Prog.lift (.load m (Rect.unit (s := S48x8x128) off S1x8x128.size inb).toLoadRect e1) >>= k) Q) := by
  subst hoff
  refine load_at (r := Rect.unit (s := S48x8x128) _ S1x8x128.size inb) c x (tokRow x b) ?_
  intro y
  unfold tokRow
  congr 1
  funext a
  apply Fin.ext
  have h0 : (y 0).val = 0 := Nat.lt_one_iff.1 (y 0).isLt
  rw [unit_emb]
  fin_cases a
  · show b.val + (y 0).val = b.val
    omega
  · exact Nat.zero_add _
  · exact Nat.zero_add _

end Cert.Kernel.Pieces

end
-- ==== Proof.Model.lean ====
/- What the kernel computes: the owner of each page, the scales page by page, the codes of each chunk. -/
module

public import proofs.«01_k».proof.Proof.Cells

@[expose] public section

noncomputable section

namespace Cert.Kernel.Model

open Cert.Kernel Cert.Kernel.Gen Cert.Kernel.Pieces Cert.Kernel.Words Cert.Arith
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The rows of one page -/

/-- The offset of the appended row within its page. -/
abbrev off (l : ℕ) : BitVec 32 := Scalar.remsi (w l) 256#32

/-- The four rows `4 g …` of a page that has an owner of length `l`, from what they held: rescaled below the
    appended row's group, cleared above it, and in it the row appended. -/
def newG (l : ℕ) (tk : FVec F S8x128 .f32) (st sc : FVec F S1x8x128 .f32) (g : ℕ) (v : S4x8x128.Idx → Elt F .i8) : S1x1x4x8x128.Idx → Elt F .i8 :=
  if g < l % 256 / 4 then k0_pay8 st sc v
  else if g = l % 256 / 4 then
    k0_pay12 (off l) tk st sc (k0_pay10 (off l) 4#32 (Scalar.divsi (off l) 4#32) 0#32) (k0_pay11 (off l) 4#32 (Scalar.divsi (off l) 4#32) 0#32) v
  else k0_pay13 (F := F)

/-- A chunk whose first `n` groups of rows of page `q` are rewritten by `f`. -/
def upto (f : ℕ → (S4x8x128.Idx → Elt F .i8) → S1x1x4x8x128.Idx → Elt F .i8) (x : Chunk F) (q : Fin 4) (n : ℕ) : Chunk F :=
  fun y => if (y 0).val = q.val ∧ (y 1).val / 4 < n then
    f ((y 1).val / 4) (getG x q ⟨(y 1).val / 4, by have h : (y 1).val < 256 := (y 1).isLt; omega⟩)
      (ix5 (0 : Fin 1) (0 : Fin 1) (⟨(y 1).val % 4, Nat.mod_lt _ (by decide)⟩ : Fin 4) (y 2) (y 3)) else x y

variable (f : ℕ → (S4x8x128.Idx → Elt F .i8) → S1x1x4x8x128.Idx → Elt F .i8) (x : Chunk F) (q : Fin 4)

theorem upto_zero : upto f x q 0 = x := by
  funext y
  simp [upto]

/-- The groups not yet rewritten hold what they held. -/
theorem getG_upto (n : ℕ) (g : Fin 64) (h : n ≤ g.val) : getG (upto f x q n) q g = getG x q g := by
  funext y
  have hy : (y 0).val < 4 := (y 0).isLt
  unfold getG upto
  rw [if_neg]
  intro hh
  have h2 : (4 * g.val + (y 0).val) / 4 < n := hh.2
  omega

/-- Rewriting the next group. -/
theorem putG_upto (g : Fin 64) : putG (upto f x q g.val) q g (f g.val (getG x q g)) = upto f x q (g.val + 1) := by
  funext y
  unfold putG upto
  by_cases h0 : (y 0).val = q.val
  · by_cases h1 : (y 1).val / 4 = g.val
    · rw [if_pos ⟨h0, h1⟩, if_pos ⟨h0, by omega⟩]
      have hg : (⟨(y 1).val / 4, by have h : (y 1).val < 256 := (y 1).isLt; omega⟩ : Fin 64) = g := Fin.ext h1
      rw [hg, h1]
    · rw [if_neg (fun h => h1 h.2)]
      by_cases h2 : (y 1).val / 4 < g.val
      · rw [if_pos ⟨h0, h2⟩, if_pos ⟨h0, by omega⟩]
      · rw [if_neg (fun h => h2 h.2), if_neg (fun h => by have := h.2; omega)]
  · rw [if_neg (fun h => h0 h.1), if_neg (fun h => h0 h.1), if_neg (fun h => h0 h.1)]

/-! ## The pages in order -/

/-- The sequence appended to page `p`, the last of the first `n` that names it. -/
def ownAt (pg : ℕ → ℕ) : ℕ → ℕ → Option ℕ
  | 0, _ => none
  | n + 1, p => if pg n = p then some n else ownAt pg n p

theorem ownAt_lt (pg : ℕ → ℕ) (n p b : ℕ) (h : ownAt pg n p = some b) : b < n := by
  induction n with
  | zero => simp [ownAt] at h
  | succ n ih =>
    unfold ownAt at h
    split at h
    · simp only [Option.some.injEq] at h; omega
    · have := ih h; omega

/-- The word the kernel keeps for an owner. -/
def ownW (o : Option ℕ) : BitVec 32 := match o with
  | none => 4294967295#32
  | some b => w b

/-- What one pool's pages are computed from. -/
structure Inp (F : FTy → Type) where
  /-- the lengths of the sequences -/
  len : ℕ → ℕ
  hlen : ∀ b, len b < 4608
  /-- the page each sequence appends to -/
  pg : ℕ → ℕ
  hpg : ∀ b, pg b < 1080
  /-- the codes, chunk by chunk -/
  x : ℕ → Chunk F
  /-- the scales -/
  s : S8x1080.Idx → Elt F .f32
  /-- the appended tokens -/
  t : S48x8x128.Idx → Elt F .bf16

variable (I : Inp F)

/-- The owner of page `p`. -/
def Inp.own (p : ℕ) : Option ℕ := ownAt I.pg 48 p

theorem Inp.own_lt {p b : ℕ} (h : I.own p = some b) : b < 48 := ownAt_lt _ _ _ _ h

/-- The token of sequence `b`. -/
def Inp.tok (b : ℕ) : S1x8x128.Idx → Elt F .bf16 := tokRow I.t ⟨b % 48, Nat.mod_lt _ (by decide)⟩

/-- The scales after the first `p` pages. -/
def Inp.sc : ℕ → S8x1080.Idx → Elt F .f32
  | 0 => I.s
  | p + 1 => match I.own p with
    | none => Inp.sc p
    | some b => k0_pay5 (w p) (w (I.len b)) (Inp.sc p) (I.tok b)

/-- How page `p`, appended to by `b`, is rewritten. -/
def Inp.grp (p b : ℕ) : ℕ → (S4x8x128.Idx → Elt F .i8) → S1x1x4x8x128.Idx → Elt F .i8 :=
  newG (I.len b) (k0_pay3 (I.tok b)) (k0_pay6 (w p) (I.sc p)) (k0_pay7 (w p) (w (I.len b)) (I.sc p) (I.tok b))

/-- Chunk `k` after its first `q` pages. -/
def Inp.ch (k : ℕ) : ℕ → Chunk F
  | 0 => I.x k
  | q + 1 => match I.own (4 * k + q) with
    | none => Inp.ch k q
    | some b => upto (I.grp (4 * k + q) b) (Inp.ch k q) ⟨q % 4, Nat.mod_lt _ (by decide)⟩ 64

/-! ## The second pool's payloads are the first's -/

theorem pay22_eq (st sc : FVec F S1x8x128 .f32) (v : Vec F S4x8x128 .i8) : k0_pay22 st sc v = k0_pay8 st sc v := rfl
theorem pay29_eq : k0_pay29 (F := F) = k0_pay13 := rfl
theorem pay17_eq (v : Vec F S1x8x128 .bf16) : k0_pay17 v = k0_pay3 v := rfl
theorem pay20_eq (p : BitVec 32) (s : Vec F S8x1080 .f32) : k0_pay20 p s = k0_pay6 p s := rfl
theorem pay21_eq (p l : BitVec 32) (s : Vec F S8x1080 .f32) (t : Vec F S1x8x128 .bf16) : k0_pay21 p (Scalar.remsi l 256#32) s t = k0_pay7 p l s t := rfl
theorem pay19_eq (p l : BitVec 32) (s : Vec F S8x1080 .f32) (t : Vec F S1x8x128 .bf16) : k0_pay19 p (Scalar.remsi l 256#32) s t = k0_pay5 p l s t := rfl
theorem pay28_eq (o : BitVec 32) (tk : FVec F S8x128 .f32) (st sc : FVec F S1x8x128 .f32) (v : Vec F S4x8x128 .i8) :
    k0_pay28 tk sc (k0_pay24 o 4#32 (Scalar.divsi o 4#32) (Scalar.extui (Scalar.cmpi .sgt o 0#32)) (Scalar.cmpi .slt o 0#32))
      (k0_pay25 o 4#32 (Scalar.divsi o 4#32) (Scalar.extui (Scalar.cmpi .sgt o 0#32)) (Scalar.cmpi .slt o 0#32)) (k0_pay26 st v) (k0_pay27 o)
      = k0_pay12 o tk st sc (k0_pay10 o 4#32 (Scalar.divsi o 4#32) 0#32) (k0_pay11 o 4#32 (Scalar.divsi o 4#32) 0#32) v := rfl

end Cert.Kernel.Model

end
-- ==== Proof.Page.lean ====
/- The loops over the groups of four rows of one page. -/
module

public import proofs.«01_k».proof.Proof.Model
public import Idealize.ShloMosaic.Lib.LoopRemainder
public import proofs.«01_k».proof.Proof.Gen.Kernel.Loops

@[expose] public section

noncomputable section

namespace Cert.Kernel.Page

open Cert.Kernel Cert.Kernel.Gen Cert.Kernel.Pieces Cert.Kernel.Words Cert.Kernel.Model Cert.Arith
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

/-- A loop that makes no trip. -/
theorem skip {lb ub st : BitVec 32} {hok : Scf.OK lb ub st} {β : Type} {kk : Unit → Prog (TpuEff nD τ sig (Elt F) Λ₀ .tc) β}
    {body : Fin (Scf.trips lb ub st) → Unit → Prog (TpuEff nD τ sig (Elt F) Λ₀ .tc) Unit} {Q : β → sProp 𝕄} (h : Scf.trips lb ub st = 0) :
    wp frame (wpE (defs₀ (F := F)) 𝒱₀ (c : Thread nD τ) none) Set.univ (kk ()) Q
      ⊢ wp frame (wpE (defs₀ (F := F)) 𝒱₀ (c : Thread nD τ) none) Set.univ (Scf.for lb ub st hok () body >>= kk) Q := by
  rw [Scf.for_eq_ret _ _ _ hok _ _ h]
  exact .rfl

/-- The rows below the appended row's group. -/
theorem loop5 (k : Fin k0_t3_loop.trips) (q : Fin k0_t4_loop.trips) (l : ℕ) (hl : l < 4608) (tk : FVec F S8x128 .f32) (st sc : FVec F S1x8x128 .f32) (x : Chunk F)
    {v329 : Elt F .i32} {h1 : k0_cond1 v329 = 1#1} {hw4 : k0_chk4 k q v329 (w l)} {v335 c4 v373 c0 : BitVec 32} {hok : (k0_t5_loop (w l)).OK}
    {β : Type} {kk : Unit → Prog (TpuEff nD τ sig (Elt F) Λ₀ .tc) β} {Q : β → sProp 𝕄} :
    holds (c : Thread nD τ) (slot arg12 k) (x)
      ⊢ iprop((holds (c : Thread nD τ) (slot arg12 k) (upto (newG l tk st sc) x ⟨q.val, lt4 q⟩ (l % 256 / 4)) -∗ wp frame (wpE (defs₀ (F := F)) 𝒱₀ (c : Thread nD τ) none) Set.univ (kk ()) Q)
        -∗ wp frame (wpE (defs₀ (F := F)) 𝒱₀ (c : Thread nD τ) none) Set.univ (Scf.Loop.for (k0_t5_loop (w l)) hok ⟨⟩ (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v329 h1 (w l) hw4 v335 st sc c4 v373 c0) >>= kk) Q) := by
  have hm := Nat.mod_lt l (show 0 < 256 by decide)
  have h := Scf.wp_for_bind (M := 𝕄) frame (wpE (defs₀ (F := F)) 𝒱₀ (c : Thread nD τ) none) Set.univ (k0_t5_loop (w l)).lb (k0_t5_loop (w l)).ub (k0_t5_loop (w l)).st hok ()
    (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v329 h1 (w l) hw4 v335 st sc c4 v373 c0)
    (fun t _ => holds (c : Thread nD τ) (slot arg12 k) (upto (newG l tk st sc) x ⟨q.val, lt4 q⟩ (0 + t)))
    (by
      intro t acc
      have ht := lt5 l hl t
      have hg : 0 + t.val < 64 := by omega
      have hp := putG_upto (newG l tk st sc) x ⟨q.val, lt4 q⟩ ⟨0 + t.val, hg⟩
      have hgx := getG_upto (newG l tk st sc) x ⟨q.val, lt4 q⟩ (0 + t.val) ⟨0 + t.val, hg⟩ (Nat.le_refl _)
      simp only [] at hp
      have hn : newG l tk st sc (0 + t.val) (getG x ⟨q.val, lt4 q⟩ ⟨0 + t.val, hg⟩) = k0_pay8 st sc (getG x ⟨q.val, lt4 q⟩ ⟨0 + t.val, hg⟩) := by
        unfold newG
        rw [if_pos (by omega)]

      rw [hn] at hp
      unfold k0_t5_body
      iintro H
      iapply (load_group c k.val ⟨q.val, lt4 q⟩ ⟨0 + t.val, hg⟩ (off15_eq k q) ((off16_eq l hl t).trans (by simp only [Nat.zero_add])) _) $$ H
      try rw [hgx]
      iintro H
      iapply (load_group c k.val ⟨q.val, lt4 q⟩ ⟨0 + t.val, hg⟩ (off15_eq k q) ((off16_eq l hl t).trans (by simp only [Nat.zero_add])) _) $$ H
      try rw [hgx]
      iintro H
      iapply (store_group c k.val ⟨q.val, lt4 q⟩ ⟨0 + t.val, hg⟩ ((off17_eq k q l hl t).trans (by simp only [Nat.zero_add])) _ _) $$ H
      rw [hp]
      iintro H
      rw [show ∀ a : Unit, (pure a : Prog (TpuEff nD τ sig (Elt F) Λ₀ .tc) Unit) = .ret a from fun _ => rfl, wp_ret]
      imodintro
      iexact H) (kk := kk) (Q := Q)
  rw [Nat.add_zero, upto_zero] at h
  refine h.trans ?_
  iintro H Hk
  iapply H
  iintro %acc H
  iapply Hk
  have he : 0 + Scf.trips (k0_t5_loop (w l)).lb (k0_t5_loop (w l)).ub (k0_t5_loop (w l)).st = (l % 256 / 4) := by
    have := t5_trips l hl
    unfold Scf.Loop.trips at this
    omega
  rw [he]
  iexact H

/-- The rows above it. -/
theorem loop7 (k : Fin k0_t3_loop.trips) (q : Fin k0_t4_loop.trips) (l : ℕ) (hl : l < 4608) (tk : FVec F S8x128 .f32) (st sc : FVec F S1x8x128 .f32) (x : Chunk F)
    {v329 : Elt F .i32} {h1 : k0_cond1 v329 = 1#1} {hw4 : k0_chk4 k q v329 (w l)} {v335 : BitVec 32} {v347 : FVec F S8x128 .f32} {v369 v372 : FVec F S1x8x128 .f32} {v389 : BitVec 32} {v402 : IVec S4x8x128 32} {v404 : IVec S4x8x128 1} {v409 : Vec F S4x8x128 .i8} {hok : (k0_t7_loop (w l)).OK}
    {β : Type} {kk : Unit → Prog (TpuEff nD τ sig (Elt F) Λ₀ .tc) β} {Q : β → sProp 𝕄} :
    holds (c : Thread nD τ) (slot arg12 k) (upto (newG l tk st sc) x ⟨q.val, lt4 q⟩ (l % 256 / 4 + 1))
      ⊢ iprop((holds (c : Thread nD τ) (slot arg12 k) (upto (newG l tk st sc) x ⟨q.val, lt4 q⟩ 64) -∗ wp frame (wpE (defs₀ (F := F)) 𝒱₀ (c : Thread nD τ) none) Set.univ (kk ()) Q)
        -∗ wp frame (wpE (defs₀ (F := F)) 𝒱₀ (c : Thread nD τ) none) Set.univ (Scf.Loop.for (k0_t7_loop (w l)) hok ⟨⟩ (k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v329 h1 (w l) hw4 v335 v347 v369 v372 v389 v402 v404 v409) >>= kk) Q) := by
  have hm := Nat.mod_lt l (show 0 < 256 by decide)
  have h := Scf.wp_for_bind (M := 𝕄) frame (wpE (defs₀ (F := F)) 𝒱₀ (c : Thread nD τ) none) Set.univ (k0_t7_loop (w l)).lb (k0_t7_loop (w l)).ub (k0_t7_loop (w l)).st hok ()
    (k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v329 h1 (w l) hw4 v335 v347 v369 v372 v389 v402 v404 v409)
    (fun t _ => holds (c : Thread nD τ) (slot arg12 k) (upto (newG l tk st sc) x ⟨q.val, lt4 q⟩ ((l % 256 / 4 + 1) + t)))
    (by
      intro t acc
      have ht := lt7 l hl t
      have hg : (l % 256 / 4 + 1) + t.val < 64 := by omega
      have hp := putG_upto (newG l tk st sc) x ⟨q.val, lt4 q⟩ ⟨(l % 256 / 4 + 1) + t.val, hg⟩
      have hgx := getG_upto (newG l tk st sc) x ⟨q.val, lt4 q⟩ ((l % 256 / 4 + 1) + t.val) ⟨(l % 256 / 4 + 1) + t.val, hg⟩ (Nat.le_refl _)
      simp only [] at hp
      have hn : newG l tk st sc ((l % 256 / 4 + 1) + t.val) (getG x ⟨q.val, lt4 q⟩ ⟨(l % 256 / 4 + 1) + t.val, hg⟩) = k0_pay13 (F := F) := by
        unfold newG
        rw [if_neg (by omega), if_neg (by omega)]

      rw [hn] at hp
      unfold k0_t7_body
      iintro H
      iapply (load_group c k.val ⟨q.val, lt4 q⟩ ⟨(l % 256 / 4 + 1) + t.val, hg⟩ (off24_eq k q) ((off25_eq l hl t).trans (by simp only [Nat.zero_add])) _) $$ H
      try rw [hgx]
      iintro H
      iapply (store_group c k.val ⟨q.val, lt4 q⟩ ⟨(l % 256 / 4 + 1) + t.val, hg⟩ ((off26_eq k q l hl t).trans (by simp only [Nat.zero_add])) _ _) $$ H
      rw [hp]
      iintro H
      rw [show ∀ a : Unit, (pure a : Prog (TpuEff nD τ sig (Elt F) Λ₀ .tc) Unit) = .ret a from fun _ => rfl, wp_ret]
      imodintro
      iexact H) (kk := kk) (Q := Q)
  rw [Nat.add_zero] at h
  refine h.trans ?_
  iintro H Hk
  iapply H
  iintro %acc H
  iapply Hk
  have he : (l % 256 / 4 + 1) + Scf.trips (k0_t7_loop (w l)).lb (k0_t7_loop (w l)).ub (k0_t7_loop (w l)).st = 64 := by
    have := t7_trips l hl
    unfold Scf.Loop.trips at this
    omega
  rw [he]
  iexact H

/-- The rows below the appended row's group, in the second pool. -/
theorem loop9 (k : Fin k0_t3_loop.trips) (q : Fin k0_t4_loop.trips) (l : ℕ) (hl : l < 4608) (tk : FVec F S8x128 .f32) (st sc : FVec F S1x8x128 .f32) (x : Chunk F)
    {v329 : Elt F .i32} {h1 : k0_cond1 v329 = 1#1} {hw4 : k0_chk4 k q v329 (w l)} {v335 c4 v485 v487 : BitVec 32} {v488 : BitVec 1} {hok : (k0_t9_loop (w l)).OK}
    {β : Type} {kk : Unit → Prog (TpuEff nD τ sig (Elt F) Λ₀ .tc) β} {Q : β → sProp 𝕄} :
    holds (c : Thread nD τ) (slot arg13 k) (x)
      ⊢ iprop((holds (c : Thread nD τ) (slot arg13 k) (upto (newG l tk st sc) x ⟨q.val, lt4 q⟩ (l % 256 / 4)) -∗ wp frame (wpE (defs₀ (F := F)) 𝒱₀ (c : Thread nD τ) none) Set.univ (kk ()) Q)
        -∗ wp frame (wpE (defs₀ (F := F)) 𝒱₀ (c : Thread nD τ) none) Set.univ (Scf.Loop.for (k0_t9_loop (w l)) hok ⟨⟩ (k0_t9_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v329 h1 (w l) hw4 v335 st sc c4 v485 v487 v488) >>= kk) Q) := by
  have hm := Nat.mod_lt l (show 0 < 256 by decide)
  have h := Scf.wp_for_bind (M := 𝕄) frame (wpE (defs₀ (F := F)) 𝒱₀ (c : Thread nD τ) none) Set.univ (k0_t9_loop (w l)).lb (k0_t9_loop (w l)).ub (k0_t9_loop (w l)).st hok ()
    (k0_t9_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v329 h1 (w l) hw4 v335 st sc c4 v485 v487 v488)
    (fun t _ => holds (c : Thread nD τ) (slot arg13 k) (upto (newG l tk st sc) x ⟨q.val, lt4 q⟩ (0 + t)))
    (by
      intro t acc
      have ht := lt9 l hl t
      have hg : 0 + t.val < 64 := by omega
      have hp := putG_upto (newG l tk st sc) x ⟨q.val, lt4 q⟩ ⟨0 + t.val, hg⟩
      have hgx := getG_upto (newG l tk st sc) x ⟨q.val, lt4 q⟩ (0 + t.val) ⟨0 + t.val, hg⟩ (Nat.le_refl _)
      simp only [] at hp
      have hn : newG l tk st sc (0 + t.val) (getG x ⟨q.val, lt4 q⟩ ⟨0 + t.val, hg⟩) = k0_pay22 st sc (getG x ⟨q.val, lt4 q⟩ ⟨0 + t.val, hg⟩) := by
        unfold newG
        rw [if_pos (by omega)]
        rw [← pay22_eq]
      rw [hn] at hp
      unfold k0_t9_body
      iintro H
      iapply (load_group c k.val ⟨q.val, lt4 q⟩ ⟨0 + t.val, hg⟩ (off31_eq k q) ((off32_eq l hl t).trans (by simp only [Nat.zero_add])) _) $$ H
      try rw [hgx]
      iintro H
      iapply (load_group c k.val ⟨q.val, lt4 q⟩ ⟨0 + t.val, hg⟩ (off31_eq k q) ((off32_eq l hl t).trans (by simp only [Nat.zero_add])) _) $$ H
      try rw [hgx]
      iintro H
      iapply (store_group c k.val ⟨q.val, lt4 q⟩ ⟨0 + t.val, hg⟩ ((off33_eq k q l hl t).trans (by simp only [Nat.zero_add])) _ _) $$ H
      rw [hp]
      iintro H
      rw [show ∀ a : Unit, (pure a : Prog (TpuEff nD τ sig (Elt F) Λ₀ .tc) Unit) = .ret a from fun _ => rfl, wp_ret]
      imodintro
      iexact H) (kk := kk) (Q := Q)
  rw [Nat.add_zero, upto_zero] at h
  refine h.trans ?_
  iintro H Hk
  iapply H
  iintro %acc H
  iapply Hk
  have he : 0 + Scf.trips (k0_t9_loop (w l)).lb (k0_t9_loop (w l)).ub (k0_t9_loop (w l)).st = (l % 256 / 4) := by
    have := t9_trips l hl
    unfold Scf.Loop.trips at this
    omega
  rw [he]
  iexact H

/-- The rows above it, in the second pool. -/
theorem loop11 (k : Fin k0_t3_loop.trips) (q : Fin k0_t4_loop.trips) (l : ℕ) (hl : l < 4608) (tk : FVec F S8x128 .f32) (st sc : FVec F S1x8x128 .f32) (x : Chunk F)
    {v327 : BitVec 32} {v329 : Elt F .i32} {hw3 : k0_chk3 v329} {h1 : k0_cond1 v329 = 1#1} {hw4 : k0_chk4 k q v329 (w l)} {hok : (k0_t11_loop (w l)).OK}
    {β : Type} {kk : Unit → Prog (TpuEff nD τ sig (Elt F) Λ₀ .tc) β} {Q : β → sProp 𝕄} :
    holds (c : Thread nD τ) (slot arg13 k) (upto (newG l tk st sc) x ⟨q.val, lt4 q⟩ (l % 256 / 4 + 1))
      ⊢ iprop((holds (c : Thread nD τ) (slot arg13 k) (upto (newG l tk st sc) x ⟨q.val, lt4 q⟩ 64) -∗ wp frame (wpE (defs₀ (F := F)) 𝒱₀ (c : Thread nD τ) none) Set.univ (kk ()) Q)
        -∗ wp frame (wpE (defs₀ (F := F)) 𝒱₀ (c : Thread nD τ) none) Set.univ (Scf.Loop.for (k0_t11_loop (w l)) hok ⟨⟩ (k0_t11_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v327 v329 hw3 h1 (w l) hw4) >>= kk) Q) := by
  have hm := Nat.mod_lt l (show 0 < 256 by decide)
  have h := Scf.wp_for_bind (M := 𝕄) frame (wpE (defs₀ (F := F)) 𝒱₀ (c : Thread nD τ) none) Set.univ (k0_t11_loop (w l)).lb (k0_t11_loop (w l)).ub (k0_t11_loop (w l)).st hok ()
    (k0_t11_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v327 v329 hw3 h1 (w l) hw4)
    (fun t _ => holds (c : Thread nD τ) (slot arg13 k) (upto (newG l tk st sc) x ⟨q.val, lt4 q⟩ ((l % 256 / 4 + 1) + t)))
    (by
      intro t acc
      have ht := lt11 l hl t
      have hg : (l % 256 / 4 + 1) + t.val < 64 := by omega
      have hp := putG_upto (newG l tk st sc) x ⟨q.val, lt4 q⟩ ⟨(l % 256 / 4 + 1) + t.val, hg⟩
      have hgx := getG_upto (newG l tk st sc) x ⟨q.val, lt4 q⟩ ((l % 256 / 4 + 1) + t.val) ⟨(l % 256 / 4 + 1) + t.val, hg⟩ (Nat.le_refl _)
      simp only [] at hp
      have hn : newG l tk st sc ((l % 256 / 4 + 1) + t.val) (getG x ⟨q.val, lt4 q⟩ ⟨(l % 256 / 4 + 1) + t.val, hg⟩) = k0_pay29 (F := F) := by
        unfold newG
        rw [if_neg (by omega), if_neg (by omega)]
        rw [← pay29_eq]
      rw [hn] at hp
      unfold k0_t11_body
      iintro H
      iapply (load_group c k.val ⟨q.val, lt4 q⟩ ⟨(l % 256 / 4 + 1) + t.val, hg⟩ (off37_eq k q) ((off38_eq l hl t).trans (by simp only [Nat.zero_add])) _) $$ H
      try rw [hgx]
      iintro H
      iapply (store_group c k.val ⟨q.val, lt4 q⟩ ⟨(l % 256 / 4 + 1) + t.val, hg⟩ ((off39_eq k q l hl t).trans (by simp only [Nat.zero_add])) _ _) $$ H
      rw [hp]
      iintro H
      rw [show ∀ a : Unit, (pure a : Prog (TpuEff nD τ sig (Elt F) Λ₀ .tc) Unit) = .ret a from fun _ => rfl, wp_ret]
      imodintro
      iexact H) (kk := kk) (Q := Q)
  rw [Nat.add_zero] at h
  refine h.trans ?_
  iintro H Hk
  iapply H
  iintro %acc H
  iapply Hk
  have he : (l % 256 / 4 + 1) + Scf.trips (k0_t11_loop (w l)).lb (k0_t11_loop (w l)).ub (k0_t11_loop (w l)).st = 64 := by
    have := t11_trips l hl
    unfold Scf.Loop.trips at this
    omega
  rw [he]
  iexact H

end Cert.Kernel.Page

end
-- ==== Proof.Page6.lean ====
/- One page: its owner, its scales and its rows in both pools. -/
module

public import proofs.«01_k».proof.Proof.Page

@[expose] public section

noncomputable section

namespace Cert.Kernel.Page

open Cert.Kernel Cert.Kernel.Gen Cert.Kernel.Pieces Cert.Kernel.Words Cert.Kernel.Model Cert.Arith
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

/-- The side condition of a loaded word holds. -/
theorem assume_at {P : Prop} {d : Decidable P} (h : P) {β : Type} {kk : PLift P → Prog (TpuEff nD τ sig (Elt F) Λ₀ .tc) β} {Q : β → sProp 𝕄} :
    wp frame (wpE (defs₀ (F := F)) 𝒱₀ (c : Thread nD τ) none) Set.univ (kk ⟨h⟩) Q ⊢ wp frame (wpE (defs₀ (F := F)) 𝒱₀ (c : Thread nD τ) none) Set.univ (Prog.lift (.assume P d) >>= kk) Q :=
  wp_assume (defs := defs₀ (F := F)) (Γ := .empty) 𝒱₀ (c : Thread nD τ) none Set.univ h

/-- The owners the kernel keeps, one word a page. -/
def ownArr (I : Inp F) : S1080.Idx → Elt F .i32 := fun i => ownW (I.own (i 0).val)
/-- The lengths, one word a sequence. -/
def lenArr (I : Inp F) : S48.Idx → Elt F .i32 := fun i => w (I.len (i 0).val)

/-- A load of a sequence's length. -/
theorem load_len (I : Inp F) (b : ℕ) (hb : b < 48) {m : Memref sig .tc .smem S48 .i32} {inb : ∀ a, k0_off13 (w b) a + S1.size a ≤ S48.size a} {h1 hp} {α : Type}
    {Q : α → sProp 𝕄} {k : Elt F .i32 → Prog (TpuEff nD τ sig (Elt F) Λ₀ .tc) α} :
    holds (c : Thread nD τ) m (lenArr I)
      ⊢ iprop((holds (c : Thread nD τ) m (lenArr I) -∗ wp frame (wpE (defs₀ (F := F)) 𝒱₀ (c : Thread nD τ) none) Set.univ (k (w (I.len b))) Q)
        -∗ wp frame (wpE (defs₀ (F := F)) 𝒱₀ (c : Thread nD τ) none) Set.univ (smemLoad m (Rect.unit (s := S48) (k0_off13 (w b)) S1.size inb) h1 hp >>= k) Q) :=
  load_word c (lenArr I) (ix1 (⟨b, hb⟩ : Fin 48)) (by rw [off13_eq b hb]; intro a; fin_cases a; rfl)

theorem tok_eq (I : Inp F) (b : ℕ) (hb : b < 48) : tokRow I.t ⟨b, hb⟩ = I.tok b := by
  unfold Inp.tok
  congr 1
  exact Fin.ext (Nat.mod_eq_of_lt hb).symm

/-- The end of a program. -/
theorem ret_at {β : Type} {a : β} {Q : β → sProp 𝕄} : Q a ⊢ wp frame (wpE (defs₀ (F := F)) 𝒱₀ (c : Thread nD τ) none) Set.univ (pure a) Q := by
  rw [show (pure a : Prog (TpuEff nD τ sig (Elt F) Λ₀ .tc) β) = .ret a from rfl, wp_ret]
  iintro H
  imodintro
  iexact H

/-- What the page loop holds beside the slots: the owners, the lengths, the tokens and the scales after `p` pages. -/
def pageR (IK IV : Inp F) (p : ℕ) : sProp 𝕄 :=
  iprop(holds (c : Thread nD τ) arg18 (ownArr IK) ∗ holds (c : Thread nD τ) arg1 (lenArr IK) ∗ holds (c : Thread nD τ) arg16 IK.t ∗ holds (c : Thread nD τ) arg17 IV.t
    ∗ holds (c : Thread nD τ) arg14 (IK.sc p) ∗ holds (c : Thread nD τ) arg15 (IV.sc p))

/-- The group with the appended row. -/
theorem mid_eq (l : ℕ) (tk : FVec F S8x128 .f32) (st sc : FVec F S1x8x128 .f32) (f : ℕ → (S4x8x128.Idx → Elt F .i8) → S1x1x4x8x128.Idx → Elt F .i8) (v : S4x8x128.Idx → Elt F .i8)
    (hf : f = newG l tk st sc) : f (l % 256 / 4) v
      = k0_pay12 (off l) tk st sc (k0_pay10 (off l) 4#32 (Scalar.divsi (off l) 4#32) 0#32) (k0_pay11 (off l) 4#32 (Scalar.divsi (off l) 4#32) 0#32) v := by
  rw [hf]
  unfold newG
  rw [if_neg (Nat.lt_irrefl _), if_pos rfl]

set_option cleanup.letToHave false in
set_option maxHeartbeats 400000 in
/-- A page that has an owner: its scale and its rows are replaced in both pools. -/
theorem part6 (IK IV : Inp F) (hlen : IV.len = IK.len) (k : Fin k0_t3_loop.trips) (q : Fin k0_t4_loop.trips) (p b : ℕ) (hb : b < 48) (xk xv : Chunk F)
    {h3 : k0_chk3 (w b)} {h1 : k0_cond1 (w b) = 1#1}
    {Q : (Σ' (v334 : Elt F .i32) (k0_hw4 : k0_chk4 k q (w b) v334) (v550 : BitVec 32) (c1_i32_620 : BitVec 32), BitVec 32) → sProp 𝕄} :
    iprop(holds (c : Thread nD τ) arg1 (lenArr IK) ∗ holds (c : Thread nD τ) arg16 IK.t ∗ holds (c : Thread nD τ) arg17 IV.t
      ∗ holds (c : Thread nD τ) arg14 (IK.sc p) ∗ holds (c : Thread nD τ) arg15 (IV.sc p) ∗ holds (c : Thread nD τ) (slot arg12 k.val) xk ∗ holds (c : Thread nD τ) (slot arg13 k.val) xv)
      ⊢ iprop((∀ r, iprop(holds (c : Thread nD τ) arg1 (lenArr IK) ∗ holds (c : Thread nD τ) arg16 IK.t ∗ holds (c : Thread nD τ) arg17 IV.t
          ∗ holds (c : Thread nD τ) arg14 (k0_pay5 (w p) (w (IK.len b)) (IK.sc p) (IK.tok b)) ∗ holds (c : Thread nD τ) arg15 (k0_pay5 (w p) (w (IV.len b)) (IV.sc p) (IV.tok b))
          ∗ holds (c : Thread nD τ) (slot arg12 k.val) (upto (IK.grp p b) xk ⟨q.val, lt4 q⟩ 64) ∗ holds (c : Thread nD τ) (slot arg13 k.val) (upto (IV.grp p b) xv ⟨q.val, lt4 q⟩ 64)) -∗ Q r)
        -∗ wp frame (wpE (defs₀ (F := F)) 𝒱₀ (c : Thread nD τ) none) Set.univ (k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q (w p) (w b) h3 h1) Q) := by
  have hl := IK.hlen b
  have hm := Nat.mod_lt (IK.len b) (show 0 < 256 by decide)
  have hg : IK.len b % 256 / 4 < 64 := by omega
  have hgk := getG_upto (IK.grp p b) xk ⟨q.val, lt4 q⟩ (IK.len b % 256 / 4) ⟨IK.len b % 256 / 4, hg⟩ (Nat.le_refl _)
  have hgv := getG_upto (IV.grp p b) xv ⟨q.val, lt4 q⟩ (IK.len b % 256 / 4) ⟨IK.len b % 256 / 4, hg⟩ (Nat.le_refl _)
  have hpk := putG_upto (IK.grp p b) xk ⟨q.val, lt4 q⟩ ⟨IK.len b % 256 / 4, hg⟩
  have hpv := putG_upto (IV.grp p b) xv ⟨q.val, lt4 q⟩ ⟨IK.len b % 256 / 4, hg⟩
  have hfk : IK.grp p b = newG (IK.len b) (k0_pay3 (IK.tok b)) (k0_pay6 (w p) (IK.sc p)) (k0_pay7 (w p) (w (IK.len b)) (IK.sc p) (IK.tok b)) := rfl
  have hfv : IV.grp p b = newG (IK.len b) (k0_pay17 (IV.tok b)) (k0_pay20 (w p) (IV.sc p)) (k0_pay21 (w p) (Scalar.remsi (w (IK.len b)) 256#32) (IV.sc p) (IV.tok b)) := by
    unfold Inp.grp
    rw [hlen]
    rfl
  rw [mid_eq _ _ _ _ _ _ hfk] at hpk
  rw [mid_eq _ _ _ _ _ _ hfv, ← pay28_eq] at hpv
  rw [hfk] at hgk hpk
  rw [hfv] at hgv hpv
  rw [hfk, hfv, hlen, ← pay19_eq (w p) (w (IK.len b)) (IV.sc p)]
  iintro ⟨Hl, Htk, Htv, Hsk, Hsv, Hk, Hv⟩ HQ
  rw [k0_part6_eq_skeleton]
  unfold k0_part6_skel
  rw [wp_bind, k0_part1_eq_skeleton]
  unfold k0_part1_skel
  iapply (load_len c IK b hb) $$ Hl
  iintro Hl
  iapply (assume_at c (chk4_of k q (w b) (IK.len b) hl))
  iapply (load_all c (IK.sc p)) $$ Hsk
  iintro Hsk
  iapply (load_tok c ⟨b, hb⟩ (off14_eq b hb) IK.t) $$ Htk
  iintro Htk
  iapply (load_all c (IK.sc p)) $$ Hsk
  iintro Hsk
  iapply (store_all c (IK.sc p)) $$ Hsk
  iintro Hsk
  iapply (ret_at c)
  rw [tok_eq IK b hb, wp_bind, k0_part2_eq_skeleton]
  unfold k0_part2_skel
  iapply (loop5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c k q (IK.len b) hl (k0_pay3 (IK.tok b)) _ _ xk) $$ Hk
  iintro Hk
  iapply (skip c (t6_trips (w (IK.len b))))
  iapply (load_group c k.val ⟨q.val, lt4 q⟩ ⟨IK.len b % 256 / 4, hg⟩ (off21_eq k q) (off22_eq (IK.len b) hl) _) $$ Hk
  rw [hgk]
  iintro Hk
  iapply (ret_at c)
  rw [wp_bind, k0_part3_eq_skeleton]
  unfold k0_part3_skel
  iapply (load_group c k.val ⟨q.val, lt4 q⟩ ⟨IK.len b % 256 / 4, hg⟩ (off21_eq k q) (off22_eq (IK.len b) hl) _) $$ Hk
  iintro Hk
  iapply (store_group c k.val ⟨q.val, lt4 q⟩ ⟨IK.len b % 256 / 4, hg⟩ (off23_eq k q (IK.len b) hl) _ _) $$ Hk
  rw [hpk]
  iintro Hk
  iapply (loop7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c k q (IK.len b) hl _ _ _ xk) $$ Hk
  iintro Hk
  iapply (ret_at c)
  rw [wp_bind, k0_part4_eq_skeleton]
  unfold k0_part4_skel
  iapply (skip c (t8_trips (w (IK.len b))))
  iapply (load_all c (IV.sc p)) $$ Hsv
  iintro Hsv
  iapply (load_tok c ⟨b, hb⟩ (off30_eq b hb) IV.t) $$ Htv
  iintro Htv
  iapply (load_all c (IV.sc p)) $$ Hsv
  iintro Hsv
  iapply (store_all c (IV.sc p)) $$ Hsv
  iintro Hsv
  iapply (ret_at c)
  rw [tok_eq IV b hb, wp_bind, k0_part5_eq_skeleton]
  unfold k0_part5_skel
  iapply (loop9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c k q (IK.len b) hl (k0_pay17 (IV.tok b)) _ _ xv) $$ Hv
  iintro Hv
  iapply (skip c (t10_trips (w (IK.len b))))
  iapply (load_group c k.val ⟨q.val, lt4 q⟩ ⟨IK.len b % 256 / 4, hg⟩ (off21_eq k q) (off22_eq (IK.len b) hl) _) $$ Hv
  rw [hgv]
  iintro Hv
  iapply (ret_at c)
  iapply (load_group c k.val ⟨q.val, lt4 q⟩ ⟨IK.len b % 256 / 4, hg⟩ (off21_eq k q) (off22_eq (IK.len b) hl) _) $$ Hv
  iintro Hv
  iapply (store_group c k.val ⟨q.val, lt4 q⟩ ⟨IK.len b % 256 / 4, hg⟩ (off23_eq k q (IK.len b) hl) _ _) $$ Hv
  rw [hpv]
  iintro Hv
  iapply (loop11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c k q (IK.len b) hl _ _ _ xv) $$ Hv
  iintro Hv
  iapply (ret_at c)
  iapply HQ
  isplitl [Hl]; · iexact Hl
  isplitl [Htk]; · iexact Htk
  isplitl [Htv]; · iexact Htv
  isplitl [Hsk]; · iexact Hsk
  isplitl [Hsv]; · iexact Hsv
  isplitl [Hk]; · iexact Hk
  iexact Hv

end Cert.Kernel.Page

end
-- ==== Proof.Chunk.lean ====
/- The four pages of one chunk. -/
module

public import proofs.«01_k».proof.Proof.Page6

@[expose] public section

noncomputable section

namespace Cert.Kernel.Page

open Cert.Kernel Cert.Kernel.Gen Cert.Kernel.Pieces Cert.Kernel.Words Cert.Kernel.Model Cert.Arith
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

/-- A load of a page's owner. -/
theorem load_own (I : Inp F) (k : Fin k0_t3_loop.trips) (q : Fin k0_t4_loop.trips) (v : Elt F .i32) (hv : ownW (I.own (4 * k.val + q.val)) = v)
    {m : Memref sig .tc .smem S1080 .i32} {inb : ∀ a, k0_off12 k q a + S1.size a ≤ S1080.size a} {h1 hp} {α : Type}
    {Q : α → sProp 𝕄} {kk : Elt F .i32 → Prog (TpuEff nD τ sig (Elt F) Λ₀ .tc) α} :
    holds (c : Thread nD τ) m (ownArr I)
      ⊢ iprop((holds (c : Thread nD τ) m (ownArr I) -∗ wp frame (wpE (defs₀ (F := F)) 𝒱₀ (c : Thread nD τ) none) Set.univ (kk v) Q)
        -∗ wp frame (wpE (defs₀ (F := F)) 𝒱₀ (c : Thread nD τ) none) Set.univ (smemLoad m (Rect.unit (s := S1080) (k0_off12 k q) S1.size inb) h1 hp >>= kk) Q) := by
  have h3 := lt3 k
  have h4 := lt4 q
  subst hv
  exact load_word c (ownArr I) (ix1 (⟨4 * k.val + q.val, by omega⟩ : Fin 1080)) (by rw [off12_eq k q]; intro a; fin_cases a; rfl)

theorem own_eq (IK IV : Inp F) (hpg : IV.pg = IK.pg) (p : ℕ) : IV.own p = IK.own p := by
  unfold Inp.own
  rw [hpg]

theorem sc_none (I : Inp F) (p : ℕ) (h : I.own p = none) : I.sc (p + 1) = I.sc p := by
  rw [Inp.sc, h]
theorem sc_some (I : Inp F) (p b : ℕ) (h : I.own p = some b) : I.sc (p + 1) = k0_pay5 (w p) (w (I.len b)) (I.sc p) (I.tok b) := by
  rw [Inp.sc, h]
theorem ch_none (I : Inp F) (k q : ℕ) (h : I.own (4 * k + q) = none) : I.ch k (q + 1) = I.ch k q := by
  rw [Inp.ch, h]
theorem ch_some (I : Inp F) (k b : ℕ) (q : Fin 4) (h : I.own (4 * k + q.val) = some b) : I.ch k (q.val + 1) = upto (I.grp (4 * k + q.val) b) (I.ch k q.val) q 64 := by
  rw [Inp.ch, h]
  show upto _ _ _ _ = _
  congr 1
  exact Fin.ext (Nat.mod_eq_of_lt q.isLt)

/-- What the loop over a chunk's pages holds after `q` of them. -/
def chunkR (IK IV : Inp F) (k q : ℕ) : sProp 𝕄 :=
  iprop(pageR arg1 arg14 arg15 arg16 arg17 arg18 c IK IV (4 * k + q) ∗ holds (c : Thread nD τ) (slot arg12 k) (IK.ch k q) ∗ holds (c : Thread nD τ) (slot arg13 k) (IV.ch k q))

/-- One page. -/
theorem page_step (IK IV : Inp F) (hlen : IV.len = IK.len) (hpg : IV.pg = IK.pg) (k : Fin k0_t3_loop.trips) (q : Fin k0_t4_loop.trips) (acc : Unit) :
    chunkR arg1 arg12 arg13 arg14 arg15 arg16 arg17 arg18 c IK IV k.val q.val
      ⊢ wp frame (wpE (defs₀ (F := F)) 𝒱₀ (c : Thread nD τ) none) Set.univ (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 0#32 1#32 k (Scalar.addi 0#32 (Scalar.muli (Scf.iv 0#32 1#32 k) 1#32)) q acc) (fun _ => chunkR arg1 arg12 arg13 arg14 arg15 arg16 arg17 arg18 c IK IV k.val (q.val + 1)) := by
  unfold chunkR pageR k0_t4_body
  iintro ⟨⟨Ho, Hl, Htk, Htv, Hsk, Hsv⟩, Hk, Hv⟩
  cases h : IK.own (4 * k.val + q.val) with
  | none =>
    have h' := (own_eq IK IV hpg (4 * k.val + q.val)).trans h
    iapply (load_own c IK k q 4294967295#32 (by rw [h]; rfl)) $$ Ho
    iintro Ho
    iapply (assume_at c chk3_none)
    rw [dif_neg cond1_none]
    rw [← Nat.add_assoc, sc_none IK _ h, sc_none IV _ h', ch_none IK _ _ h, ch_none IV _ _ h']
    iapply (ret_at c)
    isplitl [Ho Hl Htk Htv Hsk Hsv]
    · isplitl [Ho]; · iexact Ho
      isplitl [Hl]; · iexact Hl
      isplitl [Htk]; · iexact Htk
      isplitl [Htv]; · iexact Htv
      isplitl [Hsk]; · iexact Hsk
      iexact Hsv
    · isplitl [Hk]; · iexact Hk
      iexact Hv
  | some b =>
    have h' := (own_eq IK IV hpg (4 * k.val + q.val)).trans h
    have hb := IK.own_lt h
    iapply (load_own c IK k q (w b) (by rw [h]; rfl)) $$ Ho
    iintro Ho
    iapply (assume_at c (chk3_of b hb))
    rw [dif_pos (cond1_eq b (by omega)), page_w k q, wp_bind]
    iapply (part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV hlen k q (4 * k.val + q.val) b hb (IK.ch k.val q.val) (IV.ch k.val q.val)) $$ [Hl Htk Htv Hsk Hsv Hk Hv]
    · isplitl [Hl]; · iexact Hl
      isplitl [Htk]; · iexact Htk
      isplitl [Htv]; · iexact Htv
      isplitl [Hsk]; · iexact Hsk
      isplitl [Hsv]; · iexact Hsv
      isplitl [Hk]; · iexact Hk
      iexact Hv
    iintro %r ⟨Hl, Htk, Htv, Hsk, Hsv, Hk, Hv⟩
    obtain ⟨v334, hw4, v550, c1, v559⟩ := r
    iapply (skip c (t12_trips v334))
    rw [← Nat.add_assoc, sc_some IK _ b h, sc_some IV _ b h', ch_some IK k.val b ⟨q.val, lt4 q⟩ h, ch_some IV k.val b ⟨q.val, lt4 q⟩ h']
    iapply (ret_at c)
    isplitl [Ho Hl Htk Htv Hsk Hsv]
    · isplitl [Ho]; · iexact Ho
      isplitl [Hl]; · iexact Hl
      isplitl [Htk]; · iexact Htk
      isplitl [Htv]; · iexact Htv
      isplitl [Hsk]; · iexact Hsk
      iexact Hsv
    · isplitl [Hk]; · iexact Hk
      iexact Hv

/-- The four pages of a chunk. -/
theorem pages (IK IV : Inp F) (hlen : IV.len = IK.len) (hpg : IV.pg = IK.pg) (k : Fin k0_t3_loop.trips) {hok : k0_t4_loop.OK}
    {β : Type} {kk : Unit → Prog (TpuEff nD τ sig (Elt F) Λ₀ .tc) β} {Q : β → sProp 𝕄} :
    chunkR arg1 arg12 arg13 arg14 arg15 arg16 arg17 arg18 c IK IV k.val 0
      ⊢ iprop((chunkR arg1 arg12 arg13 arg14 arg15 arg16 arg17 arg18 c IK IV k.val 4 -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t4_loop hok ⟨⟩ (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 0#32 1#32 k (Scalar.addi 0#32 (Scalar.muli (Scf.iv 0#32 1#32 k) 1#32))) >>= kk) Q) := by
  have h := Scf.wp_for_bind (M := 𝕄) frame (wpE (defs₀ (F := F)) 𝒱₀ (c : Thread nD τ) none) Set.univ k0_t4_loop.lb k0_t4_loop.ub k0_t4_loop.st hok ()
    (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 0#32 1#32 k (Scalar.addi 0#32 (Scalar.muli (Scf.iv 0#32 1#32 k) 1#32)))
    (fun t _ => chunkR arg1 arg12 arg13 arg14 arg15 arg16 arg17 arg18 c IK IV k.val t)
    (fun t acc => page_step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV hlen hpg k t acc) (kk := kk) (Q := Q)
  refine h.trans ?_
  rw [show Scf.trips k0_t4_loop.lb k0_t4_loop.ub k0_t4_loop.st = 4 from t4_trips]
  iintro H Hk
  iapply H
  iintro %acc H
  iapply Hk
  iexact H

end Cert.Kernel.Page

end
-- ==== Proof.Pool.lean ====
/- One pool on its way through its ring: what is done, being written back, being read, and to come. -/
module

public import proofs.«01_k».proof.Proof.Chunk
public import Idealize.SL.BI.BigOpNat

@[expose] public section

noncomputable section

namespace Cert.Kernel.Pool

open Cert.Kernel Cert.Kernel.Gen Cert.Kernel.Pieces Cert.Kernel.Words Cert.Kernel.Model Cert.Arith
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (c : Dev nD) (P : PoolM) (R : RingM) (O : PoolM) (A B : DmaSems sig S2x24) (h : Fin 2) (X G : ℕ → Chunk F)

theorem slot_congr {a b : ℕ} (e : a % 24 = b % 24) : slot R a = slot R b := by
  have H : ∀ (x y : ℕ) (hx : ∀ i, (![x, 0, 0, 0, 0] : Fin 5 → ℕ) i + S1x4x256x8x128.size i ≤ S24x4x256x8x128.size i)
      (hy : ∀ i, (![y, 0, 0, 0, 0] : Fin 5 → ℕ) i + S1x4x256x8x128.size i ≤ S24x4x256x8x128.size i), x = y →
      (R.slice (Rect.unit (s := S24x4x256x8x128) ![x, 0, 0, 0, 0] S1x4x256x8x128.size hx) (fun _ => rfl)).squeeze S4x256x8x128 squeezes_S1x4x256x8x128_S4x256x8x128
        = (R.slice (Rect.unit (s := S24x4x256x8x128) ![y, 0, 0, 0, 0] S1x4x256x8x128.size hy) (fun _ => rfl)).squeeze S4x256x8x128 squeezes_S1x4x256x8x128_S4x256x8x128 := by
    intro x y hx hy exy
    subst exy
    rfl
  exact H _ _ _ _ e
theorem cell_congr {a b : ℕ} (e : a % 24 = b % 24) : cell A h a = cell A h b := by
  have H : ∀ (x y : ℕ) (hx : ∀ i, (![h.val, x] : Fin 2 → ℕ) i + S1x1.size i ≤ S2x24.size i) (hy : ∀ i, (![h.val, y] : Fin 2 → ℕ) i + S1x1.size i ≤ S2x24.size i), x = y →
      (SemLoc.dma ((A.slice (Rect.unit (s := S2x24) ![h.val, x] S1x1.size hx)).squeeze S_ squeezes_S1x1_S_).sem : SemLoc sig)
        = SemLoc.dma ((A.slice (Rect.unit (s := S2x24) ![h.val, y] S1x1.size hy)).squeeze S_ squeezes_S1x1_S_).sem := by
    intro x y hx hy exy
    subst exy
    rfl
  exact H _ _ _ _ e

/-- A chunk written back. -/
def done (j : ℕ) : sProp 𝕄 := iprop(holds (c : Thread nD τ) (blk O j) (G j) ∗ holds (c : Thread nD τ) (blk P j) (X j))
/-- A chunk being written back. -/
def wr (j : ℕ) : sProp 𝕄 := iprop(writeF c R O B h j (G j) ∗ holds (c : Thread nD τ) (blk P j) (X j) ∗ semVal ((c : Thread nD τ), cell A h j) 0)
/-- A chunk being read. -/
def rd (j : ℕ) : sProp 𝕄 := iprop(readF c P R A h j (X j) ∗ (∃ y, holds (c : Thread nD τ) (blk O j) y) ∗ semVal ((c : Thread nD τ), cell B h j) 0)
/-- A chunk to come. -/
def idle (j : ℕ) : sProp 𝕄 := iprop(holds (c : Thread nD τ) (blk P j) (X j) ∗ ∃ y, holds (c : Thread nD τ) (blk O j) y)
/-- A slot not in use. -/
def free (j : ℕ) : sProp 𝕄 := iprop((∃ y, holds (c : Thread nD τ) (slot R j) y) ∗ semVal ((c : Thread nD τ), cell A h j) 0 ∗ semVal ((c : Thread nD τ), cell B h j) 0)

/-- The pool before chunk `k`. -/
def poolR (k : ℕ) : sProp 𝕄 :=
  iprop(bigSep (Finset.Ico 0 (k - 8)) (done c P O X G) ∗ bigSep (Finset.Ico (k - 8) k) (wr c P R O A B h X G)
    ∗ bigSep (Finset.Ico k (min 270 (k - 8 + 24))) (rd c P R O A B h X) ∗ bigSep (Finset.Ico (min 270 (k - 8 + 24)) 270) (idle c P O X)
    ∗ bigSep (Finset.Ico (min 270 (k - 8 + 24)) (k - 8 + 24)) (free c R A B h))
/-- The pool without the read of chunk `k`. -/
def restR (k : ℕ) : sProp 𝕄 :=
  iprop(bigSep (Finset.Ico 0 (k - 8)) (done c P O X G) ∗ bigSep (Finset.Ico (k - 8) k) (wr c P R O A B h X G)
    ∗ bigSep (Finset.Ico (k + 1) (min 270 (k - 8 + 24))) (rd c P R O A B h X) ∗ bigSep (Finset.Ico (min 270 (k - 8 + 24)) 270) (idle c P O X)
    ∗ bigSep (Finset.Ico (min 270 (k - 8 + 24)) (k - 8 + 24)) (free c R A B h))
/-- … and without the oldest write. -/
def rest2R (k : ℕ) : sProp 𝕄 :=
  iprop(bigSep (Finset.Ico 0 (k - 8)) (done c P O X G) ∗ bigSep (Finset.Ico (k - 8 + 1) k) (wr c P R O A B h X G)
    ∗ bigSep (Finset.Ico (k + 1) (min 270 (k - 8 + 24))) (rd c P R O A B h X) ∗ bigSep (Finset.Ico (min 270 (k - 8 + 24)) 270) (idle c P O X)
    ∗ bigSep (Finset.Ico (min 270 (k - 8 + 24)) (k - 8 + 24)) (free c R A B h))
/-- … and without the next chunk to come. -/
def rest3R (k : ℕ) : sProp 𝕄 :=
  iprop(bigSep (Finset.Ico 0 (k - 8)) (done c P O X G) ∗ bigSep (Finset.Ico (k - 8 + 1) k) (wr c P R O A B h X G)
    ∗ bigSep (Finset.Ico (k + 1) (min 270 (k - 8 + 24))) (rd c P R O A B h X) ∗ bigSep (Finset.Ico (k - 8 + 24 + 1) 270) (idle c P O X)
    ∗ bigSep (Finset.Ico (min 270 (k - 8 + 24)) (k - 8 + 24)) (free c R A B h))

/-- The read of chunk `k` is under way before it. -/
theorem take_read (k : ℕ) (hk : k < 270) : poolR c P R O A B h X G k ⊢ iprop(rd c P R O A B h X k ∗ restR c P R O A B h X G k) := by
  unfold poolR restR
  rw [bigSep_Ico_succ_bot (show k < min 270 (k - 8 + 24) by omega)]
  iintro ⟨H1, H2, ⟨H3, H4⟩, H5, H6⟩
  isplitl [H3]; · iexact H3
  isplitl [H1]; · iexact H1
  isplitl [H2]; · iexact H2
  isplitl [H4]; · iexact H4
  isplitl [H5]; · iexact H5
  iexact H6

/-- The first chunks: nothing is waited for. -/
theorem put_early (k : ℕ) (hk : k < 8) : iprop(wr c P R O A B h X G k ∗ restR c P R O A B h X G k) ⊢ poolR c P R O A B h X G (k + 1) := by
  unfold poolR restR
  rw [show k + 1 - 8 = k - 8 by omega, bigSep_Ico_succ_top (show k - 8 ≤ k by omega)]
  iintro ⟨Hw, H1, H2, H4, H5, H6⟩
  isplitl [H1]; · iexact H1
  isplitl [Hw H2]
  · isplitl [Hw]; · iexact Hw
    iexact H2
  isplitl [H4]; · iexact H4
  isplitl [H5]; · iexact H5
  iexact H6

/-- The oldest write. -/
theorem take_write (k : ℕ) (hk : 8 ≤ k) : restR c P R O A B h X G k ⊢ iprop(wr c P R O A B h X G (k - 8) ∗ rest2R c P R O A B h X G k) := by
  unfold restR rest2R
  rw [bigSep_Ico_succ_bot (show k - 8 < k by omega)]
  iintro ⟨H1, ⟨H2, H3⟩, H4, H5, H6⟩
  isplitl [H2]; · iexact H2
  isplitl [H1]; · iexact H1
  isplitl [H3]; · iexact H3
  isplitl [H4]; · iexact H4
  isplitl [H5]; · iexact H5
  iexact H6

/-- The next chunk to come. -/
theorem take_idle (k : ℕ) (hk : 8 ≤ k) (hk' : k + 16 < 270) : rest2R c P R O A B h X G k ⊢ iprop(idle c P O X (k - 8 + 24) ∗ rest3R c P R O A B h X G k) := by
  unfold rest2R rest3R
  rw [bigSep_Ico_succ_bot (show min 270 (k - 8 + 24) < 270 by omega), show min 270 (k - 8 + 24) = k - 8 + 24 by omega]
  iintro ⟨H1, H2, H3, ⟨H4, H5⟩, H6⟩
  isplitl [H4]; · iexact H4
  isplitl [H1]; · iexact H1
  isplitl [H2]; · iexact H2
  isplitl [H3]; · iexact H3
  isplitl [H5]; · iexact H5
  iexact H6

/-- The slot is read into again. -/
theorem put_read (k : ℕ) (hk : 8 ≤ k) (hk' : k + 16 < 270) :
    iprop(wr c P R O A B h X G k ∗ done c P O X G (k - 8) ∗ rd c P R O A B h X (k - 8 + 24) ∗ rest3R c P R O A B h X G k) ⊢ poolR c P R O A B h X G (k + 1) := by
  unfold poolR rest3R
  rw [show k + 1 - 8 = k - 8 + 1 by omega, show min 270 (k - 8 + 24) = k - 8 + 24 by omega, show min 270 (k - 8 + 1 + 24) = k - 8 + 24 + 1 by omega,
    show k - 8 + 1 + 24 = k - 8 + 24 + 1 by omega, bigSep_Ico_succ_top (show 0 ≤ k - 8 by omega), bigSep_Ico_succ_top (show k - 8 + 1 ≤ k by omega),
    bigSep_Ico_succ_top (show k + 1 ≤ k - 8 + 24 by omega), Finset.Ico_self, Finset.Ico_self]
  iintro ⟨Hw, Hd, Hr, H1, H2, H3, H4, H5⟩
  isplitl [Hd H1]
  · isplitl [Hd]; · iexact Hd
    iexact H1
  isplitl [Hw H2]
  · isplitl [Hw]; · iexact Hw
    iexact H2
  isplitl [Hr H3]
  · isplitl [Hr]; · iexact Hr
    iexact H3
  isplitl [H4]; · iexact H4
  iexact H5

/-- The slot is done with. -/
theorem put_free (k : ℕ) (hk : 8 ≤ k) (hk' : ¬ k + 16 < 270) (hk'' : k < 270) :
    iprop(wr c P R O A B h X G k ∗ done c P O X G (k - 8) ∗ free c R A B h (k - 8 + 24) ∗ rest2R c P R O A B h X G k) ⊢ poolR c P R O A B h X G (k + 1) := by
  unfold poolR rest2R
  rw [show k + 1 - 8 = k - 8 + 1 by omega, show min 270 (k - 8 + 24) = 270 by omega, show min 270 (k - 8 + 1 + 24) = 270 by omega,
    show k - 8 + 1 + 24 = k - 8 + 24 + 1 by omega, bigSep_Ico_succ_top (show 0 ≤ k - 8 by omega), bigSep_Ico_succ_top (show k - 8 + 1 ≤ k by omega),
    bigSep_Ico_succ_top (show 270 ≤ k - 8 + 24 by omega)]
  iintro ⟨Hw, Hd, Hr, H1, H2, H3, H4, H5⟩
  isplitl [Hd H1]
  · isplitl [Hd]; · iexact Hd
    iexact H1
  isplitl [Hw H2]
  · isplitl [Hw]; · iexact Hw
    iexact H2
  isplitl [H3]; · iexact H3
  isplitl [H4]; · iexact H4
  isplitl [Hr]; · iexact Hr
  iexact H5

/-- A slot whose write is over, as the slot of the chunk 24 later. -/
theorem free_of (j : ℕ) (y : Chunk F) :
    iprop(holds (c : Thread nD τ) (slot R j) y ∗ semVal ((c : Thread nD τ), cell A h j) 0 ∗ semVal ((c : Thread nD τ), cell B h j) 0)
      ⊢ free c R A B h (j + 24) := by
  unfold free
  rw [slot_congr R (show (j + 24) % 24 = j % 24 by omega), cell_congr A h (show (j + 24) % 24 = j % 24 by omega), cell_congr B h (show (j + 24) % 24 = j % 24 by omega)]
  iintro ⟨H1, H2, H3⟩
  isplitl [H1]
  · iexists y
    iexact H1
  isplitl [H2]; · iexact H2
  iexact H3

end Cert.Kernel.Pool

end
-- ==== Proof.Sweep.lean ====
/- The sweep over the chunks: each is read, gets its appended rows and is written back. -/
module

public import proofs.«01_k».proof.Proof.Pool

@[expose] public section

noncomputable section

namespace Cert.Kernel.Sweep

open Cert.Kernel Cert.Kernel.Gen Cert.Kernel.Pieces Cert.Kernel.Words Cert.Kernel.Model Cert.Arith Cert.Kernel.Page Cert.Kernel.Pool
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

/-- Before chunk `k`. -/
def sweepR (IK IV : Inp F) (k : ℕ) : sProp 𝕄 :=
  iprop(pageR arg1 arg14 arg15 arg16 arg17 arg18 c IK IV (4 * k) ∗ poolR c arg2 arg12 arg8 arg19 arg20 0 IK.x (fun j => IK.ch j 4) k ∗ poolR c arg3 arg13 arg10 arg19 arg20 1 IV.x (fun j => IV.ch j 4) k ∗ ∃ W, owes (c : Thread nD τ) 0 W)

/-- One chunk. -/
theorem trip (IK IV : Inp F) (hlen : IV.len = IK.len) (hpg : IV.pg = IK.pg) (k : Fin k0_t3_loop.trips) (acc : Unit) :
    sweepR arg1 arg2 arg3 arg8 arg10 arg12 arg13 arg14 arg15 arg16 arg17 arg18 arg19 arg20 c IK IV k.val
      ⊢ wp frame (wpE (defs₀ (F := F)) 𝒱₀ (c : Thread nD τ) none) Set.univ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 0#32 1#32 k acc) (fun _ => sweepR arg1 arg2 arg3 arg8 arg10 arg12 arg13 arg14 arg15 arg16 arg17 arg18 arg19 arg20 c IK IV (k.val + 1)) := by
  have hk := lt3 k
  have hb : (![4 * k.val, 0, 0, 0] : Fin 4 → ℕ) = ![4 * (k.val % 270), 0, 0, 0] := by rw [Nat.mod_eq_of_lt hk]
  unfold k0_t3_body sweepR
  iintro ⟨Hp, HK, HV, ⟨%W0, Hw⟩⟩
  ihave HK := take_read (k := k.val) (hk := hk) $$ HK
  ihave HV := take_read (k := k.val) (hk := hk) $$ HV
  icases HK with ⟨HKr, HK⟩
  icases HV with ⟨HVr, HV⟩
  unfold rd
  icases HKr with ⟨HKr, ⟨%yK, HKo⟩, HKb⟩
  icases HVr with ⟨HVr, ⟨%yV, HVo⟩, HVb⟩
  rw [wp_bind, k0_part7_eq_skeleton]
  unfold k0_part7_skel
  iapply (await_read c 0 k.val ((off10_eq k).trans hb) (off9_eq k) (off8_eq k) (IK.x k.val) W0) $$ [HKr Hw]
  · skip
    isplitl [HKr]; · iexact HKr
    iexact Hw
  iintro ⟨⟨HKs, HKp⟩, HKa, ⟨%W1, Hw⟩⟩
  iapply (await_read c 1 k.val ((off10_eq k).trans hb) (off9_eq k) (off11_eq k) (IV.x k.val) W1) $$ [HVr Hw]
  · skip
    isplitl [HVr]; · iexact HVr
    iexact Hw
  iintro ⟨⟨HVs, HVp⟩, HVa, ⟨%W2, Hw⟩⟩
  iapply (pages arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV hlen hpg k) $$ [Hp HKs HVs]
  · unfold chunkR
    isplitl [Hp]; · iexact Hp
    isplitl [HKs]; · iexact HKs
    iexact HVs
  unfold chunkR
  iintro ⟨Hp, HKs, HVs⟩
  iapply (ret_at c)
  iapply (issue_write c 0 k.val ((off10_eq k).trans hb) (off9_eq k) (off8_eq k) (IK.ch k.val 4) yK) $$ [HKs HKo HKb]
  · skip
    isplitl [HKs]; · iexact HKs
    isplitl [HKo]; · iexact HKo
    iexact HKb
  iintro HKw
  iapply (issue_write c 1 k.val ((off10_eq k).trans hb) (off9_eq k) (off11_eq k) (IV.ch k.val 4) yV) $$ [HVs HVo HVb]
  · skip
    isplitl [HVs]; · iexact HVs
    isplitl [HVo]; · iexact HVo
    iexact HVb
  iintro HVw
  by_cases h8 : 8 ≤ k.val
  · have h2 := (cond2_iff k).mpr h8
    rw [dif_pos h2]
    have hb8 : (![4 * (k.val - 8), 0, 0, 0] : Fin 4 → ℕ) = ![4 * ((k.val - 8) % 270), 0, 0, 0] := by rw [Nat.mod_eq_of_lt (show k.val - 8 < 270 by omega)]
    ihave HK := take_write (k := k.val) (hk := h8) $$ HK
    ihave HV := take_write (k := k.val) (hk := h8) $$ HV
    icases HK with ⟨HKo, HK⟩
    icases HV with ⟨HVo, HV⟩
    unfold wr
    icases HKo with ⟨HKo, HKpb, HKab⟩
    icases HVo with ⟨HVo, HVpb, HVab⟩
    iapply (await_write c 0 (k.val - 8) ((off44_eq k h8).trans hb8) (off45_eq k h8) (off43_eq k h8) (IK.ch (k.val - 8) 4) W2) $$ [HKo Hw]
    · skip
      isplitl [HKo]; · iexact HKo
      iexact Hw
    iintro ⟨⟨HKob, HKfb⟩, HKsb, ⟨%W3, Hw⟩⟩
    iapply (await_write c 1 (k.val - 8) ((off44_eq k h8).trans hb8) (off45_eq k h8) (off46_eq k h8) (IV.ch (k.val - 8) 4) W3) $$ [HVo Hw]
    · skip
      isplitl [HVo]; · iexact HVo
      iexact Hw
    iintro ⟨⟨HVob, HVfb⟩, HVsb, ⟨%W4, Hw⟩⟩
    by_cases h16 : k.val + 16 < 270
    · have h3 := (cond3_iff k h8).mpr h16
      rw [dif_pos h3]
      have hb24 : (![4 * (k.val - 8 + 24), 0, 0, 0] : Fin 4 → ℕ) = ![4 * ((k.val - 8 + 24) % 270), 0, 0, 0] := by rw [Nat.mod_eq_of_lt (show k.val - 8 + 24 < 270 by omega)]
      have hm : (k.val - 8) % 24 = (k.val - 8 + 24) % 24 := by omega
      rw [slot_congr arg12 hm, slot_congr arg13 hm, cell_congr arg19 0 hm, cell_congr arg20 0 hm, cell_congr arg19 1 hm, cell_congr arg20 1 hm]
      ihave HK := take_idle (k := k.val) (hk := h8) (hk' := h16) $$ HK
      ihave HV := take_idle (k := k.val) (hk := h8) (hk' := h16) $$ HV
      icases HK with ⟨HKi, HK⟩
      icases HV with ⟨HVi, HV⟩
      unfold idle
      icases HKi with ⟨HKi, HKyb⟩
      icases HVi with ⟨HVi, HVyb⟩
      iapply (issue_read c 0 (k.val - 8 + 24) ((off49_eq k h8).trans hb24) (off48_eq k h8) (off47_eq k h8) (IK.x (k.val - 8 + 24)) (IK.ch (k.val - 8) 4)) $$ [HKi HKfb HKab]
      · skip
        isplitl [HKi]; · iexact HKi
        isplitl [HKfb]; · iexact HKfb
        iexact HKab
      iintro HKrb
      iapply (issue_read c 1 (k.val - 8 + 24) ((off49_eq k h8).trans hb24) (off48_eq k h8) (off50_eq k h8) (IV.x (k.val - 8 + 24)) (IV.ch (k.val - 8) 4)) $$ [HVi HVfb HVab]
      · skip
        isplitl [HVi]; · iexact HVi
        isplitl [HVfb]; · iexact HVfb
        iexact HVab
      iintro HVrb
      iapply (ret_at c)
      isplitl [Hp]; · iexact Hp
      isplitl [HKw HKp HKa HKob HKpb HKrb HKyb HKsb HK]
      · iapply (put_read (k := k.val) (hk := h8) (hk' := h16))
        isplitl [HKw HKp HKa]
        · unfold wr
          isplitl [HKw]; · iexact HKw
          isplitl [HKp]; · iexact HKp
          iexact HKa
        isplitl [HKob HKpb]
        · unfold done
          isplitl [HKob]; · iexact HKob
          iexact HKpb
        isplitl [HKrb HKyb HKsb]
        · unfold rd
          isplitl [HKrb]; · iexact HKrb
          isplitl [HKyb]; · iexact HKyb
          iexact HKsb
        iexact HK
      isplitl [HVw HVp HVa HVob HVpb HVrb HVyb HVsb HV]
      · iapply (put_read (k := k.val) (hk := h8) (hk' := h16))
        isplitl [HVw HVp HVa]
        · unfold wr
          isplitl [HVw]; · iexact HVw
          isplitl [HVp]; · iexact HVp
          iexact HVa
        isplitl [HVob HVpb]
        · unfold done
          isplitl [HVob]; · iexact HVob
          iexact HVpb
        isplitl [HVrb HVyb HVsb]
        · unfold rd
          isplitl [HVrb]; · iexact HVrb
          isplitl [HVyb]; · iexact HVyb
          iexact HVsb
        iexact HV
      iexists W4
      iexact Hw
    · have h3 : ¬ k0_cond3 k = 1#1 := fun h => h16 ((cond3_iff k h8).mp h)
      rw [dif_neg h3]
      iapply (ret_at c)
      isplitl [Hp]; · iexact Hp
      isplitl [HKw HKp HKa HKob HKpb HKfb HKab HKsb HK]
      · iapply (put_free (k := k.val) (hk := h8) (hk' := h16) (hk'' := hk))
        isplitl [HKw HKp HKa]
        · unfold wr
          isplitl [HKw]; · iexact HKw
          isplitl [HKp]; · iexact HKp
          iexact HKa
        isplitl [HKob HKpb]
        · unfold done
          isplitl [HKob]; · iexact HKob
          iexact HKpb
        isplitl [HKfb HKab HKsb]
        · iapply (free_of (j := k.val - 8))
          isplitl [HKfb]; · iexact HKfb
          isplitl [HKab]; · iexact HKab
          iexact HKsb
        iexact HK
      isplitl [HVw HVp HVa HVob HVpb HVfb HVab HVsb HV]
      · iapply (put_free (k := k.val) (hk := h8) (hk' := h16) (hk'' := hk))
        isplitl [HVw HVp HVa]
        · unfold wr
          isplitl [HVw]; · iexact HVw
          isplitl [HVp]; · iexact HVp
          iexact HVa
        isplitl [HVob HVpb]
        · unfold done
          isplitl [HVob]; · iexact HVob
          iexact HVpb
        isplitl [HVfb HVab HVsb]
        · iapply (free_of (j := k.val - 8))
          isplitl [HVfb]; · iexact HVfb
          isplitl [HVab]; · iexact HVab
          iexact HVsb
        iexact HV
      iexists W4
      iexact Hw
  · have h2 : ¬ k0_cond2 k = 1#1 := fun h => h8 ((cond2_iff k).mp h)
    rw [dif_neg h2]
    iapply (ret_at c)
    isplitl [Hp]; · iexact Hp
    isplitl [HKw HKp HKa HK]
    · iapply (put_early (k := k.val) (hk := by omega))
      isplitl [HKw HKp HKa]
      · unfold wr
        isplitl [HKw]; · iexact HKw
        isplitl [HKp]; · iexact HKp
        iexact HKa
      iexact HK
    isplitl [HVw HVp HVa HV]
    · iapply (put_early (k := k.val) (hk := by omega))
      isplitl [HVw HVp HVa]
      · unfold wr
        isplitl [HVw]; · iexact HVw
        isplitl [HVp]; · iexact HVp
        iexact HVa
      iexact HV
    iexists W2
    iexact Hw

/-- The whole sweep. -/
theorem sweep (IK IV : Inp F) (hlen : IV.len = IK.len) (hpg : IV.pg = IK.pg) {hok : k0_t3_loop.OK}
    {β : Type} {kk : Unit → Prog (TpuEff nD τ sig (Elt F) Λ₀ .tc) β} {Q : β → sProp 𝕄} :
    sweepR arg1 arg2 arg3 arg8 arg10 arg12 arg13 arg14 arg15 arg16 arg17 arg18 arg19 arg20 c IK IV 0
      ⊢ iprop((sweepR arg1 arg2 arg3 arg8 arg10 arg12 arg13 arg14 arg15 arg16 arg17 arg18 arg19 arg20 c IK IV 270 -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t3_loop hok ⟨⟩ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 0#32 1#32) >>= kk) Q) := by
  have h := Scf.wp_for_bind (M := 𝕄) frame (wpE (defs₀ (F := F)) 𝒱₀ (c : Thread nD τ) none) Set.univ k0_t3_loop.lb k0_t3_loop.ub k0_t3_loop.st hok ()
    (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 0#32 1#32)
    (fun t _ => sweepR arg1 arg2 arg3 arg8 arg10 arg12 arg13 arg14 arg15 arg16 arg17 arg18 arg19 arg20 c IK IV t)
    (fun t acc => trip arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV hlen hpg t acc) (kk := kk) (Q := Q)
  refine h.trans ?_
  rw [show Scf.trips k0_t3_loop.lb k0_t3_loop.ub k0_t3_loop.st = 270 from t3_trips]
  iintro H Hk
  iapply H
  iintro %acc H
  iapply Hk
  iexact H

end Cert.Kernel.Sweep

end
-- ==== Proof.First.lean ====
/- The first reads: 24 chunks of either pool. -/
module

public import proofs.«01_k».proof.Proof.Sweep

@[expose] public section

noncomputable section

namespace Cert.Kernel.First

open Cert.Kernel Cert.Kernel.Gen Cert.Kernel.Pieces Cert.Kernel.Words Cert.Kernel.Model Cert.Arith Cert.Kernel.Page Cert.Kernel.Pool Cert.Kernel.Sweep
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

theorem off1_eq (n : ℕ) (h : n < 24) : k0_off1 (w n) = ![0, n % 24] := by
  simp (disch := omega) only [k0_off1, Scalar.indexCast, remsi_w, toNat_w, show (24#32 : BitVec 32) = w 24 from rfl]
theorem off2_eq (n : ℕ) (h : n < 24) : k0_off2 (w n) = ![n % 24, 0, 0, 0, 0] := by
  simp (disch := omega) only [k0_off2, Scalar.indexCast, remsi_w, toNat_w, show (24#32 : BitVec 32) = w 24 from rfl]
theorem off3_eq (n : ℕ) (h : n < 24) : k0_off3 (w n) = ![1, n % 24] := by
  simp (disch := omega) only [k0_off3, Scalar.indexCast, remsi_w, toNat_w, show (24#32 : BitVec 32) = w 24 from rfl]

section rules

variable (P : PoolM) (R : RingM) (O : PoolM) (A B : DmaSems sig S2x24) (h : Fin 2) (X G : ℕ → Chunk F)

/-- The pool with its first `j` reads under way. -/
def startR (j : ℕ) : sProp 𝕄 :=
  iprop(bigSep (Finset.Ico 0 0) (done c P O X G) ∗ bigSep (Finset.Ico 0 0) (wr c P R O A B h X G)
    ∗ bigSep (Finset.Ico 0 j) (rd c P R O A B h X) ∗ bigSep (Finset.Ico j 270) (idle c P O X) ∗ bigSep (Finset.Ico j 24) (free c R A B h))

theorem start_all : startR c P R O A B h X G 24 ⊢ poolR c P R O A B h X G 0 := .rfl

variable {α : Type} {k : PUnit → Prog (TpuEff nD τ sig (Elt F) Λ₀ .tc) α}
  {ob : Fin 4 → ℕ} {os : Fin 5 → ℕ} {oc : Fin 2 → ℕ}
  {ib : ∀ a, ob a + S4x256x8x128.size a ≤ S1080x256x8x128.size a} {is : ∀ a, os a + S1x4x256x8x128.size a ≤ S24x4x256x8x128.size a}
  {ic : ∀ a, oc a + S1x1.size a ≤ S2x24.size a}

/-- One read is issued. -/
theorem begin_read {Q : α → sProp 𝕄} (j : ℕ) (hj : j < 24) (hob : ob = ![4 * (j % 270), 0, 0, 0]) (hos : os = ![j % 24, 0, 0, 0, 0]) (hoc : oc = ![h.val, j % 24]) {e1 e2 e3} :
    startR c P R O A B h X G j
      ⊢ iprop((startR c P R O A B h X G (j + 1) -∗ wp frame (wpE (defs₀ (F := F)) 𝒱₀ (c : Thread nD τ) none) Set.univ (k ⟨⟩) Q)
        -∗ wp frame (wpE (defs₀ (F := F)) 𝒱₀ (c : Thread nD τ) none) Set.univ (
          Prog.lift (.enqueueDma (P.slice (Rect.unit (s := S1080x256x8x128) ob S4x256x8x128.size ib) (fun _ => rfl))
            (.here ((R.slice (Rect.unit (s := S24x4x256x8x128) os S1x4x256x8x128.size is) (fun _ => rfl)).squeeze S4x256x8x128 squeezes_S1x4x256x8x128_S4x256x8x128))
            (.dma ((A.slice (Rect.unit (s := S2x24) oc S1x1.size ic)).squeeze S_ squeezes_S1x1_S_).sem) e1 e2 e3) >>= k) Q) := by
  unfold startR
  rw [bigSep_Ico_succ_bot (show j < 270 by omega), bigSep_Ico_succ_bot hj, bigSep_Ico_succ_top (show 0 ≤ j by omega)]
  iintro ⟨H1, H2, H3, ⟨Hi, H4⟩, ⟨Hf, H5⟩⟩
  unfold idle free
  icases Hi with ⟨Hx, Hy⟩
  icases Hf with ⟨⟨%y, Hs⟩, Ha, Hb⟩
  iintro Hk
  iapply (issue_read c h j hob hos hoc (X j) y) $$ [Hx Hs Ha]
  · isplitl [Hx]; · iexact Hx
    isplitl [Hs]; · iexact Hs
    iexact Ha
  iintro Hr
  iapply Hk
  isplitl [H1]; · iexact H1
  isplitl [H2]; · iexact H2
  isplitl [Hr Hy Hb H3]
  · isplitl [Hr Hy Hb]
    · unfold rd
      isplitl [Hr]; · iexact Hr
      isplitl [Hy]; · iexact Hy
      iexact Hb
    iexact H3
  isplitl [H4]; · iexact H4
  iexact H5

end rules

/-- Reads 1 to 2 and 1 to 2. -/
theorem part9 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 1 ∗ startR c arg3 arg13 arg10 arg19 arg20 1 IV.x (fun j => IV.ch j 4) 1)
      ⊢ iprop((iprop(startR c arg2 arg12 arg8 arg19 arg20 0 IK.x (fun j => IK.ch j 4) 3 ∗ startR c arg3 arg13 arg10 arg19 arg20 1 IV.x (fun j => IV.ch j 4) 3) -∗ wp frame (wpE (defs₀ (F := F)) 𝒱₀ (c : Thread nD τ) none) Set.univ (kk ⟨⟩) Q) -∗ wp frame (wpE (defs₀ (F := F)) 𝒱₀ (c : Thread nD τ) none) Set.univ (k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part9_eq_skeleton]
  unfold k0_part9_skel
  iapply (begin_read c arg2 arg12 arg8 arg19 arg20 0 IK.x (fun j => IK.ch j 4) 1 (by decide) rfl (off2_eq 1 (by decide)) (off1_eq 1 (by decide))) $$ HK
  iintro HK
  iapply (begin_read c arg3 arg13 arg10 arg19 arg20 1 IV.x (fun j => IV.ch j 4) 1 (by decide) rfl (off2_eq 1 (by decide)) (off3_eq 1 (by decide))) $$ HV
  iintro HV
  iapply (begin_read c arg2 arg12 arg8 arg19 arg20 0 IK.x (fun j => IK.ch j 4) 2 (by decide) rfl (off2_eq 2 (by decide)) (off1_eq 2 (by decide))) $$ HK
  iintro HK
  iapply (begin_read c arg3 arg13 arg10 arg19 arg20 1 IV.x (fun j => IV.ch j 4) 2 (by decide) rfl (off2_eq 2 (by decide)) (off3_eq 2 (by decide))) $$ HV
  iintro HV
  iapply (ret_at c)
  iapply Hk
  isplitl [HK]; · iexact HK
  iexact HV

/-- Reads 3 to 4 and 3 to 3. -/
theorem part10 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 3 ∗ startR c arg3 arg13 arg10 arg19 arg20 1 IV.x (fun j => IV.ch j 4) 3)
      ⊢ iprop((iprop(startR c arg2 arg12 arg8 arg19 arg20 0 IK.x (fun j => IK.ch j 4) 5 ∗ startR c arg3 arg13 arg10 arg19 arg20 1 IV.x (fun j => IV.ch j 4) 4) -∗ wp frame (wpE (defs₀ (F := F)) 𝒱₀ (c : Thread nD τ) none) Set.univ (kk ⟨⟩) Q) -∗ wp frame (wpE (defs₀ (F := F)) 𝒱₀ (c : Thread nD τ) none) Set.univ (k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part10_eq_skeleton]
  unfold k0_part10_skel
  iapply (begin_read c arg2 arg12 arg8 arg19 arg20 0 IK.x (fun j => IK.ch j 4) 3 (by decide) rfl (off2_eq 3 (by decide)) (off1_eq 3 (by decide))) $$ HK
  iintro HK
  iapply (begin_read c arg3 arg13 arg10 arg19 arg20 1 IV.x (fun j => IV.ch j 4) 3 (by decide) rfl (off2_eq 3 (by decide)) (off3_eq 3 (by decide))) $$ HV
  iintro HV
  iapply (begin_read c arg2 arg12 arg8 arg19 arg20 0 IK.x (fun j => IK.ch j 4) 4 (by decide) rfl (off2_eq 4 (by decide)) (off1_eq 4 (by decide))) $$ HK
  iintro HK
  iapply (ret_at c)
  iapply Hk
  isplitl [HK]; · iexact HK
  iexact HV

/-- Reads 5 to 6 and 4 to 5. -/
theorem part11 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 5 ∗ startR c arg3 arg13 arg10 arg19 arg20 1 IV.x (fun j => IV.ch j 4) 4)
      ⊢ iprop((iprop(startR c arg2 arg12 arg8 arg19 arg20 0 IK.x (fun j => IK.ch j 4) 7 ∗ startR c arg3 arg13 arg10 arg19 arg20 1 IV.x (fun j => IV.ch j 4) 6) -∗ wp frame (wpE (defs₀ (F := F)) 𝒱₀ (c : Thread nD τ) none) Set.univ (kk ⟨⟩) Q) -∗ wp frame (wpE (defs₀ (F := F)) 𝒱₀ (c : Thread nD τ) none) Set.univ (k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part11_eq_skeleton]
  unfold k0_part11_skel
  iapply (begin_read c arg3 arg13 arg10 arg19 arg20 1 IV.x (fun j => IV.ch j 4) 4 (by decide) rfl (off2_eq 4 (by decide)) (off3_eq 4 (by decide))) $$ HV
  iintro HV
  iapply (begin_read c arg2 arg12 arg8 arg19 arg20 0 IK.x (fun j => IK.ch j 4) 5 (by decide) rfl (off2_eq 5 (by decide)) (off1_eq 5 (by decide))) $$ HK
  iintro HK
  iapply (begin_read c arg3 arg13 arg10 arg19 arg20 1 IV.x (fun j => IV.ch j 4) 5 (by decide) rfl (off2_eq 5 (by decide)) (off3_eq 5 (by decide))) $$ HV
  iintro HV
  iapply (begin_read c arg2 arg12 arg8 arg19 arg20 0 IK.x (fun j => IK.ch j 4) 6 (by decide) rfl (off2_eq 6 (by decide)) (off1_eq 6 (by decide))) $$ HK
  iintro HK
  iapply (ret_at c)
  iapply Hk
  isplitl [HK]; · iexact HK
  iexact HV

/-- Reads 7 to 8 and 6 to 7. -/
theorem part12 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 7 ∗ startR c arg3 arg13 arg10 arg19 arg20 1 IV.x (fun j => IV.ch j 4) 6)
      ⊢ iprop((iprop(startR c arg2 arg12 arg8 arg19 arg20 0 IK.x (fun j => IK.ch j 4) 9 ∗ startR c arg3 arg13 arg10 arg19 arg20 1 IV.x (fun j => IV.ch j 4) 8) -∗ wp frame (wpE (defs₀ (F := F)) 𝒱₀ (c : Thread nD τ) none) Set.univ (kk ⟨⟩) Q) -∗ wp frame (wpE (defs₀ (F := F)) 𝒱₀ (c : Thread nD τ) none) Set.univ (k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part12_eq_skeleton]
  unfold k0_part12_skel
  iapply (begin_read c arg3 arg13 arg10 arg19 arg20 1 IV.x (fun j => IV.ch j 4) 6 (by decide) rfl (off2_eq 6 (by decide)) (off3_eq 6 (by decide))) $$ HV
  iintro HV
  iapply (begin_read c arg2 arg12 arg8 arg19 arg20 0 IK.x (fun j => IK.ch j 4) 7 (by decide) rfl (off2_eq 7 (by decide)) (off1_eq 7 (by decide))) $$ HK
  iintro HK
  iapply (begin_read c arg3 arg13 arg10 arg19 arg20 1 IV.x (fun j => IV.ch j 4) 7 (by decide) rfl (off2_eq 7 (by decide)) (off3_eq 7 (by decide))) $$ HV
  iintro HV
  iapply (begin_read c arg2 arg12 arg8 arg19 arg20 0 IK.x (fun j => IK.ch j 4) 8 (by decide) rfl (off2_eq 8 (by decide)) (off1_eq 8 (by decide))) $$ HK
  iintro HK
  iapply (ret_at c)
  iapply Hk
  isplitl [HK]; · iexact HK
  iexact HV

/-- Reads 9 to 9 and 8 to 9. -/
theorem part13 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 9 ∗ startR c arg3 arg13 arg10 arg19 arg20 1 IV.x (fun j => IV.ch j 4) 8)
      ⊢ iprop((iprop(startR c arg2 arg12 arg8 arg19 arg20 0 IK.x (fun j => IK.ch j 4) 10 ∗ startR c arg3 arg13 arg10 arg19 arg20 1 IV.x (fun j => IV.ch j 4) 10) -∗ wp frame (wpE (defs₀ (F := F)) 𝒱₀ (c : Thread nD τ) none) Set.univ (kk ⟨⟩) Q) -∗ wp frame (wpE (defs₀ (F := F)) 𝒱₀ (c : Thread nD τ) none) Set.univ (k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part13_eq_skeleton]
  unfold k0_part13_skel
  iapply (begin_read c arg3 arg13 arg10 arg19 arg20 1 IV.x (fun j => IV.ch j 4) 8 (by decide) rfl (off2_eq 8 (by decide)) (off3_eq 8 (by decide))) $$ HV
  iintro HV
  iapply (begin_read c arg2 arg12 arg8 arg19 arg20 0 IK.x (fun j => IK.ch j 4) 9 (by decide) rfl (off2_eq 9 (by decide)) (off1_eq 9 (by decide))) $$ HK
  iintro HK
  iapply (begin_read c arg3 arg13 arg10 arg19 arg20 1 IV.x (fun j => IV.ch j 4) 9 (by decide) rfl (off2_eq 9 (by decide)) (off3_eq 9 (by decide))) $$ HV
  iintro HV
  iapply (ret_at c)
  iapply Hk
  isplitl [HK]; · iexact HK
  iexact HV

/-- Reads 10 to 11 and 10 to 11. -/
theorem part14 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 10 ∗ startR c arg3 arg13 arg10 arg19 arg20 1 IV.x (fun j => IV.ch j 4) 10)
      ⊢ iprop((iprop(startR c arg2 arg12 arg8 arg19 arg20 0 IK.x (fun j => IK.ch j 4) 12 ∗ startR c arg3 arg13 arg10 arg19 arg20 1 IV.x (fun j => IV.ch j 4) 12) -∗ wp frame (wpE (defs₀ (F := F)) 𝒱₀ (c : Thread nD τ) none) Set.univ (kk ⟨⟩) Q) -∗ wp frame (wpE (defs₀ (F := F)) 𝒱₀ (c : Thread nD τ) none) Set.univ (k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part14_eq_skeleton]
  unfold k0_part14_skel
  iapply (begin_read c arg2 arg12 arg8 arg19 arg20 0 IK.x (fun j => IK.ch j 4) 10 (by decide) rfl (off2_eq 10 (by decide)) (off1_eq 10 (by decide))) $$ HK
  iintro HK
  iapply (begin_read c arg3 arg13 arg10 arg19 arg20 1 IV.x (fun j => IV.ch j 4) 10 (by decide) rfl (off2_eq 10 (by decide)) (off3_eq 10 (by decide))) $$ HV
  iintro HV
  iapply (begin_read c arg2 arg12 arg8 arg19 arg20 0 IK.x (fun j => IK.ch j 4) 11 (by decide) rfl (off2_eq 11 (by decide)) (off1_eq 11 (by decide))) $$ HK
  iintro HK
  iapply (begin_read c arg3 arg13 arg10 arg19 arg20 1 IV.x (fun j => IV.ch j 4) 11 (by decide) rfl (off2_eq 11 (by decide)) (off3_eq 11 (by decide))) $$ HV
  iintro HV
  iapply (ret_at c)
  iapply Hk
  isplitl [HK]; · iexact HK
  iexact HV

/-- Reads 12 to 13 and 12 to 13. -/
theorem part15 (IK IV : Inp F) {α : Type} {kk : (Σ' (_ : BitVec 32), BitVec 32) → Prog (TpuEff nD τ sig (Elt F) Λ₀ .tc) α} {Q : α → sProp 𝕄} :
    iprop(startR c arg2 arg12 arg8 arg19 arg20 0 IK.x (fun j => IK.ch j 4) 12 ∗ startR c arg3 arg13 arg10 arg19 arg20 1 IV.x (fun j => IV.ch j 4) 12)
      ⊢ iprop((iprop(startR c arg2 arg12 arg8 arg19 arg20 0 IK.x (fun j => IK.ch j 4) 14 ∗ startR c arg3 arg13 arg10 arg19 arg20 1 IV.x (fun j => IV.ch j 4) 14) -∗ wp frame (wpE (defs₀ (F := F)) 𝒱₀ (c : Thread nD τ) none) Set.univ (kk ⟨14#32, 24#32⟩) Q) -∗ wp frame (wpE (defs₀ (F := F)) 𝒱₀ (c : Thread nD τ) none) Set.univ (k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part15_eq_skeleton]
  unfold k0_part15_skel
  iapply (begin_read c arg2 arg12 arg8 arg19 arg20 0 IK.x (fun j => IK.ch j 4) 12 (by decide) rfl (off2_eq 12 (by decide)) (off1_eq 12 (by decide))) $$ HK
  iintro HK
  iapply (begin_read c arg3 arg13 arg10 arg19 arg20 1 IV.x (fun j => IV.ch j 4) 12 (by decide) rfl (off2_eq 12 (by decide)) (off3_eq 12 (by decide))) $$ HV
  iintro HV
  iapply (begin_read c arg2 arg12 arg8 arg19 arg20 0 IK.x (fun j => IK.ch j 4) 13 (by decide) rfl (off2_eq 13 (by decide)) (off1_eq 13 (by decide))) $$ HK
  iintro HK
  iapply (begin_read c arg3 arg13 arg10 arg19 arg20 1 IV.x (fun j => IV.ch j 4) 13 (by decide) rfl (off2_eq 13 (by decide)) (off3_eq 13 (by decide))) $$ HV
  iintro HV
  iapply (ret_at c)
  iapply Hk
  isplitl [HK]; · iexact HK
  iexact HV

/-- Reads 14 to 15 and 14 to 14. -/
theorem part16 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 14 ∗ startR c arg3 arg13 arg10 arg19 arg20 1 IV.x (fun j => IV.ch j 4) 14)
      ⊢ iprop((iprop(startR c arg2 arg12 arg8 arg19 arg20 0 IK.x (fun j => IK.ch j 4) 16 ∗ startR c arg3 arg13 arg10 arg19 arg20 1 IV.x (fun j => IV.ch j 4) 15) -∗ wp frame (wpE (defs₀ (F := F)) 𝒱₀ (c : Thread nD τ) none) Set.univ (kk ⟨⟩) Q) -∗ wp frame (wpE (defs₀ (F := F)) 𝒱₀ (c : Thread nD τ) none) Set.univ (k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 14#32 24#32 >>= kk) Q) := by
  iintro ⟨HK, HV⟩ Hk
  rw [wp_bind, k0_part16_eq_skeleton]
  unfold k0_part16_skel
  iapply (begin_read c arg2 arg12 arg8 arg19 arg20 0 IK.x (fun j => IK.ch j 4) 14 (by decide) rfl (off2_eq 14 (by decide)) (off1_eq 14 (by decide))) $$ HK
  iintro HK
  iapply (begin_read c arg3 arg13 arg10 arg19 arg20 1 IV.x (fun j => IV.ch j 4) 14 (by decide) rfl (off2_eq 14 (by decide)) (off3_eq 14 (by decide))) $$ HV
  iintro HV
  iapply (begin_read c arg2 arg12 arg8 arg19 arg20 0 IK.x (fun j => IK.ch j 4) 15 (by decide) rfl (off2_eq 15 (by decide)) (off1_eq 15 (by decide))) $$ HK
  iintro HK
  iapply (ret_at c)
  iapply Hk
  isplitl [HK]; · iexact HK
  iexact HV

/-- Reads 16 to 17 and 15 to 16. -/
theorem part17 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 16 ∗ startR c arg3 arg13 arg10 arg19 arg20 1 IV.x (fun j => IV.ch j 4) 15)
      ⊢ iprop((iprop(startR c arg2 arg12 arg8 arg19 arg20 0 IK.x (fun j => IK.ch j 4) 18 ∗ startR c arg3 arg13 arg10 arg19 arg20 1 IV.x (fun j => IV.ch j 4) 17) -∗ wp frame (wpE (defs₀ (F := F)) 𝒱₀ (c : Thread nD τ) none) Set.univ (kk ⟨⟩) Q) -∗ wp frame (wpE (defs₀ (F := F)) 𝒱₀ (c : Thread nD τ) none) Set.univ (k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part17_eq_skeleton]
  unfold k0_part17_skel
  iapply (begin_read c arg3 arg13 arg10 arg19 arg20 1 IV.x (fun j => IV.ch j 4) 15 (by decide) rfl (off2_eq 15 (by decide)) (off3_eq 15 (by decide))) $$ HV
  iintro HV
  iapply (begin_read c arg2 arg12 arg8 arg19 arg20 0 IK.x (fun j => IK.ch j 4) 16 (by decide) rfl (off2_eq 16 (by decide)) (off1_eq 16 (by decide))) $$ HK
  iintro HK
  iapply (begin_read c arg3 arg13 arg10 arg19 arg20 1 IV.x (fun j => IV.ch j 4) 16 (by decide) rfl (off2_eq 16 (by decide)) (off3_eq 16 (by decide))) $$ HV
  iintro HV
  iapply (begin_read c arg2 arg12 arg8 arg19 arg20 0 IK.x (fun j => IK.ch j 4) 17 (by decide) rfl (off2_eq 17 (by decide)) (off1_eq 17 (by decide))) $$ HK
  iintro HK
  iapply (ret_at c)
  iapply Hk
  isplitl [HK]; · iexact HK
  iexact HV

/-- Reads 18 to 18 and 17 to 18. -/
theorem part18 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 18 ∗ startR c arg3 arg13 arg10 arg19 arg20 1 IV.x (fun j => IV.ch j 4) 17)
      ⊢ iprop((iprop(startR c arg2 arg12 arg8 arg19 arg20 0 IK.x (fun j => IK.ch j 4) 19 ∗ startR c arg3 arg13 arg10 arg19 arg20 1 IV.x (fun j => IV.ch j 4) 19) -∗ wp frame (wpE (defs₀ (F := F)) 𝒱₀ (c : Thread nD τ) none) Set.univ (kk ⟨⟩) Q) -∗ wp frame (wpE (defs₀ (F := F)) 𝒱₀ (c : Thread nD τ) none) Set.univ (k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part18_eq_skeleton]
  unfold k0_part18_skel
  iapply (begin_read c arg3 arg13 arg10 arg19 arg20 1 IV.x (fun j => IV.ch j 4) 17 (by decide) rfl (off2_eq 17 (by decide)) (off3_eq 17 (by decide))) $$ HV
  iintro HV
  iapply (begin_read c arg2 arg12 arg8 arg19 arg20 0 IK.x (fun j => IK.ch j 4) 18 (by decide) rfl (off2_eq 18 (by decide)) (off1_eq 18 (by decide))) $$ HK
  iintro HK
  iapply (begin_read c arg3 arg13 arg10 arg19 arg20 1 IV.x (fun j => IV.ch j 4) 18 (by decide) rfl (off2_eq 18 (by decide)) (off3_eq 18 (by decide))) $$ HV
  iintro HV
  iapply (ret_at c)
  iapply Hk
  isplitl [HK]; · iexact HK
  iexact HV

/-- Reads 19 to 20 and 19 to 20. -/
theorem part19 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 19 ∗ startR c arg3 arg13 arg10 arg19 arg20 1 IV.x (fun j => IV.ch j 4) 19)
      ⊢ iprop((iprop(startR c arg2 arg12 arg8 arg19 arg20 0 IK.x (fun j => IK.ch j 4) 21 ∗ startR c arg3 arg13 arg10 arg19 arg20 1 IV.x (fun j => IV.ch j 4) 21) -∗ wp frame (wpE (defs₀ (F := F)) 𝒱₀ (c : Thread nD τ) none) Set.univ (kk ⟨⟩) Q) -∗ wp frame (wpE (defs₀ (F := F)) 𝒱₀ (c : Thread nD τ) none) Set.univ (k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part19_eq_skeleton]
  unfold k0_part19_skel
  iapply (begin_read c arg2 arg12 arg8 arg19 arg20 0 IK.x (fun j => IK.ch j 4) 19 (by decide) rfl (off2_eq 19 (by decide)) (off1_eq 19 (by decide))) $$ HK
  iintro HK
  iapply (begin_read c arg3 arg13 arg10 arg19 arg20 1 IV.x (fun j => IV.ch j 4) 19 (by decide) rfl (off2_eq 19 (by decide)) (off3_eq 19 (by decide))) $$ HV
  iintro HV
  iapply (begin_read c arg2 arg12 arg8 arg19 arg20 0 IK.x (fun j => IK.ch j 4) 20 (by decide) rfl (off2_eq 20 (by decide)) (off1_eq 20 (by decide))) $$ HK
  iintro HK
  iapply (begin_read c arg3 arg13 arg10 arg19 arg20 1 IV.x (fun j => IV.ch j 4) 20 (by decide) rfl (off2_eq 20 (by decide)) (off3_eq 20 (by decide))) $$ HV
  iintro HV
  iapply (ret_at c)
  iapply Hk
  isplitl [HK]; · iexact HK
  iexact HV

/-- Reads 21 to 22 and 21 to 22. -/
theorem part20 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 21 ∗ startR c arg3 arg13 arg10 arg19 arg20 1 IV.x (fun j => IV.ch j 4) 21)
      ⊢ iprop((iprop(startR c arg2 arg12 arg8 arg19 arg20 0 IK.x (fun j => IK.ch j 4) 23 ∗ startR c arg3 arg13 arg10 arg19 arg20 1 IV.x (fun j => IV.ch j 4) 23) -∗ wp frame (wpE (defs₀ (F := F)) 𝒱₀ (c : Thread nD τ) none) Set.univ (kk ⟨⟩) Q) -∗ wp frame (wpE (defs₀ (F := F)) 𝒱₀ (c : Thread nD τ) none) Set.univ (k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part20_eq_skeleton]
  unfold k0_part20_skel
  iapply (begin_read c arg2 arg12 arg8 arg19 arg20 0 IK.x (fun j => IK.ch j 4) 21 (by decide) rfl (off2_eq 21 (by decide)) (off1_eq 21 (by decide))) $$ HK
  iintro HK
  iapply (begin_read c arg3 arg13 arg10 arg19 arg20 1 IV.x (fun j => IV.ch j 4) 21 (by decide) rfl (off2_eq 21 (by decide)) (off3_eq 21 (by decide))) $$ HV
  iintro HV
  iapply (begin_read c arg2 arg12 arg8 arg19 arg20 0 IK.x (fun j => IK.ch j 4) 22 (by decide) rfl (off2_eq 22 (by decide)) (off1_eq 22 (by decide))) $$ HK
  iintro HK
  iapply (begin_read c arg3 arg13 arg10 arg19 arg20 1 IV.x (fun j => IV.ch j 4) 22 (by decide) rfl (off2_eq 22 (by decide)) (off3_eq 22 (by decide))) $$ HV
  iintro HV
  iapply (ret_at c)
  iapply Hk
  isplitl [HK]; · iexact HK
  iexact HV

end Cert.Kernel.First

end
-- ==== Proof.Owner.lean ====
/- The table of owners, and the last writes. -/
module

public import proofs.«01_k».proof.Proof.Sweep

@[expose] public section

noncomputable section

namespace Cert.Kernel.Owner

open Cert.Kernel Cert.Kernel.Gen Cert.Kernel.Pieces Cert.Kernel.Words Cert.Kernel.Model Cert.Arith Cert.Kernel.Page Cert.Kernel.Pool Cert.Kernel.Sweep
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

/-- The table with its first `n` words cleared. -/
def clr (x : S1080.Idx → Elt F .i32) (n : ℕ) : S1080.Idx → Elt F .i32 := fun i => if (i 0).val < n then 4294967295#32 else x i
/-- The table after the first `n` sequences. -/
def tab (pg : ℕ → ℕ) (n : ℕ) : S1080.Idx → Elt F .i32 := fun i => ownW (ownAt pg n (i 0).val)

theorem clr_zero (x : S1080.Idx → Elt F .i32) : clr x 0 = x := by
  funext i
  exact if_neg (Nat.not_lt_zero _)
theorem clr_all (x : S1080.Idx → Elt F .i32) (pg : ℕ → ℕ) : clr x 1080 = tab (F := F) pg 0 := by
  funext i
  exact if_pos (i 0).isLt
theorem clr_succ (x : S1080.Idx → Elt F .i32) (n : ℕ) (hn : n < 1080) :
    Function.update (clr x n) (ix1 (⟨n, hn⟩ : Fin 1080)) (4294967295#32 : BitVec 32) = clr x (n + 1) := by
  funext i
  by_cases h : (i 0).val = n
  · have e : i = ix1 (⟨n, hn⟩ : Fin 1080) := by
      funext a
      fin_cases a
      exact Fin.ext h
    rw [e, Function.update_self]
    exact (if_pos (Nat.lt_succ_self n)).symm
  · rw [Function.update_of_ne (by rintro rfl; exact h rfl)]
    unfold clr
    by_cases h' : (i 0).val < n
    · rw [if_pos h', if_pos (by omega)]
    · rw [if_neg h', if_neg (by omega)]
theorem tab_succ (pg : ℕ → ℕ) (n : ℕ) (hp : pg n < 1080) :
    Function.update (tab (F := F) pg n) (ix1 (⟨pg n, hp⟩ : Fin 1080)) (w n : BitVec 32) = tab pg (n + 1) := by
  funext i
  by_cases h : (i 0).val = pg n
  · have e : i = ix1 (⟨pg n, hp⟩ : Fin 1080) := by
      funext a
      fin_cases a
      exact Fin.ext h
    rw [e, Function.update_self]
    show w n = ownW (if pg n = pg n then some n else ownAt pg n (pg n))
    rw [if_pos rfl]
    rfl
  · rw [Function.update_of_ne (by rintro rfl; exact h rfl)]
    show _ = ownW (if pg n = (i 0).val then some n else ownAt pg n (i 0).val)
    rw [if_neg (fun e => h e.symm)]
    rfl

/-- One word cleared. -/
theorem clear_step (x : S1080.Idx → Elt F .i32) (k : Fin k0_t1_loop.trips) (acc : Unit) :
    holds (c : Thread nD τ) arg18 (clr x k.val)
      ⊢ wp frame (wpE (defs₀ (F := F)) 𝒱₀ (c : Thread nD τ) none) Set.univ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k acc) (fun _ => holds (c : Thread nD τ) arg18 (clr x (k.val + 1))) := by
  have hk := lt1 k
  have ho : ∀ a, k0_off4 k a = (ix1 (⟨k.val, hk⟩ : Fin 1080) a).val := by rw [off4_eq k]; intro a; fin_cases a; rfl
  unfold k0_t1_body
  iintro H
  iapply (load_word c (clr x k.val) (ix1 (⟨k.val, hk⟩ : Fin 1080)) ho) $$ H
  iintro H
  iapply (store_word c (clr x k.val) (ix1 (⟨k.val, hk⟩ : Fin 1080)) ho (fun a => by fin_cases a; rfl) (4294967295#32 : BitVec 32)) $$ H
  iintro H
  rw [clr_succ x k.val hk]
  iapply (ret_at c)
  iexact H

/-- The table is cleared. -/
theorem clear (x : S1080.Idx → Elt F .i32) {hok : k0_t1_loop.OK}
    {β : Type} {kk : Unit → Prog (TpuEff nD τ sig (Elt F) Λ₀ .tc) β} {Q : β → sProp 𝕄} :
    holds (c : Thread nD τ) arg18 (clr x 0)
      ⊢ iprop((holds (c : Thread nD τ) arg18 (clr x 1080) -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t1_loop hok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22) >>= kk) Q) := by
  have h := Scf.wp_for_bind (M := 𝕄) frame (wpE (defs₀ (F := F)) 𝒱₀ (c : Thread nD τ) none) Set.univ k0_t1_loop.lb k0_t1_loop.ub k0_t1_loop.st hok ()
    (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22)
    (fun t _ => holds (c : Thread nD τ) arg18 (clr x t))
    (fun t acc => clear_step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c x t acc) (kk := kk) (Q := Q)
  refine h.trans ?_
  rw [show Scf.trips k0_t1_loop.lb k0_t1_loop.ub k0_t1_loop.st = 1080 from t1_trips]
  iintro H Hk
  iapply H
  iintro %acc H
  iapply Hk
  iexact H

set_option cleanup.letToHave false in
set_option maxHeartbeats 400000 in
/-- One sequence's page gets its owner. -/
theorem own_step (I : Inp F) (pt : S18x48.Idx → Elt F .i32) (hpt : ∀ b : Fin 48, pt (ix2 (⟨I.len b / 256, by have := I.hlen b; omega⟩ : Fin 18) b) = w (I.pg b)) (k : Fin k0_t2_loop.trips) (acc : Unit) :
    iprop(holds (c : Thread nD τ) arg18 (tab I.pg k.val) ∗ holds (c : Thread nD τ) arg1 (lenArr I) ∗ holds (c : Thread nD τ) arg0 pt)
      ⊢ wp frame (wpE (defs₀ (F := F)) 𝒱₀ (c : Thread nD τ) none) Set.univ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k acc) (fun _ => iprop(holds (c : Thread nD τ) arg18 (tab I.pg (k.val + 1)) ∗ holds (c : Thread nD τ) arg1 (lenArr I) ∗ holds (c : Thread nD τ) arg0 pt)) := by
  have hk := lt2 k
  have hl := I.hlen k.val
  have hp := I.hpg k.val
  have h5 : ∀ a, k0_off5 k a = (ix1 (⟨k.val, hk⟩ : Fin 48) a).val := by rw [off5_eq k]; intro a; fin_cases a; rfl
  have h6 : ∀ a, k0_off6 k (w (I.len k.val)) a = (ix2 (⟨I.len k.val / 256, by omega⟩ : Fin 18) (⟨k.val, hk⟩ : Fin 48) a).val := by rw [off6_eq k _ hl]; intro a; fin_cases a <;> rfl
  have h7 : ∀ a, k0_off7 (w (I.pg k.val)) a = (ix1 (⟨I.pg k.val, hp⟩ : Fin 1080) a).val := by rw [off7_eq _ hp]; intro a; fin_cases a; rfl
  unfold k0_t2_body
  iintro ⟨Ho, Hl, Hp⟩
  iapply (load_word c (lenArr I) (ix1 (⟨k.val, hk⟩ : Fin 48)) h5) $$ Hl
  iintro Hl
  rw [show lenArr (F := F) I (ix1 (⟨k.val, hk⟩ : Fin 48)) = w (I.len k.val) from rfl]
  iapply (assume_at c (chk1_of k _ hl))
  iapply (load_word c pt (ix2 (⟨I.len k.val / 256, by omega⟩ : Fin 18) (⟨k.val, hk⟩ : Fin 48)) h6) $$ Hp
  iintro Hp
  rw [show pt (ix2 (⟨I.len k.val / 256, by omega⟩ : Fin 18) (⟨k.val, hk⟩ : Fin 48)) = w (I.pg k.val) from hpt ⟨k.val, hk⟩]
  iapply (assume_at c (chk2_of _ hp))
  iapply (load_word c (tab I.pg k.val) (ix1 (⟨I.pg k.val, hp⟩ : Fin 1080)) h7) $$ Ho
  iintro Ho
  iapply (store_word c (tab I.pg k.val) (ix1 (⟨I.pg k.val, hp⟩ : Fin 1080)) h7 (fun a => by fin_cases a; rfl) (Scalar.addi 0#32 (Scalar.muli (Scf.iv 0#32 1#32 k) 1#32) : BitVec 32)) $$ [Ho]
  · iexact Ho
  iintro Ho
  rw [show (Scalar.addi 0#32 (Scalar.muli (Scf.iv 0#32 1#32 k.val) 1#32) : BitVec 32) = w k.val by rw [muli_one, addi_zero]; exact (iv_w 0 k.val).trans (by rw [Nat.zero_add])]
  rw [tab_succ I.pg k.val hp]
  iapply (ret_at c)
  isplitl [Ho]; · iexact Ho
  isplitl [Hl]; · iexact Hl
  iexact Hp

/-- The table is filled in. -/
theorem owners (I : Inp F) (pt : S18x48.Idx → Elt F .i32) (hpt : ∀ b : Fin 48, pt (ix2 (⟨I.len b / 256, by have := I.hlen b; omega⟩ : Fin 18) b) = w (I.pg b)) {hok : k0_t2_loop.OK}
    {β : Type} {kk : Unit → Prog (TpuEff nD τ sig (Elt F) Λ₀ .tc) β} {Q : β → sProp 𝕄} :
    iprop(holds (c : Thread nD τ) arg18 (tab I.pg 0) ∗ holds (c : Thread nD τ) arg1 (lenArr I) ∗ holds (c : Thread nD τ) arg0 pt)
      ⊢ iprop((iprop(holds (c : Thread nD τ) arg18 (tab I.pg 48) ∗ holds (c : Thread nD τ) arg1 (lenArr I) ∗ holds (c : Thread nD τ) arg0 pt) -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t2_loop hok ⟨⟩ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22) >>= kk) Q) := by
  have h := Scf.wp_for_bind (M := 𝕄) frame (wpE (defs₀ (F := F)) 𝒱₀ (c : Thread nD τ) none) Set.univ k0_t2_loop.lb k0_t2_loop.ub k0_t2_loop.st hok ()
    (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22)
    (fun t _ => iprop(holds (c : Thread nD τ) arg18 (tab I.pg t) ∗ holds (c : Thread nD τ) arg1 (lenArr I) ∗ holds (c : Thread nD τ) arg0 pt))
    (fun t acc => own_step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c I pt hpt t acc) (kk := kk) (Q := Q)
  refine h.trans ?_
  rw [show Scf.trips k0_t2_loop.lb k0_t2_loop.ub k0_t2_loop.st = 48 from t2_trips]
  iintro H Hk
  iapply H
  iintro %acc H
  iapply Hk
  iexact H

/-- The pool when `t` of the last writes are over. -/
def drainR (P : PoolM) (R : RingM) (O : PoolM) (A B : DmaSems sig S2x24) (h : Fin 2) (X G : ℕ → Chunk F) (t : ℕ) : sProp 𝕄 :=
  iprop(bigSep (Finset.Ico 0 (262 + t)) (done c P O X G) ∗ bigSep (Finset.Ico (262 + t) 270) (wr c P R O A B h X G) ∗ bigSep (Finset.Ico 270 (286 + t)) (free c R A B h))

theorem drain_take (P : PoolM) (R : RingM) (O : PoolM) (A B : DmaSems sig S2x24) (h : Fin 2) (X G : ℕ → Chunk F) (t : ℕ) (ht : t < 8) :
    drainR c P R O A B h X G t ⊢ iprop(wr c P R O A B h X G (262 + t) ∗ bigSep (Finset.Ico 0 (262 + t)) (done c P O X G)
      ∗ bigSep (Finset.Ico (262 + t + 1) 270) (wr c P R O A B h X G) ∗ bigSep (Finset.Ico 270 (286 + t)) (free c R A B h)) := by
  unfold drainR
  rw [bigSep_Ico_succ_bot (show 262 + t < 270 by omega)]
  iintro ⟨H1, ⟨H2, H3⟩, H4⟩
  isplitl [H2]; · iexact H2
  isplitl [H1]; · iexact H1
  isplitl [H3]; · iexact H3
  iexact H4

theorem drain_put (P : PoolM) (R : RingM) (O : PoolM) (A B : DmaSems sig S2x24) (h : Fin 2) (X G : ℕ → Chunk F) (t : ℕ) :
    iprop(done c P O X G (262 + t) ∗ free c R A B h (262 + t + 24) ∗ bigSep (Finset.Ico 0 (262 + t)) (done c P O X G)
      ∗ bigSep (Finset.Ico (262 + t + 1) 270) (wr c P R O A B h X G) ∗ bigSep (Finset.Ico 270 (286 + t)) (free c R A B h)) ⊢ drainR c P R O A B h X G (t + 1) := by
  unfold drainR
  rw [show 262 + (t + 1) = 262 + t + 1 by omega, show 286 + (t + 1) = 286 + t + 1 by omega, show 262 + t + 24 = 286 + t by omega,
    bigSep_Ico_succ_top (show 0 ≤ 262 + t by omega), bigSep_Ico_succ_top (show 270 ≤ 286 + t by omega)]
  iintro ⟨Hd, Hf, H1, H3, H4⟩
  isplitl [Hd H1]
  · isplitl [Hd]; · iexact Hd
    iexact H1
  isplitl [H3]; · iexact H3
  isplitl [Hf]; · iexact Hf
  iexact H4

theorem drain_start (P : PoolM) (R : RingM) (O : PoolM) (A B : DmaSems sig S2x24) (h : Fin 2) (X G : ℕ → Chunk F) :
    poolR c P R O A B h X G 270 ⊢ drainR c P R O A B h X G 0 := by
  unfold poolR drainR
  rw [show min 270 (270 - 8 + 24) = 270 from rfl]
  iintro ⟨H1, H2, H3, H4, H5⟩
  iclear H3
  iclear H4
  isplitl [H1]; · iexact H1
  isplitl [H2]; · iexact H2
  iexact H5

/-- One chunk's last writes. -/
theorem drain_step (IK IV : Inp F) (k : Fin k0_t13_loop.trips) (acc : Unit) :
    iprop(drainR c arg2 arg12 arg8 arg19 arg20 0 IK.x (fun j => IK.ch j 4) k.val ∗ drainR c arg3 arg13 arg10 arg19 arg20 1 IV.x (fun j => IV.ch j 4) k.val ∗ ∃ W, owes (c : Thread nD τ) 0 W)
      ⊢ wp frame (wpE (defs₀ (F := F)) 𝒱₀ (c : Thread nD τ) none) Set.univ (k0_t13_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k acc) (fun _ => iprop(drainR c arg2 arg12 arg8 arg19 arg20 0 IK.x (fun j => IK.ch j 4) (k.val + 1) ∗ drainR c arg3 arg13 arg10 arg19 arg20 1 IV.x (fun j => IV.ch j 4) (k.val + 1) ∗ ∃ W, owes (c : Thread nD τ) 0 W)) := by
  have hk := lt13 k
  have hb : (![4 * (262 + k.val), 0, 0, 0] : Fin 4 → ℕ) = ![4 * ((262 + k.val) % 270), 0, 0, 0] := by rw [Nat.mod_eq_of_lt (show 262 + k.val < 270 by omega)]
  unfold k0_t13_body
  iintro ⟨HK, HV, ⟨%W0, Hw⟩⟩
  ihave HK := drain_take (t := k.val) (ht := hk) $$ HK
  ihave HV := drain_take (t := k.val) (ht := hk) $$ HV
  icases HK with ⟨HKw, HK⟩
  icases HV with ⟨HVw, HV⟩
  unfold wr
  icases HKw with ⟨HKw, HKp, HKa⟩
  icases HVw with ⟨HVw, HVp, HVa⟩
  iapply (await_write c 0 (262 + k.val) ((off52_eq k).trans hb) (off53_eq k) (off51_eq k) (IK.ch (262 + k.val) 4) W0) $$ [HKw Hw]
  · skip
    isplitl [HKw]; · iexact HKw
    iexact Hw
  iintro ⟨⟨HKo, HKs⟩, HKb, ⟨%W1, Hw⟩⟩
  iapply (await_write c 1 (262 + k.val) ((off52_eq k).trans hb) (off53_eq k) (off54_eq k) (IV.ch (262 + k.val) 4) W1) $$ [HVw Hw]
  · skip
    isplitl [HVw]; · iexact HVw
    iexact Hw
  iintro ⟨⟨HVo, HVs⟩, HVb, ⟨%W2, Hw⟩⟩
  iapply (ret_at c)
  isplitl [HKo HKp HKs HKa HKb HK]
  · iapply (drain_put (t := k.val))
    isplitl [HKo HKp]
    · unfold done
      isplitl [HKo]; · iexact HKo
      iexact HKp
    isplitl [HKs HKa HKb]
    · iapply (free_of (j := 262 + k.val))
      isplitl [HKs]; · iexact HKs
      isplitl [HKa]; · iexact HKa
      iexact HKb
    iexact HK
  isplitl [HVo HVp HVs HVa HVb HV]
  · iapply (drain_put (t := k.val))
    isplitl [HVo HVp]
    · unfold done
      isplitl [HVo]; · iexact HVo
      iexact HVp
    isplitl [HVs HVa HVb]
    · iapply (free_of (j := 262 + k.val))
      isplitl [HVs]; · iexact HVs
      isplitl [HVa]; · iexact HVa
      iexact HVb
    iexact HV
  iexists W2
  iexact Hw

/-- The last writes. -/
theorem drain (IK IV : Inp F) {hok : k0_t13_loop.OK}
    {β : Type} {kk : Unit → Prog (TpuEff nD τ sig (Elt F) Λ₀ .tc) β} {Q : β → sProp 𝕄} :
    iprop(drainR c arg2 arg12 arg8 arg19 arg20 0 IK.x (fun j => IK.ch j 4) 0 ∗ drainR c arg3 arg13 arg10 arg19 arg20 1 IV.x (fun j => IV.ch j 4) 0 ∗ ∃ W, owes (c : Thread nD τ) 0 W)
      ⊢ iprop((iprop(drainR c arg2 arg12 arg8 arg19 arg20 0 IK.x (fun j => IK.ch j 4) 8 ∗ drainR c arg3 arg13 arg10 arg19 arg20 1 IV.x (fun j => IV.ch j 4) 8 ∗ ∃ W, owes (c : Thread nD τ) 0 W) -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t13_loop hok ⟨⟩ (k0_t13_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22) >>= kk) Q) := by
  have h := Scf.wp_for_bind (M := 𝕄) frame (wpE (defs₀ (F := F)) 𝒱₀ (c : Thread nD τ) none) Set.univ k0_t13_loop.lb k0_t13_loop.ub k0_t13_loop.st hok ()
    (k0_t13_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22)
    (fun t _ => iprop(drainR c arg2 arg12 arg8 arg19 arg20 0 IK.x (fun j => IK.ch j 4) t ∗ drainR c arg3 arg13 arg10 arg19 arg20 1 IV.x (fun j => IV.ch j 4) t ∗ ∃ W, owes (c : Thread nD τ) 0 W))
    (fun t acc => drain_step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV t acc) (kk := kk) (Q := Q)
  refine h.trans ?_
  rw [show Scf.trips k0_t13_loop.lb k0_t13_loop.ub k0_t13_loop.st = 8 from t13_trips]
  iintro H Hk
  iapply H
  iintro %acc H
  iapply Hk
  iexact H

end Cert.Kernel.Owner

end
-- ==== Proof.Join.lean ====
/- A pool as its chunks, a ring as its slots. -/
module

public import proofs.«01_k».proof.Proof.First
public import proofs.«01_k».proof.Proof.Owner

@[expose] public section

noncomputable section

namespace Cert.Kernel.Join

open Cert.Kernel Cert.Kernel.Gen Cert.Kernel.Pieces Cert.Kernel.Words Cert.Kernel.Model Cert.Arith Cert.Kernel.Page Cert.Kernel.Pool Cert.Kernel.Sweep Cert.Kernel.Owner Cert.Kernel.First
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (c : Dev nD)

/-- Chunk `j` of a pool. -/
def sub (x : S1080x256x8x128.Idx → Elt F .i8) (j : ℕ) : Chunk F :=
  fun y => x (ix4 (⟨4 * (j % 270) + (y 0).val, by have h : (y 0).val < 4 := (y 0).isLt; have := Nat.mod_lt j (show 0 < 270 by decide); omega⟩ : Fin 1080) (y 1) (y 2) (y 3))
/-- The pool of the given chunks. -/
def glue (G : ℕ → Chunk F) : S1080x256x8x128.Idx → Elt F .i8 :=
  fun i => G ((i 0).val / 4) (ix4 (⟨(i 0).val % 4, Nat.mod_lt _ (by decide)⟩ : Fin 4) (i 1) (i 2) (i 3))
/-- Slot `j` of a ring. -/
def subR (x : S24x4x256x8x128.Idx → Elt F .i8) (j : ℕ) : Chunk F :=
  fun y => x (ix5 (⟨j % 24, Nat.mod_lt _ (by decide)⟩ : Fin 24) (y 0) (y 1) (y 2) (y 3))
/-- The ring of the given slots. -/
def glueR (G : ℕ → Chunk F) : S24x4x256x8x128.Idx → Elt F .i8 := fun i => G (i 0).val (ix4 (i 1) (i 2) (i 3) (i 4))

theorem sub_glue (G : ℕ → Chunk F) (j : ℕ) (hj : j < 270) : sub (glue G) j = G j := by
  funext y
  have h : (y 0).val < 4 := (y 0).isLt
  have hm := Nat.mod_eq_of_lt hj
  have e1 : (4 * (j % 270) + (y 0).val) / 4 = j := by omega
  have e2 : (4 * (j % 270) + (y 0).val) % 4 = (y 0).val := by omega
  show G ((4 * (j % 270) + (y 0).val) / 4) (ix4 (⟨(4 * (j % 270) + (y 0).val) % 4, Nat.mod_lt _ (by decide)⟩ : Fin 4) (y 1) (y 2) (y 3)) = G j y
  rw [e1]
  congr 1
  funext a
  fin_cases a
  · exact Fin.ext e2
  · rfl
  · rfl
  · rfl
theorem subR_glueR (G : ℕ → Chunk F) (j : ℕ) (hj : j < 24) : subR (glueR G) j = G j := by
  funext y
  show G (j % 24) (ix4 (y 0) (y 1) (y 2) (y 3)) = G j y
  rw [Nat.mod_eq_of_lt hj]
  exact congrArg (G j) (ix4_eta y).symm

/-- A chunk's element in the pool. -/
theorem blk_emb (P : PoolM) (j : ℕ) (y : S4x256x8x128.Idx) : (blk P j).view.emb y
    = P.view.emb (ix4 (⟨4 * (j % 270) + (y 0).val, by have h : (y 0).val < 4 := (y 0).isLt; have := Nat.mod_lt j (show 0 < 270 by decide); omega⟩ : Fin 1080) (y 1) (y 2) (y 3)) := by
  show P.view.emb ((Rect.unit (s := S1080x256x8x128) ![4 * (j % 270), 0, 0, 0] S4x256x8x128.size (blk_inb j)).emb y) = _
  congr 1
  funext a
  apply Fin.ext
  rw [Rect.emb_apply]
  fin_cases a <;> simp [Rect.unit]

theorem blk_set (P : PoolM) : (P.view.set : Finset _) = (Finset.Ico 0 270).biUnion fun j => (blk P j).view.set := by
  ext i
  constructor
  · intro hi
    obtain ⟨y, -, rfl⟩ := Finset.mem_map.mp hi
    have h0 : (y 0).val < 1080 := (y 0).isLt
    refine Finset.mem_biUnion.mpr ⟨(y 0).val / 4, Finset.mem_Ico.mpr ⟨Nat.zero_le _, by omega⟩, ?_⟩
    refine Finset.mem_map.mpr ⟨ix4 (⟨(y 0).val % 4, Nat.mod_lt _ (by decide)⟩ : Fin 4) (y 1) (y 2) (y 3), Finset.mem_univ _, ?_⟩
    refine (blk_emb P _ _).trans ?_
    congr 1
    funext a
    fin_cases a
    · apply Fin.ext
      show 4 * ((y 0).val / 4 % 270) + (y 0).val % 4 = (y 0).val
      omega
    · rfl
    · rfl
    · rfl
  · intro hi
    obtain ⟨j, -, hj⟩ := Finset.mem_biUnion.mp hi
    obtain ⟨y, -, rfl⟩ := Finset.mem_map.mp hj
    exact Finset.mem_map.mpr ⟨_, Finset.mem_univ _, (blk_emb P j y).symm⟩

theorem blk_disj (P : PoolM) (j j' : ℕ) (hj : j < 270) (hj' : j' < 270) (h : j ≠ j') : Disjoint (blk P j).view.set (blk P j').view.set := by
  refine Finset.disjoint_left.mpr fun i hi hi' => h ?_
  obtain ⟨y, -, rfl⟩ := Finset.mem_map.mp hi
  obtain ⟨y', -, e⟩ := Finset.mem_map.mp hi'
  have e' := P.view.emb.injective ((blk_emb P j' y').symm.trans (e.trans (blk_emb P j y)))
  have e0 := congrArg Fin.val (congrFun e' 0)
  have hy : (y 0).val < 4 := (y 0).isLt
  have hy' : (y' 0).val < 4 := (y' 0).isLt
  have e1 : 4 * (j' % 270) + (y' 0).val = 4 * (j % 270) + (y 0).val := e0
  omega

/-- A pool is its chunks. -/
theorem pool_blocks (P : PoolM) (x : S1080x256x8x128.Idx → Elt F .i8) :
    holds (c : Thread nD τ) P x = bigSep (Finset.Ico 0 270) fun j => holds (c : Thread nD τ) (blk P j) (sub x j) := by
  have h := pointsTo_biUnion (Ix := Unit) (Val := Elt F) (Name := ℕ) (U := UU nD τ) (Lvl := ℕ) (ℓ := P.view.loc (c : Thread nD τ)) (q := fullShare) (f := P.view.rep x) (Finset.Ico 0 270) (fun j => (blk P j).view.set)
    (fun j hj j' hj' hne => blk_disj P j j' (Finset.mem_Ico.mp hj).2 (Finset.mem_Ico.mp hj').2 hne)
  unfold holds
  rw [blk_set P]
  refine h.trans (bigSep_congr fun j hj => ?_)
  refine pointsTo_congr fun i hi => ?_
  obtain ⟨y, -, rfl⟩ := Finset.mem_map.mp hi
  refine (congrArg (P.view.rep x) (blk_emb P j y)).trans ?_
  refine Eq.trans ?_ (View.rep_emb (blk P j).view (sub x j) y).symm
  exact View.rep_emb P.view x _

/-! ## The ring -/

theorem slot_emb' (R : RingM) (j : ℕ) (y : S4x256x8x128.Idx) : (slot R j).view.emb y
    = R.view.emb (ix5 (⟨j % 24, Nat.mod_lt _ (by decide)⟩ : Fin 24) (y 0) (y 1) (y 2) (y 3)) := by
  conv_lhs => rw [ix4_eta y]
  exact slot_emb R j _ _ _ _

theorem slot_set (R : RingM) : (R.view.set : Finset _) = (Finset.Ico 0 24).biUnion fun j => (slot R j).view.set := by
  ext i
  constructor
  · intro hi
    obtain ⟨y, -, rfl⟩ := Finset.mem_map.mp hi
    have h0 : (y 0).val < 24 := (y 0).isLt
    refine Finset.mem_biUnion.mpr ⟨(y 0).val, Finset.mem_Ico.mpr ⟨Nat.zero_le _, by omega⟩, ?_⟩
    refine Finset.mem_map.mpr ⟨ix4 (y 1) (y 2) (y 3) (y 4), Finset.mem_univ _, ?_⟩
    refine (slot_emb R _ _ _ _ _).trans ?_
    congr 1
    funext a
    fin_cases a
    · exact Fin.ext (Nat.mod_eq_of_lt h0)
    all_goals rfl
  · intro hi
    obtain ⟨j, -, hj⟩ := Finset.mem_biUnion.mp hi
    obtain ⟨y, -, rfl⟩ := Finset.mem_map.mp hj
    exact Finset.mem_map.mpr ⟨_, Finset.mem_univ _, (slot_emb' R j y).symm⟩

theorem slot_disj (R : RingM) (j j' : ℕ) (hj : j < 24) (hj' : j' < 24) (h : j ≠ j') : Disjoint (slot R j).view.set (slot R j').view.set := by
  refine Finset.disjoint_left.mpr fun i hi hi' => h ?_
  obtain ⟨y, -, rfl⟩ := Finset.mem_map.mp hi
  obtain ⟨y', -, e⟩ := Finset.mem_map.mp hi'
  have e' := R.view.emb.injective ((slot_emb' R j' y').symm.trans (e.trans (slot_emb' R j y)))
  have e0 := congrArg Fin.val (congrFun e' 0)
  have e1 : j' % 24 = j % 24 := e0
  omega

/-- A ring is its slots. -/
theorem ring_slots (R : RingM) (x : S24x4x256x8x128.Idx → Elt F .i8) :
    holds (c : Thread nD τ) R x = bigSep (Finset.Ico 0 24) fun j => holds (c : Thread nD τ) (slot R j) (subR x j) := by
  have h := pointsTo_biUnion (Ix := Unit) (Val := Elt F) (Name := ℕ) (U := UU nD τ) (Lvl := ℕ) (ℓ := R.view.loc (c : Thread nD τ)) (q := fullShare) (f := R.view.rep x) (Finset.Ico 0 24) (fun j => (slot R j).view.set)
    (fun j hj j' hj' hne => slot_disj R j j' (Finset.mem_Ico.mp hj).2 (Finset.mem_Ico.mp hj').2 hne)
  unfold holds
  rw [slot_set R]
  refine h.trans (bigSep_congr fun j hj => ?_)
  refine pointsTo_congr fun i hi => ?_
  obtain ⟨y, -, rfl⟩ := Finset.mem_map.mp hi
  refine (congrArg (R.view.rep x) (slot_emb' R j y)).trans ?_
  refine Eq.trans ?_ (View.rep_emb (slot R j).view (subR x j) y).symm
  exact View.rep_emb R.view x _

/-- Slots at any contents are the ring at some contents. -/
theorem ring_join (R : RingM) : bigSep (Finset.Ico 0 24) (fun j => iprop(∃ y, holds (c : Thread nD τ) (slot R j) y))
    ⊢ (iprop(∃ x, holds (c : Thread nD τ) R x) : sProp 𝕄) := by
  haveI : ∀ i : ℕ, Nonempty (Chunk F) := fun _ => ⟨fun _ => (0 : BitVec 8)⟩
  refine (Idealize.SL.BI.bigSep_exists_pi (Y := fun _ : ℕ => Chunk F) (Finset.Ico 0 24) (fun j (y : Chunk F) => holds (c : Thread nD τ) (slot R j) y)).trans ?_
  iintro ⟨%y, H⟩
  iexists glueR y
  rw [ring_slots, bigSep_congr (Φ := fun j => holds (c : Thread nD τ) (slot R j) (subR (glueR y) j)) (Ψ := fun j => holds (c : Thread nD τ) (slot R j) (y j)) (fun j hj => by rw [subR_glueR y j (Finset.mem_Ico.mp hj).2])]
  iexact H

theorem holds_any {sp : Space} {s : Shape} {e : EltTy} (m : Memref sig .tc sp s e) (x : s.Idx → Elt F e) :
    holds (c : Thread nD τ) m x ⊢ (iprop(∃ y, holds (c : Thread nD τ) m y) : sProp 𝕄) := by
  iintro H
  iexists x
  iexact H
theorem pool_any (O : PoolM) (x : S1080x256x8x128.Idx → Elt F .i8) :
    holds (c : Thread nD τ) O x ⊢ (bigSep (Finset.Ico 0 270) (fun j => iprop(∃ y, holds (c : Thread nD τ) (blk O j) y)) : sProp 𝕄) := by
  rw [pool_blocks]
  exact bigSep_mono fun j _ => holds_any c (blk O j) (sub x j)
theorem ring_any (R : RingM) (x : S24x4x256x8x128.Idx → Elt F .i8) :
    holds (c : Thread nD τ) R x ⊢ (bigSep (Finset.Ico 0 24) (fun j => iprop(∃ y, holds (c : Thread nD τ) (slot R j) y)) : sProp 𝕄) := by
  rw [ring_slots]
  exact bigSep_mono fun j _ => holds_any c (slot R j) (subR x j)

theorem Ico_shift {M : Type _} [URA M] (A : ℕ → sProp M) (a n : ℕ) : bigSep (Finset.Ico a (a + n)) A = bigSep (Finset.Ico 0 n) (fun j => A (a + j)) := by
  induction n with
  | zero => rw [Nat.add_zero, Finset.Ico_self, Finset.Ico_self, bigSep_empty, bigSep_empty]
  | succ n ih => rw [← Nat.add_assoc, bigSep_Ico_succ_top (by omega), bigSep_Ico_succ_top (by omega), ih]
theorem Ico_split {M : Type _} [URA M] {a b d : ℕ} (hab : a ≤ b) (hbc : b ≤ d) (A : ℕ → sProp M) :
    bigSep (Finset.Ico a d) A = iprop(bigSep (Finset.Ico a b) A ∗ bigSep (Finset.Ico b d) A) := by
  rw [← Finset.Ico_union_Ico_eq_Ico hab hbc, bigSep_union (Finset.Ico_disjoint_Ico_consecutive a b d)]
  rfl
theorem Ico_period {M : Type _} [URA M] {B : ℕ} {A : ℕ → sProp M} (h : ∀ k, A (k + B) = A k) (n : ℕ) :
    bigSep (Finset.Ico n (n + B)) A = bigSep (Finset.Ico 0 B) A := by
  induction n with
  | zero => rw [Nat.zero_add]
  | succ n ih =>
    rw [← ih]
    rcases Nat.eq_zero_or_pos B with hB | hB
    · simp only [hB, Nat.add_zero, Finset.Ico_self]
    · rw [bigSep_Ico_succ_bot (show n < n + B by omega), show n + 1 + B = n + B + 1 by omega,
        bigSep_Ico_succ_top (show n + 1 ≤ n + B by omega), h]

section pools

variable (P : PoolM) (R : RingM) (O : PoolM) (A B : DmaSems sig S2x24) (h : Fin 2)

/-- The semaphores of one row. -/
def row (A : DmaSems sig S2x24) (h : Fin 2) : sProp 𝕄 := bigSep (Finset.Ico 0 24) fun j => semVal ((c : Thread nD τ), cell A h j) 0

theorem free_eq (n : ℕ) : bigSep (Finset.Ico 0 n) (free (F := F) c R A B h)
    = iprop(bigSep (Finset.Ico 0 n) (fun j => iprop(∃ y, holds (c : Thread nD τ) (slot R j) y)) ∗ bigSep (Finset.Ico 0 n) (fun j => semVal ((c : Thread nD τ), cell A h j) 0)
      ∗ bigSep (Finset.Ico 0 n) (fun j => semVal ((c : Thread nD τ), cell B h j) 0)) := by
  rw [← bigSep_sep', ← bigSep_sep']
  rfl

/-- A pool before its first read. -/
theorem start_intro (x : S1080x256x8x128.Idx → Elt F .i8) (G : ℕ → Chunk F) :
    iprop(holds (c : Thread nD τ) P x ∗ (∃ y, holds (c : Thread nD τ) O y) ∗ (∃ z, holds (c : Thread nD τ) R z) ∗ row c A h ∗ row c B h)
      ⊢ startR c P R O A B h (sub x) G 0 := by
  unfold startR row
  rw [free_eq, Finset.Ico_self, bigSep_empty, bigSep_empty, bigSep_empty, pool_blocks]
  iintro ⟨Hp, ⟨%y, Ho⟩, ⟨%z, Hr⟩, Ha, Hb⟩
  isplitr; · iempintro
  isplitr; · iempintro
  isplitr; · iempintro
  isplitl [Hp Ho]
  · rw [show idle (F := F) c P O (sub x) = fun j => iprop(holds (c : Thread nD τ) (blk P j) (sub x j) ∗ ∃ y, holds (c : Thread nD τ) (blk O j) y) from rfl, bigSep_sep']
    isplitl [Hp]; · iexact Hp
    iapply (pool_any c O y) $$ Ho
  isplitl [Hr]
  · iapply (ring_any c R z) $$ Hr
  isplitl [Ha]; · iexact Ha
  iexact Hb

/-- A pool after its last write. -/
theorem drain_elim (x : S1080x256x8x128.Idx → Elt F .i8) (G : ℕ → Chunk F) :
    drainR c P R O A B h (sub x) G 8
      ⊢ iprop(holds (c : Thread nD τ) P x ∗ holds (c : Thread nD τ) O (glue G) ∗ (∃ z, holds (c : Thread nD τ) R z) ∗ row c A h ∗ row c B h) := by
  unfold drainR row
  rw [show 262 + 8 = 270 from rfl, show 286 + 8 = 270 + 24 from rfl, Finset.Ico_self, bigSep_empty,
    Ico_period (A := free (F := F) c R A B h) (fun k => by
      unfold free
      rw [slot_congr R (Nat.add_mod_right k 24), cell_congr A h (Nat.add_mod_right k 24), cell_congr B h (Nat.add_mod_right k 24)]) 270,
    free_eq, show done (F := F) c P O (sub x) G = fun j => iprop(holds (c : Thread nD τ) (blk O j) (G j) ∗ holds (c : Thread nD τ) (blk P j) (sub x j)) from rfl, bigSep_sep',
    pool_blocks c P x, pool_blocks c O (glue G), bigSep_congr (Φ := fun j => holds (c : Thread nD τ) (blk O j) (sub (glue G) j)) (Ψ := fun j => holds (c : Thread nD τ) (blk O j) (G j)) (fun j hj => by rw [sub_glue G j (Finset.mem_Ico.mp hj).2])]
  iintro ⟨⟨Ho, Hp⟩, -, Hs, Ha, Hb⟩
  isplitl [Hp]; · iexact Hp
  isplitl [Ho]; · iexact Ho
  isplitl [Hs]
  · iapply (ring_join c R) $$ Hs
  isplitl [Ha]; · iexact Ha
  iexact Hb

end pools

end Cert.Kernel.Join

end
-- ==== Proof.Whole.lean ====
/- The whole kernel. -/
module

public import proofs.«01_k».proof.Proof.Owner
public import proofs.«01_k».proof.Proof.First

@[expose] public section

noncomputable section

namespace Cert.Kernel.Whole

open Cert.Kernel Cert.Kernel.Gen Cert.Kernel.Pieces Cert.Kernel.Words Cert.Kernel.Model Cert.Arith Cert.Kernel.Page Cert.Kernel.Pool Cert.Kernel.Sweep Cert.Kernel.Owner Cert.Kernel.First
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

/-- Before the kernel. -/
def preR (IK IV : Inp F) (pt : S18x48.Idx → Elt F .i32) : sProp 𝕄 :=
  iprop(startR c arg2 arg12 arg8 arg19 arg20 0 IK.x (fun j => IK.ch j 4) 0 ∗ startR c arg3 arg13 arg10 arg19 arg20 1 IV.x (fun j => IV.ch j 4) 0 ∗ holds (c : Thread nD τ) arg0 (pt) ∗ holds (c : Thread nD τ) arg1 (lenArr IK) ∗ holds (c : Thread nD τ) arg4 (IK.s) ∗ holds (c : Thread nD τ) arg5 (IV.s) ∗ holds (c : Thread nD τ) arg6 (IK.t) ∗ holds (c : Thread nD τ) arg7 (IV.t) ∗ (∃ x, holds (c : Thread nD τ) arg14 x) ∗ (∃ x, holds (c : Thread nD τ) arg15 x) ∗ (∃ x, holds (c : Thread nD τ) arg16 x) ∗ (∃ x, holds (c : Thread nD τ) arg17 x) ∗ (∃ x, holds (c : Thread nD τ) arg18 x) ∗ (∃ x, holds (c : Thread nD τ) arg9 x) ∗ (∃ x, holds (c : Thread nD τ) arg11 x) ∗ semVal ((c : Thread nD τ), .dma ((arg21.slice (Rect.unit (s := S4) ![0] S1.size inb_S4_S1_0)).squeeze S_ squeezes_S1_S_).sem) 0 ∗ semVal ((c : Thread nD τ), .dma ((arg21.slice (Rect.unit (s := S4) ![1] S1.size inb_S4_S1_1)).squeeze S_ squeezes_S1_S_).sem) 0 ∗ semVal ((c : Thread nD τ), .dma ((arg21.slice (Rect.unit (s := S4) ![2] S1.size inb_S4_S1_2)).squeeze S_ squeezes_S1_S_).sem) 0 ∗ semVal ((c : Thread nD τ), .dma ((arg21.slice (Rect.unit (s := S4) ![3] S1.size inb_S4_S1_3)).squeeze S_ squeezes_S1_S_).sem) 0 ∗ semVal ((c : Thread nD τ), .dma ((arg22.slice (Rect.unit (s := S2) ![0] S1.size inb_S2_S1_0)).squeeze S_ squeezes_S1_S_).sem) 0 ∗ semVal ((c : Thread nD τ), .dma ((arg22.slice (Rect.unit (s := S2) ![1] S1.size inb_S2_S1_1)).squeeze S_ squeezes_S1_S_).sem) 0 ∗ (∃ W, owes (c : Thread nD τ) 0 W))
/-- After the kernel. -/
def postR (IK IV : Inp F) (pt : S18x48.Idx → Elt F .i32) : sProp 𝕄 :=
  iprop(drainR c arg2 arg12 arg8 arg19 arg20 0 IK.x (fun j => IK.ch j 4) 8 ∗ drainR c arg3 arg13 arg10 arg19 arg20 1 IV.x (fun j => IV.ch j 4) 8 ∗ holds (c : Thread nD τ) arg0 (pt) ∗ holds (c : Thread nD τ) arg1 (lenArr IK) ∗ holds (c : Thread nD τ) arg4 (IK.s) ∗ holds (c : Thread nD τ) arg5 (IV.s) ∗ holds (c : Thread nD τ) arg6 (IK.t) ∗ holds (c : Thread nD τ) arg7 (IV.t) ∗ holds (c : Thread nD τ) arg14 (IK.sc 1080) ∗ holds (c : Thread nD τ) arg15 (IV.sc 1080) ∗ holds (c : Thread nD τ) arg16 (IK.t) ∗ holds (c : Thread nD τ) arg17 (IV.t) ∗ holds (c : Thread nD τ) arg18 (ownArr IK) ∗ holds (c : Thread nD τ) arg9 (IK.sc 1080) ∗ holds (c : Thread nD τ) arg11 (IV.sc 1080) ∗ semVal ((c : Thread nD τ), .dma ((arg21.slice (Rect.unit (s := S4) ![0] S1.size inb_S4_S1_0)).squeeze S_ squeezes_S1_S_).sem) 0 ∗ semVal ((c : Thread nD τ), .dma ((arg21.slice (Rect.unit (s := S4) ![1] S1.size inb_S4_S1_1)).squeeze S_ squeezes_S1_S_).sem) 0 ∗ semVal ((c : Thread nD τ), .dma ((arg21.slice (Rect.unit (s := S4) ![2] S1.size inb_S4_S1_2)).squeeze S_ squeezes_S1_S_).sem) 0 ∗ semVal ((c : Thread nD τ), .dma ((arg21.slice (Rect.unit (s := S4) ![3] S1.size inb_S4_S1_3)).squeeze S_ squeezes_S1_S_).sem) 0 ∗ semVal ((c : Thread nD τ), .dma ((arg22.slice (Rect.unit (s := S2) ![0] S1.size inb_S2_S1_0)).squeeze S_ squeezes_S1_S_).sem) 0 ∗ semVal ((c : Thread nD τ), .dma ((arg22.slice (Rect.unit (s := S2) ![1] S1.size inb_S2_S1_1)).squeeze S_ squeezes_S1_S_).sem) 0 ∗ (∃ W, owes (c : Thread nD τ) 0 W))

/-- The whole array of tokens moves some bytes. -/
theorem amount_tok {sp : Space} (m : Memref sig .tc sp S48x8x128 .bf16) (s : DmaSem sig) : 0 < m.view.amount (.dma s) := View.dmaCredit_pos _ (by decide +kernel)
/-- The whole array of scales moves some bytes. -/
theorem amount_sc {sp : Space} (m : Memref sig .tc sp S8x1080 .f32) (s : DmaSem sig) : 0 < m.view.amount (.dma s) := View.dmaCredit_pos _ (by decide +kernel)

set_option cleanup.letToHave false in
set_option maxHeartbeats 1000000 in
/-- The kernel run to its end. -/
theorem whole (IK IV : Inp F) (hlen : IV.len = IK.len) (hpg : IV.pg = IK.pg) (pt : S18x48.Idx → Elt F .i32) (hpt : ∀ b : Fin 48, pt (ix2 (⟨IK.len b / 256, by have := IK.hlen b; omega⟩ : Fin 18) b) = w (IK.pg b)) :
    preR arg0 arg1 arg2 arg3 arg4 arg5 arg6 arg7 arg8 arg9 arg10 arg11 arg12 arg13 arg14 arg15 arg16 arg17 arg18 arg19 arg20 arg21 arg22 c IK IV pt ⊢ wp frame (wpE (defs₀ (F := F)) 𝒱₀ (c : Thread nD τ) none) Set.univ (cc0_paged_int8_kv_append_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22) (fun _ => postR arg0 arg1 arg2 arg3 arg4 arg5 arg6 arg7 arg8 arg9 arg10 arg11 arg12 arg13 arg14 arg15 arg16 arg17 arg18 arg19 arg20 arg21 arg22 c IK IV pt) := by
  unfold preR cc0_paged_int8_kv_append_skel
  iintro ⟨HK, HV, H0, H1, H4, H5, H6, H7, ⟨%x14, H14⟩, ⟨%x15, H15⟩, ⟨%x16, H16⟩, ⟨%x17, H17⟩, ⟨%x18, H18⟩, ⟨%x9, H9⟩, ⟨%x11, H11⟩, HS0, HS1, HS2, HS3, HT0, HT1, ⟨%W0, Hw⟩⟩
  rw [wp_bind, k0_part8_eq_skeleton]
  unfold k0_part8_skel
  iapply (issue c (amount_sc _ _) (IK.s) (x14)) $$ [H4 H14 HS0]
  · isplitl [H4]; · iexact H4
    isplitl [H14]; · iexact H14
    iexact HS0
  iintro HF0
  iapply (issue c (amount_sc _ _) (IV.s) (x15)) $$ [H5 H15 HS1]
  · isplitl [H5]; · iexact H5
    isplitl [H15]; · iexact H15
    iexact HS1
  iintro HF1
  iapply (issue c (amount_tok _ _) (IK.t) (x16)) $$ [H6 H16 HS2]
  · isplitl [H6]; · iexact H6
    isplitl [H16]; · iexact H16
    iexact HS2
  iintro HF2
  iapply (issue c (amount_tok _ _) (IV.t) (x17)) $$ [H7 H17 HS3]
  · isplitl [H7]; · iexact H7
    isplitl [H17]; · iexact H17
    iexact HS3
  iintro HF3
  iapply (begin_read c arg2 arg12 arg8 arg19 arg20 0 IK.x (fun j => IK.ch j 4) 0 (by decide) rfl (off2_eq 0 (by decide)) (off1_eq 0 (by decide))) $$ HK
  iintro HK
  iapply (begin_read c arg3 arg13 arg10 arg19 arg20 1 IV.x (fun j => IV.ch j 4) 0 (by decide) rfl (off2_eq 0 (by decide)) (off3_eq 0 (by decide))) $$ HV
  iintro HV
  iapply (ret_at c)
  iapply (part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  rw [wp_bind, k0_part21_eq_skeleton]
  unfold k0_part21_skel
  iapply (begin_read c arg2 arg12 arg8 arg19 arg20 0 IK.x (fun j => IK.ch j 4) 23 (by decide) rfl (off2_eq 23 (by decide)) (off1_eq 23 (by decide))) $$ HK
  iintro HK
  iapply (begin_read c arg3 arg13 arg10 arg19 arg20 1 IV.x (fun j => IV.ch j 4) 23 (by decide) rfl (off2_eq 23 (by decide)) (off3_eq 23 (by decide))) $$ HV
  iintro HV
  rw [← clr_zero x18]
  iapply (clear arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c x18) $$ H18
  iintro H18
  rw [clr_all x18 IK.pg]
  iapply (owners arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK pt hpt) $$ [H18 H1 H0]
  · isplitl [H18]; · iexact H18
    isplitl [H1]; · iexact H1
    iexact H0
  iintro ⟨H18, H1, H0⟩
  iapply (await c (D := iprop(holds (c : Thread nD τ) arg14 (IK.s) ∗ holds (c : Thread nD τ) arg4 (IK.s))) (W := W0)) $$ [HF0 Hw]
  · isplitl [HF0]; · iexact HF0
    iexact Hw
  iintro ⟨⟨H14, H4⟩, HS0, ⟨%W1, Hw⟩⟩
  iapply (await c (D := iprop(holds (c : Thread nD τ) arg15 (IV.s) ∗ holds (c : Thread nD τ) arg5 (IV.s))) (W := W1)) $$ [HF1 Hw]
  · isplitl [HF1]; · iexact HF1
    iexact Hw
  iintro ⟨⟨H15, H5⟩, HS1, ⟨%W2, Hw⟩⟩
  iapply (await c (D := iprop(holds (c : Thread nD τ) arg16 (IK.t) ∗ holds (c : Thread nD τ) arg6 (IK.t))) (W := W2)) $$ [HF2 Hw]
  · isplitl [HF2]; · iexact HF2
    iexact Hw
  iintro ⟨⟨H16, H6⟩, HS2, ⟨%W3, Hw⟩⟩
  iapply (await c (D := iprop(holds (c : Thread nD τ) arg17 (IV.t) ∗ holds (c : Thread nD τ) arg7 (IV.t))) (W := W3)) $$ [HF3 Hw]
  · isplitl [HF3]; · iexact HF3
    iexact Hw
  iintro ⟨⟨H17, H7⟩, HS3, ⟨%W4, Hw⟩⟩
  iapply (ret_at c)
  ihave HK := start_all $$ HK
  ihave HV := start_all $$ HV
  iapply (sweep arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV hlen hpg) $$ [H18 H1 H16 H17 H14 H15 HK HV Hw]
  · unfold sweepR pageR
    isplitl [H18 H1 H16 H17 H14 H15]
    · isplitl [H18]; · iexact H18
      isplitl [H1]; · iexact H1
      isplitl [H16]; · iexact H16
      isplitl [H17]; · iexact H17
      isplitl [H14]; · iexact H14
      iexact H15
    isplitl [HK]; · iexact HK
    isplitl [HV]; · iexact HV
    iexists W4
    iexact Hw
  unfold sweepR pageR
  iintro ⟨⟨H18, H1, H16, H17, H14, H15⟩, HK, HV, ⟨%W5, Hw⟩⟩
  iapply (issue c (amount_sc _ _) (IK.sc 1080) (x9)) $$ [H14 H9 HT0]
  · isplitl [H14]; · iexact H14
    isplitl [H9]; · iexact H9
    iexact HT0
  iintro HF0
  iapply (issue c (amount_sc _ _) (IV.sc 1080) (x11)) $$ [H15 H11 HT1]
  · isplitl [H15]; · iexact H15
    isplitl [H11]; · iexact H11
    iexact HT1
  iintro HF1
  ihave HK := drain_start $$ HK
  ihave HV := drain_start $$ HV
  iapply (drain arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV Hw]
  · isplitl [HK]; · iexact HK
    isplitl [HV]; · iexact HV
    iexists W5
    iexact Hw
  iintro ⟨HK, HV, ⟨%W6, Hw⟩⟩
  iapply (await c (D := iprop(holds (c : Thread nD τ) arg9 (IK.sc 1080) ∗ holds (c : Thread nD τ) arg14 (IK.sc 1080))) (W := W6)) $$ [HF0 Hw]
  · isplitl [HF0]; · iexact HF0
    iexact Hw
  iintro ⟨⟨H9, H14⟩, HT0, ⟨%W7, Hw⟩⟩
  iapply (await c (D := iprop(holds (c : Thread nD τ) arg11 (IV.sc 1080) ∗ holds (c : Thread nD τ) arg15 (IV.sc 1080))) (W := W7)) $$ [HF1 Hw]
  · isplitl [HF1]; · iexact HF1
    iexact Hw
  iintro ⟨⟨H11, H15⟩, HT1, ⟨%W8, Hw⟩⟩
  iapply (ret_at c)
  unfold postR
  isplitl [HK]; · iexact HK
  isplitl [HV]; · iexact HV
  isplitl [H0]; · iexact H0
  isplitl [H1]; · iexact H1
  isplitl [H4]; · iexact H4
  isplitl [H5]; · iexact H5
  isplitl [H6]; · iexact H6
  isplitl [H7]; · iexact H7
  isplitl [H14]; · iexact H14
  isplitl [H15]; · iexact H15
  isplitl [H16]; · iexact H16
  isplitl [H17]; · iexact H17
  isplitl [H18]; · iexact H18
  isplitl [H9]; · iexact H9
  isplitl [H11]; · iexact H11
  isplitl [HS0]; · iexact HS0
  isplitl [HS1]; · iexact HS1
  isplitl [HS2]; · iexact HS2
  isplitl [HS3]; · iexact HS3
  isplitl [HT0]; · iexact HT0
  isplitl [HT1]; · iexact HT1
  iexists W8
  iexact Hw

end Cert.Kernel.Whole

end
-- ==== Proof.Run.lean ====
/- The kernel launched: what its region starts from and ends with. -/
module

public import proofs.«01_k».proof.Proof.Join
public import proofs.«01_k».proof.Proof.Whole
public import proofs.«01_k».proof.Proof.Gen.Kernel.Frame
public import Idealize.ShloMosaic.Lib.Pipeline.FrameSuffixV

@[expose] public section

noncomputable section

namespace Cert.Kernel.Run

open Cert.Kernel Cert.Kernel.Gen Cert.Kernel.Pieces Cert.Kernel.Words Cert.Kernel.Model Cert.Arith Cert.Kernel.Page Cert.Kernel.Pool Cert.Kernel.Sweep Cert.Kernel.Owner Cert.Kernel.First Cert.Kernel.Join Cert.Kernel.Whole
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (c : Dev nD)

/-! ## Semaphores -/

/-- The kernel's own semaphores. -/
def osem (k : Fin 102) : SemLoc sig := .dma ⟨2 + k.val, by have := k.isLt; show 2 + k.val < 104; omega⟩
/-- The same, of a number. -/
def osemN (k : ℕ) : SemLoc sig := osem ⟨k % 102, Nat.mod_lt _ (by decide)⟩

theorem ownSemFacts : Pipeline.OwnSemFacts spec0 osem := by
  refine ⟨by decide, ?_, ?_⟩
  · intro a b e
    have h : (⟨2 + a.val, by have := a.isLt; show 2 + a.val < 104; omega⟩ : Fin 104) = ⟨2 + b.val, by have := b.isLt; show 2 + b.val < 104; omega⟩ := SemLoc.dma.inj e
    have := congrArg Fin.val h
    apply Fin.ext
    simp only at this
    omega
  · intro k w s e
    have h : (⟨2 + k.val, by have := k.isLt; show 2 + k.val < 104; omega⟩ : Fin 104) = (spec0 w).sem s := SemLoc.dma.inj e
    have h2 := congrArg Fin.val h
    have h3 : ∀ w s, ((spec0 w).sem s : Fin 104).val < 2 := by decide
    have := h3 w s
    simp only at h2
    omega

theorem osem7 : ∀ h : Fin 2, ∀ j : Fin 24, osemN (24 * h.val + j.val) = cell cc0_scratch7 h j.val := by decide
theorem osem8 : ∀ h : Fin 2, ∀ j : Fin 24, osemN (48 + 24 * h.val + j.val) = cell cc0_scratch8 h j.val := by decide

theorem ownSems0_eq : (Pipeline.ownSems0 (Ix := Unit) (Name := ℕ) (U := UU nD τ) (Lvl := ℕ) (Val := Elt F) (τ := τ) osem c : sProp 𝕄)
    = iprop(row c cc0_scratch7 0 ∗ row c cc0_scratch7 1 ∗ row c cc0_scratch8 0 ∗ row c cc0_scratch8 1 ∗ semVal ((c : Thread nD τ), .dma ((cc0_scratch9.slice (Rect.unit (s := S4) ![0] S1.size inb_S4_S1_0)).squeeze S_ squeezes_S1_S_).sem) 0 ∗ semVal ((c : Thread nD τ), .dma ((cc0_scratch9.slice (Rect.unit (s := S4) ![1] S1.size inb_S4_S1_1)).squeeze S_ squeezes_S1_S_).sem) 0 ∗ semVal ((c : Thread nD τ), .dma ((cc0_scratch9.slice (Rect.unit (s := S4) ![2] S1.size inb_S4_S1_2)).squeeze S_ squeezes_S1_S_).sem) 0 ∗ semVal ((c : Thread nD τ), .dma ((cc0_scratch9.slice (Rect.unit (s := S4) ![3] S1.size inb_S4_S1_3)).squeeze S_ squeezes_S1_S_).sem) 0 ∗ semVal ((c : Thread nD τ), .dma ((cc0_scratch10.slice (Rect.unit (s := S2) ![0] S1.size inb_S2_S1_0)).squeeze S_ squeezes_S1_S_).sem) 0 ∗ semVal ((c : Thread nD τ), .dma ((cc0_scratch10.slice (Rect.unit (s := S2) ![1] S1.size inb_S2_S1_1)).squeeze S_ squeezes_S1_S_).sem) 0) := by
  unfold Pipeline.ownSems0
  rw [Ring.bigSep_fin_eq_range 102 _ (fun t => semVal ((c : Thread nD τ), osemN t) 0) (fun t h => by unfold osemN; simp only [Nat.mod_eq_of_lt h]),
    Finset.range_eq_Ico, Ico_split (b := 0 + 24) (by decide) (by decide), Ico_split (a := 0 + 24) (b := 24 + 24) (by decide) (by decide), Ico_split (a := 24 + 24) (b := 48 + 24) (by decide) (by decide),
    Ico_split (a := 48 + 24) (b := 72 + 24) (by decide) (by decide), Ico_shift _ 0 24, show (0 + 24) = 24 from rfl, Ico_shift _ 24 24, show (24 + 24) = 48 from rfl, Ico_shift _ 48 24, show (48 + 24) = 72 from rfl, Ico_shift _ 72 24, show 72 + 24 = 96 from rfl]
  rw [bigSep_Ico_succ_bot (show 96 < 102 by decide), bigSep_Ico_succ_bot (show 97 < 102 by decide), bigSep_Ico_succ_bot (show 98 < 102 by decide), bigSep_Ico_succ_bot (show 99 < 102 by decide), bigSep_Ico_succ_bot (show 100 < 102 by decide)]
  rw [show Finset.Ico 101 102 = {101} from by decide, bigSep_singleton]
  unfold row
  rw [bigSep_congr (Φ := fun j => semVal ((c : Thread nD τ), osemN (0 + j)) 0) (Ψ := fun j => semVal ((c : Thread nD τ), cell cc0_scratch7 0 j) 0) (fun j hj => by rw [← osem7 0 ⟨j, (Finset.mem_Ico.mp hj).2⟩]; rfl),
    bigSep_congr (Φ := fun j => semVal ((c : Thread nD τ), osemN (24 + j)) 0) (Ψ := fun j => semVal ((c : Thread nD τ), cell cc0_scratch7 1 j) 0) (fun j hj => by rw [← osem7 1 ⟨j, (Finset.mem_Ico.mp hj).2⟩]; rfl),
    bigSep_congr (Φ := fun j => semVal ((c : Thread nD τ), osemN (48 + j)) 0) (Ψ := fun j => semVal ((c : Thread nD τ), cell cc0_scratch8 0 j) 0) (fun j hj => by rw [← osem8 0 ⟨j, (Finset.mem_Ico.mp hj).2⟩]; rfl),
    bigSep_congr (Φ := fun j => semVal ((c : Thread nD τ), osemN (72 + j)) 0) (Ψ := fun j => semVal ((c : Thread nD τ), cell cc0_scratch8 1 j) 0) (fun j hj => by rw [← osem8 1 ⟨j, (Finset.mem_Ico.mp hj).2⟩]; rfl)]
  rfl

/-! ## The inputs -/

/-- The lengths are those of sequences that fit, and each page appended to is a page. -/
structure Good (ln : S48.Idx → BitVec 32) (pt : S18x48.Idx → BitVec 32) : Prop where
  len : ∀ b : Fin 48, (ln (ix1 b)).toNat < 4608
  pg : ∀ b : Fin 48, (pt (ix2 (⟨(ln (ix1 b)).toNat / 256 % 18, Nat.mod_lt _ (by decide)⟩ : Fin 18) b)).toNat < 1080

/-- Sequence `b` of 48. -/
def sq (b : ℕ) : Fin 48 := ⟨b % 48, Nat.mod_lt _ (by decide)⟩
theorem sq_val (b : Fin 48) : sq b.val = b := Fin.ext (Nat.mod_eq_of_lt b.isLt)

/-- The inputs as the kernel's model takes them. -/
def inp (ln : S48.Idx → BitVec 32) (pt : S18x48.Idx → BitVec 32) (g : Good ln pt) (x : S1080x256x8x128.Idx → Elt F .i8) (s : S8x1080.Idx → Elt F .f32) (t : S48x8x128.Idx → Elt F .bf16) : Inp F where
  len b := (ln (ix1 (sq b))).toNat
  hlen b := g.len (sq b)
  pg b := (pt (ix2 (⟨(ln (ix1 (sq b))).toNat / 256 % 18, Nat.mod_lt _ (by decide)⟩ : Fin 18) (sq b))).toNat
  hpg b := g.pg (sq b)
  x := sub x
  s := s
  t := t

theorem lenArr_inp (ln : S48.Idx → BitVec 32) (pt : S18x48.Idx → BitVec 32) (g : Good ln pt) (x : S1080x256x8x128.Idx → Elt F .i8) (s : S8x1080.Idx → Elt F .f32) (t : S48x8x128.Idx → Elt F .bf16) :
    lenArr (inp ln pt g x s t) = ln := by
  funext i
  show BitVec.ofNat 32 (ln (ix1 (sq (i 0).val))).toNat = ln i
  rw [BitVec.ofNat_toNat, BitVec.setWidth_eq, sq_val (i 0)]
  congr 1
  funext a
  fin_cases a
  rfl
theorem pt_inp (ln : S48.Idx → BitVec 32) (pt : S18x48.Idx → BitVec 32) (g : Good ln pt) (x : S1080x256x8x128.Idx → Elt F .i8) (s : S8x1080.Idx → Elt F .f32) (t : S48x8x128.Idx → Elt F .bf16) (b : Fin 48) :
    pt (ix2 (⟨(inp ln pt g x s t).len b / 256, by have := (inp ln pt g x s t).hlen b; omega⟩ : Fin 18) b) = w ((inp ln pt g x s t).pg b) := by
  have hl := g.len b
  have e : (⟨(ln (ix1 b)).toNat / 256, by omega⟩ : Fin 18) = ⟨(ln (ix1 b)).toNat / 256 % 18, Nat.mod_lt _ (by decide)⟩ := Fin.ext (by show (ln (ix1 b)).toNat / 256 = (ln (ix1 b)).toNat / 256 % 18; omega)
  show pt (ix2 (⟨(ln (ix1 (sq b.val))).toNat / 256, _⟩ : Fin 18) b) = BitVec.ofNat 32 (pt (ix2 (⟨(ln (ix1 (sq b.val))).toNat / 256 % 18, Nat.mod_lt _ (by decide)⟩ : Fin 18) (sq b.val))).toNat
  simp only [sq_val, BitVec.ofNat_toNat, BitVec.setWidth_eq]
  rw [e]

/-! ## Whole buffers -/

theorem whole_eq (b : Ref sig .tc) (f : Buf (Elt F) ((c : Thread nD τ).loc b)) :
    (((c : Thread nD τ).loc b) ↦{fullShare} f : sProp 𝕄) = holds (c : Thread nD τ) (Memref.whole b) f := by
  have h := pointsTo_rep (Ix := Unit) (Val := Elt F) (Name := ℕ) (U := UU nD τ) (Lvl := ℕ) (c : Thread nD τ) (Memref.whole b) f fullShare
  rw [show (Memref.whole b : Memref sig .tc _ _ _).view.set = Finset.univ from View.set_whole b] at h
  unfold holds
  rw [show (Memref.whole b : Memref sig .tc _ _ _).view.set = Finset.univ from View.set_whole b]
  exact h

variable (m : (ℓ : Loc nD τ sig) → Buf (Elt F) ℓ) (ρ : Dev nD → PrngReg)

/-- The arguments are good on every device. -/
def Ok : Prop := ∀ c : Dev nD, Good (V m c main_arg5) (V m c main_v0)

variable (h : Ok m)

/-- The first pool's inputs. -/
def IK : Inp F := inp (V m c main_arg5) (V m c main_v0) (h c) (V m c main_arg0) (V m c main_v1) (V m c main_v3)
/-- The second pool's inputs. -/
def IV : Inp F := inp (V m c main_arg5) (V m c main_v0) (h c) (V m c main_arg1) (V m c main_v2) (V m c main_v4)

/-- The buffers the region reads. -/
def HH : Finset (Ref sig .tc) := {main_arg0, main_arg1, main_v1, main_v2, main_v3, main_v4}
/-- The buffers the region writes. -/
def RR : Finset (Ref sig .tc) := {main_v5_0, main_v5_1, main_v5_2, main_v5_3}

/-- What the region leaves. -/
def G (b : Ref sig .tc) : Buf (Elt F) ((c : Thread nD τ).loc b) :=
  Function.update (β := fun b => Buf (Elt F) ((c : Thread nD τ).loc b)) (Function.update (β := fun b => Buf (Elt F) ((c : Thread nD τ).loc b)) (Function.update (β := fun b => Buf (Elt F) ((c : Thread nD τ).loc b)) (Function.update (β := fun b => Buf (Elt F) ((c : Thread nD τ).loc b)) (V m c)
    main_v5_0 (glue fun j => (IK c m h).ch j 4)) main_v5_1 ((IK c m h).sc 1080)) main_v5_2 (glue fun j => (IV c m h).ch j 4)) main_v5_3 ((IV c m h).sc 1080) b

theorem G_0 : G c m h main_v5_0 = glue fun j => (IK c m h).ch j 4 := by
  unfold G
  rw [Function.update_of_ne (show main_v5_0 ≠ main_v5_3 by decide), Function.update_of_ne (show main_v5_0 ≠ main_v5_2 by decide), Function.update_of_ne (show main_v5_0 ≠ main_v5_1 by decide), Function.update_self]
theorem G_1 : G c m h main_v5_1 = (IK c m h).sc 1080 := by
  unfold G
  rw [Function.update_of_ne (show main_v5_1 ≠ main_v5_3 by decide), Function.update_of_ne (show main_v5_1 ≠ main_v5_2 by decide), Function.update_self]
theorem G_2 : G c m h main_v5_2 = glue fun j => (IV c m h).ch j 4 := by
  unfold G
  rw [Function.update_of_ne (show main_v5_2 ≠ main_v5_3 by decide), Function.update_self]
theorem G_3 : G c m h main_v5_3 = (IV c m h).sc 1080 := by
  unfold G
  rw [Function.update_self]

theorem HH_eq (Φ : Ref sig .tc → sProp 𝕄) : bigSep HH Φ = iprop(Φ main_arg0 ∗ Φ main_arg1 ∗ Φ main_v1 ∗ Φ main_v2 ∗ Φ main_v3 ∗ Φ main_v4) := by
  unfold HH
  rw [bigSep_insert (by decide), bigSep_insert (by decide), bigSep_insert (by decide), bigSep_insert (by decide), bigSep_insert (by decide), bigSep_singleton]
  rfl
theorem RR_eq (Φ : Ref sig .tc → sProp 𝕄) : bigSep RR Φ = iprop(Φ main_v5_0 ∗ Φ main_v5_1 ∗ Φ main_v5_2 ∗ Φ main_v5_3) := by
  unfold RR
  rw [bigSep_insert (by decide), bigSep_insert (by decide), bigSep_insert (by decide), bigSep_singleton]
  rfl

/-- What the region starts from. -/
abbrev Φin : sProp 𝕄 := Pipeline.ΦDRV osem spec0 HH RR (fun c b => V0 m c (Proc.devRef .tc b)) (fun c b => V0 m c (Proc.devRef .tc b)) c
/-- What the region ends with. -/
abbrev Φout : sProp 𝕄 := Pipeline.ΦDRV osem spec0 HH RR (fun c b => V0 m c (Proc.devRef .tc b)) (fun c => G c m h) c

variable (arg0 : Memref sig .tc .smem S18x48 .i32) (arg1 : Memref sig .tc .smem S48 .i32)

set_option maxHeartbeats 1000000 in
theorem enter : iprop(Φin c m ∗ holds (c : Thread nD τ) arg0 (V m c main_v0) ∗ holds (c : Thread nD τ) arg1 (V m c main_arg5) ∗ (∃ W, owes (c : Thread nD τ) 0 W))
    ⊢ preR arg0 arg1 (Memref.whole main_arg0) (Memref.whole main_arg1) (Memref.whole main_v1) (Memref.whole main_v2) (Memref.whole main_v3) (Memref.whole main_v4) (Memref.whole main_v5_0) (Memref.whole main_v5_1) (Memref.whole main_v5_2) (Memref.whole main_v5_3) (Memref.whole cc0_scratch0) (Memref.whole cc0_scratch1) (Memref.whole cc0_scratch2) (Memref.whole cc0_scratch3) (Memref.whole cc0_scratch4) (Memref.whole cc0_scratch5) (Memref.whole cc0_scratch6) cc0_scratch7 cc0_scratch8 cc0_scratch9 cc0_scratch10 c (IK c m h) (IV c m h) (V m c main_v0) := by
  unfold Φin Pipeline.ΦDRV
  rw [scopedRest0_eq, ownSems0_eq, HH_eq, RR_eq]
  simp only [whole_eq]
  iintro ⟨⟨⟨⟨%f0, Hs0⟩, ⟨%f1, Hs1⟩, ⟨%f2, Hs2⟩, ⟨%f3, Hs3⟩, ⟨%f4, Hs4⟩, ⟨%f5, Hs5⟩, ⟨%f6, Hs6⟩⟩, ⟨Ra, Rb, Rc, Rd, Sa, Sb, Sc, Sd, Se, Sf⟩, ⟨A0, A1, A2, A3, A4, A5⟩, ⟨B0, B1, B2, B3⟩⟩, Hp, Hl, HW⟩
  unfold preR
  isplitl [A0 B0 Hs0 Ra Rc]
  · iapply (start_intro c (Memref.whole main_arg0) (Memref.whole cc0_scratch0) (Memref.whole main_v5_0) cc0_scratch7 cc0_scratch8 0 (V m c main_arg0) (fun j => (IK c m h).ch j 4))
    isplitl [A0]; · iexact A0
    isplitl [B0]; · iexists _; iexact B0
    isplitl [Hs0]; · iexists _; iexact Hs0
    isplitl [Ra]; · iexact Ra
    iexact Rc
  isplitl [A1 B2 Hs1 Rb Rd]
  · iapply (start_intro c (Memref.whole main_arg1) (Memref.whole cc0_scratch1) (Memref.whole main_v5_2) cc0_scratch7 cc0_scratch8 1 (V m c main_arg1) (fun j => (IV c m h).ch j 4))
    isplitl [A1]; · iexact A1
    isplitl [B2]; · iexists _; iexact B2
    isplitl [Hs1]; · iexists _; iexact Hs1
    isplitl [Rb]; · iexact Rb
    iexact Rd
  isplitl [Hp]; · iexact Hp
  isplitl [Hl]
  · rw [show lenArr (IK c m h) = V m c main_arg5 from lenArr_inp _ _ _ _ _ _]
    iexact Hl
  isplitl [A2]; · iexact A2
  isplitl [A3]; · iexact A3
  isplitl [A4]; · iexact A4
  isplitl [A5]; · iexact A5
  isplitl [Hs2]; · iexists _; iexact Hs2
  isplitl [Hs3]; · iexists _; iexact Hs3
  isplitl [Hs4]; · iexists _; iexact Hs4
  isplitl [Hs5]; · iexists _; iexact Hs5
  isplitl [Hs6]; · iexists _; iexact Hs6
  isplitl [B1]; · iexists _; iexact B1
  isplitl [B3]; · iexists _; iexact B3
  isplitl [Sa]; · iexact Sa
  isplitl [Sb]; · iexact Sb
  isplitl [Sc]; · iexact Sc
  isplitl [Sd]; · iexact Sd
  isplitl [Se]; · iexact Se
  isplitl [Sf]; · iexact Sf
  iexact HW

set_option maxHeartbeats 1000000 in
theorem leave : postR arg0 arg1 (Memref.whole main_arg0) (Memref.whole main_arg1) (Memref.whole main_v1) (Memref.whole main_v2) (Memref.whole main_v3) (Memref.whole main_v4) (Memref.whole main_v5_0) (Memref.whole main_v5_1) (Memref.whole main_v5_2) (Memref.whole main_v5_3) (Memref.whole cc0_scratch0) (Memref.whole cc0_scratch1) (Memref.whole cc0_scratch2) (Memref.whole cc0_scratch3) (Memref.whole cc0_scratch4) (Memref.whole cc0_scratch5) (Memref.whole cc0_scratch6) cc0_scratch7 cc0_scratch8 cc0_scratch9 cc0_scratch10 c (IK c m h) (IV c m h) (V m c main_v0)
    ⊢ iprop(Φout c m h ∗ holds (c : Thread nD τ) arg0 (V m c main_v0) ∗ holds (c : Thread nD τ) arg1 (V m c main_arg5) ∗ (∃ W, owes (c : Thread nD τ) 0 W)) := by
  unfold Φout Pipeline.ΦDRV
  rw [scopedRest0_eq, ownSems0_eq, HH_eq, RR_eq]
  beta_reduce
  rw [G_0, G_1, G_2, G_3]
  simp only [whole_eq]
  unfold postR
  rw [show (IK c m h).x = sub (V m c main_arg0) from rfl, show (IV c m h).x = sub (V m c main_arg1) from rfl]
  iintro ⟨HK, HV, Hp, Hl, A2, A3, A4, A5, Hs2, Hs3, Hs4, Hs5, Hs6, B1, B3, Sa, Sb, Sc, Sd, Se, Sf, HW⟩
  ihave HK' := (drain_elim c (Memref.whole main_arg0) (Memref.whole cc0_scratch0) (Memref.whole main_v5_0) cc0_scratch7 cc0_scratch8 0 (V m c main_arg0) (fun j => (IK c m h).ch j 4)) $$ HK
  icases HK' with ⟨A0, B0, ⟨%z0, Hs0⟩, Ra, Rc⟩
  ihave HV' := (drain_elim c (Memref.whole main_arg1) (Memref.whole cc0_scratch1) (Memref.whole main_v5_2) cc0_scratch7 cc0_scratch8 1 (V m c main_arg1) (fun j => (IV c m h).ch j 4)) $$ HV
  icases HV' with ⟨A1, B2, ⟨%z1, Hs1⟩, Rb, Rd⟩
  isplitr [Hp Hl HW]
  · isplitl [Hs0 Hs1 Hs2 Hs3 Hs4 Hs5 Hs6]
    · isplitl [Hs0]; · iexists _; iexact Hs0
      isplitl [Hs1]; · iexists _; iexact Hs1
      isplitl [Hs2]; · iexists _; iexact Hs2
      isplitl [Hs3]; · iexists _; iexact Hs3
      isplitl [Hs4]; · iexists _; iexact Hs4
      isplitl [Hs5]; · iexists _; iexact Hs5
      iexists _; iexact Hs6
    isplitl [Ra Rb Rc Rd Sa Sb Sc Sd Se Sf]
    · isplitl [Ra]; · iexact Ra
      isplitl [Rb]; · iexact Rb
      isplitl [Rc]; · iexact Rc
      isplitl [Rd]; · iexact Rd
      isplitl [Sa]; · iexact Sa
      isplitl [Sb]; · iexact Sb
      isplitl [Sc]; · iexact Sc
      isplitl [Sd]; · iexact Sd
      isplitl [Se]; · iexact Se
      iexact Sf
    isplitl [A0 A1 A2 A3 A4 A5]
    · isplitl [A0]; · iexact A0
      isplitl [A1]; · iexact A1
      isplitl [A2]; · iexact A2
      isplitl [A3]; · iexact A3
      isplitl [A4]; · iexact A4
      iexact A5
    isplitl [B0]; · iexact B0
    isplitl [B1]; · iexact B1
    isplitl [B2]; · iexact B2
    iexact B3
  isplitl [Hp]; · iexact Hp
  isplitl [Hl]
  · rw [show lenArr (IK c m h) = V m c main_arg5 from lenArr_inp _ _ _ _ _ _]
    iexact Hl
  iexact HW

end Cert.Kernel.Run

end
-- ==== Proof.Launch.lean ====
/- The whole program run: the region between the host's lines. -/
module

public import proofs.«01_k».proof.Proof.Run

@[expose] public section

noncomputable section

namespace Cert.Kernel.Launch

open Cert.Kernel Cert.Kernel.Gen Cert.Kernel.Pieces Cert.Kernel.Words Cert.Kernel.Model Cert.Arith Cert.Kernel.Page Cert.Kernel.Pool Cert.Kernel.Sweep Cert.Kernel.Owner Cert.Kernel.First Cert.Kernel.Join Cert.Kernel.Whole Cert.Kernel.Run
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The launch's data. -/
def dats (h : Ok m) (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ t := if t.val = 0 then Φin c m else Φout c m h
  q _ := fullShare
  owed _ := 0

variable (h : Ok m) (c : Dev nD)

theorem before_w0 (t : Fin cfg0.N) (d) : (dats m h 0 c).before 0 t d = iblk m c 0 t := by
  unfold Dat.before; rw [if_pos (fetch0_0 t)]; unfold Dat.fetched Dat.blockOf iblk; dsimp only [dats]; rfl
theorem before_w1 (t : Fin cfg0.N) (d) : (dats m h 0 c).before 1 t d = iblk m c 1 t := by
  unfold Dat.before; rw [if_pos (fetch0_1 t)]; unfold Dat.fetched Dat.blockOf iblk; dsimp only [dats]; rfl
theorem after_w0 (t : Fin cfg0.N) : (dats m h 0 c).after 0 t = iblk m c 0 t := by dsimp only [dats]
theorem after_w1 (t : Fin cfg0.N) : (dats m h 0 c).after 1 t = iblk m c 1 t := by dsimp only [dats]

theorem iblk0 (t : Fin cfg0.N) : iblk m c 0 t = V m c main_v0 := by
  obtain rfl := fin_N0 t
  funext i
  unfold iblk
  rw [View.read_apply]
  show V m c main_v0 _ = V m c main_v0 i
  congr 1
  funext a
  apply Fin.ext
  refine (Rect.emb_apply _ _ _).trans ?_
  fin_cases a
  · show 0 + 1 * (i 0).val = (i 0).val
    omega
  · show 0 + 1 * (i 1).val = (i 1).val
    omega
theorem iblk1 (t : Fin cfg0.N) : iblk m c 1 t = V m c main_arg5 := by
  obtain rfl := fin_N0 t
  funext i
  unfold iblk
  rw [View.read_apply]
  show V m c main_arg5 _ = V m c main_arg5 i
  congr 1
  funext a
  apply Fin.ext
  refine (Rect.emb_apply _ _ _).trans ?_
  fin_cases a
  · show 0 + 1 * (i 0).val = (i 0).val
    omega

theorem defs_tc : (defs₀ (F := F)) .tc cfg0.body
    = fun a => cc0_paged_int8_kv_append_skel (win0_0.stage (a.2 0)) (hstage0_0 0) (win0_1.stage (a.2 1)) (hstage0_1 0) (Memref.whole main_arg0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5_0) (Memref.isWhole_whole _) (Memref.whole main_v5_1) (Memref.isWhole_whole _) (Memref.whole main_v5_2) (Memref.isWhole_whole _) (Memref.whole main_v5_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 := by
  rw [← cc0_paged_int8_kv_append_eq_skeleton]
  rfl
theorem prog_eq (t : Fin cfg0.N) : (defs₀ (F := F)) .tc cfg0.body (cfg0.bodyArgs t (cfg0.slots t))
    = cc0_paged_int8_kv_append_skel (st0_0 t) (hstage0_0 0) (st0_1 t) (hstage0_1 0) (Memref.whole main_arg0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5_0) (Memref.isWhole_whole _) (Memref.whole main_v5_1) (Memref.isWhole_whole _) (Memref.whole main_v5_2) (Memref.isWhole_whole _) (Memref.whole main_v5_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 :=
  (congrFun defs_tc _).trans rfl

theorem Φ_first (t : Fin cfg0.N) : (dats m h 0 c).Φ t.castSucc = Φin c m := by
  obtain rfl := fin_N0 t
  rfl
theorem Φ_last (t : Fin cfg0.N) : (dats m h 0 c).Φ t.succ = Φout c m h := by
  obtain rfl := fin_N0 t
  rfl

set_option backward.isDefEq.respectTransparency.types false in
set_option maxHeartbeats 1000000 in
theorem body_obligation : BodyObligation (dats (F := F) m h 0 c) (defs₀ (F := F)) 𝒱₀ () Set.univ := fun t => by
  rw [bigSep_W0, bigSep_W0]
  dsimp only
  simp only [before_w0, before_w1, after_w0, after_w1]
  rw [Φ_first, Φ_last]
  unfold Dat.owesAt Pipeline.owesWithin
  rw [show (dats m h 0 c).owed t.castSucc = 0 from rfl, show (dats m h 0 c).owed t.succ = 0 from rfl]
  unfold owns
  iintro ⟨HΦ, ⟨%W, -, HW⟩, ⟨%d0, %g0, %hg0, H0⟩, ⟨%d1, %g1, %hg1, H1⟩⟩
  ihave H0' := (pointsTo_rep_entails (c : Thread nD τ) (st0_0 t) g0 fullShare) $$ H0
  ihave H1' := (pointsTo_rep_entails (c : Thread nD τ) (st0_1 t) g1 fullShare) $$ H1
  rw [hg0, hg1, iblk0, iblk1]
  rw [prog_eq t]
  ihave HP := (enter c m h (st0_0 t) (st0_1 t)) $$ [HΦ H0' H1' HW]
  · unfold holds
    isplitl [HΦ]; · iexact HΦ
    isplitl [H0']; · iexact H0'
    isplitl [H1']; · iexact H1'
    iexists W
    iexact HW
  have hw := whole (st0_0 t) (hstage0_0 0) (st0_1 t) (hstage0_1 0) (Memref.whole main_arg0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5_0) (Memref.isWhole_whole _) (Memref.whole main_v5_1) (Memref.isWhole_whole _) (Memref.whole main_v5_2) (Memref.isWhole_whole _) (Memref.whole main_v5_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c (IK c m h) (IV c m h) rfl rfl (V m c main_v0) (fun b => pt_inp _ _ _ _ _ _ b)
  have hw' := hw.trans (wp_mono frame (wpE (defs₀ (F := F)) 𝒱₀ (c : Thread nD τ) none) Set.univ (fun _ => leave c m h (st0_0 t) (st0_1 t)))
  iapply (wp_wand_r frame (wpE (defs₀ (F := F)) 𝒱₀ (c : Thread nD τ) none) Set.univ)
  isplitl [HP]
  · iapply hw' $$ HP
  unfold holds
  iintro %_ ⟨HΦ, H0, H1, ⟨%W', HW⟩⟩
  isplitl [HΦ]; · iexact HΦ
  isplitl [HW]
  · iexists W'
    isplitr; · ipureintro; exact fun _ _ => Or.inl trivial
    iexact HW
  isplitl [H0]
  · iexists _
    isplitr; · ipureintro; exact View.read_rep _ _
    iexact H0
  iexists _
  isplitr; · ipureintro; exact View.read_rep _ _
  iexact H1

/-- The host's lines around the region. -/
theorem hmain' : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- Where every buffer ends. -/
def fin (b : Ref sig .tc) : Buf (Elt F) ((c : Thread nD τ).loc b) :=
  StableHlo.after (List.flatten [hostOps1]) (Pipeline.withArrays spec0 c (Pipeline.withR (V0 m c) RR c (G c m h)) fun w => (dats m h 0 c).arrAt w cfg0.N) (Proc.devRef .tc b)

set_option backward.isDefEq.respectTransparency.types false in
set_option maxHeartbeats 1000000 in
theorem run_main : θ_run defs (onTc (τ := τ) (main (F := F))) (s₀ m ρ) (fun r => (∀ c : Dev nD, (∀ w, r.2.mem ((spec0 w).arr.view.loc (c.tc : Thread nD τ)) = (dats m h 0 c).arrAt w cfg0.N)
      ∧ ∀ b ∈ Pipeline.restRefs sig spec0, r.2.mem ((c.tc : Thread nD τ).loc b) = fin m h c b) ∧ r.2.sem = fun _ => 0) :=
  Pipeline.θ_run_frame_dmaR_aroundV cfgs (dats m h) (0 : Fin 1) launch0 osem defs₀ 𝒱₀ ownSemFacts HH RR (by decide) (by decide) m ρ main
    (hbody := fun c => (body_obligation m h c).loose) (hshare := fun c => (dats m h 0 c).share_full fun _ => rfl) (howed := fun _ _ => rfl)
    (V₀ := V0 m) (opss := [hostOps1]) (hsub := sfx_sub) (hfresh := sfx_fresh) (hkeep := sfx_keeps) (G := fun c => G c m h)
    (hmain := hmain' m) (hA := fun _ _ => rfl) (hin := fun c => .rfl) (hout := fun c => .rfl) (Q' := _) (hQ' := fun _ hh => hh)

end Cert.Kernel.Launch

end
-- ==== Proof.Range.lean ====
/- What the precondition says of the lengths and of the page table, element by element. -/
module

public import proofs.«01_k».proof.Pre_appends_in_range
public import proofs.«01_k».proof.Proof.Arith
public import Idealize.ShloMosaic.Lib.ValueIdx

@[expose] public section

namespace Cert.Range

open Idealize.ShloMosaic Idealize.ShloMosaic.ValueIdx Cert.Arith Cert.Pre_appends_in_range

/-- The shape relations the precondition's operations take. -/
instance facts : Cert.Pre_appends_in_range.Facts := by constructor <;> decide

variable {F : FTy → Type} [FloatOps F]

theorem andi_eq (p q : Bool) : IntOp.andi (BitVec.ofBool p) (BitVec.ofBool q) = BitVec.ofBool (p && q) := by
  cases p <;> cases q <;> decide
theorem ori_eq (p q : Bool) : IntOp.ori (BitVec.ofBool p) (BitVec.ofBool q) = BitVec.ofBool (p || q) := by
  cases p <;> cases q <;> decide
theorem noti_eq (p : Bool) : ~~~ (BitVec.ofBool p) = BitVec.ofBool (!p) := by
  cases p <;> decide
theorem one_iff (p : Bool) : (BitVec.ofBool p = 1#1) ↔ p = true := by cases p <;> decide

/-- Where the precondition holds, every length is below 4608 and the page that the table names for the
    token behind each sequence's end is below 1080. -/
theorem of_fn (a0 : IVec S1080x256x8x128 8) (a1 : IVec S1080x256x8x128 8) (a2 : FVec F S1080x8 .f32) (a3 : FVec F S1080x8 .f32)
    (pt : IVec S48x18 32) (ln : IVec S48 32) (a6 : FVec F S48x1x8x128 .bf16) (a7 : FVec F S48x1x8x128 .bf16)
    (h : fn (F := F) a0 a1 a2 a3 pt ln a6 a7 = fun _ => 1#1) (b : Fin 48) :
    (ln (ix1 b)).toNat < 4608 ∧ (pt (ix2 b ⟨(ln (ix1 b)).toNat / 256 % 18, Nat.mod_lt _ (by decide)⟩)).toNat < 1080 := by
  have key : ∀ j : Fin 18, (0 ≤ (ln (ix1 b)).toInt ∧ (ln (ix1 b)).toInt < 4608) ∧
      ((0 ≤ (pt (ix2 b j)).toInt ∧ (pt (ix2 b j)).toInt < 1080) ∨ ¬ ((j : ℕ) * 256 ≤ (ln (ix1 b)).toInt ∧ (ln (ix1 b)).toInt < (j : ℕ) * 256 + 256)) := by
    intro j
    have e := congrFun h (ix2 b j)
    have hb : ∀ x : S48.Idx, x 0 = b → ln x = ln (ix1 b) := fun x hx => congrArg ln (by funext d; fin_cases d; exact hx)
    have hj : IntOp.muli (BitVec.ofNat 32 j) 256#32 = w (j * 256) := by simp [IntOp.muli, BitVec.ofNat_mul]
    have hj2 : IntOp.addi (w ((j : ℕ) * 256)) 256#32 = w (j * 256 + 256) := by simp [IntOp.addi, BitVec.ofNat_add]
    have t1 : (w ((j : ℕ) * 256)).toInt = (j : ℕ) * 256 := by rw [WordArith.toInt_ofNat_small _ (by have := j.isLt; omega)]; push_cast; rfl
    have t2 : (w ((j : ℕ) * 256 + 256)).toInt = (j : ℕ) * 256 + 256 := by rw [WordArith.toInt_ofNat_small _ (by have := j.isLt; omega)]; push_cast; rfl
    have h0 : (0#32 : BitVec 32).toInt = 0 := by decide
    have h1 : (1080#32 : BitVec 32).toInt = 1080 := by decide
    have h2 : (4608#32 : BitVec 32).toInt = 4608 := by decide
    change IntOp.andi (IntOp.andi (IntOp.cmpi .sge (ln _) 0#32) (IntOp.cmpi .slt (ln _) 4608#32))
      (IntOp.ori (IntOp.andi (IntOp.cmpi .sge (pt (ix2 b j)) 0#32) (IntOp.cmpi .slt (pt (ix2 b j)) 1080#32))
        (~~~ (IntOp.andi (IntOp.cmpi .sge (ln _) (IntOp.muli (BitVec.ofNat 32 j) 256#32)) (IntOp.cmpi .slt (ln _) (IntOp.addi (IntOp.muli (BitVec.ofNat 32 j) 256#32) 256#32))))) = 1#1 at e
    rw [hb _ (by rfl), hj, hj2] at e
    simp only [IntOp.cmpi, andi_eq, ori_eq, noti_eq, one_iff, Bool.and_eq_true, Bool.or_eq_true, Bool.not_eq_true', Bool.and_eq_false_iff, BitVec.sle_eq_decide, BitVec.slt_eq_decide, decide_eq_true_eq, decide_eq_false_iff_not, t1, t2, h0, h1, h2] at e
    omega
  have len : (ln (ix1 b)).toNat < 4608 ∧ (ln (ix1 b)).toInt = (ln (ix1 b)).toNat := by
    obtain ⟨n, hn, e⟩ := exists_w _ 4608 (key 0).1.1 (key 0).1.2
    rw [e, toNat_w _ (by omega), WordArith.toInt_ofNat_small _ (by omega)]
    exact ⟨hn, rfl⟩
  refine ⟨len.1, ?_⟩
  have k := (key ⟨(ln (ix1 b)).toNat / 256 % 18, Nat.mod_lt _ (by decide)⟩).2
  rw [len.2] at k
  rcases k with k | k
  · obtain ⟨n, hn, e⟩ := exists_w _ 1080 k.1 k.2
    rw [e, toNat_w _ (by omega)]; exact hn
  · exact absurd (by have := len.1; simp only; omega) k

end Cert.Range
-- ==== Proof.Ends.lean ====
/- Where every buffer of the program ends, in terms of its arguments. -/
module

public import proofs.«01_k».proof.Proof.Launch
public import Idealize.ShloMosaic.Lib.StableHlo.RunRead
public import proofs.«01_k».proof.Proof.Range

@[expose] public section

noncomputable section

namespace Cert.Kernel.Ends

open Cert.Kernel Cert.Kernel.Gen Cert.Kernel.Pieces Cert.Kernel.Words Cert.Kernel.Model Cert.Arith Cert.Kernel.Page Cert.Kernel.Pool Cert.Kernel.Sweep Cert.Kernel.Owner Cert.Kernel.First Cert.Kernel.Join Cert.Kernel.Whole Cert.Kernel.Run Cert.Kernel.Launch
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg) (c : Dev nD)

/-! ## What the region finds -/

theorem V_v0 : V m c main_v0 = (transpose S18x48 [1, 0] · transposes_S48x18_S18x48_1_0) (m ((c : Thread nD τ).loc main_arg4)) := by
  show StableHlo.after hostOps0 _ (Proc.devRef .tc main_v0) = _
  after_results
theorem V_v1 : V m c main_v1 = (transpose S8x1080 [1, 0] · transposes_S1080x8_S8x1080_1_0) (m ((c : Thread nD τ).loc main_arg2)) := by
  show StableHlo.after hostOps0 _ (Proc.devRef .tc main_v1) = _
  after_results
theorem V_v2 : V m c main_v2 = (transpose S8x1080 [1, 0] · transposes_S1080x8_S8x1080_1_0) (m ((c : Thread nD τ).loc main_arg3)) := by
  show StableHlo.after hostOps0 _ (Proc.devRef .tc main_v2) = _
  after_results
theorem V_v3 : V m c main_v3 = shapeCast S48x8x128 (m ((c : Thread nD τ).loc main_arg6)) shapeCasts_S48x1x8x128_S48x8x128 := by
  show StableHlo.after hostOps0 _ (Proc.devRef .tc main_v3) = _
  after_results
  rfl
theorem V_v4 : V m c main_v4 = shapeCast S48x8x128 (m ((c : Thread nD τ).loc main_arg7)) shapeCasts_S48x1x8x128_S48x8x128 := by
  show StableHlo.after hostOps0 _ (Proc.devRef .tc main_v4) = _
  after_results
  rfl

/-- Lengths and pages in range, read through the transposed table. -/
theorem good_of (ln : S48.Idx → BitVec 32) (pt : S48x18.Idx → BitVec 32) (pt' : S18x48.Idx → BitVec 32)
    (e : pt' = (transpose S18x48 [1, 0] · transposes_S48x18_S18x48_1_0) pt)
    (hr : ∀ b : Fin 48, (ln (ix1 b)).toNat < 4608 ∧ (pt (ix2 b ⟨(ln (ix1 b)).toNat / 256 % 18, Nat.mod_lt _ (by decide)⟩)).toNat < 1080) : Good ln pt' where
  len b := (hr b).1
  pg b := by
    rw [e]
    have he : ∀ j : Fin 18, (transpose S18x48 [1, 0] pt transposes_S48x18_S18x48_1_0) (ix2 j b) = pt (ix2 b j) := fun j => by
      simp only [transpose]; exact congrArg pt (by funext d; fin_cases d <;> rfl)
    exact (congrArg (fun x : BitVec 32 => x.toNat < 1080) (he _)).mpr (hr b).2

/-- Under the precondition the lengths and pages are in range. -/
theorem ok_of (hp : ∀ c : Dev nD, Cert.Pre_appends_in_range.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) : Ok m := fun c =>
  good_of _ _ _ (V_v0 m c) fun b => by
    rw [V_main_arg5 m c]
    exact Cert.Range.of_fn (F := F) _ _ _ _ _ _ _ _ (hp c) b

variable (h : Ok m)

/-! ## What the program leaves -/

theorem fin_of_ne (b : Ref sig .tc) (h6 : b ≠ main_v6) (h7 : b ≠ main_v7) (hw : ∀ w, Pipeline.arrRef spec0 w ≠ b) :
    fin m h c b = Pipeline.withR (V0 m c) RR c (G c m h) (Proc.devRef .tc b) := by
  unfold fin
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      exact ⟨StableHlo.devRef_ne_of_ne h6, StableHlo.devRef_ne_of_ne h7⟩)),
    Pipeline.withArrays_of_ne _ c _ _ b hw]

theorem fin_G (b : Ref sig .tc) (h6 : b ≠ main_v6) (h7 : b ≠ main_v7) (hw : ∀ w, Pipeline.arrRef spec0 w ≠ b) (hR : b ∈ RR) :
    fin m h c b = G c m h b := (fin_of_ne m c h b h6 h7 hw).trans (Pipeline.withR_of_mem _ _ _ _ _ hR)
theorem fin_V (b : Ref sig .tc) (h6 : b ≠ main_v6) (h7 : b ≠ main_v7) (hw : ∀ w, Pipeline.arrRef spec0 w ≠ b) (hR : b ∉ RR) :
    fin m h c b = V m c b := (fin_of_ne m c h b h6 h7 hw).trans (Pipeline.withR_of_not_mem _ _ _ _ _ hR)

theorem fin_v5_0 : fin m h c main_v5_0 = glue fun j => (IK c m h).ch j 4 :=
  (fin_G m c h main_v5_0 (by decide) (by decide) (by decide) (by decide)).trans (G_0 c m h)
theorem fin_v5_2 : fin m h c main_v5_2 = glue fun j => (IV c m h).ch j 4 :=
  (fin_G m c h main_v5_2 (by decide) (by decide) (by decide) (by decide)).trans (G_2 c m h)
theorem fin_v6 : fin m h c main_v6 = (transpose S1080x8 [1, 0] · transposes_S8x1080_S1080x8_1_0) ((IK c m h).sc 1080) := by
  have e : fin m h c main_v6 = (transpose S1080x8 [1, 0] · transposes_S8x1080_S1080x8_1_0)
      (Pipeline.withArrays spec0 c (Pipeline.withR (V0 m c) RR c (G c m h)) (fun w => (dats m h 0 c).arrAt w cfg0.N) (Proc.devRef .tc main_v5_1)) := by
    unfold fin
    show StableHlo.after hostOps1 _ (Proc.devRef .tc main_v6) = _
    after_results
  rw [e, Pipeline.withArrays_of_ne _ c _ _ main_v5_1 (by decide), Pipeline.withR_of_mem _ _ _ _ _ (by decide), G_1]
theorem fin_v7 : fin m h c main_v7 = (transpose S1080x8 [1, 0] · transposes_S8x1080_S1080x8_1_0) ((IV c m h).sc 1080) := by
  have e : fin m h c main_v7 = (transpose S1080x8 [1, 0] · transposes_S8x1080_S1080x8_1_0)
      (Pipeline.withArrays spec0 c (Pipeline.withR (V0 m c) RR c (G c m h)) (fun w => (dats m h 0 c).arrAt w cfg0.N) (Proc.devRef .tc main_v5_3)) := by
    unfold fin
    show StableHlo.after hostOps1 _ (Proc.devRef .tc main_v7) = _
    after_results
  rw [e, Pipeline.withArrays_of_ne _ c _ _ main_v5_3 (by decide), Pipeline.withR_of_mem _ _ _ _ _ (by decide), G_3]

/-- The program's end: its results, its arguments unchanged, its semaphores at zero. -/
structure End (m : (ℓ : Loc nD τ sig) → Buf (Elt F) ℓ) (h : Ok m) (r : PUnit × MemSt nD τ sig (Elt F)) : Prop where
  v5_0 : ∀ c : Dev nD, r.2.mem ((c : Thread nD τ).loc main_v5_0) = glue fun j => (IK c m h).ch j 4
  v6 : ∀ c : Dev nD, r.2.mem ((c : Thread nD τ).loc main_v6) = (transpose S1080x8 [1, 0] · transposes_S8x1080_S1080x8_1_0) ((IK c m h).sc 1080)
  v5_2 : ∀ c : Dev nD, r.2.mem ((c : Thread nD τ).loc main_v5_2) = glue fun j => (IV c m h).ch j 4
  v7 : ∀ c : Dev nD, r.2.mem ((c : Thread nD τ).loc main_v7) = (transpose S1080x8 [1, 0] · transposes_S8x1080_S1080x8_1_0) ((IV c m h).sc 1080)
  arg0 : ∀ c : Dev nD, r.2.mem ((c : Thread nD τ).loc main_arg0) = m ((c : Thread nD τ).loc main_arg0)
  arg1 : ∀ c : Dev nD, r.2.mem ((c : Thread nD τ).loc main_arg1) = m ((c : Thread nD τ).loc main_arg1)
  arg2 : ∀ c : Dev nD, r.2.mem ((c : Thread nD τ).loc main_arg2) = m ((c : Thread nD τ).loc main_arg2)
  arg3 : ∀ c : Dev nD, r.2.mem ((c : Thread nD τ).loc main_arg3) = m ((c : Thread nD τ).loc main_arg3)
  arg4 : ∀ c : Dev nD, r.2.mem ((c : Thread nD τ).loc main_arg4) = m ((c : Thread nD τ).loc main_arg4)
  arg5 : ∀ c : Dev nD, r.2.mem ((c : Thread nD τ).loc main_arg5) = m ((c : Thread nD τ).loc main_arg5)
  arg6 : ∀ c : Dev nD, r.2.mem ((c : Thread nD τ).loc main_arg6) = m ((c : Thread nD τ).loc main_arg6)
  arg7 : ∀ c : Dev nD, r.2.mem ((c : Thread nD τ).loc main_arg7) = m ((c : Thread nD τ).loc main_arg7)
  sem : r.2.sem = fun _ => 0

theorem run_end : θ_run defs (onTc (τ := τ) (main (F := F))) (s₀ m ρ) (End m h) :=
  (θ_run defs _ _).mono (fun r hh => {
    v5_0 := fun c => ((hh.1 c).2 main_v5_0 (Pipeline.mem_restRefs_of main_v5_0 (by decide) (by decide))).trans (fin_v5_0 m c h)
    v6 := fun c => ((hh.1 c).2 main_v6 (Pipeline.mem_restRefs_of main_v6 (by decide) (by decide))).trans (fin_v6 m c h)
    v5_2 := fun c => ((hh.1 c).2 main_v5_2 (Pipeline.mem_restRefs_of main_v5_2 (by decide) (by decide))).trans (fin_v5_2 m c h)
    v7 := fun c => ((hh.1 c).2 main_v7 (Pipeline.mem_restRefs_of main_v7 (by decide) (by decide))).trans (fin_v7 m c h)
    arg0 := fun c => ((hh.1 c).2 main_arg0 (Pipeline.mem_restRefs_of main_arg0 (by decide) (by decide))).trans ((fin_V m c h main_arg0 (by decide) (by decide) (by decide) (by decide)).trans (V_main_arg0 m c))
    arg1 := fun c => ((hh.1 c).2 main_arg1 (Pipeline.mem_restRefs_of main_arg1 (by decide) (by decide))).trans ((fin_V m c h main_arg1 (by decide) (by decide) (by decide) (by decide)).trans (V_main_arg1 m c))
    arg2 := fun c => ((hh.1 c).2 main_arg2 (Pipeline.mem_restRefs_of main_arg2 (by decide) (by decide))).trans ((fin_V m c h main_arg2 (by decide) (by decide) (by decide) (by decide)).trans (V_main_arg2 m c))
    arg3 := fun c => ((hh.1 c).2 main_arg3 (Pipeline.mem_restRefs_of main_arg3 (by decide) (by decide))).trans ((fin_V m c h main_arg3 (by decide) (by decide) (by decide) (by decide)).trans (V_main_arg3 m c))
    arg4 := fun c => ((hh.1 c).2 main_arg4 (Pipeline.mem_restRefs_of main_arg4 (by decide) (by decide))).trans ((fin_V m c h main_arg4 (by decide) (by decide) (by decide) (by decide)).trans (V_main_arg4 m c))
    arg5 := fun c => ((hh.1 c).1 1).trans (((dats m h 0 c).arrAt_in 1 rfl _).trans (V_main_arg5 m c))
    arg6 := fun c => ((hh.1 c).2 main_arg6 (Pipeline.mem_restRefs_of main_arg6 (by decide) (by decide))).trans ((fin_V m c h main_arg6 (by decide) (by decide) (by decide) (by decide)).trans (V_main_arg6 m c))
    arg7 := fun c => ((hh.1 c).2 main_arg7 (Pipeline.mem_restRefs_of main_arg7 (by decide) (by decide))).trans ((fin_V m c h main_arg7 (by decide) (by decide) (by decide) (by decide)).trans (V_main_arg7 m c))
    sem := hh.2 }) (run_main m ρ h)

end Cert.Kernel.Ends

end
-- ==== Proof.IdealWords.lean ====
/- The kernel's index computations in closed form: every offset, loop bound and condition as a number. -/
module

public import proofs.«01_k».proof.Proof.Gen.KernelIdeal.Skeleton
public import proofs.«01_k».proof.Proof.Arith

@[expose] public section

namespace Cert.KernelIdeal.Words

open Cert.KernelIdeal Cert.KernelIdeal.Gen Cert.Arith
open Idealize.ShloMosaic

theorem t1_trips : k0_t1_loop.trips = 1080 := by decide +kernel
theorem t2_trips : k0_t2_loop.trips = 48 := by decide +kernel
theorem t3_trips : k0_t3_loop.trips = 270 := by decide +kernel
theorem t4_trips : k0_t4_loop.trips = 4 := by decide +kernel
theorem t13_trips : k0_t13_loop.trips = 8 := by decide +kernel

theorem lt1 (k : Fin k0_t1_loop.trips) : k.val < 1080 := lt_of_lt_of_eq k.isLt t1_trips
theorem lt2 (k : Fin k0_t2_loop.trips) : k.val < 48 := lt_of_lt_of_eq k.isLt t2_trips
theorem lt3 (k : Fin k0_t3_loop.trips) : k.val < 270 := lt_of_lt_of_eq k.isLt t3_trips
theorem lt4 (k : Fin k0_t4_loop.trips) : k.val < 4 := lt_of_lt_of_eq k.isLt t4_trips
theorem lt13 (k : Fin k0_t13_loop.trips) : k.val < 8 := lt_of_lt_of_eq k.isLt t13_trips

theorem off4_eq (k : Fin k0_t1_loop.trips) : k0_off4 k = ![k.val] := by
  have := lt1 k
  simp only [k0_off4, iv_w 0, muli_one, addi_zero, Scalar.indexCast, Nat.zero_add, toNat_w k.val (by omega)]
theorem off5_eq (k : Fin k0_t2_loop.trips) : k0_off5 k = ![k.val] := by
  have := lt2 k
  simp only [k0_off5, iv_w 0, muli_one, addi_zero, Scalar.indexCast, Nat.zero_add, toNat_w k.val (by omega)]
theorem off6_eq (k : Fin k0_t2_loop.trips) (l : ℕ) (hl : l < 4608) : k0_off6 k (w l) = ![l / 256, k.val] := by
  have := lt2 k
  simp only [k0_off6, row_w l hl, iv_w 0, muli_one, addi_zero, Scalar.indexCast, Nat.zero_add, toNat_w k.val (by omega),
    toNat_w (l / 256) (by omega)]
theorem off7_eq (p : ℕ) (hp : p < 1080) : k0_off7 (w p) = ![p] := by
  simp only [k0_off7, Scalar.indexCast, toNat_w p (by omega)]
theorem off13_eq (b : ℕ) (hb : b < 48) : k0_off13 (w b) = ![b] := by
  simp only [k0_off13, Scalar.indexCast, toNat_w b (by omega)]
theorem off14_eq (b : ℕ) (hb : b < 48) : k0_off14 (w b) = ![b, 0, 0] := by
  simp only [k0_off14, Scalar.indexCast, toNat_w b (by omega), toNat_w 0 (by omega)]
theorem off30_eq (b : ℕ) (hb : b < 48) : k0_off30 (w b) = ![b, 0, 0] := by
  simp only [k0_off30, Scalar.indexCast, toNat_w b (by omega), toNat_w 0 (by omega)]

/-- The word of a page's number: four pages to a chunk. -/
theorem page_w (k : Fin k0_t3_loop.trips) (q : Fin k0_t4_loop.trips) :
    Scalar.addi (Scalar.muli (Scalar.addi 0#32 (Scalar.muli (Scf.iv 0#32 1#32 k) 1#32)) 4#32) (Scalar.addi 0#32 (Scalar.muli (Scf.iv 0#32 1#32 q) 1#32))
      = w (4 * k.val + q.val) := by
  simp only [iv_w 0, muli_one, addi_zero, muli_w, addi_w, Nat.zero_add, Nat.mul_comm]

theorem off8_eq (k : Fin k0_t3_loop.trips) : k0_off8 k = ![0, k.val % 24] := by
  have := lt3 k
  simp (disch := omega) only [k0_off8, iv_w, muli_one, addi_zero, muli_w, addi_w, Nat.zero_add, Scalar.indexCast, subi_w, remsi_w, toNat_w, Nat.mul_comm]
theorem off9_eq (k : Fin k0_t3_loop.trips) : k0_off9 k = ![k.val % 24, 0, 0, 0, 0] := by
  have := lt3 k
  simp (disch := omega) only [k0_off9, iv_w, muli_one, addi_zero, muli_w, addi_w, Nat.zero_add, Scalar.indexCast, subi_w, remsi_w, toNat_w, Nat.mul_comm]
theorem off10_eq (k : Fin k0_t3_loop.trips) : k0_off10 k = ![4 * k.val, 0, 0, 0] := by
  have := lt3 k
  simp (disch := omega) only [k0_off10, iv_w, muli_one, addi_zero, muli_w, addi_w, Nat.zero_add, Scalar.indexCast, subi_w, remsi_w, toNat_w, Nat.mul_comm]
theorem off11_eq (k : Fin k0_t3_loop.trips) : k0_off11 k = ![1, k.val % 24] := by
  have := lt3 k
  simp (disch := omega) only [k0_off11, iv_w, muli_one, addi_zero, muli_w, addi_w, Nat.zero_add, Scalar.indexCast, subi_w, remsi_w, toNat_w, Nat.mul_comm]
theorem off43_eq (k : Fin k0_t3_loop.trips) (h : 8 ≤ k.val) : k0_off43 k = ![0, (k.val - 8) % 24] := by
  have := lt3 k
  simp (disch := omega) only [k0_off43, iv_w, muli_one, addi_zero, muli_w, addi_w, Nat.zero_add, Scalar.indexCast, subi_w, remsi_w, toNat_w, Nat.mul_comm]
theorem off44_eq (k : Fin k0_t3_loop.trips) (h : 8 ≤ k.val) : k0_off44 k = ![4 * (k.val - 8), 0, 0, 0] := by
  have := lt3 k
  simp (disch := omega) only [k0_off44, iv_w, muli_one, addi_zero, muli_w, addi_w, Nat.zero_add, Scalar.indexCast, subi_w, remsi_w, toNat_w, Nat.mul_comm]
theorem off45_eq (k : Fin k0_t3_loop.trips) (h : 8 ≤ k.val) : k0_off45 k = ![(k.val - 8) % 24, 0, 0, 0, 0] := by
  have := lt3 k
  simp (disch := omega) only [k0_off45, iv_w, muli_one, addi_zero, muli_w, addi_w, Nat.zero_add, Scalar.indexCast, subi_w, remsi_w, toNat_w, Nat.mul_comm]
theorem off46_eq (k : Fin k0_t3_loop.trips) (h : 8 ≤ k.val) : k0_off46 k = ![1, (k.val - 8) % 24] := by
  have := lt3 k
  simp (disch := omega) only [k0_off46, iv_w, muli_one, addi_zero, muli_w, addi_w, Nat.zero_add, Scalar.indexCast, subi_w, remsi_w, toNat_w, Nat.mul_comm]
theorem off47_eq (k : Fin k0_t3_loop.trips) (h : 8 ≤ k.val) : k0_off47 k = ![0, (k.val - 8 + 24) % 24] := by
  have := lt3 k
  simp (disch := omega) only [k0_off47, iv_w, muli_one, addi_zero, muli_w, addi_w, Nat.zero_add, Scalar.indexCast, subi_w, remsi_w, toNat_w, Nat.mul_comm]
theorem off48_eq (k : Fin k0_t3_loop.trips) (h : 8 ≤ k.val) : k0_off48 k = ![(k.val - 8 + 24) % 24, 0, 0, 0, 0] := by
  have := lt3 k
  simp (disch := omega) only [k0_off48, iv_w, muli_one, addi_zero, muli_w, addi_w, Nat.zero_add, Scalar.indexCast, subi_w, remsi_w, toNat_w, Nat.mul_comm]
theorem off49_eq (k : Fin k0_t3_loop.trips) (h : 8 ≤ k.val) : k0_off49 k = ![4 * (k.val - 8 + 24), 0, 0, 0] := by
  have := lt3 k
  simp (disch := omega) only [k0_off49, iv_w, muli_one, addi_zero, muli_w, addi_w, Nat.zero_add, Scalar.indexCast, subi_w, remsi_w, toNat_w, Nat.mul_comm]
theorem off50_eq (k : Fin k0_t3_loop.trips) (h : 8 ≤ k.val) : k0_off50 k = ![1, (k.val - 8 + 24) % 24] := by
  have := lt3 k
  simp (disch := omega) only [k0_off50, iv_w, muli_one, addi_zero, muli_w, addi_w, Nat.zero_add, Scalar.indexCast, subi_w, remsi_w, toNat_w, Nat.mul_comm]
theorem off51_eq (k : Fin k0_t13_loop.trips) : k0_off51 k = ![0, (262 + k.val) % 24] := by
  have := lt13 k
  simp (disch := omega) only [k0_off51, iv_w, muli_one, addi_zero, muli_w, addi_w, Nat.zero_add, Scalar.indexCast, subi_w, remsi_w, toNat_w, Nat.mul_comm]
theorem off52_eq (k : Fin k0_t13_loop.trips) : k0_off52 k = ![4 * (262 + k.val), 0, 0, 0] := by
  have := lt13 k
  simp (disch := omega) only [k0_off52, iv_w, muli_one, addi_zero, muli_w, addi_w, Nat.zero_add, Scalar.indexCast, subi_w, remsi_w, toNat_w, Nat.mul_comm]
theorem off53_eq (k : Fin k0_t13_loop.trips) : k0_off53 k = ![(262 + k.val) % 24, 0, 0, 0, 0] := by
  have := lt13 k
  simp (disch := omega) only [k0_off53, iv_w, muli_one, addi_zero, muli_w, addi_w, Nat.zero_add, Scalar.indexCast, subi_w, remsi_w, toNat_w, Nat.mul_comm]
theorem off54_eq (k : Fin k0_t13_loop.trips) : k0_off54 k = ![1, (262 + k.val) % 24] := by
  have := lt13 k
  simp (disch := omega) only [k0_off54, iv_w, muli_one, addi_zero, muli_w, addi_w, Nat.zero_add, Scalar.indexCast, subi_w, remsi_w, toNat_w, Nat.mul_comm]
theorem off12_eq (k : Fin k0_t3_loop.trips) (q : Fin k0_t4_loop.trips) : k0_off12 k q = ![4 * k.val + q.val] := by
  have := lt3 k
  have := lt4 q
  simp (disch := omega) only [k0_off12, iv_w, muli_one, addi_zero, muli_w, addi_w, Nat.zero_add, Scalar.indexCast, subi_w, remsi_w, toNat_w, Nat.mul_comm]
theorem off15_eq (k : Fin k0_t3_loop.trips) (q : Fin k0_t4_loop.trips) : k0_off15 k q = ![k.val % 24, q.val, 0, 0, 0] := by
  have := lt3 k
  have := lt4 q
  simp (disch := omega) only [k0_off15, iv_w, muli_one, addi_zero, muli_w, addi_w, Nat.zero_add, Scalar.indexCast, subi_w, remsi_w, toNat_w, Nat.mul_comm]
theorem off18_eq (k : Fin k0_t3_loop.trips) (q : Fin k0_t4_loop.trips) : k0_off18 k q = ![k.val % 24, q.val, 0, 0, 0] := by
  have := lt3 k
  have := lt4 q
  simp (disch := omega) only [k0_off18, iv_w, muli_one, addi_zero, muli_w, addi_w, Nat.zero_add, Scalar.indexCast, subi_w, remsi_w, toNat_w, Nat.mul_comm]
theorem off21_eq (k : Fin k0_t3_loop.trips) (q : Fin k0_t4_loop.trips) : k0_off21 k q = ![k.val % 24, q.val, 0, 0, 0] := by
  have := lt3 k
  have := lt4 q
  simp (disch := omega) only [k0_off21, iv_w, muli_one, addi_zero, muli_w, addi_w, Nat.zero_add, Scalar.indexCast, subi_w, remsi_w, toNat_w, Nat.mul_comm]
theorem off24_eq (k : Fin k0_t3_loop.trips) (q : Fin k0_t4_loop.trips) : k0_off24 k q = ![k.val % 24, q.val, 0, 0, 0] := by
  have := lt3 k
  have := lt4 q
  simp (disch := omega) only [k0_off24, iv_w, muli_one, addi_zero, muli_w, addi_w, Nat.zero_add, Scalar.indexCast, subi_w, remsi_w, toNat_w, Nat.mul_comm]
theorem off27_eq (k : Fin k0_t3_loop.trips) (q : Fin k0_t4_loop.trips) : k0_off27 k q = ![k.val % 24, q.val, 0, 0, 0] := by
  have := lt3 k
  have := lt4 q
  simp (disch := omega) only [k0_off27, iv_w, muli_one, addi_zero, muli_w, addi_w, Nat.zero_add, Scalar.indexCast, subi_w, remsi_w, toNat_w, Nat.mul_comm]
theorem off31_eq (k : Fin k0_t3_loop.trips) (q : Fin k0_t4_loop.trips) : k0_off31 k q = ![k.val % 24, q.val, 0, 0, 0] := by
  have := lt3 k
  have := lt4 q
  simp (disch := omega) only [k0_off31, iv_w, muli_one, addi_zero, muli_w, addi_w, Nat.zero_add, Scalar.indexCast, subi_w, remsi_w, toNat_w, Nat.mul_comm]
theorem off34_eq (k : Fin k0_t3_loop.trips) (q : Fin k0_t4_loop.trips) : k0_off34 k q = ![k.val % 24, q.val, 0, 0, 0] := by
  have := lt3 k
  have := lt4 q
  simp (disch := omega) only [k0_off34, iv_w, muli_one, addi_zero, muli_w, addi_w, Nat.zero_add, Scalar.indexCast, subi_w, remsi_w, toNat_w, Nat.mul_comm]
theorem off37_eq (k : Fin k0_t3_loop.trips) (q : Fin k0_t4_loop.trips) : k0_off37 k q = ![k.val % 24, q.val, 0, 0, 0] := by
  have := lt3 k
  have := lt4 q
  simp (disch := omega) only [k0_off37, iv_w, muli_one, addi_zero, muli_w, addi_w, Nat.zero_add, Scalar.indexCast, subi_w, remsi_w, toNat_w, Nat.mul_comm]
theorem off40_eq (k : Fin k0_t3_loop.trips) (q : Fin k0_t4_loop.trips) : k0_off40 k q = ![k.val % 24, q.val, 0, 0, 0] := by
  have := lt3 k
  have := lt4 q
  simp (disch := omega) only [k0_off40, iv_w, muli_one, addi_zero, muli_w, addi_w, Nat.zero_add, Scalar.indexCast, subi_w, remsi_w, toNat_w, Nat.mul_comm]
theorem cond1_eq (b : ℕ) (hb : b < 2 ^ 31) : k0_cond1 (w b) = 1#1 := by
  have h : Scalar.cmpi .sge (w b) 0#32 = 1#1 := Affine.sge_holds (w_isInt b hb) (w_isInt 0 (by omega)) (by omega)
  simp only [k0_cond1, h]
  decide
theorem cond1_none : ¬ k0_cond1 4294967295#32 = 1#1 := by decide
theorem cond2_iff (k : Fin k0_t3_loop.trips) : k0_cond2 k = 1#1 ↔ 8 ≤ k.val := by
  have h3 := lt3 k
  simp only [k0_cond2, iv_w, muli_one, addi_zero, Nat.zero_add]
  have h : ∀ n : Fin 270, Scalar.cmpi .ne (Scalar.extui (Scalar.cmpi .sge (Scalar.subi (w n) 8#32) 0#32)) 0#32 = 1#1 ↔ 8 ≤ n.val := by decide +kernel
  exact h ⟨k.val, h3⟩
theorem cond3_iff (k : Fin k0_t3_loop.trips) (h8 : 8 ≤ k.val) : k0_cond3 k = 1#1 ↔ k.val + 16 < 270 := by
  have h3 := lt3 k
  simp only [k0_cond3, iv_w, muli_one, addi_zero, Nat.zero_add]
  have h : ∀ n : Fin 270, 8 ≤ n.val → (Scalar.cmpi .ne (Scalar.extui (Scalar.cmpi .slt (Scalar.addi (Scalar.subi (w n) 8#32) 24#32) 270#32)) 0#32 = 1#1 ↔ n.val + 16 < 270) := by decide +kernel
  exact h ⟨k.val, h3⟩ h8
theorem rem_len (l : ℕ) (hl : l < 4608) : Scalar.remsi (w l) 256#32 = w (l % 256) := remsi_w l 256 (by omega) (by omega) (by omega)
theorem t5_eq (l : ℕ) (hl : l < 4608) : k0_t5_loop (w l) = ⟨w 0, w (l % 256 / 4 + 0), 1#32⟩ := by
  have hm := Nat.mod_lt l (show 0 < 256 by decide)
  simp (disch := omega) only [k0_t5_loop, rem_len l hl, mixed_w (l % 256) (Nat.mod_lt _ (by decide)), subi_zero, divsi_one, muli_one, addi_zero, show Scalar.subi 1#32 1#32 = w 0 from rfl, addi_w, subi_w]
  rw [Nat.zero_add]
theorem t5_trips (l : ℕ) (hl : l < 4608) : (k0_t5_loop (w l)).trips = l % 256 / 4 := by
  have hm := Nat.mod_lt l (show 0 < 256 by decide)
  rw [t5_eq l hl]
  refine (trips_w 0 _ (by omega) (by omega)).trans (by omega)
theorem t5_okw (l : ℕ) (hl : l < 4608) : (k0_t5_loop (w l)).OK := by
  have hm := Nat.mod_lt l (show 0 < 256 by decide)
  rw [t5_eq l hl]
  exact ok_w 0 _ (by omega) (by omega)
theorem lt5 (l : ℕ) (hl : l < 4608) (t : Fin (k0_t5_loop (w l)).trips) : t.val < l % 256 / 4 := lt_of_lt_of_eq t.isLt (t5_trips l hl)
theorem t7_eq (l : ℕ) (hl : l < 4608) : k0_t7_loop (w l) = ⟨w 0, w (64 - (l % 256 / 4 + 1) + 0), 1#32⟩ := by
  have hm := Nat.mod_lt l (show 0 < 256 by decide)
  simp (disch := omega) only [k0_t7_loop, rem_len l hl, mixed_w (l % 256) (Nat.mod_lt _ (by decide)), subi_zero, divsi_one, muli_one, addi_zero, show Scalar.subi 1#32 1#32 = w 0 from rfl, addi_w, subi_w]
  rw [Nat.zero_add]
theorem t7_trips (l : ℕ) (hl : l < 4608) : (k0_t7_loop (w l)).trips = 63 - l % 256 / 4 := by
  have hm := Nat.mod_lt l (show 0 < 256 by decide)
  rw [t7_eq l hl]
  refine (trips_w 0 _ (by omega) (by omega)).trans (by omega)
theorem t7_okw (l : ℕ) (hl : l < 4608) : (k0_t7_loop (w l)).OK := by
  have hm := Nat.mod_lt l (show 0 < 256 by decide)
  rw [t7_eq l hl]
  exact ok_w 0 _ (by omega) (by omega)
theorem lt7 (l : ℕ) (hl : l < 4608) (t : Fin (k0_t7_loop (w l)).trips) : t.val < 63 - l % 256 / 4 := lt_of_lt_of_eq t.isLt (t7_trips l hl)
theorem t9_eq (l : ℕ) (hl : l < 4608) : k0_t9_loop (w l) = ⟨w 0, w (l % 256 / 4 + 0), 1#32⟩ := by
  have hm := Nat.mod_lt l (show 0 < 256 by decide)
  simp (disch := omega) only [k0_t9_loop, rem_len l hl, mixed_w (l % 256) (Nat.mod_lt _ (by decide)), subi_zero, divsi_one, muli_one, addi_zero, show Scalar.subi 1#32 1#32 = w 0 from rfl, addi_w, subi_w]
  rw [Nat.zero_add]
theorem t9_trips (l : ℕ) (hl : l < 4608) : (k0_t9_loop (w l)).trips = l % 256 / 4 := by
  have hm := Nat.mod_lt l (show 0 < 256 by decide)
  rw [t9_eq l hl]
  refine (trips_w 0 _ (by omega) (by omega)).trans (by omega)
theorem t9_okw (l : ℕ) (hl : l < 4608) : (k0_t9_loop (w l)).OK := by
  have hm := Nat.mod_lt l (show 0 < 256 by decide)
  rw [t9_eq l hl]
  exact ok_w 0 _ (by omega) (by omega)
theorem lt9 (l : ℕ) (hl : l < 4608) (t : Fin (k0_t9_loop (w l)).trips) : t.val < l % 256 / 4 := lt_of_lt_of_eq t.isLt (t9_trips l hl)
theorem t11_eq (l : ℕ) (hl : l < 4608) : k0_t11_loop (w l) = ⟨w 0, w (64 - (l % 256 / 4 + 1) + 0), 1#32⟩ := by
  have hm := Nat.mod_lt l (show 0 < 256 by decide)
  simp (disch := omega) only [k0_t11_loop, rem_len l hl, mixed_w (l % 256) (Nat.mod_lt _ (by decide)), subi_zero, divsi_one, muli_one, addi_zero, show Scalar.subi 1#32 1#32 = w 0 from rfl, addi_w, subi_w]
  rw [Nat.zero_add]
theorem t11_trips (l : ℕ) (hl : l < 4608) : (k0_t11_loop (w l)).trips = 63 - l % 256 / 4 := by
  have hm := Nat.mod_lt l (show 0 < 256 by decide)
  rw [t11_eq l hl]
  refine (trips_w 0 _ (by omega) (by omega)).trans (by omega)
theorem t11_okw (l : ℕ) (hl : l < 4608) : (k0_t11_loop (w l)).OK := by
  have hm := Nat.mod_lt l (show 0 < 256 by decide)
  rw [t11_eq l hl]
  exact ok_w 0 _ (by omega) (by omega)
theorem lt11 (l : ℕ) (hl : l < 4608) (t : Fin (k0_t11_loop (w l)).trips) : t.val < 63 - l % 256 / 4 := lt_of_lt_of_eq t.isLt (t11_trips l hl)
theorem t6_trips (v : BitVec 32) : (k0_t6_loop v).trips = 0 := Scf.rem_trips _ _
theorem t8_trips (v : BitVec 32) : (k0_t8_loop v).trips = 0 := Scf.rem_trips _ _
theorem t10_trips (v : BitVec 32) : (k0_t10_loop v).trips = 0 := Scf.rem_trips _ _
theorem t12_trips (v : BitVec 32) : (k0_t12_loop v).trips = 0 := Scf.rem_trips _ _
theorem off16_eq (l : ℕ) (hl : l < 4608) (t : Fin (k0_t5_loop (w l)).trips) : k0_off16 (w l) t = ![4 * (t.val), 0, 0] := by
  have hm := Nat.mod_lt l (show 0 < 256 by decide)
  have ht := lt5 l hl t
  simp only [k0_off16, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off17_eq (k : Fin k0_t3_loop.trips) (q : Fin k0_t4_loop.trips) (l : ℕ) (hl : l < 4608) (t : Fin (k0_t5_loop (w l)).trips) :
    k0_off17 k q (w l) t = ![k.val % 24, q.val, 4 * (t.val), 0, 0] := by
  have := lt3 k
  have := lt4 q
  have hm := Nat.mod_lt l (show 0 < 256 by decide)
  have ht := lt5 l hl t
  simp only [k0_off17, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off32_eq (l : ℕ) (hl : l < 4608) (t : Fin (k0_t9_loop (w l)).trips) : k0_off32 (w l) t = ![4 * (t.val), 0, 0] := by
  have hm := Nat.mod_lt l (show 0 < 256 by decide)
  have ht := lt9 l hl t
  simp only [k0_off32, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off33_eq (k : Fin k0_t3_loop.trips) (q : Fin k0_t4_loop.trips) (l : ℕ) (hl : l < 4608) (t : Fin (k0_t9_loop (w l)).trips) :
    k0_off33 k q (w l) t = ![k.val % 24, q.val, 4 * (t.val), 0, 0] := by
  have := lt3 k
  have := lt4 q
  have hm := Nat.mod_lt l (show 0 < 256 by decide)
  have ht := lt9 l hl t
  simp only [k0_off33, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off25_eq (l : ℕ) (hl : l < 4608) (t : Fin (k0_t7_loop (w l)).trips) : k0_off25 (w l) t = ![4 * (l % 256 / 4 + 1 + t.val), 0, 0] := by
  have hm := Nat.mod_lt l (show 0 < 256 by decide)
  have ht := lt7 l hl t
  simp only [k0_off25, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off26_eq (k : Fin k0_t3_loop.trips) (q : Fin k0_t4_loop.trips) (l : ℕ) (hl : l < 4608) (t : Fin (k0_t7_loop (w l)).trips) :
    k0_off26 k q (w l) t = ![k.val % 24, q.val, 4 * (l % 256 / 4 + 1 + t.val), 0, 0] := by
  have := lt3 k
  have := lt4 q
  have hm := Nat.mod_lt l (show 0 < 256 by decide)
  have ht := lt7 l hl t
  simp only [k0_off26, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off38_eq (l : ℕ) (hl : l < 4608) (t : Fin (k0_t11_loop (w l)).trips) : k0_off38 (w l) t = ![4 * (l % 256 / 4 + 1 + t.val), 0, 0] := by
  have hm := Nat.mod_lt l (show 0 < 256 by decide)
  have ht := lt11 l hl t
  simp only [k0_off38, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off39_eq (k : Fin k0_t3_loop.trips) (q : Fin k0_t4_loop.trips) (l : ℕ) (hl : l < 4608) (t : Fin (k0_t11_loop (w l)).trips) :
    k0_off39 k q (w l) t = ![k.val % 24, q.val, 4 * (l % 256 / 4 + 1 + t.val), 0, 0] := by
  have := lt3 k
  have := lt4 q
  have hm := Nat.mod_lt l (show 0 < 256 by decide)
  have ht := lt11 l hl t
  simp only [k0_off39, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off22_eq (l : ℕ) (hl : l < 4608) : k0_off22 (w l) = ![4 * (l % 256 / 4), 0, 0] := by
  have hm := Nat.mod_lt l (show 0 < 256 by decide)
  simp only [k0_off22, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
theorem off23_eq (k : Fin k0_t3_loop.trips) (q : Fin k0_t4_loop.trips) (l : ℕ) (hl : l < 4608) :
    k0_off23 k q (w l) = ![k.val % 24, q.val, 4 * (l % 256 / 4), 0, 0] := by
  have := lt3 k
  have := lt4 q
  have hm := Nat.mod_lt l (show 0 < 256 by decide)
  simp only [k0_off23, rem_len l hl, mixed_w (l % 256) (Nat.mod_lt _ (by decide)), subi_zero, divsi_one, muli_one, addi_zero]
  simp (disch := omega) only [iv_w, muli_one, addi_zero, muli_w, addi_w, Nat.zero_add, Scalar.indexCast, subi_w, remsi_w, toNat_w, Nat.mul_comm]
/-- Four whole rows of a page, at any page of the ring, are whole packed words. -/
theorem packed_ring (off : Fin 5 → ℕ) (hinb : ∀ a, off a + S1x1x4x8x128.size a ≤ S24x4x256x8x128.size a) (h3 : off 3 = 0) (h4 : off 4 = 0) :
    (Rect.unit (s := S24x4x256x8x128) off S1x1x4x8x128.size hinb).PackedRows (EltTy.packing .i8) := by
  refine Or.inr ⟨by decide, rfl, Or.inr ⟨h3, rfl, rfl, h4, rfl⟩⟩

theorem chk1_of (k : Fin k0_t2_loop.trips) (l : ℕ) (hl : l < 4608) : k0_chk1 k (w l) := by
  have := lt2 k
  unfold k0_chk1
  rw [off6_eq k l hl]
  intro a
  fin_cases a
  · show l / 256 + 1 ≤ 18
    omega
  · show k.val + 1 ≤ 48
    omega
theorem chk2_of (p : ℕ) (hp : p < 1080) : k0_chk2 (w p) := by
  unfold k0_chk2
  rw [off7_eq p hp]
  intro a
  fin_cases a
  show p + 1 ≤ 1080
  omega
theorem tok_inb (b : ℕ) (hb : b < 48) : ∀ a, (![b, 0, 0] : Fin 3 → ℕ) a + S1x8x128.size a ≤ S48x8x128.size a := by
  intro a
  fin_cases a
  · show b + 1 ≤ 48
    omega
  · show 0 + 8 ≤ 8
    omega
  · show 0 + 128 ≤ 128
    omega
theorem chk3_of (b : ℕ) (hb : b < 48) : k0_chk3 (w b) := by
  refine ⟨fun _ => ?_, fun _ => ?_, fun _ => ?_⟩
  · rw [off13_eq b hb]
    intro a
    fin_cases a
    show b + 1 ≤ 48
    omega
  · rw [off14_eq b hb]; exact tok_inb b hb
  · rw [off30_eq b hb]; exact tok_inb b hb
theorem chk3_none : k0_chk3 4294967295#32 :=
  ⟨fun h => absurd h cond1_none, fun h => absurd h cond1_none, fun h => absurd h cond1_none⟩

theorem page_inb (g : ℕ) (hg : g < 64) : ∀ a, (![4 * g, 0, 0] : Fin 3 → ℕ) a + S4x8x128.size a ≤ S256x8x128.size a := by
  intro a
  fin_cases a
  · show 4 * g + 4 ≤ 256
    omega
  · show 0 + 8 ≤ 8
    omega
  · show 0 + 128 ≤ 128
    omega
theorem ring_inb (s q g : ℕ) (hs : s < 24) (hq : q < 4) (hg : g < 64) :
    ∀ a, (![s, q, 4 * g, 0, 0] : Fin 5 → ℕ) a + S1x1x4x8x128.size a ≤ S24x4x256x8x128.size a := by
  intro a
  fin_cases a
  · show s + 1 ≤ 24
    omega
  · show q + 1 ≤ 4
    omega
  · show 4 * g + 4 ≤ 256
    omega
  · show 0 + 8 ≤ 8
    omega
  · show 0 + 128 ≤ 128
    omega

theorem chk4_of (k : Fin k0_t3_loop.trips) (q : Fin k0_t4_loop.trips) (v : BitVec 32) (l : ℕ) (hl : l < 4608) : k0_chk4 k q v (w l) := by
  have hm := Nat.mod_lt l (show 0 < 256 by decide)
  have hk := Nat.mod_lt k.val (show 0 < 24 by decide)
  exact ⟨⟨fun _ => t5_okw l hl,
    fun t _ => by rw [off16_eq l hl t]; exact page_inb _ (by have := lt5 l hl t; omega),
    fun t _ => by rw [off17_eq k q l hl t]; exact ring_inb _ _ _ (by omega) (lt4 q) (by have := lt5 l hl t; omega),
    fun t _ hinb => packed_ring _ hinb (by rw [off17_eq k q l hl t]; rfl) (by rw [off17_eq k q l hl t]; rfl),
    fun _ => Scf.rem_ok _ _,
    fun t => (Scf.rem_no_trip _ _ t).elim,
    fun t => (Scf.rem_no_trip _ _ t).elim,
    fun t => (Scf.rem_no_trip _ _ t).elim,
    fun _ => by rw [off22_eq l hl]; exact page_inb _ (by omega),
    fun _ => by rw [off23_eq k q l hl]; exact ring_inb _ _ _ (by omega) (lt4 q) (by omega),
    fun _ hinb => packed_ring _ hinb (by rw [off23_eq k q l hl]; rfl) (by rw [off23_eq k q l hl]; rfl),
    fun _ => t7_okw l hl,
    fun t _ => by rw [off25_eq l hl t]; exact page_inb _ (by have := lt7 l hl t; omega),
    fun t _ => by rw [off26_eq k q l hl t]; exact ring_inb _ _ _ (by omega) (lt4 q) (by have := lt7 l hl t; omega),
    fun t _ hinb => packed_ring _ hinb (by rw [off26_eq k q l hl t]; rfl) (by rw [off26_eq k q l hl t]; rfl),
    fun _ => Scf.rem_ok _ _,
    fun t => (Scf.rem_no_trip _ _ t).elim,
    fun t => (Scf.rem_no_trip _ _ t).elim,
    fun t => (Scf.rem_no_trip _ _ t).elim,
    fun _ => t9_okw l hl,
    fun t _ => by rw [off32_eq l hl t]; exact page_inb _ (by have := lt9 l hl t; omega),
    fun t _ => by rw [off33_eq k q l hl t]; exact ring_inb _ _ _ (by omega) (lt4 q) (by have := lt9 l hl t; omega),
    fun t _ hinb => packed_ring _ hinb (by rw [off33_eq k q l hl t]; rfl) (by rw [off33_eq k q l hl t]; rfl),
    fun _ => Scf.rem_ok _ _,
    fun t => (Scf.rem_no_trip _ _ t).elim,
    fun t => (Scf.rem_no_trip _ _ t).elim,
    fun t => (Scf.rem_no_trip _ _ t).elim,
    fun _ => t11_okw l hl,
    fun t _ => by rw [off38_eq l hl t]; exact page_inb _ (by have := lt11 l hl t; omega),
    fun t _ => by rw [off39_eq k q l hl t]; exact ring_inb _ _ _ (by omega) (lt4 q) (by have := lt11 l hl t; omega),
    fun t _ hinb => packed_ring _ hinb (by rw [off39_eq k q l hl t]; rfl) (by rw [off39_eq k q l hl t]; rfl),
    fun _ => Scf.rem_ok _ _⟩,
    fun t => (Scf.rem_no_trip _ _ t).elim,
    fun t => (Scf.rem_no_trip _ _ t).elim,
    fun t => (Scf.rem_no_trip _ _ t).elim⟩

end Cert.KernelIdeal.Words
-- ==== Proof.IdealPieces.lean ====
/- The pieces of memory the kernel moves: chunks of the pools, slots of the rings, one page's rows of a slot. -/
module

public import proofs.«01_k».proof.Proof.IdealWords
public import Idealize.ShloMosaic.Lib.Ring
public import Idealize.ShloMosaic.Lib.Tactic
public import Idealize.ShloMosaic.Lib.ValueLayout

@[expose] public section

noncomputable section

namespace Cert.KernelIdeal.Pieces

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

/-- A pool: 1080 pages of 256 rows of 8 heads of 128 codes. -/
abbrev PoolM := Memref sig .tc .hbm S1080x256x8x128 .i8
/-- A ring of 24 slots, each of four pages. -/
abbrev RingM := Memref sig .tc .vmem S24x4x256x8x128 .i8
/-- The codes of one chunk: four pages. -/
abbrev Chunk (F : FTy → Type) := S4x256x8x128.Idx → Elt F .i8

theorem blk_inb (j : ℕ) : ∀ a, (![4 * (j % 270), 0, 0, 0] : Fin 4 → ℕ) a + S4x256x8x128.size a ≤ S1080x256x8x128.size a := by
  have h : j % 270 < 270 := Nat.mod_lt _ (by decide)
  intro a; fin_cases a <;> simp <;> omega
theorem slot_inb (j : ℕ) : ∀ a, (![j % 24, 0, 0, 0, 0] : Fin 5 → ℕ) a + S1x4x256x8x128.size a ≤ S24x4x256x8x128.size a := by
  have h : j % 24 < 24 := Nat.mod_lt _ (by decide)
  intro a; fin_cases a <;> simp <;> omega

/-- Chunk `j` of a pool. -/
def blk (P : PoolM) (j : ℕ) : Memref sig .tc .hbm S4x256x8x128 .i8 :=
  P.slice (Rect.unit (s := S1080x256x8x128) ![4 * (j % 270), 0, 0, 0] S4x256x8x128.size (blk_inb j)) (fun _ => rfl)
/-- The ring's slot of chunk `j`. -/
def slot (R : RingM) (j : ℕ) : Memref sig .tc .vmem S4x256x8x128 .i8 :=
  (R.slice (Rect.unit (s := S24x4x256x8x128) ![j % 24, 0, 0, 0, 0] S1x4x256x8x128.size (slot_inb j)) (fun _ => rfl)).squeeze S4x256x8x128 squeezes_S1x4x256x8x128_S4x256x8x128

theorem cell_inb (h : Fin 2) (j : ℕ) : ∀ a, (![h.val, j % 24] : Fin 2 → ℕ) a + S1x1.size a ≤ S2x24.size a := by
  have h' : j % 24 < 24 := Nat.mod_lt _ (by decide)
  have := h.isLt
  intro a; fin_cases a <;> simp <;> omega
/-- The semaphore of row `h` of chunk `j`'s slot. -/
def cell (A : DmaSems sig S2x24) (h : Fin 2) (j : ℕ) : SemLoc sig :=
  .dma ((A.slice (Rect.unit (s := S2x24) ![h.val, j % 24] S1x1.size (cell_inb h j))).squeeze S_ squeezes_S1x1_S_).sem

/-- A memref holds `x`. -/
def holds (c : Thread nD τ) {sp : Space} {s : Shape} {e : EltTy} (m : Memref sig c.2.kind sp s e) (x : s.Idx → Elt F e) : sProp 𝕄 :=
  m.view.loc c ↦[m.view.set]{fullShare} m.view.rep x

/-- A write of a whole memref leaves the values written. -/
theorem pt_write {c : Thread nD τ} {sp : Space} {s : Shape} {e : EltTy} (m : Memref sig c.2.kind sp s e) (f : Buf (Elt F) (m.view.loc c)) (x : s.Idx → Elt F e) :
    (m.view.loc c ↦[m.view.set]{fullShare} m.view.write (Elt F) f x Finset.univ : sProp 𝕄) = holds c m x := by
  refine pointsTo_congr fun i hi => ?_
  obtain ⟨y, -, rfl⟩ := Finset.mem_map.mp hi
  rw [View.rep_emb, View.write_emb_of_mem _ _ (Finset.mem_univ _)]

variable (c : Dev nD)

/-- A copy between two memrefs is under way: on arrival the target holds what the source holds. -/
theorem issue {sp sp' : Space} {s : Shape} {e : EltTy} {src : Memref sig .tc sp s e} {dst : Memref sig .tc sp' s e} {sm : SemLoc sig}
    {hsrc : src.view.WordExact} {hdst : (DmaTarget.here (nD := nD) (τ := τ) (p := .tc) dst).view.WordExact} {hsem : DmaTarget.Typed (nD := nD) (τ := τ) (p := .tc) sp sm (.here dst)}
    {α : Type} {k : PUnit → Prog (TpuEff nD τ sig (Elt F) Λ₀ .tc) α} {Q : α → sProp 𝕄}
    (hN0 : 0 < dst.view.amount sm) (x y : s.Idx → Elt F e) :
    iprop(holds (c : Thread nD τ) src x ∗ holds (c : Thread nD τ) dst y ∗ semVal ((c : Thread nD τ), sm) 0)
      ⊢ iprop((Transfers.Flight countersEmb (c : Thread nD τ) sm () (dst.view.amount sm) iprop(holds (c : Thread nD τ) dst x ∗ holds (c : Thread nD τ) src x)
          -∗ wp frame (wpE (defs₀ (F := F)) 𝒱₀ (c : Thread nD τ) none) Set.univ (k ⟨⟩) Q)
        -∗ wp frame (wpE (defs₀ (F := F)) 𝒱₀ (c : Thread nD τ) none) Set.univ (Prog.lift (.enqueueDma src (.here dst) sm hsrc hdst hsem) >>= k) Q) := by
  have h := Transfers.wp_dmaLocal (defs := defs₀ (F := F)) countersEmb 𝒱₀ (c : Thread nD τ) none (Q := Q) (src := src) (via := .same) (dst := dst) (sm := sm) (hsrc := hsrc)
    (hdst := hdst) (hsem := hsem) (k := k) (q := fullShare) (fs := src.view.rep x) (Sd := dst.view.set) (fd := dst.view.rep y) () _ rfl hN0 (Finset.Subset.refl _)
  rw [pt_write, show ReadAs.same.apply (src.view.read (Elt F) (src.view.rep x)) = x from View.read_rep _ _] at h
  exact h

/-- The wait of a copy hands over what the copy delivers. -/
theorem await {sp sp' : Space} {s : Shape} {e : EltTy} {src : Memref sig .tc sp' s e} {dst : Memref sig .tc sp s e} {sm : DmaSem sig}
    {hsrc : src.view.WordExact} {hdst : dst.view.WordExact}
    {α : Type} {k : PUnit → Prog (TpuEff nD τ sig (Elt F) Λ₀ .tc) α} {Q : α → sProp 𝕄} (D : sProp 𝕄) (W : Waits sig Unit) :
    iprop(Transfers.Flight countersEmb (c : Thread nD τ) (.dma sm) () (dst.view.amount (.dma sm)) D ∗ owes (c : Thread nD τ) 0 W)
      ⊢ iprop((iprop(D ∗ semVal ((c : Thread nD τ), .dma sm) 0 ∗ ∃ W', owes (c : Thread nD τ) 0 W')
          -∗ wp frame (wpE (defs₀ (F := F)) 𝒱₀ (c : Thread nD τ) none) Set.univ (k ⟨⟩) Q)
        -∗ wp frame (wpE (defs₀ (F := F)) 𝒱₀ (c : Thread nD τ) none) Set.univ (Prog.lift (.waitDma2 sm src dst hsrc hdst) >>= k) Q) := by
  have H := Transfers.wp_waitLocal (defs := defs₀ (F := F)) countersEmb 𝒱₀ (c : Thread nD τ) none (k := k) (Q := Q) (sem := sm) (srcw := src) (dstw := dst) (hsrc := hsrc) (hdst := hdst)
    () (N := dst.view.amount (.dma sm)) rfl (D := D) (W := W)
  refine H.trans ?_
  iintro H1 Hk
  iapply H1
  iintro ⟨HD, Hs, Ho⟩
  iapply Hk
  isplitl [HD]; · iexact HD
  isplitl [Hs]; · iexact Hs
  iexists _
  iexact Ho

/-- A chunk of a pool moves some bytes. -/
theorem blk_amount_pos (P : PoolM) (j : ℕ) (s : DmaSem sig) : 0 < (blk P j).view.amount (.dma s) :=
  View.dmaCredit_pos _ (by decide +kernel)
/-- A slot of a ring moves some bytes. -/
theorem slot_amount_pos (P : RingM) (j : ℕ) (s : DmaSem sig) : 0 < (slot P j).view.amount (.dma s) :=
  View.dmaCredit_pos _ (by decide +kernel)

/-- Chunk `j`'s copy from a pool into its slot is under way. -/
def readF (P : PoolM) (R : RingM) (A : DmaSems sig S2x24) (h : Fin 2) (j : ℕ) (x : Chunk F) : sProp 𝕄 :=
  Transfers.Flight countersEmb (c : Thread nD τ) (cell A h j) () ((slot R j).view.amount (cell A h j)) iprop(holds (c : Thread nD τ) (slot R j) x ∗ holds (c : Thread nD τ) (blk P j) x)
/-- Chunk `j`'s copy from its slot into a pool is under way. -/
def writeF (R : RingM) (O : PoolM) (A : DmaSems sig S2x24) (h : Fin 2) (j : ℕ) (x : Chunk F) : sProp 𝕄 :=
  Transfers.Flight countersEmb (c : Thread nD τ) (cell A h j) () ((blk O j).view.amount (cell A h j)) iprop(holds (c : Thread nD τ) (blk O j) x ∗ holds (c : Thread nD τ) (slot R j) x)

section rules

variable {α : Type} {k : PUnit → Prog (TpuEff nD τ sig (Elt F) Λ₀ .tc) α} {P : PoolM} {R : RingM} {A : DmaSems sig S2x24}
  {ob : Fin 4 → ℕ} {os : Fin 5 → ℕ} {oc : Fin 2 → ℕ}
  {ib : ∀ a, ob a + S4x256x8x128.size a ≤ S1080x256x8x128.size a} {is : ∀ a, os a + S1x4x256x8x128.size a ≤ S24x4x256x8x128.size a}
  {ic : ∀ a, oc a + S1x1.size a ≤ S2x24.size a}

theorem issue_read {Q : α → sProp 𝕄} (h : Fin 2) (j : ℕ) (hob : ob = ![4 * (j % 270), 0, 0, 0]) (hos : os = ![j % 24, 0, 0, 0, 0]) (hoc : oc = ![h.val, j % 24]) (x y : Chunk F) {e1 e2 e3} :
    iprop(holds (c : Thread nD τ) (blk P j) x ∗ holds (c : Thread nD τ) (slot R j) y ∗ semVal ((c : Thread nD τ), cell A h j) 0)
      ⊢ iprop((readF c P R A h j x -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.enqueueDma (P.slice (Rect.unit (s := S1080x256x8x128) ob S4x256x8x128.size ib) (fun _ => rfl))
            (.here ((R.slice (Rect.unit (s := S24x4x256x8x128) os S1x4x256x8x128.size is) (fun _ => rfl)).squeeze S4x256x8x128 squeezes_S1x4x256x8x128_S4x256x8x128))
            (.dma ((A.slice (Rect.unit (s := S2x24) oc S1x1.size ic)).squeeze S_ squeezes_S1x1_S_).sem) e1 e2 e3) >>= k) Q) := by
  subst hob hos hoc
  exact issue c (src := blk P j) (dst := slot R j) (slot_amount_pos R j _) x y

theorem issue_write {Q : α → sProp 𝕄} (h : Fin 2) (j : ℕ) (hob : ob = ![4 * (j % 270), 0, 0, 0]) (hos : os = ![j % 24, 0, 0, 0, 0]) (hoc : oc = ![h.val, j % 24]) (x y : Chunk F) {e1 e2 e3} :
    iprop(holds (c : Thread nD τ) (slot R j) x ∗ holds (c : Thread nD τ) (blk P j) y ∗ semVal ((c : Thread nD τ), cell A h j) 0)
      ⊢ iprop((writeF c R P A h j x -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.enqueueDma ((R.slice (Rect.unit (s := S24x4x256x8x128) os S1x4x256x8x128.size is) (fun _ => rfl)).squeeze S4x256x8x128 squeezes_S1x4x256x8x128_S4x256x8x128)
            (.here (P.slice (Rect.unit (s := S1080x256x8x128) ob S4x256x8x128.size ib) (fun _ => rfl)))
            (.dma ((A.slice (Rect.unit (s := S2x24) oc S1x1.size ic)).squeeze S_ squeezes_S1x1_S_).sem) e1 e2 e3) >>= k) Q) := by
  subst hob hos hoc
  exact issue c (src := slot R j) (dst := blk P j) (blk_amount_pos P j _) x y

theorem await_read {Q : α → sProp 𝕄} (h : Fin 2) (j : ℕ) (hob : ob = ![4 * (j % 270), 0, 0, 0]) (hos : os = ![j % 24, 0, 0, 0, 0]) (hoc : oc = ![h.val, j % 24]) (x : Chunk F) (W : Waits sig Unit) {e1 e2} :
    iprop(readF c P R A h j x ∗ owes (c : Thread nD τ) 0 W)
      ⊢ iprop((iprop((holds (c : Thread nD τ) (slot R j) x ∗ holds (c : Thread nD τ) (blk P j) x) ∗ semVal ((c : Thread nD τ), cell A h j) 0 ∗ ∃ W', owes (c : Thread nD τ) 0 W')
          -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.waitDma2 ((A.slice (Rect.unit (s := S2x24) oc S1x1.size ic)).squeeze S_ squeezes_S1x1_S_).sem
            (P.slice (Rect.unit (s := S1080x256x8x128) ob S4x256x8x128.size ib) (fun _ => rfl))
            ((R.slice (Rect.unit (s := S24x4x256x8x128) os S1x4x256x8x128.size is) (fun _ => rfl)).squeeze S4x256x8x128 squeezes_S1x4x256x8x128_S4x256x8x128) e1 e2) >>= k) Q) := by
  subst hob hos hoc
  have H := await (k := k) (Q := Q) c (src := blk P j) (dst := slot R j) (sm := ((A.slice (Rect.unit (s := S2x24) ![h.val, j % 24] S1x1.size (cell_inb h j))).squeeze S_ squeezes_S1x1_S_).sem)
    (hsrc := e1) (hdst := e2) (D := iprop(holds (c : Thread nD τ) (slot R j) x ∗ holds (c : Thread nD τ) (blk P j) x)) W
  exact H

theorem await_write {Q : α → sProp 𝕄} (h : Fin 2) (j : ℕ) (hob : ob = ![4 * (j % 270), 0, 0, 0]) (hos : os = ![j % 24, 0, 0, 0, 0]) (hoc : oc = ![h.val, j % 24]) (x : Chunk F) (W : Waits sig Unit) {e1 e2} :
    iprop(writeF c R P A h j x ∗ owes (c : Thread nD τ) 0 W)
      ⊢ iprop((iprop((holds (c : Thread nD τ) (blk P j) x ∗ holds (c : Thread nD τ) (slot R j) x) ∗ semVal ((c : Thread nD τ), cell A h j) 0 ∗ ∃ W', owes (c : Thread nD τ) 0 W')
          -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.waitDma2 ((A.slice (Rect.unit (s := S2x24) oc S1x1.size ic)).squeeze S_ squeezes_S1x1_S_).sem
            ((R.slice (Rect.unit (s := S24x4x256x8x128) os S1x4x256x8x128.size is) (fun _ => rfl)).squeeze S4x256x8x128 squeezes_S1x4x256x8x128_S4x256x8x128)
            (P.slice (Rect.unit (s := S1080x256x8x128) ob S4x256x8x128.size ib) (fun _ => rfl)) e1 e2) >>= k) Q) := by
  subst hob hos hoc
  have H := await (k := k) (Q := Q) c (src := slot R j) (dst := blk P j) (sm := ((A.slice (Rect.unit (s := S2x24) ![h.val, j % 24] S1x1.size (cell_inb h j))).squeeze S_ squeezes_S1x1_S_).sem)
    (hsrc := e1) (hdst := e2) (D := iprop(holds (c : Thread nD τ) (blk P j) x ∗ holds (c : Thread nD τ) (slot R j) x)) W
  exact H

end rules

/-! ## One page of a slot, and four rows of it -/

theorem reshapeEquiv_ix4_1abcd {a b d e : ℕ} (h : (⟨4, ![a, b, d, e]⟩ : Shape).numel = (⟨5, ![1, a, b, d, e]⟩ : Shape).numel)
    (x : Fin a) (y : Fin b) (z : Fin d) (w : Fin e) :
    Shape.reshapeEquiv h (ix4 x y z w) = ix5 (⟨0, Nat.one_pos⟩ : Fin 1) x y z w :=
  Shape.reshapeEquiv_eq_of_rowMajor h (by
    rw [Shape.rowMajor_val_five, Shape.rowMajor_val_four]
    show ((((0 * a + x.val) * b + y.val) * d + z.val) * e + w.val) = ((x.val * b + y.val) * d + z.val) * e + w.val
    simp only [Nat.zero_mul, Nat.zero_add])

/-- The slot's element of page `q`, row `r`. -/
theorem slot_emb (R : RingM) (j : ℕ) (x : Fin 4) (y : Fin 256) (z : Fin 8) (w : Fin 128) :
    (slot R j).view.emb (ix4 x y z w) = R.view.emb (ix5 (⟨j % 24, Nat.mod_lt _ (by decide)⟩ : Fin 24) x y z w) := by
  show R.view.emb ((Rect.unit (s := S24x4x256x8x128) ![j % 24, 0, 0, 0, 0] S1x4x256x8x128.size (slot_inb j)).emb (Shape.reshapeEquiv _ (ix4 x y z w))) = _
  rw [reshapeEquiv_ix4_1abcd]
  congr 1
  funext a
  apply Fin.ext
  rw [Rect.emb_apply]
  fin_cases a <;> simp [Rect.unit]

/-- The rows `4 g … 4 g + 3` of page `q`, as a load of them reads a chunk. -/
def getG (x : Chunk F) (q : Fin 4) (g : Fin 64) : S4x8x128.Idx → Elt F .i8 :=
  fun y => x (ix4 q (⟨4 * g.val + (y 0).val, by have h : (y 0).val < 4 := (y 0).isLt; omega⟩ : Fin 256) (y 1) (y 2))
/-- A chunk whose rows `4 g … 4 g + 3` of page `q` are `w`. -/
def putG (x : Chunk F) (q : Fin 4) (g : Fin 64) (w : S1x1x4x8x128.Idx → Elt F .i8) : Chunk F :=
  fun y => if (y 0).val = q.val ∧ (y 1).val / 4 = g.val then
    w (ix5 (0 : Fin 1) (0 : Fin 1) (⟨(y 1).val % 4, Nat.mod_lt _ (by decide)⟩ : Fin 4) (y 2) (y 3)) else x y

theorem page_emb (R : RingM) (j : ℕ) (q : Fin 4) {op : Fin 5 → ℕ} {ip : ∀ a, op a + S1x1x256x8x128.size a ≤ S24x4x256x8x128.size a}
    (hop : op = ![j % 24, q.val, 0, 0, 0]) (y : Fin 256) (z : Fin 8) (w : Fin 128) :
    ((R.slice (Rect.unit (s := S24x4x256x8x128) op S1x1x256x8x128.size ip) (fun _ => rfl)).squeeze S256x8x128 squeezes_S1x1x256x8x128_S256x8x128).view.emb (ix3 y z w)
      = (slot R j).view.emb (ix4 q y z w) := by
  subst hop
  rw [slot_emb]
  show R.view.emb ((Rect.unit (s := S24x4x256x8x128) ![j % 24, q.val, 0, 0, 0] S1x1x256x8x128.size ip).emb (Shape.reshapeEquiv _ (ix3 y z w))) = _
  rw [reshapeEquiv_ix3_11abc]
  congr 1
  funext a
  apply Fin.ext
  rw [Rect.emb_apply]
  fin_cases a <;> simp [Rect.unit]

theorem ix3_eta (y : S256x8x128.Idx) : y = ix3 (y 0) (y 1) (y 2) := by
  funext a; fin_cases a <;> rfl
theorem ix4_eta (y : S4x256x8x128.Idx) : y = ix4 (y 0) (y 1) (y 2) (y 3) := by
  funext a; fin_cases a <;> rfl
theorem ix5_eta (y : S1x1x4x8x128.Idx) : y = ix5 (0 : Fin 1) (0 : Fin 1) (y 2) (y 3) (y 4) := by
  funext a; fin_cases a
  · exact Subsingleton.elim (α := Fin 1) _ _
  · exact Subsingleton.elim (α := Fin 1) _ _
  all_goals rfl

theorem cast_back {A B : Type} (h : A = B) (h' : B = A) (a : A) : cast h' (cast h a) = a := by
  subst h; rfl

section groups

variable {α : Type} {R : RingM}

/-- A load of four rows of a page reads them. -/
theorem load_group {Q : α → sProp 𝕄} {k : (S4x8x128.Idx → Elt F .i8) → Prog (TpuEff nD τ sig (Elt F) Λ₀ .tc) α} (j : ℕ) (q : Fin 4) (g : Fin 64) {op : Fin 5 → ℕ} {og : Fin 3 → ℕ}
    {ip : ∀ a, op a + S1x1x256x8x128.size a ≤ S24x4x256x8x128.size a} {ig : ∀ a, og a + S4x8x128.size a ≤ S256x8x128.size a}
    (hop : op = ![j % 24, q.val, 0, 0, 0]) (hog : og = ![4 * g.val, 0, 0]) (x : Chunk F) {e1} :
    holds (c : Thread nD τ) (slot R j) x
      ⊢ iprop((holds (c : Thread nD τ) (slot R j) x -∗ wp frame (wpE (defs₀ (F := F)) 𝒱₀ (c : Thread nD τ) none) Set.univ (k (getG x q g)) Q)
        -∗ wp frame (wpE (defs₀ (F := F)) 𝒱₀ (c : Thread nD τ) none) Set.univ
          (Prog.lift (.load ((R.slice (Rect.unit (s := S24x4x256x8x128) op S1x1x256x8x128.size ip) (fun _ => rfl)).squeeze S256x8x128 squeezes_S1x1x256x8x128_S256x8x128)
            (Rect.unit (s := S256x8x128) og S4x8x128.size ig).toLoadRect e1) >>= k) Q) := by
  have hS : ((R.slice (Rect.unit (s := S24x4x256x8x128) op S1x1x256x8x128.size ip) (fun _ => rfl)).squeeze S256x8x128 squeezes_S1x1x256x8x128_S256x8x128).view.setOn
      (Rect.unit (s := S256x8x128) og S4x8x128.size ig).toLoadRect.set ⊆ (slot R j).view.set := by
    intro i hi
    obtain ⟨z, -, rfl⟩ := Finset.mem_map.mp hi
    rw [ix3_eta z]
    erw [page_emb R j q hop]
    exact Finset.mem_map_of_mem _ (Finset.mem_univ _)
  have h := wp_load (defs := defs₀ (F := F)) (Γ := .empty) 𝒱₀ (c : Thread nD τ) none Set.univ (Q := Q) (k := k) (hl := e1) (q := fullShare) (f := (slot R j).view.rep x) hS
  refine h.trans ?_
  have hv : ((R.slice (Rect.unit (s := S24x4x256x8x128) op S1x1x256x8x128.size ip) (fun _ => rfl)).squeeze S256x8x128 squeezes_S1x1x256x8x128_S256x8x128).view.readAt (Elt F)
      (Rect.unit (s := S256x8x128) og S4x8x128.size ig).toLoadRect ((slot R j).view.rep x) = getG x q g := by
    funext y
    refine (View.read_apply _ _).trans ?_
    refine (congrArg (fun i => cast _ ((slot R j).view.rep x i)) ((congrArg _ (ix3_eta _)).trans (page_emb R j q hop _ _ _))).trans ?_
    refine (congrArg (cast _) (View.rep_emb _ _ _)).trans ?_
    refine (cast_back _ _ _).trans ?_
    subst hog
    unfold getG
    congr 1
    funext a
    apply Fin.ext
    fin_cases a <;> simp [Rect.unit, Rect.toLoadRect, LoadRect.idx]
  rw [hv]
  exact .rfl

/-- A store of four rows of a page leaves the chunk with them. -/
theorem store_group {Q : α → sProp 𝕄} {k : PUnit → Prog (TpuEff nD τ sig (Elt F) Λ₀ .tc) α} (j : ℕ) (q : Fin 4) (g : Fin 64) {og : Fin 5 → ℕ}
    {ig : ∀ a, og a + S1x1x4x8x128.size a ≤ S24x4x256x8x128.size a}
    (hog : og = ![j % 24, q.val, 4 * g.val, 0, 0]) (x : Chunk F) (w : S1x1x4x8x128.Idx → Elt F .i8) {e1 e2} :
    holds (c : Thread nD τ) (slot R j) x
      ⊢ iprop((holds (c : Thread nD τ) (slot R j) (putG x q g w) -∗ wp frame (wpE (defs₀ (F := F)) 𝒱₀ (c : Thread nD τ) none) Set.univ (k ⟨⟩) Q)
        -∗ wp frame (wpE (defs₀ (F := F)) 𝒱₀ (c : Thread nD τ) none) Set.univ
          (Prog.lift (.store R (Rect.unit (s := S24x4x256x8x128) og S1x1x4x8x128.size ig) w Finset.univ e1 e2) >>= k) Q) := by
  have hemb : ∀ y : S1x1x4x8x128.Idx, (R.access (Rect.unit (s := S24x4x256x8x128) og S1x1x4x8x128.size ig)).emb y
      = (slot R j).view.emb (ix4 q (⟨4 * g.val + (y 2).val, by have h : (y 2).val < 4 := (y 2).isLt; omega⟩ : Fin 256) (y 3) (y 4)) := by
    intro y
    subst hog
    refine Eq.trans ?_ (slot_emb R j q (⟨4 * g.val + (y 2).val, by have h : (y 2).val < 4 := (y 2).isLt; omega⟩ : Fin 256) (y 3) (y 4)).symm
    show R.view.emb _ = _
    congr 1
    funext a
    apply Fin.ext
    rw [Rect.emb_apply]
    have h0 : (y 0).val = 0 := Nat.lt_one_iff.1 (y 0).isLt
    have h1 : (y 1).val = 0 := Nat.lt_one_iff.1 (y 1).isLt
    fin_cases a <;> simp [Rect.unit, h0, h1]
  have hS : (R.access (Rect.unit (s := S24x4x256x8x128) og S1x1x4x8x128.size ig)).setOn Finset.univ ⊆ (slot R j).view.set := by
    intro i hi
    obtain ⟨y, -, rfl⟩ := Finset.mem_map.mp hi
    rw [hemb]
    exact Finset.mem_map_of_mem _ (Finset.mem_univ _)
  have h := wp_store (defs := defs₀ (F := F)) (Γ := .empty) 𝒱₀ (c : Thread nD τ) none Set.univ (Q := Q) (k := k) (hx := e1) (hm := e2) (w := w) (f := (slot R j).view.rep x) hS
  refine h.trans ?_
  have hv : ((R.access (Rect.unit (s := S24x4x256x8x128) og S1x1x4x8x128.size ig)).loc (c : Thread nD τ) ↦[(slot R j).view.set]{fullShare}
      (R.access (Rect.unit (s := S24x4x256x8x128) og S1x1x4x8x128.size ig)).write (Elt F) ((slot R j).view.rep x) w Finset.univ : sProp 𝕄)
      = holds (c : Thread nD τ) (slot R j) (putG x q g w) := by
    refine pointsTo_congr fun i hi => ?_
    obtain ⟨y, -, rfl⟩ := Finset.mem_map.mp hi
    erw [View.rep_emb]
    by_cases hy : (y 0).val = q.val ∧ (y 1).val / 4 = g.val
    · have hy' : (slot R j).view.emb y = (R.access (Rect.unit (s := S24x4x256x8x128) og S1x1x4x8x128.size ig)).emb
          (ix5 (0 : Fin 1) (0 : Fin 1) (⟨(y 1).val % 4, Nat.mod_lt _ (by decide)⟩ : Fin 4) (y 2) (y 3)) := by
        rw [hemb]
        congr 1
        rw [ix4_eta y]
        funext a
        apply Fin.ext
        fin_cases a
        · exact hy.1
        · show (y 1).val = 4 * g.val + (y 1).val % 4
          omega
        all_goals rfl
      refine (congrArg (View.write (Elt F) (R.access (Rect.unit (s := S24x4x256x8x128) og S1x1x4x8x128.size ig)) ((slot R j).view.rep x) w Finset.univ) hy').trans
        ((View.write_emb_of_mem _ _ (Finset.mem_univ _)).trans ?_)
      simp only [putG, if_pos hy]
      rfl
    · refine (View.write_of_not_mem _ _ _ ?_).trans ?_
      · intro hm
        obtain ⟨z, -, hz⟩ := Finset.mem_map.mp hm
        rw [hemb] at hz
        have hz' := (slot R j).view.emb.injective hz
        apply hy
        rw [← hz']
        have h2 : (z 2).val < 4 := (z 2).isLt
        constructor
        · rfl
        · show (4 * g.val + (z 2).val) / 4 = g.val
          omega
      · refine (View.rep_emb _ _ _).trans ?_
        simp only [putG, if_neg hy]
  rw [hv]
  exact .rfl

end groups

end Cert.KernelIdeal.Pieces

end
-- ==== Proof.IdealCells.lean ====
/- Loads and stores of whole arrays, of one word and of one row, as they read and leave what a memref holds. -/
module

public import proofs.«01_k».proof.Proof.IdealPieces

@[expose] public section

noncomputable section

namespace Cert.KernelIdeal.Pieces

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (c : Dev nD)

section rules

variable {α : Type} {cs : CoreSpace} {s : Shape} {e : EltTy}

theorem unit_emb {off size : Fin s.rank → ℕ} {inb : ∀ a, off a + size a ≤ s.size a} (y : (Rect.unit (s := s) off size inb).shape.Idx) (a : Fin s.rank) :
    ((Rect.unit (s := s) off size inb).emb y a).val = off a + (y a).val := by
  rw [Rect.emb_apply]
  simp [Rect.unit]

/-- A load reads what the memref holds at the rectangle's indices. -/
theorem load_at {m : Memref sig .tc cs s e} {r : Rect s} {Q : α → sProp 𝕄} {k : (r.toLoadRect.shape.Idx → Elt F e) → Prog (TpuEff nD τ sig (Elt F) Λ₀ .tc) α} (x : s.Idx → Elt F e) (v : r.toLoadRect.shape.Idx → Elt F e)
    (hv : ∀ y, x (r.emb y) = v y) {e1 : m.view.LoadsAt r.toLoadRect} :
    holds (c : Thread nD τ) m x
      ⊢ iprop((holds (c : Thread nD τ) m x -∗ wp frame (wpE (defs₀ (F := F)) 𝒱₀ (c : Thread nD τ) none) Set.univ (k v) Q)
        -∗ wp frame (wpE (defs₀ (F := F)) 𝒱₀ (c : Thread nD τ) none) Set.univ (Prog.lift (.load m r.toLoadRect e1) >>= k) Q) := by
  have hS : m.view.setOn r.toLoadRect.set ⊆ m.view.set := by
    intro i hi
    obtain ⟨z, -, rfl⟩ := Finset.mem_map.mp hi
    exact Finset.mem_map_of_mem _ (Finset.mem_univ _)
  have h := wp_load (defs := defs₀ (F := F)) (Γ := .empty) 𝒱₀ (c : Thread nD τ) none Set.univ (Q := Q) (k := k) (hl := e1) (q := fullShare) (f := m.view.rep x) hS
  refine h.trans ?_
  have hv : m.view.readAt (Elt F) r.toLoadRect (m.view.rep x) = v := by
    funext y
    refine (View.read_apply _ _).trans ?_
    refine (congrArg (cast _) (View.rep_emb _ _ _)).trans ?_
    refine (cast_back _ _ _).trans ?_
    exact hv y
  rw [hv]
  exact .rfl

/-- A load of a word reads what the memref holds there. -/
theorem load_word {m : Memref sig .tc .smem s e} {off size : Fin s.rank → ℕ} {inb : ∀ a, off a + size a ≤ s.size a} {h1 hp}
    {Q : α → sProp 𝕄} {k : Elt F e → Prog (TpuEff nD τ sig (Elt F) Λ₀ .tc) α} (x : s.Idx → Elt F e)
    (i : s.Idx) (hi : ∀ a, off a = (i a).val) :
    holds (c : Thread nD τ) m x
      ⊢ iprop((holds (c : Thread nD τ) m x -∗ wp frame (wpE (defs₀ (F := F)) 𝒱₀ (c : Thread nD τ) none) Set.univ (k (x i)) Q)
        -∗ wp frame (wpE (defs₀ (F := F)) 𝒱₀ (c : Thread nD τ) none) Set.univ (smemLoad m (Rect.unit (s := s) off size inb) h1 hp >>= k) Q) := by
  have hz : ∀ y : (Rect.unit (s := s) off size inb).shape.Idx, (∀ a, (y a).val = 0) → (Rect.unit (s := s) off size inb).emb y = i := by
    intro y hy
    funext a
    apply Fin.ext
    rw [unit_emb, hi, hy]
    rfl
  have h := load_at (F := F) (Q := Q) (m := m) (r := Rect.unit (s := s) off size inb) c (k := fun f => k (f (Shape.Idx.first (h1.symm ▸ Nat.one_pos)))) x
    (fun y => x ((Rect.unit (s := s) off size inb).emb y)) (fun y => rfl) (e1 := View.loadsAt_rect (View.loads_smem_one hp h1))
  beta_reduce at h
  rw [hz _ (fun a => rfl)] at h
  exact h

/-- A store leaves the values stored at the rectangle's indices and the rest as it was. -/
theorem store_at {m : Memref sig .tc cs s e} {r : Rect s} {Q : α → sProp 𝕄} {k : PUnit → Prog (TpuEff nD τ sig (Elt F) Λ₀ .tc) α} (x : s.Idx → Elt F e)
    (w : r.shape.Idx → Elt F e) (x' : s.Idx → Elt F e) (hw : ∀ y, x' (r.emb y) = w y) (hx : ∀ i, (∀ y, r.emb y ≠ i) → x' i = x i) {e1 e2} :
    holds (c : Thread nD τ) m x
      ⊢ iprop((holds (c : Thread nD τ) m x' -∗ wp frame (wpE (defs₀ (F := F)) 𝒱₀ (c : Thread nD τ) none) Set.univ (k ⟨⟩) Q)
        -∗ wp frame (wpE (defs₀ (F := F)) 𝒱₀ (c : Thread nD τ) none) Set.univ (Prog.lift (.store m r w Finset.univ e1 e2) >>= k) Q) := by
  have hS : (m.access r).setOn Finset.univ ⊆ m.view.set := by
    intro i hi
    obtain ⟨y, -, rfl⟩ := Finset.mem_map.mp hi
    exact Finset.mem_map_of_mem _ (Finset.mem_univ _)
  have h := wp_store (defs := defs₀ (F := F)) (Γ := .empty) 𝒱₀ (c : Thread nD τ) none Set.univ (Q := Q) (k := k) (hx := e1) (hm := e2) (w := w) (f := m.view.rep x) hS
  refine h.trans ?_
  have hv : ((m.access r).loc (c : Thread nD τ) ↦[m.view.set]{fullShare} (m.access r).write (Elt F) (m.view.rep x) w Finset.univ : sProp 𝕄)
      = holds (c : Thread nD τ) m x' := by
    refine pointsTo_congr fun i hi => ?_
    obtain ⟨y, -, rfl⟩ := Finset.mem_map.mp hi
    erw [View.rep_emb]
    by_cases hy : ∃ z, r.emb z = y
    · obtain ⟨z, rfl⟩ := hy
      refine (View.write_emb_of_mem (v := m.access r) (x := z) _ _ (Finset.mem_univ z)).trans ?_
      rw [hw]
    · have hy' : ∀ z, r.emb z ≠ y := fun z hz => hy ⟨z, hz⟩
      refine (View.write_of_not_mem _ _ _ ?_).trans ?_
      · intro hm
        obtain ⟨z, -, hz⟩ := Finset.mem_map.mp hm
        exact hy' z (m.view.emb.injective hz)
      · refine (View.rep_emb _ _ _).trans ?_
        rw [hx y hy']
  rw [hv]
  exact .rfl

/-- A store of a word leaves it there. -/
theorem store_word {m : Memref sig .tc cs s e} {off size : Fin s.rank → ℕ} {inb : ∀ a, off a + size a ≤ s.size a}
    {Q : α → sProp 𝕄} {k : PUnit → Prog (TpuEff nD τ sig (Elt F) Λ₀ .tc) α} (x : s.Idx → Elt F e)
    (i : s.Idx) (hi : ∀ a, off a = (i a).val) (h1 : ∀ a, size a = 1) (v : Elt F e) {e1 e2} :
    holds (c : Thread nD τ) m x
      ⊢ iprop((holds (c : Thread nD τ) m (Function.update x i v) -∗ wp frame (wpE (defs₀ (F := F)) 𝒱₀ (c : Thread nD τ) none) Set.univ (k ⟨⟩) Q)
        -∗ wp frame (wpE (defs₀ (F := F)) 𝒱₀ (c : Thread nD τ) none) Set.univ (Prog.lift (.store m (Rect.unit (s := s) off size inb) (fun _ => v) Finset.univ e1 e2) >>= k) Q) := by
  have hz : ∀ y : (Rect.unit (s := s) off size inb).shape.Idx, (Rect.unit (s := s) off size inb).emb y = i := by
    intro y
    funext a
    apply Fin.ext
    have hlt : (y a).val < size a := (y a).isLt
    rw [unit_emb, hi]
    have := h1 a
    omega
  refine store_at c x (fun _ => v) (Function.update x i v) ?_ ?_
  · intro y
    rw [hz, Function.update_self]
  · intro j hj
    refine Function.update_of_ne ?_ _ _
    rintro rfl
    have hp : ∀ a : Fin s.rank, 0 < size a := fun a => by rw [h1]; exact Nat.one_pos
    exact hj (fun a => ⟨0, hp a⟩) (hz _)

/-- A store over the whole array of scales leaves the values stored. -/
theorem store_all {m : Memref sig .tc cs S8x1080 .f32} {inb : ∀ a, (![0, 0] : Fin 2 → ℕ) a + S8x1080.size a ≤ S8x1080.size a}
    {Q : α → sProp 𝕄} {k : PUnit → Prog (TpuEff nD τ sig (Elt F) Λ₀ .tc) α} (x w : S8x1080.Idx → Elt F .f32) {e1 e2} :
    holds (c : Thread nD τ) m x
      ⊢ iprop((holds (c : Thread nD τ) m w -∗ wp frame (wpE (defs₀ (F := F)) 𝒱₀ (c : Thread nD τ) none) Set.univ (k ⟨⟩) Q)
        -∗ wp frame (wpE (defs₀ (F := F)) 𝒱₀ (c : Thread nD τ) none) Set.univ (Prog.lift (.store m (Rect.unit (s := S8x1080) ![0, 0] S8x1080.size inb) w Finset.univ e1 e2) >>= k) Q) := by
  have hz : ∀ y : S8x1080.Idx, (Rect.unit (s := S8x1080) ![0, 0] S8x1080.size inb).emb y = y := by
    intro y
    funext a
    apply Fin.ext
    rw [unit_emb]
    fin_cases a <;> exact Nat.zero_add _
  refine store_at (r := Rect.unit (s := S8x1080) ![0, 0] S8x1080.size inb) c x w w ?_ ?_
  · intro y
    exact congrArg w (hz y)
  · intro j hj
    exact absurd (hz j) (hj j)

/-- A load of the whole array of scales reads what it holds. -/
theorem load_all {m : Memref sig .tc cs S8x1080 .f32} {inb : ∀ a, (![0, 0] : Fin 2 → ℕ) a + S8x1080.size a ≤ S8x1080.size a}
    {Q : α → sProp 𝕄} {k : (S8x1080.Idx → Elt F .f32) → Prog (TpuEff nD τ sig (Elt F) Λ₀ .tc) α} (x : S8x1080.Idx → Elt F .f32)
    {e1 : m.view.LoadsAt (Rect.unit (s := S8x1080) ![0, 0] S8x1080.size inb).toLoadRect} :
    holds (c : Thread nD τ) m x
      ⊢ iprop((holds (c : Thread nD τ) m x -∗ wp frame (wpE (defs₀ (F := F)) 𝒱₀ (c : Thread nD τ) none) Set.univ (k x) Q)
        -∗ wp frame (wpE (defs₀ (F := F)) 𝒱₀ (c : Thread nD τ) none) Set.univ (Prog.lift (.load m (Rect.unit (s := S8x1080) ![0, 0] S8x1080.size inb).toLoadRect e1) >>= k) Q) := by
  refine load_at (r := Rect.unit (s := S8x1080) ![0, 0] S8x1080.size inb) c x x ?_
  intro y
  congr 1
  funext a
  apply Fin.ext
  rw [unit_emb]
  fin_cases a <;> exact Nat.zero_add _

end rules

/-- Row `b` of the new tokens. -/
def tokRow (x : S48x8x128.Idx → Elt F .bf16) (b : Fin 48) : S1x8x128.Idx → Elt F .bf16 :=
  fun y => x (ix3 b (y 1) (y 2))

/-- A load of one token reads its row. -/
theorem load_tok {α : Type} {cs : CoreSpace} {m : Memref sig .tc cs S48x8x128 .bf16} {off : Fin 3 → ℕ} {inb : ∀ a, off a + S1x8x128.size a ≤ S48x8x128.size a}
    {Q : α → sProp 𝕄} {k : (S1x8x128.Idx → Elt F .bf16) → Prog (TpuEff nD τ sig (Elt F) Λ₀ .tc) α} (b : Fin 48) (hoff : off = ![b.val, 0, 0]) (x : S48x8x128.Idx → Elt F .bf16) {e1 : m.view.LoadsAt (Rect.unit (s := S48x8x128) off S1x8x128.size inb).toLoadRect} :
    holds (c : Thread nD τ) m x
      ⊢ iprop((holds (c : Thread nD τ) m x -∗ wp frame (wpE (defs₀ (F := F)) 𝒱₀ (c : Thread nD τ) none) Set.univ (k (tokRow x b)) Q)
        -∗ wp frame (wpE (defs₀ (F := F)) 𝒱₀ (c : Thread nD τ) none) Set.univ (Prog.lift (.load m (Rect.unit (s := S48x8x128) off S1x8x128.size inb).toLoadRect e1) >>= k) Q) := by
  subst hoff
  refine load_at (r := Rect.unit (s := S48x8x128) _ S1x8x128.size inb) c x (tokRow x b) ?_
  intro y
  unfold tokRow
  congr 1
  funext a
  apply Fin.ext
  have h0 : (y 0).val = 0 := Nat.lt_one_iff.1 (y 0).isLt
  rw [unit_emb]
  fin_cases a
  · show b.val + (y 0).val = b.val
    omega
  · exact Nat.zero_add _
  · exact Nat.zero_add _

end Cert.KernelIdeal.Pieces

end
-- ==== Proof.IdealModel.lean ====
/- What the kernel computes: the owner of each page, the scales page by page, the codes of each chunk. -/
module

public import proofs.«01_k».proof.Proof.IdealCells

@[expose] public section

noncomputable section

namespace Cert.KernelIdeal.Model

open Cert.KernelIdeal Cert.KernelIdeal.Gen Cert.KernelIdeal.Pieces Cert.KernelIdeal.Words Cert.Arith
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The rows of one page -/

/-- The offset of the appended row within its page. -/
abbrev off (l : ℕ) : BitVec 32 := Scalar.remsi (w l) 256#32

/-- The four rows `4 g …` of a page that has an owner of length `l`, from what they held: rescaled below the
    appended row's group, cleared above it, and in it the row appended. -/
def newG (l : ℕ) (tk : FVec F S8x128 .f32) (st sc : FVec F S1x8x128 .f32) (g : ℕ) (v : S4x8x128.Idx → Elt F .i8) : S1x1x4x8x128.Idx → Elt F .i8 :=
  if g < l % 256 / 4 then k0_pay8 st sc v
  else if g = l % 256 / 4 then
    k0_pay12 (off l) tk st sc (k0_pay10 (off l) 4#32 (Scalar.divsi (off l) 4#32) 0#32) (k0_pay11 (off l) 4#32 (Scalar.divsi (off l) 4#32) 0#32) v
  else k0_pay13 (F := F)

/-- A chunk whose first `n` groups of rows of page `q` are rewritten by `f`. -/
def upto (f : ℕ → (S4x8x128.Idx → Elt F .i8) → S1x1x4x8x128.Idx → Elt F .i8) (x : Chunk F) (q : Fin 4) (n : ℕ) : Chunk F :=
  fun y => if (y 0).val = q.val ∧ (y 1).val / 4 < n then
    f ((y 1).val / 4) (getG x q ⟨(y 1).val / 4, by have h : (y 1).val < 256 := (y 1).isLt; omega⟩)
      (ix5 (0 : Fin 1) (0 : Fin 1) (⟨(y 1).val % 4, Nat.mod_lt _ (by decide)⟩ : Fin 4) (y 2) (y 3)) else x y

variable (f : ℕ → (S4x8x128.Idx → Elt F .i8) → S1x1x4x8x128.Idx → Elt F .i8) (x : Chunk F) (q : Fin 4)

theorem upto_zero : upto f x q 0 = x := by
  funext y
  simp [upto]

/-- The groups not yet rewritten hold what they held. -/
theorem getG_upto (n : ℕ) (g : Fin 64) (h : n ≤ g.val) : getG (upto f x q n) q g = getG x q g := by
  funext y
  have hy : (y 0).val < 4 := (y 0).isLt
  unfold getG upto
  rw [if_neg]
  intro hh
  have h2 : (4 * g.val + (y 0).val) / 4 < n := hh.2
  omega

/-- Rewriting the next group. -/
theorem putG_upto (g : Fin 64) : putG (upto f x q g.val) q g (f g.val (getG x q g)) = upto f x q (g.val + 1) := by
  funext y
  unfold putG upto
  by_cases h0 : (y 0).val = q.val
  · by_cases h1 : (y 1).val / 4 = g.val
    · rw [if_pos ⟨h0, h1⟩, if_pos ⟨h0, by omega⟩]
      have hg : (⟨(y 1).val / 4, by have h : (y 1).val < 256 := (y 1).isLt; omega⟩ : Fin 64) = g := Fin.ext h1
      rw [hg, h1]
    · rw [if_neg (fun h => h1 h.2)]
      by_cases h2 : (y 1).val / 4 < g.val
      · rw [if_pos ⟨h0, h2⟩, if_pos ⟨h0, by omega⟩]
      · rw [if_neg (fun h => h2 h.2), if_neg (fun h => by have := h.2; omega)]
  · rw [if_neg (fun h => h0 h.1), if_neg (fun h => h0 h.1), if_neg (fun h => h0 h.1)]

/-! ## The pages in order -/

/-- The sequence appended to page `p`, the last of the first `n` that names it. -/
def ownAt (pg : ℕ → ℕ) : ℕ → ℕ → Option ℕ
  | 0, _ => none
  | n + 1, p => if pg n = p then some n else ownAt pg n p

theorem ownAt_lt (pg : ℕ → ℕ) (n p b : ℕ) (h : ownAt pg n p = some b) : b < n := by
  induction n with
  | zero => simp [ownAt] at h
  | succ n ih =>
    unfold ownAt at h
    split at h
    · simp only [Option.some.injEq] at h; omega
    · have := ih h; omega

/-- The word the kernel keeps for an owner. -/
def ownW (o : Option ℕ) : BitVec 32 := match o with
  | none => 4294967295#32
  | some b => w b

/-- What one pool's pages are computed from. -/
structure Inp (F : FTy → Type) where
  /-- the lengths of the sequences -/
  len : ℕ → ℕ
  hlen : ∀ b, len b < 4608
  /-- the page each sequence appends to -/
  pg : ℕ → ℕ
  hpg : ∀ b, pg b < 1080
  /-- the codes, chunk by chunk -/
  x : ℕ → Chunk F
  /-- the scales -/
  s : S8x1080.Idx → Elt F .f32
  /-- the appended tokens -/
  t : S48x8x128.Idx → Elt F .bf16

variable (I : Inp F)

/-- The owner of page `p`. -/
def Inp.own (p : ℕ) : Option ℕ := ownAt I.pg 48 p

theorem Inp.own_lt {p b : ℕ} (h : I.own p = some b) : b < 48 := ownAt_lt _ _ _ _ h

/-- The token of sequence `b`. -/
def Inp.tok (b : ℕ) : S1x8x128.Idx → Elt F .bf16 := tokRow I.t ⟨b % 48, Nat.mod_lt _ (by decide)⟩

/-- The scales after the first `p` pages. -/
def Inp.sc : ℕ → S8x1080.Idx → Elt F .f32
  | 0 => I.s
  | p + 1 => match I.own p with
    | none => Inp.sc p
    | some b => k0_pay5 (w p) (w (I.len b)) (Inp.sc p) (I.tok b)

/-- How page `p`, appended to by `b`, is rewritten. -/
def Inp.grp (p b : ℕ) : ℕ → (S4x8x128.Idx → Elt F .i8) → S1x1x4x8x128.Idx → Elt F .i8 :=
  newG (I.len b) (k0_pay3 (I.tok b)) (k0_pay6 (w p) (I.sc p)) (k0_pay7 (w p) (w (I.len b)) (I.sc p) (I.tok b))

/-- Chunk `k` after its first `q` pages. -/
def Inp.ch (k : ℕ) : ℕ → Chunk F
  | 0 => I.x k
  | q + 1 => match I.own (4 * k + q) with
    | none => Inp.ch k q
    | some b => upto (I.grp (4 * k + q) b) (Inp.ch k q) ⟨q % 4, Nat.mod_lt _ (by decide)⟩ 64

/-! ## The second pool's payloads are the first's -/

theorem pay22_eq (st sc : FVec F S1x8x128 .f32) (v : Vec F S4x8x128 .i8) : k0_pay22 st sc v = k0_pay8 st sc v := rfl
theorem pay29_eq : k0_pay29 (F := F) = k0_pay13 := rfl
theorem pay17_eq (v : Vec F S1x8x128 .bf16) : k0_pay17 v = k0_pay3 v := rfl
theorem pay20_eq (p : BitVec 32) (s : Vec F S8x1080 .f32) : k0_pay20 p s = k0_pay6 p s := rfl
theorem pay21_eq (p l : BitVec 32) (s : Vec F S8x1080 .f32) (t : Vec F S1x8x128 .bf16) : k0_pay21 p (Scalar.remsi l 256#32) s t = k0_pay7 p l s t := rfl
theorem pay19_eq (p l : BitVec 32) (s : Vec F S8x1080 .f32) (t : Vec F S1x8x128 .bf16) : k0_pay19 p (Scalar.remsi l 256#32) s t = k0_pay5 p l s t := rfl
theorem pay28_eq (o : BitVec 32) (tk : FVec F S8x128 .f32) (st sc : FVec F S1x8x128 .f32) (v : Vec F S4x8x128 .i8) :
    k0_pay28 tk sc (k0_pay24 o 4#32 (Scalar.divsi o 4#32) (Scalar.extui (Scalar.cmpi .sgt o 0#32)) (Scalar.cmpi .slt o 0#32))
      (k0_pay25 o 4#32 (Scalar.divsi o 4#32) (Scalar.extui (Scalar.cmpi .sgt o 0#32)) (Scalar.cmpi .slt o 0#32)) (k0_pay26 st v) (k0_pay27 o)
      = k0_pay12 o tk st sc (k0_pay10 o 4#32 (Scalar.divsi o 4#32) 0#32) (k0_pay11 o 4#32 (Scalar.divsi o 4#32) 0#32) v := rfl

end Cert.KernelIdeal.Model

end
-- ==== Proof.IdealPage.lean ====
/- The loops over the groups of four rows of one page. -/
module

public import proofs.«01_k».proof.Proof.IdealModel
public import Idealize.ShloMosaic.Lib.LoopRemainder
public import proofs.«01_k».proof.Proof.Gen.KernelIdeal.Loops

@[expose] public section

noncomputable section

namespace Cert.KernelIdeal.Page

open Cert.KernelIdeal Cert.KernelIdeal.Gen Cert.KernelIdeal.Pieces Cert.KernelIdeal.Words Cert.KernelIdeal.Model Cert.Arith
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

/-- A loop that makes no trip. -/
theorem skip {lb ub st : BitVec 32} {hok : Scf.OK lb ub st} {β : Type} {kk : Unit → Prog (TpuEff nD τ sig (Elt F) Λ₀ .tc) β}
    {body : Fin (Scf.trips lb ub st) → Unit → Prog (TpuEff nD τ sig (Elt F) Λ₀ .tc) Unit} {Q : β → sProp 𝕄} (h : Scf.trips lb ub st = 0) :
    wp frame (wpE (defs₀ (F := F)) 𝒱₀ (c : Thread nD τ) none) Set.univ (kk ()) Q
      ⊢ wp frame (wpE (defs₀ (F := F)) 𝒱₀ (c : Thread nD τ) none) Set.univ (Scf.for lb ub st hok () body >>= kk) Q := by
  rw [Scf.for_eq_ret _ _ _ hok _ _ h]
  exact .rfl

/-- The rows below the appended row's group. -/
theorem loop5 (k : Fin k0_t3_loop.trips) (q : Fin k0_t4_loop.trips) (l : ℕ) (hl : l < 4608) (tk : FVec F S8x128 .f32) (st sc : FVec F S1x8x128 .f32) (x : Chunk F)
    {v329 : Elt F .i32} {h1 : k0_cond1 v329 = 1#1} {hw4 : k0_chk4 k q v329 (w l)} {v335 c4 v373 c0 : BitVec 32} {hok : (k0_t5_loop (w l)).OK}
    {β : Type} {kk : Unit → Prog (TpuEff nD τ sig (Elt F) Λ₀ .tc) β} {Q : β → sProp 𝕄} :
    holds (c : Thread nD τ) (slot arg12 k) (x)
      ⊢ iprop((holds (c : Thread nD τ) (slot arg12 k) (upto (newG l tk st sc) x ⟨q.val, lt4 q⟩ (l % 256 / 4)) -∗ wp frame (wpE (defs₀ (F := F)) 𝒱₀ (c : Thread nD τ) none) Set.univ (kk ()) Q)
        -∗ wp frame (wpE (defs₀ (F := F)) 𝒱₀ (c : Thread nD τ) none) Set.univ (Scf.Loop.for (k0_t5_loop (w l)) hok ⟨⟩ (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v329 h1 (w l) hw4 v335 st sc c4 v373 c0) >>= kk) Q) := by
  have hm := Nat.mod_lt l (show 0 < 256 by decide)
  have h := Scf.wp_for_bind (M := 𝕄) frame (wpE (defs₀ (F := F)) 𝒱₀ (c : Thread nD τ) none) Set.univ (k0_t5_loop (w l)).lb (k0_t5_loop (w l)).ub (k0_t5_loop (w l)).st hok ()
    (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v329 h1 (w l) hw4 v335 st sc c4 v373 c0)
    (fun t _ => holds (c : Thread nD τ) (slot arg12 k) (upto (newG l tk st sc) x ⟨q.val, lt4 q⟩ (0 + t)))
    (by
      intro t acc
      have ht := lt5 l hl t
      have hg : 0 + t.val < 64 := by omega
      have hp := putG_upto (newG l tk st sc) x ⟨q.val, lt4 q⟩ ⟨0 + t.val, hg⟩
      have hgx := getG_upto (newG l tk st sc) x ⟨q.val, lt4 q⟩ (0 + t.val) ⟨0 + t.val, hg⟩ (Nat.le_refl _)
      simp only [] at hp
      have hn : newG l tk st sc (0 + t.val) (getG x ⟨q.val, lt4 q⟩ ⟨0 + t.val, hg⟩) = k0_pay8 st sc (getG x ⟨q.val, lt4 q⟩ ⟨0 + t.val, hg⟩) := by
        unfold newG
        rw [if_pos (by omega)]

      rw [hn] at hp
      unfold k0_t5_body
      iintro H
      iapply (load_group c k.val ⟨q.val, lt4 q⟩ ⟨0 + t.val, hg⟩ (off15_eq k q) ((off16_eq l hl t).trans (by simp only [Nat.zero_add])) _) $$ H
      try rw [hgx]
      iintro H
      iapply (load_group c k.val ⟨q.val, lt4 q⟩ ⟨0 + t.val, hg⟩ (off15_eq k q) ((off16_eq l hl t).trans (by simp only [Nat.zero_add])) _) $$ H
      try rw [hgx]
      iintro H
      iapply (store_group c k.val ⟨q.val, lt4 q⟩ ⟨0 + t.val, hg⟩ ((off17_eq k q l hl t).trans (by simp only [Nat.zero_add])) _ _) $$ H
      rw [hp]
      iintro H
      rw [show ∀ a : Unit, (pure a : Prog (TpuEff nD τ sig (Elt F) Λ₀ .tc) Unit) = .ret a from fun _ => rfl, wp_ret]
      imodintro
      iexact H) (kk := kk) (Q := Q)
  rw [Nat.add_zero, upto_zero] at h
  refine h.trans ?_
  iintro H Hk
  iapply H
  iintro %acc H
  iapply Hk
  have he : 0 + Scf.trips (k0_t5_loop (w l)).lb (k0_t5_loop (w l)).ub (k0_t5_loop (w l)).st = (l % 256 / 4) := by
    have := t5_trips l hl
    unfold Scf.Loop.trips at this
    omega
  rw [he]
  iexact H

/-- The rows above it. -/
theorem loop7 (k : Fin k0_t3_loop.trips) (q : Fin k0_t4_loop.trips) (l : ℕ) (hl : l < 4608) (tk : FVec F S8x128 .f32) (st sc : FVec F S1x8x128 .f32) (x : Chunk F)
    {v329 : Elt F .i32} {h1 : k0_cond1 v329 = 1#1} {hw4 : k0_chk4 k q v329 (w l)} {v335 : BitVec 32} {v347 : FVec F S8x128 .f32} {v369 v372 : FVec F S1x8x128 .f32} {v389 : BitVec 32} {v402 : IVec S4x8x128 32} {v404 : IVec S4x8x128 1} {v409 : Vec F S4x8x128 .i8} {hok : (k0_t7_loop (w l)).OK}
    {β : Type} {kk : Unit → Prog (TpuEff nD τ sig (Elt F) Λ₀ .tc) β} {Q : β → sProp 𝕄} :
    holds (c : Thread nD τ) (slot arg12 k) (upto (newG l tk st sc) x ⟨q.val, lt4 q⟩ (l % 256 / 4 + 1))
      ⊢ iprop((holds (c : Thread nD τ) (slot arg12 k) (upto (newG l tk st sc) x ⟨q.val, lt4 q⟩ 64) -∗ wp frame (wpE (defs₀ (F := F)) 𝒱₀ (c : Thread nD τ) none) Set.univ (kk ()) Q)
        -∗ wp frame (wpE (defs₀ (F := F)) 𝒱₀ (c : Thread nD τ) none) Set.univ (Scf.Loop.for (k0_t7_loop (w l)) hok ⟨⟩ (k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v329 h1 (w l) hw4 v335 v347 v369 v372 v389 v402 v404 v409) >>= kk) Q) := by
  have hm := Nat.mod_lt l (show 0 < 256 by decide)
  have h := Scf.wp_for_bind (M := 𝕄) frame (wpE (defs₀ (F := F)) 𝒱₀ (c : Thread nD τ) none) Set.univ (k0_t7_loop (w l)).lb (k0_t7_loop (w l)).ub (k0_t7_loop (w l)).st hok ()
    (k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v329 h1 (w l) hw4 v335 v347 v369 v372 v389 v402 v404 v409)
    (fun t _ => holds (c : Thread nD τ) (slot arg12 k) (upto (newG l tk st sc) x ⟨q.val, lt4 q⟩ ((l % 256 / 4 + 1) + t)))
    (by
      intro t acc
      have ht := lt7 l hl t
      have hg : (l % 256 / 4 + 1) + t.val < 64 := by omega
      have hp := putG_upto (newG l tk st sc) x ⟨q.val, lt4 q⟩ ⟨(l % 256 / 4 + 1) + t.val, hg⟩
      have hgx := getG_upto (newG l tk st sc) x ⟨q.val, lt4 q⟩ ((l % 256 / 4 + 1) + t.val) ⟨(l % 256 / 4 + 1) + t.val, hg⟩ (Nat.le_refl _)
      simp only [] at hp
      have hn : newG l tk st sc ((l % 256 / 4 + 1) + t.val) (getG x ⟨q.val, lt4 q⟩ ⟨(l % 256 / 4 + 1) + t.val, hg⟩) = k0_pay13 (F := F) := by
        unfold newG
        rw [if_neg (by omega), if_neg (by omega)]

      rw [hn] at hp
      unfold k0_t7_body
      iintro H
      iapply (load_group c k.val ⟨q.val, lt4 q⟩ ⟨(l % 256 / 4 + 1) + t.val, hg⟩ (off24_eq k q) ((off25_eq l hl t).trans (by simp only [Nat.zero_add])) _) $$ H
      try rw [hgx]
      iintro H
      iapply (store_group c k.val ⟨q.val, lt4 q⟩ ⟨(l % 256 / 4 + 1) + t.val, hg⟩ ((off26_eq k q l hl t).trans (by simp only [Nat.zero_add])) _ _) $$ H
      rw [hp]
      iintro H
      rw [show ∀ a : Unit, (pure a : Prog (TpuEff nD τ sig (Elt F) Λ₀ .tc) Unit) = .ret a from fun _ => rfl, wp_ret]
      imodintro
      iexact H) (kk := kk) (Q := Q)
  rw [Nat.add_zero] at h
  refine h.trans ?_
  iintro H Hk
  iapply H
  iintro %acc H
  iapply Hk
  have he : (l % 256 / 4 + 1) + Scf.trips (k0_t7_loop (w l)).lb (k0_t7_loop (w l)).ub (k0_t7_loop (w l)).st = 64 := by
    have := t7_trips l hl
    unfold Scf.Loop.trips at this
    omega
  rw [he]
  iexact H

/-- The rows below the appended row's group, in the second pool. -/
theorem loop9 (k : Fin k0_t3_loop.trips) (q : Fin k0_t4_loop.trips) (l : ℕ) (hl : l < 4608) (tk : FVec F S8x128 .f32) (st sc : FVec F S1x8x128 .f32) (x : Chunk F)
    {v329 : Elt F .i32} {h1 : k0_cond1 v329 = 1#1} {hw4 : k0_chk4 k q v329 (w l)} {v335 c4 v485 v487 : BitVec 32} {v488 : BitVec 1} {hok : (k0_t9_loop (w l)).OK}
    {β : Type} {kk : Unit → Prog (TpuEff nD τ sig (Elt F) Λ₀ .tc) β} {Q : β → sProp 𝕄} :
    holds (c : Thread nD τ) (slot arg13 k) (x)
      ⊢ iprop((holds (c : Thread nD τ) (slot arg13 k) (upto (newG l tk st sc) x ⟨q.val, lt4 q⟩ (l % 256 / 4)) -∗ wp frame (wpE (defs₀ (F := F)) 𝒱₀ (c : Thread nD τ) none) Set.univ (kk ()) Q)
        -∗ wp frame (wpE (defs₀ (F := F)) 𝒱₀ (c : Thread nD τ) none) Set.univ (Scf.Loop.for (k0_t9_loop (w l)) hok ⟨⟩ (k0_t9_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v329 h1 (w l) hw4 v335 st sc c4 v485 v487 v488) >>= kk) Q) := by
  have hm := Nat.mod_lt l (show 0 < 256 by decide)
  have h := Scf.wp_for_bind (M := 𝕄) frame (wpE (defs₀ (F := F)) 𝒱₀ (c : Thread nD τ) none) Set.univ (k0_t9_loop (w l)).lb (k0_t9_loop (w l)).ub (k0_t9_loop (w l)).st hok ()
    (k0_t9_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v329 h1 (w l) hw4 v335 st sc c4 v485 v487 v488)
    (fun t _ => holds (c : Thread nD τ) (slot arg13 k) (upto (newG l tk st sc) x ⟨q.val, lt4 q⟩ (0 + t)))
    (by
      intro t acc
      have ht := lt9 l hl t
      have hg : 0 + t.val < 64 := by omega
      have hp := putG_upto (newG l tk st sc) x ⟨q.val, lt4 q⟩ ⟨0 + t.val, hg⟩
      have hgx := getG_upto (newG l tk st sc) x ⟨q.val, lt4 q⟩ (0 + t.val) ⟨0 + t.val, hg⟩ (Nat.le_refl _)
      simp only [] at hp
      have hn : newG l tk st sc (0 + t.val) (getG x ⟨q.val, lt4 q⟩ ⟨0 + t.val, hg⟩) = k0_pay22 st sc (getG x ⟨q.val, lt4 q⟩ ⟨0 + t.val, hg⟩) := by
        unfold newG
        rw [if_pos (by omega)]
        rw [← pay22_eq]
      rw [hn] at hp
      unfold k0_t9_body
      iintro H
      iapply (load_group c k.val ⟨q.val, lt4 q⟩ ⟨0 + t.val, hg⟩ (off31_eq k q) ((off32_eq l hl t).trans (by simp only [Nat.zero_add])) _) $$ H
      try rw [hgx]
      iintro H
      iapply (load_group c k.val ⟨q.val, lt4 q⟩ ⟨0 + t.val, hg⟩ (off31_eq k q) ((off32_eq l hl t).trans (by simp only [Nat.zero_add])) _) $$ H
      try rw [hgx]
      iintro H
      iapply (store_group c k.val ⟨q.val, lt4 q⟩ ⟨0 + t.val, hg⟩ ((off33_eq k q l hl t).trans (by simp only [Nat.zero_add])) _ _) $$ H
      rw [hp]
      iintro H
      rw [show ∀ a : Unit, (pure a : Prog (TpuEff nD τ sig (Elt F) Λ₀ .tc) Unit) = .ret a from fun _ => rfl, wp_ret]
      imodintro
      iexact H) (kk := kk) (Q := Q)
  rw [Nat.add_zero, upto_zero] at h
  refine h.trans ?_
  iintro H Hk
  iapply H
  iintro %acc H
  iapply Hk
  have he : 0 + Scf.trips (k0_t9_loop (w l)).lb (k0_t9_loop (w l)).ub (k0_t9_loop (w l)).st = (l % 256 / 4) := by
    have := t9_trips l hl
    unfold Scf.Loop.trips at this
    omega
  rw [he]
  iexact H

/-- The rows above it, in the second pool. -/
theorem loop11 (k : Fin k0_t3_loop.trips) (q : Fin k0_t4_loop.trips) (l : ℕ) (hl : l < 4608) (tk : FVec F S8x128 .f32) (st sc : FVec F S1x8x128 .f32) (x : Chunk F)
    {v327 : BitVec 32} {v329 : Elt F .i32} {hw3 : k0_chk3 v329} {h1 : k0_cond1 v329 = 1#1} {hw4 : k0_chk4 k q v329 (w l)} {hok : (k0_t11_loop (w l)).OK}
    {β : Type} {kk : Unit → Prog (TpuEff nD τ sig (Elt F) Λ₀ .tc) β} {Q : β → sProp 𝕄} :
    holds (c : Thread nD τ) (slot arg13 k) (upto (newG l tk st sc) x ⟨q.val, lt4 q⟩ (l % 256 / 4 + 1))
      ⊢ iprop((holds (c : Thread nD τ) (slot arg13 k) (upto (newG l tk st sc) x ⟨q.val, lt4 q⟩ 64) -∗ wp frame (wpE (defs₀ (F := F)) 𝒱₀ (c : Thread nD τ) none) Set.univ (kk ()) Q)
        -∗ wp frame (wpE (defs₀ (F := F)) 𝒱₀ (c : Thread nD τ) none) Set.univ (Scf.Loop.for (k0_t11_loop (w l)) hok ⟨⟩ (k0_t11_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v327 v329 hw3 h1 (w l) hw4) >>= kk) Q) := by
  have hm := Nat.mod_lt l (show 0 < 256 by decide)
  have h := Scf.wp_for_bind (M := 𝕄) frame (wpE (defs₀ (F := F)) 𝒱₀ (c : Thread nD τ) none) Set.univ (k0_t11_loop (w l)).lb (k0_t11_loop (w l)).ub (k0_t11_loop (w l)).st hok ()
    (k0_t11_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q v327 v329 hw3 h1 (w l) hw4)
    (fun t _ => holds (c : Thread nD τ) (slot arg13 k) (upto (newG l tk st sc) x ⟨q.val, lt4 q⟩ ((l % 256 / 4 + 1) + t)))
    (by
      intro t acc
      have ht := lt11 l hl t
      have hg : (l % 256 / 4 + 1) + t.val < 64 := by omega
      have hp := putG_upto (newG l tk st sc) x ⟨q.val, lt4 q⟩ ⟨(l % 256 / 4 + 1) + t.val, hg⟩
      have hgx := getG_upto (newG l tk st sc) x ⟨q.val, lt4 q⟩ ((l % 256 / 4 + 1) + t.val) ⟨(l % 256 / 4 + 1) + t.val, hg⟩ (Nat.le_refl _)
      simp only [] at hp
      have hn : newG l tk st sc ((l % 256 / 4 + 1) + t.val) (getG x ⟨q.val, lt4 q⟩ ⟨(l % 256 / 4 + 1) + t.val, hg⟩) = k0_pay29 (F := F) := by
        unfold newG
        rw [if_neg (by omega), if_neg (by omega)]
        rw [← pay29_eq]
      rw [hn] at hp
      unfold k0_t11_body
      iintro H
      iapply (load_group c k.val ⟨q.val, lt4 q⟩ ⟨(l % 256 / 4 + 1) + t.val, hg⟩ (off37_eq k q) ((off38_eq l hl t).trans (by simp only [Nat.zero_add])) _) $$ H
      try rw [hgx]
      iintro H
      iapply (store_group c k.val ⟨q.val, lt4 q⟩ ⟨(l % 256 / 4 + 1) + t.val, hg⟩ ((off39_eq k q l hl t).trans (by simp only [Nat.zero_add])) _ _) $$ H
      rw [hp]
      iintro H
      rw [show ∀ a : Unit, (pure a : Prog (TpuEff nD τ sig (Elt F) Λ₀ .tc) Unit) = .ret a from fun _ => rfl, wp_ret]
      imodintro
      iexact H) (kk := kk) (Q := Q)
  rw [Nat.add_zero] at h
  refine h.trans ?_
  iintro H Hk
  iapply H
  iintro %acc H
  iapply Hk
  have he : (l % 256 / 4 + 1) + Scf.trips (k0_t11_loop (w l)).lb (k0_t11_loop (w l)).ub (k0_t11_loop (w l)).st = 64 := by
    have := t11_trips l hl
    unfold Scf.Loop.trips at this
    omega
  rw [he]
  iexact H

end Cert.KernelIdeal.Page

end
-- ==== Proof.IdealPage6.lean ====
/- One page: its owner, its scales and its rows in both pools. -/
module

public import proofs.«01_k».proof.Proof.IdealPage

@[expose] public section

noncomputable section

namespace Cert.KernelIdeal.Page

open Cert.KernelIdeal Cert.KernelIdeal.Gen Cert.KernelIdeal.Pieces Cert.KernelIdeal.Words Cert.KernelIdeal.Model Cert.Arith
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

/-- The side condition of a loaded word holds. -/
theorem assume_at {P : Prop} {d : Decidable P} (h : P) {β : Type} {kk : PLift P → Prog (TpuEff nD τ sig (Elt F) Λ₀ .tc) β} {Q : β → sProp 𝕄} :
    wp frame (wpE (defs₀ (F := F)) 𝒱₀ (c : Thread nD τ) none) Set.univ (kk ⟨h⟩) Q ⊢ wp frame (wpE (defs₀ (F := F)) 𝒱₀ (c : Thread nD τ) none) Set.univ (Prog.lift (.assume P d) >>= kk) Q :=
  wp_assume (defs := defs₀ (F := F)) (Γ := .empty) 𝒱₀ (c : Thread nD τ) none Set.univ h

/-- The owners the kernel keeps, one word a page. -/
def ownArr (I : Inp F) : S1080.Idx → Elt F .i32 := fun i => ownW (I.own (i 0).val)
/-- The lengths, one word a sequence. -/
def lenArr (I : Inp F) : S48.Idx → Elt F .i32 := fun i => w (I.len (i 0).val)

/-- A load of a sequence's length. -/
theorem load_len (I : Inp F) (b : ℕ) (hb : b < 48) {m : Memref sig .tc .smem S48 .i32} {inb : ∀ a, k0_off13 (w b) a + S1.size a ≤ S48.size a} {h1 hp} {α : Type}
    {Q : α → sProp 𝕄} {k : Elt F .i32 → Prog (TpuEff nD τ sig (Elt F) Λ₀ .tc) α} :
    holds (c : Thread nD τ) m (lenArr I)
      ⊢ iprop((holds (c : Thread nD τ) m (lenArr I) -∗ wp frame (wpE (defs₀ (F := F)) 𝒱₀ (c : Thread nD τ) none) Set.univ (k (w (I.len b))) Q)
        -∗ wp frame (wpE (defs₀ (F := F)) 𝒱₀ (c : Thread nD τ) none) Set.univ (smemLoad m (Rect.unit (s := S48) (k0_off13 (w b)) S1.size inb) h1 hp >>= k) Q) :=
  load_word c (lenArr I) (ix1 (⟨b, hb⟩ : Fin 48)) (by rw [off13_eq b hb]; intro a; fin_cases a; rfl)

theorem tok_eq (I : Inp F) (b : ℕ) (hb : b < 48) : tokRow I.t ⟨b, hb⟩ = I.tok b := by
  unfold Inp.tok
  congr 1
  exact Fin.ext (Nat.mod_eq_of_lt hb).symm

/-- The end of a program. -/
theorem ret_at {β : Type} {a : β} {Q : β → sProp 𝕄} : Q a ⊢ wp frame (wpE (defs₀ (F := F)) 𝒱₀ (c : Thread nD τ) none) Set.univ (pure a) Q := by
  rw [show (pure a : Prog (TpuEff nD τ sig (Elt F) Λ₀ .tc) β) = .ret a from rfl, wp_ret]
  iintro H
  imodintro
  iexact H

/-- What the page loop holds beside the slots: the owners, the lengths, the tokens and the scales after `p` pages. -/
def pageR (IK IV : Inp F) (p : ℕ) : sProp 𝕄 :=
  iprop(holds (c : Thread nD τ) arg18 (ownArr IK) ∗ holds (c : Thread nD τ) arg1 (lenArr IK) ∗ holds (c : Thread nD τ) arg16 IK.t ∗ holds (c : Thread nD τ) arg17 IV.t
    ∗ holds (c : Thread nD τ) arg14 (IK.sc p) ∗ holds (c : Thread nD τ) arg15 (IV.sc p))

/-- The group with the appended row. -/
theorem mid_eq (l : ℕ) (tk : FVec F S8x128 .f32) (st sc : FVec F S1x8x128 .f32) (f : ℕ → (S4x8x128.Idx → Elt F .i8) → S1x1x4x8x128.Idx → Elt F .i8) (v : S4x8x128.Idx → Elt F .i8)
    (hf : f = newG l tk st sc) : f (l % 256 / 4) v
      = k0_pay12 (off l) tk st sc (k0_pay10 (off l) 4#32 (Scalar.divsi (off l) 4#32) 0#32) (k0_pay11 (off l) 4#32 (Scalar.divsi (off l) 4#32) 0#32) v := by
  rw [hf]
  unfold newG
  rw [if_neg (Nat.lt_irrefl _), if_pos rfl]

set_option cleanup.letToHave false in
set_option maxHeartbeats 400000 in
/-- A page that has an owner: its scale and its rows are replaced in both pools. -/
theorem part6 (IK IV : Inp F) (hlen : IV.len = IK.len) (k : Fin k0_t3_loop.trips) (q : Fin k0_t4_loop.trips) (p b : ℕ) (hb : b < 48) (xk xv : Chunk F)
    {h3 : k0_chk3 (w b)} {h1 : k0_cond1 (w b) = 1#1}
    {Q : (Σ' (v334 : Elt F .i32) (k0_hw4 : k0_chk4 k q (w b) v334) (v550 : BitVec 32) (c1_i32_620 : BitVec 32), BitVec 32) → sProp 𝕄} :
    iprop(holds (c : Thread nD τ) arg1 (lenArr IK) ∗ holds (c : Thread nD τ) arg16 IK.t ∗ holds (c : Thread nD τ) arg17 IV.t
      ∗ holds (c : Thread nD τ) arg14 (IK.sc p) ∗ holds (c : Thread nD τ) arg15 (IV.sc p) ∗ holds (c : Thread nD τ) (slot arg12 k.val) xk ∗ holds (c : Thread nD τ) (slot arg13 k.val) xv)
      ⊢ iprop((∀ r, iprop(holds (c : Thread nD τ) arg1 (lenArr IK) ∗ holds (c : Thread nD τ) arg16 IK.t ∗ holds (c : Thread nD τ) arg17 IV.t
          ∗ holds (c : Thread nD τ) arg14 (k0_pay5 (w p) (w (IK.len b)) (IK.sc p) (IK.tok b)) ∗ holds (c : Thread nD τ) arg15 (k0_pay5 (w p) (w (IV.len b)) (IV.sc p) (IV.tok b))
          ∗ holds (c : Thread nD τ) (slot arg12 k.val) (upto (IK.grp p b) xk ⟨q.val, lt4 q⟩ 64) ∗ holds (c : Thread nD τ) (slot arg13 k.val) (upto (IV.grp p b) xv ⟨q.val, lt4 q⟩ 64)) -∗ Q r)
        -∗ wp frame (wpE (defs₀ (F := F)) 𝒱₀ (c : Thread nD τ) none) Set.univ (k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k q (w p) (w b) h3 h1) Q) := by
  have hl := IK.hlen b
  have hm := Nat.mod_lt (IK.len b) (show 0 < 256 by decide)
  have hg : IK.len b % 256 / 4 < 64 := by omega
  have hgk := getG_upto (IK.grp p b) xk ⟨q.val, lt4 q⟩ (IK.len b % 256 / 4) ⟨IK.len b % 256 / 4, hg⟩ (Nat.le_refl _)
  have hgv := getG_upto (IV.grp p b) xv ⟨q.val, lt4 q⟩ (IK.len b % 256 / 4) ⟨IK.len b % 256 / 4, hg⟩ (Nat.le_refl _)
  have hpk := putG_upto (IK.grp p b) xk ⟨q.val, lt4 q⟩ ⟨IK.len b % 256 / 4, hg⟩
  have hpv := putG_upto (IV.grp p b) xv ⟨q.val, lt4 q⟩ ⟨IK.len b % 256 / 4, hg⟩
  have hfk : IK.grp p b = newG (IK.len b) (k0_pay3 (IK.tok b)) (k0_pay6 (w p) (IK.sc p)) (k0_pay7 (w p) (w (IK.len b)) (IK.sc p) (IK.tok b)) := rfl
  have hfv : IV.grp p b = newG (IK.len b) (k0_pay17 (IV.tok b)) (k0_pay20 (w p) (IV.sc p)) (k0_pay21 (w p) (Scalar.remsi (w (IK.len b)) 256#32) (IV.sc p) (IV.tok b)) := by
    unfold Inp.grp
    rw [hlen]
    rfl
  rw [mid_eq _ _ _ _ _ _ hfk] at hpk
  rw [mid_eq _ _ _ _ _ _ hfv, ← pay28_eq] at hpv
  rw [hfk] at hgk hpk
  rw [hfv] at hgv hpv
  rw [hfk, hfv, hlen, ← pay19_eq (w p) (w (IK.len b)) (IV.sc p)]
  iintro ⟨Hl, Htk, Htv, Hsk, Hsv, Hk, Hv⟩ HQ
  rw [k0_part6_eq_skeleton]
  unfold k0_part6_skel
  rw [wp_bind, k0_part1_eq_skeleton]
  unfold k0_part1_skel
  iapply (load_len c IK b hb) $$ Hl
  iintro Hl
  iapply (assume_at c (chk4_of k q (w b) (IK.len b) hl))
  iapply (load_all c (IK.sc p)) $$ Hsk
  iintro Hsk
  iapply (load_tok c ⟨b, hb⟩ (off14_eq b hb) IK.t) $$ Htk
  iintro Htk
  iapply (load_all c (IK.sc p)) $$ Hsk
  iintro Hsk
  iapply (store_all c (IK.sc p)) $$ Hsk
  iintro Hsk
  iapply (ret_at c)
  rw [tok_eq IK b hb, wp_bind, k0_part2_eq_skeleton]
  unfold k0_part2_skel
  iapply (loop5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c k q (IK.len b) hl (k0_pay3 (IK.tok b)) _ _ xk) $$ Hk
  iintro Hk
  iapply (skip c (t6_trips (w (IK.len b))))
  iapply (load_group c k.val ⟨q.val, lt4 q⟩ ⟨IK.len b % 256 / 4, hg⟩ (off21_eq k q) (off22_eq (IK.len b) hl) _) $$ Hk
  rw [hgk]
  iintro Hk
  iapply (ret_at c)
  rw [wp_bind, k0_part3_eq_skeleton]
  unfold k0_part3_skel
  iapply (load_group c k.val ⟨q.val, lt4 q⟩ ⟨IK.len b % 256 / 4, hg⟩ (off21_eq k q) (off22_eq (IK.len b) hl) _) $$ Hk
  iintro Hk
  iapply (store_group c k.val ⟨q.val, lt4 q⟩ ⟨IK.len b % 256 / 4, hg⟩ (off23_eq k q (IK.len b) hl) _ _) $$ Hk
  rw [hpk]
  iintro Hk
  iapply (loop7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c k q (IK.len b) hl _ _ _ xk) $$ Hk
  iintro Hk
  iapply (ret_at c)
  rw [wp_bind, k0_part4_eq_skeleton]
  unfold k0_part4_skel
  iapply (skip c (t8_trips (w (IK.len b))))
  iapply (load_all c (IV.sc p)) $$ Hsv
  iintro Hsv
  iapply (load_tok c ⟨b, hb⟩ (off30_eq b hb) IV.t) $$ Htv
  iintro Htv
  iapply (load_all c (IV.sc p)) $$ Hsv
  iintro Hsv
  iapply (store_all c (IV.sc p)) $$ Hsv
  iintro Hsv
  iapply (ret_at c)
  rw [tok_eq IV b hb, wp_bind, k0_part5_eq_skeleton]
  unfold k0_part5_skel
  iapply (loop9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c k q (IK.len b) hl (k0_pay17 (IV.tok b)) _ _ xv) $$ Hv
  iintro Hv
  iapply (skip c (t10_trips (w (IK.len b))))
  iapply (load_group c k.val ⟨q.val, lt4 q⟩ ⟨IK.len b % 256 / 4, hg⟩ (off21_eq k q) (off22_eq (IK.len b) hl) _) $$ Hv
  rw [hgv]
  iintro Hv
  iapply (ret_at c)
  iapply (load_group c k.val ⟨q.val, lt4 q⟩ ⟨IK.len b % 256 / 4, hg⟩ (off21_eq k q) (off22_eq (IK.len b) hl) _) $$ Hv
  iintro Hv
  iapply (store_group c k.val ⟨q.val, lt4 q⟩ ⟨IK.len b % 256 / 4, hg⟩ (off23_eq k q (IK.len b) hl) _ _) $$ Hv
  rw [hpv]
  iintro Hv
  iapply (loop11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c k q (IK.len b) hl _ _ _ xv) $$ Hv
  iintro Hv
  iapply (ret_at c)
  iapply HQ
  isplitl [Hl]; · iexact Hl
  isplitl [Htk]; · iexact Htk
  isplitl [Htv]; · iexact Htv
  isplitl [Hsk]; · iexact Hsk
  isplitl [Hsv]; · iexact Hsv
  isplitl [Hk]; · iexact Hk
  iexact Hv

end Cert.KernelIdeal.Page

end
-- ==== Proof.IdealChunk.lean ====
/- The four pages of one chunk. -/
module

public import proofs.«01_k».proof.Proof.IdealPage6

@[expose] public section

noncomputable section

namespace Cert.KernelIdeal.Page

open Cert.KernelIdeal Cert.KernelIdeal.Gen Cert.KernelIdeal.Pieces Cert.KernelIdeal.Words Cert.KernelIdeal.Model Cert.Arith
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

/-- A load of a page's owner. -/
theorem load_own (I : Inp F) (k : Fin k0_t3_loop.trips) (q : Fin k0_t4_loop.trips) (v : Elt F .i32) (hv : ownW (I.own (4 * k.val + q.val)) = v)
    {m : Memref sig .tc .smem S1080 .i32} {inb : ∀ a, k0_off12 k q a + S1.size a ≤ S1080.size a} {h1 hp} {α : Type}
    {Q : α → sProp 𝕄} {kk : Elt F .i32 → Prog (TpuEff nD τ sig (Elt F) Λ₀ .tc) α} :
    holds (c : Thread nD τ) m (ownArr I)
      ⊢ iprop((holds (c : Thread nD τ) m (ownArr I) -∗ wp frame (wpE (defs₀ (F := F)) 𝒱₀ (c : Thread nD τ) none) Set.univ (kk v) Q)
        -∗ wp frame (wpE (defs₀ (F := F)) 𝒱₀ (c : Thread nD τ) none) Set.univ (smemLoad m (Rect.unit (s := S1080) (k0_off12 k q) S1.size inb) h1 hp >>= kk) Q) := by
  have h3 := lt3 k
  have h4 := lt4 q
  subst hv
  exact load_word c (ownArr I) (ix1 (⟨4 * k.val + q.val, by omega⟩ : Fin 1080)) (by rw [off12_eq k q]; intro a; fin_cases a; rfl)

theorem own_eq (IK IV : Inp F) (hpg : IV.pg = IK.pg) (p : ℕ) : IV.own p = IK.own p := by
  unfold Inp.own
  rw [hpg]

theorem sc_none (I : Inp F) (p : ℕ) (h : I.own p = none) : I.sc (p + 1) = I.sc p := by
  rw [Inp.sc, h]
theorem sc_some (I : Inp F) (p b : ℕ) (h : I.own p = some b) : I.sc (p + 1) = k0_pay5 (w p) (w (I.len b)) (I.sc p) (I.tok b) := by
  rw [Inp.sc, h]
theorem ch_none (I : Inp F) (k q : ℕ) (h : I.own (4 * k + q) = none) : I.ch k (q + 1) = I.ch k q := by
  rw [Inp.ch, h]
theorem ch_some (I : Inp F) (k b : ℕ) (q : Fin 4) (h : I.own (4 * k + q.val) = some b) : I.ch k (q.val + 1) = upto (I.grp (4 * k + q.val) b) (I.ch k q.val) q 64 := by
  rw [Inp.ch, h]
  show upto _ _ _ _ = _
  congr 1
  exact Fin.ext (Nat.mod_eq_of_lt q.isLt)

/-- What the loop over a chunk's pages holds after `q` of them. -/
def chunkR (IK IV : Inp F) (k q : ℕ) : sProp 𝕄 :=
  iprop(pageR arg1 arg14 arg15 arg16 arg17 arg18 c IK IV (4 * k + q) ∗ holds (c : Thread nD τ) (slot arg12 k) (IK.ch k q) ∗ holds (c : Thread nD τ) (slot arg13 k) (IV.ch k q))

/-- One page. -/
theorem page_step (IK IV : Inp F) (hlen : IV.len = IK.len) (hpg : IV.pg = IK.pg) (k : Fin k0_t3_loop.trips) (q : Fin k0_t4_loop.trips) (acc : Unit) :
    chunkR arg1 arg12 arg13 arg14 arg15 arg16 arg17 arg18 c IK IV k.val q.val
      ⊢ wp frame (wpE (defs₀ (F := F)) 𝒱₀ (c : Thread nD τ) none) Set.univ (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 0#32 1#32 k (Scalar.addi 0#32 (Scalar.muli (Scf.iv 0#32 1#32 k) 1#32)) q acc) (fun _ => chunkR arg1 arg12 arg13 arg14 arg15 arg16 arg17 arg18 c IK IV k.val (q.val + 1)) := by
  unfold chunkR pageR k0_t4_body
  iintro ⟨⟨Ho, Hl, Htk, Htv, Hsk, Hsv⟩, Hk, Hv⟩
  cases h : IK.own (4 * k.val + q.val) with
  | none =>
    have h' := (own_eq IK IV hpg (4 * k.val + q.val)).trans h
    iapply (load_own c IK k q 4294967295#32 (by rw [h]; rfl)) $$ Ho
    iintro Ho
    iapply (assume_at c chk3_none)
    rw [dif_neg cond1_none]
    rw [← Nat.add_assoc, sc_none IK _ h, sc_none IV _ h', ch_none IK _ _ h, ch_none IV _ _ h']
    iapply (ret_at c)
    isplitl [Ho Hl Htk Htv Hsk Hsv]
    · isplitl [Ho]; · iexact Ho
      isplitl [Hl]; · iexact Hl
      isplitl [Htk]; · iexact Htk
      isplitl [Htv]; · iexact Htv
      isplitl [Hsk]; · iexact Hsk
      iexact Hsv
    · isplitl [Hk]; · iexact Hk
      iexact Hv
  | some b =>
    have h' := (own_eq IK IV hpg (4 * k.val + q.val)).trans h
    have hb := IK.own_lt h
    iapply (load_own c IK k q (w b) (by rw [h]; rfl)) $$ Ho
    iintro Ho
    iapply (assume_at c (chk3_of b hb))
    rw [dif_pos (cond1_eq b (by omega)), page_w k q, wp_bind]
    iapply (part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV hlen k q (4 * k.val + q.val) b hb (IK.ch k.val q.val) (IV.ch k.val q.val)) $$ [Hl Htk Htv Hsk Hsv Hk Hv]
    · isplitl [Hl]; · iexact Hl
      isplitl [Htk]; · iexact Htk
      isplitl [Htv]; · iexact Htv
      isplitl [Hsk]; · iexact Hsk
      isplitl [Hsv]; · iexact Hsv
      isplitl [Hk]; · iexact Hk
      iexact Hv
    iintro %r ⟨Hl, Htk, Htv, Hsk, Hsv, Hk, Hv⟩
    obtain ⟨v334, hw4, v550, c1, v559⟩ := r
    iapply (skip c (t12_trips v334))
    rw [← Nat.add_assoc, sc_some IK _ b h, sc_some IV _ b h', ch_some IK k.val b ⟨q.val, lt4 q⟩ h, ch_some IV k.val b ⟨q.val, lt4 q⟩ h']
    iapply (ret_at c)
    isplitl [Ho Hl Htk Htv Hsk Hsv]
    · isplitl [Ho]; · iexact Ho
      isplitl [Hl]; · iexact Hl
      isplitl [Htk]; · iexact Htk
      isplitl [Htv]; · iexact Htv
      isplitl [Hsk]; · iexact Hsk
      iexact Hsv
    · isplitl [Hk]; · iexact Hk
      iexact Hv

/-- The four pages of a chunk. -/
theorem pages (IK IV : Inp F) (hlen : IV.len = IK.len) (hpg : IV.pg = IK.pg) (k : Fin k0_t3_loop.trips) {hok : k0_t4_loop.OK}
    {β : Type} {kk : Unit → Prog (TpuEff nD τ sig (Elt F) Λ₀ .tc) β} {Q : β → sProp 𝕄} :
    chunkR arg1 arg12 arg13 arg14 arg15 arg16 arg17 arg18 c IK IV k.val 0
      ⊢ iprop((chunkR arg1 arg12 arg13 arg14 arg15 arg16 arg17 arg18 c IK IV k.val 4 -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t4_loop hok ⟨⟩ (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 0#32 1#32 k (Scalar.addi 0#32 (Scalar.muli (Scf.iv 0#32 1#32 k) 1#32))) >>= kk) Q) := by
  have h := Scf.wp_for_bind (M := 𝕄) frame (wpE (defs₀ (F := F)) 𝒱₀ (c : Thread nD τ) none) Set.univ k0_t4_loop.lb k0_t4_loop.ub k0_t4_loop.st hok ()
    (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 0#32 1#32 k (Scalar.addi 0#32 (Scalar.muli (Scf.iv 0#32 1#32 k) 1#32)))
    (fun t _ => chunkR arg1 arg12 arg13 arg14 arg15 arg16 arg17 arg18 c IK IV k.val t)
    (fun t acc => page_step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV hlen hpg k t acc) (kk := kk) (Q := Q)
  refine h.trans ?_
  rw [show Scf.trips k0_t4_loop.lb k0_t4_loop.ub k0_t4_loop.st = 4 from t4_trips]
  iintro H Hk
  iapply H
  iintro %acc H
  iapply Hk
  iexact H

end Cert.KernelIdeal.Page

end
-- ==== Proof.IdealPool.lean ====
/- One pool on its way through its ring: what is done, being written back, being read, and to come. -/
module

public import proofs.«01_k».proof.Proof.IdealChunk
public import Idealize.SL.BI.BigOpNat

@[expose] public section

noncomputable section

namespace Cert.KernelIdeal.Pool

open Cert.KernelIdeal Cert.KernelIdeal.Gen Cert.KernelIdeal.Pieces Cert.KernelIdeal.Words Cert.KernelIdeal.Model Cert.Arith
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (c : Dev nD) (P : PoolM) (R : RingM) (O : PoolM) (A B : DmaSems sig S2x24) (h : Fin 2) (X G : ℕ → Chunk F)

theorem slot_congr {a b : ℕ} (e : a % 24 = b % 24) : slot R a = slot R b := by
  have H : ∀ (x y : ℕ) (hx : ∀ i, (![x, 0, 0, 0, 0] : Fin 5 → ℕ) i + S1x4x256x8x128.size i ≤ S24x4x256x8x128.size i)
      (hy : ∀ i, (![y, 0, 0, 0, 0] : Fin 5 → ℕ) i + S1x4x256x8x128.size i ≤ S24x4x256x8x128.size i), x = y →
      (R.slice (Rect.unit (s := S24x4x256x8x128) ![x, 0, 0, 0, 0] S1x4x256x8x128.size hx) (fun _ => rfl)).squeeze S4x256x8x128 squeezes_S1x4x256x8x128_S4x256x8x128
        = (R.slice (Rect.unit (s := S24x4x256x8x128) ![y, 0, 0, 0, 0] S1x4x256x8x128.size hy) (fun _ => rfl)).squeeze S4x256x8x128 squeezes_S1x4x256x8x128_S4x256x8x128 := by
    intro x y hx hy exy
    subst exy
    rfl
  exact H _ _ _ _ e
theorem cell_congr {a b : ℕ} (e : a % 24 = b % 24) : cell A h a = cell A h b := by
  have H : ∀ (x y : ℕ) (hx : ∀ i, (![h.val, x] : Fin 2 → ℕ) i + S1x1.size i ≤ S2x24.size i) (hy : ∀ i, (![h.val, y] : Fin 2 → ℕ) i + S1x1.size i ≤ S2x24.size i), x = y →
      (SemLoc.dma ((A.slice (Rect.unit (s := S2x24) ![h.val, x] S1x1.size hx)).squeeze S_ squeezes_S1x1_S_).sem : SemLoc sig)
        = SemLoc.dma ((A.slice (Rect.unit (s := S2x24) ![h.val, y] S1x1.size hy)).squeeze S_ squeezes_S1x1_S_).sem := by
    intro x y hx hy exy
    subst exy
    rfl
  exact H _ _ _ _ e

/-- A chunk written back. -/
def done (j : ℕ) : sProp 𝕄 := iprop(holds (c : Thread nD τ) (blk O j) (G j) ∗ holds (c : Thread nD τ) (blk P j) (X j))
/-- A chunk being written back. -/
def wr (j : ℕ) : sProp 𝕄 := iprop(writeF c R O B h j (G j) ∗ holds (c : Thread nD τ) (blk P j) (X j) ∗ semVal ((c : Thread nD τ), cell A h j) 0)
/-- A chunk being read. -/
def rd (j : ℕ) : sProp 𝕄 := iprop(readF c P R A h j (X j) ∗ (∃ y, holds (c : Thread nD τ) (blk O j) y) ∗ semVal ((c : Thread nD τ), cell B h j) 0)
/-- A chunk to come. -/
def idle (j : ℕ) : sProp 𝕄 := iprop(holds (c : Thread nD τ) (blk P j) (X j) ∗ ∃ y, holds (c : Thread nD τ) (blk O j) y)
/-- A slot not in use. -/
def free (j : ℕ) : sProp 𝕄 := iprop((∃ y, holds (c : Thread nD τ) (slot R j) y) ∗ semVal ((c : Thread nD τ), cell A h j) 0 ∗ semVal ((c : Thread nD τ), cell B h j) 0)

/-- The pool before chunk `k`. -/
def poolR (k : ℕ) : sProp 𝕄 :=
  iprop(bigSep (Finset.Ico 0 (k - 8)) (done c P O X G) ∗ bigSep (Finset.Ico (k - 8) k) (wr c P R O A B h X G)
    ∗ bigSep (Finset.Ico k (min 270 (k - 8 + 24))) (rd c P R O A B h X) ∗ bigSep (Finset.Ico (min 270 (k - 8 + 24)) 270) (idle c P O X)
    ∗ bigSep (Finset.Ico (min 270 (k - 8 + 24)) (k - 8 + 24)) (free c R A B h))
/-- The pool without the read of chunk `k`. -/
def restR (k : ℕ) : sProp 𝕄 :=
  iprop(bigSep (Finset.Ico 0 (k - 8)) (done c P O X G) ∗ bigSep (Finset.Ico (k - 8) k) (wr c P R O A B h X G)
    ∗ bigSep (Finset.Ico (k + 1) (min 270 (k - 8 + 24))) (rd c P R O A B h X) ∗ bigSep (Finset.Ico (min 270 (k - 8 + 24)) 270) (idle c P O X)
    ∗ bigSep (Finset.Ico (min 270 (k - 8 + 24)) (k - 8 + 24)) (free c R A B h))
/-- … and without the oldest write. -/
def rest2R (k : ℕ) : sProp 𝕄 :=
  iprop(bigSep (Finset.Ico 0 (k - 8)) (done c P O X G) ∗ bigSep (Finset.Ico (k - 8 + 1) k) (wr c P R O A B h X G)
    ∗ bigSep (Finset.Ico (k + 1) (min 270 (k - 8 + 24))) (rd c P R O A B h X) ∗ bigSep (Finset.Ico (min 270 (k - 8 + 24)) 270) (idle c P O X)
    ∗ bigSep (Finset.Ico (min 270 (k - 8 + 24)) (k - 8 + 24)) (free c R A B h))
/-- … and without the next chunk to come. -/
def rest3R (k : ℕ) : sProp 𝕄 :=
  iprop(bigSep (Finset.Ico 0 (k - 8)) (done c P O X G) ∗ bigSep (Finset.Ico (k - 8 + 1) k) (wr c P R O A B h X G)
    ∗ bigSep (Finset.Ico (k + 1) (min 270 (k - 8 + 24))) (rd c P R O A B h X) ∗ bigSep (Finset.Ico (k - 8 + 24 + 1) 270) (idle c P O X)
    ∗ bigSep (Finset.Ico (min 270 (k - 8 + 24)) (k - 8 + 24)) (free c R A B h))

/-- The read of chunk `k` is under way before it. -/
theorem take_read (k : ℕ) (hk : k < 270) : poolR c P R O A B h X G k ⊢ iprop(rd c P R O A B h X k ∗ restR c P R O A B h X G k) := by
  unfold poolR restR
  rw [bigSep_Ico_succ_bot (show k < min 270 (k - 8 + 24) by omega)]
  iintro ⟨H1, H2, ⟨H3, H4⟩, H5, H6⟩
  isplitl [H3]; · iexact H3
  isplitl [H1]; · iexact H1
  isplitl [H2]; · iexact H2
  isplitl [H4]; · iexact H4
  isplitl [H5]; · iexact H5
  iexact H6

/-- The first chunks: nothing is waited for. -/
theorem put_early (k : ℕ) (hk : k < 8) : iprop(wr c P R O A B h X G k ∗ restR c P R O A B h X G k) ⊢ poolR c P R O A B h X G (k + 1) := by
  unfold poolR restR
  rw [show k + 1 - 8 = k - 8 by omega, bigSep_Ico_succ_top (show k - 8 ≤ k by omega)]
  iintro ⟨Hw, H1, H2, H4, H5, H6⟩
  isplitl [H1]; · iexact H1
  isplitl [Hw H2]
  · isplitl [Hw]; · iexact Hw
    iexact H2
  isplitl [H4]; · iexact H4
  isplitl [H5]; · iexact H5
  iexact H6

/-- The oldest write. -/
theorem take_write (k : ℕ) (hk : 8 ≤ k) : restR c P R O A B h X G k ⊢ iprop(wr c P R O A B h X G (k - 8) ∗ rest2R c P R O A B h X G k) := by
  unfold restR rest2R
  rw [bigSep_Ico_succ_bot (show k - 8 < k by omega)]
  iintro ⟨H1, ⟨H2, H3⟩, H4, H5, H6⟩
  isplitl [H2]; · iexact H2
  isplitl [H1]; · iexact H1
  isplitl [H3]; · iexact H3
  isplitl [H4]; · iexact H4
  isplitl [H5]; · iexact H5
  iexact H6

/-- The next chunk to come. -/
theorem take_idle (k : ℕ) (hk : 8 ≤ k) (hk' : k + 16 < 270) : rest2R c P R O A B h X G k ⊢ iprop(idle c P O X (k - 8 + 24) ∗ rest3R c P R O A B h X G k) := by
  unfold rest2R rest3R
  rw [bigSep_Ico_succ_bot (show min 270 (k - 8 + 24) < 270 by omega), show min 270 (k - 8 + 24) = k - 8 + 24 by omega]
  iintro ⟨H1, H2, H3, ⟨H4, H5⟩, H6⟩
  isplitl [H4]; · iexact H4
  isplitl [H1]; · iexact H1
  isplitl [H2]; · iexact H2
  isplitl [H3]; · iexact H3
  isplitl [H5]; · iexact H5
  iexact H6

/-- The slot is read into again. -/
theorem put_read (k : ℕ) (hk : 8 ≤ k) (hk' : k + 16 < 270) :
    iprop(wr c P R O A B h X G k ∗ done c P O X G (k - 8) ∗ rd c P R O A B h X (k - 8 + 24) ∗ rest3R c P R O A B h X G k) ⊢ poolR c P R O A B h X G (k + 1) := by
  unfold poolR rest3R
  rw [show k + 1 - 8 = k - 8 + 1 by omega, show min 270 (k - 8 + 24) = k - 8 + 24 by omega, show min 270 (k - 8 + 1 + 24) = k - 8 + 24 + 1 by omega,
    show k - 8 + 1 + 24 = k - 8 + 24 + 1 by omega, bigSep_Ico_succ_top (show 0 ≤ k - 8 by omega), bigSep_Ico_succ_top (show k - 8 + 1 ≤ k by omega),
    bigSep_Ico_succ_top (show k + 1 ≤ k - 8 + 24 by omega), Finset.Ico_self, Finset.Ico_self]
  iintro ⟨Hw, Hd, Hr, H1, H2, H3, H4, H5⟩
  isplitl [Hd H1]
  · isplitl [Hd]; · iexact Hd
    iexact H1
  isplitl [Hw H2]
  · isplitl [Hw]; · iexact Hw
    iexact H2
  isplitl [Hr H3]
  · isplitl [Hr]; · iexact Hr
    iexact H3
  isplitl [H4]; · iexact H4
  iexact H5

/-- The slot is done with. -/
theorem put_free (k : ℕ) (hk : 8 ≤ k) (hk' : ¬ k + 16 < 270) (hk'' : k < 270) :
    iprop(wr c P R O A B h X G k ∗ done c P O X G (k - 8) ∗ free c R A B h (k - 8 + 24) ∗ rest2R c P R O A B h X G k) ⊢ poolR c P R O A B h X G (k + 1) := by
  unfold poolR rest2R
  rw [show k + 1 - 8 = k - 8 + 1 by omega, show min 270 (k - 8 + 24) = 270 by omega, show min 270 (k - 8 + 1 + 24) = 270 by omega,
    show k - 8 + 1 + 24 = k - 8 + 24 + 1 by omega, bigSep_Ico_succ_top (show 0 ≤ k - 8 by omega), bigSep_Ico_succ_top (show k - 8 + 1 ≤ k by omega),
    bigSep_Ico_succ_top (show 270 ≤ k - 8 + 24 by omega)]
  iintro ⟨Hw, Hd, Hr, H1, H2, H3, H4, H5⟩
  isplitl [Hd H1]
  · isplitl [Hd]; · iexact Hd
    iexact H1
  isplitl [Hw H2]
  · isplitl [Hw]; · iexact Hw
    iexact H2
  isplitl [H3]; · iexact H3
  isplitl [H4]; · iexact H4
  isplitl [Hr]; · iexact Hr
  iexact H5

/-- A slot whose write is over, as the slot of the chunk 24 later. -/
theorem free_of (j : ℕ) (y : Chunk F) :
    iprop(holds (c : Thread nD τ) (slot R j) y ∗ semVal ((c : Thread nD τ), cell A h j) 0 ∗ semVal ((c : Thread nD τ), cell B h j) 0)
      ⊢ free c R A B h (j + 24) := by
  unfold free
  rw [slot_congr R (show (j + 24) % 24 = j % 24 by omega), cell_congr A h (show (j + 24) % 24 = j % 24 by omega), cell_congr B h (show (j + 24) % 24 = j % 24 by omega)]
  iintro ⟨H1, H2, H3⟩
  isplitl [H1]
  · iexists y
    iexact H1
  isplitl [H2]; · iexact H2
  iexact H3

end Cert.KernelIdeal.Pool

end
-- ==== Proof.IdealSweep.lean ====
/- The sweep over the chunks: each is read, gets its appended rows and is written back. -/
module

public import proofs.«01_k».proof.Proof.IdealPool

@[expose] public section

noncomputable section

namespace Cert.KernelIdeal.Sweep

open Cert.KernelIdeal Cert.KernelIdeal.Gen Cert.KernelIdeal.Pieces Cert.KernelIdeal.Words Cert.KernelIdeal.Model Cert.Arith Cert.KernelIdeal.Page Cert.KernelIdeal.Pool
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

/-- Before chunk `k`. -/
def sweepR (IK IV : Inp F) (k : ℕ) : sProp 𝕄 :=
  iprop(pageR arg1 arg14 arg15 arg16 arg17 arg18 c IK IV (4 * k) ∗ poolR c arg2 arg12 arg8 arg19 arg20 0 IK.x (fun j => IK.ch j 4) k ∗ poolR c arg3 arg13 arg10 arg19 arg20 1 IV.x (fun j => IV.ch j 4) k ∗ ∃ W, owes (c : Thread nD τ) 0 W)

/-- One chunk. -/
theorem trip (IK IV : Inp F) (hlen : IV.len = IK.len) (hpg : IV.pg = IK.pg) (k : Fin k0_t3_loop.trips) (acc : Unit) :
    sweepR arg1 arg2 arg3 arg8 arg10 arg12 arg13 arg14 arg15 arg16 arg17 arg18 arg19 arg20 c IK IV k.val
      ⊢ wp frame (wpE (defs₀ (F := F)) 𝒱₀ (c : Thread nD τ) none) Set.univ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 0#32 1#32 k acc) (fun _ => sweepR arg1 arg2 arg3 arg8 arg10 arg12 arg13 arg14 arg15 arg16 arg17 arg18 arg19 arg20 c IK IV (k.val + 1)) := by
  have hk := lt3 k
  have hb : (![4 * k.val, 0, 0, 0] : Fin 4 → ℕ) = ![4 * (k.val % 270), 0, 0, 0] := by rw [Nat.mod_eq_of_lt hk]
  unfold k0_t3_body sweepR
  iintro ⟨Hp, HK, HV, ⟨%W0, Hw⟩⟩
  ihave HK := take_read (k := k.val) (hk := hk) $$ HK
  ihave HV := take_read (k := k.val) (hk := hk) $$ HV
  icases HK with ⟨HKr, HK⟩
  icases HV with ⟨HVr, HV⟩
  unfold rd
  icases HKr with ⟨HKr, ⟨%yK, HKo⟩, HKb⟩
  icases HVr with ⟨HVr, ⟨%yV, HVo⟩, HVb⟩
  rw [wp_bind, k0_part7_eq_skeleton]
  unfold k0_part7_skel
  iapply (await_read c 0 k.val ((off10_eq k).trans hb) (off9_eq k) (off8_eq k) (IK.x k.val) W0) $$ [HKr Hw]
  · skip
    isplitl [HKr]; · iexact HKr
    iexact Hw
  iintro ⟨⟨HKs, HKp⟩, HKa, ⟨%W1, Hw⟩⟩
  iapply (await_read c 1 k.val ((off10_eq k).trans hb) (off9_eq k) (off11_eq k) (IV.x k.val) W1) $$ [HVr Hw]
  · skip
    isplitl [HVr]; · iexact HVr
    iexact Hw
  iintro ⟨⟨HVs, HVp⟩, HVa, ⟨%W2, Hw⟩⟩
  iapply (pages arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV hlen hpg k) $$ [Hp HKs HVs]
  · unfold chunkR
    isplitl [Hp]; · iexact Hp
    isplitl [HKs]; · iexact HKs
    iexact HVs
  unfold chunkR
  iintro ⟨Hp, HKs, HVs⟩
  iapply (ret_at c)
  iapply (issue_write c 0 k.val ((off10_eq k).trans hb) (off9_eq k) (off8_eq k) (IK.ch k.val 4) yK) $$ [HKs HKo HKb]
  · skip
    isplitl [HKs]; · iexact HKs
    isplitl [HKo]; · iexact HKo
    iexact HKb
  iintro HKw
  iapply (issue_write c 1 k.val ((off10_eq k).trans hb) (off9_eq k) (off11_eq k) (IV.ch k.val 4) yV) $$ [HVs HVo HVb]
  · skip
    isplitl [HVs]; · iexact HVs
    isplitl [HVo]; · iexact HVo
    iexact HVb
  iintro HVw
  by_cases h8 : 8 ≤ k.val
  · have h2 := (cond2_iff k).mpr h8
    rw [dif_pos h2]
    have hb8 : (![4 * (k.val - 8), 0, 0, 0] : Fin 4 → ℕ) = ![4 * ((k.val - 8) % 270), 0, 0, 0] := by rw [Nat.mod_eq_of_lt (show k.val - 8 < 270 by omega)]
    ihave HK := take_write (k := k.val) (hk := h8) $$ HK
    ihave HV := take_write (k := k.val) (hk := h8) $$ HV
    icases HK with ⟨HKo, HK⟩
    icases HV with ⟨HVo, HV⟩
    unfold wr
    icases HKo with ⟨HKo, HKpb, HKab⟩
    icases HVo with ⟨HVo, HVpb, HVab⟩
    iapply (await_write c 0 (k.val - 8) ((off44_eq k h8).trans hb8) (off45_eq k h8) (off43_eq k h8) (IK.ch (k.val - 8) 4) W2) $$ [HKo Hw]
    · skip
      isplitl [HKo]; · iexact HKo
      iexact Hw
    iintro ⟨⟨HKob, HKfb⟩, HKsb, ⟨%W3, Hw⟩⟩
    iapply (await_write c 1 (k.val - 8) ((off44_eq k h8).trans hb8) (off45_eq k h8) (off46_eq k h8) (IV.ch (k.val - 8) 4) W3) $$ [HVo Hw]
    · skip
      isplitl [HVo]; · iexact HVo
      iexact Hw
    iintro ⟨⟨HVob, HVfb⟩, HVsb, ⟨%W4, Hw⟩⟩
    by_cases h16 : k.val + 16 < 270
    · have h3 := (cond3_iff k h8).mpr h16
      rw [dif_pos h3]
      have hb24 : (![4 * (k.val - 8 + 24), 0, 0, 0] : Fin 4 → ℕ) = ![4 * ((k.val - 8 + 24) % 270), 0, 0, 0] := by rw [Nat.mod_eq_of_lt (show k.val - 8 + 24 < 270 by omega)]
      have hm : (k.val - 8) % 24 = (k.val - 8 + 24) % 24 := by omega
      rw [slot_congr arg12 hm, slot_congr arg13 hm, cell_congr arg19 0 hm, cell_congr arg20 0 hm, cell_congr arg19 1 hm, cell_congr arg20 1 hm]
      ihave HK := take_idle (k := k.val) (hk := h8) (hk' := h16) $$ HK
      ihave HV := take_idle (k := k.val) (hk := h8) (hk' := h16) $$ HV
      icases HK with ⟨HKi, HK⟩
      icases HV with ⟨HVi, HV⟩
      unfold idle
      icases HKi with ⟨HKi, HKyb⟩
      icases HVi with ⟨HVi, HVyb⟩
      iapply (issue_read c 0 (k.val - 8 + 24) ((off49_eq k h8).trans hb24) (off48_eq k h8) (off47_eq k h8) (IK.x (k.val - 8 + 24)) (IK.ch (k.val - 8) 4)) $$ [HKi HKfb HKab]
      · skip
        isplitl [HKi]; · iexact HKi
        isplitl [HKfb]; · iexact HKfb
        iexact HKab
      iintro HKrb
      iapply (issue_read c 1 (k.val - 8 + 24) ((off49_eq k h8).trans hb24) (off48_eq k h8) (off50_eq k h8) (IV.x (k.val - 8 + 24)) (IV.ch (k.val - 8) 4)) $$ [HVi HVfb HVab]
      · skip
        isplitl [HVi]; · iexact HVi
        isplitl [HVfb]; · iexact HVfb
        iexact HVab
      iintro HVrb
      iapply (ret_at c)
      isplitl [Hp]; · iexact Hp
      isplitl [HKw HKp HKa HKob HKpb HKrb HKyb HKsb HK]
      · iapply (put_read (k := k.val) (hk := h8) (hk' := h16))
        isplitl [HKw HKp HKa]
        · unfold wr
          isplitl [HKw]; · iexact HKw
          isplitl [HKp]; · iexact HKp
          iexact HKa
        isplitl [HKob HKpb]
        · unfold done
          isplitl [HKob]; · iexact HKob
          iexact HKpb
        isplitl [HKrb HKyb HKsb]
        · unfold rd
          isplitl [HKrb]; · iexact HKrb
          isplitl [HKyb]; · iexact HKyb
          iexact HKsb
        iexact HK
      isplitl [HVw HVp HVa HVob HVpb HVrb HVyb HVsb HV]
      · iapply (put_read (k := k.val) (hk := h8) (hk' := h16))
        isplitl [HVw HVp HVa]
        · unfold wr
          isplitl [HVw]; · iexact HVw
          isplitl [HVp]; · iexact HVp
          iexact HVa
        isplitl [HVob HVpb]
        · unfold done
          isplitl [HVob]; · iexact HVob
          iexact HVpb
        isplitl [HVrb HVyb HVsb]
        · unfold rd
          isplitl [HVrb]; · iexact HVrb
          isplitl [HVyb]; · iexact HVyb
          iexact HVsb
        iexact HV
      iexists W4
      iexact Hw
    · have h3 : ¬ k0_cond3 k = 1#1 := fun h => h16 ((cond3_iff k h8).mp h)
      rw [dif_neg h3]
      iapply (ret_at c)
      isplitl [Hp]; · iexact Hp
      isplitl [HKw HKp HKa HKob HKpb HKfb HKab HKsb HK]
      · iapply (put_free (k := k.val) (hk := h8) (hk' := h16) (hk'' := hk))
        isplitl [HKw HKp HKa]
        · unfold wr
          isplitl [HKw]; · iexact HKw
          isplitl [HKp]; · iexact HKp
          iexact HKa
        isplitl [HKob HKpb]
        · unfold done
          isplitl [HKob]; · iexact HKob
          iexact HKpb
        isplitl [HKfb HKab HKsb]
        · iapply (free_of (j := k.val - 8))
          isplitl [HKfb]; · iexact HKfb
          isplitl [HKab]; · iexact HKab
          iexact HKsb
        iexact HK
      isplitl [HVw HVp HVa HVob HVpb HVfb HVab HVsb HV]
      · iapply (put_free (k := k.val) (hk := h8) (hk' := h16) (hk'' := hk))
        isplitl [HVw HVp HVa]
        · unfold wr
          isplitl [HVw]; · iexact HVw
          isplitl [HVp]; · iexact HVp
          iexact HVa
        isplitl [HVob HVpb]
        · unfold done
          isplitl [HVob]; · iexact HVob
          iexact HVpb
        isplitl [HVfb HVab HVsb]
        · iapply (free_of (j := k.val - 8))
          isplitl [HVfb]; · iexact HVfb
          isplitl [HVab]; · iexact HVab
          iexact HVsb
        iexact HV
      iexists W4
      iexact Hw
  · have h2 : ¬ k0_cond2 k = 1#1 := fun h => h8 ((cond2_iff k).mp h)
    rw [dif_neg h2]
    iapply (ret_at c)
    isplitl [Hp]; · iexact Hp
    isplitl [HKw HKp HKa HK]
    · iapply (put_early (k := k.val) (hk := by omega))
      isplitl [HKw HKp HKa]
      · unfold wr
        isplitl [HKw]; · iexact HKw
        isplitl [HKp]; · iexact HKp
        iexact HKa
      iexact HK
    isplitl [HVw HVp HVa HV]
    · iapply (put_early (k := k.val) (hk := by omega))
      isplitl [HVw HVp HVa]
      · unfold wr
        isplitl [HVw]; · iexact HVw
        isplitl [HVp]; · iexact HVp
        iexact HVa
      iexact HV
    iexists W2
    iexact Hw

/-- The whole sweep. -/
theorem sweep (IK IV : Inp F) (hlen : IV.len = IK.len) (hpg : IV.pg = IK.pg) {hok : k0_t3_loop.OK}
    {β : Type} {kk : Unit → Prog (TpuEff nD τ sig (Elt F) Λ₀ .tc) β} {Q : β → sProp 𝕄} :
    sweepR arg1 arg2 arg3 arg8 arg10 arg12 arg13 arg14 arg15 arg16 arg17 arg18 arg19 arg20 c IK IV 0
      ⊢ iprop((sweepR arg1 arg2 arg3 arg8 arg10 arg12 arg13 arg14 arg15 arg16 arg17 arg18 arg19 arg20 c IK IV 270 -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t3_loop hok ⟨⟩ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 0#32 1#32) >>= kk) Q) := by
  have h := Scf.wp_for_bind (M := 𝕄) frame (wpE (defs₀ (F := F)) 𝒱₀ (c : Thread nD τ) none) Set.univ k0_t3_loop.lb k0_t3_loop.ub k0_t3_loop.st hok ()
    (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 0#32 1#32)
    (fun t _ => sweepR arg1 arg2 arg3 arg8 arg10 arg12 arg13 arg14 arg15 arg16 arg17 arg18 arg19 arg20 c IK IV t)
    (fun t acc => trip arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV hlen hpg t acc) (kk := kk) (Q := Q)
  refine h.trans ?_
  rw [show Scf.trips k0_t3_loop.lb k0_t3_loop.ub k0_t3_loop.st = 270 from t3_trips]
  iintro H Hk
  iapply H
  iintro %acc H
  iapply Hk
  iexact H

end Cert.KernelIdeal.Sweep

end
-- ==== Proof.IdealFirst.lean ====
/- The first reads: 24 chunks of either pool. -/
module

public import proofs.«01_k».proof.Proof.IdealSweep

@[expose] public section

noncomputable section

namespace Cert.KernelIdeal.First

open Cert.KernelIdeal Cert.KernelIdeal.Gen Cert.KernelIdeal.Pieces Cert.KernelIdeal.Words Cert.KernelIdeal.Model Cert.Arith Cert.KernelIdeal.Page Cert.KernelIdeal.Pool Cert.KernelIdeal.Sweep
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

theorem off1_eq (n : ℕ) (h : n < 24) : k0_off1 (w n) = ![0, n % 24] := by
  simp (disch := omega) only [k0_off1, Scalar.indexCast, remsi_w, toNat_w, show (24#32 : BitVec 32) = w 24 from rfl]
theorem off2_eq (n : ℕ) (h : n < 24) : k0_off2 (w n) = ![n % 24, 0, 0, 0, 0] := by
  simp (disch := omega) only [k0_off2, Scalar.indexCast, remsi_w, toNat_w, show (24#32 : BitVec 32) = w 24 from rfl]
theorem off3_eq (n : ℕ) (h : n < 24) : k0_off3 (w n) = ![1, n % 24] := by
  simp (disch := omega) only [k0_off3, Scalar.indexCast, remsi_w, toNat_w, show (24#32 : BitVec 32) = w 24 from rfl]

section rules

variable (P : PoolM) (R : RingM) (O : PoolM) (A B : DmaSems sig S2x24) (h : Fin 2) (X G : ℕ → Chunk F)

/-- The pool with its first `j` reads under way. -/
def startR (j : ℕ) : sProp 𝕄 :=
  iprop(bigSep (Finset.Ico 0 0) (done c P O X G) ∗ bigSep (Finset.Ico 0 0) (wr c P R O A B h X G)
    ∗ bigSep (Finset.Ico 0 j) (rd c P R O A B h X) ∗ bigSep (Finset.Ico j 270) (idle c P O X) ∗ bigSep (Finset.Ico j 24) (free c R A B h))

theorem start_all : startR c P R O A B h X G 24 ⊢ poolR c P R O A B h X G 0 := .rfl

variable {α : Type} {k : PUnit → Prog (TpuEff nD τ sig (Elt F) Λ₀ .tc) α}
  {ob : Fin 4 → ℕ} {os : Fin 5 → ℕ} {oc : Fin 2 → ℕ}
  {ib : ∀ a, ob a + S4x256x8x128.size a ≤ S1080x256x8x128.size a} {is : ∀ a, os a + S1x4x256x8x128.size a ≤ S24x4x256x8x128.size a}
  {ic : ∀ a, oc a + S1x1.size a ≤ S2x24.size a}

/-- One read is issued. -/
theorem begin_read {Q : α → sProp 𝕄} (j : ℕ) (hj : j < 24) (hob : ob = ![4 * (j % 270), 0, 0, 0]) (hos : os = ![j % 24, 0, 0, 0, 0]) (hoc : oc = ![h.val, j % 24]) {e1 e2 e3} :
    startR c P R O A B h X G j
      ⊢ iprop((startR c P R O A B h X G (j + 1) -∗ wp frame (wpE (defs₀ (F := F)) 𝒱₀ (c : Thread nD τ) none) Set.univ (k ⟨⟩) Q)
        -∗ wp frame (wpE (defs₀ (F := F)) 𝒱₀ (c : Thread nD τ) none) Set.univ (
          Prog.lift (.enqueueDma (P.slice (Rect.unit (s := S1080x256x8x128) ob S4x256x8x128.size ib) (fun _ => rfl))
            (.here ((R.slice (Rect.unit (s := S24x4x256x8x128) os S1x4x256x8x128.size is) (fun _ => rfl)).squeeze S4x256x8x128 squeezes_S1x4x256x8x128_S4x256x8x128))
            (.dma ((A.slice (Rect.unit (s := S2x24) oc S1x1.size ic)).squeeze S_ squeezes_S1x1_S_).sem) e1 e2 e3) >>= k) Q) := by
  unfold startR
  rw [bigSep_Ico_succ_bot (show j < 270 by omega), bigSep_Ico_succ_bot hj, bigSep_Ico_succ_top (show 0 ≤ j by omega)]
  iintro ⟨H1, H2, H3, ⟨Hi, H4⟩, ⟨Hf, H5⟩⟩
  unfold idle free
  icases Hi with ⟨Hx, Hy⟩
  icases Hf with ⟨⟨%y, Hs⟩, Ha, Hb⟩
  iintro Hk
  iapply (issue_read c h j hob hos hoc (X j) y) $$ [Hx Hs Ha]
  · isplitl [Hx]; · iexact Hx
    isplitl [Hs]; · iexact Hs
    iexact Ha
  iintro Hr
  iapply Hk
  isplitl [H1]; · iexact H1
  isplitl [H2]; · iexact H2
  isplitl [Hr Hy Hb H3]
  · isplitl [Hr Hy Hb]
    · unfold rd
      isplitl [Hr]; · iexact Hr
      isplitl [Hy]; · iexact Hy
      iexact Hb
    iexact H3
  isplitl [H4]; · iexact H4
  iexact H5

end rules

/-- Reads 1 to 2 and 1 to 2. -/
theorem part9 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 1 ∗ startR c arg3 arg13 arg10 arg19 arg20 1 IV.x (fun j => IV.ch j 4) 1)
      ⊢ iprop((iprop(startR c arg2 arg12 arg8 arg19 arg20 0 IK.x (fun j => IK.ch j 4) 3 ∗ startR c arg3 arg13 arg10 arg19 arg20 1 IV.x (fun j => IV.ch j 4) 3) -∗ wp frame (wpE (defs₀ (F := F)) 𝒱₀ (c : Thread nD τ) none) Set.univ (kk ⟨⟩) Q) -∗ wp frame (wpE (defs₀ (F := F)) 𝒱₀ (c : Thread nD τ) none) Set.univ (k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part9_eq_skeleton]
  unfold k0_part9_skel
  iapply (begin_read c arg2 arg12 arg8 arg19 arg20 0 IK.x (fun j => IK.ch j 4) 1 (by decide) rfl (off2_eq 1 (by decide)) (off1_eq 1 (by decide))) $$ HK
  iintro HK
  iapply (begin_read c arg3 arg13 arg10 arg19 arg20 1 IV.x (fun j => IV.ch j 4) 1 (by decide) rfl (off2_eq 1 (by decide)) (off3_eq 1 (by decide))) $$ HV
  iintro HV
  iapply (begin_read c arg2 arg12 arg8 arg19 arg20 0 IK.x (fun j => IK.ch j 4) 2 (by decide) rfl (off2_eq 2 (by decide)) (off1_eq 2 (by decide))) $$ HK
  iintro HK
  iapply (begin_read c arg3 arg13 arg10 arg19 arg20 1 IV.x (fun j => IV.ch j 4) 2 (by decide) rfl (off2_eq 2 (by decide)) (off3_eq 2 (by decide))) $$ HV
  iintro HV
  iapply (ret_at c)
  iapply Hk
  isplitl [HK]; · iexact HK
  iexact HV

/-- Reads 3 to 4 and 3 to 3. -/
theorem part10 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 3 ∗ startR c arg3 arg13 arg10 arg19 arg20 1 IV.x (fun j => IV.ch j 4) 3)
      ⊢ iprop((iprop(startR c arg2 arg12 arg8 arg19 arg20 0 IK.x (fun j => IK.ch j 4) 5 ∗ startR c arg3 arg13 arg10 arg19 arg20 1 IV.x (fun j => IV.ch j 4) 4) -∗ wp frame (wpE (defs₀ (F := F)) 𝒱₀ (c : Thread nD τ) none) Set.univ (kk ⟨⟩) Q) -∗ wp frame (wpE (defs₀ (F := F)) 𝒱₀ (c : Thread nD τ) none) Set.univ (k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part10_eq_skeleton]
  unfold k0_part10_skel
  iapply (begin_read c arg2 arg12 arg8 arg19 arg20 0 IK.x (fun j => IK.ch j 4) 3 (by decide) rfl (off2_eq 3 (by decide)) (off1_eq 3 (by decide))) $$ HK
  iintro HK
  iapply (begin_read c arg3 arg13 arg10 arg19 arg20 1 IV.x (fun j => IV.ch j 4) 3 (by decide) rfl (off2_eq 3 (by decide)) (off3_eq 3 (by decide))) $$ HV
  iintro HV
  iapply (begin_read c arg2 arg12 arg8 arg19 arg20 0 IK.x (fun j => IK.ch j 4) 4 (by decide) rfl (off2_eq 4 (by decide)) (off1_eq 4 (by decide))) $$ HK
  iintro HK
  iapply (ret_at c)
  iapply Hk
  isplitl [HK]; · iexact HK
  iexact HV

/-- Reads 5 to 6 and 4 to 5. -/
theorem part11 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 5 ∗ startR c arg3 arg13 arg10 arg19 arg20 1 IV.x (fun j => IV.ch j 4) 4)
      ⊢ iprop((iprop(startR c arg2 arg12 arg8 arg19 arg20 0 IK.x (fun j => IK.ch j 4) 7 ∗ startR c arg3 arg13 arg10 arg19 arg20 1 IV.x (fun j => IV.ch j 4) 6) -∗ wp frame (wpE (defs₀ (F := F)) 𝒱₀ (c : Thread nD τ) none) Set.univ (kk ⟨⟩) Q) -∗ wp frame (wpE (defs₀ (F := F)) 𝒱₀ (c : Thread nD τ) none) Set.univ (k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part11_eq_skeleton]
  unfold k0_part11_skel
  iapply (begin_read c arg3 arg13 arg10 arg19 arg20 1 IV.x (fun j => IV.ch j 4) 4 (by decide) rfl (off2_eq 4 (by decide)) (off3_eq 4 (by decide))) $$ HV
  iintro HV
  iapply (begin_read c arg2 arg12 arg8 arg19 arg20 0 IK.x (fun j => IK.ch j 4) 5 (by decide) rfl (off2_eq 5 (by decide)) (off1_eq 5 (by decide))) $$ HK
  iintro HK
  iapply (begin_read c arg3 arg13 arg10 arg19 arg20 1 IV.x (fun j => IV.ch j 4) 5 (by decide) rfl (off2_eq 5 (by decide)) (off3_eq 5 (by decide))) $$ HV
  iintro HV
  iapply (begin_read c arg2 arg12 arg8 arg19 arg20 0 IK.x (fun j => IK.ch j 4) 6 (by decide) rfl (off2_eq 6 (by decide)) (off1_eq 6 (by decide))) $$ HK
  iintro HK
  iapply (ret_at c)
  iapply Hk
  isplitl [HK]; · iexact HK
  iexact HV

/-- Reads 7 to 8 and 6 to 7. -/
theorem part12 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 7 ∗ startR c arg3 arg13 arg10 arg19 arg20 1 IV.x (fun j => IV.ch j 4) 6)
      ⊢ iprop((iprop(startR c arg2 arg12 arg8 arg19 arg20 0 IK.x (fun j => IK.ch j 4) 9 ∗ startR c arg3 arg13 arg10 arg19 arg20 1 IV.x (fun j => IV.ch j 4) 8) -∗ wp frame (wpE (defs₀ (F := F)) 𝒱₀ (c : Thread nD τ) none) Set.univ (kk ⟨⟩) Q) -∗ wp frame (wpE (defs₀ (F := F)) 𝒱₀ (c : Thread nD τ) none) Set.univ (k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part12_eq_skeleton]
  unfold k0_part12_skel
  iapply (begin_read c arg3 arg13 arg10 arg19 arg20 1 IV.x (fun j => IV.ch j 4) 6 (by decide) rfl (off2_eq 6 (by decide)) (off3_eq 6 (by decide))) $$ HV
  iintro HV
  iapply (begin_read c arg2 arg12 arg8 arg19 arg20 0 IK.x (fun j => IK.ch j 4) 7 (by decide) rfl (off2_eq 7 (by decide)) (off1_eq 7 (by decide))) $$ HK
  iintro HK
  iapply (begin_read c arg3 arg13 arg10 arg19 arg20 1 IV.x (fun j => IV.ch j 4) 7 (by decide) rfl (off2_eq 7 (by decide)) (off3_eq 7 (by decide))) $$ HV
  iintro HV
  iapply (begin_read c arg2 arg12 arg8 arg19 arg20 0 IK.x (fun j => IK.ch j 4) 8 (by decide) rfl (off2_eq 8 (by decide)) (off1_eq 8 (by decide))) $$ HK
  iintro HK
  iapply (ret_at c)
  iapply Hk
  isplitl [HK]; · iexact HK
  iexact HV

/-- Reads 9 to 9 and 8 to 9. -/
theorem part13 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 9 ∗ startR c arg3 arg13 arg10 arg19 arg20 1 IV.x (fun j => IV.ch j 4) 8)
      ⊢ iprop((iprop(startR c arg2 arg12 arg8 arg19 arg20 0 IK.x (fun j => IK.ch j 4) 10 ∗ startR c arg3 arg13 arg10 arg19 arg20 1 IV.x (fun j => IV.ch j 4) 10) -∗ wp frame (wpE (defs₀ (F := F)) 𝒱₀ (c : Thread nD τ) none) Set.univ (kk ⟨⟩) Q) -∗ wp frame (wpE (defs₀ (F := F)) 𝒱₀ (c : Thread nD τ) none) Set.univ (k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part13_eq_skeleton]
  unfold k0_part13_skel
  iapply (begin_read c arg3 arg13 arg10 arg19 arg20 1 IV.x (fun j => IV.ch j 4) 8 (by decide) rfl (off2_eq 8 (by decide)) (off3_eq 8 (by decide))) $$ HV
  iintro HV
  iapply (begin_read c arg2 arg12 arg8 arg19 arg20 0 IK.x (fun j => IK.ch j 4) 9 (by decide) rfl (off2_eq 9 (by decide)) (off1_eq 9 (by decide))) $$ HK
  iintro HK
  iapply (begin_read c arg3 arg13 arg10 arg19 arg20 1 IV.x (fun j => IV.ch j 4) 9 (by decide) rfl (off2_eq 9 (by decide)) (off3_eq 9 (by decide))) $$ HV
  iintro HV
  iapply (ret_at c)
  iapply Hk
  isplitl [HK]; · iexact HK
  iexact HV

/-- Reads 10 to 11 and 10 to 11. -/
theorem part14 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 10 ∗ startR c arg3 arg13 arg10 arg19 arg20 1 IV.x (fun j => IV.ch j 4) 10)
      ⊢ iprop((iprop(startR c arg2 arg12 arg8 arg19 arg20 0 IK.x (fun j => IK.ch j 4) 12 ∗ startR c arg3 arg13 arg10 arg19 arg20 1 IV.x (fun j => IV.ch j 4) 12) -∗ wp frame (wpE (defs₀ (F := F)) 𝒱₀ (c : Thread nD τ) none) Set.univ (kk ⟨⟩) Q) -∗ wp frame (wpE (defs₀ (F := F)) 𝒱₀ (c : Thread nD τ) none) Set.univ (k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part14_eq_skeleton]
  unfold k0_part14_skel
  iapply (begin_read c arg2 arg12 arg8 arg19 arg20 0 IK.x (fun j => IK.ch j 4) 10 (by decide) rfl (off2_eq 10 (by decide)) (off1_eq 10 (by decide))) $$ HK
  iintro HK
  iapply (begin_read c arg3 arg13 arg10 arg19 arg20 1 IV.x (fun j => IV.ch j 4) 10 (by decide) rfl (off2_eq 10 (by decide)) (off3_eq 10 (by decide))) $$ HV
  iintro HV
  iapply (begin_read c arg2 arg12 arg8 arg19 arg20 0 IK.x (fun j => IK.ch j 4) 11 (by decide) rfl (off2_eq 11 (by decide)) (off1_eq 11 (by decide))) $$ HK
  iintro HK
  iapply (begin_read c arg3 arg13 arg10 arg19 arg20 1 IV.x (fun j => IV.ch j 4) 11 (by decide) rfl (off2_eq 11 (by decide)) (off3_eq 11 (by decide))) $$ HV
  iintro HV
  iapply (ret_at c)
  iapply Hk
  isplitl [HK]; · iexact HK
  iexact HV

/-- Reads 12 to 13 and 12 to 13. -/
theorem part15 (IK IV : Inp F) {α : Type} {kk : (Σ' (_ : BitVec 32), BitVec 32) → Prog (TpuEff nD τ sig (Elt F) Λ₀ .tc) α} {Q : α → sProp 𝕄} :
    iprop(startR c arg2 arg12 arg8 arg19 arg20 0 IK.x (fun j => IK.ch j 4) 12 ∗ startR c arg3 arg13 arg10 arg19 arg20 1 IV.x (fun j => IV.ch j 4) 12)
      ⊢ iprop((iprop(startR c arg2 arg12 arg8 arg19 arg20 0 IK.x (fun j => IK.ch j 4) 14 ∗ startR c arg3 arg13 arg10 arg19 arg20 1 IV.x (fun j => IV.ch j 4) 14) -∗ wp frame (wpE (defs₀ (F := F)) 𝒱₀ (c : Thread nD τ) none) Set.univ (kk ⟨14#32, 24#32⟩) Q) -∗ wp frame (wpE (defs₀ (F := F)) 𝒱₀ (c : Thread nD τ) none) Set.univ (k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part15_eq_skeleton]
  unfold k0_part15_skel
  iapply (begin_read c arg2 arg12 arg8 arg19 arg20 0 IK.x (fun j => IK.ch j 4) 12 (by decide) rfl (off2_eq 12 (by decide)) (off1_eq 12 (by decide))) $$ HK
  iintro HK
  iapply (begin_read c arg3 arg13 arg10 arg19 arg20 1 IV.x (fun j => IV.ch j 4) 12 (by decide) rfl (off2_eq 12 (by decide)) (off3_eq 12 (by decide))) $$ HV
  iintro HV
  iapply (begin_read c arg2 arg12 arg8 arg19 arg20 0 IK.x (fun j => IK.ch j 4) 13 (by decide) rfl (off2_eq 13 (by decide)) (off1_eq 13 (by decide))) $$ HK
  iintro HK
  iapply (begin_read c arg3 arg13 arg10 arg19 arg20 1 IV.x (fun j => IV.ch j 4) 13 (by decide) rfl (off2_eq 13 (by decide)) (off3_eq 13 (by decide))) $$ HV
  iintro HV
  iapply (ret_at c)
  iapply Hk
  isplitl [HK]; · iexact HK
  iexact HV

/-- Reads 14 to 15 and 14 to 14. -/
theorem part16 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 14 ∗ startR c arg3 arg13 arg10 arg19 arg20 1 IV.x (fun j => IV.ch j 4) 14)
      ⊢ iprop((iprop(startR c arg2 arg12 arg8 arg19 arg20 0 IK.x (fun j => IK.ch j 4) 16 ∗ startR c arg3 arg13 arg10 arg19 arg20 1 IV.x (fun j => IV.ch j 4) 15) -∗ wp frame (wpE (defs₀ (F := F)) 𝒱₀ (c : Thread nD τ) none) Set.univ (kk ⟨⟩) Q) -∗ wp frame (wpE (defs₀ (F := F)) 𝒱₀ (c : Thread nD τ) none) Set.univ (k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 14#32 24#32 >>= kk) Q) := by
  iintro ⟨HK, HV⟩ Hk
  rw [wp_bind, k0_part16_eq_skeleton]
  unfold k0_part16_skel
  iapply (begin_read c arg2 arg12 arg8 arg19 arg20 0 IK.x (fun j => IK.ch j 4) 14 (by decide) rfl (off2_eq 14 (by decide)) (off1_eq 14 (by decide))) $$ HK
  iintro HK
  iapply (begin_read c arg3 arg13 arg10 arg19 arg20 1 IV.x (fun j => IV.ch j 4) 14 (by decide) rfl (off2_eq 14 (by decide)) (off3_eq 14 (by decide))) $$ HV
  iintro HV
  iapply (begin_read c arg2 arg12 arg8 arg19 arg20 0 IK.x (fun j => IK.ch j 4) 15 (by decide) rfl (off2_eq 15 (by decide)) (off1_eq 15 (by decide))) $$ HK
  iintro HK
  iapply (ret_at c)
  iapply Hk
  isplitl [HK]; · iexact HK
  iexact HV

/-- Reads 16 to 17 and 15 to 16. -/
theorem part17 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 16 ∗ startR c arg3 arg13 arg10 arg19 arg20 1 IV.x (fun j => IV.ch j 4) 15)
      ⊢ iprop((iprop(startR c arg2 arg12 arg8 arg19 arg20 0 IK.x (fun j => IK.ch j 4) 18 ∗ startR c arg3 arg13 arg10 arg19 arg20 1 IV.x (fun j => IV.ch j 4) 17) -∗ wp frame (wpE (defs₀ (F := F)) 𝒱₀ (c : Thread nD τ) none) Set.univ (kk ⟨⟩) Q) -∗ wp frame (wpE (defs₀ (F := F)) 𝒱₀ (c : Thread nD τ) none) Set.univ (k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part17_eq_skeleton]
  unfold k0_part17_skel
  iapply (begin_read c arg3 arg13 arg10 arg19 arg20 1 IV.x (fun j => IV.ch j 4) 15 (by decide) rfl (off2_eq 15 (by decide)) (off3_eq 15 (by decide))) $$ HV
  iintro HV
  iapply (begin_read c arg2 arg12 arg8 arg19 arg20 0 IK.x (fun j => IK.ch j 4) 16 (by decide) rfl (off2_eq 16 (by decide)) (off1_eq 16 (by decide))) $$ HK
  iintro HK
  iapply (begin_read c arg3 arg13 arg10 arg19 arg20 1 IV.x (fun j => IV.ch j 4) 16 (by decide) rfl (off2_eq 16 (by decide)) (off3_eq 16 (by decide))) $$ HV
  iintro HV
  iapply (begin_read c arg2 arg12 arg8 arg19 arg20 0 IK.x (fun j => IK.ch j 4) 17 (by decide) rfl (off2_eq 17 (by decide)) (off1_eq 17 (by decide))) $$ HK
  iintro HK
  iapply (ret_at c)
  iapply Hk
  isplitl [HK]; · iexact HK
  iexact HV

/-- Reads 18 to 18 and 17 to 18. -/
theorem part18 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 18 ∗ startR c arg3 arg13 arg10 arg19 arg20 1 IV.x (fun j => IV.ch j 4) 17)
      ⊢ iprop((iprop(startR c arg2 arg12 arg8 arg19 arg20 0 IK.x (fun j => IK.ch j 4) 19 ∗ startR c arg3 arg13 arg10 arg19 arg20 1 IV.x (fun j => IV.ch j 4) 19) -∗ wp frame (wpE (defs₀ (F := F)) 𝒱₀ (c : Thread nD τ) none) Set.univ (kk ⟨⟩) Q) -∗ wp frame (wpE (defs₀ (F := F)) 𝒱₀ (c : Thread nD τ) none) Set.univ (k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part18_eq_skeleton]
  unfold k0_part18_skel
  iapply (begin_read c arg3 arg13 arg10 arg19 arg20 1 IV.x (fun j => IV.ch j 4) 17 (by decide) rfl (off2_eq 17 (by decide)) (off3_eq 17 (by decide))) $$ HV
  iintro HV
  iapply (begin_read c arg2 arg12 arg8 arg19 arg20 0 IK.x (fun j => IK.ch j 4) 18 (by decide) rfl (off2_eq 18 (by decide)) (off1_eq 18 (by decide))) $$ HK
  iintro HK
  iapply (begin_read c arg3 arg13 arg10 arg19 arg20 1 IV.x (fun j => IV.ch j 4) 18 (by decide) rfl (off2_eq 18 (by decide)) (off3_eq 18 (by decide))) $$ HV
  iintro HV
  iapply (ret_at c)
  iapply Hk
  isplitl [HK]; · iexact HK
  iexact HV

/-- Reads 19 to 20 and 19 to 20. -/
theorem part19 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 19 ∗ startR c arg3 arg13 arg10 arg19 arg20 1 IV.x (fun j => IV.ch j 4) 19)
      ⊢ iprop((iprop(startR c arg2 arg12 arg8 arg19 arg20 0 IK.x (fun j => IK.ch j 4) 21 ∗ startR c arg3 arg13 arg10 arg19 arg20 1 IV.x (fun j => IV.ch j 4) 21) -∗ wp frame (wpE (defs₀ (F := F)) 𝒱₀ (c : Thread nD τ) none) Set.univ (kk ⟨⟩) Q) -∗ wp frame (wpE (defs₀ (F := F)) 𝒱₀ (c : Thread nD τ) none) Set.univ (k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part19_eq_skeleton]
  unfold k0_part19_skel
  iapply (begin_read c arg2 arg12 arg8 arg19 arg20 0 IK.x (fun j => IK.ch j 4) 19 (by decide) rfl (off2_eq 19 (by decide)) (off1_eq 19 (by decide))) $$ HK
  iintro HK
  iapply (begin_read c arg3 arg13 arg10 arg19 arg20 1 IV.x (fun j => IV.ch j 4) 19 (by decide) rfl (off2_eq 19 (by decide)) (off3_eq 19 (by decide))) $$ HV
  iintro HV
  iapply (begin_read c arg2 arg12 arg8 arg19 arg20 0 IK.x (fun j => IK.ch j 4) 20 (by decide) rfl (off2_eq 20 (by decide)) (off1_eq 20 (by decide))) $$ HK
  iintro HK
  iapply (begin_read c arg3 arg13 arg10 arg19 arg20 1 IV.x (fun j => IV.ch j 4) 20 (by decide) rfl (off2_eq 20 (by decide)) (off3_eq 20 (by decide))) $$ HV
  iintro HV
  iapply (ret_at c)
  iapply Hk
  isplitl [HK]; · iexact HK
  iexact HV

/-- Reads 21 to 22 and 21 to 22. -/
theorem part20 (IK IV : Inp F) {α : Type} {kk : PUnit → Prog (TpuEff nD τ sig (Elt F) Λ₀ .tc) α} {Q : α → sProp 𝕄} :
    iprop(startR c arg2 arg12 arg8 arg19 arg20 0 IK.x (fun j => IK.ch j 4) 21 ∗ startR c arg3 arg13 arg10 arg19 arg20 1 IV.x (fun j => IV.ch j 4) 21)
      ⊢ iprop((iprop(startR c arg2 arg12 arg8 arg19 arg20 0 IK.x (fun j => IK.ch j 4) 23 ∗ startR c arg3 arg13 arg10 arg19 arg20 1 IV.x (fun j => IV.ch j 4) 23) -∗ wp frame (wpE (defs₀ (F := F)) 𝒱₀ (c : Thread nD τ) none) Set.univ (kk ⟨⟩) Q) -∗ wp frame (wpE (defs₀ (F := F)) 𝒱₀ (c : Thread nD τ) none) Set.univ (k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 >>= kk) Q) := by
  iintro ⟨HK, HV⟩ Hk
  rw [wp_bind, k0_part20_eq_skeleton]
  unfold k0_part20_skel
  iapply (begin_read c arg2 arg12 arg8 arg19 arg20 0 IK.x (fun j => IK.ch j 4) 21 (by decide) rfl (off2_eq 21 (by decide)) (off1_eq 21 (by decide))) $$ HK
  iintro HK
  iapply (begin_read c arg3 arg13 arg10 arg19 arg20 1 IV.x (fun j => IV.ch j 4) 21 (by decide) rfl (off2_eq 21 (by decide)) (off3_eq 21 (by decide))) $$ HV
  iintro HV
  iapply (begin_read c arg2 arg12 arg8 arg19 arg20 0 IK.x (fun j => IK.ch j 4) 22 (by decide) rfl (off2_eq 22 (by decide)) (off1_eq 22 (by decide))) $$ HK
  iintro HK
  iapply (begin_read c arg3 arg13 arg10 arg19 arg20 1 IV.x (fun j => IV.ch j 4) 22 (by decide) rfl (off2_eq 22 (by decide)) (off3_eq 22 (by decide))) $$ HV
  iintro HV
  iapply (ret_at c)
  iapply Hk
  isplitl [HK]; · iexact HK
  iexact HV

end Cert.KernelIdeal.First

end
-- ==== Proof.IdealOwner.lean ====
/- The table of owners, and the last writes. -/
module

public import proofs.«01_k».proof.Proof.IdealSweep

@[expose] public section

noncomputable section

namespace Cert.KernelIdeal.Owner

open Cert.KernelIdeal Cert.KernelIdeal.Gen Cert.KernelIdeal.Pieces Cert.KernelIdeal.Words Cert.KernelIdeal.Model Cert.Arith Cert.KernelIdeal.Page Cert.KernelIdeal.Pool Cert.KernelIdeal.Sweep
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

/-- The table with its first `n` words cleared. -/
def clr (x : S1080.Idx → Elt F .i32) (n : ℕ) : S1080.Idx → Elt F .i32 := fun i => if (i 0).val < n then 4294967295#32 else x i
/-- The table after the first `n` sequences. -/
def tab (pg : ℕ → ℕ) (n : ℕ) : S1080.Idx → Elt F .i32 := fun i => ownW (ownAt pg n (i 0).val)

theorem clr_zero (x : S1080.Idx → Elt F .i32) : clr x 0 = x := by
  funext i
  exact if_neg (Nat.not_lt_zero _)
theorem clr_all (x : S1080.Idx → Elt F .i32) (pg : ℕ → ℕ) : clr x 1080 = tab (F := F) pg 0 := by
  funext i
  exact if_pos (i 0).isLt
theorem clr_succ (x : S1080.Idx → Elt F .i32) (n : ℕ) (hn : n < 1080) :
    Function.update (clr x n) (ix1 (⟨n, hn⟩ : Fin 1080)) (4294967295#32 : BitVec 32) = clr x (n + 1) := by
  funext i
  by_cases h : (i 0).val = n
  · have e : i = ix1 (⟨n, hn⟩ : Fin 1080) := by
      funext a
      fin_cases a
      exact Fin.ext h
    rw [e, Function.update_self]
    exact (if_pos (Nat.lt_succ_self n)).symm
  · rw [Function.update_of_ne (by rintro rfl; exact h rfl)]
    unfold clr
    by_cases h' : (i 0).val < n
    · rw [if_pos h', if_pos (by omega)]
    · rw [if_neg h', if_neg (by omega)]
theorem tab_succ (pg : ℕ → ℕ) (n : ℕ) (hp : pg n < 1080) :
    Function.update (tab (F := F) pg n) (ix1 (⟨pg n, hp⟩ : Fin 1080)) (w n : BitVec 32) = tab pg (n + 1) := by
  funext i
  by_cases h : (i 0).val = pg n
  · have e : i = ix1 (⟨pg n, hp⟩ : Fin 1080) := by
      funext a
      fin_cases a
      exact Fin.ext h
    rw [e, Function.update_self]
    show w n = ownW (if pg n = pg n then some n else ownAt pg n (pg n))
    rw [if_pos rfl]
    rfl
  · rw [Function.update_of_ne (by rintro rfl; exact h rfl)]
    show _ = ownW (if pg n = (i 0).val then some n else ownAt pg n (i 0).val)
    rw [if_neg (fun e => h e.symm)]
    rfl

/-- One word cleared. -/
theorem clear_step (x : S1080.Idx → Elt F .i32) (k : Fin k0_t1_loop.trips) (acc : Unit) :
    holds (c : Thread nD τ) arg18 (clr x k.val)
      ⊢ wp frame (wpE (defs₀ (F := F)) 𝒱₀ (c : Thread nD τ) none) Set.univ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k acc) (fun _ => holds (c : Thread nD τ) arg18 (clr x (k.val + 1))) := by
  have hk := lt1 k
  have ho : ∀ a, k0_off4 k a = (ix1 (⟨k.val, hk⟩ : Fin 1080) a).val := by rw [off4_eq k]; intro a; fin_cases a; rfl
  unfold k0_t1_body
  iintro H
  iapply (load_word c (clr x k.val) (ix1 (⟨k.val, hk⟩ : Fin 1080)) ho) $$ H
  iintro H
  iapply (store_word c (clr x k.val) (ix1 (⟨k.val, hk⟩ : Fin 1080)) ho (fun a => by fin_cases a; rfl) (4294967295#32 : BitVec 32)) $$ H
  iintro H
  rw [clr_succ x k.val hk]
  iapply (ret_at c)
  iexact H

/-- The table is cleared. -/
theorem clear (x : S1080.Idx → Elt F .i32) {hok : k0_t1_loop.OK}
    {β : Type} {kk : Unit → Prog (TpuEff nD τ sig (Elt F) Λ₀ .tc) β} {Q : β → sProp 𝕄} :
    holds (c : Thread nD τ) arg18 (clr x 0)
      ⊢ iprop((holds (c : Thread nD τ) arg18 (clr x 1080) -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t1_loop hok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22) >>= kk) Q) := by
  have h := Scf.wp_for_bind (M := 𝕄) frame (wpE (defs₀ (F := F)) 𝒱₀ (c : Thread nD τ) none) Set.univ k0_t1_loop.lb k0_t1_loop.ub k0_t1_loop.st hok ()
    (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22)
    (fun t _ => holds (c : Thread nD τ) arg18 (clr x t))
    (fun t acc => clear_step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c x t acc) (kk := kk) (Q := Q)
  refine h.trans ?_
  rw [show Scf.trips k0_t1_loop.lb k0_t1_loop.ub k0_t1_loop.st = 1080 from t1_trips]
  iintro H Hk
  iapply H
  iintro %acc H
  iapply Hk
  iexact H

set_option cleanup.letToHave false in
set_option maxHeartbeats 400000 in
/-- One sequence's page gets its owner. -/
theorem own_step (I : Inp F) (pt : S18x48.Idx → Elt F .i32) (hpt : ∀ b : Fin 48, pt (ix2 (⟨I.len b / 256, by have := I.hlen b; omega⟩ : Fin 18) b) = w (I.pg b)) (k : Fin k0_t2_loop.trips) (acc : Unit) :
    iprop(holds (c : Thread nD τ) arg18 (tab I.pg k.val) ∗ holds (c : Thread nD τ) arg1 (lenArr I) ∗ holds (c : Thread nD τ) arg0 pt)
      ⊢ wp frame (wpE (defs₀ (F := F)) 𝒱₀ (c : Thread nD τ) none) Set.univ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k acc) (fun _ => iprop(holds (c : Thread nD τ) arg18 (tab I.pg (k.val + 1)) ∗ holds (c : Thread nD τ) arg1 (lenArr I) ∗ holds (c : Thread nD τ) arg0 pt)) := by
  have hk := lt2 k
  have hl := I.hlen k.val
  have hp := I.hpg k.val
  have h5 : ∀ a, k0_off5 k a = (ix1 (⟨k.val, hk⟩ : Fin 48) a).val := by rw [off5_eq k]; intro a; fin_cases a; rfl
  have h6 : ∀ a, k0_off6 k (w (I.len k.val)) a = (ix2 (⟨I.len k.val / 256, by omega⟩ : Fin 18) (⟨k.val, hk⟩ : Fin 48) a).val := by rw [off6_eq k _ hl]; intro a; fin_cases a <;> rfl
  have h7 : ∀ a, k0_off7 (w (I.pg k.val)) a = (ix1 (⟨I.pg k.val, hp⟩ : Fin 1080) a).val := by rw [off7_eq _ hp]; intro a; fin_cases a; rfl
  unfold k0_t2_body
  iintro ⟨Ho, Hl, Hp⟩
  iapply (load_word c (lenArr I) (ix1 (⟨k.val, hk⟩ : Fin 48)) h5) $$ Hl
  iintro Hl
  rw [show lenArr (F := F) I (ix1 (⟨k.val, hk⟩ : Fin 48)) = w (I.len k.val) from rfl]
  iapply (assume_at c (chk1_of k _ hl))
  iapply (load_word c pt (ix2 (⟨I.len k.val / 256, by omega⟩ : Fin 18) (⟨k.val, hk⟩ : Fin 48)) h6) $$ Hp
  iintro Hp
  rw [show pt (ix2 (⟨I.len k.val / 256, by omega⟩ : Fin 18) (⟨k.val, hk⟩ : Fin 48)) = w (I.pg k.val) from hpt ⟨k.val, hk⟩]
  iapply (assume_at c (chk2_of _ hp))
  iapply (load_word c (tab I.pg k.val) (ix1 (⟨I.pg k.val, hp⟩ : Fin 1080)) h7) $$ Ho
  iintro Ho
  iapply (store_word c (tab I.pg k.val) (ix1 (⟨I.pg k.val, hp⟩ : Fin 1080)) h7 (fun a => by fin_cases a; rfl) (Scalar.addi 0#32 (Scalar.muli (Scf.iv 0#32 1#32 k) 1#32) : BitVec 32)) $$ [Ho]
  · iexact Ho
  iintro Ho
  rw [show (Scalar.addi 0#32 (Scalar.muli (Scf.iv 0#32 1#32 k.val) 1#32) : BitVec 32) = w k.val by rw [muli_one, addi_zero]; exact (iv_w 0 k.val).trans (by rw [Nat.zero_add])]
  rw [tab_succ I.pg k.val hp]
  iapply (ret_at c)
  isplitl [Ho]; · iexact Ho
  isplitl [Hl]; · iexact Hl
  iexact Hp

/-- The table is filled in. -/
theorem owners (I : Inp F) (pt : S18x48.Idx → Elt F .i32) (hpt : ∀ b : Fin 48, pt (ix2 (⟨I.len b / 256, by have := I.hlen b; omega⟩ : Fin 18) b) = w (I.pg b)) {hok : k0_t2_loop.OK}
    {β : Type} {kk : Unit → Prog (TpuEff nD τ sig (Elt F) Λ₀ .tc) β} {Q : β → sProp 𝕄} :
    iprop(holds (c : Thread nD τ) arg18 (tab I.pg 0) ∗ holds (c : Thread nD τ) arg1 (lenArr I) ∗ holds (c : Thread nD τ) arg0 pt)
      ⊢ iprop((iprop(holds (c : Thread nD τ) arg18 (tab I.pg 48) ∗ holds (c : Thread nD τ) arg1 (lenArr I) ∗ holds (c : Thread nD τ) arg0 pt) -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t2_loop hok ⟨⟩ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22) >>= kk) Q) := by
  have h := Scf.wp_for_bind (M := 𝕄) frame (wpE (defs₀ (F := F)) 𝒱₀ (c : Thread nD τ) none) Set.univ k0_t2_loop.lb k0_t2_loop.ub k0_t2_loop.st hok ()
    (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22)
    (fun t _ => iprop(holds (c : Thread nD τ) arg18 (tab I.pg t) ∗ holds (c : Thread nD τ) arg1 (lenArr I) ∗ holds (c : Thread nD τ) arg0 pt))
    (fun t acc => own_step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c I pt hpt t acc) (kk := kk) (Q := Q)
  refine h.trans ?_
  rw [show Scf.trips k0_t2_loop.lb k0_t2_loop.ub k0_t2_loop.st = 48 from t2_trips]
  iintro H Hk
  iapply H
  iintro %acc H
  iapply Hk
  iexact H

/-- The pool when `t` of the last writes are over. -/
def drainR (P : PoolM) (R : RingM) (O : PoolM) (A B : DmaSems sig S2x24) (h : Fin 2) (X G : ℕ → Chunk F) (t : ℕ) : sProp 𝕄 :=
  iprop(bigSep (Finset.Ico 0 (262 + t)) (done c P O X G) ∗ bigSep (Finset.Ico (262 + t) 270) (wr c P R O A B h X G) ∗ bigSep (Finset.Ico 270 (286 + t)) (free c R A B h))

theorem drain_take (P : PoolM) (R : RingM) (O : PoolM) (A B : DmaSems sig S2x24) (h : Fin 2) (X G : ℕ → Chunk F) (t : ℕ) (ht : t < 8) :
    drainR c P R O A B h X G t ⊢ iprop(wr c P R O A B h X G (262 + t) ∗ bigSep (Finset.Ico 0 (262 + t)) (done c P O X G)
      ∗ bigSep (Finset.Ico (262 + t + 1) 270) (wr c P R O A B h X G) ∗ bigSep (Finset.Ico 270 (286 + t)) (free c R A B h)) := by
  unfold drainR
  rw [bigSep_Ico_succ_bot (show 262 + t < 270 by omega)]
  iintro ⟨H1, ⟨H2, H3⟩, H4⟩
  isplitl [H2]; · iexact H2
  isplitl [H1]; · iexact H1
  isplitl [H3]; · iexact H3
  iexact H4

theorem drain_put (P : PoolM) (R : RingM) (O : PoolM) (A B : DmaSems sig S2x24) (h : Fin 2) (X G : ℕ → Chunk F) (t : ℕ) :
    iprop(done c P O X G (262 + t) ∗ free c R A B h (262 + t + 24) ∗ bigSep (Finset.Ico 0 (262 + t)) (done c P O X G)
      ∗ bigSep (Finset.Ico (262 + t + 1) 270) (wr c P R O A B h X G) ∗ bigSep (Finset.Ico 270 (286 + t)) (free c R A B h)) ⊢ drainR c P R O A B h X G (t + 1) := by
  unfold drainR
  rw [show 262 + (t + 1) = 262 + t + 1 by omega, show 286 + (t + 1) = 286 + t + 1 by omega, show 262 + t + 24 = 286 + t by omega,
    bigSep_Ico_succ_top (show 0 ≤ 262 + t by omega), bigSep_Ico_succ_top (show 270 ≤ 286 + t by omega)]
  iintro ⟨Hd, Hf, H1, H3, H4⟩
  isplitl [Hd H1]
  · isplitl [Hd]; · iexact Hd
    iexact H1
  isplitl [H3]; · iexact H3
  isplitl [Hf]; · iexact Hf
  iexact H4

theorem drain_start (P : PoolM) (R : RingM) (O : PoolM) (A B : DmaSems sig S2x24) (h : Fin 2) (X G : ℕ → Chunk F) :
    poolR c P R O A B h X G 270 ⊢ drainR c P R O A B h X G 0 := by
  unfold poolR drainR
  rw [show min 270 (270 - 8 + 24) = 270 from rfl]
  iintro ⟨H1, H2, H3, H4, H5⟩
  iclear H3
  iclear H4
  isplitl [H1]; · iexact H1
  isplitl [H2]; · iexact H2
  iexact H5

/-- One chunk's last writes. -/
theorem drain_step (IK IV : Inp F) (k : Fin k0_t13_loop.trips) (acc : Unit) :
    iprop(drainR c arg2 arg12 arg8 arg19 arg20 0 IK.x (fun j => IK.ch j 4) k.val ∗ drainR c arg3 arg13 arg10 arg19 arg20 1 IV.x (fun j => IV.ch j 4) k.val ∗ ∃ W, owes (c : Thread nD τ) 0 W)
      ⊢ wp frame (wpE (defs₀ (F := F)) 𝒱₀ (c : Thread nD τ) none) Set.univ (k0_t13_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 k acc) (fun _ => iprop(drainR c arg2 arg12 arg8 arg19 arg20 0 IK.x (fun j => IK.ch j 4) (k.val + 1) ∗ drainR c arg3 arg13 arg10 arg19 arg20 1 IV.x (fun j => IV.ch j 4) (k.val + 1) ∗ ∃ W, owes (c : Thread nD τ) 0 W)) := by
  have hk := lt13 k
  have hb : (![4 * (262 + k.val), 0, 0, 0] : Fin 4 → ℕ) = ![4 * ((262 + k.val) % 270), 0, 0, 0] := by rw [Nat.mod_eq_of_lt (show 262 + k.val < 270 by omega)]
  unfold k0_t13_body
  iintro ⟨HK, HV, ⟨%W0, Hw⟩⟩
  ihave HK := drain_take (t := k.val) (ht := hk) $$ HK
  ihave HV := drain_take (t := k.val) (ht := hk) $$ HV
  icases HK with ⟨HKw, HK⟩
  icases HV with ⟨HVw, HV⟩
  unfold wr
  icases HKw with ⟨HKw, HKp, HKa⟩
  icases HVw with ⟨HVw, HVp, HVa⟩
  iapply (await_write c 0 (262 + k.val) ((off52_eq k).trans hb) (off53_eq k) (off51_eq k) (IK.ch (262 + k.val) 4) W0) $$ [HKw Hw]
  · skip
    isplitl [HKw]; · iexact HKw
    iexact Hw
  iintro ⟨⟨HKo, HKs⟩, HKb, ⟨%W1, Hw⟩⟩
  iapply (await_write c 1 (262 + k.val) ((off52_eq k).trans hb) (off53_eq k) (off54_eq k) (IV.ch (262 + k.val) 4) W1) $$ [HVw Hw]
  · skip
    isplitl [HVw]; · iexact HVw
    iexact Hw
  iintro ⟨⟨HVo, HVs⟩, HVb, ⟨%W2, Hw⟩⟩
  iapply (ret_at c)
  isplitl [HKo HKp HKs HKa HKb HK]
  · iapply (drain_put (t := k.val))
    isplitl [HKo HKp]
    · unfold done
      isplitl [HKo]; · iexact HKo
      iexact HKp
    isplitl [HKs HKa HKb]
    · iapply (free_of (j := 262 + k.val))
      isplitl [HKs]; · iexact HKs
      isplitl [HKa]; · iexact HKa
      iexact HKb
    iexact HK
  isplitl [HVo HVp HVs HVa HVb HV]
  · iapply (drain_put (t := k.val))
    isplitl [HVo HVp]
    · unfold done
      isplitl [HVo]; · iexact HVo
      iexact HVp
    isplitl [HVs HVa HVb]
    · iapply (free_of (j := 262 + k.val))
      isplitl [HVs]; · iexact HVs
      isplitl [HVa]; · iexact HVa
      iexact HVb
    iexact HV
  iexists W2
  iexact Hw

/-- The last writes. -/
theorem drain (IK IV : Inp F) {hok : k0_t13_loop.OK}
    {β : Type} {kk : Unit → Prog (TpuEff nD τ sig (Elt F) Λ₀ .tc) β} {Q : β → sProp 𝕄} :
    iprop(drainR c arg2 arg12 arg8 arg19 arg20 0 IK.x (fun j => IK.ch j 4) 0 ∗ drainR c arg3 arg13 arg10 arg19 arg20 1 IV.x (fun j => IV.ch j 4) 0 ∗ ∃ W, owes (c : Thread nD τ) 0 W)
      ⊢ iprop((iprop(drainR c arg2 arg12 arg8 arg19 arg20 0 IK.x (fun j => IK.ch j 4) 8 ∗ drainR c arg3 arg13 arg10 arg19 arg20 1 IV.x (fun j => IV.ch j 4) 8 ∗ ∃ W, owes (c : Thread nD τ) 0 W) -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t13_loop hok ⟨⟩ (k0_t13_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22) >>= kk) Q) := by
  have h := Scf.wp_for_bind (M := 𝕄) frame (wpE (defs₀ (F := F)) 𝒱₀ (c : Thread nD τ) none) Set.univ k0_t13_loop.lb k0_t13_loop.ub k0_t13_loop.st hok ()
    (k0_t13_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22)
    (fun t _ => iprop(drainR c arg2 arg12 arg8 arg19 arg20 0 IK.x (fun j => IK.ch j 4) t ∗ drainR c arg3 arg13 arg10 arg19 arg20 1 IV.x (fun j => IV.ch j 4) t ∗ ∃ W, owes (c : Thread nD τ) 0 W))
    (fun t acc => drain_step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV t acc) (kk := kk) (Q := Q)
  refine h.trans ?_
  rw [show Scf.trips k0_t13_loop.lb k0_t13_loop.ub k0_t13_loop.st = 8 from t13_trips]
  iintro H Hk
  iapply H
  iintro %acc H
  iapply Hk
  iexact H

end Cert.KernelIdeal.Owner

end
-- ==== Proof.IdealJoin.lean ====
/- A pool as its chunks, a ring as its slots. -/
module

public import proofs.«01_k».proof.Proof.IdealFirst
public import proofs.«01_k».proof.Proof.IdealOwner

@[expose] public section

noncomputable section

namespace Cert.KernelIdeal.Join

open Cert.KernelIdeal Cert.KernelIdeal.Gen Cert.KernelIdeal.Pieces Cert.KernelIdeal.Words Cert.KernelIdeal.Model Cert.Arith Cert.KernelIdeal.Page Cert.KernelIdeal.Pool Cert.KernelIdeal.Sweep Cert.KernelIdeal.Owner Cert.KernelIdeal.First
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (c : Dev nD)

/-- Chunk `j` of a pool. -/
def sub (x : S1080x256x8x128.Idx → Elt F .i8) (j : ℕ) : Chunk F :=
  fun y => x (ix4 (⟨4 * (j % 270) + (y 0).val, by have h : (y 0).val < 4 := (y 0).isLt; have := Nat.mod_lt j (show 0 < 270 by decide); omega⟩ : Fin 1080) (y 1) (y 2) (y 3))
/-- The pool of the given chunks. -/
def glue (G : ℕ → Chunk F) : S1080x256x8x128.Idx → Elt F .i8 :=
  fun i => G ((i 0).val / 4) (ix4 (⟨(i 0).val % 4, Nat.mod_lt _ (by decide)⟩ : Fin 4) (i 1) (i 2) (i 3))
/-- Slot `j` of a ring. -/
def subR (x : S24x4x256x8x128.Idx → Elt F .i8) (j : ℕ) : Chunk F :=
  fun y => x (ix5 (⟨j % 24, Nat.mod_lt _ (by decide)⟩ : Fin 24) (y 0) (y 1) (y 2) (y 3))
/-- The ring of the given slots. -/
def glueR (G : ℕ → Chunk F) : S24x4x256x8x128.Idx → Elt F .i8 := fun i => G (i 0).val (ix4 (i 1) (i 2) (i 3) (i 4))

theorem sub_glue (G : ℕ → Chunk F) (j : ℕ) (hj : j < 270) : sub (glue G) j = G j := by
  funext y
  have h : (y 0).val < 4 := (y 0).isLt
  have hm := Nat.mod_eq_of_lt hj
  have e1 : (4 * (j % 270) + (y 0).val) / 4 = j := by omega
  have e2 : (4 * (j % 270) + (y 0).val) % 4 = (y 0).val := by omega
  show G ((4 * (j % 270) + (y 0).val) / 4) (ix4 (⟨(4 * (j % 270) + (y 0).val) % 4, Nat.mod_lt _ (by decide)⟩ : Fin 4) (y 1) (y 2) (y 3)) = G j y
  rw [e1]
  congr 1
  funext a
  fin_cases a
  · exact Fin.ext e2
  · rfl
  · rfl
  · rfl
theorem subR_glueR (G : ℕ → Chunk F) (j : ℕ) (hj : j < 24) : subR (glueR G) j = G j := by
  funext y
  show G (j % 24) (ix4 (y 0) (y 1) (y 2) (y 3)) = G j y
  rw [Nat.mod_eq_of_lt hj]
  exact congrArg (G j) (ix4_eta y).symm

/-- A chunk's element in the pool. -/
theorem blk_emb (P : PoolM) (j : ℕ) (y : S4x256x8x128.Idx) : (blk P j).view.emb y
    = P.view.emb (ix4 (⟨4 * (j % 270) + (y 0).val, by have h : (y 0).val < 4 := (y 0).isLt; have := Nat.mod_lt j (show 0 < 270 by decide); omega⟩ : Fin 1080) (y 1) (y 2) (y 3)) := by
  show P.view.emb ((Rect.unit (s := S1080x256x8x128) ![4 * (j % 270), 0, 0, 0] S4x256x8x128.size (blk_inb j)).emb y) = _
  congr 1
  funext a
  apply Fin.ext
  rw [Rect.emb_apply]
  fin_cases a <;> simp [Rect.unit]

theorem blk_set (P : PoolM) : (P.view.set : Finset _) = (Finset.Ico 0 270).biUnion fun j => (blk P j).view.set := by
  ext i
  constructor
  · intro hi
    obtain ⟨y, -, rfl⟩ := Finset.mem_map.mp hi
    have h0 : (y 0).val < 1080 := (y 0).isLt
    refine Finset.mem_biUnion.mpr ⟨(y 0).val / 4, Finset.mem_Ico.mpr ⟨Nat.zero_le _, by omega⟩, ?_⟩
    refine Finset.mem_map.mpr ⟨ix4 (⟨(y 0).val % 4, Nat.mod_lt _ (by decide)⟩ : Fin 4) (y 1) (y 2) (y 3), Finset.mem_univ _, ?_⟩
    refine (blk_emb P _ _).trans ?_
    congr 1
    funext a
    fin_cases a
    · apply Fin.ext
      show 4 * ((y 0).val / 4 % 270) + (y 0).val % 4 = (y 0).val
      omega
    · rfl
    · rfl
    · rfl
  · intro hi
    obtain ⟨j, -, hj⟩ := Finset.mem_biUnion.mp hi
    obtain ⟨y, -, rfl⟩ := Finset.mem_map.mp hj
    exact Finset.mem_map.mpr ⟨_, Finset.mem_univ _, (blk_emb P j y).symm⟩

theorem blk_disj (P : PoolM) (j j' : ℕ) (hj : j < 270) (hj' : j' < 270) (h : j ≠ j') : Disjoint (blk P j).view.set (blk P j').view.set := by
  refine Finset.disjoint_left.mpr fun i hi hi' => h ?_
  obtain ⟨y, -, rfl⟩ := Finset.mem_map.mp hi
  obtain ⟨y', -, e⟩ := Finset.mem_map.mp hi'
  have e' := P.view.emb.injective ((blk_emb P j' y').symm.trans (e.trans (blk_emb P j y)))
  have e0 := congrArg Fin.val (congrFun e' 0)
  have hy : (y 0).val < 4 := (y 0).isLt
  have hy' : (y' 0).val < 4 := (y' 0).isLt
  have e1 : 4 * (j' % 270) + (y' 0).val = 4 * (j % 270) + (y 0).val := e0
  omega

/-- A pool is its chunks. -/
theorem pool_blocks (P : PoolM) (x : S1080x256x8x128.Idx → Elt F .i8) :
    holds (c : Thread nD τ) P x = bigSep (Finset.Ico 0 270) fun j => holds (c : Thread nD τ) (blk P j) (sub x j) := by
  have h := pointsTo_biUnion (Ix := Unit) (Val := Elt F) (Name := ℕ) (U := UU nD τ) (Lvl := ℕ) (ℓ := P.view.loc (c : Thread nD τ)) (q := fullShare) (f := P.view.rep x) (Finset.Ico 0 270) (fun j => (blk P j).view.set)
    (fun j hj j' hj' hne => blk_disj P j j' (Finset.mem_Ico.mp hj).2 (Finset.mem_Ico.mp hj').2 hne)
  unfold holds
  rw [blk_set P]
  refine h.trans (bigSep_congr fun j hj => ?_)
  refine pointsTo_congr fun i hi => ?_
  obtain ⟨y, -, rfl⟩ := Finset.mem_map.mp hi
  refine (congrArg (P.view.rep x) (blk_emb P j y)).trans ?_
  refine Eq.trans ?_ (View.rep_emb (blk P j).view (sub x j) y).symm
  exact View.rep_emb P.view x _

/-! ## The ring -/

theorem slot_emb' (R : RingM) (j : ℕ) (y : S4x256x8x128.Idx) : (slot R j).view.emb y
    = R.view.emb (ix5 (⟨j % 24, Nat.mod_lt _ (by decide)⟩ : Fin 24) (y 0) (y 1) (y 2) (y 3)) := by
  conv_lhs => rw [ix4_eta y]
  exact slot_emb R j _ _ _ _

theorem slot_set (R : RingM) : (R.view.set : Finset _) = (Finset.Ico 0 24).biUnion fun j => (slot R j).view.set := by
  ext i
  constructor
  · intro hi
    obtain ⟨y, -, rfl⟩ := Finset.mem_map.mp hi
    have h0 : (y 0).val < 24 := (y 0).isLt
    refine Finset.mem_biUnion.mpr ⟨(y 0).val, Finset.mem_Ico.mpr ⟨Nat.zero_le _, by omega⟩, ?_⟩
    refine Finset.mem_map.mpr ⟨ix4 (y 1) (y 2) (y 3) (y 4), Finset.mem_univ _, ?_⟩
    refine (slot_emb R _ _ _ _ _).trans ?_
    congr 1
    funext a
    fin_cases a
    · exact Fin.ext (Nat.mod_eq_of_lt h0)
    all_goals rfl
  · intro hi
    obtain ⟨j, -, hj⟩ := Finset.mem_biUnion.mp hi
    obtain ⟨y, -, rfl⟩ := Finset.mem_map.mp hj
    exact Finset.mem_map.mpr ⟨_, Finset.mem_univ _, (slot_emb' R j y).symm⟩

theorem slot_disj (R : RingM) (j j' : ℕ) (hj : j < 24) (hj' : j' < 24) (h : j ≠ j') : Disjoint (slot R j).view.set (slot R j').view.set := by
  refine Finset.disjoint_left.mpr fun i hi hi' => h ?_
  obtain ⟨y, -, rfl⟩ := Finset.mem_map.mp hi
  obtain ⟨y', -, e⟩ := Finset.mem_map.mp hi'
  have e' := R.view.emb.injective ((slot_emb' R j' y').symm.trans (e.trans (slot_emb' R j y)))
  have e0 := congrArg Fin.val (congrFun e' 0)
  have e1 : j' % 24 = j % 24 := e0
  omega

/-- A ring is its slots. -/
theorem ring_slots (R : RingM) (x : S24x4x256x8x128.Idx → Elt F .i8) :
    holds (c : Thread nD τ) R x = bigSep (Finset.Ico 0 24) fun j => holds (c : Thread nD τ) (slot R j) (subR x j) := by
  have h := pointsTo_biUnion (Ix := Unit) (Val := Elt F) (Name := ℕ) (U := UU nD τ) (Lvl := ℕ) (ℓ := R.view.loc (c : Thread nD τ)) (q := fullShare) (f := R.view.rep x) (Finset.Ico 0 24) (fun j => (slot R j).view.set)
    (fun j hj j' hj' hne => slot_disj R j j' (Finset.mem_Ico.mp hj).2 (Finset.mem_Ico.mp hj').2 hne)
  unfold holds
  rw [slot_set R]
  refine h.trans (bigSep_congr fun j hj => ?_)
  refine pointsTo_congr fun i hi => ?_
  obtain ⟨y, -, rfl⟩ := Finset.mem_map.mp hi
  refine (congrArg (R.view.rep x) (slot_emb' R j y)).trans ?_
  refine Eq.trans ?_ (View.rep_emb (slot R j).view (subR x j) y).symm
  exact View.rep_emb R.view x _

/-- Slots at any contents are the ring at some contents. -/
theorem ring_join (R : RingM) : bigSep (Finset.Ico 0 24) (fun j => iprop(∃ y, holds (c : Thread nD τ) (slot R j) y))
    ⊢ (iprop(∃ x, holds (c : Thread nD τ) R x) : sProp 𝕄) := by
  haveI : ∀ i : ℕ, Nonempty (Chunk F) := fun _ => ⟨fun _ => (0 : BitVec 8)⟩
  refine (Idealize.SL.BI.bigSep_exists_pi (Y := fun _ : ℕ => Chunk F) (Finset.Ico 0 24) (fun j (y : Chunk F) => holds (c : Thread nD τ) (slot R j) y)).trans ?_
  iintro ⟨%y, H⟩
  iexists glueR y
  rw [ring_slots, bigSep_congr (Φ := fun j => holds (c : Thread nD τ) (slot R j) (subR (glueR y) j)) (Ψ := fun j => holds (c : Thread nD τ) (slot R j) (y j)) (fun j hj => by rw [subR_glueR y j (Finset.mem_Ico.mp hj).2])]
  iexact H

theorem holds_any {sp : Space} {s : Shape} {e : EltTy} (m : Memref sig .tc sp s e) (x : s.Idx → Elt F e) :
    holds (c : Thread nD τ) m x ⊢ (iprop(∃ y, holds (c : Thread nD τ) m y) : sProp 𝕄) := by
  iintro H
  iexists x
  iexact H
theorem pool_any (O : PoolM) (x : S1080x256x8x128.Idx → Elt F .i8) :
    holds (c : Thread nD τ) O x ⊢ (bigSep (Finset.Ico 0 270) (fun j => iprop(∃ y, holds (c : Thread nD τ) (blk O j) y)) : sProp 𝕄) := by
  rw [pool_blocks]
  exact bigSep_mono fun j _ => holds_any c (blk O j) (sub x j)
theorem ring_any (R : RingM) (x : S24x4x256x8x128.Idx → Elt F .i8) :
    holds (c : Thread nD τ) R x ⊢ (bigSep (Finset.Ico 0 24) (fun j => iprop(∃ y, holds (c : Thread nD τ) (slot R j) y)) : sProp 𝕄) := by
  rw [ring_slots]
  exact bigSep_mono fun j _ => holds_any c (slot R j) (subR x j)

theorem Ico_shift {M : Type _} [URA M] (A : ℕ → sProp M) (a n : ℕ) : bigSep (Finset.Ico a (a + n)) A = bigSep (Finset.Ico 0 n) (fun j => A (a + j)) := by
  induction n with
  | zero => rw [Nat.add_zero, Finset.Ico_self, Finset.Ico_self, bigSep_empty, bigSep_empty]
  | succ n ih => rw [← Nat.add_assoc, bigSep_Ico_succ_top (by omega), bigSep_Ico_succ_top (by omega), ih]
theorem Ico_split {M : Type _} [URA M] {a b d : ℕ} (hab : a ≤ b) (hbc : b ≤ d) (A : ℕ → sProp M) :
    bigSep (Finset.Ico a d) A = iprop(bigSep (Finset.Ico a b) A ∗ bigSep (Finset.Ico b d) A) := by
  rw [← Finset.Ico_union_Ico_eq_Ico hab hbc, bigSep_union (Finset.Ico_disjoint_Ico_consecutive a b d)]
  rfl
theorem Ico_period {M : Type _} [URA M] {B : ℕ} {A : ℕ → sProp M} (h : ∀ k, A (k + B) = A k) (n : ℕ) :
    bigSep (Finset.Ico n (n + B)) A = bigSep (Finset.Ico 0 B) A := by
  induction n with
  | zero => rw [Nat.zero_add]
  | succ n ih =>
    rw [← ih]
    rcases Nat.eq_zero_or_pos B with hB | hB
    · simp only [hB, Nat.add_zero, Finset.Ico_self]
    · rw [bigSep_Ico_succ_bot (show n < n + B by omega), show n + 1 + B = n + B + 1 by omega,
        bigSep_Ico_succ_top (show n + 1 ≤ n + B by omega), h]

section pools

variable (P : PoolM) (R : RingM) (O : PoolM) (A B : DmaSems sig S2x24) (h : Fin 2)

/-- The semaphores of one row. -/
def row (A : DmaSems sig S2x24) (h : Fin 2) : sProp 𝕄 := bigSep (Finset.Ico 0 24) fun j => semVal ((c : Thread nD τ), cell A h j) 0

theorem free_eq (n : ℕ) : bigSep (Finset.Ico 0 n) (free (F := F) c R A B h)
    = iprop(bigSep (Finset.Ico 0 n) (fun j => iprop(∃ y, holds (c : Thread nD τ) (slot R j) y)) ∗ bigSep (Finset.Ico 0 n) (fun j => semVal ((c : Thread nD τ), cell A h j) 0)
      ∗ bigSep (Finset.Ico 0 n) (fun j => semVal ((c : Thread nD τ), cell B h j) 0)) := by
  rw [← bigSep_sep', ← bigSep_sep']
  rfl

/-- A pool before its first read. -/
theorem start_intro (x : S1080x256x8x128.Idx → Elt F .i8) (G : ℕ → Chunk F) :
    iprop(holds (c : Thread nD τ) P x ∗ (∃ y, holds (c : Thread nD τ) O y) ∗ (∃ z, holds (c : Thread nD τ) R z) ∗ row c A h ∗ row c B h)
      ⊢ startR c P R O A B h (sub x) G 0 := by
  unfold startR row
  rw [free_eq, Finset.Ico_self, bigSep_empty, bigSep_empty, bigSep_empty, pool_blocks]
  iintro ⟨Hp, ⟨%y, Ho⟩, ⟨%z, Hr⟩, Ha, Hb⟩
  isplitr; · iempintro
  isplitr; · iempintro
  isplitr; · iempintro
  isplitl [Hp Ho]
  · rw [show idle (F := F) c P O (sub x) = fun j => iprop(holds (c : Thread nD τ) (blk P j) (sub x j) ∗ ∃ y, holds (c : Thread nD τ) (blk O j) y) from rfl, bigSep_sep']
    isplitl [Hp]; · iexact Hp
    iapply (pool_any c O y) $$ Ho
  isplitl [Hr]
  · iapply (ring_any c R z) $$ Hr
  isplitl [Ha]; · iexact Ha
  iexact Hb

/-- A pool after its last write. -/
theorem drain_elim (x : S1080x256x8x128.Idx → Elt F .i8) (G : ℕ → Chunk F) :
    drainR c P R O A B h (sub x) G 8
      ⊢ iprop(holds (c : Thread nD τ) P x ∗ holds (c : Thread nD τ) O (glue G) ∗ (∃ z, holds (c : Thread nD τ) R z) ∗ row c A h ∗ row c B h) := by
  unfold drainR row
  rw [show 262 + 8 = 270 from rfl, show 286 + 8 = 270 + 24 from rfl, Finset.Ico_self, bigSep_empty,
    Ico_period (A := free (F := F) c R A B h) (fun k => by
      unfold free
      rw [slot_congr R (Nat.add_mod_right k 24), cell_congr A h (Nat.add_mod_right k 24), cell_congr B h (Nat.add_mod_right k 24)]) 270,
    free_eq, show done (F := F) c P O (sub x) G = fun j => iprop(holds (c : Thread nD τ) (blk O j) (G j) ∗ holds (c : Thread nD τ) (blk P j) (sub x j)) from rfl, bigSep_sep',
    pool_blocks c P x, pool_blocks c O (glue G), bigSep_congr (Φ := fun j => holds (c : Thread nD τ) (blk O j) (sub (glue G) j)) (Ψ := fun j => holds (c : Thread nD τ) (blk O j) (G j)) (fun j hj => by rw [sub_glue G j (Finset.mem_Ico.mp hj).2])]
  iintro ⟨⟨Ho, Hp⟩, -, Hs, Ha, Hb⟩
  isplitl [Hp]; · iexact Hp
  isplitl [Ho]; · iexact Ho
  isplitl [Hs]
  · iapply (ring_join c R) $$ Hs
  isplitl [Ha]; · iexact Ha
  iexact Hb

end pools

end Cert.KernelIdeal.Join

end
-- ==== Proof.IdealWhole.lean ====
/- The whole kernel. -/
module

public import proofs.«01_k».proof.Proof.IdealOwner
public import proofs.«01_k».proof.Proof.IdealFirst

@[expose] public section

noncomputable section

namespace Cert.KernelIdeal.Whole

open Cert.KernelIdeal Cert.KernelIdeal.Gen Cert.KernelIdeal.Pieces Cert.KernelIdeal.Words Cert.KernelIdeal.Model Cert.Arith Cert.KernelIdeal.Page Cert.KernelIdeal.Pool Cert.KernelIdeal.Sweep Cert.KernelIdeal.Owner Cert.KernelIdeal.First
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (arg0 : Memref sig .tc .smem S18x48 .i32) (harg0 : arg0.IsWhole) (arg1 : Memref sig .tc .smem S48 .i32) (harg1 : arg1.IsWhole) (arg2 : Memref sig .tc .hbm S1080x256x8x128 .i8) (harg2 : arg2.IsWhole) (arg3 : Memref sig .tc .hbm S1080x256x8x128 .i8) (harg3 : arg3.IsWhole) (arg4 : Memref sig .tc .hbm S8x1080 .f32) (harg4 : arg4.IsWhole) (arg5 : Memref sig .tc .hbm S8x1080 .f32) (harg5 : arg5.IsWhole) (arg6 : Memref sig .tc .hbm S48x8x128 .bf16) (harg6 : arg6.IsWhole) (arg7 : Memref sig .tc .hbm S48x8x128 .bf16) (harg7 : arg7.IsWhole) (arg8 : Memref sig .tc .hbm S1080x256x8x128 .i8) (harg8 : arg8.IsWhole) (arg9 : Memref sig .tc .hbm S8x1080 .f32) (harg9 : arg9.IsWhole) (arg10 : Memref sig .tc .hbm S1080x256x8x128 .i8) (harg10 : arg10.IsWhole) (arg11 : Memref sig .tc .hbm S8x1080 .f32) (harg11 : arg11.IsWhole) (arg12 : Memref sig .tc .vmem S24x4x256x8x128 .i8) (harg12 : arg12.IsWhole) (arg13 : Memref sig .tc .vmem S24x4x256x8x128 .i8) (harg13 : arg13.IsWhole) (arg14 : Memref sig .tc .vmem S8x1080 .f32) (harg14 : arg14.IsWhole) (arg15 : Memref sig .tc .vmem S8x1080 .f32) (harg15 : arg15.IsWhole) (arg16 : Memref sig .tc .vmem S48x8x128 .bf16) (harg16 : arg16.IsWhole) (arg17 : Memref sig .tc .vmem S48x8x128 .bf16) (harg17 : arg17.IsWhole) (arg18 : Memref sig .tc .smem S1080 .i32) (harg18 : arg18.IsWhole) (arg19 : DmaSems sig S2x24) (arg20 : DmaSems sig S2x24) (arg21 : DmaSems sig S4) (arg22 : DmaSems sig S2)

variable (c : Dev nD)

/-- Before the kernel. -/
def preR (IK IV : Inp F) (pt : S18x48.Idx → Elt F .i32) : sProp 𝕄 :=
  iprop(startR c arg2 arg12 arg8 arg19 arg20 0 IK.x (fun j => IK.ch j 4) 0 ∗ startR c arg3 arg13 arg10 arg19 arg20 1 IV.x (fun j => IV.ch j 4) 0 ∗ holds (c : Thread nD τ) arg0 (pt) ∗ holds (c : Thread nD τ) arg1 (lenArr IK) ∗ holds (c : Thread nD τ) arg4 (IK.s) ∗ holds (c : Thread nD τ) arg5 (IV.s) ∗ holds (c : Thread nD τ) arg6 (IK.t) ∗ holds (c : Thread nD τ) arg7 (IV.t) ∗ (∃ x, holds (c : Thread nD τ) arg14 x) ∗ (∃ x, holds (c : Thread nD τ) arg15 x) ∗ (∃ x, holds (c : Thread nD τ) arg16 x) ∗ (∃ x, holds (c : Thread nD τ) arg17 x) ∗ (∃ x, holds (c : Thread nD τ) arg18 x) ∗ (∃ x, holds (c : Thread nD τ) arg9 x) ∗ (∃ x, holds (c : Thread nD τ) arg11 x) ∗ semVal ((c : Thread nD τ), .dma ((arg21.slice (Rect.unit (s := S4) ![0] S1.size inb_S4_S1_0)).squeeze S_ squeezes_S1_S_).sem) 0 ∗ semVal ((c : Thread nD τ), .dma ((arg21.slice (Rect.unit (s := S4) ![1] S1.size inb_S4_S1_1)).squeeze S_ squeezes_S1_S_).sem) 0 ∗ semVal ((c : Thread nD τ), .dma ((arg21.slice (Rect.unit (s := S4) ![2] S1.size inb_S4_S1_2)).squeeze S_ squeezes_S1_S_).sem) 0 ∗ semVal ((c : Thread nD τ), .dma ((arg21.slice (Rect.unit (s := S4) ![3] S1.size inb_S4_S1_3)).squeeze S_ squeezes_S1_S_).sem) 0 ∗ semVal ((c : Thread nD τ), .dma ((arg22.slice (Rect.unit (s := S2) ![0] S1.size inb_S2_S1_0)).squeeze S_ squeezes_S1_S_).sem) 0 ∗ semVal ((c : Thread nD τ), .dma ((arg22.slice (Rect.unit (s := S2) ![1] S1.size inb_S2_S1_1)).squeeze S_ squeezes_S1_S_).sem) 0 ∗ (∃ W, owes (c : Thread nD τ) 0 W))
/-- After the kernel. -/
def postR (IK IV : Inp F) (pt : S18x48.Idx → Elt F .i32) : sProp 𝕄 :=
  iprop(drainR c arg2 arg12 arg8 arg19 arg20 0 IK.x (fun j => IK.ch j 4) 8 ∗ drainR c arg3 arg13 arg10 arg19 arg20 1 IV.x (fun j => IV.ch j 4) 8 ∗ holds (c : Thread nD τ) arg0 (pt) ∗ holds (c : Thread nD τ) arg1 (lenArr IK) ∗ holds (c : Thread nD τ) arg4 (IK.s) ∗ holds (c : Thread nD τ) arg5 (IV.s) ∗ holds (c : Thread nD τ) arg6 (IK.t) ∗ holds (c : Thread nD τ) arg7 (IV.t) ∗ holds (c : Thread nD τ) arg14 (IK.sc 1080) ∗ holds (c : Thread nD τ) arg15 (IV.sc 1080) ∗ holds (c : Thread nD τ) arg16 (IK.t) ∗ holds (c : Thread nD τ) arg17 (IV.t) ∗ holds (c : Thread nD τ) arg18 (ownArr IK) ∗ holds (c : Thread nD τ) arg9 (IK.sc 1080) ∗ holds (c : Thread nD τ) arg11 (IV.sc 1080) ∗ semVal ((c : Thread nD τ), .dma ((arg21.slice (Rect.unit (s := S4) ![0] S1.size inb_S4_S1_0)).squeeze S_ squeezes_S1_S_).sem) 0 ∗ semVal ((c : Thread nD τ), .dma ((arg21.slice (Rect.unit (s := S4) ![1] S1.size inb_S4_S1_1)).squeeze S_ squeezes_S1_S_).sem) 0 ∗ semVal ((c : Thread nD τ), .dma ((arg21.slice (Rect.unit (s := S4) ![2] S1.size inb_S4_S1_2)).squeeze S_ squeezes_S1_S_).sem) 0 ∗ semVal ((c : Thread nD τ), .dma ((arg21.slice (Rect.unit (s := S4) ![3] S1.size inb_S4_S1_3)).squeeze S_ squeezes_S1_S_).sem) 0 ∗ semVal ((c : Thread nD τ), .dma ((arg22.slice (Rect.unit (s := S2) ![0] S1.size inb_S2_S1_0)).squeeze S_ squeezes_S1_S_).sem) 0 ∗ semVal ((c : Thread nD τ), .dma ((arg22.slice (Rect.unit (s := S2) ![1] S1.size inb_S2_S1_1)).squeeze S_ squeezes_S1_S_).sem) 0 ∗ (∃ W, owes (c : Thread nD τ) 0 W))

/-- The whole array of tokens moves some bytes. -/
theorem amount_tok {sp : Space} (m : Memref sig .tc sp S48x8x128 .bf16) (s : DmaSem sig) : 0 < m.view.amount (.dma s) := View.dmaCredit_pos _ (by decide +kernel)
/-- The whole array of scales moves some bytes. -/
theorem amount_sc {sp : Space} (m : Memref sig .tc sp S8x1080 .f32) (s : DmaSem sig) : 0 < m.view.amount (.dma s) := View.dmaCredit_pos _ (by decide +kernel)

set_option cleanup.letToHave false in
set_option maxHeartbeats 1000000 in
/-- The kernel run to its end. -/
theorem whole (IK IV : Inp F) (hlen : IV.len = IK.len) (hpg : IV.pg = IK.pg) (pt : S18x48.Idx → Elt F .i32) (hpt : ∀ b : Fin 48, pt (ix2 (⟨IK.len b / 256, by have := IK.hlen b; omega⟩ : Fin 18) b) = w (IK.pg b)) :
    preR arg0 arg1 arg2 arg3 arg4 arg5 arg6 arg7 arg8 arg9 arg10 arg11 arg12 arg13 arg14 arg15 arg16 arg17 arg18 arg19 arg20 arg21 arg22 c IK IV pt ⊢ wp frame (wpE (defs₀ (F := F)) 𝒱₀ (c : Thread nD τ) none) Set.univ (cc0_paged_int8_kv_append_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22) (fun _ => postR arg0 arg1 arg2 arg3 arg4 arg5 arg6 arg7 arg8 arg9 arg10 arg11 arg12 arg13 arg14 arg15 arg16 arg17 arg18 arg19 arg20 arg21 arg22 c IK IV pt) := by
  unfold preR cc0_paged_int8_kv_append_skel
  iintro ⟨HK, HV, H0, H1, H4, H5, H6, H7, ⟨%x14, H14⟩, ⟨%x15, H15⟩, ⟨%x16, H16⟩, ⟨%x17, H17⟩, ⟨%x18, H18⟩, ⟨%x9, H9⟩, ⟨%x11, H11⟩, HS0, HS1, HS2, HS3, HT0, HT1, ⟨%W0, Hw⟩⟩
  rw [wp_bind, k0_part8_eq_skeleton]
  unfold k0_part8_skel
  iapply (issue c (amount_sc _ _) (IK.s) (x14)) $$ [H4 H14 HS0]
  · isplitl [H4]; · iexact H4
    isplitl [H14]; · iexact H14
    iexact HS0
  iintro HF0
  iapply (issue c (amount_sc _ _) (IV.s) (x15)) $$ [H5 H15 HS1]
  · isplitl [H5]; · iexact H5
    isplitl [H15]; · iexact H15
    iexact HS1
  iintro HF1
  iapply (issue c (amount_tok _ _) (IK.t) (x16)) $$ [H6 H16 HS2]
  · isplitl [H6]; · iexact H6
    isplitl [H16]; · iexact H16
    iexact HS2
  iintro HF2
  iapply (issue c (amount_tok _ _) (IV.t) (x17)) $$ [H7 H17 HS3]
  · isplitl [H7]; · iexact H7
    isplitl [H17]; · iexact H17
    iexact HS3
  iintro HF3
  iapply (begin_read c arg2 arg12 arg8 arg19 arg20 0 IK.x (fun j => IK.ch j 4) 0 (by decide) rfl (off2_eq 0 (by decide)) (off1_eq 0 (by decide))) $$ HK
  iintro HK
  iapply (begin_read c arg3 arg13 arg10 arg19 arg20 1 IV.x (fun j => IV.ch j 4) 0 (by decide) rfl (off2_eq 0 (by decide)) (off3_eq 0 (by decide))) $$ HV
  iintro HV
  iapply (ret_at c)
  iapply (part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  iapply (part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV]
  · isplitl [HK]; · iexact HK
    iexact HV
  iintro ⟨HK, HV⟩
  rw [wp_bind, k0_part21_eq_skeleton]
  unfold k0_part21_skel
  iapply (begin_read c arg2 arg12 arg8 arg19 arg20 0 IK.x (fun j => IK.ch j 4) 23 (by decide) rfl (off2_eq 23 (by decide)) (off1_eq 23 (by decide))) $$ HK
  iintro HK
  iapply (begin_read c arg3 arg13 arg10 arg19 arg20 1 IV.x (fun j => IV.ch j 4) 23 (by decide) rfl (off2_eq 23 (by decide)) (off3_eq 23 (by decide))) $$ HV
  iintro HV
  rw [← clr_zero x18]
  iapply (clear arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c x18) $$ H18
  iintro H18
  rw [clr_all x18 IK.pg]
  iapply (owners arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK pt hpt) $$ [H18 H1 H0]
  · isplitl [H18]; · iexact H18
    isplitl [H1]; · iexact H1
    iexact H0
  iintro ⟨H18, H1, H0⟩
  iapply (await c (D := iprop(holds (c : Thread nD τ) arg14 (IK.s) ∗ holds (c : Thread nD τ) arg4 (IK.s))) (W := W0)) $$ [HF0 Hw]
  · isplitl [HF0]; · iexact HF0
    iexact Hw
  iintro ⟨⟨H14, H4⟩, HS0, ⟨%W1, Hw⟩⟩
  iapply (await c (D := iprop(holds (c : Thread nD τ) arg15 (IV.s) ∗ holds (c : Thread nD τ) arg5 (IV.s))) (W := W1)) $$ [HF1 Hw]
  · isplitl [HF1]; · iexact HF1
    iexact Hw
  iintro ⟨⟨H15, H5⟩, HS1, ⟨%W2, Hw⟩⟩
  iapply (await c (D := iprop(holds (c : Thread nD τ) arg16 (IK.t) ∗ holds (c : Thread nD τ) arg6 (IK.t))) (W := W2)) $$ [HF2 Hw]
  · isplitl [HF2]; · iexact HF2
    iexact Hw
  iintro ⟨⟨H16, H6⟩, HS2, ⟨%W3, Hw⟩⟩
  iapply (await c (D := iprop(holds (c : Thread nD τ) arg17 (IV.t) ∗ holds (c : Thread nD τ) arg7 (IV.t))) (W := W3)) $$ [HF3 Hw]
  · isplitl [HF3]; · iexact HF3
    iexact Hw
  iintro ⟨⟨H17, H7⟩, HS3, ⟨%W4, Hw⟩⟩
  iapply (ret_at c)
  ihave HK := start_all $$ HK
  ihave HV := start_all $$ HV
  iapply (sweep arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV hlen hpg) $$ [H18 H1 H16 H17 H14 H15 HK HV Hw]
  · unfold sweepR pageR
    isplitl [H18 H1 H16 H17 H14 H15]
    · isplitl [H18]; · iexact H18
      isplitl [H1]; · iexact H1
      isplitl [H16]; · iexact H16
      isplitl [H17]; · iexact H17
      isplitl [H14]; · iexact H14
      iexact H15
    isplitl [HK]; · iexact HK
    isplitl [HV]; · iexact HV
    iexists W4
    iexact Hw
  unfold sweepR pageR
  iintro ⟨⟨H18, H1, H16, H17, H14, H15⟩, HK, HV, ⟨%W5, Hw⟩⟩
  iapply (issue c (amount_sc _ _) (IK.sc 1080) (x9)) $$ [H14 H9 HT0]
  · isplitl [H14]; · iexact H14
    isplitl [H9]; · iexact H9
    iexact HT0
  iintro HF0
  iapply (issue c (amount_sc _ _) (IV.sc 1080) (x11)) $$ [H15 H11 HT1]
  · isplitl [H15]; · iexact H15
    isplitl [H11]; · iexact H11
    iexact HT1
  iintro HF1
  ihave HK := drain_start $$ HK
  ihave HV := drain_start $$ HV
  iapply (drain arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 c IK IV) $$ [HK HV Hw]
  · isplitl [HK]; · iexact HK
    isplitl [HV]; · iexact HV
    iexists W5
    iexact Hw
  iintro ⟨HK, HV, ⟨%W6, Hw⟩⟩
  iapply (await c (D := iprop(holds (c : Thread nD τ) arg9 (IK.sc 1080) ∗ holds (c : Thread nD τ) arg14 (IK.sc 1080))) (W := W6)) $$ [HF0 Hw]
  · isplitl [HF0]; · iexact HF0
    iexact Hw
  iintro ⟨⟨H9, H14⟩, HT0, ⟨%W7, Hw⟩⟩
  iapply (await c (D := iprop(holds (c : Thread nD τ) arg11 (IV.sc 1080) ∗ holds (c : Thread nD τ) arg15 (IV.sc 1080))) (W := W7)) $$ [HF1 Hw]
  · isplitl [HF1]; · iexact HF1
    iexact Hw
  iintro ⟨⟨H11, H15⟩, HT1, ⟨%W8, Hw⟩⟩
  iapply (ret_at c)
  unfold postR
  isplitl [HK]; · iexact HK
  isplitl [HV]; · iexact HV
  isplitl [H0]; · iexact H0
  isplitl [H1]; · iexact H1
  isplitl [H4]; · iexact H4
  isplitl [H5]; · iexact H5
  isplitl [H6]; · iexact H6
  isplitl [H7]; · iexact H7
  isplitl [H14]; · iexact H14
  isplitl [H15]; · iexact H15
  isplitl [H16]; · iexact H16
  isplitl [H17]; · iexact H17
  isplitl [H18]; · iexact H18
  isplitl [H9]; · iexact H9
  isplitl [H11]; · iexact H11
  isplitl [HS0]; · iexact HS0
  isplitl [HS1]; · iexact HS1
  isplitl [HS2]; · iexact HS2
  isplitl [HS3]; · iexact HS3
  isplitl [HT0]; · iexact HT0
  isplitl [HT1]; · iexact HT1
  iexists W8
  iexact Hw

end Cert.KernelIdeal.Whole

end
-- ==== Proof.IdealRun.lean ====
/- The kernel launched: what its region starts from and ends with. -/
module

public import proofs.«01_k».proof.Proof.IdealJoin
public import proofs.«01_k».proof.Proof.IdealWhole
public import proofs.«01_k».proof.Proof.Gen.KernelIdeal.Frame
public import Idealize.ShloMosaic.Lib.Pipeline.FrameSuffixV

@[expose] public section

noncomputable section

namespace Cert.KernelIdeal.Run

open Cert.KernelIdeal Cert.KernelIdeal.Gen Cert.KernelIdeal.Pieces Cert.KernelIdeal.Words Cert.KernelIdeal.Model Cert.Arith Cert.KernelIdeal.Page Cert.KernelIdeal.Pool Cert.KernelIdeal.Sweep Cert.KernelIdeal.Owner Cert.KernelIdeal.First Cert.KernelIdeal.Join Cert.KernelIdeal.Whole
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (c : Dev nD)

/-! ## Semaphores -/

/-- The kernel's own semaphores. -/
def osem (k : Fin 102) : SemLoc sig := .dma ⟨2 + k.val, by have := k.isLt; show 2 + k.val < 104; omega⟩
/-- The same, of a number. -/
def osemN (k : ℕ) : SemLoc sig := osem ⟨k % 102, Nat.mod_lt _ (by decide)⟩

theorem ownSemFacts : Pipeline.OwnSemFacts spec0 osem := by
  refine ⟨by decide, ?_, ?_⟩
  · intro a b e
    have h : (⟨2 + a.val, by have := a.isLt; show 2 + a.val < 104; omega⟩ : Fin 104) = ⟨2 + b.val, by have := b.isLt; show 2 + b.val < 104; omega⟩ := SemLoc.dma.inj e
    have := congrArg Fin.val h
    apply Fin.ext
    simp only at this
    omega
  · intro k w s e
    have h : (⟨2 + k.val, by have := k.isLt; show 2 + k.val < 104; omega⟩ : Fin 104) = (spec0 w).sem s := SemLoc.dma.inj e
    have h2 := congrArg Fin.val h
    have h3 : ∀ w s, ((spec0 w).sem s : Fin 104).val < 2 := by decide
    have := h3 w s
    simp only at h2
    omega

theorem osem7 : ∀ h : Fin 2, ∀ j : Fin 24, osemN (24 * h.val + j.val) = cell cc0_scratch7 h j.val := by decide
theorem osem8 : ∀ h : Fin 2, ∀ j : Fin 24, osemN (48 + 24 * h.val + j.val) = cell cc0_scratch8 h j.val := by decide

theorem ownSems0_eq : (Pipeline.ownSems0 (Ix := Unit) (Name := ℕ) (U := UU nD τ) (Lvl := ℕ) (Val := Elt F) (τ := τ) osem c : sProp 𝕄)
    = iprop(row c cc0_scratch7 0 ∗ row c cc0_scratch7 1 ∗ row c cc0_scratch8 0 ∗ row c cc0_scratch8 1 ∗ semVal ((c : Thread nD τ), .dma ((cc0_scratch9.slice (Rect.unit (s := S4) ![0] S1.size inb_S4_S1_0)).squeeze S_ squeezes_S1_S_).sem) 0 ∗ semVal ((c : Thread nD τ), .dma ((cc0_scratch9.slice (Rect.unit (s := S4) ![1] S1.size inb_S4_S1_1)).squeeze S_ squeezes_S1_S_).sem) 0 ∗ semVal ((c : Thread nD τ), .dma ((cc0_scratch9.slice (Rect.unit (s := S4) ![2] S1.size inb_S4_S1_2)).squeeze S_ squeezes_S1_S_).sem) 0 ∗ semVal ((c : Thread nD τ), .dma ((cc0_scratch9.slice (Rect.unit (s := S4) ![3] S1.size inb_S4_S1_3)).squeeze S_ squeezes_S1_S_).sem) 0 ∗ semVal ((c : Thread nD τ), .dma ((cc0_scratch10.slice (Rect.unit (s := S2) ![0] S1.size inb_S2_S1_0)).squeeze S_ squeezes_S1_S_).sem) 0 ∗ semVal ((c : Thread nD τ), .dma ((cc0_scratch10.slice (Rect.unit (s := S2) ![1] S1.size inb_S2_S1_1)).squeeze S_ squeezes_S1_S_).sem) 0) := by
  unfold Pipeline.ownSems0
  rw [Ring.bigSep_fin_eq_range 102 _ (fun t => semVal ((c : Thread nD τ), osemN t) 0) (fun t h => by unfold osemN; simp only [Nat.mod_eq_of_lt h]),
    Finset.range_eq_Ico, Ico_split (b := 0 + 24) (by decide) (by decide), Ico_split (a := 0 + 24) (b := 24 + 24) (by decide) (by decide), Ico_split (a := 24 + 24) (b := 48 + 24) (by decide) (by decide),
    Ico_split (a := 48 + 24) (b := 72 + 24) (by decide) (by decide), Ico_shift _ 0 24, show (0 + 24) = 24 from rfl, Ico_shift _ 24 24, show (24 + 24) = 48 from rfl, Ico_shift _ 48 24, show (48 + 24) = 72 from rfl, Ico_shift _ 72 24, show 72 + 24 = 96 from rfl]
  rw [bigSep_Ico_succ_bot (show 96 < 102 by decide), bigSep_Ico_succ_bot (show 97 < 102 by decide), bigSep_Ico_succ_bot (show 98 < 102 by decide), bigSep_Ico_succ_bot (show 99 < 102 by decide), bigSep_Ico_succ_bot (show 100 < 102 by decide)]
  rw [show Finset.Ico 101 102 = {101} from by decide, bigSep_singleton]
  unfold row
  rw [bigSep_congr (Φ := fun j => semVal ((c : Thread nD τ), osemN (0 + j)) 0) (Ψ := fun j => semVal ((c : Thread nD τ), cell cc0_scratch7 0 j) 0) (fun j hj => by rw [← osem7 0 ⟨j, (Finset.mem_Ico.mp hj).2⟩]; rfl),
    bigSep_congr (Φ := fun j => semVal ((c : Thread nD τ), osemN (24 + j)) 0) (Ψ := fun j => semVal ((c : Thread nD τ), cell cc0_scratch7 1 j) 0) (fun j hj => by rw [← osem7 1 ⟨j, (Finset.mem_Ico.mp hj).2⟩]; rfl),
    bigSep_congr (Φ := fun j => semVal ((c : Thread nD τ), osemN (48 + j)) 0) (Ψ := fun j => semVal ((c : Thread nD τ), cell cc0_scratch8 0 j) 0) (fun j hj => by rw [← osem8 0 ⟨j, (Finset.mem_Ico.mp hj).2⟩]; rfl),
    bigSep_congr (Φ := fun j => semVal ((c : Thread nD τ), osemN (72 + j)) 0) (Ψ := fun j => semVal ((c : Thread nD τ), cell cc0_scratch8 1 j) 0) (fun j hj => by rw [← osem8 1 ⟨j, (Finset.mem_Ico.mp hj).2⟩]; rfl)]
  rfl

/-! ## The inputs -/

/-- The lengths are those of sequences that fit, and each page appended to is a page. -/
structure Good (ln : S48.Idx → BitVec 32) (pt : S18x48.Idx → BitVec 32) : Prop where
  len : ∀ b : Fin 48, (ln (ix1 b)).toNat < 4608
  pg : ∀ b : Fin 48, (pt (ix2 (⟨(ln (ix1 b)).toNat / 256 % 18, Nat.mod_lt _ (by decide)⟩ : Fin 18) b)).toNat < 1080

/-- Sequence `b` of 48. -/
def sq (b : ℕ) : Fin 48 := ⟨b % 48, Nat.mod_lt _ (by decide)⟩
theorem sq_val (b : Fin 48) : sq b.val = b := Fin.ext (Nat.mod_eq_of_lt b.isLt)

/-- The inputs as the kernel's model takes them. -/
def inp (ln : S48.Idx → BitVec 32) (pt : S18x48.Idx → BitVec 32) (g : Good ln pt) (x : S1080x256x8x128.Idx → Elt F .i8) (s : S8x1080.Idx → Elt F .f32) (t : S48x8x128.Idx → Elt F .bf16) : Inp F where
  len b := (ln (ix1 (sq b))).toNat
  hlen b := g.len (sq b)
  pg b := (pt (ix2 (⟨(ln (ix1 (sq b))).toNat / 256 % 18, Nat.mod_lt _ (by decide)⟩ : Fin 18) (sq b))).toNat
  hpg b := g.pg (sq b)
  x := sub x
  s := s
  t := t

theorem lenArr_inp (ln : S48.Idx → BitVec 32) (pt : S18x48.Idx → BitVec 32) (g : Good ln pt) (x : S1080x256x8x128.Idx → Elt F .i8) (s : S8x1080.Idx → Elt F .f32) (t : S48x8x128.Idx → Elt F .bf16) :
    lenArr (inp ln pt g x s t) = ln := by
  funext i
  show BitVec.ofNat 32 (ln (ix1 (sq (i 0).val))).toNat = ln i
  rw [BitVec.ofNat_toNat, BitVec.setWidth_eq, sq_val (i 0)]
  congr 1
  funext a
  fin_cases a
  rfl
theorem pt_inp (ln : S48.Idx → BitVec 32) (pt : S18x48.Idx → BitVec 32) (g : Good ln pt) (x : S1080x256x8x128.Idx → Elt F .i8) (s : S8x1080.Idx → Elt F .f32) (t : S48x8x128.Idx → Elt F .bf16) (b : Fin 48) :
    pt (ix2 (⟨(inp ln pt g x s t).len b / 256, by have := (inp ln pt g x s t).hlen b; omega⟩ : Fin 18) b) = w ((inp ln pt g x s t).pg b) := by
  have hl := g.len b
  have e : (⟨(ln (ix1 b)).toNat / 256, by omega⟩ : Fin 18) = ⟨(ln (ix1 b)).toNat / 256 % 18, Nat.mod_lt _ (by decide)⟩ := Fin.ext (by show (ln (ix1 b)).toNat / 256 = (ln (ix1 b)).toNat / 256 % 18; omega)
  show pt (ix2 (⟨(ln (ix1 (sq b.val))).toNat / 256, _⟩ : Fin 18) b) = BitVec.ofNat 32 (pt (ix2 (⟨(ln (ix1 (sq b.val))).toNat / 256 % 18, Nat.mod_lt _ (by decide)⟩ : Fin 18) (sq b.val))).toNat
  simp only [sq_val, BitVec.ofNat_toNat, BitVec.setWidth_eq]
  rw [e]

/-! ## Whole buffers -/

theorem whole_eq (b : Ref sig .tc) (f : Buf (Elt F) ((c : Thread nD τ).loc b)) :
    (((c : Thread nD τ).loc b) ↦{fullShare} f : sProp 𝕄) = holds (c : Thread nD τ) (Memref.whole b) f := by
  have h := pointsTo_rep (Ix := Unit) (Val := Elt F) (Name := ℕ) (U := UU nD τ) (Lvl := ℕ) (c : Thread nD τ) (Memref.whole b) f fullShare
  rw [show (Memref.whole b : Memref sig .tc _ _ _).view.set = Finset.univ from View.set_whole b] at h
  unfold holds
  rw [show (Memref.whole b : Memref sig .tc _ _ _).view.set = Finset.univ from View.set_whole b]
  exact h

variable (m : (ℓ : Loc nD τ sig) → Buf (Elt F) ℓ) (ρ : Dev nD → PrngReg)

/-- The arguments are good on every device. -/
def Ok : Prop := ∀ c : Dev nD, Good (V m c main_arg5) (V m c main_v0)

variable (h : Ok m)

/-- The first pool's inputs. -/
def IK : Inp F := inp (V m c main_arg5) (V m c main_v0) (h c) (V m c main_arg0) (V m c main_v1) (V m c main_v3)
/-- The second pool's inputs. -/
def IV : Inp F := inp (V m c main_arg5) (V m c main_v0) (h c) (V m c main_arg1) (V m c main_v2) (V m c main_v4)

/-- The buffers the region reads. -/
def HH : Finset (Ref sig .tc) := {main_arg0, main_arg1, main_v1, main_v2, main_v3, main_v4}
/-- The buffers the region writes. -/
def RR : Finset (Ref sig .tc) := {main_v5_0, main_v5_1, main_v5_2, main_v5_3}

/-- What the region leaves. -/
def G (b : Ref sig .tc) : Buf (Elt F) ((c : Thread nD τ).loc b) :=
  Function.update (β := fun b => Buf (Elt F) ((c : Thread nD τ).loc b)) (Function.update (β := fun b => Buf (Elt F) ((c : Thread nD τ).loc b)) (Function.update (β := fun b => Buf (Elt F) ((c : Thread nD τ).loc b)) (Function.update (β := fun b => Buf (Elt F) ((c : Thread nD τ).loc b)) (V m c)
    main_v5_0 (glue fun j => (IK c m h).ch j 4)) main_v5_1 ((IK c m h).sc 1080)) main_v5_2 (glue fun j => (IV c m h).ch j 4)) main_v5_3 ((IV c m h).sc 1080) b

theorem G_0 : G c m h main_v5_0 = glue fun j => (IK c m h).ch j 4 := by
  unfold G
  rw [Function.update_of_ne (show main_v5_0 ≠ main_v5_3 by decide), Function.update_of_ne (show main_v5_0 ≠ main_v5_2 by decide), Function.update_of_ne (show main_v5_0 ≠ main_v5_1 by decide), Function.update_self]
theorem G_1 : G c m h main_v5_1 = (IK c m h).sc 1080 := by
  unfold G
  rw [Function.update_of_ne (show main_v5_1 ≠ main_v5_3 by decide), Function.update_of_ne (show main_v5_1 ≠ main_v5_2 by decide), Function.update_self]
theorem G_2 : G c m h main_v5_2 = glue fun j => (IV c m h).ch j 4 := by
  unfold G
  rw [Function.update_of_ne (show main_v5_2 ≠ main_v5_3 by decide), Function.update_self]
theorem G_3 : G c m h main_v5_3 = (IV c m h).sc 1080 := by
  unfold G
  rw [Function.update_self]

theorem HH_eq (Φ : Ref sig .tc → sProp 𝕄) : bigSep HH Φ = iprop(Φ main_arg0 ∗ Φ main_arg1 ∗ Φ main_v1 ∗ Φ main_v2 ∗ Φ main_v3 ∗ Φ main_v4) := by
  unfold HH
  rw [bigSep_insert (by decide), bigSep_insert (by decide), bigSep_insert (by decide), bigSep_insert (by decide), bigSep_insert (by decide), bigSep_singleton]
  rfl
theorem RR_eq (Φ : Ref sig .tc → sProp 𝕄) : bigSep RR Φ = iprop(Φ main_v5_0 ∗ Φ main_v5_1 ∗ Φ main_v5_2 ∗ Φ main_v5_3) := by
  unfold RR
  rw [bigSep_insert (by decide), bigSep_insert (by decide), bigSep_insert (by decide), bigSep_singleton]
  rfl

/-- What the region starts from. -/
abbrev Φin : sProp 𝕄 := Pipeline.ΦDRV osem spec0 HH RR (fun c b => V0 m c (Proc.devRef .tc b)) (fun c b => V0 m c (Proc.devRef .tc b)) c
/-- What the region ends with. -/
abbrev Φout : sProp 𝕄 := Pipeline.ΦDRV osem spec0 HH RR (fun c b => V0 m c (Proc.devRef .tc b)) (fun c => G c m h) c

variable (arg0 : Memref sig .tc .smem S18x48 .i32) (arg1 : Memref sig .tc .smem S48 .i32)

set_option maxHeartbeats 1000000 in
theorem enter : iprop(Φin c m ∗ holds (c : Thread nD τ) arg0 (V m c main_v0) ∗ holds (c : Thread nD τ) arg1 (V m c main_arg5) ∗ (∃ W, owes (c : Thread nD τ) 0 W))
    ⊢ preR arg0 arg1 (Memref.whole main_arg0) (Memref.whole main_arg1) (Memref.whole main_v1) (Memref.whole main_v2) (Memref.whole main_v3) (Memref.whole main_v4) (Memref.whole main_v5_0) (Memref.whole main_v5_1) (Memref.whole main_v5_2) (Memref.whole main_v5_3) (Memref.whole cc0_scratch0) (Memref.whole cc0_scratch1) (Memref.whole cc0_scratch2) (Memref.whole cc0_scratch3) (Memref.whole cc0_scratch4) (Memref.whole cc0_scratch5) (Memref.whole cc0_scratch6) cc0_scratch7 cc0_scratch8 cc0_scratch9 cc0_scratch10 c (IK c m h) (IV c m h) (V m c main_v0) := by
  unfold Φin Pipeline.ΦDRV
  rw [scopedRest0_eq, ownSems0_eq, HH_eq, RR_eq]
  simp only [whole_eq]
  iintro ⟨⟨⟨⟨%f0, Hs0⟩, ⟨%f1, Hs1⟩, ⟨%f2, Hs2⟩, ⟨%f3, Hs3⟩, ⟨%f4, Hs4⟩, ⟨%f5, Hs5⟩, ⟨%f6, Hs6⟩⟩, ⟨Ra, Rb, Rc, Rd, Sa, Sb, Sc, Sd, Se, Sf⟩, ⟨A0, A1, A2, A3, A4, A5⟩, ⟨B0, B1, B2, B3⟩⟩, Hp, Hl, HW⟩
  unfold preR
  isplitl [A0 B0 Hs0 Ra Rc]
  · iapply (start_intro c (Memref.whole main_arg0) (Memref.whole cc0_scratch0) (Memref.whole main_v5_0) cc0_scratch7 cc0_scratch8 0 (V m c main_arg0) (fun j => (IK c m h).ch j 4))
    isplitl [A0]; · iexact A0
    isplitl [B0]; · iexists _; iexact B0
    isplitl [Hs0]; · iexists _; iexact Hs0
    isplitl [Ra]; · iexact Ra
    iexact Rc
  isplitl [A1 B2 Hs1 Rb Rd]
  · iapply (start_intro c (Memref.whole main_arg1) (Memref.whole cc0_scratch1) (Memref.whole main_v5_2) cc0_scratch7 cc0_scratch8 1 (V m c main_arg1) (fun j => (IV c m h).ch j 4))
    isplitl [A1]; · iexact A1
    isplitl [B2]; · iexists _; iexact B2
    isplitl [Hs1]; · iexists _; iexact Hs1
    isplitl [Rb]; · iexact Rb
    iexact Rd
  isplitl [Hp]; · iexact Hp
  isplitl [Hl]
  · rw [show lenArr (IK c m h) = V m c main_arg5 from lenArr_inp _ _ _ _ _ _]
    iexact Hl
  isplitl [A2]; · iexact A2
  isplitl [A3]; · iexact A3
  isplitl [A4]; · iexact A4
  isplitl [A5]; · iexact A5
  isplitl [Hs2]; · iexists _; iexact Hs2
  isplitl [Hs3]; · iexists _; iexact Hs3
  isplitl [Hs4]; · iexists _; iexact Hs4
  isplitl [Hs5]; · iexists _; iexact Hs5
  isplitl [Hs6]; · iexists _; iexact Hs6
  isplitl [B1]; · iexists _; iexact B1
  isplitl [B3]; · iexists _; iexact B3
  isplitl [Sa]; · iexact Sa
  isplitl [Sb]; · iexact Sb
  isplitl [Sc]; · iexact Sc
  isplitl [Sd]; · iexact Sd
  isplitl [Se]; · iexact Se
  isplitl [Sf]; · iexact Sf
  iexact HW

set_option maxHeartbeats 1000000 in
theorem leave : postR arg0 arg1 (Memref.whole main_arg0) (Memref.whole main_arg1) (Memref.whole main_v1) (Memref.whole main_v2) (Memref.whole main_v3) (Memref.whole main_v4) (Memref.whole main_v5_0) (Memref.whole main_v5_1) (Memref.whole main_v5_2) (Memref.whole main_v5_3) (Memref.whole cc0_scratch0) (Memref.whole cc0_scratch1) (Memref.whole cc0_scratch2) (Memref.whole cc0_scratch3) (Memref.whole cc0_scratch4) (Memref.whole cc0_scratch5) (Memref.whole cc0_scratch6) cc0_scratch7 cc0_scratch8 cc0_scratch9 cc0_scratch10 c (IK c m h) (IV c m h) (V m c main_v0)
    ⊢ iprop(Φout c m h ∗ holds (c : Thread nD τ) arg0 (V m c main_v0) ∗ holds (c : Thread nD τ) arg1 (V m c main_arg5) ∗ (∃ W, owes (c : Thread nD τ) 0 W)) := by
  unfold Φout Pipeline.ΦDRV
  rw [scopedRest0_eq, ownSems0_eq, HH_eq, RR_eq]
  beta_reduce
  rw [G_0, G_1, G_2, G_3]
  simp only [whole_eq]
  unfold postR
  rw [show (IK c m h).x = sub (V m c main_arg0) from rfl, show (IV c m h).x = sub (V m c main_arg1) from rfl]
  iintro ⟨HK, HV, Hp, Hl, A2, A3, A4, A5, Hs2, Hs3, Hs4, Hs5, Hs6, B1, B3, Sa, Sb, Sc, Sd, Se, Sf, HW⟩
  ihave HK' := (drain_elim c (Memref.whole main_arg0) (Memref.whole cc0_scratch0) (Memref.whole main_v5_0) cc0_scratch7 cc0_scratch8 0 (V m c main_arg0) (fun j => (IK c m h).ch j 4)) $$ HK
  icases HK' with ⟨A0, B0, ⟨%z0, Hs0⟩, Ra, Rc⟩
  ihave HV' := (drain_elim c (Memref.whole main_arg1) (Memref.whole cc0_scratch1) (Memref.whole main_v5_2) cc0_scratch7 cc0_scratch8 1 (V m c main_arg1) (fun j => (IV c m h).ch j 4)) $$ HV
  icases HV' with ⟨A1, B2, ⟨%z1, Hs1⟩, Rb, Rd⟩
  isplitr [Hp Hl HW]
  · isplitl [Hs0 Hs1 Hs2 Hs3 Hs4 Hs5 Hs6]
    · isplitl [Hs0]; · iexists _; iexact Hs0
      isplitl [Hs1]; · iexists _; iexact Hs1
      isplitl [Hs2]; · iexists _; iexact Hs2
      isplitl [Hs3]; · iexists _; iexact Hs3
      isplitl [Hs4]; · iexists _; iexact Hs4
      isplitl [Hs5]; · iexists _; iexact Hs5
      iexists _; iexact Hs6
    isplitl [Ra Rb Rc Rd Sa Sb Sc Sd Se Sf]
    · isplitl [Ra]; · iexact Ra
      isplitl [Rb]; · iexact Rb
      isplitl [Rc]; · iexact Rc
      isplitl [Rd]; · iexact Rd
      isplitl [Sa]; · iexact Sa
      isplitl [Sb]; · iexact Sb
      isplitl [Sc]; · iexact Sc
      isplitl [Sd]; · iexact Sd
      isplitl [Se]; · iexact Se
      iexact Sf
    isplitl [A0 A1 A2 A3 A4 A5]
    · isplitl [A0]; · iexact A0
      isplitl [A1]; · iexact A1
      isplitl [A2]; · iexact A2
      isplitl [A3]; · iexact A3
      isplitl [A4]; · iexact A4
      iexact A5
    isplitl [B0]; · iexact B0
    isplitl [B1]; · iexact B1
    isplitl [B2]; · iexact B2
    iexact B3
  isplitl [Hp]; · iexact Hp
  isplitl [Hl]
  · rw [show lenArr (IK c m h) = V m c main_arg5 from lenArr_inp _ _ _ _ _ _]
    iexact Hl
  iexact HW

end Cert.KernelIdeal.Run

end
-- ==== Proof.IdealLaunch.lean ====
/- The whole program run: the region between the host's lines. -/
module

public import proofs.«01_k».proof.Proof.IdealRun

@[expose] public section

noncomputable section

namespace Cert.KernelIdeal.Launch

open Cert.KernelIdeal Cert.KernelIdeal.Gen Cert.KernelIdeal.Pieces Cert.KernelIdeal.Words Cert.KernelIdeal.Model Cert.Arith Cert.KernelIdeal.Page Cert.KernelIdeal.Pool Cert.KernelIdeal.Sweep Cert.KernelIdeal.Owner Cert.KernelIdeal.First Cert.KernelIdeal.Join Cert.KernelIdeal.Whole Cert.KernelIdeal.Run
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The launch's data. -/
def dats (h : Ok m) (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ t := if t.val = 0 then Φin c m else Φout c m h
  q _ := fullShare
  owed _ := 0

variable (h : Ok m) (c : Dev nD)

theorem before_w0 (t : Fin cfg0.N) (d) : (dats m h 0 c).before 0 t d = iblk m c 0 t := by
  unfold Dat.before; rw [if_pos (fetch0_0 t)]; unfold Dat.fetched Dat.blockOf iblk; dsimp only [dats]; rfl
theorem before_w1 (t : Fin cfg0.N) (d) : (dats m h 0 c).before 1 t d = iblk m c 1 t := by
  unfold Dat.before; rw [if_pos (fetch0_1 t)]; unfold Dat.fetched Dat.blockOf iblk; dsimp only [dats]; rfl
theorem after_w0 (t : Fin cfg0.N) : (dats m h 0 c).after 0 t = iblk m c 0 t := by dsimp only [dats]
theorem after_w1 (t : Fin cfg0.N) : (dats m h 0 c).after 1 t = iblk m c 1 t := by dsimp only [dats]

theorem iblk0 (t : Fin cfg0.N) : iblk m c 0 t = V m c main_v0 := by
  obtain rfl := fin_N0 t
  funext i
  unfold iblk
  rw [View.read_apply]
  show V m c main_v0 _ = V m c main_v0 i
  congr 1
  funext a
  apply Fin.ext
  refine (Rect.emb_apply _ _ _).trans ?_
  fin_cases a
  · show 0 + 1 * (i 0).val = (i 0).val
    omega
  · show 0 + 1 * (i 1).val = (i 1).val
    omega
theorem iblk1 (t : Fin cfg0.N) : iblk m c 1 t = V m c main_arg5 := by
  obtain rfl := fin_N0 t
  funext i
  unfold iblk
  rw [View.read_apply]
  show V m c main_arg5 _ = V m c main_arg5 i
  congr 1
  funext a
  apply Fin.ext
  refine (Rect.emb_apply _ _ _).trans ?_
  fin_cases a
  · show 0 + 1 * (i 0).val = (i 0).val
    omega

theorem defs_tc : (defs₀ (F := F)) .tc cfg0.body
    = fun a => cc0_paged_int8_kv_append_skel (win0_0.stage (a.2 0)) (hstage0_0 0) (win0_1.stage (a.2 1)) (hstage0_1 0) (Memref.whole main_arg0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5_0) (Memref.isWhole_whole _) (Memref.whole main_v5_1) (Memref.isWhole_whole _) (Memref.whole main_v5_2) (Memref.isWhole_whole _) (Memref.whole main_v5_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 := by
  rw [← cc0_paged_int8_kv_append_eq_skeleton]
  rfl
theorem prog_eq (t : Fin cfg0.N) : (defs₀ (F := F)) .tc cfg0.body (cfg0.bodyArgs t (cfg0.slots t))
    = cc0_paged_int8_kv_append_skel (st0_0 t) (hstage0_0 0) (st0_1 t) (hstage0_1 0) (Memref.whole main_arg0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5_0) (Memref.isWhole_whole _) (Memref.whole main_v5_1) (Memref.isWhole_whole _) (Memref.whole main_v5_2) (Memref.isWhole_whole _) (Memref.whole main_v5_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 :=
  (congrFun defs_tc _).trans rfl

theorem Φ_first (t : Fin cfg0.N) : (dats m h 0 c).Φ t.castSucc = Φin c m := by
  obtain rfl := fin_N0 t
  rfl
theorem Φ_last (t : Fin cfg0.N) : (dats m h 0 c).Φ t.succ = Φout c m h := by
  obtain rfl := fin_N0 t
  rfl

set_option backward.isDefEq.respectTransparency.types false in
set_option maxHeartbeats 1000000 in
theorem body_obligation : BodyObligation (dats (F := F) m h 0 c) (defs₀ (F := F)) 𝒱₀ () Set.univ := fun t => by
  rw [bigSep_W0, bigSep_W0]
  dsimp only
  simp only [before_w0, before_w1, after_w0, after_w1]
  rw [Φ_first, Φ_last]
  unfold Dat.owesAt Pipeline.owesWithin
  rw [show (dats m h 0 c).owed t.castSucc = 0 from rfl, show (dats m h 0 c).owed t.succ = 0 from rfl]
  unfold owns
  iintro ⟨HΦ, ⟨%W, -, HW⟩, ⟨%d0, %g0, %hg0, H0⟩, ⟨%d1, %g1, %hg1, H1⟩⟩
  ihave H0' := (pointsTo_rep_entails (c : Thread nD τ) (st0_0 t) g0 fullShare) $$ H0
  ihave H1' := (pointsTo_rep_entails (c : Thread nD τ) (st0_1 t) g1 fullShare) $$ H1
  rw [hg0, hg1, iblk0, iblk1]
  rw [prog_eq t]
  ihave HP := (enter c m h (st0_0 t) (st0_1 t)) $$ [HΦ H0' H1' HW]
  · unfold holds
    isplitl [HΦ]; · iexact HΦ
    isplitl [H0']; · iexact H0'
    isplitl [H1']; · iexact H1'
    iexists W
    iexact HW
  have hw := whole (st0_0 t) (hstage0_0 0) (st0_1 t) (hstage0_1 0) (Memref.whole main_arg0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5_0) (Memref.isWhole_whole _) (Memref.whole main_v5_1) (Memref.isWhole_whole _) (Memref.whole main_v5_2) (Memref.isWhole_whole _) (Memref.whole main_v5_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c (IK c m h) (IV c m h) rfl rfl (V m c main_v0) (fun b => pt_inp _ _ _ _ _ _ b)
  have hw' := hw.trans (wp_mono frame (wpE (defs₀ (F := F)) 𝒱₀ (c : Thread nD τ) none) Set.univ (fun _ => leave c m h (st0_0 t) (st0_1 t)))
  iapply (wp_wand_r frame (wpE (defs₀ (F := F)) 𝒱₀ (c : Thread nD τ) none) Set.univ)
  isplitl [HP]
  · iapply hw' $$ HP
  unfold holds
  iintro %_ ⟨HΦ, H0, H1, ⟨%W', HW⟩⟩
  isplitl [HΦ]; · iexact HΦ
  isplitl [HW]
  · iexists W'
    isplitr; · ipureintro; exact fun _ _ => Or.inl trivial
    iexact HW
  isplitl [H0]
  · iexists _
    isplitr; · ipureintro; exact View.read_rep _ _
    iexact H0
  iexists _
  isplitr; · ipureintro; exact View.read_rep _ _
  iexact H1

/-- The host's lines around the region. -/
theorem hmain' : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- Where every buffer ends. -/
def fin (b : Ref sig .tc) : Buf (Elt F) ((c : Thread nD τ).loc b) :=
  StableHlo.after (List.flatten [hostOps1]) (Pipeline.withArrays spec0 c (Pipeline.withR (V0 m c) RR c (G c m h)) fun w => (dats m h 0 c).arrAt w cfg0.N) (Proc.devRef .tc b)

set_option backward.isDefEq.respectTransparency.types false in
set_option maxHeartbeats 1000000 in
theorem run_main : θ_run defs (onTc (τ := τ) (main (F := F))) (s₀ m ρ) (fun r => (∀ c : Dev nD, (∀ w, r.2.mem ((spec0 w).arr.view.loc (c.tc : Thread nD τ)) = (dats m h 0 c).arrAt w cfg0.N)
      ∧ ∀ b ∈ Pipeline.restRefs sig spec0, r.2.mem ((c.tc : Thread nD τ).loc b) = fin m h c b) ∧ r.2.sem = fun _ => 0) :=
  Pipeline.θ_run_frame_dmaR_aroundV cfgs (dats m h) (0 : Fin 1) launch0 osem defs₀ 𝒱₀ ownSemFacts HH RR (by decide) (by decide) m ρ main
    (hbody := fun c => (body_obligation m h c).loose) (hshare := fun c => (dats m h 0 c).share_full fun _ => rfl) (howed := fun _ _ => rfl)
    (V₀ := V0 m) (opss := [hostOps1]) (hsub := sfx_sub) (hfresh := sfx_fresh) (hkeep := sfx_keeps) (G := fun c => G c m h)
    (hmain := hmain' m) (hA := fun _ _ => rfl) (hin := fun c => .rfl) (hout := fun c => .rfl) (Q' := _) (hQ' := fun _ hh => hh)

end Cert.KernelIdeal.Launch

end
-- ==== Proof.IdealEnds.lean ====
/- Where every buffer of the program ends, in terms of its arguments. -/
module

public import proofs.«01_k».proof.Proof.IdealLaunch
public import Idealize.ShloMosaic.Lib.StableHlo.RunRead
public import proofs.«01_k».proof.Proof.Range

@[expose] public section

noncomputable section

namespace Cert.KernelIdeal.Ends

open Cert.KernelIdeal Cert.KernelIdeal.Gen Cert.KernelIdeal.Pieces Cert.KernelIdeal.Words Cert.KernelIdeal.Model Cert.Arith Cert.KernelIdeal.Page Cert.KernelIdeal.Pool Cert.KernelIdeal.Sweep Cert.KernelIdeal.Owner Cert.KernelIdeal.First Cert.KernelIdeal.Join Cert.KernelIdeal.Whole Cert.KernelIdeal.Run Cert.KernelIdeal.Launch
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg) (c : Dev nD)

/-! ## What the region finds -/

theorem V_v0 : V m c main_v0 = (transpose S18x48 [1, 0] · transposes_S48x18_S18x48_1_0) (m ((c : Thread nD τ).loc main_arg4)) := by
  show StableHlo.after hostOps0 _ (Proc.devRef .tc main_v0) = _
  after_results
theorem V_v1 : V m c main_v1 = (transpose S8x1080 [1, 0] · transposes_S1080x8_S8x1080_1_0) (m ((c : Thread nD τ).loc main_arg2)) := by
  show StableHlo.after hostOps0 _ (Proc.devRef .tc main_v1) = _
  after_results
theorem V_v2 : V m c main_v2 = (transpose S8x1080 [1, 0] · transposes_S1080x8_S8x1080_1_0) (m ((c : Thread nD τ).loc main_arg3)) := by
  show StableHlo.after hostOps0 _ (Proc.devRef .tc main_v2) = _
  after_results
theorem V_v3 : V m c main_v3 = shapeCast S48x8x128 (m ((c : Thread nD τ).loc main_arg6)) shapeCasts_S48x1x8x128_S48x8x128 := by
  show StableHlo.after hostOps0 _ (Proc.devRef .tc main_v3) = _
  after_results
  rfl
theorem V_v4 : V m c main_v4 = shapeCast S48x8x128 (m ((c : Thread nD τ).loc main_arg7)) shapeCasts_S48x1x8x128_S48x8x128 := by
  show StableHlo.after hostOps0 _ (Proc.devRef .tc main_v4) = _
  after_results
  rfl

/-- Lengths and pages in range, read through the transposed table. -/
theorem good_of (ln : S48.Idx → BitVec 32) (pt : S48x18.Idx → BitVec 32) (pt' : S18x48.Idx → BitVec 32)
    (e : pt' = (transpose S18x48 [1, 0] · transposes_S48x18_S18x48_1_0) pt)
    (hr : ∀ b : Fin 48, (ln (ix1 b)).toNat < 4608 ∧ (pt (ix2 b ⟨(ln (ix1 b)).toNat / 256 % 18, Nat.mod_lt _ (by decide)⟩)).toNat < 1080) : Good ln pt' where
  len b := (hr b).1
  pg b := by
    rw [e]
    have he : ∀ j : Fin 18, (transpose S18x48 [1, 0] pt transposes_S48x18_S18x48_1_0) (ix2 j b) = pt (ix2 b j) := fun j => by
      simp only [transpose]; exact congrArg pt (by funext d; fin_cases d <;> rfl)
    exact (congrArg (fun x : BitVec 32 => x.toNat < 1080) (he _)).mpr (hr b).2

/-- Under the precondition the lengths and pages are in range. -/
theorem ok_of (hp : ∀ c : Dev nD, Cert.Pre_appends_in_range.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) : Ok m := fun c =>
  good_of _ _ _ (V_v0 m c) fun b => by
    rw [V_main_arg5 m c]
    exact Cert.Range.of_fn (F := F) _ _ _ _ _ _ _ _ (hp c) b

variable (h : Ok m)

/-! ## What the program leaves -/

theorem fin_of_ne (b : Ref sig .tc) (h6 : b ≠ main_v6) (h7 : b ≠ main_v7) (hw : ∀ w, Pipeline.arrRef spec0 w ≠ b) :
    fin m h c b = Pipeline.withR (V0 m c) RR c (G c m h) (Proc.devRef .tc b) := by
  unfold fin
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      exact ⟨StableHlo.devRef_ne_of_ne h6, StableHlo.devRef_ne_of_ne h7⟩)),
    Pipeline.withArrays_of_ne _ c _ _ b hw]

theorem fin_G (b : Ref sig .tc) (h6 : b ≠ main_v6) (h7 : b ≠ main_v7) (hw : ∀ w, Pipeline.arrRef spec0 w ≠ b) (hR : b ∈ RR) :
    fin m h c b = G c m h b := (fin_of_ne m c h b h6 h7 hw).trans (Pipeline.withR_of_mem _ _ _ _ _ hR)
theorem fin_V (b : Ref sig .tc) (h6 : b ≠ main_v6) (h7 : b ≠ main_v7) (hw : ∀ w, Pipeline.arrRef spec0 w ≠ b) (hR : b ∉ RR) :
    fin m h c b = V m c b := (fin_of_ne m c h b h6 h7 hw).trans (Pipeline.withR_of_not_mem _ _ _ _ _ hR)

theorem fin_v5_0 : fin m h c main_v5_0 = glue fun j => (IK c m h).ch j 4 :=
  (fin_G m c h main_v5_0 (by decide) (by decide) (by decide) (by decide)).trans (G_0 c m h)
theorem fin_v5_2 : fin m h c main_v5_2 = glue fun j => (IV c m h).ch j 4 :=
  (fin_G m c h main_v5_2 (by decide) (by decide) (by decide) (by decide)).trans (G_2 c m h)
theorem fin_v6 : fin m h c main_v6 = (transpose S1080x8 [1, 0] · transposes_S8x1080_S1080x8_1_0) ((IK c m h).sc 1080) := by
  have e : fin m h c main_v6 = (transpose S1080x8 [1, 0] · transposes_S8x1080_S1080x8_1_0)
      (Pipeline.withArrays spec0 c (Pipeline.withR (V0 m c) RR c (G c m h)) (fun w => (dats m h 0 c).arrAt w cfg0.N) (Proc.devRef .tc main_v5_1)) := by
    unfold fin
    show StableHlo.after hostOps1 _ (Proc.devRef .tc main_v6) = _
    after_results
  rw [e, Pipeline.withArrays_of_ne _ c _ _ main_v5_1 (by decide), Pipeline.withR_of_mem _ _ _ _ _ (by decide), G_1]
theorem fin_v7 : fin m h c main_v7 = (transpose S1080x8 [1, 0] · transposes_S8x1080_S1080x8_1_0) ((IV c m h).sc 1080) := by
  have e : fin m h c main_v7 = (transpose S1080x8 [1, 0] · transposes_S8x1080_S1080x8_1_0)
      (Pipeline.withArrays spec0 c (Pipeline.withR (V0 m c) RR c (G c m h)) (fun w => (dats m h 0 c).arrAt w cfg0.N) (Proc.devRef .tc main_v5_3)) := by
    unfold fin
    show StableHlo.after hostOps1 _ (Proc.devRef .tc main_v7) = _
    after_results
  rw [e, Pipeline.withArrays_of_ne _ c _ _ main_v5_3 (by decide), Pipeline.withR_of_mem _ _ _ _ _ (by decide), G_3]

/-- The program's end: its results, its arguments unchanged, its semaphores at zero. -/
structure End (m : (ℓ : Loc nD τ sig) → Buf (Elt F) ℓ) (h : Ok m) (r : PUnit × MemSt nD τ sig (Elt F)) : Prop where
  v5_0 : ∀ c : Dev nD, r.2.mem ((c : Thread nD τ).loc main_v5_0) = glue fun j => (IK c m h).ch j 4
  v6 : ∀ c : Dev nD, r.2.mem ((c : Thread nD τ).loc main_v6) = (transpose S1080x8 [1, 0] · transposes_S8x1080_S1080x8_1_0) ((IK c m h).sc 1080)
  v5_2 : ∀ c : Dev nD, r.2.mem ((c : Thread nD τ).loc main_v5_2) = glue fun j => (IV c m h).ch j 4
  v7 : ∀ c : Dev nD, r.2.mem ((c : Thread nD τ).loc main_v7) = (transpose S1080x8 [1, 0] · transposes_S8x1080_S1080x8_1_0) ((IV c m h).sc 1080)
  arg0 : ∀ c : Dev nD, r.2.mem ((c : Thread nD τ).loc main_arg0) = m ((c : Thread nD τ).loc main_arg0)
  arg1 : ∀ c : Dev nD, r.2.mem ((c : Thread nD τ).loc main_arg1) = m ((c : Thread nD τ).loc main_arg1)
  arg2 : ∀ c : Dev nD, r.2.mem ((c : Thread nD τ).loc main_arg2) = m ((c : Thread nD τ).loc main_arg2)
  arg3 : ∀ c : Dev nD, r.2.mem ((c : Thread nD τ).loc main_arg3) = m ((c : Thread nD τ).loc main_arg3)
  arg4 : ∀ c : Dev nD, r.2.mem ((c : Thread nD τ).loc main_arg4) = m ((c : Thread nD τ).loc main_arg4)
  arg5 : ∀ c : Dev nD, r.2.mem ((c : Thread nD τ).loc main_arg5) = m ((c : Thread nD τ).loc main_arg5)
  arg6 : ∀ c : Dev nD, r.2.mem ((c : Thread nD τ).loc main_arg6) = m ((c : Thread nD τ).loc main_arg6)
  arg7 : ∀ c : Dev nD, r.2.mem ((c : Thread nD τ).loc main_arg7) = m ((c : Thread nD τ).loc main_arg7)
  sem : r.2.sem = fun _ => 0

theorem run_end : θ_run defs (onTc (τ := τ) (main (F := F))) (s₀ m ρ) (End m h) :=
  (θ_run defs _ _).mono (fun r hh => {
    v5_0 := fun c => ((hh.1 c).2 main_v5_0 (Pipeline.mem_restRefs_of main_v5_0 (by decide) (by decide))).trans (fin_v5_0 m c h)
    v6 := fun c => ((hh.1 c).2 main_v6 (Pipeline.mem_restRefs_of main_v6 (by decide) (by decide))).trans (fin_v6 m c h)
    v5_2 := fun c => ((hh.1 c).2 main_v5_2 (Pipeline.mem_restRefs_of main_v5_2 (by decide) (by decide))).trans (fin_v5_2 m c h)
    v7 := fun c => ((hh.1 c).2 main_v7 (Pipeline.mem_restRefs_of main_v7 (by decide) (by decide))).trans (fin_v7 m c h)
    arg0 := fun c => ((hh.1 c).2 main_arg0 (Pipeline.mem_restRefs_of main_arg0 (by decide) (by decide))).trans ((fin_V m c h main_arg0 (by decide) (by decide) (by decide) (by decide)).trans (V_main_arg0 m c))
    arg1 := fun c => ((hh.1 c).2 main_arg1 (Pipeline.mem_restRefs_of main_arg1 (by decide) (by decide))).trans ((fin_V m c h main_arg1 (by decide) (by decide) (by decide) (by decide)).trans (V_main_arg1 m c))
    arg2 := fun c => ((hh.1 c).2 main_arg2 (Pipeline.mem_restRefs_of main_arg2 (by decide) (by decide))).trans ((fin_V m c h main_arg2 (by decide) (by decide) (by decide) (by decide)).trans (V_main_arg2 m c))
    arg3 := fun c => ((hh.1 c).2 main_arg3 (Pipeline.mem_restRefs_of main_arg3 (by decide) (by decide))).trans ((fin_V m c h main_arg3 (by decide) (by decide) (by decide) (by decide)).trans (V_main_arg3 m c))
    arg4 := fun c => ((hh.1 c).2 main_arg4 (Pipeline.mem_restRefs_of main_arg4 (by decide) (by decide))).trans ((fin_V m c h main_arg4 (by decide) (by decide) (by decide) (by decide)).trans (V_main_arg4 m c))
    arg5 := fun c => ((hh.1 c).1 1).trans (((dats m h 0 c).arrAt_in 1 rfl _).trans (V_main_arg5 m c))
    arg6 := fun c => ((hh.1 c).2 main_arg6 (Pipeline.mem_restRefs_of main_arg6 (by decide) (by decide))).trans ((fin_V m c h main_arg6 (by decide) (by decide) (by decide) (by decide)).trans (V_main_arg6 m c))
    arg7 := fun c => ((hh.1 c).2 main_arg7 (Pipeline.mem_restRefs_of main_arg7 (by decide) (by decide))).trans ((fin_V m c h main_arg7 (by decide) (by decide) (by decide) (by decide)).trans (V_main_arg7 m c))
    sem := hh.2 }) (run_main m ρ h)

end Cert.KernelIdeal.Ends

end
-- ==== Proof.Spec.lean ====
/- What the paged append computes, written over the extended reals. -/
module

public import proofs.«01_k».proof.Defs
public import Idealize.ShloMosaic.Lib.Pointwise

@[expose] public section

noncomputable section

namespace Cert.Spec

open Idealize.ShloMosaic

/-- The last of the first `n` sequences that appends to page `p`. -/
def last (pg : ℕ → ℕ) : ℕ → ℕ → Option ℕ
  | 0, _ => none
  | n + 1, p => if pg n = p then some n else last pg n p

/-- No sequence found: none names the page. -/
theorem last_none (pg : ℕ → ℕ) (n p : ℕ) (h : last pg n p = none) : ∀ b < n, pg b ≠ p := by
  induction n with
  | zero => intro b hb; omega
  | succ n ih =>
    unfold last at h
    split at h
    · cases h
    · intro b hb
      by_cases e : b = n
      · subst e; assumption
      · exact ih h b (by omega)

/-- The sequence found names the page, and no later one does. -/
theorem last_some (pg : ℕ → ℕ) (n p b : ℕ) (h : last pg n p = some b) : b < n ∧ pg b = p ∧ ∀ b', b < b' → b' < n → pg b' ≠ p := by
  induction n with
  | zero => cases h
  | succ n ih =>
    unfold last at h
    split at h
    · cases h
      exact ⟨by omega, by assumption, fun b' h1 h2 => by omega⟩
    · obtain ⟨h1, h2, h3⟩ := ih h
      refine ⟨by omega, h2, fun b' h4 h5 => ?_⟩
      by_cases e : b' = n
      · subst e; assumption
      · exact h3 b' h4 (by omega)

/-- The code of `v` at scale `c`: the quotient rounded to the nearest integer, ties to even, and clipped to
    `-127 … 127`. -/
def quant (v c : EReal) : BitVec 8 :=
  FloatOps.fptosi (F := Ideal) (φ := .f32) 8 (min (((127#32).toInt : ℝ) : EReal) (max (((4294967169#32).toInt : ℝ) : EReal)
    (Ideal.liftRound Ideal.roundHalfEven (Ideal.div v c))))

/-- The largest magnitude of a row. -/
def top (t : Fin 128 → EReal) : EReal :=
  Finset.univ.fold max (Ideal.ofBits .f32 4286578688#32) fun d => max (t d) (-(t d))

/-- The scale before a zero scale is replaced: the larger of the stored one, if the page held rows before, and the
    appended row's magnitude over 127. -/
def raw (l : ℕ) (s m : EReal) : EReal :=
  max (if 0 < l % 256 then s else 0) (Ideal.div m (Ideal.ofBits .f32 1123942400#32))

/-- The page's new scale. -/
def scale (l : ℕ) (s m : EReal) : EReal := if raw l s m = 0 then 1 else raw l s m

/-- The value row `r` is to hold: what is stored below the appended row, the appended row, zero above it. -/
def cell (l r : ℕ) (x : BitVec 8) (s t : EReal) : EReal :=
  if r < l % 256 then (((x.toInt : ℝ) : EReal)) * s else if r = l % 256 then t else 0

/-- The new code of an element of row `r` of a page appended to: `x` the code it holds, `s` the page's scale, `t` the
    appended row, `d` the lane. -/
def code (l r : ℕ) (x : BitVec 8) (s : EReal) (t : Fin 128 → EReal) (d : Fin 128) : BitVec 8 :=
  quant (cell l r x s (t d)) (scale l s (top t))

/-- A new scale is never zero. -/
theorem scale_ne (l : ℕ) (s m : EReal) : scale l s m ≠ 0 := by
  unfold scale
  split
  · exact one_ne_zero
  · assumption

/-- The maximum, then the minimum, of two reals as extended reals. -/
theorem coe_max (a b : ℝ) : max (a : EReal) (b : EReal) = ((max a b : ℝ) : EReal) := (EReal.coe_strictMono.monotone.map_max).symm
/-- The smaller of two reals, as an extended real. -/
theorem coe_min (a b : ℝ) : min (a : EReal) (b : EReal) = ((min a b : ℝ) : EReal) := (EReal.coe_strictMono.monotone.map_min).symm
/-- Zero has the code zero at a scale that is not zero. -/
theorem quant_zero (c : EReal) (hc : c ≠ 0) : quant 0 c = 0#8 := by
  have e : Ideal.div 0 c = ((0 : ℝ) : EReal) := by unfold Ideal.div; rw [if_neg hc, zero_mul]; rfl
  have e2 : Ideal.roundHalfEven 0 = 0 := by unfold Ideal.roundHalfEven; norm_num
  unfold quant
  rw [e]
  show Ideal.fptosi 8 (min (((127#32).toInt : ℝ) : EReal) (max (((4294967169#32).toInt : ℝ) : EReal) (((Ideal.roundHalfEven 0 : ℤ) : ℝ) : EReal))) = _
  rw [e2, coe_max, coe_min, show (min ((127#32).toInt : ℝ) (max ((4294967169#32).toInt : ℝ) ((0 : ℤ) : ℝ))) = 0 by
    rw [show (127#32).toInt = 127 by decide, show (4294967169#32).toInt = -127 by decide]; norm_num]
  unfold Ideal.fptosi
  rw [Ideal.toIntClamped_coe]
  norm_num

/-- A value clipped to `-127 … 127` has the same byte whether it is converted to 32 bits and cut to 8, or converted to 8. -/
theorem narrow (z : EReal) : (Ideal.fptosi 32 (min (((127#32).toInt : ℝ) : EReal) (max (((4294967169#32).toInt : ℝ) : EReal) z))).setWidth 8
    = Ideal.fptosi 8 (min (((127#32).toInt : ℝ) : EReal) (max (((4294967169#32).toInt : ℝ) : EReal) z)) := by
  have e1 : (127#32).toInt = 127 := by decide
  have e2 : (4294967169#32).toInt = -127 := by decide
  rw [e1, e2]
  obtain ⟨r, hr, hl, hh⟩ : ∃ r : ℝ, min (((127 : ℤ) : ℝ) : EReal) (max (((-127 : ℤ) : ℝ) : EReal) z) = (r : EReal) ∧ -127 ≤ r ∧ r ≤ 127 := by
    induction z with
    | bot => exact ⟨-127, by rw [max_eq_left bot_le, coe_min]; norm_num, by norm_num, by norm_num⟩
    | top => exact ⟨127, by rw [max_eq_right le_top, min_eq_left le_top]; norm_num, by norm_num, by norm_num⟩
    | coe r => exact ⟨min 127 (max (-127) r), by rw [coe_max, coe_min]; norm_num, le_min (by norm_num) (le_max_left _ _), min_le_left _ _⟩
  rw [hr]
  simp only [Ideal.fptosi, Ideal.toIntClamped_coe]
  obtain ⟨n, hn, h0, h1⟩ : ∃ n : ℤ, (if 0 ≤ r then ⌊r⌋ else ⌈r⌉) = n ∧ -127 ≤ n ∧ n ≤ 127 := by
    split
    · exact ⟨_, rfl, Int.le_floor.mpr (by push_cast; exact hl), by have : ⌊r⌋ ≤ ⌊(127 : ℝ)⌋ := Int.floor_le_floor hh; simpa using this⟩
    · exact ⟨_, rfl, by exact_mod_cast hl.trans (Int.le_ceil r), Int.ceil_le.mpr (by push_cast; exact hh)⟩
  rw [hn, max_eq_right (by norm_num; omega), min_eq_right (by norm_num; omega), max_eq_right (by norm_num; omega), min_eq_right (by norm_num; omega)]
  interval_cases n <;> rfl

/-- A page's new scale for one head: `s` the scale it has, `t b` the row that sequence `b` appends. -/
def newScale (len pg : ℕ → ℕ) (s : EReal) (t : ℕ → Fin 128 → EReal) (p : ℕ) : EReal :=
  match last pg 48 p with
  | none => s
  | some b => scale (len b) s (top (t b))

/-- The new code of row `r`, lane `d`, of page `p` for one head: `x` the code it has. -/
def newCode (len pg : ℕ → ℕ) (x : BitVec 8) (s : EReal) (t : ℕ → Fin 128 → EReal) (p r : ℕ) (d : Fin 128) : BitVec 8 :=
  match last pg 48 p with
  | none => x
  | some b => code (len b) r x s (t b) d

/-! ## Small words -/

/-- A small number's word as a signed integer. -/
theorem toInt_w (a : ℕ) (ha : a < 2 ^ 31) : (BitVec.ofNat 32 a).toInt = a := by
  have h : (BitVec.ofNat 32 a).toNat = a := by rw [BitVec.toNat_ofNat]; omega
  rw [BitVec.toInt_eq_toNat_of_lt (by omega), h]

/-- Two small numbers' words compared for equality. -/
theorem eq_w (a b : ℕ) (ha : a < 2 ^ 31) (hb : b < 2 ^ 31) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff, ← BitVec.toInt_inj, toInt_w a ha, toInt_w b hb]
  omega

/-- A word compared with a small number's, both as signed integers. -/
theorem slt_w (x y : BitVec 32) : IntOp.cmpi .slt x y = BitVec.ofBool (decide (x.toInt < y.toInt)) := rfl

/-- A choice by a bit that says whether `p` holds. -/
theorem sel (p : Prop) [Decidable p] {α : Type} (x y : α) : Scalar.select (BitVec.ofBool (decide p)) x y = if p then x else y := by
  unfold Scalar.select; by_cases h : p <;> simp [h]

end Cert.Spec

end
-- ==== Proof.Elem.lean ====
/- The kernel's arithmetic over the extended reals, read at one element. -/
module

public import proofs.«01_k».proof.Proof.IdealModel
public import proofs.«01_k».proof.Proof.Spec

@[expose] public section

noncomputable section

namespace Cert.KernelIdeal.Elem

open Cert.KernelIdeal Cert.KernelIdeal.Gen Cert.KernelIdeal.Words Cert.Arith Cert.Spec
open Idealize.ShloMosaic
open Cert.KernelIdeal.Model (newG off)

set_option maxRecDepth 16384

variable (p l : BitVec 32) (s : Vec Ideal S8x1080 .f32) (t : Vec Ideal S1x8x128 .bf16) (h : Fin 8) (d : Fin 128) (r : Fin 4)

/-- The scale stored for page `p`. -/
theorem pay2 (p : Fin 1080) : k0_pay2 (w p.val) s (ix2 h 0) = s (ix2 h p) := by
  pointwise [k0_pay2, k0_pay1]
  rw [Finset.sum_congr rfl (g := fun x : Fin 1080 => if x = p then s (ix2 h p) else 0)]
  · simp
  · intro x _
    rw [eq_w x.val p.val (by omega) (by omega), sel]
    by_cases e : x = p
    · rw [if_pos (congrArg Fin.val e), if_pos e, e]
    · rw [if_neg (fun hh => e (Fin.ext hh)), if_neg e]

/-- A small number compared with zero, as a bit. -/
theorem sgt_w (n : ℕ) (hn : n < 2 ^ 31) : Scalar.cmpi .sgt (w n) 0#32 = BitVec.ofBool (decide (0 < n)) := by
  show BitVec.ofBool (decide ((0#32).toInt < (BitVec.ofNat 32 n).toInt)) = _
  rw [toInt_w n hn]
  congr 1
  rw [decide_eq_decide]
  show (0 : ℤ) < n ↔ _
  omega

/-- The page's new scale. -/
theorem pay4 (l : ℕ) (hl : l < 4608) :
    k0_pay4 p (w l) s t (ix2 h 0) = scale l (k0_pay2 p s (ix2 h 0)) (top fun d => t (ix3 0 h d)) := by
  pointwise [k0_pay4, k0_pay3]
  rw [rem_len l hl, sgt_w _ (by omega), sel]
  rfl

/-- A code of a row that was held before. -/
theorem pay8 (st sc : FVec Ideal S1x8x128 .f32) (v : Vec Ideal S4x8x128 .i8) :
    k0_pay8 st sc v (ix5 0 0 r h d) = quant ((((v (ix3 r h d)).toInt : ℝ) : EReal) * st (ix3 0 h d)) (sc (ix3 0 h d)) := by
  pointwise [k0_pay8]
  rfl

/-- A code of the four rows that the appended one is among. -/
theorem pay12 (o : BitVec 32) (tk : FVec Ideal S8x128 .f32) (st sc : FVec Ideal S1x8x128 .f32) (i : IVec S4x8x128 32) (m : IVec S4x8x128 1) (v : Vec Ideal S4x8x128 .i8) :
    k0_pay12 o tk st sc i m v (ix5 0 0 r h d)
      = quant (Scalar.select (m (ix3 r h d)) ((((v (ix3 r h d)).toInt : ℝ) : EReal) * st (ix3 0 h d))
          (Scalar.select (IntOp.cmpi .eq (i (ix3 r h d)) o) (tk (ix2 h d)) 0)) (sc (ix3 0 h d)) := by
  pointwise [k0_pay12]
  rfl

/-- A code of a row past the appended one. -/
theorem pay13 : k0_pay13 (F := Ideal) (ix5 0 0 r h d) = 0#8 := by
  pointwise [k0_pay13]

/-- The appended row, read at one element. -/
theorem pay3 : k0_pay3 t (ix2 h d) = t (ix3 0 h d) := by
  pointwise [k0_pay3]

/-- The scale held before, for every element of its head. -/
theorem pay6 : k0_pay6 p s (ix3 0 h d) = k0_pay2 p s (ix2 h 0) := by
  pointwise [k0_pay6]

/-- The new scale, for every element of its head. -/
theorem pay7 : k0_pay7 p l s t (ix3 0 h d) = k0_pay4 p l s t (ix2 h 0) := by
  pointwise [k0_pay7]

/-- The row that an element of the four lies in. -/
theorem pay10 (o : ℕ) (ho : o < 256) : k0_pay10 (w o) 4#32 (Scalar.divsi (w o) 4#32) 0#32 (ix3 r h d) = w (4 * (o / 4) + r.val) := by
  pointwise [k0_pay10]
  rw [mixed_w o ho, show (4#32) = w 4 from rfl, muli_w, mul_comm (o / 4) 4]
  exact addi_w _ _

/-- Whether an element of the four lies before the appended row. -/
theorem pay11 (o a b c : BitVec 32) : k0_pay11 o a b c (ix3 r h d) = IntOp.cmpi .slt (k0_pay10 o a b c (ix3 r h d)) o := by
  pointwise [k0_pay11]

/-- The scales with page `p`'s replaced. -/
theorem pay5 (p q : Fin 1080) :
    k0_pay5 (w p.val) l s t (ix2 h q) = if q = p then k0_pay4 (w p.val) l s t (ix2 h 0) else s (ix2 h q) := by
  pointwise [k0_pay5, k0_pay1]
  rw [eq_w _ _ (by omega) (by omega), sel]
  simp only [Fin.ext_iff]

/-- An element of the four rows `4 g …` after they are rewritten. -/
theorem newG_elem (l : ℕ) (hl : l < 4608) (p : Fin 1080) (v : Vec Ideal S4x8x128 .i8) (g : ℕ) :
    newG l (k0_pay3 t) (k0_pay6 (w p.val) s) (k0_pay7 (w p.val) (w l) s t) g v (ix5 0 0 r h d)
      = code l (4 * g + r.val) (v (ix3 r h d)) (s (ix2 h p)) (fun d => t (ix3 0 h d)) d := by
  have hr : r.val < 4 := r.isLt
  have hm : l % 256 < 256 := Nat.mod_lt _ (by decide)
  unfold newG code cell
  split
  · rename_i hg
    rw [pay8, pay6, pay7, pay4 _ _ _ _ l hl, pay2, if_pos (by omega)]
  · rename_i hg
    split
    · rename_i he
      subst he
      rw [pay12, pay6, pay7, pay4 _ _ _ _ l hl, pay2, pay3, pay11, show off l = w (l % 256) from rem_len l hl, pay10 _ _ _ _ hm,
        slt_w, show w (4 * (l % 256 / 4) + r.val) = BitVec.ofNat 32 (4 * (l % 256 / 4) + r.val) from rfl, show w (l % 256) = BitVec.ofNat 32 (l % 256) from rfl,
        eq_w _ _ (by omega) (by omega), toInt_w _ (by omega), toInt_w _ (by omega), sel, sel]
      simp only [Nat.cast_lt]
    · rename_i he
      rw [pay13, if_neg (by omega), if_neg (by omega), quant_zero _ (scale_ne _ _ _)]

end Cert.KernelIdeal.Elem

end
-- ==== Proof.Closed.lean ====
/- The kernel's two results for a pool over the extended reals, in closed form. -/
module

public import proofs.«01_k».proof.Proof.IdealRun
public import proofs.«01_k».proof.Proof.Elem

@[expose] public section

noncomputable section

namespace Cert.KernelIdeal.Closed

open Cert.KernelIdeal Cert.KernelIdeal.Gen Cert.KernelIdeal.Model Cert.KernelIdeal.Pieces Cert.Arith Cert.Spec Cert.KernelIdeal.Elem
open Cert.KernelIdeal.Join (sub glue)
open Idealize.ShloMosaic

/-- The table of owners holds the last sequence that names the page. -/
theorem ownAt_eq (pg : ℕ → ℕ) (n p : ℕ) : ownAt pg n p = last pg n p := by
  induction n with
  | zero => rfl
  | succ n ih => unfold ownAt last; rw [ih]

variable (I : Inp Ideal)

/-- The row sequence `b` appends, head `h`. -/
def row (h : Fin 8) (b : ℕ) (d : Fin 128) : EReal := I.tok b (ix3 0 h d)

/-- The scales after the first `n` pages: those pages' are new. -/
theorem sc_elem (h : Fin 8) (q : Fin 1080) (n : ℕ) (hn : n ≤ 1080) :
    I.sc n (ix2 h q) = if q.val < n then newScale I.len I.pg (I.s (ix2 h q)) (row I h) q.val else I.s (ix2 h q) := by
  induction n with
  | zero => rfl
  | succ n ih =>
    have ih := ih (by omega)
    rw [Inp.sc]
    cases hb : I.own n with
    | none =>
      show I.sc n (ix2 h q) = _
      rw [ih]
      by_cases e : q.val = n
      · rw [if_neg (by omega), if_pos (by omega)]
        unfold newScale
        rw [e, ← ownAt_eq, show ownAt I.pg 48 n = none from hb]
      · by_cases e' : q.val < n
        · rw [if_pos e', if_pos (by omega)]
        · rw [if_neg e', if_neg (by omega)]
    | some b =>
      show k0_pay5 (w ((⟨n, by omega⟩ : Fin 1080).val)) _ _ _ _ = _
      rw [pay5]
      by_cases e : q.val = n
      · rw [if_pos (Fin.ext e), pay4 _ _ _ _ _ (I.hlen b), pay2, if_pos (by omega)]
        unfold newScale
        rw [e, ← ownAt_eq, show ownAt I.pg 48 n = some b from hb, show (⟨n, by omega⟩ : Fin 1080) = q from Fin.ext e.symm, ih, if_neg (by omega)]
        rfl
      · rw [if_neg (fun hh => e (congrArg Fin.val hh)), ih]
        by_cases e' : q.val < n
        · rw [if_pos e', if_pos (by omega)]
        · rw [if_neg e', if_neg (by omega)]

/-- Chunk `k` after its first `n` pages: those pages are new. -/
theorem ch_elem (k : ℕ) (hk : k < 270) (a : Fin 4) (r : Fin 256) (h : Fin 8) (d : Fin 128) (n : ℕ) (hn : n ≤ 4) :
    I.ch k n (ValueIdx.ix4 a r h d)
      = if a.val < n then newCode I.len I.pg (I.x k (ValueIdx.ix4 a r h d)) (I.s (ix2 h ⟨4 * k + a.val, by omega⟩)) (row I h) (4 * k + a.val) r.val d
        else I.x k (ValueIdx.ix4 a r h d) := by
  induction n with
  | zero => rfl
  | succ n ih =>
    have ih := ih (by omega)
    rw [Inp.ch]
    cases hb : I.own (4 * k + n) with
    | none =>
      show I.ch k n _ = _
      rw [ih]
      by_cases e : a.val = n
      · subst e
        rw [if_neg (by omega), if_pos (by omega)]
        unfold newCode
        rw [← ownAt_eq, show ownAt I.pg 48 (4 * k + a.val) = none from hb]
      · by_cases e' : a.val < n
        · rw [if_pos e', if_pos (by omega)]
        · rw [if_neg e', if_neg (by omega)]
    | some b =>
      show upto _ _ _ _ _ = _
      unfold upto
      by_cases e : a.val = n
      · subst e
        rw [if_pos ⟨by show a.val = a.val % 4; omega, by show r.val / 4 < 64; omega⟩, if_pos (by omega)]
        unfold newCode
        rw [← ownAt_eq, show ownAt I.pg 48 (4 * k + a.val) = some b from hb]
        have hr : r.val % 4 < 4 := Nat.mod_lt _ (by decide)
        have key := newG_elem (I.sc (4 * k + a.val)) (I.tok b) h d ⟨r.val % 4, hr⟩ (I.len b) (I.hlen b) ⟨4 * k + a.val, by omega⟩
          (getG (I.ch k a.val) ⟨a.val % 4, Nat.mod_lt _ (by decide)⟩ ⟨r.val / 4, by omega⟩) (r.val / 4)
        rw [ix5_eq_valueIdx, sc_elem I h _ _ (by omega), if_neg (lt_irrefl _), ix3_eq_valueIdx] at key
        refine Eq.trans ?_ (key.trans ?_)
        · rfl
        · have e1 : 4 * (r.val / 4) + r.val % 4 = r.val := by omega
          have e2 : getG (I.ch k a.val) ⟨a.val % 4, Nat.mod_lt _ (by decide)⟩ ⟨r.val / 4, by omega⟩ (ValueIdx.ix3 (⟨r.val % 4, hr⟩ : Fin 4) h d) = I.x k (ValueIdx.ix4 a r h d) := by
            rw [if_neg (lt_irrefl _)] at ih
            refine Eq.trans ?_ ih
            unfold getG
            congr 1
            funext z
            fin_cases z
            · exact Fin.ext (Nat.mod_eq_of_lt a.isLt)
            · exact Fin.ext e1
            · rfl
            · rfl
          show code _ (4 * (r.val / 4) + r.val % 4) _ _ _ _ = code _ _ _ _ _ _
          rw [e1, e2]
          rfl
      · rw [if_neg (fun hh => e (by have : a.val = n % 4 := hh.1; omega)), ih]
        by_cases e' : a.val < n
        · rw [if_pos e', if_pos (by omega)]
        · rw [if_neg e', if_neg (by omega)]

/-- The codes the kernel leaves, at one element. -/
theorem pool_elem (x : S1080x256x8x128.Idx → BitVec 8) (hx : I.x = sub x) (p : Fin 1080) (r : Fin 256) (h : Fin 8) (d : Fin 128) :
    glue (F := Ideal) (fun j => I.ch j 4) (ValueIdx.ix4 p r h d) = newCode I.len I.pg (x (ValueIdx.ix4 p r h d)) (I.s (ix2 h p)) (row I h) p.val r.val d := by
  have hp := p.isLt
  have hq : p.val % 4 < 4 := Nat.mod_lt _ (by decide)
  show I.ch (p.val / 4) 4 (ValueIdx.ix4 (⟨p.val % 4, hq⟩ : Fin 4) r h d) = _
  have e : 4 * (p.val / 4) + p.val % 4 = p.val := by omega
  have ep : (⟨4 * (p.val / 4) + p.val % 4, by omega⟩ : Fin 1080) = p := Fin.ext e
  rw [ch_elem I _ (by omega) _ _ _ _ 4 (le_refl _), if_pos hq, hx]
  have ex : sub (F := Ideal) x (p.val / 4) (ValueIdx.ix4 (⟨p.val % 4, hq⟩ : Fin 4) r h d) = x (ValueIdx.ix4 p r h d) := by
    unfold sub
    congr 1
    funext z
    fin_cases z
    · refine Fin.ext ?_
      show 4 * (p.val / 4 % 270) + p.val % 4 = p.val
      omega
    · rfl
    · rfl
    · rfl
  rw [ex]
  show newCode _ _ _ (I.s (ix2 h ⟨4 * (p.val / 4) + p.val % 4, _⟩)) _ (4 * (p.val / 4) + p.val % 4) _ _ = _
  rw [ep, e]

/-- The scales the kernel leaves, at one element. -/
theorem scales_elem (h : Fin 8) (p : Fin 1080) : I.sc 1080 (ix2 h p) = newScale I.len I.pg (I.s (ix2 h p)) (row I h) p.val := by
  rw [sc_elem I h p 1080 (le_refl _), if_pos p.isLt]

end Cert.KernelIdeal.Closed

end
-- ==== Proof.Reads.lean ====
/- The reference's gathers and scatters read at one element. -/
module

public import proofs.«01_k».proof.Proof.Gen.ReferenceIdeal.Run
public import proofs.«01_k».proof.Proof.Spec
public import Idealize.ShloMosaic.Lib.Routing.OpsPair

@[expose] public section

noncomputable section

namespace Cert.ReferenceIdeal.Reads

open Cert.ReferenceIdeal Cert.ReferenceIdeal.Gen Cert.Spec
open Idealize.ShloMosaic

set_option maxRecDepth 16384

variable {α : Type}

/-! ## Gathers -/

/-- The entry of each row of a table at that row's column. -/
theorem gather_entry (x : S48x18.Idx → α) (c : IVec S48x1x1 32) (b : Fin 48) :
    Host.gather gather_S48x18_S48x1x1_S48x1_n_1_0_0_1_2_11 x c (ix2 b 0) = x (ix2 b ⟨min (c (ix3 b 0 0)).toInt.toNat 17, by omega⟩) := by
  have hi : gather_S48x18_S48x1x1_S48x1_n_1_0_0_1_2_11.siIdx (ix2 b 0) ⟨0, by decide⟩ = ix3 b 0 0 := by
    funext a
    fin_cases a <;> rfl
  show x _ = _
  congr 1
  funext a
  apply Fin.ext
  fin_cases a
  · show 0 + b.val + 0 = b.val
    omega
  · show min (c (gather_S48x18_S48x1x1_S48x1_n_1_0_0_1_2_11.siIdx (ix2 b 0) ⟨0, by decide⟩)).toInt.toNat 17 + 0 + 0 = min (c (ix3 b 0 0)).toInt.toNat 17
    rw [hi]
    rfl

/-- One page's scales. -/
theorem gather_scales (x : S1080x8.Idx → α) (c : IVec S48x1x1 32) (b : Fin 48) (h : Fin 8) :
    Host.gather gather_S1080x8_S48x1x1_S48x1x8_2_0_n_n_0_2_18 x c (ix3 b 0 h) = x (ix2 ⟨min (c (ix3 b 0 0)).toInt.toNat 1079, by omega⟩ h) := by
  have hi : gather_S1080x8_S48x1x1_S48x1x8_2_0_n_n_0_2_18.siIdx (ix3 b 0 h) ⟨0, by decide⟩ = ix3 b 0 0 := by
    funext a
    fin_cases a <;> rfl
  show x _ = _
  congr 1
  funext a
  apply Fin.ext
  fin_cases a
  · show min (c (gather_S1080x8_S48x1x1_S48x1x8_2_0_n_n_0_2_18.siIdx (ix3 b 0 h) ⟨0, by decide⟩)).toInt.toNat 1079 + 0 + 0 = min (c (ix3 b 0 0)).toInt.toNat 1079
    rw [hi]
    rfl
  · show 0 + 0 + h.val = h.val
    omega

/-- One page's codes. -/
theorem gather_page (x : S1080x256x8x128.Idx → α) (c : IVec S48x1x1 32) (b : Fin 48) (r : Fin 256) (h : Fin 8) (d : Fin 128) :
    Host.gather gather_S1080x256x8x128_S48x1x1_S48x1x256x8x128_234_0_n_n_0_2_12568128 x c (ix5 b 0 r h d) = x (ix4 ⟨min (c (ix3 b 0 0)).toInt.toNat 1079, by omega⟩ r h d) := by
  have hi : gather_S1080x256x8x128_S48x1x1_S48x1x256x8x128_234_0_n_n_0_2_12568128.siIdx (ix5 b 0 r h d) ⟨0, by decide⟩ = ix3 b 0 0 := by
    funext a
    fin_cases a <;> rfl
  show x _ = _
  congr 1
  funext a
  apply Fin.ext
  fin_cases a
  · show min (c (gather_S1080x256x8x128_S48x1x1_S48x1x256x8x128_234_0_n_n_0_2_12568128.siIdx (ix5 b 0 r h d) ⟨0, by decide⟩)).toInt.toNat 1079 + 0 + 0 = min (c (ix3 b 0 0)).toInt.toNat 1079
    rw [hi]
    rfl
  · show 0 + 0 + r.val = r.val
    omega
  · show 0 + 0 + h.val = h.val
    omega
  · show 0 + 0 + d.val = d.val
    omega

/-- One appended row for each row of a page. -/
theorem gather_rows (x : S48x1x8x128.Idx → α) (c : IVec S48x1x256x2 32) (b : Fin 48) (r : Fin 256) (h : Fin 8) (d : Fin 128) :
    Host.gather gather_S48x1x8x128_S48x1x256x2_S48x1x256x8x128_34_01_n_n_01_3_118128 x c (ix5 b 0 r h d)
      = x (ix4 ⟨min (c (ix4 b 0 r 0)).toInt.toNat 47, by omega⟩ 0 h d) := by
  have hi : gather_S48x1x8x128_S48x1x256x2_S48x1x256x8x128_34_01_n_n_01_3_118128.siIdx (ix5 b 0 r h d) ⟨0, by decide⟩ = ix4 b 0 r 0 := by
    funext a
    fin_cases a <;> rfl
  show x _ = _
  congr 1
  funext a
  apply Fin.ext
  fin_cases a
  · show min (c (gather_S48x1x8x128_S48x1x256x2_S48x1x256x8x128_34_01_n_n_01_3_118128.siIdx (ix5 b 0 r h d) ⟨0, by decide⟩)).toInt.toNat 47 + 0 + 0 = min (c (ix4 b 0 r 0)).toInt.toNat 47
    rw [hi]
    rfl
  · show min _ 0 + 0 + 0 = 0
    omega
  · show 0 + 0 + h.val = h.val
    omega
  · show 0 + 0 + d.val = d.val
    omega

/-! ## Scatters: the last writer's update stays -/

/-- A fold that overwrites, over a list without hits. -/
theorem fold_miss {N : ℕ} (P : Fin N → Prop) [DecidablePred P] (v : Fin N → α) (L : List (Fin N)) (x : α) (h : ∀ n ∈ L, ¬ P n) :
    L.foldl (fun a n => if P n then v n else a) x = x := by
  induction L generalizing x with
  | nil => rfl
  | cons n L ih =>
    rw [List.foldl_cons, if_neg (h n List.mem_cons_self)]
    exact ih x fun k hk => h k (List.mem_cons_of_mem _ hk)

/-- A fold that overwrites, over an increasing list: the last hit stays. -/
theorem fold_hit {N : ℕ} (P : Fin N → Prop) [DecidablePred P] (v : Fin N → α) (L : List (Fin N)) (hL : L.Pairwise (· < ·)) (x : α)
    (k : Fin N) (hk : k ∈ L) (hP : P k) (h : ∀ n ∈ L, k < n → ¬ P n) :
    L.foldl (fun a n => if P n then v n else a) x = v k := by
  induction L generalizing x with
  | nil => cases hk
  | cons n L ih =>
    rw [List.foldl_cons]
    rw [List.pairwise_cons] at hL
    rcases List.mem_cons.1 hk with e | hk
    · subst e
      rw [if_pos hP]
      exact fold_miss P v L _ fun m hm => h m (List.mem_cons_of_mem _ hm) (hL.1 m hm)
    · exact ih hL.2 _ hk fun m hm => h m (List.mem_cons_of_mem _ hm)

/-- Where an update of a whole page lands. -/
theorem lands_page (c : IVec S48x1 32) (b : Fin 48) (r r' : Fin 256) (h h' : Fin 8) (d d' : Fin 128) (p : Fin 1080) :
    scatter_S1080x256x8x128_S48x1_S48x256x8x128_123_0_0_1.resultIdx? (ix4 b r h d) c = some (ix4 p r' h' d')
      ↔ (c (ix2 b 0)).toInt = p.val ∧ r = r' ∧ h = h' ∧ d = d' := by
  have hi : scatter_S1080x256x8x128_S48x1_S48x256x8x128_123_0_0_1.siIdx (ix4 b r h d) ⟨0, by decide⟩ = ix2 b 0 := by
    funext a
    fin_cases a <;> rfl
  rw [Routing.resultIdx?_eq_some]
  have h0 : scatter_S1080x256x8x128_S48x1_S48x256x8x128_123_0_0_1.start (ix4 b r h d) c 0 = (c (ix2 b 0)).toInt := by
    show (c (scatter_S1080x256x8x128_S48x1_S48x256x8x128_123_0_0_1.siIdx (ix4 b r h d) ⟨0, by decide⟩)).toInt = _
    rw [hi]
  constructor
  · intro H
    have H0 : scatter_S1080x256x8x128_S48x1_S48x256x8x128_123_0_0_1.start (ix4 b r h d) c 0 + ((0 : ℕ) : ℤ) = (p.val : ℤ) := H 0
    have H1 : (0 : ℤ) + (r.val : ℤ) = (r'.val : ℤ) := H 1
    have H2 : (0 : ℤ) + (h.val : ℤ) = (h'.val : ℤ) := H 2
    have H3 : (0 : ℤ) + (d.val : ℤ) = (d'.val : ℤ) := H 3
    rw [h0] at H0
    exact ⟨by omega, Fin.ext (by omega), Fin.ext (by omega), Fin.ext (by omega)⟩
  · rintro ⟨H, rfl, rfl, rfl⟩ a
    fin_cases a
    · show scatter_S1080x256x8x128_S48x1_S48x256x8x128_123_0_0_1.start (ix4 b r h d) c 0 + ((0 : ℕ) : ℤ) = (p.val : ℤ)
      rw [h0]
      omega
    · show (0 : ℤ) + (r.val : ℤ) = (r.val : ℤ)
      omega
    · show (0 : ℤ) + (h.val : ℤ) = (h.val : ℤ)
      omega
    · show (0 : ℤ) + (d.val : ℤ) = (d.val : ℤ)
      omega

/-- Where an update of a page's scales lands. -/
theorem lands_scales (c : IVec S48x1 32) (b : Fin 48) (h h' : Fin 8) (p : Fin 1080) :
    scatter_S1080x8_S48x1_S48x8_1_0_0_1.resultIdx? (ix2 b h) c = some (ix2 p h') ↔ (c (ix2 b 0)).toInt = p.val ∧ h = h' := by
  have hi : scatter_S1080x8_S48x1_S48x8_1_0_0_1.siIdx (ix2 b h) ⟨0, by decide⟩ = ix2 b 0 := by
    funext a
    fin_cases a <;> rfl
  rw [Routing.resultIdx?_eq_some]
  have h0 : scatter_S1080x8_S48x1_S48x8_1_0_0_1.start (ix2 b h) c 0 = (c (ix2 b 0)).toInt := by
    show (c (scatter_S1080x8_S48x1_S48x8_1_0_0_1.siIdx (ix2 b h) ⟨0, by decide⟩)).toInt = _
    rw [hi]
  constructor
  · intro H
    have H0 : scatter_S1080x8_S48x1_S48x8_1_0_0_1.start (ix2 b h) c 0 + ((0 : ℕ) : ℤ) = (p.val : ℤ) := H 0
    have H1 : (0 : ℤ) + (h.val : ℤ) = (h'.val : ℤ) := H 1
    rw [h0] at H0
    exact ⟨by omega, Fin.ext (by omega)⟩
  · rintro ⟨H, rfl⟩ a
    fin_cases a
    · show scatter_S1080x8_S48x1_S48x8_1_0_0_1.start (ix2 b h) c 0 + ((0 : ℕ) : ℤ) = (p.val : ℤ)
      rw [h0]
      omega
    · show (0 : ℤ) + (h.val : ℤ) = (h.val : ℤ)
      omega

variable (pg : ℕ → ℕ) (c : IVec S48x1 32) (hc : ∀ b : Fin 48, (c (ix2 b 0)).toInt = pg b.val)
include hc

/-- Pages written in the order of the sequences, read at one element. -/
theorem scatter_page (x : S1080x256x8x128.Idx → α) (u : S48x256x8x128.Idx → α) (p : Fin 1080) (r : Fin 256) (h : Fin 8) (d : Fin 128) :
    Host.scatter scatter_S1080x256x8x128_S48x1_S48x256x8x128_123_0_0_1 (fun _ b => b) x c u (ix4 p r h d)
      = match last pg 48 p.val with
        | none => x (ix4 p r h d)
        | some b => u (ix4 ⟨b % 48, Nat.mod_lt _ (by decide)⟩ r h d) := by
  rw [Routing.scatter_at]
  cases hl : last pg 48 p.val with
  | none =>
    refine fold_miss (fun n => scatter_S1080x256x8x128_S48x1_S48x256x8x128_123_0_0_1.resultIdx? (S48x256x8x128.rowMajor.symm n) c = some (ix4 p r h d)) _ _ _ fun n _ hn => ?_
    generalize S48x256x8x128.rowMajor.symm n = y at hn
    obtain ⟨b, r', h', d', rfl⟩ : ∃ (b : Fin 48) (r' : Fin 256) (h' : Fin 8) (d' : Fin 128), y = ix4 b r' h' d' := ⟨y 0, y 1, y 2, y 3, eq_ix4 y⟩
    have := ((lands_page c b r' r h' h d' d p).1 hn).1
    rw [hc] at this
    exact last_none pg 48 _ hl b.val b.isLt (by omega)
  | some b =>
    obtain ⟨h1, h2, h3⟩ := last_some pg 48 _ b hl
    have e : (⟨b % 48, Nat.mod_lt _ (by decide)⟩ : Fin 48) = ⟨b, h1⟩ := Fin.ext (Nat.mod_eq_of_lt h1)
    show _ = u (ix4 ⟨b % 48, _⟩ r h d)
    rw [e]
    refine (fold_hit (fun n => scatter_S1080x256x8x128_S48x1_S48x256x8x128_123_0_0_1.resultIdx? (S48x256x8x128.rowMajor.symm n) c = some (ix4 p r h d)) _ _ (List.pairwise_lt_finRange _) _
      (S48x256x8x128.rowMajor (ix4 ⟨b, h1⟩ r h d)) (List.mem_finRange _) ?_ fun n _ hlt hn => ?_).trans ?_
    · rw [Equiv.symm_apply_apply, lands_page]
      exact ⟨by rw [hc, h2], rfl, rfl, rfl⟩
    · obtain ⟨y, rfl⟩ := S48x256x8x128.rowMajor.surjective n
      rw [Equiv.symm_apply_apply] at hn
      obtain ⟨b', r', h', d', rfl⟩ : ∃ (b : Fin 48) (r' : Fin 256) (h' : Fin 8) (d' : Fin 128), y = ix4 b r' h' d' := ⟨y 0, y 1, y 2, y 3, eq_ix4 y⟩
      obtain ⟨q1, rfl, rfl, rfl⟩ := (lands_page c b' r' r h' h d' d p).1 hn
      rw [hc] at q1
      have e1 : (S48x256x8x128.rowMajor (ix4 ⟨b, h1⟩ r' h' d')).val = ((b * 256 + r'.val) * 8 + h'.val) * 128 + d'.val := Shape.rowMajor_val_four _
      have e2 : (S48x256x8x128.rowMajor (ix4 b' r' h' d')).val = ((b'.val * 256 + r'.val) * 8 + h'.val) * 128 + d'.val := Shape.rowMajor_val_four _
      have hlt : (S48x256x8x128.rowMajor (ix4 ⟨b, h1⟩ r' h' d')).val < (S48x256x8x128.rowMajor (ix4 b' r' h' d')).val := hlt
      exact h3 b'.val (by omega) b'.isLt (by omega)
    · rw [Equiv.symm_apply_apply]

/-- Scales written in the order of the sequences, read at one element. -/
theorem scatter_scales (x : S1080x8.Idx → α) (u : S48x8.Idx → α) (p : Fin 1080) (h : Fin 8) :
    Host.scatter scatter_S1080x8_S48x1_S48x8_1_0_0_1 (fun _ b => b) x c u (ix2 p h)
      = match last pg 48 p.val with
        | none => x (ix2 p h)
        | some b => u (ix2 ⟨b % 48, Nat.mod_lt _ (by decide)⟩ h) := by
  rw [Routing.scatter_at]
  cases hl : last pg 48 p.val with
  | none =>
    refine fold_miss (fun n => scatter_S1080x8_S48x1_S48x8_1_0_0_1.resultIdx? (S48x8.rowMajor.symm n) c = some (ix2 p h)) _ _ _ fun n _ hn => ?_
    generalize S48x8.rowMajor.symm n = y at hn
    obtain ⟨b, h', rfl⟩ : ∃ (b : Fin 48) (h' : Fin 8), y = ix2 b h' := ⟨y 0, y 1, eq_ix2 y⟩
    have := ((lands_scales c b h' h p).1 hn).1
    rw [hc] at this
    exact last_none pg 48 _ hl b.val b.isLt (by omega)
  | some b =>
    obtain ⟨h1, h2, h3⟩ := last_some pg 48 _ b hl
    have e : (⟨b % 48, Nat.mod_lt _ (by decide)⟩ : Fin 48) = ⟨b, h1⟩ := Fin.ext (Nat.mod_eq_of_lt h1)
    show _ = u (ix2 ⟨b % 48, _⟩ h)
    rw [e]
    refine (fold_hit (fun n => scatter_S1080x8_S48x1_S48x8_1_0_0_1.resultIdx? (S48x8.rowMajor.symm n) c = some (ix2 p h)) _ _ (List.pairwise_lt_finRange _) _
      (S48x8.rowMajor (ix2 ⟨b, h1⟩ h)) (List.mem_finRange _) ?_ fun n _ hlt hn => ?_).trans ?_
    · rw [Equiv.symm_apply_apply, lands_scales]
      exact ⟨by rw [hc, h2], rfl⟩
    · obtain ⟨y, rfl⟩ := S48x8.rowMajor.surjective n
      rw [Equiv.symm_apply_apply] at hn
      obtain ⟨b', h', rfl⟩ : ∃ (b : Fin 48) (h' : Fin 8), y = ix2 b h' := ⟨y 0, y 1, eq_ix2 y⟩
      obtain ⟨q1, rfl⟩ := (lands_scales c b' h' h p).1 hn
      rw [hc] at q1
      have e1 : (S48x8.rowMajor (ix2 ⟨b, h1⟩ h')).val = b * 8 + h'.val := Shape.rowMajor_val_two _
      have e2 : (S48x8.rowMajor (ix2 b' h')).val = b'.val * 8 + h'.val := Shape.rowMajor_val_two _
      have hlt : (S48x8.rowMajor (ix2 ⟨b, h1⟩ h')).val < (S48x8.rowMajor (ix2 b' h')).val := hlt
      exact h3 b'.val (by omega) b'.isLt (by omega)
    · rw [Equiv.symm_apply_apply]

end Cert.ReferenceIdeal.Reads

end
-- ==== Proof.Terms.lean ====
/- The reference's index words: which page a sequence appends to and where its rows stand. -/
module

public import proofs.«01_k».proof.Proof.Reads

@[expose] public section

noncomputable section

namespace Cert.ReferenceIdeal.Terms

open Cert.ReferenceIdeal Cert.ReferenceIdeal.Gen Cert.Spec Cert.ReferenceIdeal.Reads
open Idealize.ShloMosaic

set_option maxRecDepth 16384

variable (ln : IVec S48 32) (pt : IVec S48x18 32)

/-- The lengths as a column. -/
def lens : IVec S48x1 32 := broadcastInDim S48x1 ![0] bcast_S48_S48x1_0 ln
/-- The word 256. -/
def c256 : IVec S_ 32 := id (constantI S_ 32 256#32)
/-- The lengths over 256, toward zero. -/
def quo : IVec S48x1 32 := Host.divsi (lens ln) (broadcastInDim S48x1 ![] bcast_S_S48x1 c256)
/-- Each sequence's block: its length over 256, rounded down. -/
def block : IVec S48x1 32 :=
  addi (select (andi (cmpi .ne (signi (lens ln)) (broadcastInDim S48x1 ![] bcast_S_S48x1 (signi c256))) (cmpi .ne (Host.remsi (lens ln) (broadcastInDim S48x1 ![] bcast_S_S48x1 c256)) (broadcastInDim S48x1 ![] bcast_S_S48x1 (constantI S_ 32 0#32)))) (subi (quo ln) (broadcastInDim S48x1 ![] bcast_S_S48x1 (constantI S_ 32 1#32))) (quo ln)) (broadcastInDim S48x1 ![0, 1] bcast_S1x1_S48x1_0_1 (broadcastInDim S1x1 ![1] bcast_S1_S1x1_1 (iotaInDim S1 32 0)))
/-- The block as a column of the page table. -/
def col : IVec S48x1x1 32 :=
  shapeCast _ (select (cmpi .slt (block ln) (broadcastInDim S48x1 ![] bcast_S_S48x1 (constantI S_ 32 0#32))) (addi (block ln) (broadcastInDim S48x1 ![] bcast_S_S48x1 (constantI S_ 32 18#32))) (block ln)) shapeCasts_S48x1_S48x1x1
/-- Whether that column is one of the table's. -/
def inTable : IVec S48x1 1 :=
  Host.reduce IntOp.andi (andi (cmpi .sge (col ln) (broadcastInDim S48x1x1 ![] bcast_S_S48x1x1 (constantI S_ 32 0#32))) (cmpi .sle (col ln) (broadcastInDim S48x1x1 ![0, 1, 2] bcast_S1x1x1_S48x1x1_0_1_2 (broadcastInDim S1x1x1 ![2] bcast_S1_S1x1x1_2 (constantI S1 32 17#32))))) (constantI S_ 1 1#1) reducesTo_S48x1x1_S48x1_d2 h_S_
/-- Each sequence's page. -/
def page : IVec S48x1 32 :=
  select (inTable ln) (Host.gather gather_S48x18_S48x1x1_S48x1_n_1_0_0_1_2_11 pt (col ln)) (broadcastInDim S48x1 ![] bcast_S_S48x1 (constantI S_ 32 2147483648#32))
/-- A row's position in its sequence, from the appended one. -/
def rel : IVec S48x1x256 32 :=
  subi (addi (broadcastInDim S48x1x256 ![0, 1, 2] bcast_S48x1x1_S48x1x256_0_1_2 (muli (broadcastInDim S48x1x1 ![0, 1] bcast_S48x1_S48x1x1_0_1 (block ln)) (broadcastInDim S48x1x1 ![] bcast_S_S48x1x1 (constantI S_ 32 256#32)))) (broadcastInDim S48x1x256 ![0, 1, 2] bcast_S1x1x256_S48x1x256_0_1_2 (broadcastInDim S1x1x256 ![2] bcast_S256_S1x1x256_2 (iotaInDim S256 32 0)))) (broadcastInDim S48x1x256 ![0, 1, 2] bcast_S48x1x1_S48x1x256_0_1_2 (broadcastInDim S48x1x1 ![0] bcast_S48_S48x1x1_0 ln))
/-- Whether a row was there before. -/
def old : IVec S48x1x256 1 := cmpi .slt (rel ln) (broadcastInDim S48x1x256 ![] bcast_S_S48x1x256 (constantI S_ 32 0#32))
/-- Whether a row is the appended one. -/
def new : IVec S48x1x256 1 :=
  andi (cmpi .sge (rel ln) (broadcastInDim S48x1x256 ![] bcast_S_S48x1x256 (constantI S_ 32 0#32))) (cmpi .slt (rel ln) (broadcastInDim S48x1x256 ![] bcast_S_S48x1x256 (constantI S_ 32 1#32)))
/-- The appended row's index among the appended ones. -/
def nth : IVec S48x1x256 32 :=
  minsi (broadcastInDim S48x1x256 ![] bcast_S_S48x1x256 (id (constantI S_ 32 0#32))) (maxsi (broadcastInDim S48x1x256 ![] bcast_S_S48x1x256 (id (constantI S_ 32 0#32))) (rel ln))
/-- The sequences' numbers. -/
def seq : IVec S48x1x1 32 := broadcastInDim S48x1x1 ![0] bcast_S48_S48x1x1_0 (iotaInDim S48 32 0)
/-- Whether a block held rows before. -/
def held : IVec S48x1 1 :=
  cmpi .slt (muli (block ln) (broadcastInDim S48x1 ![] bcast_S_S48x1 (constantI S_ 32 256#32))) (broadcastInDim S48x1 ![0] bcast_S48_S48x1_0 ln)
/-- The page as an index that may count from the end. -/
def at1 : IVec S48x1 32 :=
  select (cmpi .slt (page ln pt) (broadcastInDim S48x1 ![] bcast_S_S48x1 (constantI S_ 32 0#32))) (addi (page ln pt) (broadcastInDim S48x1 ![] bcast_S_S48x1 (constantI S_ 32 1080#32))) (page ln pt)

/-! ## What they hold, for lengths below 4608 -/

/-- The word of a small number. -/
theorem ofNat_toNat (x : BitVec 32) : x = BitVec.ofNat 32 x.toNat := by
  rw [BitVec.ofNat_toNat, BitVec.setWidth_eq]

/-- Whether a signed word is below another, as a bit. -/
theorem slt_bit (x y : BitVec 32) : IntOp.cmpi .slt x y = BitVec.ofBool (decide (x.toInt < y.toInt)) := rfl
/-- A signed comparison, as a bit. -/
theorem sge_bit (x y : BitVec 32) : IntOp.cmpi .sge x y = BitVec.ofBool (decide (y.toInt ≤ x.toInt)) := rfl
/-- A signed comparison, as a bit. -/
theorem sle_bit (x y : BitVec 32) : IntOp.cmpi .sle x y = BitVec.ofBool (decide (x.toInt ≤ y.toInt)) := rfl
/-- Two bits, both set. -/
theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The sign of a word. -/
def sg (x : BitVec 32) : BitVec 32 := if x = 0 then 0 else if x.msb = true then -1 else 1
/-- The quotient by 256 rounded down, as the division of signed words is spelt. -/
def fl (x : BitVec 32) : BitVec 32 :=
  IntOp.addi (Scalar.select (IntOp.andi (IntOp.cmpi .ne (sg x) (sg 256#32)) (IntOp.cmpi .ne (IntOp.remsi ArithUnit.host x 256#32) 0#32))
    (IntOp.subi (IntOp.divsi ArithUnit.host x 256#32) 1#32) (IntOp.divsi ArithUnit.host x 256#32)) 0#32
/-- The floor division by 256 of a small number. -/
theorem fl_w (n : ℕ) (hn : n < 4608) : fl (BitVec.ofNat 32 n) = BitVec.ofNat 32 (n / 256) := by
  have h : ∀ n : Fin 4608, fl (BitVec.ofNat 32 n.val) = BitVec.ofNat 32 (n.val / 256) := by decide +kernel
  exact h ⟨n, hn⟩

section Lengths
variable (hl : ∀ b : Fin 48, (ln (ix1 b)).toNat < 4608)
include hl

/-- A sequence's block. -/
theorem block_at (b : Fin 48) : block ln (ix2 b 0) = BitVec.ofNat 32 ((ln (ix1 b)).toNat / 256) := by
  pointwise [block, quo, lens, c256]
  have h := fl_w _ (hl b)
  rw [← ofNat_toNat] at h
  exact h

/-- The column of the page table that a sequence's token goes to. -/
theorem col_at (b : Fin 48) : col ln (ix3 b 0 0) = BitVec.ofNat 32 ((ln (ix1 b)).toNat / 256) := by
  have := hl b
  pointwise [col]
  rw [block_at ln hl, slt_bit, toInt_w _ (by omega), sel, if_neg (by show ¬ _ < (0 : ℤ); omega)]

/-- That column is one of the table. -/
theorem inTable_at (b : Fin 48) : inTable ln (ix2 b 0) = 1#1 := by
  have := hl b
  pointwise [inTable]
  rw [Finset.univ_unique, Finset.fold_singleton]
  show IntOp.andi (IntOp.andi (IntOp.cmpi .sge (col ln (ix3 b 0 0)) 0#32) (IntOp.cmpi .sle (col ln (ix3 b 0 0)) 17#32)) 1#1 = 1#1
  have e : (0#32).toInt ≤ (BitVec.ofNat 32 ((ln (ix1 b)).toNat / 256)).toInt ∧ (BitVec.ofNat 32 ((ln (ix1 b)).toNat / 256)).toInt ≤ (17#32).toInt := by
    rw [toInt_w ((ln (ix1 b)).toNat / 256) (by omega)]
    constructor
    · show (0 : ℤ) ≤ _
      omega
    · show _ ≤ (17 : ℤ)
      omega
  rw [col_at ln hl, sge_bit, sle_bit, and_bit, decide_eq_true e]
  rfl

/-- A row's distance from the appended one. -/
theorem rel_at (b : Fin 48) (r : Fin 256) : (rel ln (ix3 b 0 r)).toInt = (r.val : ℤ) - ((ln (ix1 b)).toNat % 256 : ℕ) := by
  have := hl b
  pointwise [rel]
  rw [block_at ln hl]
  have e : IntOp.addi (IntOp.muli (BitVec.ofNat 32 ((ln (ix1 b)).toNat / 256)) 256#32) (BitVec.ofNat 32 r.val)
      = BitVec.ofNat 32 ((ln (ix1 b)).toNat / 256 * 256 + r.val) := by
    simp [IntOp.addi, IntOp.muli, BitVec.ofNat_add, BitVec.ofNat_mul]
  rw [e]
  show (_ - _ : BitVec 32).toInt = _
  have e2 : (ln (ix1 b)).toInt = (ln (ix1 b)).toNat := BitVec.toInt_eq_toNat_of_lt (by omega)
  rw [BitVec.toInt_sub, toInt_w _ (by omega), e2, Int.bmod_eq_of_le (by omega) (by omega)]
  omega

/-- The rows before the appended one are held already. -/
theorem old_at (b : Fin 48) (r : Fin 256) : old ln (ix3 b 0 r) = BitVec.ofBool (decide (r.val < (ln (ix1 b)).toNat % 256)) := by
  pointwise [old]
  rw [slt_bit, rel_at ln hl]
  congr 1
  rw [decide_eq_decide]
  show _ < (0 : ℤ) ↔ _
  omega

/-- The one row that is appended. -/
theorem new_at (b : Fin 48) (r : Fin 256) : new ln (ix3 b 0 r) = BitVec.ofBool (decide (r.val = (ln (ix1 b)).toNat % 256)) := by
  pointwise [new]
  rw [slt_bit, sge_bit, and_bit, rel_at ln hl]
  congr 1
  rw [decide_eq_decide]
  show (0 : ℤ) ≤ _ ∧ _ < (1 : ℤ) ↔ _
  omega

/-- Whether the page held rows before. -/
theorem held_at (b : Fin 48) : held ln (ix2 b 0) = BitVec.ofBool (decide (0 < (ln (ix1 b)).toNat % 256)) := by
  have := hl b
  pointwise [held]
  have e : IntOp.muli (BitVec.ofNat 32 ((ln (ix1 b)).toNat / 256)) 256#32 = BitVec.ofNat 32 ((ln (ix1 b)).toNat / 256 * 256) := by
    simp [IntOp.muli, BitVec.ofNat_mul]
  have e2 : (ln (ix1 b)).toInt = (ln (ix1 b)).toNat := BitVec.toInt_eq_toNat_of_lt (by omega)
  rw [block_at ln hl, slt_bit, e, toInt_w _ (by omega), e2]
  congr 1
  rw [decide_eq_decide]
  omega

/-- The page a sequence appends to. -/
theorem page_at (b : Fin 48) : page ln pt (ix2 b 0) = pt (ix2 b ⟨(ln (ix1 b)).toNat / 256 % 18, Nat.mod_lt _ (by decide)⟩) := by
  have := hl b
  pointwise [page]
  rw [inTable_at ln hl, gather_entry]
  show pt _ = _
  congr 2
  apply Fin.ext
  show min (col ln (ix3 b 0 0)).toInt.toNat 17 = _
  rw [col_at ln hl, toInt_w _ (by omega)]
  show min _ 17 = (ln (ix1 b)).toNat / 256 % 18
  omega

/-- The page that a sequence's token goes to, as an index. -/
theorem at1_at (hp : ∀ b : Fin 48, (pt (ix2 b ⟨(ln (ix1 b)).toNat / 256 % 18, Nat.mod_lt _ (by decide)⟩)).toNat < 1080) (b : Fin 48) :
    at1 ln pt (ix2 b 0) = pt (ix2 b ⟨(ln (ix1 b)).toNat / 256 % 18, Nat.mod_lt _ (by decide)⟩) := by
  have h := hp b
  pointwise [at1]
  rw [page_at ln pt hl, slt_bit, BitVec.toInt_eq_toNat_of_lt (by omega), sel, if_neg (by show ¬ _ < (0 : ℤ); omega)]

end Lengths

end Cert.ReferenceIdeal.Terms

end
-- ==== Proof.Values.lean ====
/- The reference's values over the extended reals, read at one element. -/
module

public import proofs.«01_k».proof.Proof.Terms

@[expose] public section

noncomputable section

namespace Cert.ReferenceIdeal.Values

open Cert.ReferenceIdeal Cert.ReferenceIdeal.Gen Cert.Spec Cert.ReferenceIdeal.Reads Cert.ReferenceIdeal.Terms
open Idealize.ShloMosaic

set_option maxRecDepth 16384

variable (ln : IVec S48 32) (pt : IVec S48x18 32) (x : Vec Ideal S1080x256x8x128 .i8) (s : Vec Ideal S1080x8 .f32) (t : Vec Ideal S48x1x8x128 .bf16)

/-- The pages as indices of the gathers. -/
def pages : IVec S48x1x1 32 := broadcastInDim S48x1x1 ![0, 1] bcast_S48x1_S48x1x1_0_1 (at1 ln pt)
/-- The pages' scales. -/
def stored : FVec Ideal S48x1x8 .f32 := Host.gather gather_S1080x8_S48x1x1_S48x1x8_2_0_n_n_0_2_18 s (pages ln pt)
/-- Which appended row each row of a page would take. -/
def which : IVec S48x1x256x2 32 :=
  concatenate S48x1x256x2 3 [⟨S48x1x256x1, (broadcastInDim S48x1x256x1 ![0, 1, 2] bcast_S48x1x256_S48x1x256x1_0_1_2 (broadcastInDim S48x1x256 ![0, 1, 2] bcast_S48x1x1_S48x1x256_0_1_2 (select (cmpi .slt seq (broadcastInDim S48x1x1 ![] bcast_S_S48x1x1 (constantI S_ 32 0#32))) (addi seq (broadcastInDim S48x1x1 ![] bcast_S_S48x1x1 (constantI S_ 32 48#32))) seq)))⟩, ⟨S48x1x256x1, (broadcastInDim S48x1x256x1 ![0, 1, 2] bcast_S48x1x256_S48x1x256x1_0_1_2 (select (cmpi .slt (nth ln) (broadcastInDim S48x1x256 ![] bcast_S_S48x1x256 (constantI S_ 32 0#32))) (addi (nth ln) (broadcastInDim S48x1x256 ![] bcast_S_S48x1x256 (constantI S_ 32 1#32))) (nth ln)))⟩] concatenates_S48x1x256x1_S48x1x256x1_S48x1x256x2_d3
/-- A bit of each row, for every element of it. -/
def wide (b : IVec S48x1x256 1) : IVec S48x1x256x8x128 1 :=
  broadcastInDim S48x1x256x8x128 ![0, 1, 2, 3, 4] bcast_S48x1x256x1x1_S48x1x256x8x128_0_1_2_3_4 (broadcastInDim S48x1x256x1x1 ![0, 1, 2] bcast_S48x1x256_S48x1x256x1x1_0_1_2 b)
/-- A number of each head, for every element of it. -/
def heads (v : FVec Ideal S48x1x8 .f32) : FVec Ideal S48x1x256x8x128 .f32 :=
  broadcastInDim S48x1x256x8x128 ![0, 1, 2, 3, 4] bcast_S48x1x1x8x1_S48x1x256x8x128_0_1_2_3_4 (broadcastInDim S48x1x1x8x1 ![0, 1, 3] bcast_S48x1x8_S48x1x1x8x1_0_1_3 v)
/-- Zero for every element. -/
def zeros : FVec Ideal S48x1x256x8x128 .f32 := broadcastInDim S48x1x256x8x128 ![] bcast_S_S48x1x256x8x128 (id (constant S_ .f32 0x00000000#32))
/-- The values the pages are to hold. -/
def vals : FVec Ideal S48x1x256x8x128 .f32 :=
  select (wide (old ln)) (mulf (sitofp .f32 (extsi 32 (Host.gather gather_S1080x256x8x128_S48x1x1_S48x1x256x8x128_234_0_n_n_0_2_12568128 x (pages ln pt)) natLt_8_32)) (heads (stored ln pt s))) (select (wide (new ln)) (extf .f32 (Host.gather gather_S48x1x8x128_S48x1x256x2_S48x1x256x8x128_34_01_n_n_01_3_118128 t (which ln)) bitsLt_bf16_f32) zeros)
/-- The largest magnitude appended. -/
def largest : FVec Ideal S48x1x8 .f32 :=
  Host.reduce FloatOps.maximumf (select (wide (new ln)) (Host.absf (vals ln pt x s t)) zeros) (constant S_ .f32 0xFF800000#32) reducesTo_S48x1x256x8x128_S48x1x8_d2_4 h_S_
/-- The scales before a zero one is replaced. -/
def raws : FVec Ideal S48x1x8 .f32 :=
  maximumf (select (broadcastInDim S48x1x8 ![0, 1, 2] bcast_S48x1x1_S48x1x8_0_1_2 (broadcastInDim S48x1x1 ![0, 1] bcast_S48x1_S48x1x1_0_1 (held ln))) (stored ln pt s) (broadcastInDim S48x1x8 ![] bcast_S_S48x1x8 (id (constant S_ .f32 0x00000000#32)))) (Host.divf (largest ln pt x s t) (broadcastInDim S48x1x8 ![] bcast_S_S48x1x8 (constant S_ .f32 0x42FE0000#32)))
/-- The new scales. -/
def scales : FVec Ideal S48x1x8 .f32 :=
  select (cmpf .oeq (raws ln pt x s t) (broadcastInDim S48x1x8 ![] bcast_S_S48x1x8 (constant S_ .f32 0x00000000#32))) (broadcastInDim S48x1x8 ![] bcast_S_S48x1x8 (id (constant S_ .f32 0x3F800000#32))) (raws ln pt x s t)
/-- The new codes. -/
def codes : IVec S48x256x8x128 8 :=
  shapeCast _ (trunci 8 (fptosi 32 (minimumf (broadcastInDim S48x1x256x8x128 ![] bcast_S_S48x1x256x8x128 (sitofp .f32 (constantI S_ 32 127#32))) (maximumf (broadcastInDim S48x1x256x8x128 ![] bcast_S_S48x1x256x8x128 (sitofp .f32 (constantI S_ 32 4294967169#32))) (Host.roundeven (Host.divf (vals ln pt x s t) (heads (scales ln pt x s t))))))) natLt_8_32) shapeCasts_S48x1x256x8x128_S48x256x8x128
/-- The pages as indices of the scatters. -/
def target : IVec S48x1 32 :=
  broadcastInDim S48x1 ![0] bcast_S48_S48x1_0 (select (cmpi .slt (shapeCast S48 (page ln pt) shapeCasts_S48x1_S48) (broadcastInDim S48 ![] bcast_S_S48 (constantI S_ 32 0#32))) (addi (shapeCast S48 (page ln pt) shapeCasts_S48x1_S48) (broadcastInDim S48 ![] bcast_S_S48 (constantI S_ 32 1080#32))) (shapeCast S48 (page ln pt) shapeCasts_S48x1_S48))
/-- The pool after the append. -/
def pool : IVec S1080x256x8x128 8 :=
  Host.scatter scatter_S1080x256x8x128_S48x1_S48x256x8x128_123_0_0_1 (fun _ b => b) x (target ln pt) (codes ln pt x s t)
/-- The pool's scales after the append. -/
def poolScales : FVec Ideal S1080x8 .f32 :=
  Host.scatter scatter_S1080x8_S48x1_S48x8_1_0_0_1 (fun _ b => b) s (target ln pt) (shapeCast S48x8 (scales ln pt x s t) shapeCasts_S48x1x8_S48x8)

/-- A sequence's length. -/
def len (b : Fin 48) : ℕ := (ln (ix1 b)).toNat
/-- The sequence a number names. -/
def sq (b : ℕ) : Fin 48 := ⟨b % 48, Nat.mod_lt _ (by decide)⟩
/-- A sequence is named by its own number. -/
theorem sq_val (b : Fin 48) : sq b.val = b := Fin.ext (Nat.mod_eq_of_lt b.isLt)
/-- The page a sequence appends to. -/
def pg (b : Fin 48) : ℕ := (pt (ix2 b ⟨(ln (ix1 b)).toNat / 256 % 18, Nat.mod_lt _ (by decide)⟩)).toNat

/-- The constant zero. -/
theorem zero_at : id (constant (F := Ideal) S_ FTy.f32 0#32) ix0 = 0 := by
  show constant (F := Ideal) S_ FTy.f32 0#32 ix0 = 0
  pointwise []
/-- The constant one. -/
theorem one_at : id (constant (F := Ideal) S_ FTy.f32 1065353216#32) ix0 = 1 := by
  show constant (F := Ideal) S_ FTy.f32 1065353216#32 ix0 = 1
  pointwise []

/-- The sequence a row would be taken from is its own. -/
theorem which_at (b : Fin 48) (r : Fin 256) : which ln (ix4 b 0 r 0) = BitVec.ofNat 32 b.val := by
  pointwise [which, seq]
  rw [slt_bit, toInt_w b.val (by omega), sel, if_neg (by show ¬ _ < (0 : ℤ); omega)]

/-- The sequence a row would be taken from, kept in bounds. -/
theorem which_row (b : Fin 48) (r : Fin 256) (h : min (which ln (ix4 b 0 r 0)).toInt.toNat 47 < 48) :
    (⟨min (which ln (ix4 b 0 r 0)).toInt.toNat 47, h⟩ : Fin 48) = b := by
  apply Fin.ext
  simp only [which_at, toInt_w b.val (by omega : b.val < 2 ^ 31), Int.toNat_natCast]
  omega

/-- The scatters and the gathers use the same page. -/
theorem target_at (b : Fin 48) : target ln pt (ix2 b 0) = at1 ln pt (ix2 b 0) := by
  pointwise [target, at1]

variable (hl : ∀ b : Fin 48, (ln (ix1 b)).toNat < 4608) (hp : ∀ b : Fin 48, pg ln pt b < 1080)

include hl hp
/-- The page that a sequence's token goes to, as an integer. -/
theorem at1_pg (b : Fin 48) : (at1 ln pt (ix2 b 0)).toInt = pg ln pt b := by
  rw [at1_at ln pt hl hp]
  have h : (pt (ix2 b ⟨(ln (ix1 b)).toNat / 256 % 18, Nat.mod_lt _ (by decide)⟩)).toNat < 1080 := hp b
  rw [BitVec.toInt_eq_toNat_of_lt (by omega)]
  rfl

/-- The page gathered. -/
theorem pages_at (b : Fin 48) : (pages ln pt (ix3 b 0 0)).toInt = pg ln pt b := by
  pointwise [pages]
  exact at1_pg ln pt hl hp b

/-- The page gathered, kept in bounds, is itself. -/
theorem clamp (b : Fin 48) (h : min (pages ln pt (ix3 b 0 0)).toInt.toNat 1079 < 1080) :
    (⟨min (pages ln pt (ix3 b 0 0)).toInt.toNat 1079, h⟩ : Fin 1080) = ⟨pg ln pt b, hp b⟩ := by
  apply Fin.ext
  have := hp b
  simp only [pages_at ln pt hl hp, Int.toNat_natCast]
  omega

/-- The scale held before is the page's. -/
theorem stored_at (b : Fin 48) (h : Fin 8) : stored ln pt s (ix3 b 0 h) = s (ix2 ⟨pg ln pt b, hp b⟩ h) := by
  unfold stored
  rw [gather_scales, clamp ln pt hl hp]

/-- The value of an element before it is coded. -/
theorem vals_at (b : Fin 48) (r : Fin 256) (h : Fin 8) (d : Fin 128) :
    vals ln pt x s t (ix5 b 0 r h d) = cell (len ln b) r.val (x (ix4 ⟨pg ln pt b, hp b⟩ r h d)) (s (ix2 ⟨pg ln pt b, hp b⟩ h)) (t (ix4 b 0 h d)) := by
  pointwise [vals, wide, heads, zeros]
  rw [old_at ln hl, new_at ln hl, sel, sel, stored_at ln pt s hl hp, gather_page, gather_rows, clamp ln pt hl hp, which_row, zero_at]
  show (if _ then (((BitVec.signExtend 32 _).toInt : ℝ) : EReal) * _ else _) = _
  rw [BitVec.toInt_signExtend_of_le (by decide)]
  rfl

/-- The scale before a zero one is replaced. -/
theorem raws_at (b : Fin 48) (h : Fin 8) : raws ln pt x s t (ix3 b 0 h) = raw (len ln b) (s (ix2 ⟨pg ln pt b, hp b⟩ h)) (largest ln pt x s t (ix3 b 0 h)) := by
  pointwise [raws]
  rw [held_at ln hl, sel, stored_at ln pt s hl hp, zero_at]
  rfl

omit hl hp in
/-- A magnitude is not negative. -/
theorem magnitude_nonneg (v : EReal) : 0 ≤ max v (-v) := by
  rcases le_total 0 v with h | h
  · exact le_max_of_le_left h
  · exact le_max_of_le_right (EReal.neg_nonneg.2 h)

/-- The magnitudes of the appended row, zero for the others. -/
theorem magnitude (b : Fin 48) (r : Fin 256) (h : Fin 8) (d : Fin 128) :
    select (wide (new ln)) (Host.absf (vals ln pt x s t)) zeros (ix5 b 0 r h d)
      = if r.val = len ln b % 256 then max (t (ix4 b 0 h d)) (-(t (ix4 b 0 h d))) else 0 := by
  pointwise [wide, zeros]
  rw [new_at ln hl, sel, vals_at ln pt x s t hl hp, zero_at]
  unfold cell len
  by_cases e : r.val = (ln (ix1 b)).toNat % 256
  · rw [if_pos e, if_pos e, if_neg (by omega), if_pos e]
    rfl
  · rw [if_neg e, if_neg e]

/-- The largest magnitude of the page is that of the appended row, as no magnitude is below zero. -/
theorem largest_at (b : Fin 48) (h : Fin 8) : largest ln pt x s t (ix3 b 0 h) = top fun d => t (ix4 b 0 h d) := by
  unfold largest
  rw [Host.reduce_eq_fold]
  show Finset.fold max (Ideal.ofBits .f32 4286578688#32) _ _ = _
  unfold top
  apply le_antisymm
  · rw [Finset.fold_max_le]
    refine ⟨(Finset.le_fold_max _).2 (Or.inl le_rfl), fun i hi => ?_⟩
    have hi := (Finset.mem_filter.1 hi).2
    have h0 : (i 0).val = b.val := congrArg (fun k : S48x1x8.Idx => (k 0).val) hi
    have h2 : (i 3).val = h.val := congrArg (fun k : S48x1x8.Idx => (k 2).val) hi
    obtain ⟨r, hr⟩ : ∃ r : Fin 256, r = i 2 := ⟨_, rfl⟩
    obtain ⟨d, hd⟩ : ∃ d : Fin 128, d = i 4 := ⟨_, rfl⟩
    have e : i = ix5 b 0 r h d := by
      funext a
      apply Fin.ext
      fin_cases a
      · exact h0
      · show (i 1).val = 0
        have := (i 1).isLt
        change _ < 1 at this
        omega
      · exact congrArg Fin.val hr.symm
      · exact h2
      · exact congrArg Fin.val hd.symm
    rw [e, magnitude ln pt x s t hl hp]
    refine (Finset.le_fold_max _).2 (Or.inr ⟨d, Finset.mem_univ _, ?_⟩)
    split
    · exact le_rfl
    · exact magnitude_nonneg _
  · rw [Finset.fold_max_le]
    refine ⟨(Finset.le_fold_max _).2 (Or.inl le_rfl), fun d _ => ?_⟩
    refine (Finset.le_fold_max _).2 (Or.inr ⟨ix5 b 0 ⟨len ln b % 256, Nat.mod_lt _ (by decide)⟩ h d, Finset.mem_filter.2 ⟨Finset.mem_univ _, ?_⟩, ?_⟩)
    · funext a
      apply Fin.ext
      fin_cases a <;> rfl
    · rw [magnitude ln pt x s t hl hp, if_pos rfl]

/-- The new scale. -/
theorem scales_at (b : Fin 48) (h : Fin 8) :
    scales ln pt x s t (ix3 b 0 h) = scale (len ln b) (s (ix2 ⟨pg ln pt b, hp b⟩ h)) (top fun d => t (ix4 b 0 h d)) := by
  pointwise [scales]
  rw [raws_at ln pt x s t hl hp, largest_at ln pt x s t hl hp, one_at]
  rfl

/-- The new code. -/
theorem codes_at (b : Fin 48) (r : Fin 256) (h : Fin 8) (d : Fin 128) :
    codes ln pt x s t (ix4 b r h d) = code (len ln b) r.val (x (ix4 ⟨pg ln pt b, hp b⟩ r h d)) (s (ix2 ⟨pg ln pt b, hp b⟩ h)) (fun d => t (ix4 b 0 h d)) d := by
  pointwise [codes, heads]
  rw [vals_at ln pt x s t hl hp, scales_at ln pt x s t hl hp]
  exact narrow _

/-- The pool after the append, at one element. -/
theorem pool_at (p : Fin 1080) (r : Fin 256) (h : Fin 8) (d : Fin 128) :
    pool ln pt x s t (ix4 p r h d)
      = newCode (fun b => len ln (sq b)) (fun b => pg ln pt (sq b)) (x (ix4 p r h d)) (s (ix2 p h)) (fun b d => t (ix4 (sq b) 0 h d)) p.val r.val d := by
  unfold pool
  rw [scatter_page (fun b => pg ln pt (sq b)) _ (fun b => by
    rw [target_at, at1_pg ln pt hl hp, sq_val])]
  unfold newCode
  cases e : last (fun b => pg ln pt (sq b)) 48 p.val with
  | none => rfl
  | some b =>
    have hb := (last_some _ _ _ _ e).2.1
    show codes ln pt x s t (ix4 (sq b) r h d) = _
    rw [codes_at ln pt x s t hl hp]
    have : (⟨pg ln pt (sq b), hp (sq b)⟩ : Fin 1080) = p := Fin.ext hb
    rw [this]

/-- The scales after the append, at one element. -/
theorem poolScales_at (p : Fin 1080) (h : Fin 8) :
    poolScales ln pt x s t (ix2 p h)
      = newScale (fun b => len ln (sq b)) (fun b => pg ln pt (sq b)) (s (ix2 p h)) (fun b d => t (ix4 (sq b) 0 h d)) p.val := by
  unfold poolScales
  rw [scatter_scales (fun b => pg ln pt (sq b)) _ (fun b => by
    rw [target_at, at1_pg ln pt hl hp, sq_val])]
  unfold newScale
  cases e : last (fun b => pg ln pt (sq b)) 48 p.val with
  | none => rfl
  | some b =>
    have hb := (last_some _ _ _ _ e).2.1
    show shapeCast S48x8 (scales ln pt x s t) shapeCasts_S48x1x8_S48x8 (ix2 (sq b) h) = _
    have : (⟨pg ln pt (sq b), hp (sq b)⟩ : Fin 1080) = p := Fin.ext hb
    pointwise []
    rw [scales_at ln pt x s t hl hp, this]

end Cert.ReferenceIdeal.Values

end
-- ==== Proof.Equal.lean ====
/- The idealized kernel and the reference leave the same pools and the same scales. -/
module

public import proofs.«01_k».proof.Proof.IdealEnds
public import proofs.«01_k».proof.Proof.Closed
public import proofs.«01_k».proof.Proof.Values
public import proofs.«01_k».proof.Proof.Gen.ReferenceIdeal.Run

@[expose] public section

set_option maxRecDepth 16384

noncomputable section

namespace Cert.Equal

open Cert.KernelIdeal Cert.KernelIdeal.Gen Cert.KernelIdeal.Model Cert.KernelIdeal.Join Cert.KernelIdeal.Run Cert.KernelIdeal.Closed Cert.Spec
open Idealize.ShloMosaic Idealize.ShloMosaic.TcCoe

/-- The page table with sequences along the second axis, as the kernel reads it. -/
def turned (pt : IVec S48x18 32) : S18x48.Idx → BitVec 32 := (transpose S18x48 [1, 0] · transposes_S48x18_S18x48_1_0) pt
/-- The scales with heads first, as the kernel reads them. -/
def headed (s : Vec Ideal S1080x8 .f32) : S8x1080.Idx → Elt Ideal .f32 := (transpose S8x1080 [1, 0] · transposes_S1080x8_S8x1080_1_0) s
/-- The appended rows without their axis of one, as the kernel reads them. -/
def rows (t : Vec Ideal S48x1x8x128 .bf16) : S48x8x128.Idx → Elt Ideal .bf16 := shapeCast S48x8x128 t shapeCasts_S48x1x8x128_S48x8x128

variable (ln : IVec S48 32) (pt : IVec S48x18 32) (x : Vec Ideal S1080x256x8x128 .i8) (s : Vec Ideal S1080x8 .f32) (t : Vec Ideal S48x1x8x128 .bf16)
variable (g : Good ln (turned pt))

/-- The turned page table, at one entry. -/
theorem turned_at (a : Fin 18) (b : Fin 48) : turned pt (ix2 a b) = pt (ix2 b a) := by
  pointwise [turned]
/-- The turned scales, at one entry. -/
theorem headed_at (h : Fin 8) (p : Fin 1080) : headed s (ix2 h p) = s (ix2 p h) := by
  pointwise [headed]
/-- The appended rows, at one element. -/
theorem rows_at (b : Fin 48) (h : Fin 8) (d : Fin 128) : rows t (ix3 b h d) = t (ix4 b 0 h d) := by
  pointwise [rows]

/-- The kernel's lengths are the reference's. -/
theorem len_eq : (inp ln (turned pt) g x (headed s) (rows t)).len = fun b => Cert.ReferenceIdeal.Values.len ln (Cert.ReferenceIdeal.Values.sq b) := by
  funext b
  show (ln (ValueIdx.ix1 _)).toNat = _
  rw [← ix1_eq_valueIdx]
  rfl
/-- The kernel's pages are the reference's. -/
theorem pg_eq : (inp ln (turned pt) g x (headed s) (rows t)).pg = fun b => Cert.ReferenceIdeal.Values.pg ln pt (Cert.ReferenceIdeal.Values.sq b) := by
  funext b
  show (turned pt (ValueIdx.ix2 _ _)).toNat = _
  rw [← ix2_eq_valueIdx, turned_at]
  simp only [← ix1_eq_valueIdx]
  rfl
/-- The kernel's appended rows are the reference's. -/
theorem row_eq (h : Fin 8) : row (inp ln (turned pt) g x (headed s) (rows t)) h = fun b d => t (ix4 (Cert.ReferenceIdeal.Values.sq b) 0 h d) := by
  funext b d
  show rows t (ValueIdx.ix3 (Cert.ReferenceIdeal.Values.sq b) h d) = _
  rw [← ix3_eq_valueIdx]
  exact rows_at t _ h d

variable (hl : ∀ b : Fin 48, (ln (ix1 b)).toNat < 4608) (hp : ∀ b : Fin 48, Cert.ReferenceIdeal.Values.pg ln pt b < 1080)

include hl hp
/-- The pools are equal. -/
theorem pool_eq : glue (F := Ideal) (fun j => (inp ln (turned pt) g x (headed s) (rows t)).ch j 4) = Cert.ReferenceIdeal.Values.pool ln pt x s t := by
  funext y
  obtain ⟨p, r, h, d, rfl⟩ : ∃ (p : Fin 1080) (r : Fin 256) (h : Fin 8) (d : Fin 128), y = ix4 p r h d := ⟨y 0, y 1, y 2, y 3, eq_ix4 y⟩
  rw [Cert.ReferenceIdeal.Values.pool_at ln pt x s t hl hp, ix4_eq_valueIdx]
  rw [pool_elem (inp ln (turned pt) g x (headed s) (rows t)) x rfl, len_eq, pg_eq, row_eq]
  congr 1
  exact headed_at s h p

/-- The scales are equal. -/
theorem scales_eq : (transpose S1080x8 [1, 0] · transposes_S8x1080_S1080x8_1_0) ((inp ln (turned pt) g x (headed s) (rows t)).sc 1080) = Cert.ReferenceIdeal.Values.poolScales ln pt x s t := by
  funext y
  obtain ⟨p, h, rfl⟩ : ∃ (p : Fin 1080) (h : Fin 8), y = ix2 p h := ⟨y 0, y 1, eq_ix2 y⟩
  rw [Cert.ReferenceIdeal.Values.poolScales_at ln pt x s t hl hp]
  show transpose S1080x8 [1, 0] ((inp ln (turned pt) g x (headed s) (rows t)).sc 1080) transposes_S8x1080_S1080x8_1_0 (ix2 p h) = _
  pointwise []
  rw [scales_elem, len_eq, pg_eq, row_eq]
  congr 1
  exact headed_at s h p

omit hl hp

/-- The kernel's pools and scales at its end, by the reference's terms of its own arguments. -/
structure Same (m : (ℓ : Loc nD τ sig) → Buf (Elt Ideal) ℓ) (c : Dev nD) (r : (ℓ : Loc nD τ sig) → Buf (Elt Ideal) ℓ) : Prop where
  keys : r ((c : Thread nD τ).loc main_v5_0) = Cert.ReferenceIdeal.Values.pool (m ((c : Thread nD τ).loc main_arg5)) (m ((c : Thread nD τ).loc main_arg4)) (m ((c : Thread nD τ).loc main_arg0)) (m ((c : Thread nD τ).loc main_arg2)) (m ((c : Thread nD τ).loc main_arg6))
  keyScales : r ((c : Thread nD τ).loc main_v6) = Cert.ReferenceIdeal.Values.poolScales (m ((c : Thread nD τ).loc main_arg5)) (m ((c : Thread nD τ).loc main_arg4)) (m ((c : Thread nD τ).loc main_arg0)) (m ((c : Thread nD τ).loc main_arg2)) (m ((c : Thread nD τ).loc main_arg6))
  values : r ((c : Thread nD τ).loc main_v5_2) = Cert.ReferenceIdeal.Values.pool (m ((c : Thread nD τ).loc main_arg5)) (m ((c : Thread nD τ).loc main_arg4)) (m ((c : Thread nD τ).loc main_arg1)) (m ((c : Thread nD τ).loc main_arg3)) (m ((c : Thread nD τ).loc main_arg7))
  valueScales : r ((c : Thread nD τ).loc main_v7) = Cert.ReferenceIdeal.Values.poolScales (m ((c : Thread nD τ).loc main_arg5)) (m ((c : Thread nD τ).loc main_arg4)) (m ((c : Thread nD τ).loc main_arg1)) (m ((c : Thread nD τ).loc main_arg3)) (m ((c : Thread nD τ).loc main_arg7))

/-- Equal arguments give equal inputs of a pool's half. -/
theorem inp_congr {ln ln' : S48.Idx → BitVec 32} {pt pt' : S18x48.Idx → BitVec 32} {x x' : S1080x256x8x128.Idx → BitVec 8} {s s' : S8x1080.Idx → Elt Ideal .f32} {t t' : S48x8x128.Idx → Elt Ideal .bf16}
    (g : Good ln pt) (g' : Good ln' pt') (e1 : ln = ln') (e2 : pt = pt') (e3 : x = x') (e4 : s = s') (e5 : t = t') :
    inp (F := Ideal) ln pt g x s t = inp ln' pt' g' x' s' t' := by
  subst e1 e2 e3 e4 e5; rfl

/-- On arguments in range the kernel ends with the reference's values. -/
theorem same (m : (ℓ : Loc nD τ sig) → Buf (Elt Ideal) ℓ) (hp : Cert.Pre_KernelIdeal m) (h : Ok m) (r : PUnit × MemSt nD τ sig (Elt Ideal)) (e : Ends.End m h r) (c : Dev nD) : Same m c r.2.mem := by
  have g : Good (m ((c : Thread nD τ).loc main_arg5)) (turned (m ((c : Thread nD τ).loc main_arg4))) := by
    have := h c
    rw [V_main_arg5 m c, Ends.V_v0 m c] at this
    exact this
  have b := Cert.Range.of_fn (F := Ideal) _ _ _ _ _ _ _ _ (hp c)
  simp only [← ix1_eq_valueIdx, ← ix2_eq_valueIdx] at b
  have hl := fun i => (b i).1
  have hq := fun i => (b i).2
  have k : IK c m h = inp (m ((c : Thread nD τ).loc main_arg5)) (turned (m ((c : Thread nD τ).loc main_arg4))) g (m ((c : Thread nD τ).loc main_arg0)) (headed (m ((c : Thread nD τ).loc main_arg2))) (rows (m ((c : Thread nD τ).loc main_arg6))) :=
    inp_congr (h c) g (V_main_arg5 m c) (Ends.V_v0 m c) (V_main_arg0 m c) (Ends.V_v1 m c) (Ends.V_v3 m c)
  have v : IV c m h = inp (m ((c : Thread nD τ).loc main_arg5)) (turned (m ((c : Thread nD τ).loc main_arg4))) g (m ((c : Thread nD τ).loc main_arg1)) (headed (m ((c : Thread nD τ).loc main_arg3))) (rows (m ((c : Thread nD τ).loc main_arg7))) :=
    inp_congr (h c) g (V_main_arg5 m c) (Ends.V_v0 m c) (V_main_arg1 m c) (Ends.V_v2 m c) (Ends.V_v4 m c)
  constructor
  · refine (e.v5_0 c).trans ?_
    rw [k]
    exact pool_eq _ _ _ _ _ g hl hq
  · refine (e.v6 c).trans ?_
    rw [k]
    exact scales_eq _ _ _ _ _ g hl hq
  · refine (e.v5_2 c).trans ?_
    rw [v]
    exact pool_eq _ _ _ _ _ g hl hq
  · refine (e.v7 c).trans ?_
    rw [v]
    exact scales_eq _ _ _ _ _ g hl hq

end Cert.Equal

end
-- ==== Proof.RefRun.lean ====
/- The idealized reference's results, named. -/
module

public import proofs.«01_k».proof.Proof.Values
public import proofs.«01_k».proof.Proof.Gen.ReferenceIdeal.Run

@[expose] public section

set_option maxRecDepth 16384

noncomputable section

namespace Cert.ReferenceIdeal.Named

open Cert.ReferenceIdeal Cert.ReferenceIdeal.Gen
open Idealize.ShloMosaic Idealize.ShloMosaic.TcCoe Idealize.SL.Sem

/-- The reference ends with the named pools and scales of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v98) = Cert.ReferenceIdeal.Values.pool (m ((c.tc : Thread nD τ).loc main_arg5)) (m ((c.tc : Thread nD τ).loc main_arg4)) (m ((c.tc : Thread nD τ).loc main_arg0)) (m ((c.tc : Thread nD τ).loc main_arg2)) (m ((c.tc : Thread nD τ).loc main_arg6))
      ∧ r.2.mem ((c.tc : Thread nD τ).loc main_v106) = Cert.ReferenceIdeal.Values.poolScales (m ((c.tc : Thread nD τ).loc main_arg5)) (m ((c.tc : Thread nD τ).loc main_arg4)) (m ((c.tc : Thread nD τ).loc main_arg0)) (m ((c.tc : Thread nD τ).loc main_arg2)) (m ((c.tc : Thread nD τ).loc main_arg6))
      ∧ r.2.mem ((c.tc : Thread nD τ).loc main_v173) = Cert.ReferenceIdeal.Values.pool (m ((c.tc : Thread nD τ).loc main_arg5)) (m ((c.tc : Thread nD τ).loc main_arg4)) (m ((c.tc : Thread nD τ).loc main_arg1)) (m ((c.tc : Thread nD τ).loc main_arg3)) (m ((c.tc : Thread nD τ).loc main_arg7))
      ∧ r.2.mem ((c.tc : Thread nD τ).loc main_v181) = Cert.ReferenceIdeal.Values.poolScales (m ((c.tc : Thread nD τ).loc main_arg5)) (m ((c.tc : Thread nD τ).loc main_arg4)) (m ((c.tc : Thread nD τ).loc main_arg1)) (m ((c.tc : Thread nD τ).loc main_arg3)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨h1, h2, h3, h4, h⟩ := h c
    exact ⟨h1.trans rfl, h2.trans rfl, h3.trans rfl, h4.trans rfl, h⟩) (Cert.ReferenceIdeal.Value.run (F := Ideal) m ρ)

end Cert.ReferenceIdeal.Named

end
-- ==== Proof.lean ====
/- The certificate of the paged int8 key/value append: the program, its idealization and the reference run to
   the end with their arguments unchanged and their semaphores at zero, and over the extended reals the idealized
   program leaves the reference's pools and scales. The mathematics is in Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ends
public import proofs.«01_k».proof.Proof.IdealEnds
public import proofs.«01_k».proof.Proof.Equal
public import proofs.«01_k».proof.Proof.RefRun

@[expose] public section

noncomputable section

namespace Cert.Proof

open Idealize.ShloMosaic Idealize.ShloMosaic.TcCoe Idealize.SL.Sem

/-- The kernel, started on arguments in range, ends with its arguments unchanged and every semaphore at zero. -/
theorem frame_kernel : Cert.quiescent_Kernel := fun m ρ hp =>
  have h := Cert.Kernel.Ends.ok_of m hp
  (θ_run Cert.Kernel.defs _ _).mono (fun _ e => ⟨fun c => ⟨e.arg0 c, e.arg1 c, e.arg2 c, e.arg3 c, e.arg4 c, e.arg5 c, e.arg6 c, e.arg7 c⟩, e.sem⟩)
    (Cert.Kernel.Ends.run_end m ρ h)

/-- The same of the idealized kernel. -/
theorem frame_kernelIdeal : Cert.quiescent_KernelIdeal := fun m ρ hp =>
  have h := Cert.KernelIdeal.Ends.ok_of m hp
  (θ_run Cert.KernelIdeal.defs _ _).mono (fun _ e => ⟨fun c => ⟨e.arg0 c, e.arg1 c, e.arg2 c, e.arg3 c, e.arg4 c, e.arg5 c, e.arg6 c, e.arg7 c⟩, e.sem⟩)
    (Cert.KernelIdeal.Ends.run_end m ρ h)

/-- The idealized reference ends with its arguments unchanged; it has no semaphores. -/
theorem frame_referenceIdeal : Cert.quiescent_ReferenceIdeal := fun m ρ _ =>
  (θ_run Cert.ReferenceIdeal.defs _ _).mono (fun r h => ⟨fun c => by
      obtain ⟨_, _, _, _, h⟩ := h c
      exact h,
      Idealize.ShloMosaic.sem_eq_zero_of_no_sems (by decide) r.2⟩)
    (Cert.ReferenceIdeal.Value.run (F := Ideal) m ρ)

/-- On arguments in range the idealized kernel and the idealized reference leave the same four results: both
    pools and both tables of scales, equal as extended reals and as codes, element by element. -/
theorem algebraic : Cert.algebraic_KernelIdeal_ReferenceIdeal := fun m g m' g' hp ha => by
  have h := Cert.KernelIdeal.Ends.ok_of m hp
  refine ⟨_, _, _, _,
    (θ_run Cert.KernelIdeal.defs _ _).mono (fun r e c =>
      have s := Cert.Equal.same m hp h r e c
      ⟨s.keys, s.keyScales, s.values, s.valueScales, e.arg0 c, e.arg1 c, e.arg2 c, e.arg3 c, e.arg4 c, e.arg5 c, e.arg6 c, e.arg7 c⟩)
      (Cert.KernelIdeal.Ends.run_end m g h),
    (θ_run Cert.ReferenceIdeal.defs _ _).mono (fun r e c => ?_) (Cert.ReferenceIdeal.Named.run m' g')⟩
  obtain ⟨e1, e2, e3, e4, e⟩ := e c
  obtain ⟨a0, a1, a2, a3, a4, a5, a6, a7⟩ := ha c
  rw [a0, a2, a4, a5, a6] at e1 e2
  rw [a1, a3, a4, a5, a7] at e3 e4
  exact ⟨e1, e2, e3, e4, e⟩

theorem claim : Cert.Claim :=
  ⟨Cert.Kernel.Gen.facts, Cert.KernelIdeal.Gen.facts, Cert.ReferenceIdeal.Gen.facts, Cert.Range.facts,
    frame_kernel, frame_kernelIdeal, frame_referenceIdeal, fun m ρ _ => frame_referenceIdeal m ρ trivial, trivial, algebraic⟩

end Cert.Proof

end
